-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MlpA (m : (ℓ : Loc Cert.MlpA.nD Cert.MlpA.τ Cert.MlpA.sig) → Buf (Elt Bits) ℓ) : Prop :=
  True

def Pre_MlpAIdeal (m : (ℓ : Loc Cert.MlpAIdeal.nD Cert.MlpAIdeal.τ Cert.MlpAIdeal.sig) → Buf (Elt Ideal) ℓ) : Prop :=
  True

def Pre_MlpARefIdeal (m : (ℓ : Loc Cert.MlpARefIdeal.nD Cert.MlpARefIdeal.τ Cert.MlpARefIdeal.sig) → Buf (Elt Ideal) ℓ) : Prop :=
  True

def Pre_MlpB (m : (ℓ : Loc Cert.MlpB.nD Cert.MlpB.τ Cert.MlpB.sig) → Buf (Elt Bits) ℓ) : Prop :=
  True

def Pre_MlpBIdeal (m : (ℓ : Loc Cert.MlpBIdeal.nD Cert.MlpBIdeal.τ Cert.MlpBIdeal.sig) → Buf (Elt Ideal) ℓ) : Prop :=
  True

def Pre_MlpBIdeal_mlp1_finite [hPre_mlp1_finite : Cert.Pre_mlp1_finite.Facts] (m : (ℓ : Loc Cert.MlpBIdeal.nD Cert.MlpBIdeal.τ Cert.MlpBIdeal.sig) → Buf (Elt Ideal) ℓ) : Prop :=
  ∀ c : Dev Cert.MlpBIdeal.nD,
    (Cert.Pre_mlp1_finite.fn (F := Ideal) (m ((c.tc : Thread Cert.MlpBIdeal.nD Cert.MlpBIdeal.τ).loc Cert.MlpBIdeal.main_arg0)) (m ((c.tc : Thread Cert.MlpBIdeal.nD Cert.MlpBIdeal.τ).loc Cert.MlpBIdeal.main_arg1)) (m ((c.tc : Thread Cert.MlpBIdeal.nD Cert.MlpBIdeal.τ).loc Cert.MlpBIdeal.main_arg2)) (m ((c.tc : Thread Cert.MlpBIdeal.nD Cert.MlpBIdeal.τ).loc Cert.MlpBIdeal.main_arg3)) (m ((c.tc : Thread Cert.MlpBIdeal.nD Cert.MlpBIdeal.τ).loc Cert.MlpBIdeal.main_arg4)) (m ((c.tc : Thread Cert.MlpBIdeal.nD Cert.MlpBIdeal.τ).loc Cert.MlpBIdeal.main_arg5))) = (fun _ => 1#1)

def Pre_MlpBRefIdeal (m : (ℓ : Loc Cert.MlpBRefIdeal.nD Cert.MlpBRefIdeal.τ Cert.MlpBRefIdeal.sig) → Buf (Elt Ideal) ℓ) : Prop :=
  True

def Pre_MlpBRefIdeal_mlp1_finite [hPre_mlp1_finite : Cert.Pre_mlp1_finite.Facts] (m : (ℓ : Loc Cert.MlpBRefIdeal.nD Cert.MlpBRefIdeal.τ Cert.MlpBRefIdeal.sig) → Buf (Elt Ideal) ℓ) : Prop :=
  ∀ c : Dev Cert.MlpBRefIdeal.nD,
    (Cert.Pre_mlp1_finite.fn (F := Ideal) (m ((c.tc : Thread Cert.MlpBRefIdeal.nD Cert.MlpBRefIdeal.τ).loc Cert.MlpBRefIdeal.main_arg0)) (m ((c.tc : Thread Cert.MlpBRefIdeal.nD Cert.MlpBRefIdeal.τ).loc Cert.MlpBRefIdeal.main_arg1)) (m ((c.tc : Thread Cert.MlpBRefIdeal.nD Cert.MlpBRefIdeal.τ).loc Cert.MlpBRefIdeal.main_arg2)) (m ((c.tc : Thread Cert.MlpBRefIdeal.nD Cert.MlpBRefIdeal.τ).loc Cert.MlpBRefIdeal.main_arg3)) (m ((c.tc : Thread Cert.MlpBRefIdeal.nD Cert.MlpBRefIdeal.τ).loc Cert.MlpBRefIdeal.main_arg4)) (m ((c.tc : Thread Cert.MlpBRefIdeal.nD Cert.MlpBRefIdeal.τ).loc Cert.MlpBRefIdeal.main_arg5))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))) = (fun _ => 1#1)

def Pre_MlpF (m : (ℓ : Loc Cert.MlpF.nD Cert.MlpF.τ Cert.MlpF.sig) → Buf (Elt Bits) ℓ) : Prop :=
  True

def Pre_MlpFIdeal (m : (ℓ : Loc Cert.MlpFIdeal.nD Cert.MlpFIdeal.τ Cert.MlpFIdeal.sig) → Buf (Elt Ideal) ℓ) : Prop :=
  True

def Pre_MlpFRefIdeal (m : (ℓ : Loc Cert.MlpFRefIdeal.nD Cert.MlpFRefIdeal.τ Cert.MlpFRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11)
      ∧ r.2.mem ((c.tc : Thread Cert.MixBwd.nD Cert.MixBwd.τ).loc Cert.MixBwd.main_arg12) = m ((c.tc : Thread Cert.MixBwd.nD Cert.MixBwd.τ).loc Cert.MixBwd.main_arg12))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_MlpA [hMlpA : Cert.MlpA.Facts] : Prop :=
  ∀ (m : (ℓ : Loc Cert.MlpA.nD Cert.MlpA.τ Cert.MlpA.sig) → Buf (Elt Bits) ℓ) (g : Dev Cert.MlpA.nD → PrngReg), Pre_MlpA m →
    θ_run (Cert.MlpA.defs (F := Bits)) (onTc (τ := Cert.MlpA.τ) (Cert.MlpA.main (F := Bits))) ⟨m, fun _ => 0, g⟩ (fun r => (∀ c : Dev Cert.MlpA.nD,
      r.2.mem ((c.tc : Thread Cert.MlpA.nD Cert.MlpA.τ).loc Cert.MlpA.main_arg0) = m ((c.tc : Thread Cert.MlpA.nD Cert.MlpA.τ).loc Cert.MlpA.main_arg0)
      ∧ r.2.mem ((c.tc : Thread Cert.MlpA.nD Cert.MlpA.τ).loc Cert.MlpA.main_arg1) = m ((c.tc : Thread Cert.MlpA.nD Cert.MlpA.τ).loc Cert.MlpA.main_arg1)
      ∧ r.2.mem ((c.tc : Thread Cert.MlpA.nD Cert.MlpA.τ).loc Cert.MlpA.main_arg2) = m ((c.tc : Thread Cert.MlpA.nD Cert.MlpA.τ).loc Cert.MlpA.main_arg2)
      ∧ r.2.mem ((c.tc : Thread Cert.MlpA.nD Cert.MlpA.τ).loc Cert.MlpA.main_arg3) = m ((c.tc : Thread Cert.MlpA.nD Cert.MlpA.τ).loc Cert.MlpA.main_arg3)
      ∧ r.2.mem ((c.tc : Thread Cert.MlpA.nD Cert.MlpA.τ).loc Cert.MlpA.main_arg4) = m ((c.tc : Thread Cert.MlpA.nD Cert.MlpA.τ).loc Cert.MlpA.main_arg4))
      ∧ r.2.sem = fun _ => 0)

def quiescent_MlpAIdeal [hMlpAIdeal : Cert.MlpAIdeal.Facts] : Prop :=
  ∀ (m : (ℓ : Loc Cert.MlpAIdeal.nD Cert.MlpAIdeal.τ Cert.MlpAIdeal.sig) → Buf (Elt Ideal) ℓ) (g : Dev Cert.MlpAIdeal.nD → PrngReg), Pre_MlpAIdeal m →
    θ_run (Cert.MlpAIdeal.defs (F := Ideal)) (onTc (τ := Cert.MlpAIdeal.τ) (Cert.MlpAIdeal.main (F := Ideal))) ⟨m, fun _ => 0, g⟩ (fun r => (∀ c : Dev Cert.MlpAIdeal.nD,
      r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
      ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
      ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
      ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3)
      ∧ r.2.mem ((c.tc : Thread Cert.MlpAIdeal.nD Cert.MlpAIdeal.τ).loc Cert.MlpAIdeal.main_arg4) = m ((c.tc : Thread Cert.MlpAIdeal.nD Cert.MlpAIdeal.τ).loc Cert.MlpAIdeal.main_arg4))
      ∧ r.2.sem = fun _ => 0)

def quiescent_MlpARefIdeal [hMlpARefIdeal : Cert.MlpARefIdeal.Facts] : Prop :=
  ∀ (m : (ℓ : Loc Cert.MlpARefIdeal.nD Cert.MlpARefIdeal.τ Cert.MlpARefIdeal.sig) → Buf (Elt Ideal) ℓ) (g : Dev Cert.MlpARefIdeal.nD → PrngReg), Pre_MlpARefIdeal m →
    θ_run (Cert.MlpARefIdeal.defs (F := Ideal)) (onTc (τ := Cert.MlpARefIdeal.τ) (Cert.MlpARefIdeal.main (F := Ideal))) ⟨m, fun _ => 0, g⟩ (fun r => (∀ c : Dev Cert.MlpARefIdeal.nD,
      r.2.mem ((c.tc : Thread Cert.MlpARefIdeal.nD Cert.MlpARefIdeal.τ).loc Cert.MlpARefIdeal.main_arg0) = m ((c.tc : Thread Cert.MlpARefIdeal.nD Cert.MlpARefIdeal.τ).loc Cert.MlpARefIdeal.main_arg0)
      ∧ r.2.mem ((c.tc : Thread Cert.MlpARefIdeal.nD Cert.MlpARefIdeal.τ).loc Cert.MlpARefIdeal.main_arg1) = m ((c.tc : Thread Cert.MlpARefIdeal.nD Cert.MlpARefIdeal.τ).loc Cert.MlpARefIdeal.main_arg1)
      ∧ r.2.mem ((c.tc : Thread Cert.MlpARefIdeal.nD Cert.MlpARefIdeal.τ).loc Cert.MlpARefIdeal.main_arg2) = m ((c.tc : Thread Cert.MlpARefIdeal.nD Cert.MlpARefIdeal.τ).loc Cert.MlpARefIdeal.main_arg2)
      ∧ r.2.mem ((c.tc : Thread Cert.MlpARefIdeal.nD Cert.MlpARefIdeal.τ).loc Cert.MlpARefIdeal.main_arg3) = m ((c.tc : Thread Cert.MlpARefIdeal.nD Cert.MlpARefIdeal.τ).loc Cert.MlpARefIdeal.main_arg3)
      ∧ r.2.mem ((c.tc : Thread Cert.MlpARefIdeal.nD Cert.MlpARefIdeal.τ).loc Cert.MlpARefIdeal.main_arg4) = m ((c.tc : Thread Cert.MlpARefIdeal.nD Cert.MlpARefIdeal.τ).loc Cert.MlpARefIdeal.main_arg4))
      ∧ r.2.sem = fun _ => 0)

def quiescent_MlpB [hMlpB : Cert.MlpB.Facts] : Prop :=
  ∀ (m : (ℓ : Loc Cert.MlpB.nD Cert.MlpB.τ Cert.MlpB.sig) → Buf (Elt Bits) ℓ) (g : Dev Cert.MlpB.nD → PrngReg), Pre_MlpB m →
    θ_run (Cert.MlpB.defs (F := Bits)) (onTc (τ := Cert.MlpB.τ) (Cert.MlpB.main (F := Bits))) ⟨m, fun _ => 0, g⟩ (fun r => (∀ c : Dev Cert.MlpB.nD,
      r.2.mem ((c.tc : Thread Cert.MlpB.nD Cert.MlpB.τ).loc Cert.MlpB.main_arg0) = m ((c.tc : Thread Cert.MlpB.nD Cert.MlpB.τ).loc Cert.MlpB.main_arg0)
      ∧ r.2.mem ((c.tc : Thread Cert.MlpB.nD Cert.MlpB.τ).loc Cert.MlpB.main_arg1) = m ((c.tc : Thread Cert.MlpB.nD Cert.MlpB.τ).loc Cert.MlpB.main_arg1)
      ∧ r.2.mem ((c.tc : Thread Cert.MlpB.nD Cert.MlpB.τ).loc Cert.MlpB.main_arg2) = m ((c.tc : Thread Cert.MlpB.nD Cert.MlpB.τ).loc Cert.MlpB.main_arg2)
      ∧ r.2.mem ((c.tc : Thread Cert.MlpB.nD Cert.MlpB.τ).loc Cert.MlpB.main_arg3) = m ((c.tc : Thread Cert.MlpB.nD Cert.MlpB.τ).loc Cert.MlpB.main_arg3)
      ∧ r.2.mem ((c.tc : Thread Cert.MlpB.nD Cert.MlpB.τ).loc Cert.MlpB.main_arg4) = m ((c.tc : Thread Cert.MlpB.nD Cert.MlpB.τ).loc Cert.MlpB.main_arg4)
      ∧ r.2.mem ((c.tc : Thread Cert.MlpB.nD Cert.MlpB.τ).loc Cert.MlpB.main_arg5) = m ((c.tc : Thread Cert.MlpB.nD Cert.MlpB.τ).loc Cert.MlpB.main_arg5))
      ∧ r.2.sem = fun _ => 0)

def quiescent_MlpBIdeal [hMlpBIdeal : Cert.MlpBIdeal.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4)
      ∧ r.2.mem ((c.tc : Thread Cert.MlpBIdeal.nD Cert.MlpBIdeal.τ).loc Cert.MlpBIdeal.main_arg5) = m ((c.tc : Thread Cert.MlpBIdeal.nD Cert.MlpBIdeal.τ).loc Cert.MlpBIdeal.main_arg5))
      ∧ r.2.sem = fun _ => 0)

def quiescent_MlpBIdeal_pre_mlp1_finite [hMlpBIdeal : Cert.MlpBIdeal.Facts] [hPre_mlp1_finite : Cert.Pre_mlp1_finite.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal_mlp1_finite m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4)
      ∧ r.2.mem ((c.tc : Thread Cert.MlpBIdeal.nD Cert.MlpBIdeal.τ).loc Cert.MlpBIdeal.main_arg5) = m ((c.tc : Thread Cert.MlpBIdeal.nD Cert.MlpBIdeal.τ).loc Cert.MlpBIdeal.main_arg5))
      ∧ r.2.sem = fun _ => 0)

def quiescent_MlpBRefIdeal [hMlpBRefIdeal : Cert.MlpBRefIdeal.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4)
      ∧ r.2.mem ((c.tc : Thread Cert.MlpBRefIdeal.nD Cert.MlpBRefIdeal.τ).loc Cert.MlpBRefIdeal.main_arg5) = m ((c.tc : Thread Cert.MlpBRefIdeal.nD Cert.MlpBRefIdeal.τ).loc Cert.MlpBRefIdeal.main_arg5))
      ∧ r.2.sem = fun _ => 0)

def quiescent_MlpBRefIdeal_pre_mlp1_finite [hMlpBRefIdeal : Cert.MlpBRefIdeal.Facts] [hPre_mlp1_finite : Cert.Pre_mlp1_finite.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal_mlp1_finite m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4)
      ∧ r.2.mem ((c.tc : Thread Cert.MlpBRefIdeal.nD Cert.MlpBRefIdeal.τ).loc Cert.MlpBRefIdeal.main_arg5) = m ((c.tc : Thread Cert.MlpBRefIdeal.nD Cert.MlpBRefIdeal.τ).loc Cert.MlpBRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_MlpF [hMlpF : Cert.MlpF.Facts] : Prop :=
  ∀ (m : (ℓ : Loc Cert.MlpF.nD Cert.MlpF.τ Cert.MlpF.sig) → Buf (Elt Bits) ℓ) (g : Dev Cert.MlpF.nD → PrngReg), Pre_MlpF m →
    θ_run (Cert.MlpF.defs (F := Bits)) (onTc (τ := Cert.MlpF.τ) (Cert.MlpF.main (F := Bits))) ⟨m, fun _ => 0, g⟩ (fun r => (∀ c : Dev Cert.MlpF.nD,
      r.2.mem ((c.tc : Thread Cert.MlpF.nD Cert.MlpF.τ).loc Cert.MlpF.main_arg0) = m ((c.tc : Thread Cert.MlpF.nD Cert.MlpF.τ).loc Cert.MlpF.main_arg0)
      ∧ r.2.mem ((c.tc : Thread Cert.MlpF.nD Cert.MlpF.τ).loc Cert.MlpF.main_arg1) = m ((c.tc : Thread Cert.MlpF.nD Cert.MlpF.τ).loc Cert.MlpF.main_arg1)
      ∧ r.2.mem ((c.tc : Thread Cert.MlpF.nD Cert.MlpF.τ).loc Cert.MlpF.main_arg2) = m ((c.tc : Thread Cert.MlpF.nD Cert.MlpF.τ).loc Cert.MlpF.main_arg2)
      ∧ r.2.mem ((c.tc : Thread Cert.MlpF.nD Cert.MlpF.τ).loc Cert.MlpF.main_arg3) = m ((c.tc : Thread Cert.MlpF.nD Cert.MlpF.τ).loc Cert.MlpF.main_arg3))
      ∧ r.2.sem = fun _ => 0)

def quiescent_MlpFIdeal [hMlpFIdeal : Cert.MlpFIdeal.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3))
      ∧ r.2.sem = fun _ => 0)

def quiescent_MlpFRefIdeal [hMlpFRefIdeal : Cert.MlpFRefIdeal.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3))
      ∧ r.2.sem = fun _ => 0)

def preserves_InBwd_InBwdIdeal : Prop :=
  True

def algebraic_InBwdIdeal_InRefIdeal_pre_in_finite [hInBwdIdeal : Cert.InBwdIdeal.Facts] [hInRefIdeal : Cert.InRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_in_finite m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v3_0)) (v1 : (c : Dev Cert.InBwdIdeal.nD) → Buf (Elt Ideal) ((c.tc : Thread Cert.InBwdIdeal.nD Cert.InBwdIdeal.τ).loc Cert.InBwdIdeal.main_v3_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3_0) = v0 c
          ∧ r.2.mem ((c.tc : Thread Cert.InBwdIdeal.nD Cert.InBwdIdeal.τ).loc Cert.InBwdIdeal.main_v3_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v41) = v0 c
          ∧ r.2.mem ((c.tc : Thread Cert.InRefIdeal.nD Cert.InRefIdeal.τ).loc Cert.InRefIdeal.main_v44) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)
      ∧ m' ((c.tc : Thread Cert.MixRefIdeal.nD Cert.MixRefIdeal.τ).loc Cert.MixRefIdeal.main_arg8) = m ((c.tc : Thread Cert.MixBwdIdeal.nD Cert.MixBwdIdeal.τ).loc Cert.MixBwdIdeal.main_arg8)
      ∧ m' ((c.tc : Thread Cert.MixRefIdeal.nD Cert.MixRefIdeal.τ).loc Cert.MixRefIdeal.main_arg9) = m ((c.tc : Thread Cert.MixBwdIdeal.nD Cert.MixBwdIdeal.τ).loc Cert.MixBwdIdeal.main_arg9)
      ∧ m' ((c.tc : Thread Cert.MixRefIdeal.nD Cert.MixRefIdeal.τ).loc Cert.MixRefIdeal.main_arg10) = m ((c.tc : Thread Cert.MixBwdIdeal.nD Cert.MixBwdIdeal.τ).loc Cert.MixBwdIdeal.main_arg10)
      ∧ m' ((c.tc : Thread Cert.MixRefIdeal.nD Cert.MixRefIdeal.τ).loc Cert.MixRefIdeal.main_arg11) = m ((c.tc : Thread Cert.MixBwdIdeal.nD Cert.MixBwdIdeal.τ).loc Cert.MixBwdIdeal.main_arg11)
      ∧ m' ((c.tc : Thread Cert.MixRefIdeal.nD Cert.MixRefIdeal.τ).loc Cert.MixRefIdeal.main_arg12) = m ((c.tc : Thread Cert.MixBwdIdeal.nD Cert.MixBwdIdeal.τ).loc Cert.MixBwdIdeal.main_arg12)) →
    ∃ (v0 : (c : Dev Cert.MixBwdIdeal.nD) → Buf (Elt Ideal) ((c.tc : Thread Cert.MixBwdIdeal.nD Cert.MixBwdIdeal.τ).loc Cert.MixBwdIdeal.main_v582)) (v1 : (c : Dev Cert.MixBwdIdeal.nD) → Buf (Elt Ideal) ((c.tc : Thread Cert.MixBwdIdeal.nD Cert.MixBwdIdeal.τ).loc Cert.MixBwdIdeal.main_v581_2)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v582) = v0 c
          ∧ r.2.mem ((c.tc : Thread Cert.MixBwdIdeal.nD Cert.MixBwdIdeal.τ).loc Cert.MixBwdIdeal.main_v581_2) = v1 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
          ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
          ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v524) = v0 c
          ∧ r.2.mem ((c.tc : Thread Cert.MixRefIdeal.nD Cert.MixRefIdeal.τ).loc Cert.MixRefIdeal.main_v525) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_MlpA_MlpAIdeal : Prop :=
  True

def algebraic_MlpAIdeal_MlpARefIdeal [hMlpAIdeal : Cert.MlpAIdeal.Facts] [hMlpARefIdeal : Cert.MlpARefIdeal.Facts] : Prop :=
  ∀ (m : (ℓ : Loc Cert.MlpAIdeal.nD Cert.MlpAIdeal.τ Cert.MlpAIdeal.sig) → Buf (Elt Ideal) ℓ) (g : Dev Cert.MlpAIdeal.nD → PrngReg)
    (m' : (ℓ : Loc Cert.MlpARefIdeal.nD Cert.MlpARefIdeal.τ Cert.MlpARefIdeal.sig) → Buf (Elt Ideal) ℓ) (g' : Dev Cert.MlpARefIdeal.nD → PrngReg), Pre_MlpAIdeal m →
    (∀ c : Dev Cert.MlpAIdeal.nD,
      m' ((c.tc : Thread Cert.MlpARefIdeal.nD Cert.MlpARefIdeal.τ).loc Cert.MlpARefIdeal.main_arg0) = m ((c.tc : Thread Cert.MlpAIdeal.nD Cert.MlpAIdeal.τ).loc Cert.MlpAIdeal.main_arg0)
      ∧ m' ((c.tc : Thread Cert.MlpARefIdeal.nD Cert.MlpARefIdeal.τ).loc Cert.MlpARefIdeal.main_arg1) = m ((c.tc : Thread Cert.MlpAIdeal.nD Cert.MlpAIdeal.τ).loc Cert.MlpAIdeal.main_arg1)
      ∧ m' ((c.tc : Thread Cert.MlpARefIdeal.nD Cert.MlpARefIdeal.τ).loc Cert.MlpARefIdeal.main_arg2) = m ((c.tc : Thread Cert.MlpAIdeal.nD Cert.MlpAIdeal.τ).loc Cert.MlpAIdeal.main_arg2)
      ∧ m' ((c.tc : Thread Cert.MlpARefIdeal.nD Cert.MlpARefIdeal.τ).loc Cert.MlpARefIdeal.main_arg3) = m ((c.tc : Thread Cert.MlpAIdeal.nD Cert.MlpAIdeal.τ).loc Cert.MlpAIdeal.main_arg3)
      ∧ m' ((c.tc : Thread Cert.MlpARefIdeal.nD Cert.MlpARefIdeal.τ).loc Cert.MlpARefIdeal.main_arg4) = m ((c.tc : Thread Cert.MlpAIdeal.nD Cert.MlpAIdeal.τ).loc Cert.MlpAIdeal.main_arg4)) →
    ∃ (v0 : (c : Dev Cert.MlpAIdeal.nD) → Buf (Elt Ideal) ((c.tc : Thread Cert.MlpAIdeal.nD Cert.MlpAIdeal.τ).loc Cert.MlpAIdeal.main_v24_0)) (v1 : (c : Dev Cert.MlpAIdeal.nD) → Buf (Elt Ideal) ((c.tc : Thread Cert.MlpAIdeal.nD Cert.MlpAIdeal.τ).loc Cert.MlpAIdeal.main_v24_1)) (v2 : (c : Dev Cert.MlpAIdeal.nD) → Buf (Elt Ideal) ((c.tc : Thread Cert.MlpAIdeal.nD Cert.MlpAIdeal.τ).loc Cert.MlpAIdeal.main_v24_2)),
      θ_run (Cert.MlpAIdeal.defs (F := Ideal)) (onTc (τ := Cert.MlpAIdeal.τ) (Cert.MlpAIdeal.main (F := Ideal))) ⟨m, fun _ => 0, g⟩ (fun r => ∀ c : Dev Cert.MlpAIdeal.nD,
          r.2.mem ((c.tc : Thread Cert.MlpAIdeal.nD Cert.MlpAIdeal.τ).loc Cert.MlpAIdeal.main_v24_0) = v0 c
          ∧ r.2.mem ((c.tc : Thread Cert.MlpAIdeal.nD Cert.MlpAIdeal.τ).loc Cert.MlpAIdeal.main_v24_1) = v1 c
          ∧ r.2.mem ((c.tc : Thread Cert.MlpAIdeal.nD Cert.MlpAIdeal.τ).loc Cert.MlpAIdeal.main_v24_2) = v2 c
          ∧ r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
          ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
          ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
          ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3)
          ∧ r.2.mem ((c.tc : Thread Cert.MlpAIdeal.nD Cert.MlpAIdeal.τ).loc Cert.MlpAIdeal.main_arg4) = m ((c.tc : Thread Cert.MlpAIdeal.nD Cert.MlpAIdeal.τ).loc Cert.MlpAIdeal.main_arg4))
      ∧ θ_run (Cert.MlpARefIdeal.defs (F := Ideal)) (onTc (τ := Cert.MlpARefIdeal.τ) (Cert.MlpARefIdeal.main (F := Ideal))) ⟨m', fun _ => 0, g'⟩ (fun r => ∀ c : Dev Cert.MlpARefIdeal.nD,
          r.2.mem ((c.tc : Thread Cert.MlpARefIdeal.nD Cert.MlpARefIdeal.τ).loc Cert.MlpARefIdeal.main_v35) = v0 c
          ∧ r.2.mem ((c.tc : Thread Cert.MlpARefIdeal.nD Cert.MlpARefIdeal.τ).loc Cert.MlpARefIdeal.main_v38) = v1 c
          ∧ r.2.mem ((c.tc : Thread Cert.MlpARefIdeal.nD Cert.MlpARefIdeal.τ).loc Cert.MlpARefIdeal.main_v40) = v2 c
          ∧ r.2.mem ((c.tc : Thread Cert.MlpARefIdeal.nD Cert.MlpARefIdeal.τ).loc Cert.MlpARefIdeal.main_arg0) = m' ((c.tc : Thread Cert.MlpARefIdeal.nD Cert.MlpARefIdeal.τ).loc Cert.MlpARefIdeal.main_arg0)
          ∧ r.2.mem ((c.tc : Thread Cert.MlpARefIdeal.nD Cert.MlpARefIdeal.τ).loc Cert.MlpARefIdeal.main_arg1) = m' ((c.tc : Thread Cert.MlpARefIdeal.nD Cert.MlpARefIdeal.τ).loc Cert.MlpARefIdeal.main_arg1)
          ∧ r.2.mem ((c.tc : Thread Cert.MlpARefIdeal.nD Cert.MlpARefIdeal.τ).loc Cert.MlpARefIdeal.main_arg2) = m' ((c.tc : Thread Cert.MlpARefIdeal.nD Cert.MlpARefIdeal.τ).loc Cert.MlpARefIdeal.main_arg2)
          ∧ r.2.mem ((c.tc : Thread Cert.MlpARefIdeal.nD Cert.MlpARefIdeal.τ).loc Cert.MlpARefIdeal.main_arg3) = m' ((c.tc : Thread Cert.MlpARefIdeal.nD Cert.MlpARefIdeal.τ).loc Cert.MlpARefIdeal.main_arg3)
          ∧ r.2.mem ((c.tc : Thread Cert.MlpARefIdeal.nD Cert.MlpARefIdeal.τ).loc Cert.MlpARefIdeal.main_arg4) = m' ((c.tc : Thread Cert.MlpARefIdeal.nD Cert.MlpARefIdeal.τ).loc Cert.MlpARefIdeal.main_arg4))

def preserves_MlpB_MlpBIdeal : Prop :=
  True

def algebraic_MlpBIdeal_MlpBRefIdeal_pre_mlp1_finite [hMlpBIdeal : Cert.MlpBIdeal.Facts] [hMlpBRefIdeal : Cert.MlpBRefIdeal.Facts] [hPre_mlp1_finite : Cert.Pre_mlp1_finite.Facts] : Prop :=
  ∀ (m : (ℓ : Loc Cert.MlpBIdeal.nD Cert.MlpBIdeal.τ Cert.MlpBIdeal.sig) → Buf (Elt Ideal) ℓ) (g : Dev Cert.MlpBIdeal.nD → PrngReg)
    (m' : (ℓ : Loc Cert.MlpBRefIdeal.nD Cert.MlpBRefIdeal.τ Cert.MlpBRefIdeal.sig) → Buf (Elt Ideal) ℓ) (g' : Dev Cert.MlpBRefIdeal.nD → PrngReg), Pre_MlpBIdeal_mlp1_finite m →
    (∀ c : Dev Cert.MlpBIdeal.nD,
      m' ((c.tc : Thread Cert.MlpBRefIdeal.nD Cert.MlpBRefIdeal.τ).loc Cert.MlpBRefIdeal.main_arg0) = m ((c.tc : Thread Cert.MlpBIdeal.nD Cert.MlpBIdeal.τ).loc Cert.MlpBIdeal.main_arg0)
      ∧ m' ((c.tc : Thread Cert.MlpBRefIdeal.nD Cert.MlpBRefIdeal.τ).loc Cert.MlpBRefIdeal.main_arg1) = m ((c.tc : Thread Cert.MlpBIdeal.nD Cert.MlpBIdeal.τ).loc Cert.MlpBIdeal.main_arg1)
      ∧ m' ((c.tc : Thread Cert.MlpBRefIdeal.nD Cert.MlpBRefIdeal.τ).loc Cert.MlpBRefIdeal.main_arg2) = m ((c.tc : Thread Cert.MlpBIdeal.nD Cert.MlpBIdeal.τ).loc Cert.MlpBIdeal.main_arg2)
      ∧ m' ((c.tc : Thread Cert.MlpBRefIdeal.nD Cert.MlpBRefIdeal.τ).loc Cert.MlpBRefIdeal.main_arg3) = m ((c.tc : Thread Cert.MlpBIdeal.nD Cert.MlpBIdeal.τ).loc Cert.MlpBIdeal.main_arg3)
      ∧ m' ((c.tc : Thread Cert.MlpBRefIdeal.nD Cert.MlpBRefIdeal.τ).loc Cert.MlpBRefIdeal.main_arg4) = m ((c.tc : Thread Cert.MlpBIdeal.nD Cert.MlpBIdeal.τ).loc Cert.MlpBIdeal.main_arg4)
      ∧ m' ((c.tc : Thread Cert.MlpBRefIdeal.nD Cert.MlpBRefIdeal.τ).loc Cert.MlpBRefIdeal.main_arg5) = m ((c.tc : Thread Cert.MlpBIdeal.nD Cert.MlpBIdeal.τ).loc Cert.MlpBIdeal.main_arg5)) →
    ∃ (v0 : (c : Dev Cert.MlpBIdeal.nD) → Buf (Elt Ideal) ((c.tc : Thread Cert.MlpBIdeal.nD Cert.MlpBIdeal.τ).loc Cert.MlpBIdeal.main_v24_0)) (v1 : (c : Dev Cert.MlpBIdeal.nD) → Buf (Elt Ideal) ((c.tc : Thread Cert.MlpBIdeal.nD Cert.MlpBIdeal.τ).loc Cert.MlpBIdeal.main_v24_1)) (v2 : (c : Dev Cert.MlpBIdeal.nD) → Buf (Elt Ideal) ((c.tc : Thread Cert.MlpBIdeal.nD Cert.MlpBIdeal.τ).loc Cert.MlpBIdeal.main_v24_2)) (v3 : (c : Dev Cert.MlpBIdeal.nD) → Buf (Elt Ideal) ((c.tc : Thread Cert.MlpBIdeal.nD Cert.MlpBIdeal.τ).loc Cert.MlpBIdeal.main_v24_3)),
      θ_run (Cert.MlpBIdeal.defs (F := Ideal)) (onTc (τ := Cert.MlpBIdeal.τ) (Cert.MlpBIdeal.main (F := Ideal))) ⟨m, fun _ => 0, g⟩ (fun r => ∀ c : Dev Cert.MlpBIdeal.nD,
          r.2.mem ((c.tc : Thread Cert.MlpBIdeal.nD Cert.MlpBIdeal.τ).loc Cert.MlpBIdeal.main_v24_0) = v0 c
          ∧ r.2.mem ((c.tc : Thread Cert.MlpBIdeal.nD Cert.MlpBIdeal.τ).loc Cert.MlpBIdeal.main_v24_1) = v1 c
          ∧ r.2.mem ((c.tc : Thread Cert.MlpBIdeal.nD Cert.MlpBIdeal.τ).loc Cert.MlpBIdeal.main_v24_2) = v2 c
          ∧ r.2.mem ((c.tc : Thread Cert.MlpBIdeal.nD Cert.MlpBIdeal.τ).loc Cert.MlpBIdeal.main_v24_3) = v3 c
          ∧ r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
          ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
          ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
          ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
          ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4)
          ∧ r.2.mem ((c.tc : Thread Cert.MlpBIdeal.nD Cert.MlpBIdeal.τ).loc Cert.MlpBIdeal.main_arg5) = m ((c.tc : Thread Cert.MlpBIdeal.nD Cert.MlpBIdeal.τ).loc Cert.MlpBIdeal.main_arg5))
      ∧ θ_run (Cert.MlpBRefIdeal.defs (F := Ideal)) (onTc (τ := Cert.MlpBRefIdeal.τ) (Cert.MlpBRefIdeal.main (F := Ideal))) ⟨m', fun _ => 0, g'⟩ (fun r => ∀ c : Dev Cert.MlpBRefIdeal.nD,
          r.2.mem ((c.tc : Thread Cert.MlpBRefIdeal.nD Cert.MlpBRefIdeal.τ).loc Cert.MlpBRefIdeal.main_v62) = v0 c
          ∧ r.2.mem ((c.tc : Thread Cert.MlpBRefIdeal.nD Cert.MlpBRefIdeal.τ).loc Cert.MlpBRefIdeal.main_v65) = v1 c
          ∧ r.2.mem ((c.tc : Thread Cert.MlpBRefIdeal.nD Cert.MlpBRefIdeal.τ).loc Cert.MlpBRefIdeal.main_v68) = v2 c
          ∧ r.2.mem ((c.tc : Thread Cert.MlpBRefIdeal.nD Cert.MlpBRefIdeal.τ).loc Cert.MlpBRefIdeal.main_v70) = v3 c
          ∧ r.2.mem ((c.tc : Thread Cert.MlpBRefIdeal.nD Cert.MlpBRefIdeal.τ).loc Cert.MlpBRefIdeal.main_arg0) = m' ((c.tc : Thread Cert.MlpBRefIdeal.nD Cert.MlpBRefIdeal.τ).loc Cert.MlpBRefIdeal.main_arg0)
          ∧ r.2.mem ((c.tc : Thread Cert.MlpBRefIdeal.nD Cert.MlpBRefIdeal.τ).loc Cert.MlpBRefIdeal.main_arg1) = m' ((c.tc : Thread Cert.MlpBRefIdeal.nD Cert.MlpBRefIdeal.τ).loc Cert.MlpBRefIdeal.main_arg1)
          ∧ r.2.mem ((c.tc : Thread Cert.MlpBRefIdeal.nD Cert.MlpBRefIdeal.τ).loc Cert.MlpBRefIdeal.main_arg2) = m' ((c.tc : Thread Cert.MlpBRefIdeal.nD Cert.MlpBRefIdeal.τ).loc Cert.MlpBRefIdeal.main_arg2)
          ∧ r.2.mem ((c.tc : Thread Cert.MlpBRefIdeal.nD Cert.MlpBRefIdeal.τ).loc Cert.MlpBRefIdeal.main_arg3) = m' ((c.tc : Thread Cert.MlpBRefIdeal.nD Cert.MlpBRefIdeal.τ).loc Cert.MlpBRefIdeal.main_arg3)
          ∧ r.2.mem ((c.tc : Thread Cert.MlpBRefIdeal.nD Cert.MlpBRefIdeal.τ).loc Cert.MlpBRefIdeal.main_arg4) = m' ((c.tc : Thread Cert.MlpBRefIdeal.nD Cert.MlpBRefIdeal.τ).loc Cert.MlpBRefIdeal.main_arg4)
          ∧ r.2.mem ((c.tc : Thread Cert.MlpBRefIdeal.nD Cert.MlpBRefIdeal.τ).loc Cert.MlpBRefIdeal.main_arg5) = m' ((c.tc : Thread Cert.MlpBRefIdeal.nD Cert.MlpBRefIdeal.τ).loc Cert.MlpBRefIdeal.main_arg5))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v7_0)) (v1 : (c : Dev Cert.PleIdeal.nD) → Buf (Elt Ideal) ((c.tc : Thread Cert.PleIdeal.nD Cert.PleIdeal.τ).loc Cert.PleIdeal.main_v7_1)) (v2 : (c : Dev Cert.PleIdeal.nD) → Buf (Elt Ideal) ((c.tc : Thread Cert.PleIdeal.nD Cert.PleIdeal.τ).loc Cert.PleIdeal.main_v7_2)) (v3 : (c : Dev Cert.PleIdeal.nD) → Buf (Elt Ideal) ((c.tc : Thread Cert.PleIdeal.nD Cert.PleIdeal.τ).loc Cert.PleIdeal.main_v7_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v7_0) = v0 c
          ∧ r.2.mem ((c.tc : Thread Cert.PleIdeal.nD Cert.PleIdeal.τ).loc Cert.PleIdeal.main_v7_1) = v1 c
          ∧ r.2.mem ((c.tc : Thread Cert.PleIdeal.nD Cert.PleIdeal.τ).loc Cert.PleIdeal.main_v7_2) = v2 c
          ∧ r.2.mem ((c.tc : Thread Cert.PleIdeal.nD Cert.PleIdeal.τ).loc Cert.PleIdeal.main_v7_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v123) = v0 c
          ∧ r.2.mem ((c.tc : Thread Cert.PleRefIdeal.nD Cert.PleRefIdeal.τ).loc Cert.PleRefIdeal.main_v128) = v1 c
          ∧ r.2.mem ((c.tc : Thread Cert.PleRefIdeal.nD Cert.PleRefIdeal.τ).loc Cert.PleRefIdeal.main_v130) = v2 c
          ∧ r.2.mem ((c.tc : Thread Cert.PleRefIdeal.nD Cert.PleRefIdeal.τ).loc Cert.PleRefIdeal.main_v132) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_MlpF_MlpFIdeal : Prop :=
  True

def algebraic_MlpFIdeal_MlpFRefIdeal [hMlpFIdeal : Cert.MlpFIdeal.Facts] [hMlpFRefIdeal : Cert.MlpFRefIdeal.Facts] : Prop :=
  ∀ (m : (ℓ : Loc Cert.MlpFIdeal.nD Cert.MlpFIdeal.τ Cert.MlpFIdeal.sig) → Buf (Elt Ideal) ℓ) (g : Dev Cert.MlpFIdeal.nD → PrngReg)
    (m' : (ℓ : Loc Cert.MlpFRefIdeal.nD Cert.MlpFRefIdeal.τ Cert.MlpFRefIdeal.sig) → Buf (Elt Ideal) ℓ) (g' : Dev Cert.MlpFRefIdeal.nD → PrngReg), Pre_MlpFIdeal m →
    (∀ c : Dev Cert.MlpFIdeal.nD,
      m' ((c.tc : Thread Cert.MlpFRefIdeal.nD Cert.MlpFRefIdeal.τ).loc Cert.MlpFRefIdeal.main_arg0) = m ((c.tc : Thread Cert.MlpFIdeal.nD Cert.MlpFIdeal.τ).loc Cert.MlpFIdeal.main_arg0)
      ∧ m' ((c.tc : Thread Cert.MlpFRefIdeal.nD Cert.MlpFRefIdeal.τ).loc Cert.MlpFRefIdeal.main_arg1) = m ((c.tc : Thread Cert.MlpFIdeal.nD Cert.MlpFIdeal.τ).loc Cert.MlpFIdeal.main_arg1)
      ∧ m' ((c.tc : Thread Cert.MlpFRefIdeal.nD Cert.MlpFRefIdeal.τ).loc Cert.MlpFRefIdeal.main_arg2) = m ((c.tc : Thread Cert.MlpFIdeal.nD Cert.MlpFIdeal.τ).loc Cert.MlpFIdeal.main_arg2)
      ∧ m' ((c.tc : Thread Cert.MlpFRefIdeal.nD Cert.MlpFRefIdeal.τ).loc Cert.MlpFRefIdeal.main_arg3) = m ((c.tc : Thread Cert.MlpFIdeal.nD Cert.MlpFIdeal.τ).loc Cert.MlpFIdeal.main_arg3)) →
    ∃ (v0 : (c : Dev Cert.MlpFIdeal.nD) → Buf (Elt Ideal) ((c.tc : Thread Cert.MlpFIdeal.nD Cert.MlpFIdeal.τ).loc Cert.MlpFIdeal.main_v6_0)) (v1 : (c : Dev Cert.MlpFIdeal.nD) → Buf (Elt Ideal) ((c.tc : Thread Cert.MlpFIdeal.nD Cert.MlpFIdeal.τ).loc Cert.MlpFIdeal.main_v6_1)) (v2 : (c : Dev Cert.MlpFIdeal.nD) → Buf (Elt Ideal) ((c.tc : Thread Cert.MlpFIdeal.nD Cert.MlpFIdeal.τ).loc Cert.MlpFIdeal.main_v6_2)),
      θ_run (Cert.MlpFIdeal.defs (F := Ideal)) (onTc (τ := Cert.MlpFIdeal.τ) (Cert.MlpFIdeal.main (F := Ideal))) ⟨m, fun _ => 0, g⟩ (fun r => ∀ c : Dev Cert.MlpFIdeal.nD,
          r.2.mem ((c.tc : Thread Cert.MlpFIdeal.nD Cert.MlpFIdeal.τ).loc Cert.MlpFIdeal.main_v6_0) = v0 c
          ∧ r.2.mem ((c.tc : Thread Cert.MlpFIdeal.nD Cert.MlpFIdeal.τ).loc Cert.MlpFIdeal.main_v6_1) = v1 c
          ∧ r.2.mem ((c.tc : Thread Cert.MlpFIdeal.nD Cert.MlpFIdeal.τ).loc Cert.MlpFIdeal.main_v6_2) = v2 c
          ∧ r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
          ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
          ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
          ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3))
      ∧ θ_run (Cert.MlpFRefIdeal.defs (F := Ideal)) (onTc (τ := Cert.MlpFRefIdeal.τ) (Cert.MlpFRefIdeal.main (F := Ideal))) ⟨m', fun _ => 0, g'⟩ (fun r => ∀ c : Dev Cert.MlpFRefIdeal.nD,
          r.2.mem ((c.tc : Thread Cert.MlpFRefIdeal.nD Cert.MlpFRefIdeal.τ).loc Cert.MlpFRefIdeal.main_v20) = v0 c
          ∧ r.2.mem ((c.tc : Thread Cert.MlpFRefIdeal.nD Cert.MlpFRefIdeal.τ).loc Cert.MlpFRefIdeal.main_v21) = v1 c
          ∧ r.2.mem ((c.tc : Thread Cert.MlpFRefIdeal.nD Cert.MlpFRefIdeal.τ).loc Cert.MlpFRefIdeal.main_v24) = v2 c
          ∧ r.2.mem ((c.tc : Thread Cert.MlpFRefIdeal.nD Cert.MlpFRefIdeal.τ).loc Cert.MlpFRefIdeal.main_arg0) = m' ((c.tc : Thread Cert.MlpFRefIdeal.nD Cert.MlpFRefIdeal.τ).loc Cert.MlpFRefIdeal.main_arg0)
          ∧ r.2.mem ((c.tc : Thread Cert.MlpFRefIdeal.nD Cert.MlpFRefIdeal.τ).loc Cert.MlpFRefIdeal.main_arg1) = m' ((c.tc : Thread Cert.MlpFRefIdeal.nD Cert.MlpFRefIdeal.τ).loc Cert.MlpFRefIdeal.main_arg1)
          ∧ r.2.mem ((c.tc : Thread Cert.MlpFRefIdeal.nD Cert.MlpFRefIdeal.τ).loc Cert.MlpFRefIdeal.main_arg2) = m' ((c.tc : Thread Cert.MlpFRefIdeal.nD Cert.MlpFRefIdeal.τ).loc Cert.MlpFRefIdeal.main_arg2)
          ∧ r.2.mem ((c.tc : Thread Cert.MlpFRefIdeal.nD Cert.MlpFRefIdeal.τ).loc Cert.MlpFRefIdeal.main_arg3) = m' ((c.tc : Thread Cert.MlpFRefIdeal.nD Cert.MlpFRefIdeal.τ).loc Cert.MlpFRefIdeal.main_arg3))

def Claim : Prop :=
  ∃ (hInBwd : Cert.InBwd.Facts) (hInBwdIdeal : Cert.InBwdIdeal.Facts) (hInRefIdeal : Cert.InRefIdeal.Facts) (hMixBwd : Cert.MixBwd.Facts) (hMixBwdIdeal : Cert.MixBwdIdeal.Facts) (hMixRefIdeal : Cert.MixRefIdeal.Facts) (hMlpA : Cert.MlpA.Facts) (hMlpAIdeal : Cert.MlpAIdeal.Facts) (hMlpARefIdeal : Cert.MlpARefIdeal.Facts) (hMlpB : Cert.MlpB.Facts) (hMlpBIdeal : Cert.MlpBIdeal.Facts) (hMlpBRefIdeal : Cert.MlpBRefIdeal.Facts) (hPle : Cert.Ple.Facts) (hPleIdeal : Cert.PleIdeal.Facts) (hPleRefIdeal : Cert.PleRefIdeal.Facts) (hMlpF : Cert.MlpF.Facts) (hMlpFIdeal : Cert.MlpFIdeal.Facts) (hMlpFRefIdeal : Cert.MlpFRefIdeal.Facts) (hPre_in_finite : Cert.Pre_in_finite.Facts) (hPre_mlp1_finite : Cert.Pre_mlp1_finite.Facts) (hPre_ple_finite : Cert.Pre_ple_finite.Facts),
    quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_MixBwd (hMixBwd := hMixBwd)
    ∧ quiescent_MixBwdIdeal (hMixBwdIdeal := hMixBwdIdeal)
    ∧ quiescent_MixRefIdeal (hMixRefIdeal := hMixRefIdeal)
    ∧ quiescent_MlpA (hMlpA := hMlpA)
    ∧ quiescent_MlpAIdeal (hMlpAIdeal := hMlpAIdeal)
    ∧ quiescent_MlpARefIdeal (hMlpARefIdeal := hMlpARefIdeal)
    ∧ quiescent_MlpB (hMlpB := hMlpB)
    ∧ quiescent_MlpBIdeal (hMlpBIdeal := hMlpBIdeal)
    ∧ quiescent_MlpBIdeal_pre_mlp1_finite (hMlpBIdeal := hMlpBIdeal) (hPre_mlp1_finite := hPre_mlp1_finite)
    ∧ quiescent_MlpBRefIdeal (hMlpBRefIdeal := hMlpBRefIdeal)
    ∧ quiescent_MlpBRefIdeal_pre_mlp1_finite (hMlpBRefIdeal := hMlpBRefIdeal) (hPre_mlp1_finite := hPre_mlp1_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_MlpF (hMlpF := hMlpF)
    ∧ quiescent_MlpFIdeal (hMlpFIdeal := hMlpFIdeal)
    ∧ quiescent_MlpFRefIdeal (hMlpFRefIdeal := hMlpFRefIdeal)
    ∧ preserves_InBwd_InBwdIdeal
    ∧ algebraic_InBwdIdeal_InRefIdeal_pre_in_finite (hInBwdIdeal := hInBwdIdeal) (hInRefIdeal := hInRefIdeal) (hPre_in_finite := hPre_in_finite)
    ∧ preserves_MixBwd_MixBwdIdeal
    ∧ algebraic_MixBwdIdeal_MixRefIdeal (hMixBwdIdeal := hMixBwdIdeal) (hMixRefIdeal := hMixRefIdeal)
    ∧ preserves_MlpA_MlpAIdeal
    ∧ algebraic_MlpAIdeal_MlpARefIdeal (hMlpAIdeal := hMlpAIdeal) (hMlpARefIdeal := hMlpARefIdeal)
    ∧ preserves_MlpB_MlpBIdeal
    ∧ algebraic_MlpBIdeal_MlpBRefIdeal_pre_mlp1_finite (hMlpBIdeal := hMlpBIdeal) (hMlpBRefIdeal := hMlpBRefIdeal) (hPre_mlp1_finite := hPre_mlp1_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_MlpF_MlpFIdeal
    ∧ algebraic_MlpFIdeal_MlpFRefIdeal (hMlpFIdeal := hMlpFIdeal) (hMlpFRefIdeal := hMlpFRefIdeal)
-- ==== Pre_in_finite.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1536 : S_.BroadcastsInDim S1x1024x1536 (![] : Fin 0 → Fin S1x1024x1536.rank)
  reducesTo_S1x1024x1536_S_d0_1_2 : S1x1024x1536.ReducesTo [0, 1, 2] S_
  bcast_S_S8192x1536 : S_.BroadcastsInDim S8192x1536 (![] : Fin 0 → Fin S8192x1536.rank)
  reducesTo_S8192x1536_S_d0_1 : S8192x1536.ReducesTo [0, 1] S_

variable [Facts]

def fn_part1 {F : FTy → Type} [FloatOps F] (main_v13 : IVec S_ 1) (main_v16 : IVec S8192x1536 1) : IVec S_ 1 :=
  let main_c_5 : IVec S_ 1 := constantI S_ 1 1#1
  let main_v17 : IVec S_ 1 := (fun x v => Host.reduce IntOp.andi x v reducesTo_S8192x1536_S_d0_1 h_S_) main_v16 main_c_5
  let main_v18 : IVec S_ 1 := andi main_v13 main_v17
  main_v18

def fn {F : FTy → Type} [FloatOps F] (main_arg0 : FVec F S8192x1024 .f32) (main_arg1 : FVec F S1x1024 .f32) (main_arg2 : FVec F S1x1024x1536 .f32) (main_arg3 : FVec F S8192x1024 .f32) (main_arg4 : FVec F S8192x1536 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1536 .f32 := Host.absf main_arg2
  let main_cst_2 : FVec F S_ .f32 := constant S_ .f32 0x7F800000#32
  let main_v10 : FVec F S1x1024x1536 .f32 := broadcastInDim S1x1024x1536 ![] bcast_S_S1x1024x1536 main_cst_2
  let main_v11 : IVec S1x1024x1536 1 := cmpf .olt main_v9 main_v10
  let main_c_3 : IVec S_ 1 := constantI S_ 1 1#1
  let main_v12 : IVec S_ 1 := (fun x v => Host.reduce IntOp.andi x v reducesTo_S1x1024x1536_S_d0_1_2 h_S_) main_v11 main_c_3
  let main_v13 : IVec S_ 1 := andi main_v8 main_v12
  let main_v14 : FVec F S8192x1536 .bf16 := Host.absf main_arg4
  let main_cst_4 : FVec F S_ .bf16 := constant S_ .bf16 0x7F80#16
  let main_v15 : FVec F S8192x1536 .bf16 := broadcastInDim S8192x1536 ![] bcast_S_S8192x1536 main_cst_4
  let main_v16 : IVec S8192x1536 1 := cmpf .olt main_v14 main_v15
  fn_part1 (F := F) main_v13 main_v16
-- ==== Pre_mlp1_finite.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S8192x1024 .f32) (main_arg5 : FVec F S8192x1024 .f32) (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1x1024 .f32) (main_arg2 : FVec F S1x1024x4096 .f32) (main_arg3 : FVec F S1x4096x1024 .f32) (main_arg4 : FVec F S8192x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x4096 .f32 := Host.absf main_arg2
  let main_cst_2 : FVec F S_ .f32 := constant S_ .f32 0x7F800000#32
  let main_v10 : FVec F S1x1024x4096 .f32 := broadcastInDim S1x1024x4096 ![] bcast_S_S1x1024x4096 main_cst_2
  let main_v11 : IVec S1x1024x4096 1 := cmpf .olt main_v9 main_v10
  let main_c_3 : IVec S_ 1 := constantI S_ 1 1#1
  let main_v12 : IVec S_ 1 := (fun x v => Host.reduce IntOp.andi x v reducesTo_S1x1024x4096_S_d0_1_2 h_S_) main_v11 main_c_3
  let main_v13 : IVec S_ 1 := andi main_v8 main_v12
  let main_v14 : FVec F S1x4096x1024 .f32 := Host.absf main_arg3
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_arg4 main_arg5 main_v13 main_v16
-- ==== Pre_ple_finite.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1x8192x256 : S_.BroadcastsInDim S1x1x8192x256 (![] : Fin 0 → Fin S1x1x8192x256.rank)
  reducesTo_S1x1x8192x256_S_d0_1_2_3 : S1x1x8192x256.ReducesTo [0, 1, 2, 3] S_
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1x1024x1024 .f32) (main_arg5 : FVec F S1x1024 .f32) (main_arg6 : FVec F S1x256x1024 .f32) (main_arg7 : FVec F S1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x256x1024 .f32 := Host.absf main_arg6
  let main_cst_10 : FVec F S_ .f32 := constant S_ .f32 0x7F800000#32
  let main_v30 : FVec F S1x256x1024 .f32 := broadcastInDim S1x256x1024 ![] bcast_S_S1x256x1024 main_cst_10
  let main_v31 : IVec S1x256x1024 1 := cmpf .olt main_v29 main_v30
  let main_c_11 : IVec S_ 1 := constantI S_ 1 1#1
  let main_v32 : IVec S_ 1 := (fun x v => Host.reduce IntOp.andi x v reducesTo_S1x256x1024_S_d0_1_2 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1x1x8192x256 .f32) (main_arg2 : FVec F S1x8192x1024 .f32) (main_arg3 : FVec F S1x1024 .f32) (main_arg4 : FVec F S1x1024x1024 .f32) (main_arg5 : FVec F S1x1024 .f32) (main_arg6 : FVec F S1x256x1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1x8192x256 .f32 := Host.absf main_arg1
  let main_cst_0 : FVec F S_ .f32 := constant S_ .f32 0x7F800000#32
  let main_v5 : FVec F S1x1x8192x256 .f32 := broadcastInDim S1x1x8192x256 ![] bcast_S_S1x1x8192x256 main_cst_0
  let main_v6 : IVec S1x1x8192x256 1 := cmpf .olt main_v4 main_v5
  let main_c_1 : IVec S_ 1 := constantI S_ 1 1#1
  let main_v7 : IVec S_ 1 := (fun x v => Host.reduce IntOp.andi x v reducesTo_S1x1x8192x256_S_d0_1_2_3 h_S_) main_v6 main_c_1
  let main_v8 : IVec S_ 1 := andi main_v3 main_v7
  let main_v9 : FVec F S1x8192x1024 .f32 := Host.absf main_arg2
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_c_3 : IVec S_ 1 := constantI S_ 1 1#1
  let main_v12 : IVec S_ 1 := (fun x v => Host.reduce IntOp.andi x v reducesTo_S1x8192x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== InBwd.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024x1536 : Shape := ⟨2, ![1024, 1536]⟩
abbrev S1536x1024 : Shape := ⟨2, ![1536, 1024]⟩
abbrev S8x1024 : Shape := ⟨2, ![8, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1024, .f32⟩
  | .hbm, ⟨4, _⟩ => ⟨S8192x1536, .bf16⟩
  | .hbm, ⟨5, _⟩ => ⟨S1024x1536, .f32⟩
  | .hbm, ⟨6, _⟩ => ⟨S1536x1024, .f32⟩
  | .hbm, ⟨7, _⟩ => ⟨S1536x1024, .bf16⟩
  | .hbm, ⟨8, _⟩ => ⟨S8192x1024, .f32⟩
  | .hbm, ⟨9, _⟩ => ⟨S8x1024, .f32⟩
  | .local _ .vmem, ⟨0, _⟩ => ⟨S512x1536, .bf16⟩
  | .local _ .vmem, ⟨1, _⟩ => ⟨S512x1536, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1536x1024, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v42 : BitVec 1 := Scalar.cmpi .eq arg0 c15_i32
  let v43 : BitVec 32 := Scalar.extui v42
  let c0_i32_22 : BitVec 32 := 0#32
  let v44 : BitVec 1 := Scalar.cmpi .ne v43 c0_i32_22
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InRefIdeal.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S7x1024 : Shape := ⟨2, ![7, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1024, .f32⟩
  | .hbm, ⟨4, _⟩ => ⟨S8192x1536, .bf16⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1536, .f32⟩
  | .hbm, ⟨27, _⟩ => ⟨S8192x1536, .f32⟩
  | .hbm, ⟨28, _⟩ => ⟨S8192x1536, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S_, .f32⟩
  | .hbm, ⟨58, _⟩ => ⟨S7x1024, .f32⟩
  | .hbm, ⟨59, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== MixBwd.lean ====
abbrev S8192x1536 : Shape := ⟨2, ![8192, 1536]⟩
abbrev S1x4x128x128 : Shape := ⟨4, ![1, 4, 128, 128]⟩
abbrev S1x4x128 : Shape := ⟨3, ![1, 4, 128]⟩
abbrev S1x512 : Shape := ⟨2, ![1, 512]⟩
abbrev S1x4x512 : Shape := ⟨3, ![1, 4, 512]⟩
abbrev S1x8x64x64 : Shape := ⟨4, ![1, 8, 64, 64]⟩
abbrev S1x8x64 : Shape := ⟨3, ![1, 8, 64]⟩
abbrev S1x1024x1024 : Shape := ⟨3, ![1, 1024, 1024]⟩
abbrev S8192x1024 : Shape := ⟨2, ![8192, 1024]⟩
abbrev S8192x512 : Shape := ⟨2, ![8192, 512]⟩
abbrev S8192x4x128 : Shape := ⟨3, ![8192, 4, 128]⟩
abbrev S_ : Shape := ⟨0, ![]⟩
abbrev S8192 : Shape := ⟨1, ![8192]⟩
abbrev S8192x1x128 : Shape := ⟨3, ![8192, 1, 128]⟩
abbrev S8192x128 : Shape := ⟨2, ![8192, 128]⟩
abbrev S2x128 : Shape := ⟨2, ![2, 128]⟩
abbrev S8194x128 : Shape := ⟨2, ![8194, 128]⟩
abbrev S8192x1 : Shape := ⟨2, ![8192, 1]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x512 : Shape := ⟨2, ![4, 512]⟩
abbrev S512 : Shape := ⟨1, ![512]⟩
abbrev S3x512 : Shape := ⟨2, ![3, 512]⟩
abbrev S8195x512 : Shape := ⟨2, ![8195, 512]⟩
abbrev S8x64x64 : Shape := ⟨3, ![8, 64, 64]⟩
abbrev S8x64 : Shape := ⟨2, ![8, 64]⟩
abbrev S8192x8x64 : Shape := ⟨3, ![8192, 8, 64]⟩
abbrev S8x64x8192 : Shape := ⟨3, ![8, 64, 8192]⟩
abbrev S4096x512 : Shape := ⟨2, ![4096, 512]⟩
abbrev S2048x512 : Shape := ⟨2, ![2048, 512]⟩
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S2x512 : Shape := ⟨2, ![2, 512]⟩
abbrev S0x512 : Shape := ⟨2, ![0, 512]⟩
abbrev S7x512 : Shape := ⟨2, ![7, 512]⟩
abbrev S15x512 : Shape := ⟨2, ![15, 512]⟩
abbrev S31x512 : Shape := ⟨2, ![31, 512]⟩
abbrev S63x512 : Shape := ⟨2, ![63, 512]⟩
abbrev S127x512 : Shape := ⟨2, ![127, 512]⟩
abbrev S255x512 : Shape := ⟨2, ![255, 512]⟩
abbrev S511x512 : Shape := ⟨2, ![511, 512]⟩
abbrev S1023x512 : Shape := ⟨2, ![1023, 512]⟩
abbrev S2047x512 : Shape := ⟨2, ![2047, 512]⟩
abbrev S4095x512 : Shape := ⟨2, ![4095, 512]⟩
abbrev S8192x3072 : Shape := ⟨2, ![8192, 3072]⟩
abbrev S4x128x128 : Shape := ⟨3, ![4, 128, 128]⟩
abbrev S4x4 : Shape := ⟨2, ![4, 4]⟩
abbrev S4x1x4x1 : Shape := ⟨4, ![4, 1, 4, 1]⟩
abbrev S4x128x1x128 : Shape := ⟨4, ![4, 128, 1, 128]⟩
abbrev S4x128x4x128 : Shape := ⟨4, ![4, 128, 4, 128]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x1024 : Shape := ⟨2, ![512, 1024]⟩
abbrev S1024x1024 : Shape := ⟨2, ![1024, 1024]⟩
abbrev S16 : Shape := ⟨1, ![16]⟩
abbrev S16x1 : Shape := ⟨2, ![16, 1]⟩
abbrev S512x128 : Shape := ⟨2, ![512, 128]⟩
abbrev S512x64 : Shape := ⟨2, ![512, 64]⟩
abbrev S512x3072 : Shape := ⟨2, ![512, 3072]⟩
abbrev S512x1536 : Shape := ⟨2, ![512, 1536]⟩
abbrev S8x1024 : Shape := ⟨2, ![8, 1024]⟩
abbrev S1x128 : Shape := ⟨2, ![1, 128]⟩
abbrev S496x512 : Shape := ⟨2, ![496, 512]⟩
abbrev S528x512 : Shape := ⟨2, ![528, 512]⟩
abbrev S528x384 : Shape := ⟨2, ![528, 384]⟩
abbrev S528x256 : Shape := ⟨2, ![528, 256]⟩
abbrev S528x128 : Shape := ⟨2, ![528, 128]⟩
abbrev S512x1 : Shape := ⟨2, ![512, 1]⟩
abbrev S512x256 : Shape := ⟨2, ![512, 256]⟩
abbrev S1x256 : Shape := ⟨2, ![1, 256]⟩
abbrev S8x256 : Shape := ⟨2, ![8, 256]⟩
abbrev S520x256 : Shape := ⟨2, ![520, 256]⟩
abbrev S256 : Shape := ⟨1, ![256]⟩
abbrev S1x1024 : Shape := ⟨2, ![1, 1024]⟩
abbrev S1024 : Shape := ⟨1, ![1024]⟩
abbrev S520x512 : Shape := ⟨2, ![520, 512]⟩
abbrev S128x128 : Shape := ⟨2, ![128, 128]⟩

abbrev nBuf : Space → Nat
  | .hbm => 717
  | .vmem => 34
  | .smem => 0
  | _ => 0

abbrev hbmTy0_0 (i : Nat) : BufTy := match i % 128 with
  | 0 => ⟨S8192x1536, .f32⟩
  | 1 => ⟨S1x4x128x128, .f32⟩
  | 2 => ⟨S1x4x128, .f32⟩
  | 3 => ⟨S1x512, .f32⟩
  | 4 => ⟨S1x4x512, .f32⟩
  | 5 => ⟨S1x512, .f32⟩
  | 6 => ⟨S1x8x64x64, .f32⟩
  | 7 => ⟨S1x8x64, .f32⟩
  | 8 => ⟨S1x8x64x64, .f32⟩
  | 9 => ⟨S1x8x64, .f32⟩
  | 10 => ⟨S1x512, .f32⟩
  | 11 => ⟨S1x1024x1024, .f32⟩
  | 12 => ⟨S8192x1024, .f32⟩
  | 13 => ⟨S8192x512, .f32⟩
  | 14 => ⟨S8192x4x128, .f32⟩
  | 15 => ⟨S_, .f32⟩
  | 16 => ⟨S_, .f32⟩
  | 17 => ⟨S8192x4x128, .f32⟩
  | 18 => ⟨S8192, .i32⟩
  | 19 => ⟨S8192x1x128, .f32⟩
  | 20 => ⟨S8192x128, .f32⟩
  | 21 => ⟨S_, .f32⟩
  | 22 => ⟨S2x128, .f32⟩
  | 23 => ⟨S8194x128, .f32⟩
  | 24 => ⟨S8192x128, .f32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192, .f32⟩
  | 32 => ⟨S8192x128, .f32⟩
  | 33 => ⟨S8192x1, .f32⟩
  | 34 => ⟨S8192x128, .f32⟩
  | 35 => ⟨S8192x128, .f32⟩
  | 36 => ⟨S8192x1x128, .f32⟩
  | 37 => ⟨S8192x128, .f32⟩
  | 38 => ⟨S8192x128, .f32⟩
  | 39 => ⟨S8192x1x128, .f32⟩
  | 40 => ⟨S8192x128, .f32⟩
  | 41 => ⟨S_, .f32⟩
  | 42 => ⟨S4x128, .f32⟩
  | 43 => ⟨S8196x128, .f32⟩
  | 44 => ⟨S8192x128, .f32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192, .f32⟩
  | 52 => ⟨S8192x128, .f32⟩
  | 53 => ⟨S8192x1, .f32⟩
  | 54 => ⟨S8192x128, .f32⟩
  | 55 => ⟨S8192x128, .f32⟩
  | 56 => ⟨S8192x1x128, .f32⟩
  | 57 => ⟨S8192x128, .f32⟩
  | 58 => ⟨S8192x128, .f32⟩
  | 59 => ⟨S8192x1x128, .f32⟩
  | 60 => ⟨S8192x128, .f32⟩
  | 61 => ⟨S_, .f32⟩
  | 62 => ⟨S8x128, .f32⟩
  | 63 => ⟨S8200x128, .f32⟩
  | 64 => ⟨S8192x128, .f32⟩
  | 65 => ⟨S_, .i32⟩
  | 66 => ⟨S8192, .i32⟩
  | 67 => ⟨S8192, .i32⟩
  | 68 => ⟨S_, .i32⟩
  | 69 => ⟨S8192, .i32⟩
  | 70 => ⟨S8192, .i32⟩
  | 71 => ⟨S8192, .f32⟩
  | 72 => ⟨S8192x128, .f32⟩
  | 73 => ⟨S8192x1, .f32⟩
  | 74 => ⟨S8192x128, .f32⟩
  | 75 => ⟨S8192x128, .f32⟩
  | 76 => ⟨S8192x1x128, .f32⟩
  | 77 => ⟨S8192x128, .f32⟩
  | 78 => ⟨S8192x128, .f32⟩
  | 79 => ⟨S8192x1x128, .f32⟩
  | 80 => ⟨S8192x128, .f32⟩
  | 81 => ⟨S_, .f32⟩
  | 82 => ⟨S16x128, .f32⟩
  | 83 => ⟨S8208x128, .f32⟩
  | 84 => ⟨S8192x128, .f32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S8192, .f32⟩
  | 92 => ⟨S8192x128, .f32⟩
  | 93 => ⟨S8192x1, .f32⟩
  | 94 => ⟨S8192x128, .f32⟩
  | 95 => ⟨S8192x128, .f32⟩
  | 96 => ⟨S8192x1x128, .f32⟩
  | 97 => ⟨S8192x128, .f32⟩
  | 98 => ⟨S8192x128, .f32⟩
  | 99 => ⟨S8192x1x128, .f32⟩
  | 100 => ⟨S8192x1x128, .f32⟩
  | 101 => ⟨S8192x1x128, .f32⟩
  | 102 => ⟨S8192x1x128, .f32⟩
  | 103 => ⟨S8192x4x128, .f32⟩
  | 104 => ⟨S8192x512, .f32⟩
  | 105 => ⟨S8192x512, .f32⟩
  | 106 => ⟨S4x512, .f32⟩
  | 107 => ⟨S512, .f32⟩
  | 108 => ⟨S_, .f32⟩
  | 109 => ⟨S3x512, .f32⟩
  | 110 => ⟨S8195x512, .f32⟩
  | 111 => ⟨S8192x512, .f32⟩
  | 112 => ⟨S1x512, .f32⟩
  | 113 => ⟨S512, .f32⟩
  | 114 => ⟨S1x512, .f32⟩
  | 115 => ⟨S8192x512, .f32⟩
  | 116 => ⟨S8192x512, .f32⟩
  | 117 => ⟨S1x512, .f32⟩
  | 118 => ⟨S8192x512, .f32⟩
  | 119 => ⟨S8192x512, .f32⟩
  | 120 => ⟨S8192x512, .f32⟩
  | 121 => ⟨S1x512, .f32⟩
  | 122 => ⟨S512, .f32⟩
  | 123 => ⟨S1x512, .f32⟩
  | 124 => ⟨S8192x512, .f32⟩
  | 125 => ⟨S8192x512, .f32⟩
  | 126 => ⟨S8192x512, .f32⟩
  | 127 => ⟨S8192x512, .f32⟩
  | _ => ⟨S8192x1536, .f32⟩

abbrev hbmTy0_1 (i : Nat) : BufTy := match i % 128 with
  | 0 => ⟨S1x512, .f32⟩
  | 1 => ⟨S512, .f32⟩
  | 2 => ⟨S1x512, .f32⟩
  | 3 => ⟨S8192x512, .f32⟩
  | 4 => ⟨S8192x512, .f32⟩
  | 5 => ⟨S8192x512, .f32⟩
  | 6 => ⟨S8192x512, .f32⟩
  | 7 => ⟨S1x512, .f32⟩
  | 8 => ⟨S512, .f32⟩
  | 9 => ⟨S1x512, .f32⟩
  | 10 => ⟨S8192x512, .f32⟩
  | 11 => ⟨S8192x512, .f32⟩
  | 12 => ⟨S8192x512, .f32⟩
  | 13 => ⟨S8x64x64, .f32⟩
  | 14 => ⟨S8x64, .f32⟩
  | 15 => ⟨S8x64x64, .f32⟩
  | 16 => ⟨S8x64, .f32⟩
  | 17 => ⟨S512, .f32⟩
  | 18 => ⟨S8192x8x64, .f32⟩
  | 19 => ⟨S8x64x8192, .f32⟩
  | 20 => ⟨S8192x8x64, .f32⟩
  | 21 => ⟨S1x8x64, .f32⟩
  | 22 => ⟨S8192x8x64, .f32⟩
  | 23 => ⟨S8192x8x64, .f32⟩
  | 24 => ⟨S8192x8x64, .f32⟩
  | 25 => ⟨S8192x8x64, .f32⟩
  | 26 => ⟨S_, .f32⟩
  | 27 => ⟨S8192x8x64, .f32⟩
  | 28 => ⟨S8192x8x64, .f32⟩
  | 29 => ⟨S_, .f32⟩
  | 30 => ⟨S8192x8x64, .f32⟩
  | 31 => ⟨S8192x8x64, .f32⟩
  | 32 => ⟨S8192x512, .f32⟩
  | 33 => ⟨S8x64x8192, .f32⟩
  | 34 => ⟨S8192x8x64, .f32⟩
  | 35 => ⟨S1x8x64, .f32⟩
  | 36 => ⟨S8192x8x64, .f32⟩
  | 37 => ⟨S8192x8x64, .f32⟩
  | 38 => ⟨S8192x8x64, .f32⟩
  | 39 => ⟨S8192x8x64, .f32⟩
  | 40 => ⟨S_, .f32⟩
  | 41 => ⟨S8192x8x64, .f32⟩
  | 42 => ⟨S8192x8x64, .f32⟩
  | 43 => ⟨S_, .f32⟩
  | 44 => ⟨S8192x8x64, .f32⟩
  | 45 => ⟨S8192x8x64, .f32⟩
  | 46 => ⟨S8192x512, .f32⟩
  | 47 => ⟨S_, .f32⟩
  | 48 => ⟨S8192x512, .f32⟩
  | 49 => ⟨S8192x512, .f32⟩
  | 50 => ⟨S512, .f32⟩
  | 51 => ⟨S_, .f32⟩
  | 52 => ⟨S512, .f32⟩
  | 53 => ⟨S512, .f32⟩
  | 54 => ⟨S512, .f32⟩
  | 55 => ⟨S512, .f32⟩
  | 56 => ⟨S512, .i1⟩
  | 57 => ⟨S512, .f32⟩
  | 58 => ⟨S512, .f32⟩
  | 59 => ⟨S512, .f32⟩
  | 60 => ⟨S512, .f32⟩
  | 61 => ⟨S512, .f32⟩
  | 62 => ⟨S512, .f32⟩
  | 63 => ⟨S512, .f32⟩
  | 64 => ⟨S512, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192, .i32⟩
  | 77 => ⟨S_, .i32⟩
  | 78 => ⟨S8192, .i32⟩
  | 79 => ⟨S8192, .i1⟩
  | 80 => ⟨S8192x1, .i1⟩
  | 81 => ⟨S_, .f32⟩
  | 82 => ⟨S_, .f32⟩
  | 83 => ⟨S8192x512, .i1⟩
  | 84 => ⟨S8192x512, .f32⟩
  | 85 => ⟨S8192x512, .f32⟩
  | 86 => ⟨S8192x512, .f32⟩
  | 87 => ⟨S8192x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S2048x512, .f32⟩
  | 102 => ⟨S1024x512, .f32⟩
  | 103 => ⟨S1024x512, .f32⟩
  | 104 => ⟨S1024x512, .f32⟩
  | 105 => ⟨S1024x512, .f32⟩
  | 106 => ⟨S1024x512, .f32⟩
  | 107 => ⟨S1024x512, .f32⟩
  | 108 => ⟨S1024x512, .f32⟩
  | 109 => ⟨S512x512, .f32⟩
  | 110 => ⟨S512x512, .f32⟩
  | 111 => ⟨S512x512, .f32⟩
  | 112 => ⟨S512x512, .f32⟩
  | 113 => ⟨S512x512, .f32⟩
  | 114 => ⟨S512x512, .f32⟩
  | 115 => ⟨S512x512, .f32⟩
  | 116 => ⟨S256x512, .f32⟩
  | 117 => ⟨S256x512, .f32⟩
  | 118 => ⟨S256x512, .f32⟩
  | 119 => ⟨S256x512, .f32⟩
  | 120 => ⟨S256x512, .f32⟩
  | 121 => ⟨S256x512, .f32⟩
  | 122 => ⟨S256x512, .f32⟩
  | 123 => ⟨S128x512, .f32⟩
  | 124 => ⟨S128x512, .f32⟩
  | 125 => ⟨S128x512, .f32⟩
  | 126 => ⟨S128x512, .f32⟩
  | 127 => ⟨S128x512, .f32⟩
  | _ => ⟨S8192x1536, .f32⟩

abbrev hbmTy0_2 (i : Nat) : BufTy := match i % 128 with
  | 0 => ⟨S128x512, .f32⟩
  | 1 => ⟨S128x512, .f32⟩
  | 2 => ⟨S64x512, .f32⟩
  | 3 => ⟨S64x512, .f32⟩
  | 4 => ⟨S64x512, .f32⟩
  | 5 => ⟨S64x512, .f32⟩
  | 6 => ⟨S64x512, .f32⟩
  | 7 => ⟨S64x512, .f32⟩
  | 8 => ⟨S64x512, .f32⟩
  | 9 => ⟨S32x512, .f32⟩
  | 10 => ⟨S32x512, .f32⟩
  | 11 => ⟨S32x512, .f32⟩
  | 12 => ⟨S32x512, .f32⟩
  | 13 => ⟨S32x512, .f32⟩
  | 14 => ⟨S32x512, .f32⟩
  | 15 => ⟨S32x512, .f32⟩
  | 16 => ⟨S16x512, .f32⟩
  | 17 => ⟨S16x512, .f32⟩
  | 18 => ⟨S16x512, .f32⟩
  | 19 => ⟨S16x512, .f32⟩
  | 20 => ⟨S16x512, .f32⟩
  | 21 => ⟨S16x512, .f32⟩
  | 22 => ⟨S16x512, .f32⟩
  | 23 => ⟨S8x512, .f32⟩
  | 24 => ⟨S8x512, .f32⟩
  | 25 => ⟨S8x512, .f32⟩
  | 26 => ⟨S8x512, .f32⟩
  | 27 => ⟨S8x512, .f32⟩
  | 28 => ⟨S8x512, .f32⟩
  | 29 => ⟨S8x512, .f32⟩
  | 30 => ⟨S4x512, .f32⟩
  | 31 => ⟨S4x512, .f32⟩
  | 32 => ⟨S4x512, .f32⟩
  | 33 => ⟨S4x512, .f32⟩
  | 34 => ⟨S4x512, .f32⟩
  | 35 => ⟨S4x512, .f32⟩
  | 36 => ⟨S4x512, .f32⟩
  | 37 => ⟨S2x512, .f32⟩
  | 38 => ⟨S2x512, .f32⟩
  | 39 => ⟨S2x512, .f32⟩
  | 40 => ⟨S2x512, .f32⟩
  | 41 => ⟨S2x512, .f32⟩
  | 42 => ⟨S2x512, .f32⟩
  | 43 => ⟨S2x512, .f32⟩
  | 44 => ⟨S1x512, .f32⟩
  | 45 => ⟨S1x512, .f32⟩
  | 46 => ⟨S1x512, .f32⟩
  | 47 => ⟨S1x512, .f32⟩
  | 48 => ⟨S1x512, .f32⟩
  | 49 => ⟨S1x512, .f32⟩
  | 50 => ⟨S1x512, .f32⟩
  | 51 => ⟨S0x512, .f32⟩
  | 52 => ⟨S0x512, .f32⟩
  | 53 => ⟨S0x512, .f32⟩
  | 54 => ⟨S0x512, .f32⟩
  | 55 => ⟨S0x512, .f32⟩
  | 56 => ⟨S0x512, .f32⟩
  | 57 => ⟨S0x512, .f32⟩
  | 58 => ⟨S1x512, .f32⟩
  | 59 => ⟨S1x512, .f32⟩
  | 60 => ⟨S1x512, .f32⟩
  | 61 => ⟨S1x512, .f32⟩
  | 62 => ⟨S_, .f32⟩
  | 63 => ⟨S2x512, .f32⟩
  | 64 => ⟨S_, .f32⟩
  | 65 => ⟨S2x512, .f32⟩
  | 66 => ⟨S2x512, .f32⟩
  | 67 => ⟨S_, .f32⟩
  | 68 => ⟨S2x512, .f32⟩
  | 69 => ⟨S_, .f32⟩
  | 70 => ⟨S2x512, .f32⟩
  | 71 => ⟨S2x512, .f32⟩
  | 72 => ⟨S1x512, .f32⟩
  | 73 => ⟨S1x512, .f32⟩
  | 74 => ⟨S1x512, .f32⟩
  | 75 => ⟨S1x512, .f32⟩
  | 76 => ⟨S1x512, .f32⟩
  | 77 => ⟨S1x512, .f32⟩
  | 78 => ⟨S1x512, .f32⟩
  | 79 => ⟨S1x512, .f32⟩
  | 80 => ⟨S2x512, .f32⟩
  | 81 => ⟨S1x512, .f32⟩
  | 82 => ⟨S2x512, .f32⟩
  | 83 => ⟨S_, .f32⟩
  | 84 => ⟨S4x512, .f32⟩
  | 85 => ⟨S_, .f32⟩
  | 86 => ⟨S4x512, .f32⟩
  | 87 => ⟨S4x512, .f32⟩
  | 88 => ⟨S_, .f32⟩
  | 89 => ⟨S4x512, .f32⟩
  | 90 => ⟨S_, .f32⟩
  | 91 => ⟨S4x512, .f32⟩
  | 92 => ⟨S4x512, .f32⟩
  | 93 => ⟨S3x512, .f32⟩
  | 94 => ⟨S3x512, .f32⟩
  | 95 => ⟨S3x512, .f32⟩
  | 96 => ⟨S3x512, .f32⟩
  | 97 => ⟨S3x512, .f32⟩
  | 98 => ⟨S3x512, .f32⟩
  | 99 => ⟨S3x512, .f32⟩
  | 100 => ⟨S1x512, .f32⟩
  | 101 => ⟨S4x512, .f32⟩
  | 102 => ⟨S1x512, .f32⟩
  | 103 => ⟨S4x512, .f32⟩
  | 104 => ⟨S_, .f32⟩
  | 105 => ⟨S8x512, .f32⟩
  | 106 => ⟨S_, .f32⟩
  | 107 => ⟨S8x512, .f32⟩
  | 108 => ⟨S8x512, .f32⟩
  | 109 => ⟨S_, .f32⟩
  | 110 => ⟨S8x512, .f32⟩
  | 111 => ⟨S_, .f32⟩
  | 112 => ⟨S8x512, .f32⟩
  | 113 => ⟨S8x512, .f32⟩
  | 114 => ⟨S7x512, .f32⟩
  | 115 => ⟨S7x512, .f32⟩
  | 116 => ⟨S7x512, .f32⟩
  | 117 => ⟨S7x512, .f32⟩
  | 118 => ⟨S7x512, .f32⟩
  | 119 => ⟨S7x512, .f32⟩
  | 120 => ⟨S7x512, .f32⟩
  | 121 => ⟨S1x512, .f32⟩
  | 122 => ⟨S8x512, .f32⟩
  | 123 => ⟨S1x512, .f32⟩
  | 124 => ⟨S8x512, .f32⟩
  | 125 => ⟨S_, .f32⟩
  | 126 => ⟨S16x512, .f32⟩
  | 127 => ⟨S_, .f32⟩
  | _ => ⟨S8192x1536, .f32⟩

abbrev hbmTy0_3 (i : Nat) : BufTy := match i % 128 with
  | 0 => ⟨S16x512, .f32⟩
  | 1 => ⟨S16x512, .f32⟩
  | 2 => ⟨S_, .f32⟩
  | 3 => ⟨S16x512, .f32⟩
  | 4 => ⟨S_, .f32⟩
  | 5 => ⟨S16x512, .f32⟩
  | 6 => ⟨S16x512, .f32⟩
  | 7 => ⟨S15x512, .f32⟩
  | 8 => ⟨S15x512, .f32⟩
  | 9 => ⟨S15x512, .f32⟩
  | 10 => ⟨S15x512, .f32⟩
  | 11 => ⟨S15x512, .f32⟩
  | 12 => ⟨S15x512, .f32⟩
  | 13 => ⟨S15x512, .f32⟩
  | 14 => ⟨S1x512, .f32⟩
  | 15 => ⟨S16x512, .f32⟩
  | 16 => ⟨S1x512, .f32⟩
  | 17 => ⟨S16x512, .f32⟩
  | 18 => ⟨S_, .f32⟩
  | 19 => ⟨S32x512, .f32⟩
  | 20 => ⟨S_, .f32⟩
  | 21 => ⟨S32x512, .f32⟩
  | 22 => ⟨S32x512, .f32⟩
  | 23 => ⟨S_, .f32⟩
  | 24 => ⟨S32x512, .f32⟩
  | 25 => ⟨S_, .f32⟩
  | 26 => ⟨S32x512, .f32⟩
  | 27 => ⟨S32x512, .f32⟩
  | 28 => ⟨S31x512, .f32⟩
  | 29 => ⟨S31x512, .f32⟩
  | 30 => ⟨S31x512, .f32⟩
  | 31 => ⟨S31x512, .f32⟩
  | 32 => ⟨S31x512, .f32⟩
  | 33 => ⟨S31x512, .f32⟩
  | 34 => ⟨S31x512, .f32⟩
  | 35 => ⟨S1x512, .f32⟩
  | 36 => ⟨S32x512, .f32⟩
  | 37 => ⟨S1x512, .f32⟩
  | 38 => ⟨S32x512, .f32⟩
  | 39 => ⟨S_, .f32⟩
  | 40 => ⟨S64x512, .f32⟩
  | 41 => ⟨S_, .f32⟩
  | 42 => ⟨S64x512, .f32⟩
  | 43 => ⟨S64x512, .f32⟩
  | 44 => ⟨S_, .f32⟩
  | 45 => ⟨S64x512, .f32⟩
  | 46 => ⟨S_, .f32⟩
  | 47 => ⟨S64x512, .f32⟩
  | 48 => ⟨S64x512, .f32⟩
  | 49 => ⟨S63x512, .f32⟩
  | 50 => ⟨S63x512, .f32⟩
  | 51 => ⟨S63x512, .f32⟩
  | 52 => ⟨S63x512, .f32⟩
  | 53 => ⟨S63x512, .f32⟩
  | 54 => ⟨S63x512, .f32⟩
  | 55 => ⟨S63x512, .f32⟩
  | 56 => ⟨S1x512, .f32⟩
  | 57 => ⟨S64x512, .f32⟩
  | 58 => ⟨S1x512, .f32⟩
  | 59 => ⟨S64x512, .f32⟩
  | 60 => ⟨S_, .f32⟩
  | 61 => ⟨S128x512, .f32⟩
  | 62 => ⟨S_, .f32⟩
  | 63 => ⟨S128x512, .f32⟩
  | 64 => ⟨S128x512, .f32⟩
  | 65 => ⟨S_, .f32⟩
  | 66 => ⟨S128x512, .f32⟩
  | 67 => ⟨S_, .f32⟩
  | 68 => ⟨S128x512, .f32⟩
  | 69 => ⟨S128x512, .f32⟩
  | 70 => ⟨S127x512, .f32⟩
  | 71 => ⟨S127x512, .f32⟩
  | 72 => ⟨S127x512, .f32⟩
  | 73 => ⟨S127x512, .f32⟩
  | 74 => ⟨S127x512, .f32⟩
  | 75 => ⟨S127x512, .f32⟩
  | 76 => ⟨S127x512, .f32⟩
  | 77 => ⟨S1x512, .f32⟩
  | 78 => ⟨S128x512, .f32⟩
  | 79 => ⟨S1x512, .f32⟩
  | 80 => ⟨S128x512, .f32⟩
  | 81 => ⟨S_, .f32⟩
  | 82 => ⟨S256x512, .f32⟩
  | 83 => ⟨S_, .f32⟩
  | 84 => ⟨S256x512, .f32⟩
  | 85 => ⟨S256x512, .f32⟩
  | 86 => ⟨S_, .f32⟩
  | 87 => ⟨S256x512, .f32⟩
  | 88 => ⟨S_, .f32⟩
  | 89 => ⟨S256x512, .f32⟩
  | 90 => ⟨S256x512, .f32⟩
  | 91 => ⟨S255x512, .f32⟩
  | 92 => ⟨S255x512, .f32⟩
  | 93 => ⟨S255x512, .f32⟩
  | 94 => ⟨S255x512, .f32⟩
  | 95 => ⟨S255x512, .f32⟩
  | 96 => ⟨S255x512, .f32⟩
  | 97 => ⟨S255x512, .f32⟩
  | 98 => ⟨S1x512, .f32⟩
  | 99 => ⟨S256x512, .f32⟩
  | 100 => ⟨S1x512, .f32⟩
  | 101 => ⟨S256x512, .f32⟩
  | 102 => ⟨S_, .f32⟩
  | 103 => ⟨S512x512, .f32⟩
  | 104 => ⟨S_, .f32⟩
  | 105 => ⟨S512x512, .f32⟩
  | 106 => ⟨S512x512, .f32⟩
  | 107 => ⟨S_, .f32⟩
  | 108 => ⟨S512x512, .f32⟩
  | 109 => ⟨S_, .f32⟩
  | 110 => ⟨S512x512, .f32⟩
  | 111 => ⟨S512x512, .f32⟩
  | 112 => ⟨S511x512, .f32⟩
  | 113 => ⟨S511x512, .f32⟩
  | 114 => ⟨S511x512, .f32⟩
  | 115 => ⟨S511x512, .f32⟩
  | 116 => ⟨S511x512, .f32⟩
  | 117 => ⟨S511x512, .f32⟩
  | 118 => ⟨S511x512, .f32⟩
  | 119 => ⟨S1x512, .f32⟩
  | 120 => ⟨S512x512, .f32⟩
  | 121 => ⟨S1x512, .f32⟩
  | 122 => ⟨S512x512, .f32⟩
  | 123 => ⟨S_, .f32⟩
  | 124 => ⟨S1024x512, .f32⟩
  | 125 => ⟨S_, .f32⟩
  | 126 => ⟨S1024x512, .f32⟩
  | 127 => ⟨S1024x512, .f32⟩
  | _ => ⟨S8192x1536, .f32⟩

abbrev hbmTy0_4 (i : Nat) : BufTy := match i % 128 with
  | 0 => ⟨S_, .f32⟩
  | 1 => ⟨S1024x512, .f32⟩
  | 2 => ⟨S_, .f32⟩
  | 3 => ⟨S1024x512, .f32⟩
  | 4 => ⟨S1024x512, .f32⟩
  | 5 => ⟨S1023x512, .f32⟩
  | 6 => ⟨S1023x512, .f32⟩
  | 7 => ⟨S1023x512, .f32⟩
  | 8 => ⟨S1023x512, .f32⟩
  | 9 => ⟨S1023x512, .f32⟩
  | 10 => ⟨S1023x512, .f32⟩
  | 11 => ⟨S1023x512, .f32⟩
  | 12 => ⟨S1x512, .f32⟩
  | 13 => ⟨S1024x512, .f32⟩
  | 14 => ⟨S1x512, .f32⟩
  | 15 => ⟨S1024x512, .f32⟩
  | 16 => ⟨S_, .f32⟩
  | 17 => ⟨S2048x512, .f32⟩
  | 18 => ⟨S_, .f32⟩
  | 19 => ⟨S2048x512, .f32⟩
  | 20 => ⟨S2048x512, .f32⟩
  | 21 => ⟨S_, .f32⟩
  | 22 => ⟨S2048x512, .f32⟩
  | 23 => ⟨S_, .f32⟩
  | 24 => ⟨S2048x512, .f32⟩
  | 25 => ⟨S2048x512, .f32⟩
  | 26 => ⟨S2047x512, .f32⟩
  | 27 => ⟨S2047x512, .f32⟩
  | 28 => ⟨S2047x512, .f32⟩
  | 29 => ⟨S2047x512, .f32⟩
  | 30 => ⟨S2047x512, .f32⟩
  | 31 => ⟨S2047x512, .f32⟩
  | 32 => ⟨S2047x512, .f32⟩
  | 33 => ⟨S1x512, .f32⟩
  | 34 => ⟨S2048x512, .f32⟩
  | 35 => ⟨S1x512, .f32⟩
  | 36 => ⟨S2048x512, .f32⟩
  | 37 => ⟨S_, .f32⟩
  | 38 => ⟨S4096x512, .f32⟩
  | 39 => ⟨S_, .f32⟩
  | 40 => ⟨S4096x512, .f32⟩
  | 41 => ⟨S4096x512, .f32⟩
  | 42 => ⟨S_, .f32⟩
  | 43 => ⟨S4096x512, .f32⟩
  | 44 => ⟨S_, .f32⟩
  | 45 => ⟨S4096x512, .f32⟩
  | 46 => ⟨S4096x512, .f32⟩
  | 47 => ⟨S4095x512, .f32⟩
  | 48 => ⟨S4095x512, .f32⟩
  | 49 => ⟨S4095x512, .f32⟩
  | 50 => ⟨S4095x512, .f32⟩
  | 51 => ⟨S4095x512, .f32⟩
  | 52 => ⟨S4095x512, .f32⟩
  | 53 => ⟨S4095x512, .f32⟩
  | 54 => ⟨S1x512, .f32⟩
  | 55 => ⟨S4096x512, .f32⟩
  | 56 => ⟨S1x512, .f32⟩
  | 57 => ⟨S4096x512, .f32⟩
  | 58 => ⟨S_, .f32⟩
  | 59 => ⟨S8192x512, .f32⟩
  | 60 => ⟨S_, .f32⟩
  | 61 => ⟨S8192x512, .f32⟩
  | 62 => ⟨S8192x512, .f32⟩
  | 63 => ⟨S_, .f32⟩
  | 64 => ⟨S8192x512, .f32⟩
  | 65 => ⟨S_, .f32⟩
  | 66 => ⟨S8192x512, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S8192x512, .f32⟩
  | 96 => ⟨S_, .f32⟩
  | 97 => ⟨S8192x512, .f32⟩
  | 98 => ⟨S8192x512, .f32⟩
  | 99 => ⟨S8192x512, .f32⟩
  | 100 => ⟨S_, .f32⟩
  | 101 => ⟨S8192x512, .f32⟩
  | 102 => ⟨S8192x512, .f32⟩
  | 103 => ⟨S_, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S_, .f32⟩
  | 110 => ⟨S8192x512, .f32⟩
  | 111 => ⟨S8192x512, .f32⟩
  | 112 => ⟨S8192x512, .f32⟩
  | 113 => ⟨S8192x512, .f32⟩
  | 114 => ⟨S8192x3072, .f32⟩
  | 115 => ⟨S4x128x128, .f32⟩
  | 116 => ⟨S4x4, .i32⟩
  | 117 => ⟨S4x4, .i32⟩
  | 118 => ⟨S_, .i32⟩
  | 119 => ⟨S4x4, .i32⟩
  | 120 => ⟨S4x4, .i32⟩
  | 121 => ⟨S4x4, .i1⟩
  | 122 => ⟨S4x4, .f32⟩
  | 123 => ⟨S4x1x4x1, .f32⟩
  | 124 => ⟨S4x128x1x128, .f32⟩
  | 125 => ⟨S4x128x4x128, .f32⟩
  | 126 => ⟨S4x128x4x128, .f32⟩
  | 127 => ⟨S4x128x4x128, .f32⟩
  | _ => ⟨S8192x1536, .f32⟩

abbrev hbmTy0_5 (i : Nat) : BufTy := match i % 128 with
  | 0 => ⟨S512x512, .f32⟩
  | 1 => ⟨S512x512, .bf16⟩
  | 2 => ⟨S8x64x64, .f32⟩
  | 3 => ⟨S8x8, .i32⟩
  | 4 => ⟨S8x8, .i32⟩
  | 5 => ⟨S_, .i32⟩
  | 6 => ⟨S8x8, .i32⟩
  | 7 => ⟨S8x8, .i32⟩
  | 8 => ⟨S8x8, .i1⟩
  | 9 => ⟨S8x8, .f32⟩
  | 10 => ⟨S8x1x8x1, .f32⟩
  | 11 => ⟨S8x64x1x64, .f32⟩
  | 12 => ⟨S8x64x8x64, .f32⟩
  | 13 => ⟨S8x64x8x64, .f32⟩
  | 14 => ⟨S8x64x8x64, .f32⟩
  | 15 => ⟨S512x512, .f32⟩
  | 16 => ⟨S8x64x64, .f32⟩
  | 17 => ⟨S8x8, .i32⟩
  | 18 => ⟨S8x8, .i32⟩
  | 19 => ⟨S_, .i32⟩
  | 20 => ⟨S8x8, .i32⟩
  | 21 => ⟨S8x8, .i32⟩
  | 22 => ⟨S8x8, .i1⟩
  | 23 => ⟨S8x8, .f32⟩
  | 24 => ⟨S8x1x8x1, .f32⟩
  | 25 => ⟨S8x64x1x64, .f32⟩
  | 26 => ⟨S8x64x8x64, .f32⟩
  | 27 => ⟨S8x64x8x64, .f32⟩
  | 28 => ⟨S8x64x8x64, .f32⟩
  | 29 => ⟨S512x512, .f32⟩
  | 30 => ⟨S512x1024, .f32⟩
  | 31 => ⟨S512x1024, .bf16⟩
  | 32 => ⟨S8192x512, .bf16⟩
  | 33 => ⟨S1x512, .f32⟩
  | 34 => ⟨S4x512, .f32⟩
  | 35 => ⟨S1024x1024, .f32⟩
  | 36 => ⟨S1024x1024, .bf16⟩
  | 37 => ⟨S16, .f32⟩
  | 38 => ⟨S_, .f32⟩
  | 39 => ⟨S16, .f32⟩
  | 40 => ⟨S16, .f32⟩
  | 41 => ⟨S16x1, .f32⟩
  | 42 => ⟨S_, .f32⟩
  | 43 => ⟨S16x1, .f32⟩
  | 44 => ⟨S16x1, .f32⟩
  | 45 => ⟨S_, .f32⟩
  | 46 => ⟨S16x1, .f32⟩
  | 47 => ⟨S16x1, .f32⟩
  | 48 => ⟨S16x128, .f32⟩
  | 49 => ⟨S_, .f32⟩
  | 50 => ⟨S16x1, .f32⟩
  | 51 => ⟨S16x1, .f32⟩
  | 52 => ⟨S_, .f32⟩
  | 53 => ⟨S16x1, .f32⟩
  | 54 => ⟨S16x1, .f32⟩
  | 55 => ⟨S16x128, .f32⟩
  | 56 => ⟨S_, .f32⟩
  | 57 => ⟨S16x1, .f32⟩
  | 58 => ⟨S16x1, .f32⟩
  | 59 => ⟨S_, .f32⟩
  | 60 => ⟨S16x1, .f32⟩
  | 61 => ⟨S16x1, .f32⟩
  | 62 => ⟨S16x128, .f32⟩
  | 63 => ⟨S_, .f32⟩
  | 64 => ⟨S16x1, .f32⟩
  | 65 => ⟨S16x1, .f32⟩
  | 66 => ⟨S_, .f32⟩
  | 67 => ⟨S16x1, .f32⟩
  | 68 => ⟨S16x1, .f32⟩
  | 69 => ⟨S16x128, .f32⟩
  | 70 => ⟨S16x512, .f32⟩
  | 71 => ⟨S8192x1536, .bf16⟩
  | 72 => ⟨S16x512, .f32⟩
  | 73 => ⟨S512x128, .f32⟩
  | 74 => ⟨S512x64, .f32⟩
  | 75 => ⟨S512x64, .f32⟩
  | 76 => ⟨S2x512, .f32⟩
  | _ => ⟨S8192x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1536, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x3072, .f32⟩
  | .local _ .vmem, ⟨9, _⟩ => ⟨S512x3072, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S4x512, .f32⟩
  | .local _ .vmem, ⟨16, _⟩ => ⟨S512x1024, .bf16⟩
  | .local _ .vmem, ⟨17, _⟩ => ⟨S1x512, .f32⟩
  | .local _ .vmem, ⟨18, _⟩ => ⟨S1024x1024, .bf16⟩
  | .local _ .vmem, ⟨19, _⟩ => ⟨S16x512, .f32⟩
  | .local _ .vmem, ⟨20, _⟩ => ⟨S512x1536, .bf16⟩
  | .local _ .vmem, ⟨21, _⟩ => ⟨S512x1536, .bf16⟩
  | .local _ .vmem, ⟨22, _⟩ => ⟨S16x512, .f32⟩
  | .local _ .vmem, ⟨23, _⟩ => ⟨S512x128, .f32⟩
  | .local _ .vmem, ⟨24, _⟩ => ⟨S512x64, .f32⟩
  | .local _ .vmem, ⟨25, _⟩ => ⟨S512x64, .f32⟩
  | .local _ .vmem, ⟨26, _⟩ => ⟨S512x512, .f32⟩
  | .local _ .vmem, ⟨27, _⟩ => ⟨S512x1024, .f32⟩
  | .local _ .vmem, ⟨28, _⟩ => ⟨S8x1024, .f32⟩
  | .local _ .vmem, ⟨29, _⟩ => ⟨S512x512, .f32⟩
  | .local _ .vmem, ⟨30, _⟩ => ⟨S512x512, .f32⟩
  | .local _ .vmem, ⟨31, _⟩ => ⟨S16x512, .f32⟩
  | .local _ .vmem, ⟨32, _⟩ => ⟨S8x512, .f32⟩
  | .local _ .vmem, ⟨33, _⟩ => ⟨S8x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_call0_cst : Ref sig .tc := ⟨.hbm, 15, rfl⟩
abbrev main_call0_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_2 : Ref sig .tc := ⟨.hbm, 45, rfl⟩
abbrev main_v26 : Ref sig .tc := ⟨.hbm, 46, rfl⟩
abbrev main_v27 : Ref sig .tc := ⟨.hbm, 47, rfl⟩
abbrev main_c_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_8 : Ref sig .tc := ⟨.hbm, 85, rfl⟩
abbrev main_v60 : Ref sig .tc := ⟨.hbm, 86, rfl⟩
abbrev main_v61 : Ref sig .tc := ⟨.hbm, 87, rfl⟩
abbrev main_c_9 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_10 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_11 : Ref sig .tc := ⟨.hbm, 154, rfl⟩
abbrev main_v126 : Ref sig .tc := ⟨.hbm, 155, rfl⟩
abbrev main_v127 : Ref sig .tc := ⟨.hbm, 156, rfl⟩
abbrev main_cst_12 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_13 : Ref sig .tc := ⟨.hbm, 168, rfl⟩
abbrev main_v138 : Ref sig .tc := ⟨.hbm, 169, rfl⟩
abbrev main_v139 : Ref sig .tc := ⟨.hbm, 170, rfl⟩
abbrev main_cst_14 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_15 : Ref sig .tc := ⟨.hbm, 175, rfl⟩
abbrev main_v143 : Ref sig .tc := ⟨.hbm, 176, rfl⟩
abbrev main_v144 : Ref sig .tc := ⟨.hbm, 177, rfl⟩
abbrev main_call1_v0 : Ref sig .tc := ⟨.hbm, 178, rfl⟩
abbrev main_call1_call0_cst : Ref sig .tc := ⟨.hbm, 179, rfl⟩
abbrev main_call1_call0_v0 : Ref sig .tc := ⟨.hbm, 180, rfl⟩
abbrev main_call1_call0_v1 : Ref sig .tc := ⟨.hbm, 181, rfl⟩
abbrev main_call1_call0_v2 : Ref sig .tc := ⟨.hbm, 182, rfl⟩
abbrev main_call1_call0_v3 : Ref sig .tc := ⟨.hbm, 183, rfl⟩
abbrev main_call1_call0_v4 : Ref sig .tc := ⟨.hbm, 184, rfl⟩
abbrev main_call1_call0_v5 : Ref sig .tc := ⟨.hbm, 185, rfl⟩
abbrev main_call1_call0_v6 : Ref sig .tc := ⟨.hbm, 186, rfl⟩
abbrev main_call1_call0_v7 : Ref sig .tc := ⟨.hbm, 187, rfl⟩
abbrev main_call1_call0_v8 : Ref sig .tc := ⟨.hbm, 188, rfl⟩
abbrev main_call1_call0_v9 : Ref sig .tc := ⟨.hbm, 189, rfl⟩
abbrev main_call1_call0_v10 : Ref sig .tc := ⟨.hbm, 190, rfl⟩
abbrev main_call1_call0_v11 : Ref sig .tc := ⟨.hbm, 191, rfl⟩
abbrev main_call1_v1 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_16 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_c_17 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_18 : Ref sig .tc := ⟨.hbm, 209, rfl⟩
abbrev main_call2_v0 : Ref sig .tc := ⟨.hbm, 210, rfl⟩
abbrev main_call2_v1 : Ref sig .tc := ⟨.hbm, 211, rfl⟩
abbrev main_call2_v2 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_cst_19 : Ref sig .tc := ⟨.hbm, 318, rfl⟩
abbrev main_v264 : Ref sig .tc := ⟨.hbm, 319, rfl⟩
abbrev main_cst_20 : Ref sig .tc := ⟨.hbm, 320, rfl⟩
abbrev main_v265 : Ref sig .tc := ⟨.hbm, 321, rfl⟩
abbrev main_v266 : Ref sig .tc := ⟨.hbm, 322, rfl⟩
abbrev main_cst_21 : Ref sig .tc := ⟨.hbm, 323, rfl⟩
abbrev main_v267 : Ref sig .tc := ⟨.hbm, 324, rfl⟩
abbrev main_cst_22 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_cst_23 : Ref sig .tc := ⟨.hbm, 339, rfl⟩
abbrev main_v281 : Ref sig .tc := ⟨.hbm, 340, rfl⟩
abbrev main_cst_24 : Ref sig .tc := ⟨.hbm, 341, rfl⟩
abbrev main_v282 : Ref sig .tc := ⟨.hbm, 342, rfl⟩
abbrev main_v283 : Ref sig .tc := ⟨.hbm, 343, rfl⟩
abbrev main_cst_25 : Ref sig .tc := ⟨.hbm, 344, rfl⟩
abbrev main_v284 : Ref sig .tc := ⟨.hbm, 345, rfl⟩
abbrev main_cst_26 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_cst_27 : Ref sig .tc := ⟨.hbm, 360, rfl⟩
abbrev main_v298 : Ref sig .tc := ⟨.hbm, 361, rfl⟩
abbrev main_cst_28 : Ref sig .tc := ⟨.hbm, 362, rfl⟩
abbrev main_v299 : Ref sig .tc := ⟨.hbm, 363, rfl⟩
abbrev main_v300 : Ref sig .tc := ⟨.hbm, 364, rfl⟩
abbrev main_cst_29 : Ref sig .tc := ⟨.hbm, 365, rfl⟩
abbrev main_v301 : Ref sig .tc := ⟨.hbm, 366, rfl⟩
abbrev main_cst_30 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_cst_31 : Ref sig .tc := ⟨.hbm, 381, rfl⟩
abbrev main_v315 : Ref sig .tc := ⟨.hbm, 382, rfl⟩
abbrev main_cst_32 : Ref sig .tc := ⟨.hbm, 383, rfl⟩
abbrev main_v316 : Ref sig .tc := ⟨.hbm, 384, rfl⟩
abbrev main_v317 : Ref sig .tc := ⟨.hbm, 385, rfl⟩
abbrev main_cst_33 : Ref sig .tc := ⟨.hbm, 386, rfl⟩
abbrev main_v318 : Ref sig .tc := ⟨.hbm, 387, rfl⟩
abbrev main_cst_34 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_v328 : Ref sig .tc := ⟨.hbm, 398, rfl⟩
abbrev main_v329 : Ref sig .tc := ⟨.hbm, 399, rfl⟩
abbrev main_v330 : Ref sig .tc := ⟨.hbm, 400, rfl⟩
abbrev main_v331 : Ref sig .tc := ⟨.hbm, 401, rfl⟩
abbrev main_cst_35 : Ref sig .tc := ⟨.hbm, 402, rfl⟩
abbrev main_v332 : Ref sig .tc := ⟨.hbm, 403, rfl⟩
abbrev main_cst_36 : Ref sig .tc := ⟨.hbm, 404, rfl⟩
abbrev main_v333 : Ref sig .tc := ⟨.hbm, 405, rfl⟩
abbrev main_v334 : Ref sig .tc := ⟨.hbm, 406, rfl⟩
abbrev main_cst_37 : Ref sig .tc := ⟨.hbm, 407, rfl⟩
abbrev main_v335 : Ref sig .tc := ⟨.hbm, 408, rfl⟩
abbrev main_cst_38 : Ref sig .tc := ⟨.hbm, 409, rfl⟩
abbrev main_v336 : Ref sig .tc := ⟨.hbm, 410, rfl⟩
abbrev main_v337 : Ref sig .tc := ⟨.hbm, 411, rfl⟩
abbrev main_v338 : Ref sig .tc := ⟨.hbm, 412, rfl⟩
abbrev main_v339 : Ref sig .tc := ⟨.hbm, 413, rfl⟩
abbrev main_v340 : Ref sig .tc := ⟨.hbm, 414, rfl⟩
abbrev main_v341 : Ref sig .tc := ⟨.hbm, 415, rfl⟩
abbrev main_v342 : Ref sig .tc := ⟨.hbm, 416, rfl⟩
abbrev main_v343 : Ref sig .tc := ⟨.hbm, 417, rfl⟩
abbrev main_v344 : Ref sig .tc := ⟨.hbm, 418, rfl⟩
abbrev main_v345 : Ref sig .tc := ⟨.hbm, 419, rfl⟩
abbrev main_v346 : Ref sig .tc := ⟨.hbm, 420, rfl⟩
abbrev main_v347 : Ref sig .tc := ⟨.hbm, 421, rfl⟩
abbrev main_v348 : Ref sig .tc := ⟨.hbm, 422, rfl⟩
abbrev main_cst_39 : Ref sig .tc := ⟨.hbm, 423, rfl⟩
abbrev main_v349 : Ref sig .tc := ⟨.hbm, 424, rfl⟩
abbrev main_cst_40 : Ref sig .tc := ⟨.hbm, 425, rfl⟩
abbrev main_v350 : Ref sig .tc := ⟨.hbm, 426, rfl⟩
abbrev main_v351 : Ref sig .tc := ⟨.hbm, 427, rfl⟩
abbrev main_cst_41 : Ref sig .tc := ⟨.hbm, 428, rfl⟩
abbrev main_v352 : Ref sig .tc := ⟨.hbm, 429, rfl⟩
abbrev main_cst_42 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_v362 : Ref sig .tc := ⟨.hbm, 440, rfl⟩
abbrev main_v363 : Ref sig .tc := ⟨.hbm, 441, rfl⟩
abbrev main_v364 : Ref sig .tc := ⟨.hbm, 442, rfl⟩
abbrev main_v365 : Ref sig .tc := ⟨.hbm, 443, rfl⟩
abbrev main_cst_43 : Ref sig .tc := ⟨.hbm, 444, rfl⟩
abbrev main_v366 : Ref sig .tc := ⟨.hbm, 445, rfl⟩
abbrev main_cst_44 : Ref sig .tc := ⟨.hbm, 446, rfl⟩
abbrev main_v367 : Ref sig .tc := ⟨.hbm, 447, rfl⟩
abbrev main_v368 : Ref sig .tc := ⟨.hbm, 448, rfl⟩
abbrev main_cst_45 : Ref sig .tc := ⟨.hbm, 449, rfl⟩
abbrev main_v369 : Ref sig .tc := ⟨.hbm, 450, rfl⟩
abbrev main_cst_46 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_v373 : Ref sig .tc := ⟨.hbm, 455, rfl⟩
abbrev main_v374 : Ref sig .tc := ⟨.hbm, 456, rfl⟩
abbrev main_v375 : Ref sig .tc := ⟨.hbm, 457, rfl⟩
abbrev main_v376 : Ref sig .tc := ⟨.hbm, 458, rfl⟩
abbrev main_v377 : Ref sig .tc := ⟨.hbm, 459, rfl⟩
abbrev main_v378 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_v382 : Ref sig .tc := ⟨.hbm, 464, rfl⟩
abbrev main_cst_47 : Ref sig .tc := ⟨.hbm, 465, rfl⟩
abbrev main_v383 : Ref sig .tc := ⟨.hbm, 466, rfl⟩
abbrev main_cst_48 : Ref sig .tc := ⟨.hbm, 467, rfl⟩
abbrev main_v384 : Ref sig .tc := ⟨.hbm, 468, rfl⟩
abbrev main_v385 : Ref sig .tc := ⟨.hbm, 469, rfl⟩
abbrev main_cst_49 : Ref sig .tc := ⟨.hbm, 470, rfl⟩
abbrev main_v386 : Ref sig .tc := ⟨.hbm, 471, rfl⟩
abbrev main_cst_50 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_v392 : Ref sig .tc := ⟨.hbm, 478, rfl⟩
abbrev main_v393 : Ref sig .tc := ⟨.hbm, 479, rfl⟩
abbrev main_v394 : Ref sig .tc := ⟨.hbm, 480, rfl⟩
abbrev main_v395 : Ref sig .tc := ⟨.hbm, 481, rfl⟩
abbrev main_v396 : Ref sig .tc := ⟨.hbm, 482, rfl⟩
abbrev main_v397 : Ref sig .tc := ⟨.hbm, 483, rfl⟩
abbrev main_v398 : Ref sig .tc := ⟨.hbm, 484, rfl⟩
abbrev main_v399 : Ref sig .tc := ⟨.hbm, 485, rfl⟩
abbrev main_cst_51 : Ref sig .tc := ⟨.hbm, 486, rfl⟩
abbrev main_v400 : Ref sig .tc := ⟨.hbm, 487, rfl⟩
abbrev main_cst_52 : Ref sig .tc := ⟨.hbm, 488, rfl⟩
abbrev main_v401 : Ref sig .tc := ⟨.hbm, 489, rfl⟩
abbrev main_v402 : Ref sig .tc := ⟨.hbm, 490, rfl⟩
abbrev main_cst_53 : Ref sig .tc := ⟨.hbm, 491, rfl⟩
abbrev main_v403 : Ref sig .tc := ⟨.hbm, 492, rfl⟩
abbrev main_cst_54 : Ref sig .tc := ⟨.hbm, 493, rfl⟩
abbrev main_v404 : Ref sig .tc := ⟨.hbm, 494, rfl⟩
abbrev main_v405 : Ref sig .tc := ⟨.hbm, 495, rfl⟩
abbrev main_v406 : Ref sig .tc := ⟨.hbm, 496, rfl⟩
abbrev main_v407 : Ref sig .tc := ⟨.hbm, 497, rfl⟩
abbrev main_v408 : Ref sig .tc := ⟨.hbm, 498, rfl⟩
abbrev main_v409 : Ref sig .tc := ⟨.hbm, 499, rfl⟩
abbrev main_v410 : Ref sig .tc := ⟨.hbm, 500, rfl⟩
abbrev main_v411 : Ref sig .tc := ⟨.hbm, 501, rfl⟩
abbrev main_v412 : Ref sig .tc := ⟨.hbm, 502, rfl⟩
abbrev main_v413 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_cst_55 : Ref sig .tc := ⟨.hbm, 507, rfl⟩
abbrev main_v417 : Ref sig .tc := ⟨.hbm, 508, rfl⟩
abbrev main_cst_56 : Ref sig .tc := ⟨.hbm, 509, rfl⟩
abbrev main_v418 : Ref sig .tc := ⟨.hbm, 510, rfl⟩
abbrev main_v419 : Ref sig .tc := ⟨.hbm, 511, rfl⟩
abbrev main_cst_57 : Ref sig .tc := ⟨.hbm, 512, rfl⟩
abbrev main_v420 : Ref sig .tc := ⟨.hbm, 513, rfl⟩
abbrev main_cst_58 : Ref sig .tc := ⟨.hbm, 514, rfl⟩
abbrev main_v421 : Ref sig .tc := ⟨.hbm, 515, rfl⟩
abbrev main_v422 : Ref sig .tc := ⟨.hbm, 516, rfl⟩
abbrev main_v423 : Ref sig .tc := ⟨.hbm, 517, rfl⟩
abbrev main_v424 : Ref sig .tc := ⟨.hbm, 518, rfl⟩
abbrev main_v425 : Ref sig .tc := ⟨.hbm, 519, rfl⟩
abbrev main_v426 : Ref sig .tc := ⟨.hbm, 520, rfl⟩
abbrev main_v427 : Ref sig .tc := ⟨.hbm, 521, rfl⟩
abbrev main_v428 : Ref sig .tc := ⟨.hbm, 522, rfl⟩
abbrev main_v429 : Ref sig .tc := ⟨.hbm, 523, rfl⟩
abbrev main_v430 : Ref sig .tc := ⟨.hbm, 524, rfl⟩
abbrev main_v431 : Ref sig .tc := ⟨.hbm, 525, rfl⟩
abbrev main_v432 : Ref sig .tc := ⟨.hbm, 526, rfl⟩
abbrev main_v433 : Ref sig .tc := ⟨.hbm, 527, rfl⟩
abbrev main_cst_59 : Ref sig .tc := ⟨.hbm, 528, rfl⟩
abbrev main_v434 : Ref sig .tc := ⟨.hbm, 529, rfl⟩
abbrev main_cst_60 : Ref sig .tc := ⟨.hbm, 530, rfl⟩
abbrev main_v435 : Ref sig .tc := ⟨.hbm, 531, rfl⟩
abbrev main_v436 : Ref sig .tc := ⟨.hbm, 532, rfl⟩
abbrev main_cst_61 : Ref sig .tc := ⟨.hbm, 533, rfl⟩
abbrev main_v437 : Ref sig .tc := ⟨.hbm, 534, rfl⟩
abbrev main_cst_62 : Ref sig .tc := ⟨.hbm, 535, rfl⟩
abbrev main_v438 : Ref sig .tc := ⟨.hbm, 536, rfl⟩
abbrev main_v439 : Ref sig .tc := ⟨.hbm, 537, rfl⟩
abbrev main_v440 : Ref sig .tc := ⟨.hbm, 538, rfl⟩
abbrev main_v441 : Ref sig .tc := ⟨.hbm, 539, rfl⟩
abbrev main_v442 : Ref sig .tc := ⟨.hbm, 540, rfl⟩
abbrev main_v443 : Ref sig .tc := ⟨.hbm, 541, rfl⟩
abbrev main_v444 : Ref sig .tc := ⟨.hbm, 542, rfl⟩
abbrev main_v445 : Ref sig .tc := ⟨.hbm, 543, rfl⟩
abbrev main_v446 : Ref sig .tc := ⟨.hbm, 544, rfl⟩
abbrev main_v447 : Ref sig .tc := ⟨.hbm, 545, rfl⟩
abbrev main_v448 : Ref sig .tc := ⟨.hbm, 546, rfl⟩
abbrev main_v449 : Ref sig .tc := ⟨.hbm, 547, rfl⟩
abbrev main_v450 : Ref sig .tc := ⟨.hbm, 548, rfl⟩
abbrev main_cst_63 : Ref sig .tc := ⟨.hbm, 549, rfl⟩
abbrev main_v451 : Ref sig .tc := ⟨.hbm, 550, rfl⟩
abbrev main_cst_64 : Ref sig .tc := ⟨.hbm, 551, rfl⟩
abbrev main_v452 : Ref sig .tc := ⟨.hbm, 552, rfl⟩
abbrev main_v453 : Ref sig .tc := ⟨.hbm, 553, rfl⟩
abbrev main_cst_65 : Ref sig .tc := ⟨.hbm, 554, rfl⟩
abbrev main_v454 : Ref sig .tc := ⟨.hbm, 555, rfl⟩
abbrev main_cst_66 : Ref sig .tc := ⟨.hbm, 556, rfl⟩
abbrev main_v455 : Ref sig .tc := ⟨.hbm, 557, rfl⟩
abbrev main_v456 : Ref sig .tc := ⟨.hbm, 558, rfl⟩
abbrev main_v457 : Ref sig .tc := ⟨.hbm, 559, rfl⟩
abbrev main_v458 : Ref sig .tc := ⟨.hbm, 560, rfl⟩
abbrev main_v459 : Ref sig .tc := ⟨.hbm, 561, rfl⟩
abbrev main_v460 : Ref sig .tc := ⟨.hbm, 562, rfl⟩
abbrev main_v461 : Ref sig .tc := ⟨.hbm, 563, rfl⟩
abbrev main_v462 : Ref sig .tc := ⟨.hbm, 564, rfl⟩
abbrev main_v463 : Ref sig .tc := ⟨.hbm, 565, rfl⟩
abbrev main_v464 : Ref sig .tc := ⟨.hbm, 566, rfl⟩
abbrev main_v465 : Ref sig .tc := ⟨.hbm, 567, rfl⟩
abbrev main_v466 : Ref sig .tc := ⟨.hbm, 568, rfl⟩
abbrev main_v467 : Ref sig .tc := ⟨.hbm, 569, rfl⟩
abbrev main_cst_67 : Ref sig .tc := ⟨.hbm, 570, rfl⟩
abbrev main_v468 : Ref sig .tc := ⟨.hbm, 571, rfl⟩
abbrev main_cst_68 : Ref sig .tc := ⟨.hbm, 572, rfl⟩
abbrev main_v469 : Ref sig .tc := ⟨.hbm, 573, rfl⟩
abbrev main_v470 : Ref sig .tc := ⟨.hbm, 574, rfl⟩
abbrev main_cst_69 : Ref sig .tc := ⟨.hbm, 575, rfl⟩
abbrev main_v471 : Ref sig .tc := ⟨.hbm, 576, rfl⟩
abbrev main_cst_70 : Ref sig .tc := ⟨.hbm, 577, rfl⟩
abbrev main_v472 : Ref sig .tc := ⟨.hbm, 578, rfl⟩
abbrev main_v473 : Ref sig .tc := ⟨.hbm, 579, rfl⟩
abbrev main_v474 : Ref sig .tc := ⟨.hbm, 580, rfl⟩
abbrev main_v475 : Ref sig .tc := ⟨.hbm, 581, rfl⟩
abbrev main_cst_71 : Ref sig .tc := ⟨.hbm, 582, rfl⟩
abbrev main_v476 : Ref sig .tc := ⟨.hbm, 583, rfl⟩
abbrev main_v477 : Ref sig .tc := ⟨.hbm, 584, rfl⟩
abbrev main_v478 : Ref sig .tc := ⟨.hbm, 585, rfl⟩
abbrev main_v479 : Ref sig .tc := ⟨.hbm, 586, rfl⟩
abbrev main_cst_72 : Ref sig .tc := ⟨.hbm, 587, rfl⟩
abbrev main_v480 : Ref sig .tc := ⟨.hbm, 588, rfl⟩
abbrev main_v481 : Ref sig .tc := ⟨.hbm, 589, rfl⟩
abbrev main_v482 : Ref sig .tc := ⟨.hbm, 590, rfl⟩
abbrev main_cst_73 : Ref sig .tc := ⟨.hbm, 591, rfl⟩
abbrev main_v483 : Ref sig .tc := ⟨.hbm, 592, rfl⟩
abbrev main_v484 : Ref sig .tc := ⟨.hbm, 593, rfl⟩
abbrev main_cst_74 : Ref sig .tc := ⟨.hbm, 594, rfl⟩
abbrev main_v485 : Ref sig .tc := ⟨.hbm, 595, rfl⟩
abbrev main_v486 : Ref sig .tc := ⟨.hbm, 596, rfl⟩
abbrev main_v487 : Ref sig .tc := ⟨.hbm, 597, rfl⟩
abbrev main_cst_75 : Ref sig .tc := ⟨.hbm, 598, rfl⟩
abbrev main_v488 : Ref sig .tc := ⟨.hbm, 599, rfl⟩
abbrev main_v489 : Ref sig .tc := ⟨.hbm, 600, rfl⟩
abbrev main_cst_76 : Ref sig .tc := ⟨.hbm, 601, rfl⟩
abbrev main_v490 : Ref sig .tc := ⟨.hbm, 602, rfl⟩
abbrev main_v491 : Ref sig .tc := ⟨.hbm, 603, rfl⟩
abbrev main_cst_77 : Ref sig .tc := ⟨.hbm, 604, rfl⟩
abbrev main_v492 : Ref sig .tc := ⟨.hbm, 605, rfl⟩
abbrev main_v493 : Ref sig .tc := ⟨.hbm, 606, rfl⟩
abbrev main_v494 : Ref sig .tc := ⟨.hbm, 607, rfl⟩
abbrev main_cst_78 : Ref sig .tc := ⟨.hbm, 608, rfl⟩
abbrev main_v495 : Ref sig .tc := ⟨.hbm, 609, rfl⟩
abbrev main_v496 : Ref sig .tc := ⟨.hbm, 610, rfl⟩
abbrev main_v497 : Ref sig .tc := ⟨.hbm, 611, rfl⟩
abbrev main_cst_79 : Ref sig .tc := ⟨.hbm, 612, rfl⟩
abbrev main_v498 : Ref sig .tc := ⟨.hbm, 613, rfl⟩
abbrev main_v499 : Ref sig .tc := ⟨.hbm, 614, rfl⟩
abbrev main_cst_80 : Ref sig .tc := ⟨.hbm, 615, rfl⟩
abbrev main_v500 : Ref sig .tc := ⟨.hbm, 616, rfl⟩
abbrev main_v501 : Ref sig .tc := ⟨.hbm, 617, rfl⟩
abbrev main_cst_81 : Ref sig .tc := ⟨.hbm, 618, rfl⟩
abbrev main_v502 : Ref sig .tc := ⟨.hbm, 619, rfl⟩
abbrev main_v503 : Ref sig .tc := ⟨.hbm, 620, rfl⟩
abbrev main_cst_82 : Ref sig .tc := ⟨.hbm, 621, rfl⟩
abbrev main_v504 : Ref sig .tc := ⟨.hbm, 622, rfl⟩
abbrev main_v505 : Ref sig .tc := ⟨.hbm, 623, rfl⟩
abbrev main_v506 : Ref sig .tc := ⟨.hbm, 624, rfl⟩
abbrev main_v507 : Ref sig .tc := ⟨.hbm, 625, rfl⟩
abbrev main_v508 : Ref sig .tc := ⟨.hbm, 626, rfl⟩
abbrev main_v509 : Ref sig .tc := ⟨.hbm, 627, rfl⟩
abbrev main_v510 : Ref sig .tc := ⟨.hbm, 628, rfl⟩
abbrev main_v511 : Ref sig .tc := ⟨.hbm, 629, rfl⟩
abbrev main_c_83 : Ref sig .tc := ⟨.hbm, 630, rfl⟩
abbrev main_v512 : Ref sig .tc := ⟨.hbm, 631, rfl⟩
abbrev main_v513 : Ref sig .tc := ⟨.hbm, 632, rfl⟩
abbrev main_v514 : Ref sig .tc := ⟨.hbm, 633, rfl⟩
abbrev main_v515 : Ref sig .tc := ⟨.hbm, 634, rfl⟩
abbrev main_v516 : Ref sig .tc := ⟨.hbm, 635, rfl⟩
abbrev main_v517 : Ref sig .tc := ⟨.hbm, 636, rfl⟩
abbrev main_v518 : Ref sig .tc := ⟨.hbm, 637, rfl⟩
abbrev main_v519 : Ref sig .tc := ⟨.hbm, 638, rfl⟩
abbrev main_v520 : Ref sig .tc := ⟨.hbm, 639, rfl⟩
abbrev main_v521 : Ref sig .tc := ⟨.hbm, 640, rfl⟩
abbrev main_v522 : Ref sig .tc := ⟨.hbm, 641, rfl⟩
abbrev main_v523 : Ref sig .tc := ⟨.hbm, 642, rfl⟩
abbrev main_v524 : Ref sig .tc := ⟨.hbm, 643, rfl⟩
abbrev main_v525 : Ref sig .tc := ⟨.hbm, 644, rfl⟩
abbrev main_c_84 : Ref sig .tc := ⟨.hbm, 645, rfl⟩
abbrev main_v526 : Ref sig .tc := ⟨.hbm, 646, rfl⟩
abbrev main_v527 : Ref sig .tc := ⟨.hbm, 647, rfl⟩
abbrev main_v528 : Ref sig .tc := ⟨.hbm, 648, rfl⟩
abbrev main_v529 : Ref sig .tc := ⟨.hbm, 649, rfl⟩
abbrev main_v530 : Ref sig .tc := ⟨.hbm, 650, rfl⟩
abbrev main_v531 : Ref sig .tc := ⟨.hbm, 651, rfl⟩
abbrev main_v532 : Ref sig .tc := ⟨.hbm, 652, rfl⟩
abbrev main_v533 : Ref sig .tc := ⟨.hbm, 653, rfl⟩
abbrev main_v534 : Ref sig .tc := ⟨.hbm, 654, rfl⟩
abbrev main_v535 : Ref sig .tc := ⟨.hbm, 655, rfl⟩
abbrev main_v536 : Ref sig .tc := ⟨.hbm, 656, rfl⟩
abbrev main_v537 : Ref sig .tc := ⟨.hbm, 657, rfl⟩
abbrev main_v538 : Ref sig .tc := ⟨.hbm, 658, rfl⟩
abbrev main_c_85 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_v545 : Ref sig .tc := ⟨.hbm, 666, rfl⟩
abbrev main_v546 : Ref sig .tc := ⟨.hbm, 667, rfl⟩
abbrev main_v547 : Ref sig .tc := ⟨.hbm, 668, rfl⟩
abbrev main_v548 : Ref sig .tc := ⟨.hbm, 669, rfl⟩
abbrev main_v549 : Ref sig .tc := ⟨.hbm, 670, rfl⟩
abbrev main_v550 : Ref sig .tc := ⟨.hbm, 671, rfl⟩
abbrev main_v551 : Ref sig .tc := ⟨.hbm, 672, rfl⟩
abbrev main_v552 : Ref sig .tc := ⟨.hbm, 673, rfl⟩
abbrev main_v553 : Ref sig .tc := ⟨.hbm, 674, rfl⟩
abbrev main_v554 : Ref sig .tc := ⟨.hbm, 675, rfl⟩
abbrev main_v555 : Ref sig .tc := ⟨.hbm, 676, rfl⟩
abbrev main_v556 : Ref sig .tc := ⟨.hbm, 677, rfl⟩
abbrev main_cst_86 : Ref sig .tc := ⟨.hbm, 678, rfl⟩
abbrev main_v557 : Ref sig .tc := ⟨.hbm, 679, rfl⟩
abbrev main_v558 : Ref sig .tc := ⟨.hbm, 680, rfl⟩
abbrev main_v559 : Ref sig .tc := ⟨.hbm, 681, rfl⟩
abbrev main_cst_87 : Ref sig .tc := ⟨.hbm, 682, rfl⟩
abbrev main_v560 : Ref sig .tc := ⟨.hbm, 683, rfl⟩
abbrev main_v561 : Ref sig .tc := ⟨.hbm, 684, rfl⟩
abbrev main_cst_88 : Ref sig .tc := ⟨.hbm, 685, rfl⟩
abbrev main_v562 : Ref sig .tc := ⟨.hbm, 686, rfl⟩
abbrev main_v563 : Ref sig .tc := ⟨.hbm, 687, rfl⟩
abbrev main_v564 : Ref sig .tc := ⟨.hbm, 688, rfl⟩
abbrev main_cst_89 : Ref sig .tc := ⟨.hbm, 689, rfl⟩
abbrev main_v565 : Ref sig .tc := ⟨.hbm, 690, rfl⟩
abbrev main_v566 : Ref sig .tc := ⟨.hbm, 691, rfl⟩
abbrev main_cst_90 : Ref sig .tc := ⟨.hbm, 692, rfl⟩
abbrev main_v567 : Ref sig .tc := ⟨.hbm, 693, rfl⟩
abbrev main_v568 : Ref sig .tc := ⟨.hbm, 694, rfl⟩
abbrev main_v569 : Ref sig .tc := ⟨.hbm, 695, rfl⟩
abbrev main_cst_91 : Ref sig .tc := ⟨.hbm, 696, rfl⟩
abbrev main_v570 : Ref sig .tc := ⟨.hbm, 697, rfl⟩
abbrev main_v571 : Ref sig .tc := ⟨.hbm, 698, rfl⟩
abbrev main_cst_92 : Ref sig .tc := ⟨.hbm, 699, rfl⟩
abbrev main_v572 : Ref sig .tc := ⟨.hbm, 700, rfl⟩
abbrev main_v573 : Ref sig .tc := ⟨.hbm, 701, rfl⟩
abbrev main_v574 : Ref sig .tc := ⟨.hbm, 702, rfl⟩
abbrev main_cst_93 : Ref sig .tc := ⟨.hbm, 703, rfl⟩
abbrev main_v575 : Ref sig .tc := ⟨.hbm, 704, rfl⟩
abbrev main_v576 : Ref sig .tc := ⟨.hbm, 705, rfl⟩
abbrev main_cst_94 : Ref sig .tc := ⟨.hbm, 706, rfl⟩
abbrev main_v577 : Ref sig .tc := ⟨.hbm, 707, rfl⟩
abbrev main_v578 : Ref sig .tc := ⟨.hbm, 708, rfl⟩
abbrev main_v579 : Ref sig .tc := ⟨.hbm, 709, rfl⟩
abbrev main_v580 : Ref sig .tc := ⟨.hbm, 710, rfl⟩
abbrev main_v581_0 : Ref sig .tc := ⟨.hbm, 711, rfl⟩
abbrev main_v581_1 : Ref sig .tc := ⟨.hbm, 712, rfl⟩
abbrev main_v581_2 : Ref sig .tc := ⟨.hbm, 713, rfl⟩
abbrev main_v581_3 : Ref sig .tc := ⟨.hbm, 714, rfl⟩
abbrev main_v581_4 : Ref sig .tc := ⟨.hbm, 715, rfl⟩
abbrev main_v582 : Ref sig .tc := ⟨.hbm, 716, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_60 : BitVec 32 := 0#32
  let c8_i32 : BitVec 32 := 8#32
  let v126 : BitVec 32 := Scalar.addi c0_i32_60 c8_i32
  let c1_i32 : BitVec 32 := 1#32
  ⟨c0_i32_60, v126, c1_i32⟩
def k0_mult1 (k0_t1 : Fin k0_t1_loop.trips) : BitVec 32 :=
  let c63_i32 : BitVec 32 := 63#32
  let c0_i32_60 : BitVec 32 := 0#32
  let c1_i32 : BitVec 32 := 1#32
  let arg28 : BitVec 32 := Scf.iv c0_i32_60 c1_i32 k0_t1
  let c8_i32_147 : BitVec 32 := 8#32
  let v351 : BitVec 32 := Scalar.muli arg28 c8_i32_147
  let c0_i32_148 : BitVec 32 := 0#32
  let v352 : BitVec 32 := Scalar.addi v351 c0_i32_148
  let v353 : BitVec 32 := Scalar.subi c63_i32 v352
  let c8_i32_149 : BitVec 32 := 8#32
  let v354 : BitVec 32 := Scalar.muli v353 c8_i32_149
  v354
def k0_off1 (k0_t1 : Fin k0_t1_loop.trips) (c0_i32_148 : BitVec 32) : Fin 2 → Nat :=
  let c63_i32 : BitVec 32 := 63#32
  let c0_i32_60 : BitVec 32 := 0#32
  let c1_i32 : BitVec 32 := 1#32
  let arg28 : BitVec 32 := Scf.iv c0_i32_60 c1_i32 k0_t1
  let c8_i32_147 : BitVec 32 := 8#32
  let v351 : BitVec 32 := Scalar.muli arg28 c8_i32_147
  let v352 : BitVec 32 := Scalar.addi v351 c0_i32_148
  let v353 : BitVec 32 := Scalar.subi c63_i32 v352
  let c8_i32_149 : BitVec 32 := 8#32
  let v354 : BitVec 32 := Scalar.muli v353 c8_i32_149
  let v355 : BitVec 32 := v354
  let v356 : Index := Scalar.indexCast v355
  let c1536_150 : Index := 1536#32
  ![v356.toNat, 1536]
def k0_off2 (k0_t1 : Fin k0_t1_loop.trips) (c0_i32_148 : BitVec 32) : Fin 2 → Nat :=
  let c63_i32 : BitVec 32 := 63#32
  let c0_i32_60 : BitVec 32 := 0#32
  let c1_i32 : BitVec 32 := 1#32
  let arg28 : BitVec 32 := Scf.iv c0_i32_60 c1_i32 k0_t1
  let c8_i32_147 : BitVec 32 := 8#32
  let v351 : BitVec 32 := Scalar.muli arg28 c8_i32_147
  let v352 : BitVec 32 := Scalar.addi v351 c0_i32_148
  let v353 : BitVec 32 := Scalar.subi c63_i32 v352
  let c8_i32_149 : BitVec 32 := 8#32
  let v354 : BitVec 32 := Scalar.muli v353 c8_i32_149
  let v355 : BitVec 32 := v354
  let v359 : Index := Scalar.indexCast v355
  let c0_151 : Index := 0#32
  ![v359.toNat, 0]
def k0_mult2 (k0_t1 : Fin k0_t1_loop.trips) : BitVec 32 :=
  let c63_i32_172 : BitVec 32 := 63#32
  let c0_i32_60 : BitVec 32 := 0#32
  let c1_i32 : BitVec 32 := 1#32
  let arg28 : BitVec 32 := Scf.iv c0_i32_60 c1_i32 k0_t1
  let c8_i32_170 : BitVec 32 := 8#32
  let v415 : BitVec 32 := Scalar.muli arg28 c8_i32_170
  let c1_i32_171 : BitVec 32 := 1#32
  let v416 : BitVec 32 := Scalar.addi v415 c1_i32_171
  let v417 : BitVec 32 := Scalar.subi c63_i32_172 v416
  let c8_i32_173 : BitVec 32 := 8#32
  let v418 : BitVec 32 := Scalar.muli v417 c8_i32_173
  v418
def k0_mult3 (k0_t1 : Fin k0_t1_loop.trips) : BitVec 32 :=
  let c63_i32_198 : BitVec 32 := 63#32
  let c0_i32_60 : BitVec 32 := 0#32
  let c1_i32 : BitVec 32 := 1#32
  let arg28 : BitVec 32 := Scf.iv c0_i32_60 c1_i32 k0_t1
  let c8_i32_197 : BitVec 32 := 8#32
  let v479 : BitVec 32 := Scalar.muli arg28 c8_i32_197
  let c2_i32 : BitVec 32 := 2#32
  let v480 : BitVec 32 := Scalar.addi v479 c2_i32
  let v481 : BitVec 32 := Scalar.subi c63_i32_198 v480
  let c8_i32_199 : BitVec 32 := 8#32
  let v482 : BitVec 32 := Scalar.muli v481 c8_i32_199
  v482
def k0_mult4 (k0_t1 : Fin k0_t1_loop.trips) : BitVec 32 :=
  let c63_i32_224 : BitVec 32 := 63#32
  let c0_i32_60 : BitVec 32 := 0#32
  let c1_i32 : BitVec 32 := 1#32
  let arg28 : BitVec 32 := Scf.iv c0_i32_60 c1_i32 k0_t1
  let c8_i32_223 : BitVec 32 := 8#32
  let v543 : BitVec 32 := Scalar.muli arg28 c8_i32_223
  let c3_i32 : BitVec 32 := 3#32
  let v544 : BitVec 32 := Scalar.addi v543 c3_i32
  let v545 : BitVec 32 := Scalar.subi c63_i32_224 v544
  let c8_i32_225 : BitVec 32 := 8#32
  let v546 : BitVec 32 := Scalar.muli v545 c8_i32_225
  v546
def k0_mult5 (k0_t1 : Fin k0_t1_loop.trips) : BitVec 32 :=
  let c63_i32_251 : BitVec 32 := 63#32
  let c0_i32_60 : BitVec 32 := 0#32
  let c1_i32 : BitVec 32 := 1#32
  let arg28 : BitVec 32 := Scf.iv c0_i32_60 c1_i32 k0_t1
  let c8_i32_249 : BitVec 32 := 8#32
  let v607 : BitVec 32 := Scalar.muli arg28 c8_i32_249
  let c4_i32_250 : BitVec 32 := 4#32
  let v608 : BitVec 32 := Scalar.addi v607 c4_i32_250
  let v609 : BitVec 32 := Scalar.subi c63_i32_251 v608
  let c8_i32_252 : BitVec 32 := 8#32
  let v610 : BitVec 32 := Scalar.muli v609 c8_i32_252
  v610
def k0_mult6 (k0_t1 : Fin k0_t1_loop.trips) : BitVec 32 :=
  let c63_i32_277 : BitVec 32 := 63#32
  let c0_i32_60 : BitVec 32 := 0#32
  let c1_i32 : BitVec 32 := 1#32
  let arg28 : BitVec 32 := Scf.iv c0_i32_60 c1_i32 k0_t1
  let c8_i32_276 : BitVec 32 := 8#32
  let v671 : BitVec 32 := Scalar.muli arg28 c8_i32_276
  let c5_i32 : BitVec 32 := 5#32
  let v672 : BitVec 32 := Scalar.addi v671 c5_i32
  let v673 : BitVec 32 := Scalar.subi c63_i32_277 v672
  let c8_i32_278 : BitVec 32 := 8#32
  let v674 : BitVec 32 := Scalar.muli v673 c8_i32_278
  v674
def k0_mult7 (k0_t1 : Fin k0_t1_loop.trips) : BitVec 32 :=
  let c63_i32_304 : BitVec 32 := 63#32
  let c0_i32_60 : BitVec 32 := 0#32
  let c1_i32 : BitVec 32 := 1#32
  let arg28 : BitVec 32 := Scf.iv c0_i32_60 c1_i32 k0_t1
  let c8_i32_302 : BitVec 32 := 8#32
  let v735 : BitVec 32 := Scalar.muli arg28 c8_i32_302
  let c6_i32_303 : BitVec 32 := 6#32
  let v736 : BitVec 32 := Scalar.addi v735 c6_i32_303
  let v737 : BitVec 32 := Scalar.subi c63_i32_304 v736
  let c8_i32_305 : BitVec 32 := 8#32
  let v738 : BitVec 32 := Scalar.muli v737 c8_i32_305
  v738
def k0_mult8 (k0_t1 : Fin k0_t1_loop.trips) : BitVec 32 :=
  let c63_i32_331 : BitVec 32 := 63#32
  let c0_i32_60 : BitVec 32 := 0#32
  let c1_i32 : BitVec 32 := 1#32
  let arg28 : BitVec 32 := Scf.iv c0_i32_60 c1_i32 k0_t1
  let c8_i32_329 : BitVec 32 := 8#32
  let v799 : BitVec 32 := Scalar.muli arg28 c8_i32_329
  let c7_i32_330 : BitVec 32 := 7#32
  let v800 : BitVec 32 := Scalar.addi v799 c7_i32_330
  let v801 : BitVec 32 := Scalar.subi c63_i32_331 v800
  let c8_i32_332 : BitVec 32 := 8#32
  let v802 : BitVec 32 := Scalar.muli v801 c8_i32_332
  v802
def k0_cond2 (i : grid0.Coords) : BitVec 1 :=
  let arg0 : BitVec 32 := BitVec.ofNat 32 (i 0).val
  let c15_i32_145 : BitVec 32 := 15#32
  let v348 : BitVec 1 := Scalar.cmpi .eq arg0 c15_i32_145
  let v349 : BitVec 32 := Scalar.extui v348
  let c0_i32_146 : BitVec 32 := 0#32
  let v350 : BitVec 1 := Scalar.cmpi .ne v349 c0_i32_146
  v350

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S16x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MixRefIdeal.lean ====
abbrev S8192x1536 : Shape := ⟨2, ![8192, 1536]⟩
abbrev S1x4x128x128 : Shape := ⟨4, ![1, 4, 128, 128]⟩
abbrev S1x4x128 : Shape := ⟨3, ![1, 4, 128]⟩
abbrev S1x512 : Shape := ⟨2, ![1, 512]⟩
abbrev S1x4x512 : Shape := ⟨3, ![1, 4, 512]⟩
abbrev S1x8x64x64 : Shape := ⟨4, ![1, 8, 64, 64]⟩
abbrev S1x8x64 : Shape := ⟨3, ![1, 8, 64]⟩
abbrev S1x1024x1024 : Shape := ⟨3, ![1, 1024, 1024]⟩
abbrev S8192x1024 : Shape := ⟨2, ![8192, 1024]⟩
abbrev S4x128x128 : Shape := ⟨3, ![4, 128, 128]⟩
abbrev S4x128 : Shape := ⟨2, ![4, 128]⟩
abbrev S512 : Shape := ⟨1, ![512]⟩
abbrev S4x512 : Shape := ⟨2, ![4, 512]⟩
abbrev S8x64x64 : Shape := ⟨3, ![8, 64, 64]⟩
abbrev S8x64 : Shape := ⟨2, ![8, 64]⟩
abbrev S1024x1024 : Shape := ⟨2, ![1024, 1024]⟩
abbrev S8192x512 : Shape := ⟨2, ![8192, 512]⟩
abbrev S8192x4x128 : Shape := ⟨3, ![8192, 4, 128]⟩
abbrev S_ : Shape := ⟨0, ![]⟩
abbrev S8192 : Shape := ⟨1, ![8192]⟩
abbrev S8192x1x128 : Shape := ⟨3, ![8192, 1, 128]⟩
abbrev S8192x128 : Shape := ⟨2, ![8192, 128]⟩
abbrev S2x128 : Shape := ⟨2, ![2, 128]⟩
abbrev S8194x128 : Shape := ⟨2, ![8194, 128]⟩
abbrev S8192x1 : Shape := ⟨2, ![8192, 1]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x128x8192 : Shape := ⟨3, ![4, 128, 8192]⟩
abbrev S3x512 : Shape := ⟨2, ![3, 512]⟩
abbrev S8195x512 : Shape := ⟨2, ![8195, 512]⟩
abbrev S8192x8x64 : Shape := ⟨3, ![8192, 8, 64]⟩
abbrev S8x64x8192 : Shape := ⟨3, ![8, 64, 8192]⟩
abbrev S4096x512 : Shape := ⟨2, ![4096, 512]⟩
abbrev S2048x512 : Shape := ⟨2, ![2048, 512]⟩
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S2x512 : Shape := ⟨2, ![2, 512]⟩
abbrev S0x512 : Shape := ⟨2, ![0, 512]⟩
abbrev S7x512 : Shape := ⟨2, ![7, 512]⟩
abbrev S15x512 : Shape := ⟨2, ![15, 512]⟩
abbrev S31x512 : Shape := ⟨2, ![31, 512]⟩
abbrev S63x512 : Shape := ⟨2, ![63, 512]⟩
abbrev S127x512 : Shape := ⟨2, ![127, 512]⟩
abbrev S255x512 : Shape := ⟨2, ![255, 512]⟩
abbrev S511x512 : Shape := ⟨2, ![511, 512]⟩
abbrev S1023x512 : Shape := ⟨2, ![1023, 512]⟩
abbrev S2047x512 : Shape := ⟨2, ![2047, 512]⟩
abbrev S4095x512 : Shape := ⟨2, ![4095, 512]⟩
abbrev S512x128 : Shape := ⟨2, ![512, 128]⟩

abbrev nBuf : Space → Nat
  | .hbm => 641
  | .vmem => 0
  | .smem => 0
  | _ => 0

abbrev hbmTy0_0 (i : Nat) : BufTy := match i % 128 with
  | 0 => ⟨S8192x1536, .f32⟩
  | 1 => ⟨S1x4x128x128, .f32⟩
  | 2 => ⟨S1x4x128, .f32⟩
  | 3 => ⟨S1x512, .f32⟩
  | 4 => ⟨S1x4x512, .f32⟩
  | 5 => ⟨S1x512, .f32⟩
  | 6 => ⟨S1x8x64x64, .f32⟩
  | 7 => ⟨S1x8x64, .f32⟩
  | 8 => ⟨S1x8x64x64, .f32⟩
  | 9 => ⟨S1x8x64, .f32⟩
  | 10 => ⟨S1x512, .f32⟩
  | 11 => ⟨S1x1024x1024, .f32⟩
  | 12 => ⟨S8192x1024, .f32⟩
  | 13 => ⟨S4x128x128, .f32⟩
  | 14 => ⟨S4x128, .f32⟩
  | 15 => ⟨S512, .f32⟩
  | 16 => ⟨S4x512, .f32⟩
  | 17 => ⟨S512, .f32⟩
  | 18 => ⟨S8x64x64, .f32⟩
  | 19 => ⟨S8x64, .f32⟩
  | 20 => ⟨S8x64x64, .f32⟩
  | 21 => ⟨S8x64, .f32⟩
  | 22 => ⟨S512, .f32⟩
  | 23 => ⟨S1024x1024, .f32⟩
  | 24 => ⟨S8192x512, .f32⟩
  | 25 => ⟨S8192x4x128, .f32⟩
  | 26 => ⟨S_, .f32⟩
  | 27 => ⟨S_, .f32⟩
  | 28 => ⟨S8192x4x128, .f32⟩
  | 29 => ⟨S8192, .i32⟩
  | 30 => ⟨S8192x1x128, .f32⟩
  | 31 => ⟨S8192x128, .f32⟩
  | 32 => ⟨S_, .f32⟩
  | 33 => ⟨S2x128, .f32⟩
  | 34 => ⟨S8194x128, .f32⟩
  | 35 => ⟨S8192x128, .f32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S8192, .f32⟩
  | 43 => ⟨S8192x128, .f32⟩
  | 44 => ⟨S8192x1, .f32⟩
  | 45 => ⟨S8192x128, .f32⟩
  | 46 => ⟨S8192x128, .f32⟩
  | 47 => ⟨S8192x1x128, .f32⟩
  | 48 => ⟨S8192x128, .f32⟩
  | 49 => ⟨S8192x128, .f32⟩
  | 50 => ⟨S8192x1x128, .f32⟩
  | 51 => ⟨S8192x128, .f32⟩
  | 52 => ⟨S_, .f32⟩
  | 53 => ⟨S4x128, .f32⟩
  | 54 => ⟨S8196x128, .f32⟩
  | 55 => ⟨S8192x128, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S8192x128, .f32⟩
  | 64 => ⟨S8192x1, .f32⟩
  | 65 => ⟨S8192x128, .f32⟩
  | 66 => ⟨S8192x128, .f32⟩
  | 67 => ⟨S8192x1x128, .f32⟩
  | 68 => ⟨S8192x128, .f32⟩
  | 69 => ⟨S8192x128, .f32⟩
  | 70 => ⟨S8192x1x128, .f32⟩
  | 71 => ⟨S8192x128, .f32⟩
  | 72 => ⟨S_, .f32⟩
  | 73 => ⟨S8x128, .f32⟩
  | 74 => ⟨S8200x128, .f32⟩
  | 75 => ⟨S8192x128, .f32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .f32⟩
  | 83 => ⟨S8192x128, .f32⟩
  | 84 => ⟨S8192x1, .f32⟩
  | 85 => ⟨S8192x128, .f32⟩
  | 86 => ⟨S8192x128, .f32⟩
  | 87 => ⟨S8192x1x128, .f32⟩
  | 88 => ⟨S8192x128, .f32⟩
  | 89 => ⟨S8192x128, .f32⟩
  | 90 => ⟨S8192x1x128, .f32⟩
  | 91 => ⟨S8192x128, .f32⟩
  | 92 => ⟨S_, .f32⟩
  | 93 => ⟨S16x128, .f32⟩
  | 94 => ⟨S8208x128, .f32⟩
  | 95 => ⟨S8192x128, .f32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .f32⟩
  | 103 => ⟨S8192x128, .f32⟩
  | 104 => ⟨S8192x1, .f32⟩
  | 105 => ⟨S8192x128, .f32⟩
  | 106 => ⟨S8192x128, .f32⟩
  | 107 => ⟨S8192x1x128, .f32⟩
  | 108 => ⟨S8192x128, .f32⟩
  | 109 => ⟨S8192x128, .f32⟩
  | 110 => ⟨S8192x1x128, .f32⟩
  | 111 => ⟨S8192x1x128, .f32⟩
  | 112 => ⟨S8192x1x128, .f32⟩
  | 113 => ⟨S8192x1x128, .f32⟩
  | 114 => ⟨S8192x4x128, .f32⟩
  | 115 => ⟨S4x128x8192, .f32⟩
  | 116 => ⟨S8192x4x128, .f32⟩
  | 117 => ⟨S1x4x128, .f32⟩
  | 118 => ⟨S8192x4x128, .f32⟩
  | 119 => ⟨S8192x4x128, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S_, .f32⟩
  | 126 => ⟨S3x512, .f32⟩
  | 127 => ⟨S8195x512, .f32⟩
  | _ => ⟨S8192x1536, .f32⟩

abbrev hbmTy0_1 (i : Nat) : BufTy := match i % 128 with
  | 0 => ⟨S8192x512, .f32⟩
  | 1 => ⟨S1x512, .f32⟩
  | 2 => ⟨S512, .f32⟩
  | 3 => ⟨S1x512, .f32⟩
  | 4 => ⟨S8192x512, .f32⟩
  | 5 => ⟨S8192x512, .f32⟩
  | 6 => ⟨S1x512, .f32⟩
  | 7 => ⟨S8192x512, .f32⟩
  | 8 => ⟨S8192x512, .f32⟩
  | 9 => ⟨S8192x512, .f32⟩
  | 10 => ⟨S1x512, .f32⟩
  | 11 => ⟨S512, .f32⟩
  | 12 => ⟨S1x512, .f32⟩
  | 13 => ⟨S8192x512, .f32⟩
  | 14 => ⟨S8192x512, .f32⟩
  | 15 => ⟨S8192x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S8192x512, .f32⟩
  | 30 => ⟨S8192x8x64, .f32⟩
  | 31 => ⟨S8x64x8192, .f32⟩
  | 32 => ⟨S8192x8x64, .f32⟩
  | 33 => ⟨S1x8x64, .f32⟩
  | 34 => ⟨S8192x8x64, .f32⟩
  | 35 => ⟨S8192x8x64, .f32⟩
  | 36 => ⟨S8192x8x64, .f32⟩
  | 37 => ⟨S8192x8x64, .f32⟩
  | 38 => ⟨S_, .f32⟩
  | 39 => ⟨S8192x8x64, .f32⟩
  | 40 => ⟨S8192x8x64, .f32⟩
  | 41 => ⟨S_, .f32⟩
  | 42 => ⟨S8192x8x64, .f32⟩
  | 43 => ⟨S8192x8x64, .f32⟩
  | 44 => ⟨S8192x512, .f32⟩
  | 45 => ⟨S8x64x8192, .f32⟩
  | 46 => ⟨S8192x8x64, .f32⟩
  | 47 => ⟨S1x8x64, .f32⟩
  | 48 => ⟨S8192x8x64, .f32⟩
  | 49 => ⟨S8192x8x64, .f32⟩
  | 50 => ⟨S8192x8x64, .f32⟩
  | 51 => ⟨S8192x8x64, .f32⟩
  | 52 => ⟨S_, .f32⟩
  | 53 => ⟨S8192x8x64, .f32⟩
  | 54 => ⟨S8192x8x64, .f32⟩
  | 55 => ⟨S_, .f32⟩
  | 56 => ⟨S8192x8x64, .f32⟩
  | 57 => ⟨S8192x8x64, .f32⟩
  | 58 => ⟨S8192x512, .f32⟩
  | 59 => ⟨S_, .f32⟩
  | 60 => ⟨S8192x512, .f32⟩
  | 61 => ⟨S8192x512, .f32⟩
  | 62 => ⟨S512, .f32⟩
  | 63 => ⟨S_, .f32⟩
  | 64 => ⟨S512, .f32⟩
  | 65 => ⟨S512, .f32⟩
  | 66 => ⟨S512, .f32⟩
  | 67 => ⟨S512, .f32⟩
  | 68 => ⟨S512, .i1⟩
  | 69 => ⟨S512, .f32⟩
  | 70 => ⟨S512, .f32⟩
  | 71 => ⟨S512, .f32⟩
  | 72 => ⟨S512, .f32⟩
  | 73 => ⟨S512, .f32⟩
  | 74 => ⟨S512, .f32⟩
  | 75 => ⟨S512, .f32⟩
  | 76 => ⟨S512, .f32⟩
  | 77 => ⟨S512, .f32⟩
  | 78 => ⟨S1x512, .f32⟩
  | 79 => ⟨S8192x512, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192, .i32⟩
  | 89 => ⟨S_, .i32⟩
  | 90 => ⟨S8192, .i32⟩
  | 91 => ⟨S8192, .i1⟩
  | 92 => ⟨S8192x1, .i1⟩
  | 93 => ⟨S_, .f32⟩
  | 94 => ⟨S_, .f32⟩
  | 95 => ⟨S8192x512, .i1⟩
  | 96 => ⟨S8192x512, .f32⟩
  | 97 => ⟨S8192x512, .f32⟩
  | 98 => ⟨S8192x512, .f32⟩
  | 99 => ⟨S8192x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S1024x512, .f32⟩
  | 115 => ⟨S1024x512, .f32⟩
  | 116 => ⟨S1024x512, .f32⟩
  | 117 => ⟨S1024x512, .f32⟩
  | 118 => ⟨S1024x512, .f32⟩
  | 119 => ⟨S1024x512, .f32⟩
  | 120 => ⟨S1024x512, .f32⟩
  | 121 => ⟨S512x512, .f32⟩
  | 122 => ⟨S512x512, .f32⟩
  | 123 => ⟨S512x512, .f32⟩
  | 124 => ⟨S512x512, .f32⟩
  | 125 => ⟨S512x512, .f32⟩
  | 126 => ⟨S512x512, .f32⟩
  | 127 => ⟨S512x512, .f32⟩
  | _ => ⟨S8192x1536, .f32⟩

abbrev hbmTy0_2 (i : Nat) : BufTy := match i % 128 with
  | 0 => ⟨S256x512, .f32⟩
  | 1 => ⟨S256x512, .f32⟩
  | 2 => ⟨S256x512, .f32⟩
  | 3 => ⟨S256x512, .f32⟩
  | 4 => ⟨S256x512, .f32⟩
  | 5 => ⟨S256x512, .f32⟩
  | 6 => ⟨S256x512, .f32⟩
  | 7 => ⟨S128x512, .f32⟩
  | 8 => ⟨S128x512, .f32⟩
  | 9 => ⟨S128x512, .f32⟩
  | 10 => ⟨S128x512, .f32⟩
  | 11 => ⟨S128x512, .f32⟩
  | 12 => ⟨S128x512, .f32⟩
  | 13 => ⟨S128x512, .f32⟩
  | 14 => ⟨S64x512, .f32⟩
  | 15 => ⟨S64x512, .f32⟩
  | 16 => ⟨S64x512, .f32⟩
  | 17 => ⟨S64x512, .f32⟩
  | 18 => ⟨S64x512, .f32⟩
  | 19 => ⟨S64x512, .f32⟩
  | 20 => ⟨S64x512, .f32⟩
  | 21 => ⟨S32x512, .f32⟩
  | 22 => ⟨S32x512, .f32⟩
  | 23 => ⟨S32x512, .f32⟩
  | 24 => ⟨S32x512, .f32⟩
  | 25 => ⟨S32x512, .f32⟩
  | 26 => ⟨S32x512, .f32⟩
  | 27 => ⟨S32x512, .f32⟩
  | 28 => ⟨S16x512, .f32⟩
  | 29 => ⟨S16x512, .f32⟩
  | 30 => ⟨S16x512, .f32⟩
  | 31 => ⟨S16x512, .f32⟩
  | 32 => ⟨S16x512, .f32⟩
  | 33 => ⟨S16x512, .f32⟩
  | 34 => ⟨S16x512, .f32⟩
  | 35 => ⟨S8x512, .f32⟩
  | 36 => ⟨S8x512, .f32⟩
  | 37 => ⟨S8x512, .f32⟩
  | 38 => ⟨S8x512, .f32⟩
  | 39 => ⟨S8x512, .f32⟩
  | 40 => ⟨S8x512, .f32⟩
  | 41 => ⟨S8x512, .f32⟩
  | 42 => ⟨S4x512, .f32⟩
  | 43 => ⟨S4x512, .f32⟩
  | 44 => ⟨S4x512, .f32⟩
  | 45 => ⟨S4x512, .f32⟩
  | 46 => ⟨S4x512, .f32⟩
  | 47 => ⟨S4x512, .f32⟩
  | 48 => ⟨S4x512, .f32⟩
  | 49 => ⟨S2x512, .f32⟩
  | 50 => ⟨S2x512, .f32⟩
  | 51 => ⟨S2x512, .f32⟩
  | 52 => ⟨S2x512, .f32⟩
  | 53 => ⟨S2x512, .f32⟩
  | 54 => ⟨S2x512, .f32⟩
  | 55 => ⟨S2x512, .f32⟩
  | 56 => ⟨S1x512, .f32⟩
  | 57 => ⟨S1x512, .f32⟩
  | 58 => ⟨S1x512, .f32⟩
  | 59 => ⟨S1x512, .f32⟩
  | 60 => ⟨S1x512, .f32⟩
  | 61 => ⟨S1x512, .f32⟩
  | 62 => ⟨S1x512, .f32⟩
  | 63 => ⟨S0x512, .f32⟩
  | 64 => ⟨S0x512, .f32⟩
  | 65 => ⟨S0x512, .f32⟩
  | 66 => ⟨S0x512, .f32⟩
  | 67 => ⟨S0x512, .f32⟩
  | 68 => ⟨S0x512, .f32⟩
  | 69 => ⟨S0x512, .f32⟩
  | 70 => ⟨S1x512, .f32⟩
  | 71 => ⟨S1x512, .f32⟩
  | 72 => ⟨S1x512, .f32⟩
  | 73 => ⟨S1x512, .f32⟩
  | 74 => ⟨S_, .f32⟩
  | 75 => ⟨S2x512, .f32⟩
  | 76 => ⟨S_, .f32⟩
  | 77 => ⟨S2x512, .f32⟩
  | 78 => ⟨S2x512, .f32⟩
  | 79 => ⟨S_, .f32⟩
  | 80 => ⟨S2x512, .f32⟩
  | 81 => ⟨S_, .f32⟩
  | 82 => ⟨S2x512, .f32⟩
  | 83 => ⟨S2x512, .f32⟩
  | 84 => ⟨S1x512, .f32⟩
  | 85 => ⟨S1x512, .f32⟩
  | 86 => ⟨S1x512, .f32⟩
  | 87 => ⟨S1x512, .f32⟩
  | 88 => ⟨S1x512, .f32⟩
  | 89 => ⟨S1x512, .f32⟩
  | 90 => ⟨S1x512, .f32⟩
  | 91 => ⟨S1x512, .f32⟩
  | 92 => ⟨S2x512, .f32⟩
  | 93 => ⟨S1x512, .f32⟩
  | 94 => ⟨S2x512, .f32⟩
  | 95 => ⟨S_, .f32⟩
  | 96 => ⟨S4x512, .f32⟩
  | 97 => ⟨S_, .f32⟩
  | 98 => ⟨S4x512, .f32⟩
  | 99 => ⟨S4x512, .f32⟩
  | 100 => ⟨S_, .f32⟩
  | 101 => ⟨S4x512, .f32⟩
  | 102 => ⟨S_, .f32⟩
  | 103 => ⟨S4x512, .f32⟩
  | 104 => ⟨S4x512, .f32⟩
  | 105 => ⟨S3x512, .f32⟩
  | 106 => ⟨S3x512, .f32⟩
  | 107 => ⟨S3x512, .f32⟩
  | 108 => ⟨S3x512, .f32⟩
  | 109 => ⟨S3x512, .f32⟩
  | 110 => ⟨S3x512, .f32⟩
  | 111 => ⟨S3x512, .f32⟩
  | 112 => ⟨S1x512, .f32⟩
  | 113 => ⟨S4x512, .f32⟩
  | 114 => ⟨S1x512, .f32⟩
  | 115 => ⟨S4x512, .f32⟩
  | 116 => ⟨S_, .f32⟩
  | 117 => ⟨S8x512, .f32⟩
  | 118 => ⟨S_, .f32⟩
  | 119 => ⟨S8x512, .f32⟩
  | 120 => ⟨S8x512, .f32⟩
  | 121 => ⟨S_, .f32⟩
  | 122 => ⟨S8x512, .f32⟩
  | 123 => ⟨S_, .f32⟩
  | 124 => ⟨S8x512, .f32⟩
  | 125 => ⟨S8x512, .f32⟩
  | 126 => ⟨S7x512, .f32⟩
  | 127 => ⟨S7x512, .f32⟩
  | _ => ⟨S8192x1536, .f32⟩

abbrev hbmTy0_3 (i : Nat) : BufTy := match i % 128 with
  | 0 => ⟨S7x512, .f32⟩
  | 1 => ⟨S7x512, .f32⟩
  | 2 => ⟨S7x512, .f32⟩
  | 3 => ⟨S7x512, .f32⟩
  | 4 => ⟨S7x512, .f32⟩
  | 5 => ⟨S1x512, .f32⟩
  | 6 => ⟨S8x512, .f32⟩
  | 7 => ⟨S1x512, .f32⟩
  | 8 => ⟨S8x512, .f32⟩
  | 9 => ⟨S_, .f32⟩
  | 10 => ⟨S16x512, .f32⟩
  | 11 => ⟨S_, .f32⟩
  | 12 => ⟨S16x512, .f32⟩
  | 13 => ⟨S16x512, .f32⟩
  | 14 => ⟨S_, .f32⟩
  | 15 => ⟨S16x512, .f32⟩
  | 16 => ⟨S_, .f32⟩
  | 17 => ⟨S16x512, .f32⟩
  | 18 => ⟨S16x512, .f32⟩
  | 19 => ⟨S15x512, .f32⟩
  | 20 => ⟨S15x512, .f32⟩
  | 21 => ⟨S15x512, .f32⟩
  | 22 => ⟨S15x512, .f32⟩
  | 23 => ⟨S15x512, .f32⟩
  | 24 => ⟨S15x512, .f32⟩
  | 25 => ⟨S15x512, .f32⟩
  | 26 => ⟨S1x512, .f32⟩
  | 27 => ⟨S16x512, .f32⟩
  | 28 => ⟨S1x512, .f32⟩
  | 29 => ⟨S16x512, .f32⟩
  | 30 => ⟨S_, .f32⟩
  | 31 => ⟨S32x512, .f32⟩
  | 32 => ⟨S_, .f32⟩
  | 33 => ⟨S32x512, .f32⟩
  | 34 => ⟨S32x512, .f32⟩
  | 35 => ⟨S_, .f32⟩
  | 36 => ⟨S32x512, .f32⟩
  | 37 => ⟨S_, .f32⟩
  | 38 => ⟨S32x512, .f32⟩
  | 39 => ⟨S32x512, .f32⟩
  | 40 => ⟨S31x512, .f32⟩
  | 41 => ⟨S31x512, .f32⟩
  | 42 => ⟨S31x512, .f32⟩
  | 43 => ⟨S31x512, .f32⟩
  | 44 => ⟨S31x512, .f32⟩
  | 45 => ⟨S31x512, .f32⟩
  | 46 => ⟨S31x512, .f32⟩
  | 47 => ⟨S1x512, .f32⟩
  | 48 => ⟨S32x512, .f32⟩
  | 49 => ⟨S1x512, .f32⟩
  | 50 => ⟨S32x512, .f32⟩
  | 51 => ⟨S_, .f32⟩
  | 52 => ⟨S64x512, .f32⟩
  | 53 => ⟨S_, .f32⟩
  | 54 => ⟨S64x512, .f32⟩
  | 55 => ⟨S64x512, .f32⟩
  | 56 => ⟨S_, .f32⟩
  | 57 => ⟨S64x512, .f32⟩
  | 58 => ⟨S_, .f32⟩
  | 59 => ⟨S64x512, .f32⟩
  | 60 => ⟨S64x512, .f32⟩
  | 61 => ⟨S63x512, .f32⟩
  | 62 => ⟨S63x512, .f32⟩
  | 63 => ⟨S63x512, .f32⟩
  | 64 => ⟨S63x512, .f32⟩
  | 65 => ⟨S63x512, .f32⟩
  | 66 => ⟨S63x512, .f32⟩
  | 67 => ⟨S63x512, .f32⟩
  | 68 => ⟨S1x512, .f32⟩
  | 69 => ⟨S64x512, .f32⟩
  | 70 => ⟨S1x512, .f32⟩
  | 71 => ⟨S64x512, .f32⟩
  | 72 => ⟨S_, .f32⟩
  | 73 => ⟨S128x512, .f32⟩
  | 74 => ⟨S_, .f32⟩
  | 75 => ⟨S128x512, .f32⟩
  | 76 => ⟨S128x512, .f32⟩
  | 77 => ⟨S_, .f32⟩
  | 78 => ⟨S128x512, .f32⟩
  | 79 => ⟨S_, .f32⟩
  | 80 => ⟨S128x512, .f32⟩
  | 81 => ⟨S128x512, .f32⟩
  | 82 => ⟨S127x512, .f32⟩
  | 83 => ⟨S127x512, .f32⟩
  | 84 => ⟨S127x512, .f32⟩
  | 85 => ⟨S127x512, .f32⟩
  | 86 => ⟨S127x512, .f32⟩
  | 87 => ⟨S127x512, .f32⟩
  | 88 => ⟨S127x512, .f32⟩
  | 89 => ⟨S1x512, .f32⟩
  | 90 => ⟨S128x512, .f32⟩
  | 91 => ⟨S1x512, .f32⟩
  | 92 => ⟨S128x512, .f32⟩
  | 93 => ⟨S_, .f32⟩
  | 94 => ⟨S256x512, .f32⟩
  | 95 => ⟨S_, .f32⟩
  | 96 => ⟨S256x512, .f32⟩
  | 97 => ⟨S256x512, .f32⟩
  | 98 => ⟨S_, .f32⟩
  | 99 => ⟨S256x512, .f32⟩
  | 100 => ⟨S_, .f32⟩
  | 101 => ⟨S256x512, .f32⟩
  | 102 => ⟨S256x512, .f32⟩
  | 103 => ⟨S255x512, .f32⟩
  | 104 => ⟨S255x512, .f32⟩
  | 105 => ⟨S255x512, .f32⟩
  | 106 => ⟨S255x512, .f32⟩
  | 107 => ⟨S255x512, .f32⟩
  | 108 => ⟨S255x512, .f32⟩
  | 109 => ⟨S255x512, .f32⟩
  | 110 => ⟨S1x512, .f32⟩
  | 111 => ⟨S256x512, .f32⟩
  | 112 => ⟨S1x512, .f32⟩
  | 113 => ⟨S256x512, .f32⟩
  | 114 => ⟨S_, .f32⟩
  | 115 => ⟨S512x512, .f32⟩
  | 116 => ⟨S_, .f32⟩
  | 117 => ⟨S512x512, .f32⟩
  | 118 => ⟨S512x512, .f32⟩
  | 119 => ⟨S_, .f32⟩
  | 120 => ⟨S512x512, .f32⟩
  | 121 => ⟨S_, .f32⟩
  | 122 => ⟨S512x512, .f32⟩
  | 123 => ⟨S512x512, .f32⟩
  | 124 => ⟨S511x512, .f32⟩
  | 125 => ⟨S511x512, .f32⟩
  | 126 => ⟨S511x512, .f32⟩
  | 127 => ⟨S511x512, .f32⟩
  | _ => ⟨S8192x1536, .f32⟩

abbrev hbmTy0_4 (i : Nat) : BufTy := match i % 128 with
  | 0 => ⟨S511x512, .f32⟩
  | 1 => ⟨S511x512, .f32⟩
  | 2 => ⟨S511x512, .f32⟩
  | 3 => ⟨S1x512, .f32⟩
  | 4 => ⟨S512x512, .f32⟩
  | 5 => ⟨S1x512, .f32⟩
  | 6 => ⟨S512x512, .f32⟩
  | 7 => ⟨S_, .f32⟩
  | 8 => ⟨S1024x512, .f32⟩
  | 9 => ⟨S_, .f32⟩
  | 10 => ⟨S1024x512, .f32⟩
  | 11 => ⟨S1024x512, .f32⟩
  | 12 => ⟨S_, .f32⟩
  | 13 => ⟨S1024x512, .f32⟩
  | 14 => ⟨S_, .f32⟩
  | 15 => ⟨S1024x512, .f32⟩
  | 16 => ⟨S1024x512, .f32⟩
  | 17 => ⟨S1023x512, .f32⟩
  | 18 => ⟨S1023x512, .f32⟩
  | 19 => ⟨S1023x512, .f32⟩
  | 20 => ⟨S1023x512, .f32⟩
  | 21 => ⟨S1023x512, .f32⟩
  | 22 => ⟨S1023x512, .f32⟩
  | 23 => ⟨S1023x512, .f32⟩
  | 24 => ⟨S1x512, .f32⟩
  | 25 => ⟨S1024x512, .f32⟩
  | 26 => ⟨S1x512, .f32⟩
  | 27 => ⟨S1024x512, .f32⟩
  | 28 => ⟨S_, .f32⟩
  | 29 => ⟨S2048x512, .f32⟩
  | 30 => ⟨S_, .f32⟩
  | 31 => ⟨S2048x512, .f32⟩
  | 32 => ⟨S2048x512, .f32⟩
  | 33 => ⟨S_, .f32⟩
  | 34 => ⟨S2048x512, .f32⟩
  | 35 => ⟨S_, .f32⟩
  | 36 => ⟨S2048x512, .f32⟩
  | 37 => ⟨S2048x512, .f32⟩
  | 38 => ⟨S2047x512, .f32⟩
  | 39 => ⟨S2047x512, .f32⟩
  | 40 => ⟨S2047x512, .f32⟩
  | 41 => ⟨S2047x512, .f32⟩
  | 42 => ⟨S2047x512, .f32⟩
  | 43 => ⟨S2047x512, .f32⟩
  | 44 => ⟨S2047x512, .f32⟩
  | 45 => ⟨S1x512, .f32⟩
  | 46 => ⟨S2048x512, .f32⟩
  | 47 => ⟨S1x512, .f32⟩
  | 48 => ⟨S2048x512, .f32⟩
  | 49 => ⟨S_, .f32⟩
  | 50 => ⟨S4096x512, .f32⟩
  | 51 => ⟨S_, .f32⟩
  | 52 => ⟨S4096x512, .f32⟩
  | 53 => ⟨S4096x512, .f32⟩
  | 54 => ⟨S_, .f32⟩
  | 55 => ⟨S4096x512, .f32⟩
  | 56 => ⟨S_, .f32⟩
  | 57 => ⟨S4096x512, .f32⟩
  | 58 => ⟨S4096x512, .f32⟩
  | 59 => ⟨S4095x512, .f32⟩
  | 60 => ⟨S4095x512, .f32⟩
  | 61 => ⟨S4095x512, .f32⟩
  | 62 => ⟨S4095x512, .f32⟩
  | 63 => ⟨S4095x512, .f32⟩
  | 64 => ⟨S4095x512, .f32⟩
  | 65 => ⟨S4095x512, .f32⟩
  | 66 => ⟨S1x512, .f32⟩
  | 67 => ⟨S4096x512, .f32⟩
  | 68 => ⟨S1x512, .f32⟩
  | 69 => ⟨S4096x512, .f32⟩
  | 70 => ⟨S_, .f32⟩
  | 71 => ⟨S8192x512, .f32⟩
  | 72 => ⟨S_, .f32⟩
  | 73 => ⟨S8192x512, .f32⟩
  | 74 => ⟨S8192x512, .f32⟩
  | 75 => ⟨S_, .f32⟩
  | 76 => ⟨S8192x512, .f32⟩
  | 77 => ⟨S_, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S8192x512, .f32⟩
  | 91 => ⟨S_, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S8192x512, .f32⟩
  | 98 => ⟨S8192x512, .f32⟩
  | 99 => ⟨S8192x1024, .f32⟩
  | 100 => ⟨S_, .f32⟩
  | 101 => ⟨S8192x512, .f32⟩
  | 102 => ⟨S8192x1024, .f32⟩
  | 103 => ⟨S8192x1024, .f32⟩
  | 104 => ⟨S8192x512, .f32⟩
  | 105 => ⟨S8192x512, .f32⟩
  | 106 => ⟨S8192x512, .f32⟩
  | 107 => ⟨S_, .f32⟩
  | 108 => ⟨S512, .f32⟩
  | 109 => ⟨S1x512, .f32⟩
  | 110 => ⟨S8192x512, .f32⟩
  | 111 => ⟨S8192x512, .f32⟩
  | 112 => ⟨S_, .f32⟩
  | 113 => ⟨S512, .f32⟩
  | 114 => ⟨S8192x4x128, .f32⟩
  | 115 => ⟨S_, .f32⟩
  | 116 => ⟨S4x128, .f32⟩
  | 117 => ⟨S1x4x128, .f32⟩
  | 118 => ⟨S_, .f32⟩
  | 119 => ⟨S4x128, .f32⟩
  | 120 => ⟨S4x128x8192, .f32⟩
  | 121 => ⟨S4x128x128, .f32⟩
  | 122 => ⟨S4x128x128, .f32⟩
  | 123 => ⟨S1x512, .f32⟩
  | 124 => ⟨S1x4x128, .f32⟩
  | 125 => ⟨S1x4x128x128, .f32⟩
  | 126 => ⟨S1x512, .f32⟩
  | 127 => ⟨S2x512, .f32⟩
  | _ => ⟨S8192x1536, .f32⟩

abbrev hbmTy0_5 (i : Nat) : BufTy := match i % 128 with
  | 0 => ⟨S512x128, .f32⟩
  | _ => ⟨S8192x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_call0_cst : Ref sig .tc := ⟨.hbm, 26, rfl⟩
abbrev main_call0_call0_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_2 : Ref sig .tc := ⟨.hbm, 56, rfl⟩
abbrev main_v37 : Ref sig .tc := ⟨.hbm, 57, rfl⟩
abbrev main_v38 : Ref sig .tc := ⟨.hbm, 58, rfl⟩
abbrev main_c_3 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_5 : Ref sig .tc := ⟨.hbm, 76, rfl⟩
abbrev main_v54 : Ref sig .tc := ⟨.hbm, 77, rfl⟩
abbrev main_v55 : Ref sig .tc := ⟨.hbm, 78, rfl⟩
abbrev main_c_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_7 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_8 : Ref sig .tc := ⟨.hbm, 96, rfl⟩
abbrev main_v71 : Ref sig .tc := ⟨.hbm, 97, rfl⟩
abbrev main_v72 : Ref sig .tc := ⟨.hbm, 98, rfl⟩
abbrev main_c_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_10 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_11 : Ref sig .tc := ⟨.hbm, 166, rfl⟩
abbrev main_v138 : Ref sig .tc := ⟨.hbm, 167, rfl⟩
abbrev main_v139 : Ref sig .tc := ⟨.hbm, 168, rfl⟩
abbrev main_cst_12 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_cst_13 : Ref sig .tc := ⟨.hbm, 180, rfl⟩
abbrev main_v150 : Ref sig .tc := ⟨.hbm, 181, rfl⟩
abbrev main_v151 : Ref sig .tc := ⟨.hbm, 182, rfl⟩
abbrev main_cst_14 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_15 : Ref sig .tc := ⟨.hbm, 187, rfl⟩
abbrev main_v155 : Ref sig .tc := ⟨.hbm, 188, rfl⟩
abbrev main_v156 : Ref sig .tc := ⟨.hbm, 189, rfl⟩
abbrev main_call1_v0 : Ref sig .tc := ⟨.hbm, 190, rfl⟩
abbrev main_call1_call0_cst : Ref sig .tc := ⟨.hbm, 191, rfl⟩
abbrev main_call1_call0_v0 : Ref sig .tc := ⟨.hbm, 192, rfl⟩
abbrev main_call1_call0_v1 : Ref sig .tc := ⟨.hbm, 193, rfl⟩
abbrev main_call1_call0_v2 : Ref sig .tc := ⟨.hbm, 194, rfl⟩
abbrev main_call1_call0_v3 : Ref sig .tc := ⟨.hbm, 195, rfl⟩
abbrev main_call1_call0_v4 : Ref sig .tc := ⟨.hbm, 196, rfl⟩
abbrev main_call1_call0_v5 : Ref sig .tc := ⟨.hbm, 197, rfl⟩
abbrev main_call1_call0_v6 : Ref sig .tc := ⟨.hbm, 198, rfl⟩
abbrev main_call1_call0_v7 : Ref sig .tc := ⟨.hbm, 199, rfl⟩
abbrev main_call1_call0_v8 : Ref sig .tc := ⟨.hbm, 200, rfl⟩
abbrev main_call1_call0_v9 : Ref sig .tc := ⟨.hbm, 201, rfl⟩
abbrev main_call1_call0_v10 : Ref sig .tc := ⟨.hbm, 202, rfl⟩
abbrev main_call1_call0_v11 : Ref sig .tc := ⟨.hbm, 203, rfl⟩
abbrev main_call1_v1 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_16 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_c_17 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_18 : Ref sig .tc := ⟨.hbm, 221, rfl⟩
abbrev main_call2_v0 : Ref sig .tc := ⟨.hbm, 222, rfl⟩
abbrev main_call2_v1 : Ref sig .tc := ⟨.hbm, 223, rfl⟩
abbrev main_call2_v2 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_cst_19 : Ref sig .tc := ⟨.hbm, 330, rfl⟩
abbrev main_v276 : Ref sig .tc := ⟨.hbm, 331, rfl⟩
abbrev main_cst_20 : Ref sig .tc := ⟨.hbm, 332, rfl⟩
abbrev main_v277 : Ref sig .tc := ⟨.hbm, 333, rfl⟩
abbrev main_v278 : Ref sig .tc := ⟨.hbm, 334, rfl⟩
abbrev main_cst_21 : Ref sig .tc := ⟨.hbm, 335, rfl⟩
abbrev main_v279 : Ref sig .tc := ⟨.hbm, 336, rfl⟩
abbrev main_cst_22 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_cst_23 : Ref sig .tc := ⟨.hbm, 351, rfl⟩
abbrev main_v293 : Ref sig .tc := ⟨.hbm, 352, rfl⟩
abbrev main_cst_24 : Ref sig .tc := ⟨.hbm, 353, rfl⟩
abbrev main_v294 : Ref sig .tc := ⟨.hbm, 354, rfl⟩
abbrev main_v295 : Ref sig .tc := ⟨.hbm, 355, rfl⟩
abbrev main_cst_25 : Ref sig .tc := ⟨.hbm, 356, rfl⟩
abbrev main_v296 : Ref sig .tc := ⟨.hbm, 357, rfl⟩
abbrev main_cst_26 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_cst_27 : Ref sig .tc := ⟨.hbm, 372, rfl⟩
abbrev main_v310 : Ref sig .tc := ⟨.hbm, 373, rfl⟩
abbrev main_cst_28 : Ref sig .tc := ⟨.hbm, 374, rfl⟩
abbrev main_v311 : Ref sig .tc := ⟨.hbm, 375, rfl⟩
abbrev main_v312 : Ref sig .tc := ⟨.hbm, 376, rfl⟩
abbrev main_cst_29 : Ref sig .tc := ⟨.hbm, 377, rfl⟩
abbrev main_v313 : Ref sig .tc := ⟨.hbm, 378, rfl⟩
abbrev main_cst_30 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_cst_31 : Ref sig .tc := ⟨.hbm, 393, rfl⟩
abbrev main_v327 : Ref sig .tc := ⟨.hbm, 394, rfl⟩
abbrev main_cst_32 : Ref sig .tc := ⟨.hbm, 395, rfl⟩
abbrev main_v328 : Ref sig .tc := ⟨.hbm, 396, rfl⟩
abbrev main_v329 : Ref sig .tc := ⟨.hbm, 397, rfl⟩
abbrev main_cst_33 : Ref sig .tc := ⟨.hbm, 398, rfl⟩
abbrev main_v330 : Ref sig .tc := ⟨.hbm, 399, rfl⟩
abbrev main_cst_34 : Ref sig .tc := ⟨.hbm, 400, rfl⟩
abbrev main_v331 : Ref sig .tc := ⟨.hbm, 401, rfl⟩
abbrev main_v332 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_cst_35 : Ref sig .tc := ⟨.hbm, 414, rfl⟩
abbrev main_v344 : Ref sig .tc := ⟨.hbm, 415, rfl⟩
abbrev main_cst_36 : Ref sig .tc := ⟨.hbm, 416, rfl⟩
abbrev main_v345 : Ref sig .tc := ⟨.hbm, 417, rfl⟩
abbrev main_v346 : Ref sig .tc := ⟨.hbm, 418, rfl⟩
abbrev main_cst_37 : Ref sig .tc := ⟨.hbm, 419, rfl⟩
abbrev main_v347 : Ref sig .tc := ⟨.hbm, 420, rfl⟩
abbrev main_cst_38 : Ref sig .tc := ⟨.hbm, 421, rfl⟩
abbrev main_v348 : Ref sig .tc := ⟨.hbm, 422, rfl⟩
abbrev main_v349 : Ref sig .tc := ⟨.hbm, 423, rfl⟩
abbrev main_v350 : Ref sig .tc := ⟨.hbm, 424, rfl⟩
abbrev main_v351 : Ref sig .tc := ⟨.hbm, 425, rfl⟩
abbrev main_v352 : Ref sig .tc := ⟨.hbm, 426, rfl⟩
abbrev main_v353 : Ref sig .tc := ⟨.hbm, 427, rfl⟩
abbrev main_v354 : Ref sig .tc := ⟨.hbm, 428, rfl⟩
abbrev main_v355 : Ref sig .tc := ⟨.hbm, 429, rfl⟩
abbrev main_v356 : Ref sig .tc := ⟨.hbm, 430, rfl⟩
abbrev main_v357 : Ref sig .tc := ⟨.hbm, 431, rfl⟩
abbrev main_v358 : Ref sig .tc := ⟨.hbm, 432, rfl⟩
abbrev main_v359 : Ref sig .tc := ⟨.hbm, 433, rfl⟩
abbrev main_v360 : Ref sig .tc := ⟨.hbm, 434, rfl⟩
abbrev main_cst_39 : Ref sig .tc := ⟨.hbm, 435, rfl⟩
abbrev main_v361 : Ref sig .tc := ⟨.hbm, 436, rfl⟩
abbrev main_cst_40 : Ref sig .tc := ⟨.hbm, 437, rfl⟩
abbrev main_v362 : Ref sig .tc := ⟨.hbm, 438, rfl⟩
abbrev main_v363 : Ref sig .tc := ⟨.hbm, 439, rfl⟩
abbrev main_cst_41 : Ref sig .tc := ⟨.hbm, 440, rfl⟩
abbrev main_v364 : Ref sig .tc := ⟨.hbm, 441, rfl⟩
abbrev main_cst_42 : Ref sig .tc := ⟨.hbm, 442, rfl⟩
abbrev main_v365 : Ref sig .tc := ⟨.hbm, 443, rfl⟩
abbrev main_v366 : Ref sig .tc := ⟨.hbm, 444, rfl⟩
abbrev main_v367 : Ref sig .tc := ⟨.hbm, 445, rfl⟩
abbrev main_v368 : Ref sig .tc := ⟨.hbm, 446, rfl⟩
abbrev main_v369 : Ref sig .tc := ⟨.hbm, 447, rfl⟩
abbrev main_v370 : Ref sig .tc := ⟨.hbm, 448, rfl⟩
abbrev main_v371 : Ref sig .tc := ⟨.hbm, 449, rfl⟩
abbrev main_v372 : Ref sig .tc := ⟨.hbm, 450, rfl⟩
abbrev main_v373 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_cst_43 : Ref sig .tc := ⟨.hbm, 456, rfl⟩
abbrev main_v378 : Ref sig .tc := ⟨.hbm, 457, rfl⟩
abbrev main_cst_44 : Ref sig .tc := ⟨.hbm, 458, rfl⟩
abbrev main_v379 : Ref sig .tc := ⟨.hbm, 459, rfl⟩
abbrev main_v380 : Ref sig .tc := ⟨.hbm, 460, rfl⟩
abbrev main_cst_45 : Ref sig .tc := ⟨.hbm, 461, rfl⟩
abbrev main_v381 : Ref sig .tc := ⟨.hbm, 462, rfl⟩
abbrev main_cst_46 : Ref sig .tc := ⟨.hbm, 463, rfl⟩
abbrev main_v382 : Ref sig .tc := ⟨.hbm, 464, rfl⟩
abbrev main_v383 : Ref sig .tc := ⟨.hbm, 465, rfl⟩
abbrev main_v384 : Ref sig .tc := ⟨.hbm, 466, rfl⟩
abbrev main_v385 : Ref sig .tc := ⟨.hbm, 467, rfl⟩
abbrev main_v386 : Ref sig .tc := ⟨.hbm, 468, rfl⟩
abbrev main_v387 : Ref sig .tc := ⟨.hbm, 469, rfl⟩
abbrev main_v388 : Ref sig .tc := ⟨.hbm, 470, rfl⟩
abbrev main_v389 : Ref sig .tc := ⟨.hbm, 471, rfl⟩
abbrev main_v390 : Ref sig .tc := ⟨.hbm, 472, rfl⟩
abbrev main_v391 : Ref sig .tc := ⟨.hbm, 473, rfl⟩
abbrev main_v392 : Ref sig .tc := ⟨.hbm, 474, rfl⟩
abbrev main_v393 : Ref sig .tc := ⟨.hbm, 475, rfl⟩
abbrev main_v394 : Ref sig .tc := ⟨.hbm, 476, rfl⟩
abbrev main_cst_47 : Ref sig .tc := ⟨.hbm, 477, rfl⟩
abbrev main_v395 : Ref sig .tc := ⟨.hbm, 478, rfl⟩
abbrev main_cst_48 : Ref sig .tc := ⟨.hbm, 479, rfl⟩
abbrev main_v396 : Ref sig .tc := ⟨.hbm, 480, rfl⟩
abbrev main_v397 : Ref sig .tc := ⟨.hbm, 481, rfl⟩
abbrev main_cst_49 : Ref sig .tc := ⟨.hbm, 482, rfl⟩
abbrev main_v398 : Ref sig .tc := ⟨.hbm, 483, rfl⟩
abbrev main_cst_50 : Ref sig .tc := ⟨.hbm, 484, rfl⟩
abbrev main_v399 : Ref sig .tc := ⟨.hbm, 485, rfl⟩
abbrev main_v400 : Ref sig .tc := ⟨.hbm, 486, rfl⟩
abbrev main_v401 : Ref sig .tc := ⟨.hbm, 487, rfl⟩
abbrev main_v402 : Ref sig .tc := ⟨.hbm, 488, rfl⟩
abbrev main_v403 : Ref sig .tc := ⟨.hbm, 489, rfl⟩
abbrev main_v404 : Ref sig .tc := ⟨.hbm, 490, rfl⟩
abbrev main_v405 : Ref sig .tc := ⟨.hbm, 491, rfl⟩
abbrev main_v406 : Ref sig .tc := ⟨.hbm, 492, rfl⟩
abbrev main_v407 : Ref sig .tc := ⟨.hbm, 493, rfl⟩
abbrev main_v408 : Ref sig .tc := ⟨.hbm, 494, rfl⟩
abbrev main_v409 : Ref sig .tc := ⟨.hbm, 495, rfl⟩
abbrev main_v410 : Ref sig .tc := ⟨.hbm, 496, rfl⟩
abbrev main_v411 : Ref sig .tc := ⟨.hbm, 497, rfl⟩
abbrev main_cst_51 : Ref sig .tc := ⟨.hbm, 498, rfl⟩
abbrev main_v412 : Ref sig .tc := ⟨.hbm, 499, rfl⟩
abbrev main_cst_52 : Ref sig .tc := ⟨.hbm, 500, rfl⟩
abbrev main_v413 : Ref sig .tc := ⟨.hbm, 501, rfl⟩
abbrev main_v414 : Ref sig .tc := ⟨.hbm, 502, rfl⟩
abbrev main_cst_53 : Ref sig .tc := ⟨.hbm, 503, rfl⟩
abbrev main_v415 : Ref sig .tc := ⟨.hbm, 504, rfl⟩
abbrev main_cst_54 : Ref sig .tc := ⟨.hbm, 505, rfl⟩
abbrev main_v416 : Ref sig .tc := ⟨.hbm, 506, rfl⟩
abbrev main_v417 : Ref sig .tc := ⟨.hbm, 507, rfl⟩
abbrev main_v418 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_v422 : Ref sig .tc := ⟨.hbm, 512, rfl⟩
abbrev main_v423 : Ref sig .tc := ⟨.hbm, 513, rfl⟩
abbrev main_v424 : Ref sig .tc := ⟨.hbm, 514, rfl⟩
abbrev main_v425 : Ref sig .tc := ⟨.hbm, 515, rfl⟩
abbrev main_v426 : Ref sig .tc := ⟨.hbm, 516, rfl⟩
abbrev main_v427 : Ref sig .tc := ⟨.hbm, 517, rfl⟩
abbrev main_v428 : Ref sig .tc := ⟨.hbm, 518, rfl⟩
abbrev main_cst_55 : Ref sig .tc := ⟨.hbm, 519, rfl⟩
abbrev main_v429 : Ref sig .tc := ⟨.hbm, 520, rfl⟩
abbrev main_cst_56 : Ref sig .tc := ⟨.hbm, 521, rfl⟩
abbrev main_v430 : Ref sig .tc := ⟨.hbm, 522, rfl⟩
abbrev main_v431 : Ref sig .tc := ⟨.hbm, 523, rfl⟩
abbrev main_cst_57 : Ref sig .tc := ⟨.hbm, 524, rfl⟩
abbrev main_v432 : Ref sig .tc := ⟨.hbm, 525, rfl⟩
abbrev main_cst_58 : Ref sig .tc := ⟨.hbm, 526, rfl⟩
abbrev main_v433 : Ref sig .tc := ⟨.hbm, 527, rfl⟩
abbrev main_v434 : Ref sig .tc := ⟨.hbm, 528, rfl⟩
abbrev main_v435 : Ref sig .tc := ⟨.hbm, 529, rfl⟩
abbrev main_v436 : Ref sig .tc := ⟨.hbm, 530, rfl⟩
abbrev main_v437 : Ref sig .tc := ⟨.hbm, 531, rfl⟩
abbrev main_v438 : Ref sig .tc := ⟨.hbm, 532, rfl⟩
abbrev main_v439 : Ref sig .tc := ⟨.hbm, 533, rfl⟩
abbrev main_v440 : Ref sig .tc := ⟨.hbm, 534, rfl⟩
abbrev main_v441 : Ref sig .tc := ⟨.hbm, 535, rfl⟩
abbrev main_v442 : Ref sig .tc := ⟨.hbm, 536, rfl⟩
abbrev main_v443 : Ref sig .tc := ⟨.hbm, 537, rfl⟩
abbrev main_v444 : Ref sig .tc := ⟨.hbm, 538, rfl⟩
abbrev main_v445 : Ref sig .tc := ⟨.hbm, 539, rfl⟩
abbrev main_cst_59 : Ref sig .tc := ⟨.hbm, 540, rfl⟩
abbrev main_v446 : Ref sig .tc := ⟨.hbm, 541, rfl⟩
abbrev main_cst_60 : Ref sig .tc := ⟨.hbm, 542, rfl⟩
abbrev main_v447 : Ref sig .tc := ⟨.hbm, 543, rfl⟩
abbrev main_v448 : Ref sig .tc := ⟨.hbm, 544, rfl⟩
abbrev main_cst_61 : Ref sig .tc := ⟨.hbm, 545, rfl⟩
abbrev main_v449 : Ref sig .tc := ⟨.hbm, 546, rfl⟩
abbrev main_cst_62 : Ref sig .tc := ⟨.hbm, 547, rfl⟩
abbrev main_v450 : Ref sig .tc := ⟨.hbm, 548, rfl⟩
abbrev main_v451 : Ref sig .tc := ⟨.hbm, 549, rfl⟩
abbrev main_v452 : Ref sig .tc := ⟨.hbm, 550, rfl⟩
abbrev main_v453 : Ref sig .tc := ⟨.hbm, 551, rfl⟩
abbrev main_v454 : Ref sig .tc := ⟨.hbm, 552, rfl⟩
abbrev main_v455 : Ref sig .tc := ⟨.hbm, 553, rfl⟩
abbrev main_v456 : Ref sig .tc := ⟨.hbm, 554, rfl⟩
abbrev main_v457 : Ref sig .tc := ⟨.hbm, 555, rfl⟩
abbrev main_v458 : Ref sig .tc := ⟨.hbm, 556, rfl⟩
abbrev main_v459 : Ref sig .tc := ⟨.hbm, 557, rfl⟩
abbrev main_v460 : Ref sig .tc := ⟨.hbm, 558, rfl⟩
abbrev main_v461 : Ref sig .tc := ⟨.hbm, 559, rfl⟩
abbrev main_v462 : Ref sig .tc := ⟨.hbm, 560, rfl⟩
abbrev main_cst_63 : Ref sig .tc := ⟨.hbm, 561, rfl⟩
abbrev main_v463 : Ref sig .tc := ⟨.hbm, 562, rfl⟩
abbrev main_cst_64 : Ref sig .tc := ⟨.hbm, 563, rfl⟩
abbrev main_v464 : Ref sig .tc := ⟨.hbm, 564, rfl⟩
abbrev main_v465 : Ref sig .tc := ⟨.hbm, 565, rfl⟩
abbrev main_cst_65 : Ref sig .tc := ⟨.hbm, 566, rfl⟩
abbrev main_v466 : Ref sig .tc := ⟨.hbm, 567, rfl⟩
abbrev main_cst_66 : Ref sig .tc := ⟨.hbm, 568, rfl⟩
abbrev main_v467 : Ref sig .tc := ⟨.hbm, 569, rfl⟩
abbrev main_v468 : Ref sig .tc := ⟨.hbm, 570, rfl⟩
abbrev main_v469 : Ref sig .tc := ⟨.hbm, 571, rfl⟩
abbrev main_v470 : Ref sig .tc := ⟨.hbm, 572, rfl⟩
abbrev main_v471 : Ref sig .tc := ⟨.hbm, 573, rfl⟩
abbrev main_v472 : Ref sig .tc := ⟨.hbm, 574, rfl⟩
abbrev main_v473 : Ref sig .tc := ⟨.hbm, 575, rfl⟩
abbrev main_v474 : Ref sig .tc := ⟨.hbm, 576, rfl⟩
abbrev main_v475 : Ref sig .tc := ⟨.hbm, 577, rfl⟩
abbrev main_v476 : Ref sig .tc := ⟨.hbm, 578, rfl⟩
abbrev main_v477 : Ref sig .tc := ⟨.hbm, 579, rfl⟩
abbrev main_v478 : Ref sig .tc := ⟨.hbm, 580, rfl⟩
abbrev main_v479 : Ref sig .tc := ⟨.hbm, 581, rfl⟩
abbrev main_cst_67 : Ref sig .tc := ⟨.hbm, 582, rfl⟩
abbrev main_v480 : Ref sig .tc := ⟨.hbm, 583, rfl⟩
abbrev main_cst_68 : Ref sig .tc := ⟨.hbm, 584, rfl⟩
abbrev main_v481 : Ref sig .tc := ⟨.hbm, 585, rfl⟩
abbrev main_v482 : Ref sig .tc := ⟨.hbm, 586, rfl⟩
abbrev main_cst_69 : Ref sig .tc := ⟨.hbm, 587, rfl⟩
abbrev main_v483 : Ref sig .tc := ⟨.hbm, 588, rfl⟩
abbrev main_cst_70 : Ref sig .tc := ⟨.hbm, 589, rfl⟩
abbrev main_v484 : Ref sig .tc := ⟨.hbm, 590, rfl⟩
abbrev main_v485 : Ref sig .tc := ⟨.hbm, 591, rfl⟩
abbrev main_v486 : Ref sig .tc := ⟨.hbm, 592, rfl⟩
abbrev main_v487 : Ref sig .tc := ⟨.hbm, 593, rfl⟩
abbrev main_v488 : Ref sig .tc := ⟨.hbm, 594, rfl⟩
abbrev main_cst_71 : Ref sig .tc := ⟨.hbm, 595, rfl⟩
abbrev main_v489 : Ref sig .tc := ⟨.hbm, 596, rfl⟩
abbrev main_v490 : Ref sig .tc := ⟨.hbm, 597, rfl⟩
abbrev main_v491 : Ref sig .tc := ⟨.hbm, 598, rfl⟩
abbrev main_cst_72 : Ref sig .tc := ⟨.hbm, 599, rfl⟩
abbrev main_v492 : Ref sig .tc := ⟨.hbm, 600, rfl⟩
abbrev main_v493 : Ref sig .tc := ⟨.hbm, 601, rfl⟩
abbrev main_v494 : Ref sig .tc := ⟨.hbm, 602, rfl⟩
abbrev main_cst_73 : Ref sig .tc := ⟨.hbm, 603, rfl⟩
abbrev main_v495 : Ref sig .tc := ⟨.hbm, 604, rfl⟩
abbrev main_v496 : Ref sig .tc := ⟨.hbm, 605, rfl⟩
abbrev main_cst_74 : Ref sig .tc := ⟨.hbm, 606, rfl⟩
abbrev main_v497 : Ref sig .tc := ⟨.hbm, 607, rfl⟩
abbrev main_v498 : Ref sig .tc := ⟨.hbm, 608, rfl⟩
abbrev main_v499 : Ref sig .tc := ⟨.hbm, 609, rfl⟩
abbrev main_v500 : Ref sig .tc := ⟨.hbm, 610, rfl⟩
abbrev main_v501 : Ref sig .tc := ⟨.hbm, 611, rfl⟩
abbrev main_cst_75 : Ref sig .tc := ⟨.hbm, 612, rfl⟩
abbrev main_v502 : Ref sig .tc := ⟨.hbm, 613, rfl⟩
abbrev main_v503 : Ref sig .tc := ⟨.hbm, 614, rfl⟩
abbrev main_v504 : Ref sig .tc := ⟨.hbm, 615, rfl⟩
abbrev main_v505 : Ref sig .tc := ⟨.hbm, 616, rfl⟩
abbrev main_v506 : Ref sig .tc := ⟨.hbm, 617, rfl⟩
abbrev main_v507 : Ref sig .tc := ⟨.hbm, 618, rfl⟩
abbrev main_cst_76 : Ref sig .tc := ⟨.hbm, 619, rfl⟩
abbrev main_v508 : Ref sig .tc := ⟨.hbm, 620, rfl⟩
abbrev main_v509 : Ref sig .tc := ⟨.hbm, 621, rfl⟩
abbrev main_v510 : Ref sig .tc := ⟨.hbm, 622, rfl⟩
abbrev main_v511 : Ref sig .tc := ⟨.hbm, 623, rfl⟩
abbrev main_cst_77 : Ref sig .tc := ⟨.hbm, 624, rfl⟩
abbrev main_v512 : Ref sig .tc := ⟨.hbm, 625, rfl⟩
abbrev main_v513 : Ref sig .tc := ⟨.hbm, 626, rfl⟩
abbrev main_cst_78 : Ref sig .tc := ⟨.hbm, 627, rfl⟩
abbrev main_v514 : Ref sig .tc := ⟨.hbm, 628, rfl⟩
abbrev main_v515 : Ref sig .tc := ⟨.hbm, 629, rfl⟩
abbrev main_cst_79 : Ref sig .tc := ⟨.hbm, 630, rfl⟩
abbrev main_v516 : Ref sig .tc := ⟨.hbm, 631, rfl⟩
abbrev main_v517 : Ref sig .tc := ⟨.hbm, 632, rfl⟩
abbrev main_v518 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_v523 : Ref sig .tc := ⟨.hbm, 638, rfl⟩
abbrev main_v524 : Ref sig .tc := ⟨.hbm, 639, rfl⟩
abbrev main_v525 : Ref sig .tc := ⟨.hbm, 640, rfl⟩

abbrev nD : Nat := 1
abbrev τ : Topo := Topo.v7x

variable {F : FTy → Type} [FloatOps F]
-- ==== MlpA.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S4x1024x512 : Shape := ⟨3, ![4, 1024, 512]⟩
abbrev S4x512x1024 : Shape := ⟨3, ![4, 512, 1024]⟩
abbrev S512x1024 : Shape := ⟨2, ![512, 1024]⟩
abbrev S512x2048 : Shape := ⟨2, ![512, 2048]⟩
abbrev S2048x1024 : Shape := ⟨2, ![2048, 1024]⟩
abbrev S1024x512 : Shape := ⟨2, ![1024, 512]⟩
abbrev S512x512 : Shape := ⟨2, ![512, 512]⟩
abbrev S1x1024x512 : Shape := ⟨3, ![1, 1024, 512]⟩
abbrev S1x512x1024 : Shape := ⟨3, ![1, 512, 1024]⟩

abbrev nBuf : Space → Nat
  | .hbm => 35
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S8192x1024, .bf16⟩
  | .hbm, ⟨25, _⟩ => ⟨S8192x4096, .bf16⟩
  | .hbm, ⟨26, _⟩ => ⟨S1024x4096, .f32⟩
  | .hbm, ⟨27, _⟩ => ⟨S1024x8x512, .f32⟩
  | .hbm, ⟨28, _⟩ => ⟨S8x1024x512, .f32⟩
  | .hbm, ⟨29, _⟩ => ⟨S8x1024x512, .bf16⟩
  | .hbm, ⟨30, _⟩ => ⟨S4096x1024, .f32⟩
  | .hbm, ⟨31, _⟩ => ⟨S4096x1024, .bf16⟩
  | .hbm, ⟨32, _⟩ => ⟨S8192x1024, .f32⟩
  | .hbm, ⟨33, _⟩ => ⟨S4x1024x512, .bf16⟩
  | .hbm, ⟨34, _⟩ => ⟨S4x512x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S4x1024x512, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S4x1024x512, .f32⟩
  | .local _ .vmem, ⟨11, _⟩ => ⟨S2048x1024, .f32⟩
  | .local _ .vmem, ⟨12, _⟩ => ⟨S1024x512, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpARefIdeal.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S8192x2048 : Shape := ⟨2, ![8192, 2048]⟩
abbrev S1024x4x512 : Shape := ⟨3, ![1024, 4, 512]⟩
abbrev S4x1024x512 : Shape := ⟨3, ![4, 1024, 512]⟩
abbrev S4x512x1024 : Shape := ⟨3, ![4, 512, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024x2048, .f32⟩
  | .hbm, ⟨23, _⟩ => ⟨S1024x2048, .f32⟩
  | .hbm, ⟨24, _⟩ => ⟨S1x2048x1024, .f32⟩
  | .hbm, ⟨25, _⟩ => ⟨S2048x1024, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .i1⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x1024, .f32⟩
  | .hbm, ⟨40, _⟩ => ⟨S1024x2048, .f32⟩
  | .hbm, ⟨41, _⟩ => ⟨S2048x1024, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S2048x1024, .f32⟩
  | .hbm, ⟨48, _⟩ => ⟨S1024x2048, .f32⟩
  | .hbm, ⟨49, _⟩ => ⟨S8192x1024, .f32⟩
  | .hbm, ⟨50, _⟩ => ⟨S1024x4x512, .f32⟩
  | .hbm, ⟨51, _⟩ => ⟨S4x1024x512, .f32⟩
  | .hbm, ⟨52, _⟩ => ⟨S4x1024x512, .bf16⟩
  | .hbm, ⟨53, _⟩ => ⟨S4x512x1024, .f32⟩
  | .hbm, ⟨54, _⟩ => ⟨S4x512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MlpB.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S8x1024 : Shape := ⟨2, ![8, 1024]⟩
abbrev S4x1024x512 : Shape := ⟨3, ![4, 1024, 512]⟩
abbrev S4x512x1024 : Shape := ⟨3, ![4, 512, 1024]⟩
abbrev S512x1024 : Shape := ⟨2, ![512, 1024]⟩
abbrev S512x2048 : Shape := ⟨2, ![512, 2048]⟩
abbrev S2048x1024 : Shape := ⟨2, ![2048, 1024]⟩
abbrev S1024x512 : Shape := ⟨2, ![1024, 512]⟩
abbrev S512x512 : Shape := ⟨2, ![512, 512]⟩
abbrev S1x1024x512 : Shape := ⟨3, ![1, 1024, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 37
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x4096, .f32⟩
  | .hbm, ⟨24, _⟩ => ⟨S8192x4096, .f32⟩
  | .hbm, ⟨25, _⟩ => ⟨S8192x1024, .bf16⟩
  | .hbm, ⟨26, _⟩ => ⟨S8192x4096, .bf16⟩
  | .hbm, ⟨27, _⟩ => ⟨S1024x4096, .f32⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S4096x1024, .f32⟩
  | .hbm, ⟨32, _⟩ => ⟨S4096x1024, .bf16⟩
  | .hbm, ⟨33, _⟩ => ⟨S8192x1024, .f32⟩
  | .hbm, ⟨34, _⟩ => ⟨S8x1024, .f32⟩
  | .hbm, ⟨35, _⟩ => ⟨S4x1024x512, .bf16⟩
  | .hbm, ⟨36, _⟩ => ⟨S4x512x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S4x1024x512, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | .local _ .vmem, ⟨16, _⟩ => ⟨S4x1024x512, .f32⟩
  | .local _ .vmem, ⟨17, _⟩ => ⟨S2048x1024, .f32⟩
  | .local _ .vmem, ⟨18, _⟩ => ⟨S1024x512, .bf16⟩
  | .local _ .vmem, ⟨19, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpBRefIdeal.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S7x1024 : Shape := ⟨2, ![7, 1024]⟩
abbrev S8x1024 : Shape := ⟨2, ![8, 1024]⟩
abbrev S1024x4x512 : Shape := ⟨3, ![1024, 4, 512]⟩
abbrev S4x1024x512 : Shape := ⟨3, ![4, 1024, 512]⟩
abbrev S4x512x1024 : Shape := ⟨3, ![4, 512, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S8192x1024, .f32⟩
  | .hbm, ⟨5, _⟩ => ⟨S8192x1024, .f32⟩
  | .hbm, ⟨6, _⟩ => ⟨S1x1024x2048, .f32⟩
  | .hbm, ⟨7, _⟩ => ⟨S1024x2048, .f32⟩
  | .hbm, ⟨8, _⟩ => ⟨S1x2048x1024, .f32⟩
  | .hbm, ⟨9, _⟩ => ⟨S2048x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .i1⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1024x2048, .f32⟩
  | .hbm, ⟨48, _⟩ => ⟨S2048x1024, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S2048x1024, .f32⟩
  | .hbm, ⟨55, _⟩ => ⟨S1024x2048, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S1x1024, .f32⟩
  | .hbm, ⟨85, _⟩ => ⟨S_, .f32⟩
  | .hbm, ⟨86, _⟩ => ⟨S7x1024, .f32⟩
  | .hbm, ⟨87, _⟩ => ⟨S8x1024, .f32⟩
  | .hbm, ⟨88, _⟩ => ⟨S1024x4x512, .f32⟩
  | .hbm, ⟨89, _⟩ => ⟨S4x1024x512, .f32⟩
  | .hbm, ⟨90, _⟩ => ⟨S4x1024x512, .bf16⟩
  | .hbm, ⟨91, _⟩ => ⟨S4x512x1024, .f32⟩
  | .hbm, ⟨92, _⟩ => ⟨S4x512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Ple.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 19
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1x8192x256, .f32⟩
  | .hbm, ⟨2, _⟩ => ⟨S1x8192x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S1x256x1024, .f32⟩
  | .hbm, ⟨7, _⟩ => ⟨S1024, .f32⟩
  | .hbm, ⟨8, _⟩ => ⟨S8192x256, .f32⟩
  | .hbm, ⟨9, _⟩ => ⟨S8192x1024, .f32⟩
  | .hbm, ⟨10, _⟩ => ⟨S1024x1024, .f32⟩
  | .hbm, ⟨11, _⟩ => ⟨S1024x1024, .bf16⟩
  | .hbm, ⟨12, _⟩ => ⟨S256x1024, .f32⟩
  | .hbm, ⟨13, _⟩ => ⟨S256x1024, .bf16⟩
  | .hbm, ⟨14, _⟩ => ⟨S1x1024, .f32⟩
  | .hbm, ⟨15, _⟩ => ⟨S8192x1024, .f32⟩
  | .hbm, ⟨16, _⟩ => ⟨S8x1024, .f32⟩
  | .hbm, ⟨17, _⟩ => ⟨S1024x1024, .bf16⟩
  | .hbm, ⟨18, _⟩ => ⟨S256x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S1024x1024, .f32⟩
  | .local _ .vmem, ⟨15, _⟩ => ⟨S256x1024, .f32⟩
  | .local _ .vmem, ⟨16, _⟩ => ⟨S1024x1024, .bf16⟩
  | .local _ .vmem, ⟨17, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleRefIdeal.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8192x256 : Shape := ⟨2, ![8192, 256]⟩
abbrev S256x1024 : Shape := ⟨2, ![256, 1024]⟩
abbrev S1024x256 : Shape := ⟨2, ![1024, 256]⟩
abbrev S4x1024 : Shape := ⟨2, ![4, 1024]⟩
abbrev S8x1024 : Shape := ⟨2, ![8, 1024]⟩

abbrev nBuf : Space → Nat
  | .hbm => 173
  | .vmem => 0
  | .smem => 0
  | _ => 0

abbrev hbmTy0_0 (i : Nat) : BufTy := match i % 128 with
  | 0 => ⟨S8192x1024, .f32⟩
  | 1 => ⟨S1x1x8192x256, .f32⟩
  | 2 => ⟨S1x8192x1024, .f32⟩
  | 3 => ⟨S1x1024, .f32⟩
  | 4 => ⟨S1x1024x1024, .f32⟩
  | 5 => ⟨S1x1024, .f32⟩
  | 6 => ⟨S1x256x1024, .f32⟩
  | 7 => ⟨S1024, .f32⟩
  | 8 => ⟨S1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S1024x1024, .f32⟩
  | 30 => ⟨S8192x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x256, .f32⟩
  | 48 => ⟨S256x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S1x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192, .f32⟩
  | 80 => ⟨S_, .f32⟩
  | 81 => ⟨S8192, .f32⟩
  | 82 => ⟨S8192, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8192, .f32⟩
  | 91 => ⟨S_, .f32⟩
  | 92 => ⟨S8192, .f32⟩
  | 93 => ⟨S8192, .f32⟩
  | 94 => ⟨S8192x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S1024x256, .f32⟩
  | 124 => ⟨S256x1024, .f32⟩
  | 125 => ⟨S1x256x1024, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1x1024, .f32⟩
  | 2 => ⟨S_, .f32⟩
  | 3 => ⟨S1024, .f32⟩
  | 4 => ⟨S1x1024, .f32⟩
  | 5 => ⟨S1024x1024, .f32⟩
  | 6 => ⟨S1024x1024, .f32⟩
  | 7 => ⟨S8192x1024, .f32⟩
  | 8 => ⟨S1x1024x1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1024, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S1x1024, .f32⟩
  | 37 => ⟨S1x1024, .f32⟩
  | 38 => ⟨S_, .f32⟩
  | 39 => ⟨S4x1024, .f32⟩
  | 40 => ⟨S8x1024, .f32⟩
  | 41 => ⟨S1024x1024, .f32⟩
  | 42 => ⟨S1024x1024, .bf16⟩
  | 43 => ⟨S256x1024, .f32⟩
  | 44 => ⟨S256x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_cst_15 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_cst_17 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_18 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_cst_20 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_23 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_25 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_26 : Ref sig .tc := ⟨.hbm, 143, rfl⟩
abbrev main_v108 : Ref sig .tc := ⟨.hbm, 144, rfl⟩
abbrev main_v109 : Ref sig .tc := ⟨.hbm, 145, rfl⟩
abbrev main_cst_27 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_28 : Ref sig .tc := ⟨.hbm, 153, rfl⟩
abbrev main_v116 : Ref sig .tc := ⟨.hbm, 154, rfl⟩
abbrev main_v117 : Ref sig .tc := ⟨.hbm, 155, rfl⟩
abbrev main_cst_29 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_30 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩

abbrev nD : Nat := 1
abbrev τ : Topo := Topo.v7x

variable {F : FTy → Type} [FloatOps F]
-- ==== MlpF.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024x4096, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S4096x1024, .f32⟩
  | .hbm, ⟨9, _⟩ => ⟨S4096x1024, .bf16⟩
  | .hbm, ⟨10, _⟩ => ⟨S8192x1024, .f32⟩
  | .hbm, ⟨11, _⟩ => ⟨S8192x1024, .bf16⟩
  | .hbm, ⟨12, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpFRefIdeal.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S4096x1024 : Shape := ⟨2, ![4096, 1024]⟩
abbrev S8192x4096 : Shape := ⟨2, ![8192, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x4096, .f32⟩
  | .hbm, ⟨22, _⟩ => ⟨S4096x1024, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S1024x4096, .f32⟩
  | .hbm, ⟨32, _⟩ => ⟨S8192x4096, .f32⟩
  | .hbm, ⟨33, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Rows.lean ====
/-
  Reading and writing whole rows of a two-axis buffer: what a store of some full rows leaves at an index, and what a
  load of some full rows reads.
-/
module

public import Idealize.ShloMosaic.Lib.Pointwise
public import Idealize.ShloMosaic.Lib.Writes
public import Idealize.ShloMosaic.Lib.Pipeline.FrameBody

@[expose] public section

noncomputable section

namespace Cert.Rows

open Idealize.ShloMosaic

theorem hz : (![0, 0] : Fin 2 → Nat) = fun _ => 0 := funext fun a => by fin_cases a <;> rfl

variable {sig : RefSig} {κ : Kind} {sp : Space} {Val : EltTy → Type} {e : EltTy} {m n k : Nat}

/-- A store of the rows from `o` on, read at a row it holds. -/
theorem read_hit (v : View sig κ sp ⟨2, ![m, n]⟩ e) (f : v.ty.Contents Val) (o : Nat)
    (inb : ∀ a, (![o, 0] : Fin 2 → Nat) a + (![k, n] : Fin 2 → Nat) a ≤ (⟨2, ![m, n]⟩ : Shape).size a)
    (w : (⟨2, ![k, n]⟩ : Shape).Idx → Val e) (L : List (View.Piece Val ⟨2, ![m, n]⟩ e)) (y : (⟨2, ![m, n]⟩ : Shape).Idx)
    (r : Fin k) (hr : (y 0).val = o + r.val) :
    v.read Val (v.writes Val f ((⟨Rect.unit ![o, 0] ![k, n] inb, w⟩ : View.Piece Val ⟨2, ![m, n]⟩ e) :: L)) y = w (ix2 r (y 1)) := by
  apply View.read_writes_cons_hit_of_coords
  intro a
  match a with
  | ⟨0, _⟩ => show (y 0).val = o + 1 * r.val; omega
  | ⟨1, _⟩ => show (y 1).val = 0 + 1 * (y 1).val; omega

/-- A store of the rows from `o` on, read at a row it does not hold. -/
theorem read_miss (v : View sig κ sp ⟨2, ![m, n]⟩ e) (f : v.ty.Contents Val) (o : Nat)
    (inb : ∀ a, (![o, 0] : Fin 2 → Nat) a + (![k, n] : Fin 2 → Nat) a ≤ (⟨2, ![m, n]⟩ : Shape).size a)
    (w : (⟨2, ![k, n]⟩ : Shape).Idx → Val e) (L : List (View.Piece Val ⟨2, ![m, n]⟩ e)) (y : (⟨2, ![m, n]⟩ : Shape).Idx)
    (hr : (y 0).val < o ∨ o + k ≤ (y 0).val) :
    v.read Val (v.writes Val f ((⟨Rect.unit ![o, 0] ![k, n] inb, w⟩ : View.Piece Val ⟨2, ![m, n]⟩ e) :: L)) y = v.read Val (v.writes Val f L) y :=
  View.read_writes_cons_miss_of_axis v f _ L y 0 o k rfl rfl rfl hr

/-- A store of every row leaves what it stores. -/
theorem read_full (v : View sig κ sp ⟨2, ![m, n]⟩ e) (f : v.ty.Contents Val)
    (inb : ∀ a, (![0, 0] : Fin 2 → Nat) a + (![m, n] : Fin 2 → Nat) a ≤ (⟨2, ![m, n]⟩ : Shape).size a)
    (w : (⟨2, ![m, n]⟩ : Shape).Idx → Val e) (L : List (View.Piece Val ⟨2, ![m, n]⟩ e)) :
    v.read Val (v.writes Val f ((⟨Rect.unit ![0, 0] ![m, n] inb, w⟩ : View.Piece Val ⟨2, ![m, n]⟩ e) :: L)) = w := by
  funext y
  refine (read_hit v f 0 inb w L y (y 0) (by omega)).trans ?_
  congr 1
  funext a
  match a with
  | ⟨0, _⟩ => rfl
  | ⟨1, _⟩ => rfl

/-- A load of the rows from `o` on reads the buffer at those rows. -/
theorem load (v : View sig κ sp ⟨2, ![m, n]⟩ e) (f : v.ty.Contents Val) (o : Nat)
    (inb : ∀ a, (![o, 0] : Fin 2 → Nat) a + (![k, n] : Fin 2 → Nat) a ≤ (⟨2, ![m, n]⟩ : Shape).size a)
    (ho : o + k ≤ m) (j : (⟨2, ![k, n]⟩ : Shape).Idx) :
    v.readAt Val (Rect.unit (s := ⟨2, ![m, n]⟩) ![o, 0] ![k, n] inb).toLoadRect f j = v.read Val f (ix2 ⟨o + (j 0).val, by have : (j 0).val < k := (j 0).isLt; omega⟩ (j 1)) := by
  rw [View.readAt_eq_ld]
  show v.read Val f _ = _
  congr 1
  funext a
  apply Fin.ext
  match a with
  | ⟨0, _⟩ => show o + 1 * (j 0).val = o + (j 0).val; omega
  | ⟨1, _⟩ => show 0 + 1 * (j 1).val = (j 1).val; omega

end Cert.Rows

end
-- ==== Proof.MixKit.lean ====
/- The host stretch before the mixer's backward call: what it writes, the contents the call starts from, the blocks of the windows. -/
module

public import proofs.«01_k».proof.Proof.Gen.MixBwdIdeal.Launch
public import proofs.«01_k».proof.Proof.Gen.MixBwdIdeal.Points
public import Idealize.ShloMosaic.Lib.Pipeline.FrameSuffix
public import Idealize.ShloMosaic.Lib.Pipeline.FrameBody
public import Idealize.ShloMosaic.Lib.StableHlo.RunRead
public import Idealize.ShloMosaic.Lib.StableHlo.RunLoop
public import Idealize.ShloMosaic.Lib.Tactic
public import Idealize.ShloMosaic.Lib.WordCmp

@[expose] public section

set_option maxRecDepth 16384

noncomputable section

namespace Cert.MixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines of host operations before the call, in order. -/
abbrev lines : List (List (HloOp τ sig (Elt F))) := [hostOps0, hostOps0_1, hostOps0_2, hostOps0_3, hostOps0_4, hostOps0_5, hostOps0_6]

/-- The argument arrays. -/
abbrev args : List (Ref sig .tc) := [main_arg0, main_arg1, main_arg2, main_arg3, main_arg4, main_arg5, main_arg6, main_arg7, main_arg8, main_arg9, main_arg10, main_arg11, main_arg12]

abbrev hostOps0_W : List (Ref sig .tc) := [main_v0, main_v1]
set_option maxHeartbeats 4000000 in
theorem hostOps0_writes : (hostOps0 : List (HloOp τ sig (Elt F))).map HloOp.writes = hostOps0_W.map fun r => {Proc.devRef (τ := τ) .tc r} := rfl
set_option maxHeartbeats 4000000 in
theorem hostOps0_fresh : (hostOps0 : List (HloOp τ sig (Elt F))).Forall fun op => op.fresh = ∅ := StableHlo.forall_fresh_of_map rfl
set_option maxHeartbeats 4000000 in
theorem hostOps0_args : ∀ a ∈ args, a ∉ hostOps0_W := by decide +kernel

abbrev hostOps0_1_W : List (Ref sig .tc) := [main_call0_call0_cst, main_call0_call0_v0, main_v2]
set_option maxHeartbeats 4000000 in
theorem hostOps0_1_writes : (hostOps0_1 : List (HloOp τ sig (Elt F))).map HloOp.writes = hostOps0_1_W.map fun r => {Proc.devRef (τ := τ) .tc r} := rfl
set_option maxHeartbeats 4000000 in
theorem hostOps0_1_fresh : (hostOps0_1 : List (HloOp τ sig (Elt F))).Forall fun op => op.fresh = ∅ := StableHlo.forall_fresh_of_map rfl
set_option maxHeartbeats 4000000 in
theorem hostOps0_1_args : ∀ a ∈ args, a ∉ hostOps0_1_W := by decide +kernel

abbrev hostOps0_2_W : List (Ref sig .tc) := [main_v3, main_v4, main_v5, main_cst, main_v6, main_v7, main_v8, main_c, main_v9, main_v10, main_c_0, main_v11, main_v12, main_v13, main_v14, main_v15, main_v16, main_v17, main_v18, main_v19, main_v20, main_v21, main_v22, main_cst_1, main_v23, main_v24, main_v25, main_c_2, main_v26, main_v27, main_c_3, main_v28, main_v29, main_v30, main_v31, main_v32, main_v33, main_v34, main_v35, main_v36, main_v37, main_v38, main_v39, main_cst_4, main_v40, main_v41, main_v42, main_c_5, main_v43, main_v44, main_c_6, main_v45, main_v46, main_v47, main_v48, main_v49, main_v50, main_v51, main_v52, main_v53, main_v54, main_v55, main_v56, main_cst_7, main_v57, main_v58, main_v59, main_c_8, main_v60, main_v61, main_c_9, main_v62, main_v63, main_v64, main_v65, main_v66, main_v67, main_v68, main_v69, main_v70, main_v71, main_v72, main_v73, main_v74, main_v75, main_v76, main_v77, main_v78, main_v79, main_v80, main_cst_10, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_cst_11, main_v126, main_v127, main_cst_12, main_v128, main_v129, main_v130, main_v131, main_v132, main_v133, main_v134, main_v135, main_v136, main_v137, main_cst_13, main_v138, main_v139, main_cst_14, main_v140, main_v141, main_v142, main_cst_15, main_v143, main_v144]
set_option maxHeartbeats 4000000 in
theorem hostOps0_2_writes : (hostOps0_2 : List (HloOp τ sig (Elt F))).map HloOp.writes = hostOps0_2_W.map fun r => {Proc.devRef (τ := τ) .tc r} := rfl
set_option maxHeartbeats 4000000 in
theorem hostOps0_2_fresh : (hostOps0_2 : List (HloOp τ sig (Elt F))).Forall fun op => op.fresh = ∅ := StableHlo.forall_fresh_of_map rfl
set_option maxHeartbeats 4000000 in
theorem hostOps0_2_args : ∀ a ∈ args, a ∉ hostOps0_2_W := by decide +kernel

abbrev hostOps0_3_W : List (Ref sig .tc) := [main_call1_v0, main_call1_call0_cst, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_v1, main_v145]
set_option maxHeartbeats 4000000 in
theorem hostOps0_3_writes : (hostOps0_3 : List (HloOp τ sig (Elt F))).map HloOp.writes = hostOps0_3_W.map fun r => {Proc.devRef (τ := τ) .tc r} := rfl
set_option maxHeartbeats 4000000 in
theorem hostOps0_3_fresh : (hostOps0_3 : List (HloOp τ sig (Elt F))).Forall fun op => op.fresh = ∅ := StableHlo.forall_fresh_of_map rfl
set_option maxHeartbeats 4000000 in
theorem hostOps0_3_args : ∀ a ∈ args, a ∉ hostOps0_3_W := by decide +kernel

abbrev hostOps0_4_W : List (Ref sig .tc) := [main_v146, main_v147, main_v148, main_v149, main_cst_16, main_v150, main_v151, main_v152, main_v153, main_v154, main_v155, main_c_17, main_v156, main_v157, main_v158, main_cst_18]
set_option maxHeartbeats 4000000 in
theorem hostOps0_4_writes : (hostOps0_4 : List (HloOp τ sig (Elt F))).map HloOp.writes = hostOps0_4_W.map fun r => {Proc.devRef (τ := τ) .tc r} := rfl
set_option maxHeartbeats 4000000 in
theorem hostOps0_4_fresh : (hostOps0_4 : List (HloOp τ sig (Elt F))).Forall fun op => op.fresh = ∅ := StableHlo.forall_fresh_of_map rfl
set_option maxHeartbeats 4000000 in
theorem hostOps0_4_args : ∀ a ∈ args, a ∉ hostOps0_4_W := by decide +kernel

abbrev hostOps0_5_W : List (Ref sig .tc) := [main_call2_v0, main_call2_v1, main_call2_v2, main_v159]
set_option maxHeartbeats 4000000 in
theorem hostOps0_5_writes : (hostOps0_5 : List (HloOp τ sig (Elt F))).map HloOp.writes = hostOps0_5_W.map fun r => {Proc.devRef (τ := τ) .tc r} := rfl
set_option maxHeartbeats 4000000 in
theorem hostOps0_5_fresh : (hostOps0_5 : List (HloOp τ sig (Elt F))).Forall fun op => op.fresh = ∅ := StableHlo.forall_fresh_of_map rfl
set_option maxHeartbeats 4000000 in
theorem hostOps0_5_args : ∀ a ∈ args, a ∉ hostOps0_5_W := by decide +kernel

abbrev hostOps0_6_W : List (Ref sig .tc) := [main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_cst_19, main_v264, main_cst_20, main_v265, main_v266, main_cst_21, main_v267, main_cst_22, main_v268, main_v269, main_v270, main_v271, main_v272, main_v273, main_v274, main_v275, main_v276, main_v277, main_v278, main_v279, main_v280, main_cst_23, main_v281, main_cst_24, main_v282, main_v283, main_cst_25, main_v284, main_cst_26, main_v285, main_v286, main_v287, main_v288, main_v289, main_v290, main_v291, main_v292, main_v293, main_v294, main_v295, main_v296, main_v297, main_cst_27, main_v298, main_cst_28, main_v299, main_v300, main_cst_29, main_v301, main_cst_30, main_v302, main_v303, main_v304, main_v305, main_v306, main_v307, main_v308, main_v309, main_v310, main_v311, main_v312, main_v313, main_v314, main_cst_31, main_v315, main_cst_32, main_v316, main_v317, main_cst_33, main_v318, main_cst_34, main_v319, main_v320, main_v321, main_v322, main_v323, main_v324, main_v325, main_v326, main_v327, main_v328, main_v329, main_v330, main_v331, main_cst_35, main_v332, main_cst_36, main_v333, main_v334, main_cst_37, main_v335, main_cst_38, main_v336, main_v337, main_v338, main_v339, main_v340, main_v341, main_v342, main_v343, main_v344, main_v345, main_v346, main_v347, main_v348, main_cst_39, main_v349, main_cst_40, main_v350, main_v351, main_cst_41, main_v352, main_cst_42, main_v353, main_v354, main_v355, main_v356, main_v357, main_v358, main_v359, main_v360, main_v361, main_v362, main_v363, main_v364, main_v365, main_cst_43, main_v366, main_cst_44, main_v367, main_v368, main_cst_45, main_v369, main_cst_46, main_v370, main_v371, main_v372, main_v373, main_v374, main_v375, main_v376, main_v377, main_v378, main_v379, main_v380, main_v381, main_v382, main_cst_47, main_v383, main_cst_48, main_v384, main_v385, main_cst_49, main_v386, main_cst_50, main_v387, main_v388, main_v389, main_v390, main_v391, main_v392, main_v393, main_v394, main_v395, main_v396, main_v397, main_v398, main_v399, main_cst_51, main_v400, main_cst_52, main_v401, main_v402, main_cst_53, main_v403, main_cst_54, main_v404, main_v405, main_v406, main_v407, main_v408, main_v409, main_v410, main_v411, main_v412, main_v413, main_v414, main_v415, main_v416, main_cst_55, main_v417, main_cst_56, main_v418, main_v419, main_cst_57, main_v420, main_cst_58, main_v421, main_v422, main_v423, main_v424, main_v425, main_v426, main_v427, main_v428, main_v429, main_v430, main_v431, main_v432, main_v433, main_cst_59, main_v434, main_cst_60, main_v435, main_v436, main_cst_61, main_v437, main_cst_62, main_v438, main_v439, main_v440, main_v441, main_v442, main_v443, main_v444, main_v445, main_v446, main_v447, main_v448, main_v449, main_v450, main_cst_63, main_v451, main_cst_64, main_v452, main_v453, main_cst_65, main_v454, main_cst_66, main_v455, main_v456, main_v457, main_v458, main_v459, main_v460, main_v461, main_v462, main_v463, main_v464, main_v465, main_v466, main_v467, main_cst_67, main_v468, main_cst_68, main_v469, main_v470, main_cst_69, main_v471, main_cst_70, main_v472, main_v473, main_v474, main_v475, main_cst_71, main_v476, main_v477, main_v478, main_v479, main_cst_72, main_v480, main_v481, main_v482, main_cst_73, main_v483, main_v484, main_cst_74, main_v485, main_v486, main_v487, main_cst_75, main_v488, main_v489, main_cst_76, main_v490, main_v491, main_cst_77, main_v492, main_v493, main_v494, main_cst_78, main_v495, main_v496, main_v497, main_cst_79, main_v498, main_v499, main_cst_80, main_v500, main_v501, main_cst_81, main_v502, main_v503, main_cst_82, main_v504, main_v505, main_v506, main_v507, main_v508, main_v509, main_v510, main_v511, main_c_83, main_v512, main_v513, main_v514, main_v515, main_v516, main_v517, main_v518, main_v519, main_v520, main_v521, main_v522, main_v523, main_v524, main_v525, main_c_84, main_v526, main_v527, main_v528, main_v529, main_v530, main_v531, main_v532, main_v533, main_v534, main_v535, main_v536, main_v537, main_v538, main_c_85, main_v539, main_v540, main_v541, main_v542, main_v543, main_v544, main_v545, main_v546, main_v547, main_v548, main_v549, main_v550, main_v551, main_v552, main_v553, main_v554, main_v555, main_v556, main_cst_86, main_v557, main_v558, main_v559, main_cst_87, main_v560, main_v561, main_cst_88, main_v562, main_v563, main_v564, main_cst_89, main_v565, main_v566, main_cst_90, main_v567, main_v568, main_v569, main_cst_91, main_v570, main_v571, main_cst_92, main_v572, main_v573, main_v574, main_cst_93, main_v575, main_v576, main_cst_94, main_v577, main_v578, main_v579, main_v580]
set_option maxHeartbeats 4000000 in
theorem hostOps0_6_writes : (hostOps0_6 : List (HloOp τ sig (Elt F))).map HloOp.writes = hostOps0_6_W.map fun r => {Proc.devRef (τ := τ) .tc r} := rfl
set_option maxHeartbeats 4000000 in
theorem hostOps0_6_fresh : (hostOps0_6 : List (HloOp τ sig (Elt F))).Forall fun op => op.fresh = ∅ := StableHlo.forall_fresh_of_map rfl
set_option maxHeartbeats 4000000 in
theorem hostOps0_6_args : ∀ a ∈ args, a ∉ hostOps0_6_W := by decide +kernel

/-- The contents of a core's buffers when the call starts. -/
abbrev V (c : Dev nD) (b : Ref sig .tc) : Buf (Elt F) ((c : Thread nD τ).loc b) :=
  StableHlo.after (List.flatten lines) (fun b => m (c, b)) b

/-- An argument array is as launched when the call starts. -/
theorem V_arg (c : Dev nD) (a : Ref sig .tc) (ha : a ∈ args) : V m c a = m ((c : Thread nD τ).loc a) := by
  unfold V lines
  rw [← StableHlo.afterL_eq_after_flatten]
  simp only [StableHlo.afterL_cons, StableHlo.afterL_nil]
  rw [StableHlo.after_unwritten hostOps0_6_W hostOps0_6_writes (hostOps0_6_args a ha)]
  rw [StableHlo.after_unwritten hostOps0_5_W hostOps0_5_writes (hostOps0_5_args a ha)]
  rw [StableHlo.after_unwritten hostOps0_4_W hostOps0_4_writes (hostOps0_4_args a ha)]
  rw [StableHlo.after_unwritten hostOps0_3_W hostOps0_3_writes (hostOps0_3_args a ha)]
  rw [StableHlo.after_unwritten hostOps0_2_W hostOps0_2_writes (hostOps0_2_args a ha)]
  rw [StableHlo.after_unwritten hostOps0_1_W hostOps0_1_writes (hostOps0_1_args a ha)]
  rw [StableHlo.after_unwritten hostOps0_W hostOps0_writes (hostOps0_args a ha)]

/-- The lines after the call. -/
abbrev after_lines : List (List (HloOp τ sig (Elt F))) := [hostOps1]

/-- What the lines after the call write. -/
abbrev hostOps1_W : List (Ref sig .tc) := [main_v582]

theorem hostOps1_writes : (hostOps1 : List (HloOp τ sig (Elt F))).map HloOp.writes = hostOps1_W.map fun r => {Proc.devRef (τ := τ) .tc r} := rfl

/-- The contents of a core's buffers when the call starts, by buffers of the device. -/
abbrev V₀ (c : Dev nD) : Valuation τ sig (Elt F) := StableHlo.after (List.flatten lines) (fun b => m (c, b))

set_option maxHeartbeats 4000000 in
/-- The program around the call. -/
theorem hmain (𝒱₀ : Variants) : Pipeline.HMainK (Ix := Unit) (Name := ℕ) (U := UR sig nD τ) (Lvl := ℕ) cfgs 0 defs₀ 𝒱₀ m (main (F := F))
    (fun c b => V₀ m c (Proc.devRef .tc b)) (fun _ => Pipeline.chain (after_lines.map StableHlo.seq)) :=
  Pipeline.hmain_around cfgs 0 defs₀ 𝒱₀ m main lines after_lines ⟨hostOps0_sub, hostOps0_1_sub, hostOps0_2_sub, hostOps0_3_sub, hostOps0_4_sub, hostOps0_5_sub, hostOps0_6_sub⟩ ⟨hostOps0_fresh, hostOps0_1_fresh, hostOps0_2_fresh, hostOps0_3_fresh, hostOps0_4_fresh, hostOps0_5_fresh, hostOps0_6_fresh⟩ main_chain

/-- The block of window w at point t, out of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

variable {m}
section
variable {c : Dev nD} (dat : Dat τ (Elt F) Unit ℕ (UR sig nD τ) ℕ cfg0 c)
theorem before_0 (hA : dat.A 0 = V m c (Pipeline.arrRef spec0 0)) (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hA : dat.A 1 = V m c (Pipeline.arrRef spec0 1)) (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hA : dat.A 2 = V m c (Pipeline.arrRef spec0 2)) (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 (hA : dat.A 3 = V m c (Pipeline.arrRef spec0 3)) (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 (hA : dat.A 4 = V m c (Pipeline.arrRef spec0 4)) (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 (hA : dat.A 5 = V m c (Pipeline.arrRef spec0 5)) (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 (hA : dat.A 6 = V m c (Pipeline.arrRef spec0 6)) (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7 (hA : dat.A 7 = V m c (Pipeline.arrRef spec0 7)) (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8 (hA : dat.A 8 = V m c (Pipeline.arrRef spec0 8)) (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9 (hA : dat.A 9 = V m c (Pipeline.arrRef spec0 9)) (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10 (hA : dat.A 10 = V m c (Pipeline.arrRef spec0 10)) (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11 (hA : dat.A 11 = V m c (Pipeline.arrRef spec0 11)) (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12 (hA : dat.A 12 = V m c (Pipeline.arrRef spec0 12)) (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13 (hA : dat.A 13 = V m c (Pipeline.arrRef spec0 13)) (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
end

end Cert.MixBwdIdeal.Body

end
-- ==== Proof.MixCond.lean ====
/- The conditions of the mixer's backward body, and where they hold. -/
module

public import proofs.«01_k».proof.Proof.Gen.MixBwdIdeal.Launch
public import proofs.«01_k».proof.Proof.Gen.MixBwdIdeal.Points
public import proofs.«01_k».proof.Proof.Gen.MixBwdIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F]

local notation "𝕄" => MT nD τ sig Unit (Elt F) ℕ (UR sig nD τ) ℕ

/-- The condition of the zeroing branch: the first point. -/
abbrev First (i : grid0.Coords) : Prop := (Scalar.cmpi .ne (Scalar.extui (Scalar.cmpi .eq (BitVec.ofNat 32 (i 0).val) 0#32)) 0#32) = 1#1
/-- The condition of the closing branch: the last point. -/
abbrev Last (i : grid0.Coords) : Prop := k0_cond2 i = 1#1

theorem coord (t : Fin cfg0.N) : (grid0.coords t 0).val = t.val / 1 % 16 := Pipeline.Grid.coords_val t 0 (by decide) rfl
theorem lt_N (t : Fin cfg0.N) : t.val < 16 := lt_of_lt_of_eq t.isLt N_0

theorem first_iff (t : Fin cfg0.N) : First (grid0.coords t) ↔ t.val = 0 := by
  have ht := lt_N t
  have e : First (grid0.coords t) ↔ t.val % 16 = 0 := by
    simp only [First, coord]
    word_cmp
  rw [e]; omega
theorem last_iff (t : Fin cfg0.N) : Last (grid0.coords t) ↔ t.val = 15 := by
  have ht := lt_N t
  have e : Last (grid0.coords t) ↔ t.val % 16 = 15 := by
    simp only [Last, k0_cond2, coord]
    word_cmp
  rw [e]; omega

/-- The buffers the body is called with: the blocks it reads, the blocks it writes, its scratch. -/
structure Bufs where
  a1 : Memref sig .tc .vmem S512x1024 .f32
  h1 : a1.IsWhole
  a2 : Memref sig .tc .vmem S512x512 .f32
  h2 : a2.IsWhole
  a3 : Memref sig .tc .vmem S512x512 .f32
  h3 : a3.IsWhole
  a4 : Memref sig .tc .vmem S8x512 .f32
  h4 : a4.IsWhole
  a5 : Memref sig .tc .vmem S512x3072 .f32
  h5 : a5.IsWhole
  a6 : Memref sig .tc .vmem S512x512 .bf16
  h6 : a6.IsWhole
  a7 : Memref sig .tc .vmem S512x512 .bf16
  h7 : a7.IsWhole
  a8 : Memref sig .tc .vmem S1x512 .f32
  h8 : a8.IsWhole
  a9 : Memref sig .tc .vmem S1x512 .f32
  h9 : a9.IsWhole
  a10 : Memref sig .tc .vmem S4x512 .f32
  h10 : a10.IsWhole
  a11 : Memref sig .tc .vmem S512x1024 .bf16
  h11 : a11.IsWhole
  a12 : Memref sig .tc .vmem S1x512 .f32
  h12 : a12.IsWhole
  a13 : Memref sig .tc .vmem S1024x1024 .bf16
  h13 : a13.IsWhole
  a14 : Memref sig .tc .vmem S16x512 .f32
  h14 : a14.IsWhole
  a15 : Memref sig .tc .vmem S512x1536 .bf16
  h15 : a15.IsWhole
  a16 : Memref sig .tc .vmem S16x512 .f32
  h16 : a16.IsWhole
  a17 : Memref sig .tc .vmem S512x128 .f32
  h17 : a17.IsWhole
  a18 : Memref sig .tc .vmem S512x64 .f32
  h18 : a18.IsWhole
  a19 : Memref sig .tc .vmem S512x64 .f32
  h19 : a19.IsWhole
  a20 : Memref sig .tc .vmem S512x512 .f32
  h20 : a20.IsWhole
  a21 : Memref sig .tc .vmem S512x1024 .f32
  h21 : a21.IsWhole
  a22 : Memref sig .tc .vmem S8x1024 .f32
  h22 : a22.IsWhole
  a23 : Memref sig .tc .vmem S512x512 .f32
  h23 : a23.IsWhole
  a24 : Memref sig .tc .vmem S512x512 .f32
  h24 : a24.IsWhole
  a25 : Memref sig .tc .vmem S16x512 .f32
  h25 : a25.IsWhole
  a26 : Memref sig .tc .vmem S8x512 .f32
  h26 : a26.IsWhole
  a27 : Memref sig .tc .vmem S8x512 .f32
  h27 : a27.IsWhole

/-- What the blocks it reads hold. -/
structure Ins (F : FTy → Type) [FloatOps F] where
  x1 : Vec F S512x1024 .f32
  x2 : Vec F S512x512 .f32
  x3 : Vec F S512x512 .f32
  x4 : Vec F S8x512 .f32
  x5 : Vec F S512x3072 .f32
  x6 : Vec F S512x512 .bf16
  x7 : Vec F S512x512 .bf16
  x8 : Vec F S1x512 .f32
  x9 : Vec F S1x512 .f32
  x10 : Vec F S4x512 .f32
  x11 : Vec F S512x1024 .bf16
  x12 : Vec F S1x512 .f32
  x13 : Vec F S1024x1024 .bf16
  x14 : Vec F S16x512 .f32

/-- What the buffers of the call hold after a point. -/
structure St (F : FTy → Type) [FloatOps F] where
  b15 : Vec F S512x1536 .bf16
  b16 : Vec F S16x512 .f32
  b17 : Vec F S512x128 .f32
  b18 : Vec F S512x64 .f32
  b19 : Vec F S512x64 .f32
  b20 : Vec F S512x512 .f32
  b21 : Vec F S512x1024 .f32
  b22 : Vec F S8x1024 .f32
  b24 : Vec F S512x512 .f32
  b25 : Vec F S16x512 .f32
  b26 : Vec F S8x512 .f32
  b27 : Vec F S8x512 .f32

/-- The stores that reach each buffer it writes, the last first. -/
structure Left (F : FTy → Type) [FloatOps F] where
  l15 : List (View.Piece (Elt F) S512x1536 .bf16)
  l16 : List (View.Piece (Elt F) S16x512 .f32)
  l17 : List (View.Piece (Elt F) S512x128 .f32)
  l18 : List (View.Piece (Elt F) S512x64 .f32)
  l19 : List (View.Piece (Elt F) S512x64 .f32)
  l20 : List (View.Piece (Elt F) S512x512 .f32)
  l21 : List (View.Piece (Elt F) S512x1024 .f32)
  l22 : List (View.Piece (Elt F) S8x1024 .f32)
  l23 : List (View.Piece (Elt F) S512x512 .f32)
  l24 : List (View.Piece (Elt F) S512x512 .f32)
  l25 : List (View.Piece (Elt F) S16x512 .f32)
  l26 : List (View.Piece (Elt F) S8x512 .f32)
  l27 : List (View.Piece (Elt F) S8x512 .f32)

/-- The stores of a list reach every place of a shape. -/
abbrev Covered {S : Shape} {e : EltTy} (L : List (View.Piece (Elt F) S e)) : Prop := ∀ y, ∃ p ∈ L, y ∈ p.1.set

/-- What the stores leave. -/
def Left.state (L : Left F) : St F where
  b15 := View.canon L.l15
  b16 := View.canon L.l16
  b17 := View.canon L.l17
  b18 := View.canon L.l18
  b19 := View.canon L.l19
  b20 := View.canon L.l20
  b21 := View.canon L.l21
  b22 := View.canon L.l22
  b24 := View.canon L.l24
  b25 := View.canon L.l25
  b26 := View.canon L.l26
  b27 := View.canon L.l27

/-- The stores of a list reach every place of the buffers every point writes. -/
structure Left.Full (L : Left F) : Prop where
  c15 : Covered L.l15
  c16 : Covered L.l16
  c20 : Covered L.l20
  c21 : Covered L.l21
  c22 : Covered L.l22
  c24 : Covered L.l24
  c25 : Covered L.l25
  c26 : Covered L.l26
  c27 : Covered L.l27

section
variable (c : Dev nD) {S : Shape} {e : EltTy} (a : Memref sig .tc .vmem S e)
/-- A buffer with contents, with any contents, and after stores. -/
def held (h : a.IsWhole) (x : Vec F S e) : sProp 𝕄 := a.view.loc (c : Thread nD τ) ↦[a.view.set]{fullShare} h.unread x
def any : sProp 𝕄 := iprop(∃ d, owns (c : Thread nD τ) a fullShare d)
def put (L : List (View.Piece (Elt F) S e)) : sProp 𝕄 := iprop(∃ f, a.view.loc (c : Thread nD τ) ↦[a.view.set]{fullShare} a.view.writes (Elt F) f L)
end

variable (c : Dev nD) (M : Bufs)

/-- The blocks the body reads. -/
def reads (X : Ins F) : sProp 𝕄 := iprop(held c M.a1 M.h1 X.x1 ∗ held c M.a2 M.h2 X.x2 ∗ held c M.a3 M.h3 X.x3 ∗ held c M.a4 M.h4 X.x4 ∗ held c M.a5 M.h5 X.x5 ∗ held c M.a6 M.h6 X.x6 ∗ held c M.a7 M.h7 X.x7 ∗ held c M.a8 M.h8 X.x8 ∗ held c M.a9 M.h9 X.x9 ∗ held c M.a10 M.h10 X.x10 ∗ held c M.a11 M.h11 X.x11 ∗ held c M.a12 M.h12 X.x12 ∗ held c M.a13 M.h13 X.x13 ∗ held c M.a14 M.h14 X.x14)
/-- The scratch with any contents, with a state's contents, and after stores. -/
def fresh (x24 : Vec F S512x512 .f32) : sProp 𝕄 := iprop(any (F := F) c M.a20 ∗ any (F := F) c M.a21 ∗ any (F := F) c M.a22 ∗ any (F := F) c M.a23 ∗ held c M.a24 M.h24 x24 ∗ any (F := F) c M.a25 ∗ any (F := F) c M.a26 ∗ any (F := F) c M.a27)
def from_ (s : St F) : sProp 𝕄 := iprop(put c M.a20 [⟨Rect.unit (s := S512x512) ![0, 0] S512x512.size inb_S512x512_S512x512_0_0, s.b20⟩] ∗ put c M.a21 [⟨Rect.unit (s := S512x1024) ![0, 0] S512x1024.size inb_S512x1024_S512x1024_0_0, s.b21⟩] ∗ put c M.a22 [⟨Rect.unit (s := S8x1024) ![0, 0] S8x1024.size inb_S8x1024_S8x1024_0_0, s.b22⟩] ∗ any (F := F) c M.a23 ∗ held c M.a24 M.h24 s.b24 ∗ put c M.a25 [⟨Rect.unit (s := S16x512) ![0, 0] S16x512.size inb_S16x512_S16x512_0_0, s.b25⟩] ∗ put c M.a26 [⟨Rect.unit (s := S8x512) ![0, 0] S8x512.size inb_S8x512_S8x512_0_0, s.b26⟩] ∗ put c M.a27 [⟨Rect.unit (s := S8x512) ![0, 0] S8x512.size inb_S8x512_S8x512_0_0, s.b27⟩])
def stored (x24 : Vec F S512x512 .f32) (L : Left F) : sProp 𝕄 := iprop(put c M.a20 L.l20 ∗ put c M.a21 L.l21 ∗ put c M.a22 L.l22 ∗ put c M.a23 L.l23 ∗ (M.a24.view.loc (c : Thread nD τ) ↦[M.a24.view.set]{fullShare} M.a24.view.writes (Elt F) (M.h24.unread x24) L.l24) ∗ put c M.a25 L.l25 ∗ put c M.a26 L.l26 ∗ put c M.a27 L.l27)

/-- The body. -/
abbrev call (i : grid0.Coords) := cc0_mix_bwd (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27

end Cert.MixBwdIdeal.Body

end
-- ==== Proof.MixRunA.lean ====
/- The run of the mixer's backward body in case A. -/
module

public import proofs.«01_k».proof.Proof.MixCond

@[expose] public section

set_option maxRecDepth 16384

noncomputable section

namespace Cert.MixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F]

local notation "𝕄" => MT nD τ sig Unit (Elt F) ℕ (UR sig nD τ) ℕ

set_option maxHeartbeats 0 in
/-- The body at a point of case A: the stores that reach each buffer, and the run that finds them. -/
noncomputable def runA (c : Dev nD) (i : grid0.Coords) (M : Bufs) (hc0 : First i) (hc1 : ¬Last i) (X : Ins F) (x24 : Vec F S512x512 .f32) :
    { L : Left F // ∀ (E : Set ℕ) (K : PUnit → sProp 𝕄),
      iprop(reads c M X ∗ any (F := F) c M.a15 ∗ any (F := F) c M.a16 ∗ fresh c M x24
        ∗ (iprop(reads c M X ∗ put c M.a15 L.l15 ∗ put c M.a16 L.l16 ∗ stored c M x24 L) -∗ K ⟨⟩))
      ⊢ wp frame (wpE (defs₀ (F := F)) Variants.none c none) E (call M i) K } := by
  refine ⟨⟨?_, ?_, [], [], [], ?_, ?_, ?_, ?_, ?_, ?_, ?_, ?_⟩, fun E K => ?run⟩
  case run =>
    unfold call
    simp only [cc0_mix_bwd_eq_skeleton]; unfold cc0_mix_bwd_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold reads fresh stored held put any owns
    dsimp only
    iintro ⟨⟨H1, H2, H3, H4, H5, H6, H7, H8, H9, H10, H11, H12, H13, H14⟩, ⟨%d15, %f15, -, H15⟩, ⟨%d16, %f16, -, H16⟩, ⟨⟨%d20, %f20, -, H20⟩, ⟨%d21, %f21, -, H21⟩, ⟨%d22, %f22, -, H22⟩, ⟨%d23, %f23, -, H23⟩, H24, ⟨%d25, %f25, -, H25⟩, ⟨%d26, %f26, -, H26⟩, ⟨%d27, %f27, -, H27⟩⟩, Hk⟩
    sl_exec (disch := first | sl_exact hc0 | sl_exact hc1)
    sl_step
    iapply Hk
    isplitl [H1 H2 H3 H4 H5 H6 H7 H8 H9 H10 H11 H12 H13 H14]; · iframe
    isplitl [H15]; · iexists _; iexact H15
    isplitl [H16]; · iexists _; iexact H16
    isplitl [H20]; · iexists _; iexact H20
    isplitl [H21]; · iexists _; iexact H21
    isplitl [H22]; · iexists _; iexact H22
    isplitl [H23]; · iexists _; iexact H23
    isplitl [H24]; · iexact H24
    isplitl [H25]; · iexists _; iexact H25
    isplitl [H26]; · iexists _; iexact H26
    iexists _; iexact H27

end Cert.MixBwdIdeal.Body

end
-- ==== Proof.MixRunB.lean ====
/- The run of the mixer's backward body in case B. -/
module

public import proofs.«01_k».proof.Proof.MixCond

@[expose] public section

set_option maxRecDepth 16384

noncomputable section

namespace Cert.MixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F]

local notation "𝕄" => MT nD τ sig Unit (Elt F) ℕ (UR sig nD τ) ℕ

set_option maxHeartbeats 0 in
/-- The body at a point of case B: the stores that reach each buffer, and the run that finds them. -/
noncomputable def runB (c : Dev nD) (i : grid0.Coords) (M : Bufs) (hc0 : ¬First i) (hc1 : ¬Last i) (X : Ins F) (s : St F) :
    { L : Left F // ∀ (E : Set ℕ) (K : PUnit → sProp 𝕄),
      iprop(reads c M X ∗ any (F := F) c M.a15 ∗ put c M.a16 [⟨Rect.unit (s := S16x512) ![0, 0] S16x512.size inb_S16x512_S16x512_0_0, s.b16⟩] ∗ from_ c M s
        ∗ (iprop(reads c M X ∗ put c M.a15 L.l15 ∗ put c M.a16 L.l16 ∗ stored c M s.b24 L) -∗ K ⟨⟩))
      ⊢ wp frame (wpE (defs₀ (F := F)) Variants.none c none) E (call M i) K } := by
  refine ⟨⟨?_, ?_, [], [], [], ?_, ?_, ?_, ?_, ?_, ?_, ?_, ?_⟩, fun E K => ?run⟩
  case run =>
    unfold call
    simp only [cc0_mix_bwd_eq_skeleton]; unfold cc0_mix_bwd_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold reads from_ stored held put any owns
    dsimp only
    iintro ⟨⟨H1, H2, H3, H4, H5, H6, H7, H8, H9, H10, H11, H12, H13, H14⟩, ⟨%d15, %f15, -, H15⟩, ⟨%f16, H16⟩, ⟨⟨%f20, H20⟩, ⟨%f21, H21⟩, ⟨%f22, H22⟩, ⟨%d23, %f23, -, H23⟩, H24, ⟨%f25, H25⟩, ⟨%f26, H26⟩, ⟨%f27, H27⟩⟩, Hk⟩
    sl_exec (disch := first | sl_exact hc0 | sl_exact hc1)
    sl_step
    iapply Hk
    isplitl [H1 H2 H3 H4 H5 H6 H7 H8 H9 H10 H11 H12 H13 H14]; · iframe
    isplitl [H15]; · iexists _; iexact H15
    isplitl [H16]; · iexists _; iexact H16
    isplitl [H20]; · iexists _; iexact H20
    isplitl [H21]; · iexists _; iexact H21
    isplitl [H22]; · iexists _; iexact H22
    isplitl [H23]; · iexists _; iexact H23
    isplitl [H24]; · iexact H24
    isplitl [H25]; · iexists _; iexact H25
    isplitl [H26]; · iexists _; iexact H26
    iexists _; iexact H27

end Cert.MixBwdIdeal.Body

end
-- ==== Proof.MixRunC.lean ====
/- The run of the mixer's backward body in case C. -/
module

public import proofs.«01_k».proof.Proof.MixCond

@[expose] public section

set_option maxRecDepth 16384

noncomputable section

namespace Cert.MixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F]

local notation "𝕄" => MT nD τ sig Unit (Elt F) ℕ (UR sig nD τ) ℕ

set_option maxHeartbeats 0 in
/-- The body at a point of case C: the stores that reach each buffer, and the run that finds them. -/
noncomputable def runC (c : Dev nD) (i : grid0.Coords) (M : Bufs) (hc0 : ¬First i) (hc1 : Last i) (X : Ins F) (s : St F) :
    { L : Left F // ∀ (E : Set ℕ) (K : PUnit → sProp 𝕄),
      iprop(reads c M X ∗ any (F := F) c M.a15 ∗ put c M.a16 [⟨Rect.unit (s := S16x512) ![0, 0] S16x512.size inb_S16x512_S16x512_0_0, s.b16⟩] ∗ any (F := F) c M.a17 ∗ any (F := F) c M.a18 ∗ any (F := F) c M.a19 ∗ from_ c M s
        ∗ (iprop(reads c M X ∗ put c M.a15 L.l15 ∗ put c M.a16 L.l16 ∗ put c M.a17 L.l17 ∗ put c M.a18 L.l18 ∗ put c M.a19 L.l19 ∗ stored c M s.b24 L) -∗ K ⟨⟩))
      ⊢ wp frame (wpE (defs₀ (F := F)) Variants.none c none) E (call M i) K } := by
  refine ⟨⟨?_, ?_, ?_, ?_, ?_, ?_, ?_, ?_, ?_, ?_, ?_, ?_, ?_⟩, fun E K => ?run⟩
  case run =>
    unfold call
    simp only [cc0_mix_bwd_eq_skeleton]; unfold cc0_mix_bwd_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold reads from_ stored held put any owns
    dsimp only
    iintro ⟨⟨H1, H2, H3, H4, H5, H6, H7, H8, H9, H10, H11, H12, H13, H14⟩, ⟨%d15, %f15, -, H15⟩, ⟨%f16, H16⟩, ⟨%d17, %f17, -, H17⟩, ⟨%d18, %f18, -, H18⟩, ⟨%d19, %f19, -, H19⟩, ⟨⟨%f20, H20⟩, ⟨%f21, H21⟩, ⟨%f22, H22⟩, ⟨%d23, %f23, -, H23⟩, H24, ⟨%f25, H25⟩, ⟨%f26, H26⟩, ⟨%f27, H27⟩⟩, Hk⟩
    sl_exec (disch := first | sl_exact hc0 | sl_exact hc1)
    sl_step
    iapply Hk
    isplitl [H1 H2 H3 H4 H5 H6 H7 H8 H9 H10 H11 H12 H13 H14]; · iframe
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexact H24
    isplitl [H25]; · iexists _; iexact H25
    isplitl [H26]; · iexists _; iexact H26
    iexists _; iexact H27

end Cert.MixBwdIdeal.Body

end
-- ==== Proof.MixIndep.lean ====
/- At the first point nothing but the kept states depends on what their buffer held before: the loop overwrites every row it is later read at. -/
module

public import proofs.«01_k».proof.Proof.MixRunA

@[expose] public section

set_option maxRecDepth 16384

noncomputable section

namespace Cert.MixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F]

local notation "𝕄" => MT nD τ sig Unit (Elt F) ℕ (UR sig nD τ) ℕ

variable {c : Dev nD} {i : grid0.Coords} {M : Bufs} {X : Ins F}

/-- A function of one buffer that does not look at it. -/
def Same {α β : Type} (f : α → β) : Prop := ∀ x y, f x = f y

/-- A load after stores that cover the buffer reads the stores alone. -/
theorem load_cover {S : Shape} {e : EltTy} (v : View sig .tc .vmem S e) (f : v.ty.Contents (Elt F)) (L : List (View.Piece (Elt F) S e)) (R : Rect S)
    (h : ∀ y, ∃ p ∈ L, y ∈ p.1.set) : v.readAt (Elt F) R.toLoadRect (v.writes (Elt F) f L) = View.ld (View.canon L) R := by
  rw [View.readAt_eq_ld, View.read_writes_eq_canon v f L h]

theorem ind_v154 : Same (runA.sl.v154 (F := F) c i M X) := by
  intro x24 y24
  unfold runA.sl.v154
  refine (load_cover (F := F) _ _ _ _ ?_).trans (load_cover (F := F) _ _ _ _ ?_).symm <;> exact View.cover_of_tiledL _ S8x512.size (by sl_kernel_rfl)

theorem ind_r_27 : Same (runA.sl.r_27 (F := F) c i M X) := by
  intro x24 y24
  unfold runA.sl.r_27
  rw [ind_v154 x24 y24]

theorem ind_r_28 : Same (runA.sl.r_28 (F := F) c i M X) := by
  intro x24 y24
  unfold runA.sl.r_28
  rw [ind_r_27 x24 y24]

theorem ind_r_26 : Same (runA.sl.r_26 (F := F) c i M X) := by
  intro x24 y24
  unfold runA.sl.r_26
  rw [ind_v154 x24 y24]

theorem ind_v217 : Same (runA.sl.v217 (F := F) c i M X) := by
  intro x24 y24
  unfold runA.sl.v217
  refine (load_cover (F := F) _ _ _ _ ?_).trans (load_cover (F := F) _ _ _ _ ?_).symm <;> exact View.cover_of_tiledL _ S8x512.size (by sl_kernel_rfl)

theorem ind_r_40 : Same (runA.sl.r_40 (F := F) c i M X) := by
  intro x24 y24
  unfold runA.sl.r_40
  rw [ind_v217 x24 y24]

theorem ind_r_24 : Same (runA.sl.r_24 (F := F) c i M X) := by
  intro x24 y24
  unfold runA.sl.r_24
  rw [ind_v154 x24 y24]

theorem ind_r_25 : Same (runA.sl.r_25 (F := F) c i M X) := by
  intro x24 y24
  unfold runA.sl.r_25
  rw [ind_v154 x24 y24]

theorem ind_r_39 : Same (runA.sl.r_39 (F := F) c i M X) := by
  intro x24 y24
  unfold runA.sl.r_39
  rw [ind_v217 x24 y24]

theorem ind_r_41 : Same (runA.sl.r_41 (F := F) c i M X) := by
  intro x24 y24
  unfold runA.sl.r_41
  rw [ind_r_24 x24 y24, ind_r_25 x24 y24, ind_v217 x24 y24, ind_r_39 x24 y24]

theorem ind_r_47 : Same (runA.sl.r_47 (F := F) c i M X) := by
  intro x24 y24
  unfold runA.sl.r_47
  rw [ind_r_26 x24 y24, ind_r_40 x24 y24, ind_r_41 x24 y24]

theorem ind_H16_4 : Same (runA.sl.H16_4 (F := F) c i M X) := by
  intro x24 y24
  unfold runA.sl.H16_4
  rw [ind_r_28 x24 y24, ind_v217 x24 y24, ind_r_39 x24 y24]

theorem ind_v289 : Same (runA.sl.v289 (F := F) c i M X) := by
  intro x24 y24
  unfold runA.sl.v289
  rw [ind_H16_4 x24 y24]

theorem ind_H16_5 : Same (runA.sl.H16_5 (F := F) c i M X) := by
  intro x24 y24
  unfold runA.sl.H16_5
  rw [ind_r_26 x24 y24, ind_r_40 x24 y24, ind_r_41 x24 y24, ind_v289 x24 y24, ind_H16_4 x24 y24]

theorem ind_v302 : Same (runA.sl.v302 (F := F) c i M X) := by
  intro x24 y24
  unfold runA.sl.v302
  rw [ind_H16_5 x24 y24]

theorem ind_H16_6 : Same (runA.sl.H16_6 (F := F) c i M X) := by
  intro x24 y24
  unfold runA.sl.H16_6
  rw [ind_r_26 x24 y24, ind_r_40 x24 y24, ind_r_41 x24 y24, ind_v302 x24 y24, ind_H16_5 x24 y24]

theorem ind_v315 : Same (runA.sl.v315 (F := F) c i M X) := by
  intro x24 y24
  unfold runA.sl.v315
  rw [ind_H16_6 x24 y24]

theorem ind_H16_7 : Same (runA.sl.H16_7 (F := F) c i M X) := by
  intro x24 y24
  unfold runA.sl.H16_7
  rw [ind_r_47 x24 y24, ind_v315 x24 y24, ind_H16_6 x24 y24]

theorem ind_r_46 : Same (runA.sl.r_46 (F := F) c i M X) := by
  intro x24 y24
  unfold runA.sl.r_46
  rw [ind_r_26 x24 y24, ind_r_40 x24 y24, ind_r_41 x24 y24]

theorem ind_r_44 : Same (runA.sl.r_44 (F := F) c i M X) := by
  intro x24 y24
  unfold runA.sl.r_44
  rw [ind_r_26 x24 y24, ind_r_40 x24 y24, ind_r_41 x24 y24]

theorem ind_r_42 : Same (runA.sl.r_42 (F := F) c i M X) := by
  intro x24 y24
  unfold runA.sl.r_42
  rw [ind_r_24 x24 y24, ind_r_25 x24 y24, ind_v217 x24 y24, ind_r_39 x24 y24]

theorem ind_r_43 : Same (runA.sl.r_43 (F := F) c i M X) := by
  intro x24 y24
  unfold runA.sl.r_43
  rw [ind_r_26 x24 y24, ind_r_40 x24 y24, ind_r_41 x24 y24]

theorem ind_v328 : Same (runA.sl.v328 (F := F) c i M X) := by
  intro x24 y24
  unfold runA.sl.v328
  rw [ind_H16_7 x24 y24]

theorem ind_H16_8 : Same (runA.sl.H16_8 (F := F) c i M X) := by
  intro x24 y24
  unfold runA.sl.H16_8
  rw [ind_r_44 x24 y24, ind_v328 x24 y24, ind_H16_7 x24 y24]

theorem ind_v339 : Same (runA.sl.v339 (F := F) c i M X) := by
  intro x24 y24
  unfold runA.sl.v339
  rw [ind_H16_8 x24 y24]

theorem ind_r_49 : Same (runA.sl.r_49 (F := F) c i M X) := by
  intro x24 y24
  unfold runA.sl.r_49
  rw [ind_r_44 x24 y24, ind_r_46 x24 y24, ind_r_47 x24 y24]

end Cert.MixBwdIdeal.Body

end
-- ==== Proof.MixState.lean ====
/- The mixer's backward call from point to point: what each point leaves, and the run of the whole grid. -/
module

public import proofs.«01_k».proof.Proof.Rows
public import proofs.«01_k».proof.Proof.MixKit
public import proofs.«01_k».proof.Proof.MixRunA
public import proofs.«01_k».proof.Proof.MixRunB
public import proofs.«01_k».proof.Proof.MixRunC
public import proofs.«01_k».proof.Proof.MixIndep

@[expose] public section

set_option maxRecDepth 16384

noncomputable section

namespace Cert.MixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F]

local notation "𝕄" => MT nD τ sig Unit (Elt F) ℕ (UR sig nD τ) ℕ

/-- The buffers the body is called with at a point. -/
abbrev bufs (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := Memref.whole cc0_scratch0
  h20 := Memref.isWhole_whole _
  a21 := Memref.whole cc0_scratch1
  h21 := Memref.isWhole_whole _
  a22 := Memref.whole cc0_scratch2
  h22 := Memref.isWhole_whole _
  a23 := Memref.whole cc0_scratch3
  h23 := Memref.isWhole_whole _
  a24 := Memref.whole cc0_scratch4
  h24 := Memref.isWhole_whole _
  a25 := Memref.whole cc0_scratch5
  h25 := Memref.isWhole_whole _
  a26 := Memref.whole cc0_scratch6
  h26 := Memref.isWhole_whole _
  a27 := Memref.whole cc0_scratch7
  h27 := Memref.isWhole_whole _

variable (m : (ℓ : Loc nD τ sig) → Buf (Elt F) ℓ) (ρ : Dev nD → PrngReg)

/-- What the blocks it reads hold at a point. -/
abbrev ins (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

section
variable (c : Dev nD) (t : Fin cfg0.N) (h0 : First (grid0.coords t)) (h1 : ¬Last (grid0.coords t)) (x24 : Vec F S512x512 .f32)
/-- The run of a point of case A, and what the point leaves. -/
abbrev resA := runA (F := F) c (grid0.coords t) (bufs t) h0 h1 (ins m c t) x24
def stepA : St F := (resA m c t h0 h1 x24).1.state
theorem fullA : (resA m c t h0 h1 x24).1.Full where
  c15 := View.cover_of_tiledL _ S512x1536.size (by sl_kernel_rfl)
  c16 := View.cover_of_tiledL _ S16x512.size (by sl_kernel_rfl)
  c20 := View.cover_of_tiledL _ S512x512.size (by sl_kernel_rfl)
  c21 := View.cover_of_tiledL _ S512x1024.size (by sl_kernel_rfl)
  c22 := View.cover_of_tiledL _ S8x1024.size (by sl_kernel_rfl)
  c24 := View.cover_of_tiledL _ S8x512.size (by sl_kernel_rfl)
  c25 := View.cover_of_tiledL _ S16x512.size (by sl_kernel_rfl)
  c26 := View.cover_of_tiledL _ S8x512.size (by sl_kernel_rfl)
  c27 := View.cover_of_tiledL _ S8x512.size (by sl_kernel_rfl)
end

section
variable (c : Dev nD) (t : Fin cfg0.N) (h0 : ¬First (grid0.coords t)) (h1 : ¬Last (grid0.coords t)) (s : St F)
/-- The run of a point of case B, and what the point leaves. -/
abbrev resB := runB (F := F) c (grid0.coords t) (bufs t) h0 h1 (ins m c t) s
def stepB : St F := (resB m c t h0 h1 s).1.state
theorem fullB : (resB m c t h0 h1 s).1.Full where
  c15 := View.cover_of_tiledL _ S512x1536.size (by sl_kernel_rfl)
  c16 := View.cover_of_tiledL _ S16x512.size (by sl_kernel_rfl)
  c20 := View.cover_of_tiledL _ S512x512.size (by sl_kernel_rfl)
  c21 := View.cover_of_tiledL _ S512x1024.size (by sl_kernel_rfl)
  c22 := View.cover_of_tiledL _ S8x1024.size (by sl_kernel_rfl)
  c24 := View.cover_of_tiledL _ S8x512.size (by sl_kernel_rfl)
  c25 := View.cover_of_tiledL _ S16x512.size (by sl_kernel_rfl)
  c26 := View.cover_of_tiledL _ S8x512.size (by sl_kernel_rfl)
  c27 := View.cover_of_tiledL _ S8x512.size (by sl_kernel_rfl)
end

section
variable (c : Dev nD) (t : Fin cfg0.N) (h0 : ¬First (grid0.coords t)) (h1 : Last (grid0.coords t)) (s : St F)
/-- The run of a point of case C, and what the point leaves. -/
abbrev resC := runC (F := F) c (grid0.coords t) (bufs t) h0 h1 (ins m c t) s
def stepC : St F := (resC m c t h0 h1 s).1.state
theorem fullC : (resC m c t h0 h1 s).1.Full where
  c15 := View.cover_of_tiledL _ S512x1536.size (by sl_kernel_rfl)
  c16 := View.cover_of_tiledL _ S16x512.size (by sl_kernel_rfl)
  c20 := View.cover_of_tiledL _ S512x512.size (by sl_kernel_rfl)
  c21 := View.cover_of_tiledL _ S512x1024.size (by sl_kernel_rfl)
  c22 := View.cover_of_tiledL _ S8x1024.size (by sl_kernel_rfl)
  c24 := View.cover_of_tiledL _ S8x512.size (by sl_kernel_rfl)
  c25 := View.cover_of_tiledL _ S16x512.size (by sl_kernel_rfl)
  c26 := View.cover_of_tiledL _ S8x512.size (by sl_kernel_rfl)
  c27 := View.cover_of_tiledL _ S8x512.size (by sl_kernel_rfl)
theorem coverC_17 : Covered (resC m c t h0 h1 s).1.l17 := View.cover_of_tiledL _ ![128, 128] (by sl_kernel_rfl)
theorem coverC_18 : Covered (resC m c t h0 h1 s).1.l18 := View.cover_of_tiledL _ S512x64.size (by sl_kernel_rfl)
theorem coverC_19 : Covered (resC m c t h0 h1 s).1.l19 := View.cover_of_tiledL _ S512x64.size (by sl_kernel_rfl)
end

theorem stepA_ind (c : Dev nD) (t : Fin cfg0.N) (h0 : First (grid0.coords t)) (h1 : ¬Last (grid0.coords t)) (x24 y24 : Vec F S512x512 .f32) : stepA m c t h0 h1 x24 = stepA m c t h0 h1 y24 := by
  unfold stepA resA runA
  dsimp only [Left.state]
  simp only [ind_v154 x24 y24, ind_r_27 x24 y24, ind_r_28 x24 y24, ind_r_26 x24 y24, ind_v217 x24 y24, ind_r_40 x24 y24, ind_r_24 x24 y24, ind_r_25 x24 y24, ind_r_39 x24 y24, ind_r_41 x24 y24, ind_r_47 x24 y24, ind_H16_4 x24 y24, ind_v289 x24 y24, ind_H16_5 x24 y24, ind_v302 x24 y24, ind_H16_6 x24 y24, ind_v315 x24 y24, ind_H16_7 x24 y24, ind_r_46 x24 y24, ind_r_44 x24 y24, ind_r_42 x24 y24, ind_r_43 x24 y24, ind_v328 x24 y24, ind_H16_8 x24 y24, ind_v339 x24 y24, ind_r_49 x24 y24]

/-- What is in the buffers after point n. -/
def outs (c : Dev nD) : (n : ℕ) → n < cfg0.N → St F
  | 0, h => stepA m c ⟨0, h⟩ ((first_iff _).mpr rfl) (fun e => absurd ((last_iff _).mp e) (show ¬ (0 = 15) by decide)) (View.canon [])
  | n + 1, h =>
    if h1 : n + 1 = 15 then stepC m c ⟨n + 1, h⟩ (fun e => absurd ((first_iff _).mp e) (Nat.succ_ne_zero n)) ((last_iff _).mpr h1) (outs c n (Nat.lt_of_succ_lt h))
    else stepB m c ⟨n + 1, h⟩ (fun e => absurd ((first_iff _).mp e) (Nat.succ_ne_zero n)) (fun e => h1 ((last_iff _).mp e)) (outs c n (Nat.lt_of_succ_lt h))

/-- What is in the buffers when a point that is not the first starts. -/
abbrev was (c : Dev nD) (t : Fin cfg0.N) : St F := outs m c (t.val - 1) (Nat.lt_of_le_of_lt (Nat.sub_le _ _) t.isLt)

theorem outs_A (c : Dev nD) (t : Fin cfg0.N) (h0 h1) (x24) : outs m c t.val t.isLt = stepA m c t h0 h1 x24 := by
  obtain ⟨n, hn⟩ := t
  obtain rfl : n = 0 := (first_iff _).mp h0
  exact stepA_ind m c _ h0 h1 _ x24
theorem outs_B (c : Dev nD) (t : Fin cfg0.N) (h0 h1) : outs m c t.val t.isLt = stepB m c t h0 h1 (was m c t) := by
  obtain ⟨n, hn⟩ := t
  cases n with
  | zero => exact absurd ((first_iff ⟨0, hn⟩).mpr rfl) h0
  | succ n => exact dif_neg fun e => h1 ((last_iff ⟨n + 1, hn⟩).mpr e)
theorem outs_C (c : Dev nD) (t : Fin cfg0.N) (h0 h1) : outs m c t.val t.isLt = stepC m c t h0 h1 (was m c t) := by
  obtain ⟨n, hn⟩ := t
  cases n with
  | zero => exact absurd ((first_iff ⟨0, hn⟩).mpr rfl) h0
  | succ n => exact dif_pos ((last_iff ⟨n + 1, hn⟩).mp h1)

/-- The scratch buffers between points. -/
def kept (c : Dev nD) (s : St F) : sProp 𝕄 := iprop(owns (c : Thread nD τ) (Memref.whole cc0_scratch0) fullShare s.b20 ∗ owns (c : Thread nD τ) (Memref.whole cc0_scratch1) fullShare s.b21 ∗ owns (c : Thread nD τ) (Memref.whole cc0_scratch2) fullShare s.b22 ∗ any (F := F) c (Memref.whole cc0_scratch3) ∗ owns (c : Thread nD τ) (Memref.whole cc0_scratch4) fullShare s.b24 ∗ owns (c : Thread nD τ) (Memref.whole cc0_scratch5) fullShare s.b25 ∗ owns (c : Thread nD τ) (Memref.whole cc0_scratch6) fullShare s.b26 ∗ owns (c : Thread nD τ) (Memref.whole cc0_scratch7) fullShare s.b27)

/-- What holds before point n. -/
def PhiS (c : Dev nD) : (n : ℕ) → n ≤ cfg0.N → sProp 𝕄
  | 0, _ => Pipeline.ΦA spec0 c
  | n + 1, hn => iprop(kept c (outs m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = iprop(kept c (outs m c n hn) ∗ (∃ r, prngReg c r)) := rfl
theorem PhiS_pos (c : Dev nD) (n : ℕ) (h : n ≤ cfg0.N) (hz : n ≠ 0) :
    PhiS m c n h = iprop(kept c (outs m c (n - 1) (by omega)) ∗ (∃ r, prngReg c r)) := by
  cases n with
  | zero => exact absurd rfl hz
  | succ n => rfl

theorem PhiA_eq (c : Dev nD) : (Pipeline.ΦA spec0 c : sProp 𝕄) = iprop(iprop(any (F := F) c (Memref.whole cc0_scratch0) ∗ any (F := F) c (Memref.whole cc0_scratch1) ∗ any (F := F) c (Memref.whole cc0_scratch2) ∗ any (F := F) c (Memref.whole cc0_scratch3) ∗ any (F := F) c (Memref.whole cc0_scratch4) ∗ any (F := F) c (Memref.whole cc0_scratch5) ∗ any (F := F) c (Memref.whole cc0_scratch6) ∗ any (F := F) c (Memref.whole cc0_scratch7)) ∗ (∃ r, prngReg c r)) := by
  unfold Pipeline.ΦA; rw [scopedRest0_eq]; simp only [any, owns_whole]; try rfl

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outs m c t.val t.isLt).b15
    | ⟨15, _⟩ => (outs m c t.val t.isLt).b16
    | ⟨16, _⟩ => (outs m c t.val t.isLt).b17
    | ⟨17, _⟩ => (outs m c t.val t.isLt).b18
    | ⟨18, _⟩ => (outs m c t.val t.isLt).b19
    | ⟨n + 19, h⟩ => absurd h (show ¬ n + 19 < 19 by omega)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after_14 (c : Dev nD) (t : Fin cfg0.N) : (dats m 0 c).after 14 t = (outs m c t.val t.isLt).b15 := by dsimp only [dats]
theorem after_15 (c : Dev nD) (t : Fin cfg0.N) : (dats m 0 c).after 15 t = (outs m c t.val t.isLt).b16 := by dsimp only [dats]
theorem after_16 (c : Dev nD) (t : Fin cfg0.N) : (dats m 0 c).after 16 t = (outs m c t.val t.isLt).b17 := by dsimp only [dats]
theorem after_17 (c : Dev nD) (t : Fin cfg0.N) : (dats m 0 c).after 17 t = (outs m c t.val t.isLt).b18 := by dsimp only [dats]
theorem after_18 (c : Dev nD) (t : Fin cfg0.N) : (dats m 0 c).after 18 t = (outs m c t.val t.isLt).b19 := by dsimp only [dats]
theorem live : ∀ t : Fin cfg0.N, Last (grid0.coords t) → cfg0.idle 16 (grid0.coords t) = false ∧ cfg0.idle 17 (grid0.coords t) = false ∧ cfg0.idle 18 (grid0.coords t) = false := by decide +kernel
theorem idle : ∀ t : Fin cfg0.N, ¬Last (grid0.coords t) → ∀ w : Fin cfg0.W, 16 ≤ w.val → cfg0.idle w (grid0.coords t) = true ∧ (cfg0.win w).flush t = false := by decide +kernel

/-- The resident row block is found as the point before left it. -/
theorem found_15 (c : Dev nD) (t : Fin cfg0.N) (ht : t.val ≠ 0) (d) : (dats m 0 c).before 15 t d = (was m c t).b16 := by
  rw [Dat.before_of_pos _ 15 t ht (by rfl)]
  have hl := lt_N t
  rw [if_neg (by
    intro h
    have := (flush0_15 _).mp h
    simp only at this
    omega)]
  unfold Dat.left
  rw [show ∀ t : Fin cfg0.N, cfg0.idle 15 (grid0.coords t) = false from fun _ => rfl]
  show (dats m 0 c).kept 15 _ d = _
  exact after_15 m c _

section
variable {S : Shape} {e : EltTy} (arg : Memref sig .tc .vmem S e)
/-- A buffer stored over everywhere is owned at what the stores leave. -/
theorem owns_any (c : Dev nD) (L : List (View.Piece (Elt F) S e)) (h : ∀ y, ∃ p ∈ L, y ∈ p.1.set) :
    put c arg L ⊢ (owns (c : Thread nD τ) arg fullShare (View.canon L) : sProp 𝕄) := by
  unfold put
  iintro ⟨%f, H⟩
  unfold owns; iexists _; isplitr
  swap; · iexact H
  ipureintro; exact View.read_writes_eq_canon _ _ _ h
end

/-- A buffer owned at contents is the buffer after a store of them. -/
theorem whole_of_owns {a b : ℕ} {e : EltTy} (arg : Memref sig .tc .vmem ⟨2, ![a, b]⟩ e) (harg : arg.IsWhole) (c : Dev nD) (x : Vec F ⟨2, ![a, b]⟩ e)
    (inb : ∀ d, (![0, 0] : Fin 2 → Nat) d + (![a, b] : Fin 2 → Nat) d ≤ (⟨2, ![a, b]⟩ : Shape).size d) :
    (owns (c : Thread nD τ) arg fullShare x : sProp 𝕄)
      ⊢ put c arg [⟨Rect.unit (s := ⟨2, ![a, b]⟩) ![0, 0] ![a, b] inb, x⟩] := by
  unfold owns put
  iintro ⟨%f, %hf, H⟩
  have e : arg.view.writes (Elt F) f [⟨Rect.unit (s := ⟨2, ![a, b]⟩) ![0, 0] ![a, b] inb, x⟩] = f :=
    (harg.eq_unread (Cert.Rows.read_full arg.view f inb x [])).trans (harg.eq_unread hf).symm
  iexists f
  rw [e]
  iexact H

/-- Owning a buffer at contents is holding it with them. -/
theorem take {S : Shape} {e : EltTy} {a : Memref sig .tc .vmem S e} (c : Dev nD) (h : a.IsWhole) {x y : Vec F S e} (e : x = y) : (owns (c : Thread nD τ) a fullShare x : sProp 𝕄) ⊢ held c a h y := by
  subst e
  unfold owns held
  iintro ⟨%f, %hf, H⟩
  obtain rfl := h.eq_unread hf
  iexact H
theorem give {S : Shape} {e : EltTy} {a : Memref sig .tc .vmem S e} (c : Dev nD) (h : a.IsWhole) (x : Vec F S e) : (held c a h x : sProp 𝕄) ⊢ owns (c : Thread nD τ) a fullShare x := by
  unfold owns held
  iintro H
  iexists _; isplitr; · ipureintro; exact h.read_unread _
  iexact H
/-- What a window's block is owned at is what its point leaves. -/
theorem back (c : Dev nD) (t : Fin cfg0.N) (w : Fin cfg0.W) (h : cfg0.idle w (grid0.coords t) = false) {x} (e : (dats m 0 c).after w t = x) :
    (owns (c : Thread nD τ) ((cfg0.win w).stage (cfg0.slots t w)) fullShare x : sProp 𝕄) ⊢ (dats m 0 c).leavesExact w t := by
  unfold Dat.leavesExact
  rw [h, e]

theorem kept_from (c : Dev nD) (t : Fin cfg0.N) (s : St F) : kept c s ⊢ from_ c (bufs t) s := by
  unfold kept from_
  iintro ⟨H20, H21, H22, H23, H24, H25, H26, H27⟩
  isplitl [H20]; · iapply (whole_of_owns _ (Memref.isWhole_whole _) c _ _); iexact H20
  isplitl [H21]; · iapply (whole_of_owns _ (Memref.isWhole_whole _) c _ _); iexact H21
  isplitl [H22]; · iapply (whole_of_owns _ (Memref.isWhole_whole _) c _ _); iexact H22
  isplitl [H23]; · iexact H23
  isplitl [H24]; · iapply (take c (Memref.isWhole_whole _) rfl); iexact H24
  isplitl [H25]; · iapply (whole_of_owns _ (Memref.isWhole_whole _) c _ _); iexact H25
  isplitl [H26]; · iapply (whole_of_owns _ (Memref.isWhole_whole _) c _ _); iexact H26
  iapply (whole_of_owns _ (Memref.isWhole_whole _) c _ _); iexact H27
theorem stored_kept (c : Dev nD) (t : Fin cfg0.N) (x24 : Vec F S512x512 .f32) (L : Left F) (h : L.Full) : stored c (bufs t) x24 L ⊢ kept c L.state := by
  unfold kept stored Left.state
  dsimp only
  iintro ⟨H20, H21, H22, H23, H24, H25, H26, H27⟩
  isplitl [H20]; · iapply (owns_any _ c _ h.c20); iexact H20
  isplitl [H21]; · iapply (owns_any _ c _ h.c21); iexact H21
  isplitl [H22]; · iapply (owns_any _ c _ h.c22); iexact H22
  isplitl [H23]
  · unfold put any owns
    icases H23 with ⟨%f, H23⟩; iexists _; iexists _; isplitr
    swap; · iexact H23
    ipureintro; rfl
  isplitl [H24]; · iapply (owns_any _ c _ h.c24); unfold put; iexists _; iexact H24
  isplitl [H25]; · iapply (owns_any _ c _ h.c25); iexact H25
  isplitl [H26]; · iapply (owns_any _ c _ h.c26); iexact H26
  iapply (owns_any _ c _ h.c27); iexact H27
theorem kept_fresh (c : Dev nD) (s : St F) : kept c s ⊢ iprop(any (F := F) c (Memref.whole cc0_scratch0) ∗ any (F := F) c (Memref.whole cc0_scratch1) ∗ any (F := F) c (Memref.whole cc0_scratch2) ∗ any (F := F) c (Memref.whole cc0_scratch3) ∗ any (F := F) c (Memref.whole cc0_scratch4) ∗ any (F := F) c (Memref.whole cc0_scratch5) ∗ any (F := F) c (Memref.whole cc0_scratch6) ∗ any (F := F) c (Memref.whole cc0_scratch7)) := by
  unfold kept any
  iintro ⟨H0, H1, H2, H3, H4, H5, H6, H7⟩
  isplitl [H0]; · iexists _; iexact H0
  isplitl [H1]; · iexists _; iexact H1
  isplitl [H2]; · iexists _; iexact H2
  isplitl [H3]; · iexact H3
  isplitl [H4]; · iexists _; iexact H4
  isplitl [H5]; · iexists _; iexact H5
  isplitl [H6]; · iexists _; iexact H6
  iexists _; iexact H7

end Cert.MixBwdIdeal.Body

end
-- ==== Proof.MixFrame.lean ====
/- The frame of the mixer's backward call. -/
module

public import proofs.«01_k».proof.Proof.MixState

@[expose] public section

set_option maxRecDepth 16384

noncomputable section

namespace Cert.MixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (t : Fin cfg0.N)

theorem puts_15 (a : Memref sig .tc .vmem S512x1536 .bf16) (L : Left F) (h : Covered L.l15) : put c a L.l15 ⊢ owns (c : Thread nD τ) a fullShare L.state.b15 := owns_any a c _ h
theorem puts_16 (a : Memref sig .tc .vmem S16x512 .f32) (L : Left F) (h : Covered L.l16) : put c a L.l16 ⊢ owns (c : Thread nD τ) a fullShare L.state.b16 := owns_any a c _ h
theorem puts_17 (a : Memref sig .tc .vmem S512x128 .f32) (L : Left F) (h : Covered L.l17) : put c a L.l17 ⊢ owns (c : Thread nD τ) a fullShare L.state.b17 := owns_any a c _ h
theorem puts_18 (a : Memref sig .tc .vmem S512x64 .f32) (L : Left F) (h : Covered L.l18) : put c a L.l18 ⊢ owns (c : Thread nD τ) a fullShare L.state.b18 := owns_any a c _ h
theorem puts_19 (a : Memref sig .tc .vmem S512x64 .f32) (L : Left F) (h : Covered L.l19) : put c a L.l19 ⊢ owns (c : Thread nD τ) a fullShare L.state.b19 := owns_any a c _ h

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem found_0 (d) : (dats m 0 c).before 0 t d = iblk m c 0 t := before_0 (dats m 0 c) (A_eq m c 0) (after_0 m c) t d
theorem takes_0 (d) : owns (c : Thread nD τ) (bufs t).a1 fullShare ((dats m 0 c).before 0 t d) ⊢ held c (bufs t).a1 (bufs t).h1 (ins m c t).x1 := by dsimp only [ins]; rw [found_0]; exact take c (bufs t).h1 rfl
theorem found_1 (d) : (dats m 0 c).before 1 t d = iblk m c 1 t := before_1 (dats m 0 c) (A_eq m c 1) (after_1 m c) t d
theorem takes_1 (d) : owns (c : Thread nD τ) (bufs t).a2 fullShare ((dats m 0 c).before 1 t d) ⊢ held c (bufs t).a2 (bufs t).h2 (ins m c t).x2 := by dsimp only [ins]; rw [found_1]; exact take c (bufs t).h2 rfl
theorem found_2 (d) : (dats m 0 c).before 2 t d = iblk m c 2 t := before_2 (dats m 0 c) (A_eq m c 2) (after_2 m c) t d
theorem takes_2 (d) : owns (c : Thread nD τ) (bufs t).a3 fullShare ((dats m 0 c).before 2 t d) ⊢ held c (bufs t).a3 (bufs t).h3 (ins m c t).x3 := by dsimp only [ins]; rw [found_2]; exact take c (bufs t).h3 rfl
theorem found_3 (d) : (dats m 0 c).before 3 t d = iblk m c 3 t := before_3 (dats m 0 c) (A_eq m c 3) (after_3 m c) t d
theorem takes_3 (d) : owns (c : Thread nD τ) (bufs t).a4 fullShare ((dats m 0 c).before 3 t d) ⊢ held c (bufs t).a4 (bufs t).h4 (ins m c t).x4 := by dsimp only [ins]; rw [found_3]; exact take c (bufs t).h4 rfl
theorem found_4 (d) : (dats m 0 c).before 4 t d = iblk m c 4 t := before_4 (dats m 0 c) (A_eq m c 4) (after_4 m c) t d
theorem takes_4 (d) : owns (c : Thread nD τ) (bufs t).a5 fullShare ((dats m 0 c).before 4 t d) ⊢ held c (bufs t).a5 (bufs t).h5 (ins m c t).x5 := by dsimp only [ins]; rw [found_4]; exact take c (bufs t).h5 rfl
theorem found_5 (d) : (dats m 0 c).before 5 t d = iblk m c 5 t := before_5 (dats m 0 c) (A_eq m c 5) (after_5 m c) t d
theorem takes_5 (d) : owns (c : Thread nD τ) (bufs t).a6 fullShare ((dats m 0 c).before 5 t d) ⊢ held c (bufs t).a6 (bufs t).h6 (ins m c t).x6 := by dsimp only [ins]; rw [found_5]; exact take c (bufs t).h6 rfl
theorem found_6 (d) : (dats m 0 c).before 6 t d = iblk m c 6 t := before_6 (dats m 0 c) (A_eq m c 6) (after_6 m c) t d
theorem takes_6 (d) : owns (c : Thread nD τ) (bufs t).a7 fullShare ((dats m 0 c).before 6 t d) ⊢ held c (bufs t).a7 (bufs t).h7 (ins m c t).x7 := by dsimp only [ins]; rw [found_6]; exact take c (bufs t).h7 rfl
theorem found_7 (d) : (dats m 0 c).before 7 t d = iblk m c 7 t := before_7 (dats m 0 c) (A_eq m c 7) (after_7 m c) t d
theorem takes_7 (d) : owns (c : Thread nD τ) (bufs t).a8 fullShare ((dats m 0 c).before 7 t d) ⊢ held c (bufs t).a8 (bufs t).h8 (ins m c t).x8 := by dsimp only [ins]; rw [found_7]; exact take c (bufs t).h8 rfl
theorem found_8 (d) : (dats m 0 c).before 8 t d = iblk m c 8 t := before_8 (dats m 0 c) (A_eq m c 8) (after_8 m c) t d
theorem takes_8 (d) : owns (c : Thread nD τ) (bufs t).a9 fullShare ((dats m 0 c).before 8 t d) ⊢ held c (bufs t).a9 (bufs t).h9 (ins m c t).x9 := by dsimp only [ins]; rw [found_8]; exact take c (bufs t).h9 rfl
theorem found_9 (d) : (dats m 0 c).before 9 t d = iblk m c 9 t := before_9 (dats m 0 c) (A_eq m c 9) (after_9 m c) t d
theorem takes_9 (d) : owns (c : Thread nD τ) (bufs t).a10 fullShare ((dats m 0 c).before 9 t d) ⊢ held c (bufs t).a10 (bufs t).h10 (ins m c t).x10 := by dsimp only [ins]; rw [found_9]; exact take c (bufs t).h10 rfl
theorem found_10 (d) : (dats m 0 c).before 10 t d = iblk m c 10 t := before_10 (dats m 0 c) (A_eq m c 10) (after_10 m c) t d
theorem takes_10 (d) : owns (c : Thread nD τ) (bufs t).a11 fullShare ((dats m 0 c).before 10 t d) ⊢ held c (bufs t).a11 (bufs t).h11 (ins m c t).x11 := by dsimp only [ins]; rw [found_10]; exact take c (bufs t).h11 rfl
theorem found_11 (d) : (dats m 0 c).before 11 t d = iblk m c 11 t := before_11 (dats m 0 c) (A_eq m c 11) (after_11 m c) t d
theorem takes_11 (d) : owns (c : Thread nD τ) (bufs t).a12 fullShare ((dats m 0 c).before 11 t d) ⊢ held c (bufs t).a12 (bufs t).h12 (ins m c t).x12 := by dsimp only [ins]; rw [found_11]; exact take c (bufs t).h12 rfl
theorem found_12 (d) : (dats m 0 c).before 12 t d = iblk m c 12 t := before_12 (dats m 0 c) (A_eq m c 12) (after_12 m c) t d
theorem takes_12 (d) : owns (c : Thread nD τ) (bufs t).a13 fullShare ((dats m 0 c).before 12 t d) ⊢ held c (bufs t).a13 (bufs t).h13 (ins m c t).x13 := by dsimp only [ins]; rw [found_12]; exact take c (bufs t).h13 rfl
theorem found_13 (d) : (dats m 0 c).before 13 t d = iblk m c 13 t := before_13 (dats m 0 c) (A_eq m c 13) (after_13 m c) t d
theorem takes_13 (d) : owns (c : Thread nD τ) (bufs t).a14 fullShare ((dats m 0 c).before 13 t d) ⊢ held c (bufs t).a14 (bufs t).h14 (ins m c t).x14 := by dsimp only [ins]; rw [found_13]; exact take c (bufs t).h14 rfl
theorem gives_0 : held c (bufs t).a1 (bufs t).h1 (ins m c t).x1 ⊢ (dats m 0 c).leavesExact 0 t := by dsimp only [ins]; exact (give c (bufs t).h1 _).trans (back m c t 0 rfl (after_0 m c t))
theorem gives_1 : held c (bufs t).a2 (bufs t).h2 (ins m c t).x2 ⊢ (dats m 0 c).leavesExact 1 t := by dsimp only [ins]; exact (give c (bufs t).h2 _).trans (back m c t 1 rfl (after_1 m c t))
theorem gives_2 : held c (bufs t).a3 (bufs t).h3 (ins m c t).x3 ⊢ (dats m 0 c).leavesExact 2 t := by dsimp only [ins]; exact (give c (bufs t).h3 _).trans (back m c t 2 rfl (after_2 m c t))
theorem gives_3 : held c (bufs t).a4 (bufs t).h4 (ins m c t).x4 ⊢ (dats m 0 c).leavesExact 3 t := by dsimp only [ins]; exact (give c (bufs t).h4 _).trans (back m c t 3 rfl (after_3 m c t))
theorem gives_4 : held c (bufs t).a5 (bufs t).h5 (ins m c t).x5 ⊢ (dats m 0 c).leavesExact 4 t := by dsimp only [ins]; exact (give c (bufs t).h5 _).trans (back m c t 4 rfl (after_4 m c t))
theorem gives_5 : held c (bufs t).a6 (bufs t).h6 (ins m c t).x6 ⊢ (dats m 0 c).leavesExact 5 t := by dsimp only [ins]; exact (give c (bufs t).h6 _).trans (back m c t 5 rfl (after_5 m c t))
theorem gives_6 : held c (bufs t).a7 (bufs t).h7 (ins m c t).x7 ⊢ (dats m 0 c).leavesExact 6 t := by dsimp only [ins]; exact (give c (bufs t).h7 _).trans (back m c t 6 rfl (after_6 m c t))
theorem gives_7 : held c (bufs t).a8 (bufs t).h8 (ins m c t).x8 ⊢ (dats m 0 c).leavesExact 7 t := by dsimp only [ins]; exact (give c (bufs t).h8 _).trans (back m c t 7 rfl (after_7 m c t))
theorem gives_8 : held c (bufs t).a9 (bufs t).h9 (ins m c t).x9 ⊢ (dats m 0 c).leavesExact 8 t := by dsimp only [ins]; exact (give c (bufs t).h9 _).trans (back m c t 8 rfl (after_8 m c t))
theorem gives_9 : held c (bufs t).a10 (bufs t).h10 (ins m c t).x10 ⊢ (dats m 0 c).leavesExact 9 t := by dsimp only [ins]; exact (give c (bufs t).h10 _).trans (back m c t 9 rfl (after_9 m c t))
theorem gives_10 : held c (bufs t).a11 (bufs t).h11 (ins m c t).x11 ⊢ (dats m 0 c).leavesExact 10 t := by dsimp only [ins]; exact (give c (bufs t).h11 _).trans (back m c t 10 rfl (after_10 m c t))
theorem gives_11 : held c (bufs t).a12 (bufs t).h12 (ins m c t).x12 ⊢ (dats m 0 c).leavesExact 11 t := by dsimp only [ins]; exact (give c (bufs t).h12 _).trans (back m c t 11 rfl (after_11 m c t))
theorem gives_12 : held c (bufs t).a13 (bufs t).h13 (ins m c t).x13 ⊢ (dats m 0 c).leavesExact 12 t := by dsimp only [ins]; exact (give c (bufs t).h13 _).trans (back m c t 12 rfl (after_12 m c t))
theorem gives_13 : held c (bufs t).a14 (bufs t).h14 (ins m c t).x14 ⊢ (dats m 0 c).leavesExact 13 t := by dsimp only [ins]; exact (give c (bufs t).h14 _).trans (back m c t 13 rfl (after_13 m c t))

/-- What the body is called with at point t. -/
def bodyPre : sProp 𝕄 :=
  iprop((dats m 0 c).Φ t.castSucc ∗ (dats m 0 c).owesAt () t.castSucc
    ∗ (∃ d, owns (c : Thread nD τ) (bufs t).a1 fullShare ((dats m 0 c).before 0 t d))
    ∗ (∃ d, owns (c : Thread nD τ) (bufs t).a2 fullShare ((dats m 0 c).before 1 t d))
    ∗ (∃ d, owns (c : Thread nD τ) (bufs t).a3 fullShare ((dats m 0 c).before 2 t d))
    ∗ (∃ d, owns (c : Thread nD τ) (bufs t).a4 fullShare ((dats m 0 c).before 3 t d))
    ∗ (∃ d, owns (c : Thread nD τ) (bufs t).a5 fullShare ((dats m 0 c).before 4 t d))
    ∗ (∃ d, owns (c : Thread nD τ) (bufs t).a6 fullShare ((dats m 0 c).before 5 t d))
    ∗ (∃ d, owns (c : Thread nD τ) (bufs t).a7 fullShare ((dats m 0 c).before 6 t d))
    ∗ (∃ d, owns (c : Thread nD τ) (bufs t).a8 fullShare ((dats m 0 c).before 7 t d))
    ∗ (∃ d, owns (c : Thread nD τ) (bufs t).a9 fullShare ((dats m 0 c).before 8 t d))
    ∗ (∃ d, owns (c : Thread nD τ) (bufs t).a10 fullShare ((dats m 0 c).before 9 t d))
    ∗ (∃ d, owns (c : Thread nD τ) (bufs t).a11 fullShare ((dats m 0 c).before 10 t d))
    ∗ (∃ d, owns (c : Thread nD τ) (bufs t).a12 fullShare ((dats m 0 c).before 11 t d))
    ∗ (∃ d, owns (c : Thread nD τ) (bufs t).a13 fullShare ((dats m 0 c).before 12 t d))
    ∗ (∃ d, owns (c : Thread nD τ) (bufs t).a14 fullShare ((dats m 0 c).before 13 t d))
    ∗ (∃ d, owns (c : Thread nD τ) (bufs t).a15 fullShare ((dats m 0 c).before 14 t d))
    ∗ (∃ d, owns (c : Thread nD τ) (bufs t).a16 fullShare ((dats m 0 c).before 15 t d))
    ∗ (∃ d, owns (c : Thread nD τ) (bufs t).a17 fullShare ((dats m 0 c).before 16 t d))
    ∗ (∃ d, owns (c : Thread nD τ) (bufs t).a18 fullShare ((dats m 0 c).before 17 t d))
    ∗ (∃ d, owns (c : Thread nD τ) (bufs t).a19 fullShare ((dats m 0 c).before 18 t d)))
/-- What it returns. -/
def bodyPost : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t)

set_option maxHeartbeats 1000000 in
theorem pre_reads : bodyPre m c t ⊢ iprop(PhiS m c t.val (Nat.le_of_lt t.isLt) ∗ (dats m 0 c).owesAt () t.castSucc ∗ reads c (bufs t) (ins m c t) ∗ any (F := F) c (bufs t).a15
    ∗ (∃ d, owns (c : Thread nD τ) (bufs t).a16 fullShare ((dats m 0 c).before 15 t d)) ∗ (∃ d, owns (c : Thread nD τ) (bufs t).a17 fullShare ((dats m 0 c).before 16 t d))
    ∗ (∃ d, owns (c : Thread nD τ) (bufs t).a18 fullShare ((dats m 0 c).before 17 t d)) ∗ (∃ d, owns (c : Thread nD τ) (bufs t).a19 fullShare ((dats m 0 c).before 18 t d))) := by
  unfold bodyPre
  rw [PhiS_castSucc m c t]
  iintro ⟨Hp, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, Hr⟩
  isplitl [Hp]; · iexact Hp
  isplitl [Ho]; · iexact Ho
  isplitr [H15 Hr]
  · unfold reads
    isplitl [H1]; · iapply (takes_0 m c t _); iexact H1
    isplitl [H2]; · iapply (takes_1 m c t _); iexact H2
    isplitl [H3]; · iapply (takes_2 m c t _); iexact H3
    isplitl [H4]; · iapply (takes_3 m c t _); iexact H4
    isplitl [H5]; · iapply (takes_4 m c t _); iexact H5
    isplitl [H6]; · iapply (takes_5 m c t _); iexact H6
    isplitl [H7]; · iapply (takes_6 m c t _); iexact H7
    isplitl [H8]; · iapply (takes_7 m c t _); iexact H8
    isplitl [H9]; · iapply (takes_8 m c t _); iexact H9
    isplitl [H10]; · iapply (takes_9 m c t _); iexact H10
    isplitl [H11]; · iapply (takes_10 m c t _); iexact H11
    isplitl [H12]; · iapply (takes_11 m c t _); iexact H12
    isplitl [H13]; · iapply (takes_12 m c t _); iexact H13
    iapply (takes_13 m c t _); iexact H14
  isplitl [H15]; · unfold any; iexists _; iexact H15
  iexact Hr

set_option maxHeartbeats 1000000 in
theorem post_reads : iprop((kept c (outs m c t.val t.isLt) ∗ (∃ r, prngReg c r)) ∗ (dats m 0 c).owesAt () t.castSucc ∗ reads c (bufs t) (ins m c t) ∗ owns (c : Thread nD τ) (bufs t).a15 fullShare (outs m c t.val t.isLt).b15
    ∗ owns (c : Thread nD τ) (bufs t).a16 fullShare (outs m c t.val t.isLt).b16 ∗ (dats m 0 c).leavesExact 16 t ∗ (dats m 0 c).leavesExact 17 t ∗ (dats m 0 c).leavesExact 18 t) ⊢ bodyPost m c t := by
  unfold bodyPost reads
  rw [show (dats m 0 c).owesAt () t.succ = (dats m 0 c).owesAt () t.castSucc from rfl]
  rw [show (dats m 0 c).Φ t.succ = PhiS m c (t.val + 1) t.isLt from rfl, PhiS_succ]
  iintro ⟨Hp, Ho, ⟨H1, H2, H3, H4, H5, H6, H7, H8, H9, H10, H11, H12, H13, H14⟩, H15, H16, Hr⟩
  isplitl [Hp]; · iexact Hp
  isplitl [Ho]; · iexact Ho
  isplitl [H1]; · iapply (gives_0 m c t); iexact H1
  isplitl [H2]; · iapply (gives_1 m c t); iexact H2
  isplitl [H3]; · iapply (gives_2 m c t); iexact H3
  isplitl [H4]; · iapply (gives_3 m c t); iexact H4
  isplitl [H5]; · iapply (gives_4 m c t); iexact H5
  isplitl [H6]; · iapply (gives_5 m c t); iexact H6
  isplitl [H7]; · iapply (gives_6 m c t); iexact H7
  isplitl [H8]; · iapply (gives_7 m c t); iexact H8
  isplitl [H9]; · iapply (gives_8 m c t); iexact H9
  isplitl [H10]; · iapply (gives_9 m c t); iexact H10
  isplitl [H11]; · iapply (gives_10 m c t); iexact H11
  isplitl [H12]; · iapply (gives_11 m c t); iexact H12
  isplitl [H13]; · iapply (gives_12 m c t); iexact H13
  isplitl [H14]; · iapply (gives_13 m c t); iexact H14
  isplitl [H15]; · iapply (back m c t 14 rfl (after_14 m c t)); iexact H15
  isplitl [H16]; · iapply (back m c t 15 rfl (after_15 m c t)); iexact H16
  iexact Hr

/-- A buffer the point does not write is returned as it was found. -/
theorem same (h1 : ¬Last (grid0.coords t)) (w : Fin cfg0.W) (hw : 16 ≤ w.val) :
    (iprop(∃ d, owns (c : Thread nD τ) ((cfg0.win w).stage (cfg0.slots t w)) fullShare ((dats m 0 c).before w t d)) : sProp 𝕄) ⊢ (dats m 0 c).leavesExact w t := by
  rw [Dat.leavesExact_idle (dats m 0 c) w t (idle t h1 w hw).1 (idle t h1 w hw).2]

set_option maxHeartbeats 1000000 in
theorem body_A (h0 : First (grid0.coords t)) (h1 : ¬Last (grid0.coords t)) :
    bodyPre m c t ⊢ wp frame (wpE (defs₀ (F := F)) Variants.none c none) Set.univ (bodyAt0 t) (fun _ => bodyPost m c t) := by
  refine (pre_reads m c t).trans ?_
  unfold bodyAt0
  rw [PhiS_zero m c _ _ ((first_iff t).mp h0), PhiA_eq]
  iintro ⟨⟨⟨H20, H21, H22, H23, H24, H25, H26, H27⟩, Hg⟩, Ho, Hr, H15, ⟨%d16, H16⟩, H17, H18, H19⟩
  unfold any
  icases H24 with ⟨%d24, H24⟩
  iapply ((resA m c t h0 h1 d24).2 Set.univ _)
  isplitl [Hr]; · iexact Hr
  isplitl [H15]; · unfold any; iexact H15
  isplitl [H16]; · unfold any; iexists _; iexact H16
  isplitl [H20 H21 H22 H23 H24 H25 H26 H27]
  · unfold fresh any
    isplitl [H20]; · iexact H20
    isplitl [H21]; · iexact H21
    isplitl [H22]; · iexact H22
    isplitl [H23]; · iexact H23
    isplitl [H24]; · iapply (take c (Memref.isWhole_whole _) rfl); iexact H24
    isplitl [H25]; · iexact H25
    isplitl [H26]; · iexact H26
    iexact H27
  iintro ⟨Hr, H15, H16, Hs⟩
  iapply (post_reads m c t)
  rw [outs_A m c t h0 h1 d24]
  isplitl [Hs Hg]
  · isplitl [Hs]; · iapply (stored_kept c t _ _ (fullA m c t h0 h1 d24)); iexact Hs
    iexact Hg
  isplitl [Ho]; · iexact Ho
  isplitl [Hr]; · iexact Hr
  isplitl [H15]; · iapply (puts_15 c (bufs t).a15 _ (fullA m c t h0 h1 d24).c15); iexact H15
  isplitl [H16]; · iapply (puts_16 c (bufs t).a16 _ (fullA m c t h0 h1 d24).c16); iexact H16
  isplitl [H17]; · iapply (same m c t h1 16 (by decide)); iexact H17
  isplitl [H18]; · iapply (same m c t h1 17 (by decide)); iexact H18
  iapply (same m c t h1 18 (by decide)); iexact H19

set_option maxHeartbeats 1000000 in
theorem body_B (h0 : ¬First (grid0.coords t)) (h1 : ¬Last (grid0.coords t)) :
    bodyPre m c t ⊢ wp frame (wpE (defs₀ (F := F)) Variants.none c none) Set.univ (bodyAt0 t) (fun _ => bodyPost m c t) := by
  refine (pre_reads m c t).trans ?_
  unfold bodyAt0
  have ht : t.val ≠ 0 := fun e => h0 ((first_iff t).mpr e)
  simp only [found_15 m c t ht]
  rw [PhiS_pos m c _ _ ht]
  iintro ⟨⟨Hk, Hg⟩, Ho, Hr, H15, ⟨%d16, H16⟩, H17, H18, H19⟩
  iapply ((resB m c t h0 h1 (was m c t)).2 Set.univ _)
  isplitl [Hr]; · iexact Hr
  isplitl [H15]; · iexact H15
  isplitl [H16]; · iapply (whole_of_owns (bufs t).a16 (bufs t).h16 c _ _); iexact H16
  isplitl [Hk]; · iapply (kept_from c t (was m c t)); iexact Hk
  iintro ⟨Hr, H15, H16, Hs⟩
  iapply (post_reads m c t)
  rw [outs_B m c t h0 h1]
  isplitl [Hs Hg]
  · isplitl [Hs]; · iapply (stored_kept c t _ _ (fullB m c t h0 h1 (was m c t))); iexact Hs
    iexact Hg
  isplitl [Ho]; · iexact Ho
  isplitl [Hr]; · iexact Hr
  isplitl [H15]; · iapply (puts_15 c (bufs t).a15 _ (fullB m c t h0 h1 (was m c t)).c15); iexact H15
  isplitl [H16]; · iapply (puts_16 c (bufs t).a16 _ (fullB m c t h0 h1 (was m c t)).c16); iexact H16
  isplitl [H17]; · iapply (same m c t h1 16 (by decide)); iexact H17
  isplitl [H18]; · iapply (same m c t h1 17 (by decide)); iexact H18
  iapply (same m c t h1 18 (by decide)); iexact H19

set_option maxHeartbeats 1000000 in
theorem body_C (h0 : ¬First (grid0.coords t)) (h1 : Last (grid0.coords t)) :
    bodyPre m c t ⊢ wp frame (wpE (defs₀ (F := F)) Variants.none c none) Set.univ (bodyAt0 t) (fun _ => bodyPost m c t) := by
  refine (pre_reads m c t).trans ?_
  unfold bodyAt0
  have ht : t.val ≠ 0 := fun e => h0 ((first_iff t).mpr e)
  simp only [found_15 m c t ht]
  rw [PhiS_pos m c _ _ ht]
  iintro ⟨⟨Hk, Hg⟩, Ho, Hr, H15, ⟨%d16, H16⟩, H17, H18, H19⟩
  iapply ((resC m c t h0 h1 (was m c t)).2 Set.univ _)
  isplitl [Hr]; · iexact Hr
  isplitl [H15]; · iexact H15
  isplitl [H16]; · iapply (whole_of_owns (bufs t).a16 (bufs t).h16 c _ _); iexact H16
  isplitl [H17]; · unfold any; icases H17 with ⟨%d, H⟩; iexists _; iexact H
  isplitl [H18]; · unfold any; icases H18 with ⟨%d, H⟩; iexists _; iexact H
  isplitl [H19]; · unfold any; icases H19 with ⟨%d, H⟩; iexists _; iexact H
  isplitl [Hk]; · iapply (kept_from c t (was m c t)); iexact Hk
  iintro ⟨Hr, H15, H16, H17, H18, H19, Hs⟩
  iapply (post_reads m c t)
  rw [outs_C m c t h0 h1]
  isplitl [Hs Hg]
  · isplitl [Hs]; · iapply (stored_kept c t _ _ (fullC m c t h0 h1 (was m c t))); iexact Hs
    iexact Hg
  isplitl [Ho]; · iexact Ho
  isplitl [Hr]; · iexact Hr
  isplitl [H15]; · iapply (puts_15 c (bufs t).a15 _ (fullC m c t h0 h1 (was m c t)).c15); iexact H15
  isplitl [H16]; · iapply (puts_16 c (bufs t).a16 _ (fullC m c t h0 h1 (was m c t)).c16); iexact H16
  isplitl [H17]; · iapply (((puts_17 c (bufs t).a17 _ (coverC_17 m c t h0 h1 (was m c t))).trans (Entails.of_eq (congrArg (fun s : St F => owns (c : Thread nD τ) (bufs t).a17 fullShare s.b17) (outs_C m c t h0 h1).symm))).trans (back m c t 16 (live t h1).1 (after_16 m c t))); iexact H17
  isplitl [H18]; · iapply (((puts_18 c (bufs t).a18 _ (coverC_18 m c t h0 h1 (was m c t))).trans (Entails.of_eq (congrArg (fun s : St F => owns (c : Thread nD τ) (bufs t).a18 fullShare s.b18) (outs_C m c t h0 h1).symm))).trans (back m c t 17 (live t h1).2.1 (after_17 m c t))); iexact H18
  iapply (((puts_19 c (bufs t).a19 _ (coverC_19 m c t h0 h1 (was m c t))).trans (Entails.of_eq (congrArg (fun s : St F => owns (c : Thread nD τ) (bufs t).a19 fullShare s.b19) (outs_C m c t h0 h1).symm))).trans (back m c t 18 (live t h1).2.2 (after_18 m c t))); iexact H19

end

theorem sound_body (c : Dev nD) (t : Fin cfg0.N) :
    bodyPre m c t ⊢ wp frame (wpE (defs₀ (F := F)) Variants.none c none) Set.univ (bodyAt0 t) (fun _ => bodyPost m c t) := by
  by_cases h0 : First (grid0.coords t)
  · exact body_A m c t h0 (fun e => by have := (first_iff t).mp h0; have := (last_iff t).mp e; omega)
  · by_cases h1 : Last (grid0.coords t)
    · exact body_C m c t h0 h1
    · exact body_B m c t h0 h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ hN, PhiA_eq]
  iintro ⟨Hk, Hg⟩
  isplitl [Hk]; · iapply (kept_fresh c _); iexact Hk
  iexact Hg

/-- Every buffer after the lines that follow the call. -/
abbrev V₁ (c : Dev nD) (b : Ref sig .tc) : Buf (Elt F) ((c.tc : Thread nD τ).loc b) := Pipeline.afterTail₀ cfgs (dats m) 0 (V₀ m) after_lines c b

/-- The lines after the call touch buffers outside the launch. -/
theorem after_lines_sub : ∀ ops ∈ (after_lines (F := F)), ∀ op ∈ ops, op.bufs ⊆ Pipeline.tailRefs sig Pipeline.Prefetch.none spec0 := by
  rw [Pipeline.tailRefs_none spec0 (fun w => winFacts₀0.arr_unscoped w)]
  intro ops h op ho
  simp only [after_lines, List.mem_singleton] at h
  subst h
  exact Pipeline.sub_ucRefs op (List.forall_iff_forall_mem.mp hostOps1_sub op ho)

/-- They allocate nothing. -/
theorem after_lines_fresh : ∀ ops ∈ (after_lines (F := F)), ∀ op ∈ ops, op.fresh = ∅ := by
  intro ops h op ho
  simp only [after_lines, List.mem_singleton] at h
  subst h
  exact List.forall_iff_forall_mem.mp (StableHlo.forall_fresh_of_map (ops := hostOps1 (F := F)) rfl) op ho

/-- They leave the launch's arrays as they are. -/
theorem after_lines_keep : ∀ ops ∈ (after_lines (F := F)), ∀ op ∈ ops, ∀ w, Proc.devRef .tc (Pipeline.arrRef spec0 w) ∉ op.writes := by
  intro ops h op ho w
  simp only [after_lines, List.mem_singleton] at h
  subst h
  have hw : op.writes ∈ (hostOps1 (F := F)).map HloOp.writes := List.mem_map_of_mem ho
  rw [hostOps1_writes] at hw
  obtain ⟨r, hr, e⟩ := List.mem_map.mp hw
  rw [← e, Finset.mem_singleton]
  intro e'
  have := Proc.devRef_injective _ e'
  subst this
  exact (show ∀ w : Fin cfg0.W, Pipeline.arrRef spec0 w ∉ hostOps1_W by decide +kernel) w hr

set_option maxHeartbeats 4000000 in
set_option backward.isDefEq.respectTransparency.types false in
/-- The run: the arrays end at what the points leave, every other buffer at what the lines around the call leave, and every counter at zero. -/
theorem run_all : θ_run defs (onTc (τ := τ) (main (F := F))) (s₀ m ρ) (fun r => (Pipeline.FramePost cfgs (dats m) 0 (V₁ m)) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V₀ m) (opss := after_lines) (hsub := after_lines_sub) (hfresh := after_lines_fresh) (hkeep := after_lines_keep)
    (hmain := hmain m Variants.none) (hA := A_eq m) (hin := hin m) (hout := hout m)

/-- An argument that is no array of the launch ends as launched. -/
theorem V₁_arg (c : Dev nD) (a : Ref sig .tc) (ha : a ∈ args) (hn : ∀ w, Pipeline.arrRef spec0 w ≠ a) (hw : a ∉ hostOps1_W) :
    V₁ m c a = m ((c : Thread nD τ).loc a) := by
  unfold V₁ Pipeline.afterTail₀
  rw [show (after_lines (F := F)).flatten = hostOps1 from List.append_nil _, StableHlo.after_unwritten hostOps1_W hostOps1_writes hw]
  exact (Pipeline.withArrays_of_ne spec0 c _ _ a hn).trans (V_arg m c a ha)

/-- The arguments end as launched. -/
theorem args_kept {r : PUnit × MemSt nD τ sig (Elt F)} (h : Pipeline.FramePost cfgs (dats m) 0 (V₁ m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 1).trans (((dats m 0 c).arrAt_in 1 rfl _).trans ((A_eq m c 1).trans (V_arg m c main_arg0 (by decide)))),
    ((h c).2 main_arg1 (Pipeline.mem_restRefs_of main_arg1 (by decide) (by decide))).trans (V₁_arg m c main_arg1 (by decide) (by decide +kernel) (by decide)),
    ((h c).2 main_arg2 (Pipeline.mem_restRefs_of main_arg2 (by decide) (by decide))).trans (V₁_arg m c main_arg2 (by decide) (by decide +kernel) (by decide)),
    ((h c).1 8).trans (((dats m 0 c).arrAt_in 8 rfl _).trans ((A_eq m c 8).trans (V_arg m c main_arg3 (by decide)))),
    ((h c).2 main_arg4 (Pipeline.mem_restRefs_of main_arg4 (by decide) (by decide))).trans (V₁_arg m c main_arg4 (by decide) (by decide +kernel) (by decide)),
    ((h c).2 main_arg5 (Pipeline.mem_restRefs_of main_arg5 (by decide) (by decide))).trans (V₁_arg m c main_arg5 (by decide) (by decide +kernel) (by decide)),
    ((h c).2 main_arg6 (Pipeline.mem_restRefs_of main_arg6 (by decide) (by decide))).trans (V₁_arg m c main_arg6 (by decide) (by decide +kernel) (by decide)),
    ((h c).2 main_arg7 (Pipeline.mem_restRefs_of main_arg7 (by decide) (by decide))).trans (V₁_arg m c main_arg7 (by decide) (by decide +kernel) (by decide)),
    ((h c).2 main_arg8 (Pipeline.mem_restRefs_of main_arg8 (by decide) (by decide))).trans (V₁_arg m c main_arg8 (by decide) (by decide +kernel) (by decide)),
    ((h c).2 main_arg9 (Pipeline.mem_restRefs_of main_arg9 (by decide) (by decide))).trans (V₁_arg m c main_arg9 (by decide) (by decide +kernel) (by decide)),
    ((h c).1 11).trans (((dats m 0 c).arrAt_in 11 rfl _).trans ((A_eq m c 11).trans (V_arg m c main_arg10 (by decide)))),
    ((h c).2 main_arg11 (Pipeline.mem_restRefs_of main_arg11 (by decide) (by decide))).trans (V₁_arg m c main_arg11 (by decide) (by decide +kernel) (by decide)),
    ((h c).1 0).trans (((dats m 0 c).arrAt_in 0 rfl _).trans ((A_eq m c 0).trans (V_arg m c main_arg12 (by decide))))⟩

/-- The frame, over any interpretation of the floats. -/
theorem frame_all : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => args_kept m h.1 c, h.2⟩) (run_all m ρ)

end Cert.MixBwdIdeal.Body

end
-- ==== Proof.Planes.lean ====
/-
  Reading and writing planes of a three-axis buffer, and rows of a two-axis one, as whole contents: what a store of one
  plane (some rows) leaves, what a load of one reads, and what a copy into one plane of a buffer leaves.
-/
module

public import proofs.«01_k».proof.Proof.Rows
public import Idealize.ShloMosaic.Lib.ValueLayout
public import Idealize.ShloMosaic.Lib.ViewIndex

@[expose] public section

noncomputable section

namespace Cert.Planes

open Idealize.ShloMosaic

theorem hz : (![0, 0, 0] : Fin 3 → Nat) = fun _ => 0 := funext fun a => by fin_cases a <;> rfl

variable {sig : RefSig} {κ : Kind} {sp : Space} {Val : EltTy → Type} {e : EltTy} {m n k : Nat}

/-- Contents with plane `o` replaced by `w`. -/
def setP (o : Nat) (w : (⟨3, ![1, k, n]⟩ : Shape).Idx → Val e) (acc : (⟨3, ![m, k, n]⟩ : Shape).Idx → Val e) : (⟨3, ![m, k, n]⟩ : Shape).Idx → Val e :=
  fun j => if (j 0).val = o then w (ix3 0 (j 1) (j 2)) else acc j

/-- A store of the plane `o` over contents that read as `acc`. -/
theorem store (v : View sig κ sp ⟨3, ![m, k, n]⟩ e) (f : v.ty.Contents Val) (o : Nat)
    (inb : ∀ a, (![o, 0, 0] : Fin 3 → Nat) a + (![1, k, n] : Fin 3 → Nat) a ≤ (⟨3, ![m, k, n]⟩ : Shape).size a)
    (w : (⟨3, ![1, k, n]⟩ : Shape).Idx → Val e) (L : List (View.Piece Val ⟨3, ![m, k, n]⟩ e)) {acc : (⟨3, ![m, k, n]⟩ : Shape).Idx → Val e}
    (hL : v.read Val (v.writes Val f L) = acc) :
    v.read Val (v.writes Val f ((⟨Rect.unit ![o, 0, 0] ![1, k, n] inb, w⟩ : View.Piece Val ⟨3, ![m, k, n]⟩ e) :: L)) = setP o w acc := by
  funext j
  unfold setP
  split
  · next h =>
    apply View.read_writes_cons_hit_of_coords
    intro a
    match a with
    | ⟨0, _⟩ => show (j 0).val = o + 1 * 0; omega
    | ⟨1, _⟩ => show (j 1).val = 0 + 1 * (j 1).val; omega
    | ⟨2, _⟩ => show (j 2).val = 0 + 1 * (j 2).val; omega
  · next h => rw [← hL]; exact View.read_writes_cons_miss_of_axis v f _ L j 0 o 1 rfl rfl rfl (by omega)

/-- Contents with the `k` rows from `o` on replaced by `w`. -/
def setR (o : Nat) (w : (⟨2, ![k, n]⟩ : Shape).Idx → Val e) (acc : (⟨2, ![m, n]⟩ : Shape).Idx → Val e) : (⟨2, ![m, n]⟩ : Shape).Idx → Val e :=
  fun j => if h : o ≤ (j 0).val ∧ (j 0).val < o + k then w (ix2 ⟨(j 0).val - o, by omega⟩ (j 1)) else acc j

/-- A store of the `k` rows from `o` on over contents that read as `acc`. -/
theorem storeR (v : View sig κ sp ⟨2, ![m, n]⟩ e) (f : v.ty.Contents Val) (o : Nat)
    (inb : ∀ a, (![o, 0] : Fin 2 → Nat) a + (![k, n] : Fin 2 → Nat) a ≤ (⟨2, ![m, n]⟩ : Shape).size a)
    (w : (⟨2, ![k, n]⟩ : Shape).Idx → Val e) (L : List (View.Piece Val ⟨2, ![m, n]⟩ e)) {acc : (⟨2, ![m, n]⟩ : Shape).Idx → Val e}
    (hL : v.read Val (v.writes Val f L) = acc) :
    v.read Val (v.writes Val f ((⟨Rect.unit ![o, 0] ![k, n] inb, w⟩ : View.Piece Val ⟨2, ![m, n]⟩ e) :: L)) = setR o w acc := by
  funext j
  unfold setR
  split
  · next h => exact Rows.read_hit v f o inb w L j ⟨(j 0).val - o, by omega⟩ (by show (j 0).val = o + ((j 0).val - o); omega)
  · next h => rw [← hL]; exact Rows.read_miss v f o inb w L j (by omega)

/-- A load of a rectangle of contents that read as `acc`. -/
theorem load {s : Shape} (v : View sig κ sp s e) (f : v.ty.Contents Val) (r : Rect s) {acc : s.Idx → Val e} (h : v.read Val f = acc) :
    v.readAt Val r.toLoadRect f = fun j => acc (r.emb j) := by
  rw [View.readAt_eq_ld, h]; rfl

/-- A load from stores that are read back as `acc`. -/
theorem loadCov [∀ e, Nonempty (Val e)] {s : Shape} (v : View sig κ sp s e) (L : List (View.Piece Val s e)) (r : Rect s) {acc : s.Idx → Val e}
    (h : v.read Val (v.writes Val v.junk L) = acc) : v.readCov L r.toLoadRect = View.ld acc r :=
  load v (v.writes Val v.junk L) r h

/-- A load from one store of whole contents. -/
theorem cov_base3 [∀ e, Nonempty (Val e)] (v : View sig κ sp ⟨3, ![m, k, n]⟩ e) (inb) (w : (⟨3, ![m, k, n]⟩ : Shape).Idx → Val e) (r : Rect ⟨3, ![m, k, n]⟩) :
    v.readCov [(⟨Rect.unit ![0, 0, 0] ![m, k, n] inb, w⟩ : View.Piece Val ⟨3, ![m, k, n]⟩ e)] r.toLoadRect = View.ld w r := by
  refine loadCov v _ r ?_
  funext j
  apply View.read_writes_cons_hit_of_coords
  intro a
  match a with
  | ⟨0, _⟩ => show (j 0).val = 0 + 1 * (j 0).val; omega
  | ⟨1, _⟩ => show (j 1).val = 0 + 1 * (j 1).val; omega
  | ⟨2, _⟩ => show (j 2).val = 0 + 1 * (j 2).val; omega

/-- A load of plane `o` skips a store of another plane. -/
theorem cov_miss3 [∀ e, Nonempty (Val e)] (v : View sig κ sp ⟨3, ![m, k, n]⟩ e) (o o' : Nat) (ho : o ≠ o')
    (inb : ∀ a, (![o, 0, 0] : Fin 3 → Nat) a + (![1, k, n] : Fin 3 → Nat) a ≤ (⟨3, ![m, k, n]⟩ : Shape).size a) (inb')
    (w : (⟨3, ![1, k, n]⟩ : Shape).Idx → Val e) (L : List (View.Piece Val ⟨3, ![m, k, n]⟩ e)) {y : (⟨3, ![1, k, n]⟩ : Shape).Idx → Val e}
    (h : v.readCov L (Rect.unit (s := ⟨3, ![m, k, n]⟩) ![o, 0, 0] ![1, k, n] inb).toLoadRect = y) :
    v.readCov ((⟨Rect.unit ![o', 0, 0] ![1, k, n] inb', w⟩ : View.Piece Val ⟨3, ![m, k, n]⟩ e) :: L) (Rect.unit (s := ⟨3, ![m, k, n]⟩) ![o, 0, 0] ![1, k, n] inb).toLoadRect = y := by
  rw [← h, loadCov v _ _ rfl, loadCov v L _ rfl]
  funext j
  show v.read Val (v.writes Val v.junk _) _ = v.read Val (v.writes Val v.junk L) _
  refine View.read_writes_cons_miss_of_axis v _ _ L _ 0 o' 1 rfl rfl rfl ?_
  have h0 : (j 0).val < 1 := (j 0).isLt
  show (o + 1 * (j 0).val < o') ∨ (o' + 1 ≤ o + 1 * (j 0).val)
  omega

/-- A load of some rows skips a store of others. -/
theorem cov_miss2 [∀ e, Nonempty (Val e)] (v : View sig κ sp ⟨2, ![m, n]⟩ e) (o o' : Nat) (ho : o + k ≤ o' ∨ o' + k ≤ o)
    (inb : ∀ a, (![o, 0] : Fin 2 → Nat) a + (![k, n] : Fin 2 → Nat) a ≤ (⟨2, ![m, n]⟩ : Shape).size a) (inb')
    (w : (⟨2, ![k, n]⟩ : Shape).Idx → Val e) (L : List (View.Piece Val ⟨2, ![m, n]⟩ e)) {y : (⟨2, ![k, n]⟩ : Shape).Idx → Val e}
    (h : v.readCov L (Rect.unit (s := ⟨2, ![m, n]⟩) ![o, 0] ![k, n] inb).toLoadRect = y) :
    v.readCov ((⟨Rect.unit ![o', 0] ![k, n] inb', w⟩ : View.Piece Val ⟨2, ![m, n]⟩ e) :: L) (Rect.unit (s := ⟨2, ![m, n]⟩) ![o, 0] ![k, n] inb).toLoadRect = y := by
  rw [← h, loadCov v _ _ rfl, loadCov v L _ rfl]
  funext j
  show v.read Val (v.writes Val v.junk _) _ = v.read Val (v.writes Val v.junk L) _
  refine View.read_writes_cons_miss_of_axis v _ _ L _ 0 o' k rfl rfl rfl ?_
  have h0 : (j 0).val < k := (j 0).isLt
  show (o + 1 * (j 0).val < o') ∨ (o' + k ≤ o + 1 * (j 0).val)
  omega

/-- Where a rectangle of one plane puts an index. -/
theorem emb_plane (o : Nat) (inb : ∀ a, (![o, 0, 0] : Fin 3 → Nat) a + (![1, k, n] : Fin 3 → Nat) a ≤ (⟨3, ![m, k, n]⟩ : Shape).size a) (ho : o < m)
    (j : (⟨3, ![1, k, n]⟩ : Shape).Idx) : (Rect.unit (s := ⟨3, ![m, k, n]⟩) ![o, 0, 0] ![1, k, n] inb).emb j = ix3 ⟨o, ho⟩ (j 1) (j 2) := by
  funext a
  apply Fin.ext
  match a with
  | ⟨0, _⟩ => show o + 1 * (j 0).val = o; have : (j 0).val < 1 := (j 0).isLt; omega
  | ⟨1, _⟩ => show 0 + 1 * (j 1).val = (j 1).val; omega
  | ⟨2, _⟩ => show 0 + 1 * (j 2).val = (j 2).val; omega

/-- Where a rectangle of two axes puts an index. -/
theorem emb_rect {m' n' : Nat} (o p : Nat) (inb : ∀ a, (![o, p] : Fin 2 → Nat) a + (![k, n] : Fin 2 → Nat) a ≤ (⟨2, ![m', n']⟩ : Shape).size a) (ho : o + k ≤ m') (hp : p + n ≤ n')
    (j : (⟨2, ![k, n]⟩ : Shape).Idx) : (Rect.unit (s := ⟨2, ![m', n']⟩) ![o, p] ![k, n] inb).emb j
      = ix2 ⟨o + (j 0).val, by have : (j 0).val < k := (j 0).isLt; omega⟩ ⟨p + (j 1).val, by have : (j 1).val < n := (j 1).isLt; omega⟩ := by
  funext a
  apply Fin.ext
  match a with
  | ⟨0, _⟩ => show o + 1 * (j 0).val = o + (j 0).val; omega
  | ⟨1, _⟩ => show p + 1 * (j 1).val = p + (j 1).val; omega

/-- A copy of `w` into plane `o` of a buffer, read at an index of that plane. -/
theorem copy_hit (M : Memref sig κ sp ⟨3, ![m, k, n]⟩ e) (o : Nat) (inb) (hst) (hq : (⟨3, ![1, k, n]⟩ : Shape).Squeezes ⟨2, ![k, n]⟩)
    (f : M.view.ty.Contents Val) (w : (⟨2, ![k, n]⟩ : Shape).Idx → Val e) (j : (⟨3, ![m, k, n]⟩ : Shape).Idx) (hj : (j 0).val = o) :
    M.view.read Val (((M.slice (Rect.unit (s := ⟨3, ![m, k, n]⟩) ![o, 0, 0] ![1, k, n] inb) hst).squeeze ⟨2, ![k, n]⟩ hq).view.write Val f w Finset.univ) j = w (ix2 (j 1) (j 2)) := by
  have ho : o < m := hj ▸ (j 0).isLt
  have e : j = (Rect.unit (s := ⟨3, ![m, k, n]⟩) ![o, 0, 0] ![1, k, n] inb).emb (Shape.reshapeEquiv hq.numel_eq (ix2 (j 1) (j 2))) := by
    refine Eq.trans ?_ (congrArg (Rect.unit (s := ⟨3, ![m, k, n]⟩) ![o, 0, 0] ![1, k, n] inb).emb (ValueIdx.reshapeEquiv_ix2_1ab hq.numel_eq (j 1) (j 2)).symm)
    refine Eq.trans ?_ (emb_plane o inb ho _).symm
    funext a
    apply Fin.ext
    match a with
    | ⟨0, _⟩ => exact hj
    | ⟨1, _⟩ => rfl
    | ⟨2, _⟩ => rfl
  exact (congrArg (M.view.read Val (((M.slice (Rect.unit (s := ⟨3, ![m, k, n]⟩) ![o, 0, 0] ![1, k, n] inb) hst).squeeze ⟨2, ![k, n]⟩ hq).view.write Val f w Finset.univ)) e).trans
    (View.read_write_of_mem (v := ((M.slice (Rect.unit (s := ⟨3, ![m, k, n]⟩) ![o, 0, 0] ![1, k, n] inb) hst).squeeze ⟨2, ![k, n]⟩ hq).view) f w (Finset.mem_univ (ix2 (j 1) (j 2))))

/-- A copy into plane `o` of a buffer, read at an index of another plane. -/
theorem copy_miss (M : Memref sig κ sp ⟨3, ![m, k, n]⟩ e) (o : Nat) (inb) (hst) (hq : (⟨3, ![1, k, n]⟩ : Shape).Squeezes ⟨2, ![k, n]⟩)
    (f : M.view.ty.Contents Val) (w : (⟨2, ![k, n]⟩ : Shape).Idx → Val e) (j : (⟨3, ![m, k, n]⟩ : Shape).Idx) (hj : (j 0).val ≠ o) :
    M.view.read Val (((M.slice (Rect.unit (s := ⟨3, ![m, k, n]⟩) ![o, 0, 0] ![1, k, n] inb) hst).squeeze ⟨2, ![k, n]⟩ hq).view.write Val f w Finset.univ) j = M.view.read Val f j := by
  apply View.read_congr_at
  apply View.write_of_not_mem
  intro hm
  obtain ⟨x, _, hx⟩ := Finset.mem_map.mp hm
  have e : ((M.slice (Rect.unit (s := ⟨3, ![m, k, n]⟩) ![o, 0, 0] ![1, k, n] inb) hst).squeeze ⟨2, ![k, n]⟩ hq).view.emb x
      = M.view.emb ((Rect.unit (s := ⟨3, ![m, k, n]⟩) ![o, 0, 0] ![1, k, n] inb).emb (Shape.reshapeEquiv hq.numel_eq x)) := rfl
  rw [e] at hx
  have h0 := congrArg (fun i : (⟨3, ![m, k, n]⟩ : Shape).Idx => (i 0 : ℕ)) (M.view.emb.injective hx)
  have h1 : o + 1 * ((Shape.reshapeEquiv hq.numel_eq x) 0).val = (j 0).val := h0
  have h2 : ((Shape.reshapeEquiv hq.numel_eq x) 0).val < 1 := ((Shape.reshapeEquiv hq.numel_eq x) 0).isLt
  omega

/-- Four planes. -/
def planes4 (w0 w1 w2 w3 : (⟨3, ![1, k, n]⟩ : Shape).Idx → Val e) : (⟨3, ![4, k, n]⟩ : Shape).Idx → Val e :=
  fun j => if (j 0).val = 3 then w3 (ix3 0 (j 1) (j 2)) else if (j 0).val = 2 then w2 (ix3 0 (j 1) (j 2)) else if (j 0).val = 1 then w1 (ix3 0 (j 1) (j 2)) else w0 (ix3 0 (j 1) (j 2))

/-- A store of each of four planes leaves them. -/
theorem store4 (v : View sig κ sp ⟨3, ![4, k, n]⟩ e) (f : v.ty.Contents Val) (inb0 inb1 inb2 inb3) (w0 w1 w2 w3 : (⟨3, ![1, k, n]⟩ : Shape).Idx → Val e) (L : List (View.Piece Val ⟨3, ![4, k, n]⟩ e)) :
    v.read Val (v.writes Val f ((⟨Rect.unit ![3, 0, 0] ![1, k, n] inb3, w3⟩ : View.Piece Val ⟨3, ![4, k, n]⟩ e) :: (⟨Rect.unit ![2, 0, 0] ![1, k, n] inb2, w2⟩ : View.Piece Val ⟨3, ![4, k, n]⟩ e)
      :: (⟨Rect.unit ![1, 0, 0] ![1, k, n] inb1, w1⟩ : View.Piece Val ⟨3, ![4, k, n]⟩ e) :: (⟨Rect.unit ![0, 0, 0] ![1, k, n] inb0, w0⟩ : View.Piece Val ⟨3, ![4, k, n]⟩ e) :: L)) = planes4 w0 w1 w2 w3 := by
  rw [store v f 3 inb3 w3 _ (store v f 2 inb2 w2 _ (store v f 1 inb1 w1 _ (store v f 0 inb0 w0 L rfl)))]
  funext j
  unfold setP planes4
  have : (j 0).val < 4 := (j 0).isLt
  split; · rfl
  split; · rfl
  split; · rfl
  rw [if_pos (by omega)]

/-- Four runs of rows. -/
def rows4 (w0 w1 w2 w3 : (⟨2, ![k, n]⟩ : Shape).Idx → Val e) (h : m = 4 * k) : (⟨2, ![m, n]⟩ : Shape).Idx → Val e :=
  fun j => have hj : (j 0).val < m := (j 0).isLt
    if h3 : 3 * k ≤ (j 0).val then w3 (ix2 ⟨(j 0).val - 3 * k, by omega⟩ (j 1)) else if h2 : 2 * k ≤ (j 0).val then w2 (ix2 ⟨(j 0).val - 2 * k, by omega⟩ (j 1))
    else if h1 : k ≤ (j 0).val then w1 (ix2 ⟨(j 0).val - k, by omega⟩ (j 1)) else w0 (ix2 ⟨(j 0).val, by omega⟩ (j 1))

/-- A store of each of four runs of rows leaves them. -/
theorem storeR4 (v : View sig κ sp ⟨2, ![m, n]⟩ e) (f : v.ty.Contents Val) (o1 o2 o3 : Nat) (inb0 inb1 inb2 inb3) (w0 w1 w2 w3 : (⟨2, ![k, n]⟩ : Shape).Idx → Val e) (L : List (View.Piece Val ⟨2, ![m, n]⟩ e))
    (h : m = 4 * k) (h1 : o1 = k) (h2 : o2 = 2 * k) (h3 : o3 = 3 * k) :
    v.read Val (v.writes Val f ((⟨Rect.unit ![o3, 0] ![k, n] inb3, w3⟩ : View.Piece Val ⟨2, ![m, n]⟩ e) :: (⟨Rect.unit ![o2, 0] ![k, n] inb2, w2⟩ : View.Piece Val ⟨2, ![m, n]⟩ e)
      :: (⟨Rect.unit ![o1, 0] ![k, n] inb1, w1⟩ : View.Piece Val ⟨2, ![m, n]⟩ e) :: (⟨Rect.unit ![0, 0] ![k, n] inb0, w0⟩ : View.Piece Val ⟨2, ![m, n]⟩ e) :: L)) = rows4 w0 w1 w2 w3 h := by
  subst h1 h2 h3
  rw [storeR v f _ inb3 w3 _ (storeR v f _ inb2 w2 _ (storeR v f _ inb1 w1 _ (storeR v f 0 inb0 w0 L rfl)))]
  funext j
  unfold setR rows4
  have hj : (j 0).val < m := (j 0).isLt
  dsimp only
  by_cases c3 : 3 * o1 ≤ (j 0).val
  · rw [dif_pos ⟨c3, by omega⟩, dif_pos c3]
  rw [dif_neg (by omega), dif_neg c3]
  by_cases c2 : 2 * o1 ≤ (j 0).val
  · rw [dif_pos ⟨c2, by omega⟩, dif_pos c2]
  rw [dif_neg (by omega), dif_neg c2]
  by_cases c1 : o1 ≤ (j 0).val
  · rw [dif_pos ⟨c1, by omega⟩, dif_pos c1]
  rw [dif_neg (by omega), dif_neg c1, dif_pos ⟨by omega, by omega⟩]
  rfl

/-- Four planes, each given over two axes. -/
def stack4 (w0 w1 w2 w3 : (⟨2, ![k, n]⟩ : Shape).Idx → Val e) : (⟨3, ![4, k, n]⟩ : Shape).Idx → Val e :=
  fun j => if (j 0).val = 3 then w3 (ix2 (j 1) (j 2)) else if (j 0).val = 2 then w2 (ix2 (j 1) (j 2)) else if (j 0).val = 1 then w1 (ix2 (j 1) (j 2)) else w0 (ix2 (j 1) (j 2))

/-- A copy into each of four planes of a buffer leaves them. -/
theorem copy4 (M : Memref sig κ sp ⟨3, ![4, k, n]⟩ e) (inb0 inb1 inb2 inb3) (st0 st1 st2 st3) (q0 q1 q2 q3 : (⟨3, ![1, k, n]⟩ : Shape).Squeezes ⟨2, ![k, n]⟩)
    (f : M.view.ty.Contents Val) (w0 w1 w2 w3 : (⟨2, ![k, n]⟩ : Shape).Idx → Val e) :
    M.view.read Val (((M.slice (Rect.unit (s := ⟨3, ![4, k, n]⟩) ![3, 0, 0] ![1, k, n] inb3) st3).squeeze ⟨2, ![k, n]⟩ q3).view.write Val
      (((M.slice (Rect.unit (s := ⟨3, ![4, k, n]⟩) ![2, 0, 0] ![1, k, n] inb2) st2).squeeze ⟨2, ![k, n]⟩ q2).view.write Val
      (((M.slice (Rect.unit (s := ⟨3, ![4, k, n]⟩) ![1, 0, 0] ![1, k, n] inb1) st1).squeeze ⟨2, ![k, n]⟩ q1).view.write Val
      (((M.slice (Rect.unit (s := ⟨3, ![4, k, n]⟩) ![0, 0, 0] ![1, k, n] inb0) st0).squeeze ⟨2, ![k, n]⟩ q0).view.write Val f w0 Finset.univ) w1 Finset.univ) w2 Finset.univ) w3 Finset.univ)
      = stack4 w0 w1 w2 w3 := by
  funext j
  unfold stack4
  have : (j 0).val < 4 := (j 0).isLt
  split
  · next h => exact copy_hit M 3 inb3 st3 q3 _ w3 j h
  next h3 =>
  refine (copy_miss M 3 inb3 st3 q3 _ w3 j h3).trans ?_
  split
  · next h => exact copy_hit M 2 inb2 st2 q2 _ w2 j h
  next h2 =>
  refine (copy_miss M 2 inb2 st2 q2 _ w2 j h2).trans ?_
  split
  · next h => exact copy_hit M 1 inb1 st1 q1 _ w1 j h
  next h1 =>
  refine (copy_miss M 1 inb1 st1 q1 _ w1 j h1).trans ?_
  exact copy_hit M 0 inb0 st0 q0 f w0 j (by omega)

end Cert.Planes

end
-- ==== Proof.RowZero.lean ====
/- One row of a buffer of eight rows: a store into it, over contents that read as given. -/
module

public import proofs.«01_k».proof.Proof.Planes

@[expose] public section

noncomputable section

namespace Cert.RowZero

open Idealize.ShloMosaic Idealize.ShloMosaic.TcCoe Idealize.SL.Sem

variable {sig : RefSig} {κ : Kind} {sp : Space} {Val : EltTy → Type} {e : EltTy} {m n k : Nat}

/-- Row `r` takes `row`, the other rows keep `acc`. -/
def upd (r : Nat) (acc : (⟨2, ![k, n]⟩ : Shape).Idx → Val e) (row : (⟨2, ![1, n]⟩ : Shape).Idx → Val e) : (⟨2, ![k, n]⟩ : Shape).Idx → Val e :=
  fun j => if (j 0).val = r then row (ix2 0 (j 1)) else acc j

theorem store (v : View sig κ sp ⟨2, ![k, n]⟩ e) (f : v.ty.Contents Val) (r : Nat) (inb) (w : (⟨2, ![1, n]⟩ : Shape).Idx → Val e) (L : List (View.Piece Val ⟨2, ![k, n]⟩ e)) (acc : (⟨2, ![k, n]⟩ : Shape).Idx → Val e)
    (hL : v.read Val (v.writes Val f L) = acc) :
    v.read Val (v.writes Val f ((⟨Rect.unit ![r, 0] ![1, n] inb, w⟩ : View.Piece Val ⟨2, ![k, n]⟩ e) :: L)) = upd r acc w := by
  funext j
  unfold upd
  split
  · next h => exact Rows.read_hit v f r inb w L j 0 (by rw [h]; rfl)
  · next h => rw [← hL]; exact Rows.read_miss v f r inb w L j (by omega)

/-- Row `r`, read. -/
theorem ld (acc : (⟨2, ![k, n]⟩ : Shape).Idx → Val e) (r : Nat) (hk : r < k) (inb) (q : Fin n) : View.ld acc (Rect.unit (s := ⟨2, ![k, n]⟩) ![r, 0] ![1, n] inb) (ix2 0 q) = acc (ix2 ⟨r, hk⟩ q) := by
  refine congrArg acc ((Planes.emb_rect r 0 inb (by omega) (by omega) _).trans ?_)
  exact congrArg₂ (fun a b => (ix2 a b : (⟨2, ![k, n]⟩ : Shape).Idx)) rfl (Fin.ext (Nat.zero_add _))

end Cert.RowZero

end
-- ==== Proof.PoolOut.lean ====
/- What the mixer's backward call leaves of the pool branch: two rows of sums and the weight gradient's accumulator. -/
module

public import proofs.«01_k».proof.Proof.MixFrame
public import proofs.«01_k».proof.Proof.RowZero
public import Idealize.ShloMosaic.Lib.VecWindow

@[expose] public section

set_option maxRecDepth 16384

noncomputable section

namespace Cert.MixBwdIdeal.Body

open Idealize.ShloMosaic Idealize.ShloMosaic.TcCoe Idealize.ShloMosaic.Tactic
open Cert.MixBwdIdeal Cert.MixBwdIdeal.Gen

variable {F : FTy → Type} [FloatOps F]
variable (m : (ℓ : Loc nD τ sig) → Buf (Elt F) ℓ)

/-- The sum for the scale's gradient, added to what is there. -/
def row0 (x0 : Vec F S512x1024 .f32) (x5 x6 : Vec F S512x512 .bf16) (x7 : Vec F S1x512 .f32) (x12 : Vec F S1024x1024 .bf16) (old : Vec F S1x512 .f32) : Vec F S1x512 .f32 :=
  k0_pay83 x0 x12 x5 x6 x7 old

/-- The sum for the bias's gradient, added to what is there. -/
def row1 (x0 : Vec F S512x1024 .f32) (x8 : Vec F S1x512 .f32) (x12 : Vec F S1024x1024 .bf16) (old : Vec F S1x512 .f32) : Vec F S1x512 .f32 :=
  k0_pay84 (k0_pay81 x0 x12 x8) old

/-- The product for the weight's gradient, added to what is there. -/
def acc (x0 : Vec F S512x1024 .f32) (x5 : Vec F S512x512 .bf16) (x8 : Vec F S1x512 .f32) (x12 : Vec F S1024x1024 .bf16) (old : Vec F S512x512 .f32) : Vec F S512x512 .f32 :=
  k0_pay85 (k0_pay79 x5) (k0_pay82 x0 x12 x8) old

/-- A row of the block of rows, as a block of one row. -/
def rowOf (b : Vec F S16x512 .f32) (r : Fin 16) : Vec F S1x512 .f32 := fun j => b (ix2 r (j 1))

section
variable {κ : Kind} {sp : Space} {v : View sig κ sp S16x512 .f32} {f : v.ty.Contents (Elt F)} {L : List (View.Piece (Elt F) S16x512 .f32)} {r : Fin 16} {q : Fin 512}

/-- A store of another row changes nothing of this one. -/
theorem past (o : Nat) (h : r.val < o ∨ o + 1 ≤ r.val) {inb w z} (e : v.read (Elt F) (v.writes (Elt F) f L) (ix2 r q) = z) :
    v.read (Elt F) (v.writes (Elt F) f ((⟨Rect.unit (s := S16x512) ![o, 0] ![1, 512] inb, w⟩ : View.Piece (Elt F) S16x512 .f32) :: L)) (ix2 r q) = z :=
  (Rows.read_miss (Val := Elt F) (e := .f32) (m := 16) (n := 512) (k := 1) v f o inb w L (ix2 r q) h).trans e

/-- A store of this row leaves what it stores. -/
theorem stored_rows (o : Nat) (h : r.val = o) {inb} {w : Vec F S1x512 .f32} :
    v.read (Elt F) (v.writes (Elt F) f ((⟨Rect.unit (s := S16x512) ![o, 0] ![1, 512] inb, w⟩ : View.Piece (Elt F) S16x512 .f32) :: L)) (ix2 r q) = w (ix2 0 q) :=
  Rows.read_hit (Val := Elt F) (e := .f32) (m := 16) (n := 512) (k := 1) v f o inb w L (ix2 r q) 0 h

/-- A store of every row leaves what it stores. -/
theorem whole {inb} {w : Vec F S16x512 .f32} :
    v.read (Elt F) (v.writes (Elt F) f ((⟨Rect.unit (s := S16x512) ![0, 0] ![16, 512] inb, w⟩ : View.Piece (Elt F) S16x512 .f32) :: L)) (ix2 r q) = w (ix2 r q) :=
  congrFun (Rows.read_full (Val := Elt F) (e := .f32) (m := 16) (n := 512) v f inb w L) _

end

theorem readCov_row {κ : Kind} {sp : Space} (v : View sig κ sp S16x512 .f32) (L : List (View.Piece (Elt F) S16x512 .f32)) (o : Nat) (ho : o + 1 ≤ 16) (inb) (b : Vec F S16x512 .f32)
    (h : ∀ q : Fin 512, v.read (Elt F) (v.writes (Elt F) v.junk L) (ix2 ⟨o, ho⟩ q) = b (ix2 ⟨o, ho⟩ q)) :
    v.readCov L (Rect.unit (s := S16x512) ![o, 0] ![1, 512] inb).toLoadRect = rowOf b ⟨o, ho⟩ := by
  funext j
  refine (Rows.load v _ o inb ho j).trans ?_
  have e : (⟨o + (j 0).val, by have : (j 0).val < 1 := (j 0).isLt; omega⟩ : Fin 16) = ⟨o, ho⟩ := Fin.ext (by have : (j 0).val < 1 := (j 0).isLt; show o + (j 0).val = o; omega)
  exact (congrArg (fun a : Fin 16 => View.read (Elt F) v (v.writes (Elt F) v.junk L) (ix2 a (j 1) : S16x512.Idx)) e).trans (h (j 1))

theorem row0_A (c : Dev nD) (t : Fin cfg0.N) (h0 : First (grid0.coords t)) (h1 : ¬Last (grid0.coords t)) (x24 : Vec F S512x512 .f32) (q : Fin 512) :
    (stepA m c t h0 h1 x24).b16 (ix2 0 q) = row0 (iblk m c 0 t) (iblk m c 5 t) (iblk m c 6 t) (iblk m c 7 t) (iblk m c 12 t) (rowOf k0_pay69 0) (ix2 0 q) := by
  unfold stepA
  dsimp only [Left.state]
  rw [← View.read_writes_eq_canon (bufs t).a16.view (bufs t).a16.view.junk _ (fullA m c t h0 h1 x24).c16]
  dsimp only [resA, runA]
  unfold runA.sl.H16_8 runA.sl.H16_7 runA.sl.H16_6 runA.sl.H16_5 runA.sl.H16_4 runA.sl.H16_3 runA.sl.H16_2 runA.sl.H16_1
  refine past 2 (by decide) (past 4 (by decide) (past 5 (by decide) (past 6 (by decide) (past 7 (by decide) (past 3 (by decide) (past 1 (by decide) ?_))))))
  refine (stored_rows 0 rfl).trans ?_
  refine congrFun ?_ (ix2 0 q)
  unfold runA.sl.r_5 runA.sl.v28 row0
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  exact congrArg _ (readCov_row _ _ 0 (by decide) _ _ fun q => whole)

theorem row1_A (c : Dev nD) (t : Fin cfg0.N) (h0 : First (grid0.coords t)) (h1 : ¬Last (grid0.coords t)) (x24 : Vec F S512x512 .f32) (q : Fin 512) :
    (stepA m c t h0 h1 x24).b16 (ix2 1 q) = row1 (iblk m c 0 t) (iblk m c 8 t) (iblk m c 12 t) (rowOf k0_pay69 1) (ix2 0 q) := by
  unfold stepA
  dsimp only [Left.state]
  rw [← View.read_writes_eq_canon (bufs t).a16.view (bufs t).a16.view.junk _ (fullA m c t h0 h1 x24).c16]
  dsimp only [resA, runA]
  unfold runA.sl.H16_8 runA.sl.H16_7 runA.sl.H16_6 runA.sl.H16_5 runA.sl.H16_4 runA.sl.H16_3 runA.sl.H16_2 runA.sl.H16_1
  refine past 2 (by decide) (past 4 (by decide) (past 5 (by decide) (past 6 (by decide) (past 7 (by decide) (past 3 (by decide) ?_)))))
  refine (stored_rows 1 rfl).trans ?_
  refine congrFun ?_ (ix2 0 q)
  unfold runA.sl.r_3 runA.sl.v35 row1
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  refine congrArg _ (readCov_row _ _ 1 (by decide) _ _ fun q => ?_)
  unfold runA.sl.H16_2 runA.sl.H16_1
  refine past 0 (by decide) ?_
  exact whole

theorem row0_B (c : Dev nD) (t : Fin cfg0.N) (h0 : ¬First (grid0.coords t)) (h1 : ¬Last (grid0.coords t)) (s : St F) (q : Fin 512) :
    (stepB m c t h0 h1 s).b16 (ix2 0 q) = row0 (iblk m c 0 t) (iblk m c 5 t) (iblk m c 6 t) (iblk m c 7 t) (iblk m c 12 t) (rowOf s.b16 0) (ix2 0 q) := by
  unfold stepB
  dsimp only [Left.state]
  rw [← View.read_writes_eq_canon (bufs t).a16.view (bufs t).a16.view.junk _ (fullB m c t h0 h1 s).c16]
  dsimp only [resB, runB]
  unfold runB.sl.H16_8 runB.sl.H16_7 runB.sl.H16_6 runB.sl.H16_5 runB.sl.H16_4 runB.sl.H16_3 runB.sl.H16_2
  refine past 2 (by decide) (past 4 (by decide) (past 5 (by decide) (past 6 (by decide) (past 7 (by decide) (past 3 (by decide) (past 1 (by decide) ?_))))))
  refine (stored_rows 0 rfl).trans ?_
  refine congrFun ?_ (ix2 0 q)
  unfold runB.sl.r_5 runB.sl.v28 row0
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  exact congrArg _ (readCov_row _ _ 0 (by decide) _ _ fun q => whole)

theorem row1_B (c : Dev nD) (t : Fin cfg0.N) (h0 : ¬First (grid0.coords t)) (h1 : ¬Last (grid0.coords t)) (s : St F) (q : Fin 512) :
    (stepB m c t h0 h1 s).b16 (ix2 1 q) = row1 (iblk m c 0 t) (iblk m c 8 t) (iblk m c 12 t) (rowOf s.b16 1) (ix2 0 q) := by
  unfold stepB
  dsimp only [Left.state]
  rw [← View.read_writes_eq_canon (bufs t).a16.view (bufs t).a16.view.junk _ (fullB m c t h0 h1 s).c16]
  dsimp only [resB, runB]
  unfold runB.sl.H16_8 runB.sl.H16_7 runB.sl.H16_6 runB.sl.H16_5 runB.sl.H16_4 runB.sl.H16_3 runB.sl.H16_2
  refine past 2 (by decide) (past 4 (by decide) (past 5 (by decide) (past 6 (by decide) (past 7 (by decide) (past 3 (by decide) ?_)))))
  refine (stored_rows 1 rfl).trans ?_
  refine congrFun ?_ (ix2 0 q)
  unfold runB.sl.r_3 runB.sl.v35 row1
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  refine congrArg _ (readCov_row _ _ 1 (by decide) _ _ fun q => ?_)
  unfold runB.sl.H16_2
  refine past 0 (by decide) ?_
  exact whole

theorem row0_C (c : Dev nD) (t : Fin cfg0.N) (h0 : ¬First (grid0.coords t)) (h1 : Last (grid0.coords t)) (s : St F) (q : Fin 512) :
    (stepC m c t h0 h1 s).b16 (ix2 0 q) = row0 (iblk m c 0 t) (iblk m c 5 t) (iblk m c 6 t) (iblk m c 7 t) (iblk m c 12 t) (rowOf s.b16 0) (ix2 0 q) := by
  unfold stepC
  dsimp only [Left.state]
  rw [← View.read_writes_eq_canon (bufs t).a16.view (bufs t).a16.view.junk _ (fullC m c t h0 h1 s).c16]
  dsimp only [resC, runC]
  unfold runC.sl.H16_9 runC.sl.H16_8 runC.sl.H16_7 runC.sl.H16_6 runC.sl.H16_5 runC.sl.H16_4 runC.sl.H16_3 runC.sl.H16_2
  refine past 9 (by decide) (past 8 (by decide) (past 3 (by decide) (past 2 (by decide) (past 4 (by decide) (past 5 (by decide) (past 6 (by decide) (past 7 (by decide) (past 3 (by decide) (past 1 (by decide) ?_)))))))))
  refine (stored_rows 0 rfl).trans ?_
  refine congrFun ?_ (ix2 0 q)
  unfold runC.sl.r_5 runC.sl.v28 row0
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  exact congrArg _ (readCov_row _ _ 0 (by decide) _ _ fun q => whole)

theorem row1_C (c : Dev nD) (t : Fin cfg0.N) (h0 : ¬First (grid0.coords t)) (h1 : Last (grid0.coords t)) (s : St F) (q : Fin 512) :
    (stepC m c t h0 h1 s).b16 (ix2 1 q) = row1 (iblk m c 0 t) (iblk m c 8 t) (iblk m c 12 t) (rowOf s.b16 1) (ix2 0 q) := by
  unfold stepC
  dsimp only [Left.state]
  rw [← View.read_writes_eq_canon (bufs t).a16.view (bufs t).a16.view.junk _ (fullC m c t h0 h1 s).c16]
  dsimp only [resC, runC]
  unfold runC.sl.H16_9 runC.sl.H16_8 runC.sl.H16_7 runC.sl.H16_6 runC.sl.H16_5 runC.sl.H16_4 runC.sl.H16_3 runC.sl.H16_2
  refine past 9 (by decide) (past 8 (by decide) (past 3 (by decide) (past 2 (by decide) (past 4 (by decide) (past 5 (by decide) (past 6 (by decide) (past 7 (by decide) (past 3 (by decide) ?_))))))))
  refine (stored_rows 1 rfl).trans ?_
  refine congrFun ?_ (ix2 0 q)
  unfold runC.sl.r_3 runC.sl.v35 row1
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  refine congrArg _ (readCov_row _ _ 1 (by decide) _ _ fun q => ?_)
  unfold runC.sl.H16_2
  refine past 0 (by decide) ?_
  exact whole

theorem acc_A (c : Dev nD) (t : Fin cfg0.N) (h0 : First (grid0.coords t)) (h1 : ¬Last (grid0.coords t)) (x24 : Vec F S512x512 .f32) :
    (stepA m c t h0 h1 x24).b20 = acc (iblk m c 0 t) (iblk m c 5 t) (iblk m c 8 t) (iblk m c 12 t) k0_pay71 := by
  unfold stepA
  dsimp only [Left.state]
  rw [← View.read_writes_eq_canon (bufs t).a20.view (bufs t).a20.view.junk _ (fullA m c t h0 h1 x24).c20]
  dsimp only [resA, runA]
  unfold runA.sl.H20_2
  refine (Rows.read_full (Val := Elt F) (e := .f32) (m := 512) (n := 512) _ _ _ _ _).trans ?_
  unfold runA.sl.r_2 runA.sl.r_4 runA.sl.v41 acc runA.sl.H20_1
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  exact congrArg _ (View.readCov_full _ _ _ _ _)

theorem acc_B (c : Dev nD) (t : Fin cfg0.N) (h0 : ¬First (grid0.coords t)) (h1 : ¬Last (grid0.coords t)) (s : St F) :
    (stepB m c t h0 h1 s).b20 = acc (iblk m c 0 t) (iblk m c 5 t) (iblk m c 8 t) (iblk m c 12 t) s.b20 := by
  unfold stepB
  dsimp only [Left.state]
  rw [← View.read_writes_eq_canon (bufs t).a20.view (bufs t).a20.view.junk _ (fullB m c t h0 h1 s).c20]
  dsimp only [resB, runB]
  unfold runB.sl.H20_2
  refine (Rows.read_full (Val := Elt F) (e := .f32) (m := 512) (n := 512) _ _ _ _ _).trans ?_
  unfold runB.sl.r_2 runB.sl.r_4 runB.sl.v41 acc
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  exact congrArg _ (View.readCov_full _ _ _ _ _)

theorem acc_C (c : Dev nD) (t : Fin cfg0.N) (h0 : ¬First (grid0.coords t)) (h1 : Last (grid0.coords t)) (s : St F) :
    (stepC m c t h0 h1 s).b20 = acc (iblk m c 0 t) (iblk m c 5 t) (iblk m c 8 t) (iblk m c 12 t) s.b20 := by
  unfold stepC
  dsimp only [Left.state]
  rw [← View.read_writes_eq_canon (bufs t).a20.view (bufs t).a20.view.junk _ (fullC m c t h0 h1 s).c20]
  dsimp only [resC, runC]
  unfold runC.sl.H20_2
  refine (Rows.read_full (Val := Elt F) (e := .f32) (m := 512) (n := 512) _ _ _ _ _).trans ?_
  unfold runC.sl.r_2 runC.sl.r_4 runC.sl.v41 acc
  simp only [View.readAt_eq_ld, (bufs t).h1.read_unread, (bufs t).h6.read_unread, (bufs t).h7.read_unread, (bufs t).h8.read_unread, (bufs t).h9.read_unread, (bufs t).h13.read_unread, View.ld_unit_zero (S := S512x1024) Rows.hz, View.ld_unit_zero (S := S512x512) Rows.hz, View.ld_unit_zero (S := S1x512) Rows.hz, View.ld_unit_zero (S := S1024x1024) Rows.hz]
  exact congrArg _ (View.readCov_full _ _ _ _ _)

theorem readCov_tile {κ : Kind} {sp : Space} (v : View sig κ sp S512x512 .f32) (L : List (View.Piece (Elt F) S512x512 .f32)) (o p : Nat) (ho : o + 128 ≤ 512) (hp : p + 128 ≤ 512) (inb) (j : S128x128.Idx) :
    v.readCov L (Rect.unit (s := S512x512) ![o, p] ![128, 128] inb).toLoadRect j = v.read (Elt F) (v.writes (Elt F) v.junk L) (ix2 ⟨o + (j 0).val, by have : (j 0).val < 128 := (j 0).isLt; omega⟩ ⟨p + (j 1).val, by have : (j 1).val < 128 := (j 1).isLt; omega⟩) := by
  unfold View.readCov
  rw [View.readAt_eq_ld]
  show v.read (Elt F) _ _ = _
  congr 1
  funext a
  apply Fin.ext
  match a with
  | ⟨0, _⟩ => show o + 1 * (j 0).val = o + (j 0).val; omega
  | ⟨1, _⟩ => show p + 1 * (j 1).val = p + (j 1).val; omega

set_option maxHeartbeats 2000000 in
theorem b20_C (c : Dev nD) (t : Fin cfg0.N) (h0 : ¬First (grid0.coords t)) (h1 : Last (grid0.coords t)) (s : St F) (y : S512x512.Idx) :
    (stepC m c t h0 h1 s).b20 y = (bufs t).a20.view.read (Elt F) ((bufs t).a20.view.writes (Elt F) (bufs t).a20.view.junk (resC m c t h0 h1 s).1.l20) y := by
  unfold stepC
  dsimp only [Left.state]
  rw [← View.read_writes_eq_canon (bufs t).a20.view (bufs t).a20.view.junk _ (fullC m c t h0 h1 s).c20]

set_option maxHeartbeats 2000000 in
theorem dpw_C (c : Dev nD) (t : Fin cfg0.N) (h0 : ¬First (grid0.coords t)) (h1 : Last (grid0.coords t)) (s : St F) (i : Fin 512) (j : Fin 128) :
    (stepC m c t h0 h1 s).b17 (ix2 i j) = (stepC m c t h0 h1 s).b20 (ix2 i ⟨128 * (i.val / 128) + j.val, by have := i.isLt; have := j.isLt; omega⟩) := by
  refine Eq.trans ?_ (b20_C m c t h0 h1 s _).symm
  unfold stepC
  dsimp only [Left.state]
  rw [← View.read_writes_eq_canon (bufs t).a17.view (bufs t).a17.view.junk _ (coverC_17 m c t h0 h1 s)]
  dsimp only [resC, runC]
  unfold runC.sl.v377 runC.sl.v375 runC.sl.v373
  by_cases h_3 : 384 ≤ i.val
  · have hi := i.isLt
    refine (Rows.read_hit (Val := Elt F) (e := .f32) (m := 512) (n := 128) (k := 128) _ _ 384 _ _ _ _ ⟨i.val - 384, by omega⟩ (by show i.val = 384 + (i.val - 384); omega)).trans ?_
    refine (readCov_tile _ _ 384 384 (by omega) (by omega) _ _).trans ?_
    exact congrArg _ (congrArg₂ ix2 (Fin.ext (by show 384 + (i.val - 384) = i.val; omega)) (Fin.ext (by show 384 + j.val = 128 * (i.val / 128) + j.val; omega)))
  by_cases h_2 : 256 ≤ i.val
  · have hi := i.isLt
    refine (Rows.read_miss (Val := Elt F) (e := .f32) (m := 512) (n := 128) (k := 128) _ _ 384 _ _ _ _ (by show i.val < 384 ∨ 384 + 128 ≤ i.val; omega)).trans ?_
    refine (Rows.read_hit (Val := Elt F) (e := .f32) (m := 512) (n := 128) (k := 128) _ _ 256 _ _ _ _ ⟨i.val - 256, by omega⟩ (by show i.val = 256 + (i.val - 256); omega)).trans ?_
    refine (readCov_tile _ _ 256 256 (by omega) (by omega) _ _).trans ?_
    exact congrArg _ (congrArg₂ ix2 (Fin.ext (by show 256 + (i.val - 256) = i.val; omega)) (Fin.ext (by show 256 + j.val = 128 * (i.val / 128) + j.val; omega)))
  by_cases h_1 : 128 ≤ i.val
  · have hi := i.isLt
    refine (Rows.read_miss (Val := Elt F) (e := .f32) (m := 512) (n := 128) (k := 128) _ _ 384 _ _ _ _ (by show i.val < 384 ∨ 384 + 128 ≤ i.val; omega)).trans ?_
    refine (Rows.read_miss (Val := Elt F) (e := .f32) (m := 512) (n := 128) (k := 128) _ _ 256 _ _ _ _ (by show i.val < 256 ∨ 256 + 128 ≤ i.val; omega)).trans ?_
    refine (Rows.read_hit (Val := Elt F) (e := .f32) (m := 512) (n := 128) (k := 128) _ _ 128 _ _ _ _ ⟨i.val - 128, by omega⟩ (by show i.val = 128 + (i.val - 128); omega)).trans ?_
    refine (readCov_tile _ _ 128 128 (by omega) (by omega) _ _).trans ?_
    exact congrArg _ (congrArg₂ ix2 (Fin.ext (by show 128 + (i.val - 128) = i.val; omega)) (Fin.ext (by show 128 + j.val = 128 * (i.val / 128) + j.val; omega)))
  · have hi := i.isLt
    refine (Rows.read_miss (Val := Elt F) (e := .f32) (m := 512) (n := 128) (k := 128) _ _ 384 _ _ _ _ (by show i.val < 384 ∨ 384 + 128 ≤ i.val; omega)).trans ?_
    refine (Rows.read_miss (Val := Elt F) (e := .f32) (m := 512) (n := 128) (k := 128) _ _ 256 _ _ _ _ (by show i.val < 256 ∨ 256 + 128 ≤ i.val; omega)).trans ?_
    refine (Rows.read_miss (Val := Elt F) (e := .f32) (m := 512) (n := 128) (k := 128) _ _ 128 _ _ _ _ (by show i.val < 128 ∨ 128 + 128 ≤ i.val; omega)).trans ?_
    refine (Rows.read_hit (Val := Elt F) (e := .f32) (m := 512) (n := 128) (k := 128) _ _ 0 _ _ _ _ ⟨i.val - 0, by omega⟩ (by show i.val = 0 + (i.val - 0); omega)).trans ?_
    refine (readCov_tile _ _ 0 0 (by omega) (by omega) _ _).trans ?_
    exact congrArg _ (congrArg₂ ix2 (Fin.ext (by show 0 + (i.val - 0) = i.val; omega)) (Fin.ext (by show 0 + j.val = 128 * (i.val / 128) + j.val; omega)))

end Cert.MixBwdIdeal.Body

end
-- ==== Proof.PoolMath.lean ====
/- The pool branch of the mixer: what its product takes, and the sums of its gradients, as functions of the arguments. -/
module

public import proofs.«01_k».proof.Proof.Gen.MixRefIdeal.Run
public import Idealize.ShloMosaic.Lib.Pointwise
public import Idealize.ShloMosaic.Lib.Tactic

@[expose] public section

set_option maxRecDepth 16384

noncomputable section

namespace Cert.PoolMath

open Cert.MixRefIdeal Cert.MixRefIdeal.Gen Idealize.ShloMosaic Idealize.ShloMosaic.TcCoe

/-- The arguments the pool branch reads: the projection, the pool's weight, bias and scale, the output's weight, and the cotangent. -/
structure Args where
  u : FVec Ideal S8192x1536 .f32
  w : FVec Ideal S1x4x128x128 .f32
  b : FVec Ideal S1x4x128 .f32
  s : FVec Ideal S1x512 .f32
  o : FVec Ideal S1x1024x1024 .f32
  d : FVec Ideal S8192x1024 .f32

variable (A : Args)

/-- The pool's columns of the projection, in four groups, and their running sums. -/
def ug : FVec Ideal S8192x4x128 .f32 := shapeCast S8192x4x128 (extractStridedSlice S8192x512 ![0, 0] A.u slices_S8192x1536_S8192x512_0_0) shapeCasts_S8192x512_S8192x4x128
def cs : FVec Ideal S8192x4x128 .f32 := Host.reduceWindowAdd ![8192, 1, 1] ![1, 1, 1] ![8191, 0, 0] ![0, 0, 0] (ug A) (broadcastInDim S_ ![] bcast_S_S_ (constant S_ .f32 0x00000000#32)) reduceWindows_S8192x4x128_S8192x4x128_w8192s1p8191_0_w1s1p0_0_w1s1p0_0 h_S_
/-- The number of rows a window of at most w rows holds at each row. -/
def cnt (w : BitVec 32) : FVec Ideal S8192x128 .f32 := broadcastInDim S8192x128 ![0, 1] bcast_S8192x1_S8192x128_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 w)))))
/-- A group's trailing mean less its input, from its running sum, the running sum before the window and its input. -/
def less (c l u : FVec Ideal S8192x128 .f32) (w : BitVec 32) : FVec Ideal S8192x1x128 .f32 := broadcastInDim S8192x1x128 ![0, 2] bcast_S8192x128_S8192x1x128_0_2 (subf (Host.divf (subf c l) (cnt w)) u)
def flat (x : FVec Ideal S8192x1x128 .f32) : FVec Ideal S8192x128 .f32 := shapeCast S8192x128 x shapeCasts_S8192x1x128_S8192x128
def g0 (x : FVec Ideal S8192x4x128 .f32) : FVec Ideal S8192x128 .f32 := flat (extractStridedSlice S8192x1x128 ![0, 0, 0] x slices_S8192x4x128_S8192x1x128_0_0_0)
def g1 (x : FVec Ideal S8192x4x128 .f32) : FVec Ideal S8192x128 .f32 := flat (extractStridedSlice S8192x1x128 ![0, 1, 0] x slices_S8192x4x128_S8192x1x128_0_1_0)
def g2 (x : FVec Ideal S8192x4x128 .f32) : FVec Ideal S8192x128 .f32 := flat (extractStridedSlice S8192x1x128 ![0, 2, 0] x slices_S8192x4x128_S8192x1x128_0_2_0)
def g3 (x : FVec Ideal S8192x4x128 .f32) : FVec Ideal S8192x128 .f32 := flat (extractStridedSlice S8192x1x128 ![0, 3, 0] x slices_S8192x4x128_S8192x1x128_0_3_0)
/-- A group's running sum before the window. -/
def l0 (c : FVec Ideal S8192x128 .f32) : FVec Ideal S8192x128 .f32 := extractStridedSlice S8192x128 ![0, 0] (concatenate S8194x128 0 [⟨S2x128, (broadcastInDim S2x128 ![] bcast_S_S2x128 (constant S_ .f32 0x00000000#32))⟩, ⟨S8192x128, c⟩] concatenates_S2x128_S8192x128_S8194x128_d0) slices_S8194x128_S8192x128_0_0
def l1 (c : FVec Ideal S8192x128 .f32) : FVec Ideal S8192x128 .f32 := extractStridedSlice S8192x128 ![0, 0] (concatenate S8196x128 0 [⟨S4x128, (broadcastInDim S4x128 ![] bcast_S_S4x128 (constant S_ .f32 0x00000000#32))⟩, ⟨S8192x128, c⟩] concatenates_S4x128_S8192x128_S8196x128_d0) slices_S8196x128_S8192x128_0_0
def l2 (c : FVec Ideal S8192x128 .f32) : FVec Ideal S8192x128 .f32 := extractStridedSlice S8192x128 ![0, 0] (concatenate S8200x128 0 [⟨S8x128, (broadcastInDim S8x128 ![] bcast_S_S8x128 (constant S_ .f32 0x00000000#32))⟩, ⟨S8192x128, c⟩] concatenates_S8x128_S8192x128_S8200x128_d0) slices_S8200x128_S8192x128_0_0
def l3 (c : FVec Ideal S8192x128 .f32) : FVec Ideal S8192x128 .f32 := extractStridedSlice S8192x128 ![0, 0] (concatenate S8208x128 0 [⟨S16x128, (broadcastInDim S16x128 ![] bcast_S_S16x128 (constant S_ .f32 0x00000000#32))⟩, ⟨S8192x128, c⟩] concatenates_S16x128_S8192x128_S8208x128_d0) slices_S8208x128_S8192x128_0_0
/-- What the pool's product takes: the trailing means of the four widths, less the input. -/
def D : FVec Ideal S8192x4x128 .f32 := concatenate S8192x4x128 1
  [⟨S8192x1x128, less (g0 (cs A)) (l0 (g0 (cs A))) (g0 (ug A)) 2#32⟩, ⟨S8192x1x128, less (g1 (cs A)) (l1 (g1 (cs A))) (g1 (ug A)) 4#32⟩,
   ⟨S8192x1x128, less (g2 (cs A)) (l2 (g2 (cs A))) (g2 (ug A)) 8#32⟩, ⟨S8192x1x128, less (g3 (cs A)) (l3 (g3 (cs A))) (g3 (ug A)) 16#32⟩]
  concatenates_S8192x1x128_S8192x1x128_S8192x1x128_S8192x1x128_S8192x4x128_d1

/-- The group of a pool column, and its place in the group. -/
def gr (q : Fin 512) : Fin 4 := ⟨q.val / 128, by omega⟩
def pl (q : Fin 512) : Fin 128 := ⟨q.val % 128, Nat.mod_lt _ (by decide)⟩
def col (g : Fin 4) (e : Fin 128) : Fin 512 := ⟨g.val * 128 + e.val, by omega⟩
def wide (q : Fin 512) : Fin 1024 := ⟨q.val, by omega⟩

/-- The cotangent of the pool's columns. -/
def dy (i : Fin 8192) (q : Fin 512) : EReal := ∑ k : Fin 1024, A.d (ix2 i k) * A.o (ix3 0 (wide q) k)
/-- The pool's columns before the scale. -/
def y (i : Fin 8192) (q : Fin 512) : EReal := ∑ k : Fin 128, D A (ix3 i (gr q) k) * A.w (ix4 0 (gr q) k (pl q)) + A.b (ix3 0 (gr q) (pl q))
/-- The terms of the three gradients. -/
def tS (i : Fin 8192) (q : Fin 512) : EReal := dy A i q * y A i q
def tB (i : Fin 8192) (q : Fin 512) : EReal := dy A i q * A.s (ix2 0 q)
def tW (i : Fin 8192) (r q : Fin 512) : EReal := D A (ix3 i (gr r) (pl r)) * tB A i q

end Cert.PoolMath

end
-- ==== Proof.PoolHost.lean ====
/- The blocks of the pool branch the points of the mixer backward call read, from the arguments. -/
module

public import proofs.«01_k».proof.Proof.PoolOut
public import proofs.«01_k».proof.Proof.PoolMath
public import Idealize.ShloMosaic.Lib.StableHlo.RunRead
public import Idealize.ShloMosaic.Lib.Pipeline.ValueKit.Point

@[expose] public section

set_option maxRecDepth 16384

noncomputable section

namespace Cert.MixBwdIdeal.Pool

open Cert.MixBwdIdeal Cert.MixBwdIdeal.Gen Cert.MixBwdIdeal.Body Idealize.ShloMosaic Idealize.ShloMosaic.TcCoe Idealize.SL.Sem
open Cert.PoolMath (Args)

variable (m : (ℓ : Loc nD τ sig) → Buf (Elt Ideal) ℓ) (c : Dev nD) (t : Fin cfg0.N)

/-- The arguments. -/
def args : Args where
  u := m ((c : Thread nD τ).loc main_arg0)
  w := m ((c : Thread nD τ).loc main_arg1)
  b := m ((c : Thread nD τ).loc main_arg2)
  s := m ((c : Thread nD τ).loc main_arg3)
  o := m ((c : Thread nD τ).loc main_arg11)
  d := m ((c : Thread nD τ).loc main_arg12)

/-- The four groups side by side. -/
def cat (a b d e : FVec Ideal S8192x1x128 .f32) : FVec Ideal S8192x4x128 .f32 := concatenate S8192x4x128 1 [⟨S8192x1x128, a⟩, ⟨S8192x1x128, b⟩, ⟨S8192x1x128, d⟩, ⟨S8192x1x128, e⟩] concatenates_S8192x1x128_S8192x1x128_S8192x1x128_S8192x1x128_S8192x4x128_d1

/-- The buffers before the groups are set side by side. -/
def W85 : Valuation τ sig (Elt Ideal) := StableHlo.upto hostOps0_2 (StableHlo.after hostOps0_1 (StableHlo.after hostOps0 fun b => m (c, b))) 85

theorem e0 : W85 m c (Proc.tc.devRef main_v72) = PoolMath.less (PoolMath.g0 (PoolMath.cs (args m c))) (PoolMath.l0 (PoolMath.g0 (PoolMath.cs (args m c)))) (PoolMath.g0 (PoolMath.ug (args m c))) 2#32 := by
  unfold W85
  after_reads_simp
  rfl
theorem e1 : W85 m c (Proc.tc.devRef main_v73) = PoolMath.less (PoolMath.g1 (PoolMath.cs (args m c))) (PoolMath.l1 (PoolMath.g1 (PoolMath.cs (args m c)))) (PoolMath.g1 (PoolMath.ug (args m c))) 4#32 := by
  unfold W85
  after_reads_simp
  rfl
theorem e2 : W85 m c (Proc.tc.devRef main_v74) = PoolMath.less (PoolMath.g2 (PoolMath.cs (args m c))) (PoolMath.l2 (PoolMath.g2 (PoolMath.cs (args m c)))) (PoolMath.g2 (PoolMath.ug (args m c))) 8#32 := by
  unfold W85
  after_reads_simp
  rfl
theorem e3 : W85 m c (Proc.tc.devRef main_v75) = PoolMath.less (PoolMath.g3 (PoolMath.cs (args m c))) (PoolMath.l3 (PoolMath.g3 (PoolMath.cs (args m c)))) (PoolMath.g3 (PoolMath.ug (args m c))) 16#32 := by
  unfold W85
  after_reads_simp
  rfl

theorem v551_cat : V m c main_v551 = (truncf .bf16 (shapeCast S8192x512 (cat (W85 m c (Proc.tc.devRef main_v72)) (W85 m c (Proc.tc.devRef main_v73)) (W85 m c (Proc.tc.devRef main_v74)) (W85 m c (Proc.tc.devRef main_v75))) shapeCasts_S8192x4x128_S8192x512) bitsLt_bf16_f32 : FVec Ideal S8192x512 .bf16) := by
  unfold V lines
  rw [← StableHlo.afterL_eq_after_flatten]
  simp only [StableHlo.afterL_cons, StableHlo.afterL_nil]
  after_reads_simp
  rfl
/-- What the pool's product takes, as the lines before the call leave it. -/
theorem v551 : V m c main_v551 = (truncf .bf16 (shapeCast S8192x512 (PoolMath.D (args m c)) shapeCasts_S8192x4x128_S8192x512) bitsLt_bf16_f32 : FVec Ideal S8192x512 .bf16) := by
  rw [v551_cat, e0, e1, e2, e3]
  rfl
theorem eye : ∀ a b : Fin 4, IntOp.cmpi .eq (IntOp.addi (BitVec.ofNat 32 a.val) 0#32) (BitVec.ofNat 32 b.val) = if a = b then 1#1 else 0#1 := by decide +kernel
theorem of_one : (FloatOps.uitofp .f32 (1#1 : BitVec 1) : Ideal .f32) = 1 := by
  show ((((1#1 : BitVec 1).toNat : ℝ) : EReal)) = 1
  norm_num
theorem of_zero : (FloatOps.uitofp .f32 (0#1 : BitVec 1) : Ideal .f32) = 0 := by
  show ((((0#1 : BitVec 1).toNat : ℝ) : EReal)) = 0
  norm_num
set_option maxHeartbeats 2000000 in
theorem v522 : ∀ k q : Fin 512, (V m c main_v522 : FVec Ideal S512x512 .bf16) (ix2 k q) = if k.val / 128 = q.val / 128 then (args m c).w (ix4 0 (PoolMath.gr k) (PoolMath.pl k) (PoolMath.pl q)) else 0 := by
  intro k q
  unfold V lines
  rw [← StableHlo.afterL_eq_after_flatten]
  simp only [StableHlo.afterL_cons, StableHlo.afterL_nil]
  after_reads_simp
  unfold args
  generalize (m ((c : Thread nD τ).loc main_arg1)) = W
  pointwise [PoolMath.gr, PoolMath.pl]
  rw [eye ⟨k.val / 128, by omega⟩ ⟨q.val / 128, by omega⟩]
  by_cases h : k.val / 128 = q.val / 128
  · rw [if_pos (Fin.ext h), if_pos h, of_one, one_mul]
  · rw [if_neg (fun e => h (congrArg Fin.val e)), if_neg h, of_zero, zero_mul]
theorem v552 : V m c main_v552 = (shapeCast S1x512 (args m c).b shapeCasts_S1x4x128_S1x512 : FVec Ideal S1x512 .f32) := by
  unfold V lines
  rw [← StableHlo.afterL_eq_after_flatten]
  simp only [StableHlo.afterL_cons, StableHlo.afterL_nil]
  after_reads_simp
  rfl
theorem v555 : V m c main_v555 = (truncf .bf16 (shapeCast S1024x1024 (args m c).o shapeCasts_S1x1024x1024_S1024x1024) bitsLt_bf16_f32 : FVec Ideal S1024x1024 .bf16) := by
  unfold V lines
  rw [← StableHlo.afterL_eq_after_flatten]
  simp only [StableHlo.afterL_cons, StableHlo.afterL_nil]
  after_reads_simp
  rfl

end Cert.MixBwdIdeal.Pool

end
-- ==== Proof.PoolPay.lean ====
/- The payloads of the pool branch of the mixer backward call at an index. -/
module

public import proofs.«01_k».proof.Proof.PoolOut
public import Idealize.ShloMosaic.Lib.Pointwise
public import Idealize.ShloMosaic.Lib.Tactic

@[expose] public section

set_option maxRecDepth 16384

noncomputable section

namespace Cert.MixBwdIdeal.Pool

open Cert.MixBwdIdeal Cert.MixBwdIdeal.Gen Cert.MixBwdIdeal.Body Idealize.ShloMosaic Idealize.ShloMosaic.TcCoe

variable (x0 : Vec Ideal S512x1024 .f32) (x5 x6 : Vec Ideal S512x512 .bf16) (x7 x8 : Vec Ideal S1x512 .f32) (x12 : Vec Ideal S1024x1024 .bf16)

def wide (q : Fin 512) : Fin 1024 := ⟨q.val, by omega⟩

theorem dy_at (p q : Fin 512) : k0_pay80 (F := Ideal) x0 x12 (ix2 p q) = ∑ k : Fin 1024, x0 (ix2 p k) * x12 (ix2 (wide q) k) := by
  pointwise [k0_pay80, k0_pay76, wide]
theorem dq_at (p q : Fin 512) : k0_pay81 (F := Ideal) x0 x12 x8 (ix2 p q) = k0_pay80 (F := Ideal) x0 x12 (ix2 p q) * x8 (ix2 0 q) := by
  unfold k0_pay81
  generalize k0_pay80 (F := Ideal) x0 x12 = z
  pointwise []
theorem row0_at (old : Vec Ideal S1x512 .f32) (q : Fin 512) : row0 (F := Ideal) x0 x5 x6 x7 x12 old (ix2 0 q) =
    old (ix2 0 q) + ∑ p : Fin 512, k0_pay80 (F := Ideal) x0 x12 (ix2 p q) * (∑ k : Fin 512, x5 (ix2 p k) * x6 (ix2 k q) + x7 (ix2 0 q)) := by
  unfold row0 k0_pay83
  generalize k0_pay80 (F := Ideal) x0 x12 = z
  pointwise [k0_pay79]
theorem row1_at (old : Vec Ideal S1x512 .f32) (q : Fin 512) : row1 (F := Ideal) x0 x8 x12 old (ix2 0 q) =
    old (ix2 0 q) + ∑ p : Fin 512, k0_pay81 (F := Ideal) x0 x12 x8 (ix2 p q) := by
  unfold row1
  generalize k0_pay81 (F := Ideal) x0 x12 x8 = z
  pointwise [k0_pay84]
theorem acc_at (old : Vec Ideal S512x512 .f32) (r q : Fin 512) : acc (F := Ideal) x0 x5 x8 x12 old (ix2 r q) =
    old (ix2 r q) + ∑ p : Fin 512, x5 (ix2 p r) * k0_pay81 (F := Ideal) x0 x12 x8 (ix2 p q) := by
  unfold acc k0_pay82
  generalize k0_pay81 (F := Ideal) x0 x12 x8 = z
  pointwise [k0_pay85, k0_pay79]
theorem zero16 (k : Fin 16) (q : Fin 512) : k0_pay69 (F := Ideal) (ix2 k q) = 0 := by
  pointwise [k0_pay69]
theorem zero512 (k q : Fin 512) : k0_pay71 (F := Ideal) (ix2 k q) = 0 := by
  pointwise [k0_pay71]

end Cert.MixBwdIdeal.Pool

end
-- ==== Proof.PoolBlocks.lean ====
/- The blocks the points of the mixer backward call read for the pool branch, and the terms they add. -/
module

public import proofs.«01_k».proof.Proof.PoolHost
public import proofs.«01_k».proof.Proof.PoolPay

@[expose] public section

set_option maxRecDepth 16384

noncomputable section

namespace Cert.MixBwdIdeal.Pool

open Cert.MixBwdIdeal Cert.MixBwdIdeal.Gen Cert.MixBwdIdeal.Body Idealize.ShloMosaic Idealize.ShloMosaic.TcCoe Idealize.ShloMosaic.Tactic
open Cert.PoolMath (Args gr pl col)

variable (m : (ℓ : Loc nD τ sig) → Buf (Elt Ideal) ℓ) (c : Dev nD) (t : Fin cfg0.N)

/-- The row of the arrays that a point's row is: the points go from the last block of rows to the first. -/
def row (n : ℕ) (p : Fin 512) : Fin 8192 := ⟨(15 - n) * 512 + p.val, by omega⟩

theorem idx0 : ∀ t : Fin cfg0.N, win0_0.index t 0 = 15 - t.val ∧ win0_0.index t 1 = 0 := by decide +kernel
theorem idx5 : ∀ t : Fin cfg0.N, win0_5.index t 0 = 15 - t.val ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx12 : ∀ t : Fin cfg0.N, win0_12.index t 0 = 0 ∧ win0_12.index t 1 = 0 := by decide +kernel

theorem read0 (x : Vec Ideal S8192x1024 .f32) (p : Fin 512) (k : Fin 1024) : (((cfg0.win 0).blk t).view.read (Elt Ideal) x : Vec Ideal S512x1024 .f32) (ix2 p k) = x (ix2 (row t.val p) k) := by
  have h := idx0 t
  rw [View.read_apply]
  exact congrArg x (show _ = (ix2 (row t.val p) k : S8192x1024.Idx) from by blk_ext [h.1, h.2, row])
theorem read5 (x : Vec Ideal S8192x512 .bf16) (p : Fin 512) (q : Fin 512) : (((cfg0.win 5).blk t).view.read (Elt Ideal) x : Vec Ideal S512x512 .bf16) (ix2 p q) = x (ix2 (row t.val p) q) := by
  have h := idx5 t
  rw [View.read_apply]
  exact congrArg x (show _ = (ix2 (row t.val p) q : S8192x512.Idx) from by blk_ext [h.1, h.2, row])
theorem read6 (x : Vec Ideal S512x512 .bf16) (k : Fin 512) (q : Fin 512) : (((cfg0.win 6).blk t).view.read (Elt Ideal) x : Vec Ideal S512x512 .bf16) (ix2 k q) = x (ix2 k q) := by
  have h := idx6 t
  rw [View.read_apply]
  exact congrArg x (show _ = (ix2 k q : S512x512.Idx) from by blk_ext [h.1, h.2])
theorem read7 (x : Vec Ideal S1x512 .f32) (k : Fin 1) (q : Fin 512) : (((cfg0.win 7).blk t).view.read (Elt Ideal) x : Vec Ideal S1x512 .f32) (ix2 k q) = x (ix2 k q) := by
  have h := idx7 t
  rw [View.read_apply]
  exact congrArg x (show _ = (ix2 k q : S1x512.Idx) from by blk_ext [h.1, h.2])
theorem read8 (x : Vec Ideal S1x512 .f32) (k : Fin 1) (q : Fin 512) : (((cfg0.win 8).blk t).view.read (Elt Ideal) x : Vec Ideal S1x512 .f32) (ix2 k q) = x (ix2 k q) := by
  have h := idx8 t
  rw [View.read_apply]
  exact congrArg x (show _ = (ix2 k q : S1x512.Idx) from by blk_ext [h.1, h.2])
theorem read12 (x : Vec Ideal S1024x1024 .bf16) (r : Fin 1024) (k : Fin 1024) : (((cfg0.win 12).blk t).view.read (Elt Ideal) x : Vec Ideal S1024x1024 .bf16) (ix2 r k) = x (ix2 r k) := by
  have h := idx12 t
  rw [View.read_apply]
  exact congrArg x (show _ = (ix2 r k : S1024x1024.Idx) from by blk_ext [h.1, h.2])

theorem cast551 (x : FVec Ideal S8192x4x128 .f32) (i : Fin 8192) (q : Fin 512) : (truncf .bf16 (shapeCast S8192x512 x shapeCasts_S8192x4x128_S8192x512) bitsLt_bf16_f32 : FVec Ideal S8192x512 .bf16) (ix2 i q) = x (ix3 i (gr q) (pl q)) := by
  pointwise [gr, pl]
theorem cast552 (x : FVec Ideal S1x4x128 .f32) (q : Fin 512) : (shapeCast S1x512 x shapeCasts_S1x4x128_S1x512 : FVec Ideal S1x512 .f32) (ix2 0 q) = x (ix3 0 (gr q) (pl q)) := by
  pointwise [gr, pl]
theorem cast555 (x : FVec Ideal S1x1024x1024 .f32) (r k : Fin 1024) : (truncf .bf16 (shapeCast S1024x1024 x shapeCasts_S1x1024x1024_S1024x1024) bitsLt_bf16_f32 : FVec Ideal S1024x1024 .bf16) (ix2 r k) = x (ix3 0 r k) := by
  pointwise

theorem blk0 (p : Fin 512) (k : Fin 1024) : (iblk m c 0 t : Vec Ideal S512x1024 .f32) (ix2 p k) = (args m c).d (ix2 (row t.val p) k) :=
  (read0 t (V m c main_arg12) p k).trans (congrFun (V_arg m c main_arg12 (by decide)) _)
theorem blk5 (p q : Fin 512) : (iblk m c 5 t : Vec Ideal S512x512 .bf16) (ix2 p q) = PoolMath.D (args m c) (ix3 (row t.val p) (gr q) (pl q)) :=
  (read5 t (V m c main_v551) p q).trans ((congrFun (v551 m c) _).trans (cast551 _ _ q))
theorem blk6 (k q : Fin 512) : (iblk m c 6 t : Vec Ideal S512x512 .bf16) (ix2 k q) = if k.val / 128 = q.val / 128 then (args m c).w (ix4 0 (gr k) (pl k) (pl q)) else 0 :=
  (read6 t (V m c main_v522) k q).trans (v522 m c k q)
theorem blk7 (q : Fin 512) : (iblk m c 7 t : Vec Ideal S1x512 .f32) (ix2 0 q) = (args m c).b (ix3 0 (gr q) (pl q)) :=
  (read7 t (V m c main_v552) 0 q).trans ((congrFun (v552 m c) _).trans (cast552 _ q))
theorem blk8 (q : Fin 512) : (iblk m c 8 t : Vec Ideal S1x512 .f32) (ix2 0 q) = (args m c).s (ix2 0 q) :=
  (read8 t (V m c main_arg3) 0 q).trans (congrFun (V_arg m c main_arg3 (by decide)) _)
theorem blk12 (r k : Fin 1024) : (iblk m c 12 t : Vec Ideal S1024x1024 .bf16) (ix2 r k) = (args m c).o (ix3 0 r k) :=
  (read12 t (V m c main_v555) r k).trans ((congrFun (v555 m c) _).trans (cast555 _ r k))

/-- A column of the block-diagonal weight meets one group alone. -/
theorem collapse (x w : Fin 4 → Fin 128 → EReal) (q : Fin 512) :
    (∑ k : Fin 512, x (gr k) (pl k) * (if k.val / 128 = q.val / 128 then w (gr k) (pl k) else 0)) = ∑ e : Fin 128, x (gr q) e * w (gr q) e := by
  have hg : ∀ (g : Fin 4) (e : Fin 128) (h : g.val * 128 + e.val < 512), gr ⟨g.val * 128 + e.val, h⟩ = g ∧ pl ⟨g.val * 128 + e.val, h⟩ = e := fun g e h =>
    ⟨Fin.ext (by show (g.val * 128 + e.val) / 128 = g.val; omega), Fin.ext (by show (g.val * 128 + e.val) % 128 = e.val; omega)⟩
  rw [Fin.sum_univ_tiles 4 128 rfl, Finset.sum_eq_single (gr q)]
  · refine Finset.sum_congr rfl fun e _ => ?_
    rw [(hg _ e _).1, (hg _ e _).2, if_pos (show ((gr q).val * 128 + e.val) / 128 = q.val / 128 from by have := e.isLt; unfold gr; dsimp only; omega)]
  · intro g _ hne
    refine Finset.sum_eq_zero fun e _ => ?_
    rw [if_neg (show ¬ (g.val * 128 + e.val) / 128 = q.val / 128 from fun hc => hne (Fin.ext (by show g.val = q.val / 128; have := e.isLt; omega))), mul_zero]
  · exact fun h => absurd (Finset.mem_univ _) h

theorem dy_blk (p q : Fin 512) : k0_pay80 (F := Ideal) (iblk m c 0 t) (iblk m c 12 t) (ix2 p q) = PoolMath.dy (args m c) (row t.val p) q := by
  refine (dy_at (iblk m c 0 t) (iblk m c 12 t) p q).trans (Finset.sum_congr rfl fun k _ => ?_)
  exact congrArg₂ (· * ·) (blk0 m c t p k) (blk12 m c t (wide q) k)
theorem dq_blk (p q : Fin 512) : k0_pay81 (F := Ideal) (iblk m c 0 t) (iblk m c 12 t) (iblk m c 8 t) (ix2 p q) = PoolMath.tB (args m c) (row t.val p) q :=
  (dq_at (iblk m c 0 t) (iblk m c 8 t) (iblk m c 12 t) p q).trans (congrArg₂ (· * ·) (dy_blk m c t p q) (blk8 m c t q))

theorem y_blk (x5 x6 : Vec Ideal S512x512 .bf16) (x7 : Vec Ideal S1x512 .f32) (h5 : ∀ p q, x5 (ix2 p q) = PoolMath.D (args m c) (ix3 (row t.val p) (gr q) (pl q)))
    (h6 : ∀ k q, x6 (ix2 k q) = if k.val / 128 = q.val / 128 then (args m c).w (ix4 0 (gr k) (pl k) (pl q)) else 0) (h7 : ∀ q, x7 (ix2 0 q) = (args m c).b (ix3 0 (gr q) (pl q))) (p q : Fin 512) :
    (∑ k : Fin 512, x5 (ix2 p k) * x6 (ix2 k q)) + x7 (ix2 0 q) = PoolMath.y (args m c) (row t.val p) q := by
  refine congrArg₂ (· + ·) ?_ (h7 q)
  refine (Finset.sum_congr rfl fun k _ => congrArg₂ (· * ·) (h5 p k) (h6 k q)).trans ?_
  refine (Finset.sum_congr rfl fun k _ => ?_).trans (collapse (fun g e => PoolMath.D (args m c) (ix3 (row t.val p) g e)) (fun g e => (args m c).w (ix4 0 g e (pl q))) q)
  rfl

theorem row0_blk (old : Vec Ideal S1x512 .f32) (q : Fin 512) : row0 (F := Ideal) (iblk m c 0 t) (iblk m c 5 t) (iblk m c 6 t) (iblk m c 7 t) (iblk m c 12 t) old (ix2 0 q) =
    old (ix2 0 q) + ∑ p : Fin 512, PoolMath.tS (args m c) (row t.val p) q :=
  (row0_at _ _ _ _ _ old q).trans (congrArg (old (ix2 0 q) + ·) (Finset.sum_congr rfl fun p _ => congrArg₂ (· * ·) (dy_blk m c t p q) (y_blk m c t _ _ _ (blk5 m c t) (blk6 m c t) (blk7 m c t) p q)))
theorem row1_blk (old : Vec Ideal S1x512 .f32) (q : Fin 512) : row1 (F := Ideal) (iblk m c 0 t) (iblk m c 8 t) (iblk m c 12 t) old (ix2 0 q) =
    old (ix2 0 q) + ∑ p : Fin 512, PoolMath.tB (args m c) (row t.val p) q :=
  (row1_at _ _ _ old q).trans (congrArg (old (ix2 0 q) + ·) (Finset.sum_congr rfl fun p _ => dq_blk m c t p q))
theorem acc_blk (old : Vec Ideal S512x512 .f32) (r q : Fin 512) : acc (F := Ideal) (iblk m c 0 t) (iblk m c 5 t) (iblk m c 8 t) (iblk m c 12 t) old (ix2 r q) =
    old (ix2 r q) + ∑ p : Fin 512, PoolMath.tW (args m c) (row t.val p) r q :=
  (acc_at _ _ _ _ old r q).trans (congrArg (old (ix2 r q) + ·) (Finset.sum_congr rfl fun p _ => congrArg₂ (· * ·) (blk5 m c t p r) (dq_blk m c t p q)))

end Cert.MixBwdIdeal.Pool

end
-- ==== Proof.PoolFold.lean ====
/- The pool branch's sums over the points, in what the mixer backward call leaves. -/
module

public import proofs.«01_k».proof.Proof.PoolBlocks

@[expose] public section

set_option maxRecDepth 16384

noncomputable section

namespace Cert.MixBwdIdeal.Pool

open Cert.MixBwdIdeal Cert.MixBwdIdeal.Gen Cert.MixBwdIdeal.Body Idealize.ShloMosaic Idealize.ShloMosaic.TcCoe Idealize.ShloMosaic.Tactic
open Cert.PoolMath (Args gr pl col)

variable (m : (ℓ : Loc nD τ sig) → Buf (Elt Ideal) ℓ) (c : Dev nD)

/-- What starts with a part and grows by a part at each point is the sum of the parts. -/
theorem fold_eq (f : (n : ℕ) → n < cfg0.N → EReal) (g : ℕ → EReal) (h0 : ∀ h, f 0 h = g 0) (hs : ∀ n (h : n + 1 < cfg0.N), f (n + 1) h = f n (Nat.lt_of_succ_lt h) + g (n + 1)) :
    ∀ n h, f n h = ∑ s ∈ Finset.range (n + 1), g s
  | 0, h => (h0 h).trans (Finset.sum_range_one g).symm
  | n + 1, h => (hs n h).trans ((congrArg (· + g (n + 1)) (fold_eq f g h0 hs n (Nat.lt_of_succ_lt h))).trans (Finset.sum_range_succ g (n + 1)).symm)

/-- The parts of all points are the sum over the rows. -/
theorem rows_eq (f : Fin 8192 → EReal) : (∑ s ∈ Finset.range (15 + 1), ∑ p : Fin 512, f (row s p)) = ∑ i : Fin 8192, f i := by
  rw [Fin.sum_univ_tiles 16 512 rfl, ← Finset.sum_range_reflect]
  refine (Finset.sum_range (fun s => ∑ p : Fin 512, f (row (15 + 1 - 1 - s) p))).trans (Finset.sum_congr rfl fun j _ => Finset.sum_congr rfl fun p _ => congrArg f (Fin.ext ?_))
  show (15 - (15 + 1 - 1 - j.val)) * 512 + p.val = j.val * 512 + p.val
  have := j.isLt
  omega

theorem scale_eq (q : Fin 512) : ∀ (n : ℕ) (h : n < cfg0.N), (outs m c n h).b16 (ix2 0 q) = ∑ s ∈ Finset.range (n + 1), ∑ p : Fin 512, PoolMath.tS (args m c) (row s p) q := by
  refine fold_eq (fun n h => (outs m c n h).b16 (ix2 0 q)) (fun s => ∑ p : Fin 512, PoolMath.tS (args m c) (row s p) q) (fun h => ?_) (fun n h => ?_)
  · have e := outs_A m c ⟨0, h⟩ ((first_iff _).mpr rfl) (fun e => absurd ((last_iff _).mp e) (show ¬ (0 = 15) by decide)) (View.canon [])
    refine (congrArg (fun s : St Ideal => s.b16 (ix2 0 q)) e).trans ((row0_A m c _ _ _ _ q).trans ((row0_blk m c ⟨0, h⟩ _ q).trans ?_))
    refine (congrArg (· + _) (zero16 0 q)).trans (zero_add _)
  · by_cases h1 : n + 1 = 15
    · have e := outs_C m c ⟨n + 1, h⟩ (fun e => absurd ((first_iff _).mp e) (Nat.succ_ne_zero n)) ((last_iff _).mpr h1)
      refine (congrArg (fun s : St Ideal => s.b16 (ix2 0 q)) e).trans ((row0_C m c _ _ _ _ q).trans ((row0_blk m c ⟨n + 1, h⟩ _ q).trans ?_))
      rfl
    · have e := outs_B m c ⟨n + 1, h⟩ (fun e => absurd ((first_iff _).mp e) (Nat.succ_ne_zero n)) (fun e => h1 ((last_iff _).mp e))
      refine (congrArg (fun s : St Ideal => s.b16 (ix2 0 q)) e).trans ((row0_B m c _ _ _ _ q).trans ((row0_blk m c ⟨n + 1, h⟩ _ q).trans ?_))
      rfl

theorem bias_eq (q : Fin 512) : ∀ (n : ℕ) (h : n < cfg0.N), (outs m c n h).b16 (ix2 1 q) = ∑ s ∈ Finset.range (n + 1), ∑ p : Fin 512, PoolMath.tB (args m c) (row s p) q := by
  refine fold_eq (fun n h => (outs m c n h).b16 (ix2 1 q)) (fun s => ∑ p : Fin 512, PoolMath.tB (args m c) (row s p) q) (fun h => ?_) (fun n h => ?_)
  · have e := outs_A m c ⟨0, h⟩ ((first_iff _).mpr rfl) (fun e => absurd ((last_iff _).mp e) (show ¬ (0 = 15) by decide)) (View.canon [])
    refine (congrArg (fun s : St Ideal => s.b16 (ix2 1 q)) e).trans ((row1_A m c _ _ _ _ q).trans ((row1_blk m c ⟨0, h⟩ _ q).trans ?_))
    refine (congrArg (· + _) (zero16 1 q)).trans (zero_add _)
  · by_cases h1 : n + 1 = 15
    · have e := outs_C m c ⟨n + 1, h⟩ (fun e => absurd ((first_iff _).mp e) (Nat.succ_ne_zero n)) ((last_iff _).mpr h1)
      refine (congrArg (fun s : St Ideal => s.b16 (ix2 1 q)) e).trans ((row1_C m c _ _ _ _ q).trans ((row1_blk m c ⟨n + 1, h⟩ _ q).trans ?_))
      rfl
    · have e := outs_B m c ⟨n + 1, h⟩ (fun e => absurd ((first_iff _).mp e) (Nat.succ_ne_zero n)) (fun e => h1 ((last_iff _).mp e))
      refine (congrArg (fun s : St Ideal => s.b16 (ix2 1 q)) e).trans ((row1_B m c _ _ _ _ q).trans ((row1_blk m c ⟨n + 1, h⟩ _ q).trans ?_))
      rfl

theorem weight_eq (r q : Fin 512) : ∀ (n : ℕ) (h : n < cfg0.N), (outs m c n h).b20 (ix2 r q) = ∑ s ∈ Finset.range (n + 1), ∑ p : Fin 512, PoolMath.tW (args m c) (row s p) r q := by
  refine fold_eq (fun n h => (outs m c n h).b20 (ix2 r q)) (fun s => ∑ p : Fin 512, PoolMath.tW (args m c) (row s p) r q) (fun h => ?_) (fun n h => ?_)
  · have e := outs_A m c ⟨0, h⟩ ((first_iff _).mpr rfl) (fun e => absurd ((last_iff _).mp e) (show ¬ (0 = 15) by decide)) (View.canon [])
    refine (congrArg (fun s : St Ideal => s.b20 (ix2 r q)) e).trans ((congrFun (acc_A m c _ _ _ _) (ix2 r q)).trans ((acc_blk m c ⟨0, h⟩ _ r q).trans ?_))
    refine (congrArg (· + _) (zero512 r q)).trans (zero_add _)
  · by_cases h1 : n + 1 = 15
    · have e := outs_C m c ⟨n + 1, h⟩ (fun e => absurd ((first_iff _).mp e) (Nat.succ_ne_zero n)) ((last_iff _).mpr h1)
      refine (congrArg (fun s : St Ideal => s.b20 (ix2 r q)) e).trans ((congrFun (acc_C m c _ _ _ _) (ix2 r q)).trans ((acc_blk m c ⟨n + 1, h⟩ _ r q).trans ?_))
      rfl
    · have e := outs_B m c ⟨n + 1, h⟩ (fun e => absurd ((first_iff _).mp e) (Nat.succ_ne_zero n)) (fun e => h1 ((last_iff _).mp e))
      refine (congrArg (fun s : St Ideal => s.b20 (ix2 r q)) e).trans ((congrFun (acc_B m c _ _ _ _) (ix2 r q)).trans ((acc_blk m c ⟨n + 1, h⟩ _ r q).trans ?_))
      rfl

theorem lt15 : 15 < cfg0.N := by rw [show cfg0.N = 16 from N_0]; decide

theorem scale_at (q : Fin 512) : (outs m c 15 lt15).b16 (ix2 0 q) = ∑ i : Fin 8192, PoolMath.tS (args m c) i q :=
  (scale_eq m c q 15 lt15).trans (rows_eq fun i => PoolMath.tS (args m c) i q)
theorem bias_at (q : Fin 512) : (outs m c 15 lt15).b16 (ix2 1 q) = ∑ i : Fin 8192, PoolMath.tB (args m c) i q :=
  (bias_eq m c q 15 lt15).trans (rows_eq fun i => PoolMath.tB (args m c) i q)
theorem weight_at (r : Fin 512) (e : Fin 128) : (outs m c 15 lt15).b17 (ix2 r e) = ∑ i : Fin 8192, PoolMath.tW (args m c) i r (col (gr r) e) := by
  have h := outs_C m c ⟨15, lt15⟩ (fun e => absurd ((first_iff _).mp e) (show ¬ (15 = 0) by decide)) ((last_iff _).mpr rfl)
  refine (congrArg (fun s : St Ideal => s.b17 (ix2 r e)) h).trans ((dpw_C m c _ _ _ _ r e).trans ?_)
  refine (congrArg (fun s : St Ideal => s.b20 (ix2 r _)) h.symm).trans ?_
  refine Eq.trans ?_ ((weight_eq m c r (col (gr r) e) 15 lt15).trans (rows_eq fun i => PoolMath.tW (args m c) i r (col (gr r) e)))
  exact congrArg (fun k => (outs m c 15 lt15).b20 (ix2 r k)) (Fin.ext (show 128 * (r.val / 128) + e.val = r.val / 128 * 128 + e.val from by omega))

end Cert.MixBwdIdeal.Pool

end
-- ==== Proof.PoolRead.lean ====
/- The reference of the pool branch, its results at an index. -/
module

public import proofs.«01_k».proof.Proof.Gen.MixRefIdeal.Run
public import proofs.«01_k».proof.Proof.PoolMath

@[expose] public section

set_option maxRecDepth 16384

noncomputable section

namespace Cert.MixRefIdeal.Read

open Cert.MixRefIdeal Cert.MixRefIdeal.Gen Idealize.ShloMosaic Idealize.ShloMosaic.TcCoe Idealize.SL.Sem
open Cert.PoolMath (Args gr pl col wide)

variable (A : Args)

/-- The pool's columns before the scale. -/
def yR (x : FVec Ideal S8192x4x128 .f32) : FVec Ideal S8192x512 .f32 := shapeCast S8192x512 (addf (transpose S8192x4x128 [2, 0, 1] (Host.dotGeneral dot_S4x128x128_S8192x4x128_S4x128x8192_1_2_2_0_0_1 none (shapeCast S4x128x128 A.w shapeCasts_S1x4x128x128_S4x128x128) x) transposes_S4x128x8192_S8192x4x128_2_0_1) (broadcastInDim S8192x4x128 ![0, 1, 2] bcast_S1x4x128_S8192x4x128_0_1_2 (broadcastInDim S1x4x128 ![1, 2] bcast_S4x128_S1x4x128_1_2 (shapeCast S4x128 A.b shapeCasts_S1x4x128_S4x128)))) shapeCasts_S8192x4x128_S8192x512
/-- The cotangent of the pool's columns, and of what the scale multiplies. -/
def dyR : FVec Ideal S8192x512 .f32 := extractStridedSlice S8192x512 ![0, 0] (Host.dotGeneral dot_S8192x1024_S1024x1024_S8192x1024_1_1_0_0_n_n none A.d (shapeCast S1024x1024 A.o shapeCasts_S1x1024x1024_S1024x1024)) slices_S8192x1024_S8192x512_0_0
def dqR : FVec Ideal S8192x4x128 .f32 := shapeCast S8192x4x128 (mulf (dyR A) (broadcastInDim S8192x512 ![0, 1] bcast_S1x512_S8192x512_0_1 (broadcastInDim S1x512 ![1] bcast_S512_S1x512_1 (shapeCast S512 A.s shapeCasts_S1x512_S512)))) shapeCasts_S8192x512_S8192x4x128
/-- The gradients of the scale, of the bias and of the weight. -/
def gsR (a b : FVec Ideal S8192x512 .f32) : FVec Ideal S1x512 .f32 := broadcastInDim S1x512 ![1] bcast_S512_S1x512_1 (Host.reduceAdd (shapeCast S1x512 (Host.reduceAdd (mulf a b) (constant S_ .f32 0x00000000#32) reducesTo_S8192x512_S512_d0 h_S_) shapeCasts_S512_S1x512) (constant S_ .f32 0x00000000#32) reducesTo_S1x512_S512_d0 h_S_)
def gbR (a : FVec Ideal S8192x4x128 .f32) : FVec Ideal S1x512 .f32 := shapeCast S1x512 (broadcastInDim S1x4x128 ![1, 2] bcast_S4x128_S1x4x128_1_2 (Host.reduceAdd (shapeCast S1x4x128 (Host.reduceAdd a (constant S_ .f32 0x00000000#32) reducesTo_S8192x4x128_S4x128_d0 h_S_) shapeCasts_S4x128_S1x4x128) (constant S_ .f32 0x00000000#32) reducesTo_S1x4x128_S4x128_d0 h_S_)) shapeCasts_S1x4x128_S1x512
def two (a b : FVec Ideal S1x512 .f32) : FVec Ideal S2x512 .f32 := concatenate S2x512 0 [⟨S1x512, a⟩, ⟨S1x512, b⟩] concatenates_S1x512_S1x512_S2x512_d0
def gwR (a x : FVec Ideal S8192x4x128 .f32) : FVec Ideal S512x128 .f32 := shapeCast S512x128 (broadcastInDim S1x4x128x128 ![1, 2, 3] bcast_S4x128x128_S1x4x128x128_1_2_3 (transpose S4x128x128 [0, 2, 1] (Host.dotGeneral dot_S4x128x8192_S8192x4x128_S4x128x128_2_0_1_2_0_1 none (transpose S4x128x8192 [1, 2, 0] a transposes_S8192x4x128_S4x128x8192_1_2_0) x) transposes_S4x128x128_S4x128x128_0_2_1)) shapeCasts_S1x4x128x128_S512x128

theorem yR_apply (x : FVec Ideal S8192x4x128 .f32) (i : Fin 8192) (q : Fin 512) : yR A x (ix2 i q) = ∑ k : Fin 128, A.w (ix4 0 (gr q) k (pl q)) * x (ix3 i (gr q) k) + A.b (ix3 0 (gr q) (pl q)) := by
  pointwise [yR, gr, pl]
theorem dyR_apply (i : Fin 8192) (q : Fin 512) : dyR A (ix2 i q) = PoolMath.dy A i q := by
  unfold PoolMath.dy
  pointwise [dyR, wide]
theorem dqR_apply (i : Fin 8192) (g : Fin 4) (e : Fin 128) : dqR A (ix3 i g e) = dyR A (ix2 i (col g e)) * A.s (ix2 0 (col g e)) := by
  unfold dqR
  generalize dyR A = z
  pointwise [col]
theorem gsR_apply (a b : FVec Ideal S8192x512 .f32) (q : Fin 512) : gsR a b (ix2 0 q) = ∑ i : Fin 8192, a (ix2 i q) * b (ix2 i q) := by
  pointwise [gsR]
  simp only [Fin.sum_univ_one]
theorem gbR_apply (a : FVec Ideal S8192x4x128 .f32) (q : Fin 512) : gbR a (ix2 0 q) = ∑ i : Fin 8192, a (ix3 i (gr q) (pl q)) := by
  pointwise [gbR, gr, pl]
  simp only [Fin.sum_univ_one]
theorem gwR_apply (a x : FVec Ideal S8192x4x128 .f32) (r : Fin 512) (e : Fin 128) : gwR a x (ix2 r e) = ∑ i : Fin 8192, a (ix3 i (gr r) e) * x (ix3 i (gr r) (pl r)) := by
  pointwise [gwR, gr, pl]
theorem two_0 (a b : FVec Ideal S1x512 .f32) (q : Fin 512) : two a b (ix2 0 q) = a (ix2 0 q) := by
  pointwise [two]
theorem two_1 (a b : FVec Ideal S1x512 .f32) (q : Fin 512) : two a b (ix2 1 q) = b (ix2 0 q) := by
  pointwise [two]

variable (m : (ℓ : Loc nD τ sig) → Buf (Elt Ideal) ℓ) (c : Dev nD)

/-- The arguments. -/
def args : Args where
  u := m ((c : Thread nD τ).loc main_arg0)
  w := m ((c : Thread nD τ).loc main_arg1)
  b := m ((c : Thread nD τ).loc main_arg2)
  s := m ((c : Thread nD τ).loc main_arg3)
  o := m ((c : Thread nD τ).loc main_arg11)
  d := m ((c : Thread nD τ).loc main_arg12)

theorem D_eq : Value.res_main_v87 (StableHlo.launchContents m c) = PoolMath.D (args m c) := by
  unfold Value.res_main_v87 Value.res_main_v16 Value.res_main_v33 Value.res_main_v50 Value.res_main_v67 Value.res_main_v13 Value.res_main_v14 Value.res_main_v12
  rfl
theorem y_eq : Value.res_main_v93 (StableHlo.launchContents m c) = yR (args m c) (PoolMath.D (args m c)) := by
  unfold Value.res_main_v93
  rw [D_eq]
  rfl
theorem dy_eq : Value.res_main_v505 (StableHlo.launchContents m c) = dyR (args m c) := by
  unfold Value.res_main_v505 Value.res_main_v504 Value.res_main_v10
  rfl
theorem dq_eq : Value.res_main_v513 (StableHlo.launchContents m c) = dqR (args m c) := by
  unfold Value.res_main_v513
  rw [dy_eq]
  unfold Value.res_main_v94
  rfl

variable (ρ : Dev nD → PrngReg)

theorem run : θ_run defs (onTc (τ := τ) (main (F := Ideal))) ⟨m, fun _ => 0, ρ⟩ fun r => ∀ c : Dev nD,
      r.2.mem ((c.tc : Thread nD τ).loc main_v524) = two (gsR (yR (args m c) (PoolMath.D (args m c))) (dyR (args m c))) (gbR (dqR (args m c)))
      ∧ r.2.mem ((c.tc : Thread nD τ).loc main_v525) = gwR (dqR (args m c)) (PoolMath.D (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
    have h1 := (h c).1
    have h2 := (h c).2.1
    rw [y_eq, dy_eq, dq_eq] at h1
    rw [dq_eq, D_eq] at h2
    exact ⟨h1, h2, (h c).2.2⟩) (Value.run m ρ)

end Cert.MixRefIdeal.Read

end
-- ==== Proof.PoolLast.lean ====
/- The pool branch's results of the mixer backward call, and the reference's. -/
module

public import proofs.«01_k».proof.Proof.PoolFold
public import proofs.«01_k».proof.Proof.PoolRead
public import Idealize.ShloMosaic.Lib.Pipeline.FrameSuffix

@[expose] public section

set_option maxRecDepth 16384

noncomputable section

namespace Cert.MixBwdIdeal.Pool

open Cert.MixBwdIdeal Cert.MixBwdIdeal.Gen Cert.MixBwdIdeal.Body Idealize.ShloMosaic Idealize.ShloMosaic.TcCoe Idealize.ShloMosaic.Tactic
open Cert.PoolMath (Args gr pl col)

variable (m : (ℓ : Loc nD τ sig) → Buf (Elt Ideal) ℓ) (c : Dev nD)

theorem idx15 : ∀ t : Fin cfg0.N, win0_15.index t (0 : Fin 2) = 0 ∧ win0_15.index t (1 : Fin 2) = 0 := by decide +kernel
theorem rows_final : (dats m 0 c).arrAt 15 cfg0.N = (outs m c 15 lt15).b16 := by
  refine (dats m 0 c).arrAt_eq_of_cover 15 _ (fun t hf => ?_) (fun i => ?_)
  · have e15 : t = ⟨15, lt15⟩ := Fin.ext (by have h := (flush0_15 t).mp hf; have hn : cfg0.N = 16 := N_0; have := t.isLt; show t.val = 15; omega)
    show (cfg0.win 15).cut (grid0.coords t) ((dats m 0 c).after 15 t) = _
    rw [after_15]
    subst e15
    generalize (outs m c 15 lt15).b16 = x
    funext y
    have hb0 : (((cfg0.win 15).blk ⟨15, lt15⟩).view.emb y 0).val = win0_15.index ⟨15, lt15⟩ (0 : Fin 2) * 16 + 1 * (y 0).val := rfl
    have hb1 : (((cfg0.win 15).blk ⟨15, lt15⟩).view.emb y 1).val = win0_15.index ⟨15, lt15⟩ (1 : Fin 2) * 512 + 1 * (y 1).val := rfl
    refine congrArg x ?_
    funext a; apply Fin.ext
    match a with
    | ⟨0, _⟩ => refine Eq.trans ?_ hb0.symm; rw [(idx15 _).1, Nat.zero_mul, Nat.zero_add, Nat.one_mul]; rfl
    | ⟨1, _⟩ => refine Eq.trans ?_ hb1.symm; rw [(idx15 _).2, Nat.zero_mul, Nat.zero_add, Nat.one_mul]; rfl
  · refine ⟨⟨15, lt15⟩, (flush0_15 _).mpr rfl, ?_⟩
    have h0 : (i 0).val < 16 := (i 0).isLt
    have h1 : (i 1).val < 512 := (i 1).isLt
    show i ∈ ((View.whole main_v581_1).slice (win0_15.rect ⟨15, lt15⟩)).set
    rw [View.set_slice_whole, Rect.mem_set_unit]
    have e := idx15 ⟨15, lt15⟩
    intro a
    match a with
    | ⟨0, _⟩ => show win0_15.index ⟨15, lt15⟩ (0 : Fin 2) * 16 ≤ (i 0).val ∧ (i 0).val < win0_15.index ⟨15, lt15⟩ (0 : Fin 2) * 16 + 16; rw [e.1]; omega
    | ⟨1, _⟩ => show win0_15.index ⟨15, lt15⟩ (1 : Fin 2) * 512 ≤ (i 1).val ∧ (i 1).val < win0_15.index ⟨15, lt15⟩ (1 : Fin 2) * 512 + 512; rw [e.2]; omega

theorem idx16 : ∀ t : Fin cfg0.N, win0_16.index t (0 : Fin 2) = 0 ∧ win0_16.index t (1 : Fin 2) = 0 := by decide +kernel
theorem dpw_final : (dats m 0 c).arrAt 16 cfg0.N = (outs m c 15 lt15).b17 := by
  refine (dats m 0 c).arrAt_eq_of_cover 16 _ (fun t hf => ?_) (fun i => ?_)
  · have e15 : t = ⟨15, lt15⟩ := Fin.ext (by have h := (flush0_16 t).mp hf; have hn : cfg0.N = 16 := N_0; have := t.isLt; show t.val = 15; omega)
    show (cfg0.win 16).cut (grid0.coords t) ((dats m 0 c).after 16 t) = _
    rw [after_16]
    subst e15
    generalize (outs m c 15 lt15).b17 = x
    funext y
    have hb0 : (((cfg0.win 16).blk ⟨15, lt15⟩).view.emb y 0).val = win0_16.index ⟨15, lt15⟩ (0 : Fin 2) * 512 + 1 * (y 0).val := rfl
    have hb1 : (((cfg0.win 16).blk ⟨15, lt15⟩).view.emb y 1).val = win0_16.index ⟨15, lt15⟩ (1 : Fin 2) * 128 + 1 * (y 1).val := rfl
    refine congrArg x ?_
    funext a; apply Fin.ext
    match a with
    | ⟨0, _⟩ => refine Eq.trans ?_ hb0.symm; rw [(idx16 _).1, Nat.zero_mul, Nat.zero_add, Nat.one_mul]; rfl
    | ⟨1, _⟩ => refine Eq.trans ?_ hb1.symm; rw [(idx16 _).2, Nat.zero_mul, Nat.zero_add, Nat.one_mul]; rfl
  · refine ⟨⟨15, lt15⟩, (flush0_16 _).mpr rfl, ?_⟩
    have h0 : (i 0).val < 512 := (i 0).isLt
    have h1 : (i 1).val < 128 := (i 1).isLt
    show i ∈ ((View.whole main_v581_2).slice (win0_16.rect ⟨15, lt15⟩)).set
    rw [View.set_slice_whole, Rect.mem_set_unit]
    have e := idx16 ⟨15, lt15⟩
    intro a
    match a with
    | ⟨0, _⟩ => show win0_16.index ⟨15, lt15⟩ (0 : Fin 2) * 512 ≤ (i 0).val ∧ (i 0).val < win0_16.index ⟨15, lt15⟩ (0 : Fin 2) * 512 + 512; rw [e.1]; omega
    | ⟨1, _⟩ => show win0_16.index ⟨15, lt15⟩ (1 : Fin 2) * 128 ≤ (i 1).val ∧ (i 1).val < win0_16.index ⟨15, lt15⟩ (1 : Fin 2) * 128 + 128; rw [e.2]; omega

/-- The two rows the line after the call takes. -/
theorem two_rows : V₁ m c main_v582 = (extractStridedSlice S2x512 ![0, 0] (outs m c 15 lt15).b16 slices_S16x512_S2x512_0_0 : FVec Ideal S2x512 .f32) := by
  unfold V₁ Pipeline.afterTail₀
  rw [show (after_lines (F := Ideal)).flatten = hostOps1 from List.append_nil _]
  rw [← rows_final]
  refine Eq.trans (b := extractStridedSlice S2x512 ![0, 0] (Pipeline.withArrays spec0 c (V₀ m c) (fun w => (dats m 0 c).arrAt w cfg0.N) (Proc.devRef .tc main_v581_1)) slices_S16x512_S2x512_0_0) ?_ ?_
  · unfold hostOps1
    after_reads_simp
  · exact congrArg (fun x => extractStridedSlice S2x512 ![0, 0] x slices_S16x512_S2x512_0_0) ((dats m 0 c).withArrays_arrAt launch₀0.sharedIn (V₀ m c) (A_eq m c) 15)

end Cert.MixBwdIdeal.Pool

namespace Cert.MixBwdIdeal.PoolAgree

open Cert.MixBwdIdeal Cert.MixBwdIdeal.Gen Cert.MixBwdIdeal.Body Cert.MixBwdIdeal.Pool Idealize.ShloMosaic Idealize.ShloMosaic.TcCoe Idealize.ShloMosaic.Tactic
open Cert.PoolMath (Args gr pl col)
open Cert.MixRefIdeal.Read (two gsR gbR gwR yR dyR dqR)

variable (A : Args)

/-- The reference's two results. -/
def rows (A : Args) : FVec Ideal S2x512 .f32 := two (gsR (yR A (PoolMath.D A)) (dyR A)) (gbR (dqR A))
def dpw (A : Args) : FVec Ideal S512x128 .f32 := gwR (dqR A) (PoolMath.D A)

theorem col_gr (q : Fin 512) : col (gr q) (pl q) = q := Fin.ext (by show q.val / 128 * 128 + q.val % 128 = q.val; omega)

theorem y_same (i : Fin 8192) (q : Fin 512) : yR A (PoolMath.D A) (ix2 i q) = PoolMath.y A i q := by
  rw [Cert.MixRefIdeal.Read.yR_apply]
  unfold PoolMath.y
  exact congrArg (· + A.b (ix3 0 (gr q) (pl q))) (Finset.sum_congr rfl fun k _ => mul_comm _ _)
theorem dq_same (i : Fin 8192) (g : Fin 4) (e : Fin 128) : dqR A (ix3 i g e) = PoolMath.tB A i (col g e) := by
  rw [Cert.MixRefIdeal.Read.dqR_apply, Cert.MixRefIdeal.Read.dyR_apply]
  rfl
theorem rows_0 (q : Fin 512) : rows A (ix2 0 q) = ∑ i : Fin 8192, PoolMath.tS A i q := by
  unfold rows
  rw [Cert.MixRefIdeal.Read.two_0, Cert.MixRefIdeal.Read.gsR_apply]
  refine Finset.sum_congr rfl fun i _ => ?_
  rw [y_same, Cert.MixRefIdeal.Read.dyR_apply]
  exact mul_comm _ _
theorem rows_1 (q : Fin 512) : rows A (ix2 1 q) = ∑ i : Fin 8192, PoolMath.tB A i q := by
  unfold rows
  rw [Cert.MixRefIdeal.Read.two_1, Cert.MixRefIdeal.Read.gbR_apply]
  refine Finset.sum_congr rfl fun i _ => ?_
  rw [dq_same, col_gr]
theorem dpw_at (r : Fin 512) (e : Fin 128) : dpw A (ix2 r e) = ∑ i : Fin 8192, PoolMath.tW A i r (col (gr r) e) := by
  unfold dpw
  rw [Cert.MixRefIdeal.Read.gwR_apply]
  refine Finset.sum_congr rfl fun i _ => ?_
  rw [dq_same]
  exact mul_comm _ _

variable (m : (ℓ : Loc nD τ sig) → Buf (Elt Ideal) ℓ) (c : Dev nD)

theorem slice_at (x : FVec Ideal S16x512 .f32) (q : Fin 512) : (extractStridedSlice S2x512 ![0, 0] x slices_S16x512_S2x512_0_0 : FVec Ideal S2x512 .f32) (ix2 0 q) = x (ix2 0 q)
    ∧ (extractStridedSlice S2x512 ![0, 0] x slices_S16x512_S2x512_0_0 : FVec Ideal S2x512 .f32) (ix2 1 q) = x (ix2 1 q) := by
  constructor <;> pointwise

/-- Two arrays are equal where they are at all pairs of a row and a column. -/
theorem ext2 {a b : ℕ} {x y : FVec Ideal ⟨2, ![a, b]⟩ .f32} (h : ∀ (i : Fin a) (q : Fin b), x (ix2 i q) = y (ix2 i q)) : x = y := by
  funext j
  rw [show j = ix2 (j 0) (j 1) from by funext a; match a with | ⟨0, _⟩ => rfl | ⟨1, _⟩ => rfl]
  exact h (j 0) (j 1)

theorem rows_same : V₁ m c main_v582 = rows (args m c) := by
  rw [two_rows]
  refine ext2 fun k q => ?_
  match k with
  | ⟨0, _⟩ => exact (slice_at _ q).1.trans ((scale_at m c q).trans (rows_0 (args m c) q).symm)
  | ⟨1, _⟩ => exact (slice_at _ q).2.trans ((bias_at m c q).trans (rows_1 (args m c) q).symm)

theorem dpw_same : (dats m 0 c).arrAt 16 cfg0.N = dpw (args m c) := by
  rw [dpw_final]
  refine ext2 fun r e => ?_
  exact (weight_at m c r e).trans (dpw_at (args m c) r e).symm

end Cert.MixBwdIdeal.PoolAgree

end
-- ==== Proof.MixClaim.lean ====
/- The claims of the mixer's backward call. -/
module

public import proofs.«01_k».proof.Defs
public import proofs.«01_k».proof.Proof.MixFrame
public import proofs.«01_k».proof.Proof.PoolLast
public import proofs.«01_k».proof.Proof.Gen.MixBwd
public import Idealize.ShloMosaic.Lib.Quiescent

@[expose] public section

set_option maxRecDepth 16384

noncomputable section

namespace Cert.MixClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

/-- The frame of the call over the interpretation F of the floats. -/
def FrameAt (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

theorem same_text : FrameAt Bits = Cert.quiescent_MixBwd := by sl_kernel_rfl
theorem frame_kernel : Cert.quiescent_MixBwd := cast same_text fun m ρ _ => Cert.MixBwdIdeal.Body.frame_all (F := Bits) m ρ
theorem frame_ideal : Cert.quiescent_MixBwdIdeal := fun m ρ _ => Cert.MixBwdIdeal.Body.frame_all m ρ
theorem preserves : Cert.preserves_MixBwd_MixBwdIdeal := trivial
theorem frame_ref : Cert.quiescent_MixRefIdeal := fun m ρ _ =>
  (θ_run Cert.MixRefIdeal.defs _ _).mono (fun r h => ⟨fun c => (h c).2.2, sem_eq_zero_of_no_sems (by decide) r.2⟩) (Cert.MixRefIdeal.Read.run m ρ)

open Cert.MixBwdIdeal.Body Cert.MixBwdIdeal.Pool in
theorem algebraic : Cert.algebraic_MixBwdIdeal_MixRefIdeal := by
  intro m ρ m' ρ' _ hagree
  refine ⟨fun c => PoolAgree.rows (args m c), fun c => PoolAgree.dpw (args m c), ?_, ?_⟩
  · refine (θ_run Cert.MixBwdIdeal.defs _ _).mono (fun r h c => ?_) (run_all m ρ)
    exact ⟨((h.1 c).2 main_v582 (by decide +kernel)).trans (PoolAgree.rows_same m c), ((h.1 c).1 16).trans (PoolAgree.dpw_same m c), args_kept m h.1 c⟩
  · refine (θ_run Cert.MixRefIdeal.defs _ _).mono (fun r h c => ?_) (Cert.MixRefIdeal.Read.run m' ρ')
    obtain ⟨e0, e1, e2, e3, e4, e5, e6, e7, e8, e9, e10, e11, e12⟩ := hagree c
    have ea : Cert.MixRefIdeal.Read.args m' c = args m c := by
      unfold Cert.MixRefIdeal.Read.args Pool.args
      rw [e0, e1, e2, e3, e11, e12]
    exact ⟨(h c).1.trans (congrArg PoolAgree.rows ea), (h c).2.1.trans (congrArg PoolAgree.dpw ea), (h c).2.2⟩

end Cert.MixClaim

end
-- ==== Proof.MlpARun.lean ====
/- The last grid point of the MLP backward call (first part), run with the two results it copies out named: each as a function of what the
  result and the two staging buffers held before. -/
module

public import proofs.«01_k».proof.Proof.Gen.MlpAIdeal.Value
public import proofs.«01_k».proof.Proof.Planes

@[expose] public section

set_option maxRecDepth 16384

noncomputable section

namespace Cert.MlpAIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpAIdeal Cert.MlpAIdeal.Gen

variable {F : FTy → Type} [FloatOps F]

local notation "𝕄" => MT nD τ sig Unit (Elt F) ℕ (Pipeline.UD sig nD τ) ℕ

set_option maxHeartbeats 1000000 in
/-- The pieces each buffer is left with at the last point and the contents of the two results copied out, with the run
    that finds them. -/
noncomputable def runLast (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S4x1024x512 .bf16) (harg4 : arg4.IsWhole) (arg5 : Memref sig .tc .vmem S2048x1024 .bf16) (harg5 : arg5.IsWhole) (arg6 : Memref sig .tc .vmem S512x1024 .f32) (harg6 : arg6.IsWhole) (arg9 : Memref sig .tc .vmem S4x1024x512 .f32) (harg9 : arg9.IsWhole) (arg10 : Memref sig .tc .vmem S2048x1024 .f32) (harg10 : arg10.IsWhole) (arg11 : Memref sig .tc .vmem S1024x512 .bf16) (harg11 : arg11.IsWhole) (arg12 : Memref sig .tc .vmem S512x1024 .bf16) (harg12 : arg12.IsWhole) (hc0 : ¬cond0_0 i) (hc1 : cond0_1 i)
    (x0 : Vec F S512x1024 .f32) (x1 : Vec F S512x1024 .bf16) (x2 : Vec F S512x2048 .bf16) (x3 : Vec F S4x1024x512 .bf16) (x4 : Vec F S2048x1024 .bf16) (xs0 : Vec F S4x1024x512 .f32) (xs1 : Vec F S2048x1024 .f32) :
    Σ' (B0 : HbBuf0 (F := F) c hbM0_0 → Buf (Elt F) (arg11.view.loc (c : Thread nD τ)) → Buf (Elt F) (arg12.view.loc (c : Thread nD τ)) → HbBuf0 (F := F) c hbM0_0), Σ' (B1 : HbBuf0 (F := F) c hbM0_1 → Buf (Elt F) (arg11.view.loc (c : Thread nD τ)) → Buf (Elt F) (arg12.view.loc (c : Thread nD τ)) → HbBuf0 (F := F) c hbM0_1), Σ' (L5 : List (View.Piece (Elt F) S512x1024 .f32)), Σ' (LS0 : List (View.Piece (Elt F) S4x1024x512 .f32)), { LS1 : List (View.Piece (Elt F) S2048x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ (∃ f, hbPt0 c hbM0_0 f) ∗ (∃ f, hbPt0 c hbM0_1 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ (∃ f g h, hbPt0 c hbM0_0 (B0 f g h)) ∗ (∃ f g h, hbPt0 c hbM0_1 (B1 f g h)) ∗ (∃ W', owes (c : Thread nD τ) 0 W')) -∗ K ⟨⟩))
          ⊢ wp frame (wpE (defs₀ (F := F)) Variants.none c none) Set.univ (cc0_mlp_bwd_0 i arg1 harg1 arg2 harg2 arg3 harg3 arg4 harg4 arg5 harg5 arg6 harg6 (Memref.whole main_v24_1) (Memref.isWhole_whole _) (Memref.whole main_v24_2) (Memref.isWhole_whole _) arg9 harg9 arg10 harg10 arg11 harg11 arg12 harg12 cc0_scoped0 cc0_scoped1 cc0_scoped2 cc0_scoped3 cc0_scoped4 cc0_scoped5 cc0_scoped6 cc0_scoped7) K } := by
  refine ⟨?_, ?_, ?_, ?_, ?_, fun W K => ?run⟩
  case run =>
    simp only [cc0_mlp_bwd_0_eq_skeleton]; unfold cc0_mlp_bwd_0_skel
    simp only [k0_part3_eq_skeleton, k0_part4_eq_skeleton, k0_part5_eq_skeleton, k0_part6_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, ⟨%ds3, %fs3, -, HS3⟩, Hq0, Hq1, Hq2, Hq3, Hq4, Hq5, Hq6, Hq7, ⟨%fw0, Hh0⟩, ⟨%fw1, Hh1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexists fw0, fs2, fs3; iexact Hh0
    isplitl [Hh1]; · iexists fw1, fs2, fs3; iexact Hh1
    iexists _; iexact HW

end Cert.MlpAIdeal.Out

end
-- ==== Proof.MlpABody.lean ====
/-
  What one grid point of the first MLP backward call leaves in its buffers: the block of the result, the two carried
  accumulators, and at the last point the two results copied out of them.
-/
module

public import proofs.«01_k».proof.Proof.MlpARun
public import Idealize.ShloMosaic.Lib.Pointwise
public import Idealize.ShloMosaic.Lib.Tactic

@[expose] public section

set_option maxRecDepth 16384

noncomputable section

namespace Cert.MlpAIdeal.Body

open Cert.MlpAIdeal Cert.MlpAIdeal.Gen Idealize.ShloMosaic Idealize.ShloMosaic.TcCoe Idealize.SL.Sem
open Cert.Rows (hz)

variable {F : FTy → Type} [FloatOps F]

/-- The accumulator of the up-projection's gradient after a point. -/
def upd9 (x0 : Vec F S512x1024 .f32) (x1 : Vec F S512x1024 .bf16) (x2 : Vec F S512x2048 .bf16) (x4 : Vec F S2048x1024 .bf16) (acc : Vec F S4x1024x512 .f32) : Vec F S4x1024x512 .f32 :=
  Planes.planes4 (k0_pay20 (k0_pay19 x0 x1 (View.ld x2 (Rect.unit (s := S512x2048) ![0, 0] S512x512.size inb_S512x2048_S512x512_0_0)) (View.ld x4 (Rect.unit (s := S2048x1024) ![0, 0] S512x1024.size inb_S2048x1024_S512x1024_0_0)) (View.ld acc (Rect.unit (s := S4x1024x512) ![0, 0, 0] S1x1024x512.size inb_S4x1024x512_S1x1024x512_0_0_0))))
    (k0_pay25 (k0_pay13 x0) (k0_pay14 x1) (View.ld x2 (Rect.unit (s := S512x2048) ![0, 512] S512x512.size inb_S512x2048_S512x512_0_512)) (View.ld x4 (Rect.unit (s := S2048x1024) ![512, 0] S512x1024.size inb_S2048x1024_S512x1024_512_0)) (View.ld acc (Rect.unit (s := S4x1024x512) ![1, 0, 0] S1x1024x512.size inb_S4x1024x512_S1x1024x512_1_0_0)))
    (k0_pay30 (k0_pay13 x0) (k0_pay14 x1) (View.ld x2 (Rect.unit (s := S512x2048) ![0, 1024] S512x512.size inb_S512x2048_S512x512_0_1024)) (View.ld x4 (Rect.unit (s := S2048x1024) ![1024, 0] S512x1024.size inb_S2048x1024_S512x1024_1024_0)) (View.ld acc (Rect.unit (s := S4x1024x512) ![2, 0, 0] S1x1024x512.size inb_S4x1024x512_S1x1024x512_2_0_0)))
    (k0_pay35 (k0_pay13 x0) (k0_pay14 x1) (View.ld x2 (Rect.unit (s := S512x2048) ![0, 1536] S512x512.size inb_S512x2048_S512x512_0_1536)) (View.ld x4 (Rect.unit (s := S2048x1024) ![1536, 0] S512x1024.size inb_S2048x1024_S512x1024_1536_0)) (View.ld acc (Rect.unit (s := S4x1024x512) ![3, 0, 0] S1x1024x512.size inb_S4x1024x512_S1x1024x512_3_0_0)))

/-- The accumulator of the down-projection's gradient after a point. -/
def upd10 (x0 : Vec F S512x1024 .f32) (x2 : Vec F S512x2048 .bf16) (acc : Vec F S2048x1024 .f32) : Vec F S2048x1024 .f32 :=
  Planes.rows4 (k := 512) (k0_pay18 x0 (View.ld x2 (Rect.unit (s := S512x2048) ![0, 0] S512x512.size inb_S512x2048_S512x512_0_0)) (View.ld acc (Rect.unit (s := S2048x1024) ![0, 0] S512x1024.size inb_S2048x1024_S512x1024_0_0))) (k0_pay24 (k0_pay13 x0) (View.ld x2 (Rect.unit (s := S512x2048) ![0, 512] S512x512.size inb_S512x2048_S512x512_0_512)) (View.ld acc (Rect.unit (s := S2048x1024) ![512, 0] S512x1024.size inb_S2048x1024_S512x1024_512_0)))
    (k0_pay29 (k0_pay13 x0) (View.ld x2 (Rect.unit (s := S512x2048) ![0, 1024] S512x512.size inb_S512x2048_S512x512_0_1024)) (View.ld acc (Rect.unit (s := S2048x1024) ![1024, 0] S512x1024.size inb_S2048x1024_S512x1024_1024_0))) (k0_pay34 (k0_pay13 x0) (View.ld x2 (Rect.unit (s := S512x2048) ![0, 1536] S512x512.size inb_S512x2048_S512x512_0_1536)) (View.ld acc (Rect.unit (s := S2048x1024) ![1536, 0] S512x1024.size inb_S2048x1024_S512x1024_1536_0))) rfl

/-- The block of the result a point leaves. -/
def dz (x0 : Vec F S512x1024 .f32) (x2 : Vec F S512x2048 .bf16) (x3 : Vec F S4x1024x512 .bf16) (x4 : Vec F S2048x1024 .bf16) : Vec F S512x1024 .f32 :=
  k0_pay1 (k0_pay31 (k0_pay26 (k0_pay21 k0_pay15 (k0_pay17 x0 (View.ld x2 (Rect.unit (s := S512x2048) ![0, 0] S512x512.size inb_S512x2048_S512x512_0_0)) (View.ld x4 (Rect.unit (s := S2048x1024) ![0, 0] S512x1024.size inb_S2048x1024_S512x1024_0_0))) (View.ld x3 (Rect.unit (s := S4x1024x512) ![0, 0, 0] S1x1024x512.size inb_S4x1024x512_S1x1024x512_0_0_0))) (k0_pay23 (k0_pay13 x0) (View.ld x2 (Rect.unit (s := S512x2048) ![0, 512] S512x512.size inb_S512x2048_S512x512_0_512)) (View.ld x4 (Rect.unit (s := S2048x1024) ![512, 0] S512x1024.size inb_S2048x1024_S512x1024_512_0))) (View.ld x3 (Rect.unit (s := S4x1024x512) ![1, 0, 0] S1x1024x512.size inb_S4x1024x512_S1x1024x512_1_0_0)))
    (k0_pay28 (k0_pay13 x0) (View.ld x2 (Rect.unit (s := S512x2048) ![0, 1024] S512x512.size inb_S512x2048_S512x512_0_1024)) (View.ld x4 (Rect.unit (s := S2048x1024) ![1024, 0] S512x1024.size inb_S2048x1024_S512x1024_1024_0))) (View.ld x3 (Rect.unit (s := S4x1024x512) ![2, 0, 0] S1x1024x512.size inb_S4x1024x512_S1x1024x512_2_0_0))) (k0_pay36 (k0_pay13 x0) (View.ld x2 (Rect.unit (s := S512x2048) ![0, 1536] S512x512.size inb_S512x2048_S512x512_0_1536)) (View.ld x4 (Rect.unit (s := S2048x1024) ![1536, 0] S512x1024.size inb_S2048x1024_S512x1024_1536_0)) (View.ld x3 (Rect.unit (s := S4x1024x512) ![3, 0, 0] S1x1024x512.size inb_S4x1024x512_S1x1024x512_3_0_0)))

/-- The first result copied out of an accumulator, plane by plane. -/
def out7 (acc : Vec F S4x1024x512 .f32) : Vec F S4x1024x512 .bf16 :=
  Planes.stack4 (k0_pay4 (View.ld acc (Rect.unit (s := S4x1024x512) ![0, 0, 0] S1x1024x512.size inb_S4x1024x512_S1x1024x512_0_0_0))) (k0_pay4 (View.ld acc (Rect.unit (s := S4x1024x512) ![1, 0, 0] S1x1024x512.size inb_S4x1024x512_S1x1024x512_1_0_0))) (k0_pay4 (View.ld acc (Rect.unit (s := S4x1024x512) ![2, 0, 0] S1x1024x512.size inb_S4x1024x512_S1x1024x512_2_0_0))) (k0_pay4 (View.ld acc (Rect.unit (s := S4x1024x512) ![3, 0, 0] S1x1024x512.size inb_S4x1024x512_S1x1024x512_3_0_0)))

/-- The second result copied out of an accumulator, run of rows by run of rows. -/
def out8 (acc : Vec F S2048x1024 .f32) : Vec F S4x512x1024 .bf16 :=
  Planes.stack4 (k0_pay5 (View.ld acc (Rect.unit (s := S2048x1024) ![0, 0] S512x1024.size inb_S2048x1024_S512x1024_0_0))) (k0_pay5 (View.ld acc (Rect.unit (s := S2048x1024) ![512, 0] S512x1024.size inb_S2048x1024_S512x1024_512_0))) (k0_pay5 (View.ld acc (Rect.unit (s := S2048x1024) ![1024, 0] S512x1024.size inb_S2048x1024_S512x1024_1024_0))) (k0_pay5 (View.ld acc (Rect.unit (s := S2048x1024) ![1536, 0] S512x1024.size inb_S2048x1024_S512x1024_1536_0)))

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S4x1024x512 .bf16) (harg4 : arg4.IsWhole) (arg5 : Memref sig .tc .vmem S2048x1024 .bf16) (harg5 : arg5.IsWhole) (arg6 : Memref sig .tc .vmem S512x1024 .f32) (harg6 : arg6.IsWhole) (arg9 : Memref sig .tc .vmem S4x1024x512 .f32) (harg9 : arg9.IsWhole) (arg10 : Memref sig .tc .vmem S2048x1024 .f32) (harg10 : arg10.IsWhole) (arg11 : Memref sig .tc .vmem S1024x512 .bf16) (harg11 : arg11.IsWhole) (arg12 : Memref sig .tc .vmem S512x1024 .bf16) (harg12 : arg12.IsWhole)
  (x0 : Vec F S512x1024 .f32) (x1 : Vec F S512x1024 .bf16) (x2 : Vec F S512x2048 .bf16) (x3 : Vec F S4x1024x512 .bf16) (x4 : Vec F S2048x1024 .bf16) (xs0 : Vec F S4x1024x512 .f32) (xs1 : Vec F S2048x1024 .f32)

theorem dz_A (hc0 : cond0_0 i) (hc1 : ¬cond0_1 i) : out0_A_5 c i arg1 harg1 arg2 harg2 arg3 harg3 arg4 harg4 arg5 harg5 arg6 harg6 arg9 harg9 arg10 harg10 arg11 harg11 arg12 harg12 hc0 hc1 x0 x1 x2 x3 x4 = dz x0 x2 x3 x4 := by
  unfold out0_A_5
  rw [View.read_writes_eq_canon _ _ _ (cover0_A_5 c i arg1 harg1 arg2 harg2 arg3 harg3 arg4 harg4 arg5 harg5 arg6 harg6 arg9 harg9 arg10 harg10 arg11 harg11 arg12 harg12 hc0 hc1 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  rfl

theorem acc9_A (hc0 : cond0_0 i) (hc1 : ¬cond0_1 i) : sout0_A_0 c i arg1 harg1 arg2 harg2 arg3 harg3 arg4 harg4 arg5 harg5 arg6 harg6 arg9 harg9 arg10 harg10 arg11 harg11 arg12 harg12 hc0 hc1 x0 x1 x2 x3 x4 = upd9 x0 x1 x2 x4 (k0_pay11 (F := F)) := by
  unfold sout0_A_0
  unfold kernelRun0_A
  dsimp only
  sl_unfold_words
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  refine (Planes.store4 _ _ _ _ _ _ _ _ _ _ _).trans ?_
  unfold upd9
  congr 1
  · exact congrArg (fun v => k0_pay20 (k0_pay19 _ _ _ _ v)) (Planes.cov_base3 _ _ _ _)
  · exact congrArg (k0_pay25 _ _ _ _) (Planes.cov_miss3 _ 1 0 (by decide) _ _ _ _ (Planes.cov_base3 _ _ _ _))
  · exact congrArg (k0_pay30 _ _ _ _) (Planes.cov_miss3 _ 2 1 (by decide) _ _ _ _ (Planes.cov_miss3 _ 2 0 (by decide) _ _ _ _ (Planes.cov_base3 _ _ _ _)))
  · exact congrArg (k0_pay35 _ _ _ _) (Planes.cov_miss3 _ 3 2 (by decide) _ _ _ _ (Planes.cov_miss3 _ 3 1 (by decide) _ _ _ _ (Planes.cov_miss3 _ 3 0 (by decide) _ _ _ _ (Planes.cov_base3 _ _ _ _))))

theorem acc10_A (hc0 : cond0_0 i) (hc1 : ¬cond0_1 i) : sout0_A_1 c i arg1 harg1 arg2 harg2 arg3 harg3 arg4 harg4 arg5 harg5 arg6 harg6 arg9 harg9 arg10 harg10 arg11 harg11 arg12 harg12 hc0 hc1 x0 x1 x2 x3 x4 = upd10 x0 x2 (k0_pay12 (F := F)) := by
  unfold sout0_A_1
  unfold kernelRun0_A
  dsimp only
  sl_unfold_words
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  refine (Planes.storeR4 _ _ 512 1024 1536 _ _ _ _ _ _ _ _ _ rfl rfl rfl rfl).trans ?_
  unfold upd10
  congr 1
  · exact congrArg (k0_pay18 _ _) (Planes.loadCov _ _ _ (Rows.read_full _ _ _ _ _))
  · exact congrArg (k0_pay24 _ _) (Planes.cov_miss2 _ 512 0 (by decide) _ _ _ _ (Planes.loadCov _ _ _ (Rows.read_full _ _ _ _ _)))
  · exact congrArg (k0_pay29 _ _) (Planes.cov_miss2 _ 1024 512 (by decide) _ _ _ _ (Planes.cov_miss2 _ 1024 0 (by decide) _ _ _ _ (Planes.loadCov _ _ _ (Rows.read_full _ _ _ _ _))))
  · exact congrArg (k0_pay34 _ _) (Planes.cov_miss2 _ 1536 1024 (by decide) _ _ _ _ (Planes.cov_miss2 _ 1536 512 (by decide) _ _ _ _ (Planes.cov_miss2 _ 1536 0 (by decide) _ _ _ _ (Planes.loadCov _ _ _ (Rows.read_full _ _ _ _ _)))))

theorem dz_B (hc0 : ¬cond0_0 i) (hc1 : ¬cond0_1 i) : out0_B_5 c i arg1 harg1 arg2 harg2 arg3 harg3 arg4 harg4 arg5 harg5 arg6 harg6 arg9 harg9 arg10 harg10 arg11 harg11 arg12 harg12 hc0 hc1 x0 x1 x2 x3 x4 xs0 xs1 = dz x0 x2 x3 x4 := by
  unfold out0_B_5
  rw [View.read_writes_eq_canon _ _ _ (cover0_B_5 c i arg1 harg1 arg2 harg2 arg3 harg3 arg4 harg4 arg5 harg5 arg6 harg6 arg9 harg9 arg10 harg10 arg11 harg11 arg12 harg12 hc0 hc1 x0 x1 x2 x3 x4 xs0 xs1)]
  unfold kernelRun0_B
  dsimp only
  sl_unfold_words
  rw [View.canon_unit_zero hz]
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  rfl

theorem acc9_B (hc0 : ¬cond0_0 i) (hc1 : ¬cond0_1 i) : sout0_B_0 c i arg1 harg1 arg2 harg2 arg3 harg3 arg4 harg4 arg5 harg5 arg6 harg6 arg9 harg9 arg10 harg10 arg11 harg11 arg12 harg12 hc0 hc1 x0 x1 x2 x3 x4 xs0 xs1 = upd9 x0 x1 x2 x4 xs0 := by
  unfold sout0_B_0
  unfold kernelRun0_B
  dsimp only
  sl_unfold_words
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  exact Planes.store4 _ _ _ _ _ _ _ _ _ _ _

theorem acc10_B (hc0 : ¬cond0_0 i) (hc1 : ¬cond0_1 i) : sout0_B_1 c i arg1 harg1 arg2 harg2 arg3 harg3 arg4 harg4 arg5 harg5 arg6 harg6 arg9 harg9 arg10 harg10 arg11 harg11 arg12 harg12 hc0 hc1 x0 x1 x2 x3 x4 xs0 xs1 = upd10 x0 x2 xs1 := by
  unfold sout0_B_1
  unfold kernelRun0_B
  dsimp only
  sl_unfold_words
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  exact Planes.storeR4 _ _ 512 1024 1536 _ _ _ _ _ _ _ _ _ rfl rfl rfl rfl

theorem dz_C (hc0 : ¬cond0_0 i) (hc1 : cond0_1 i) : out0_C_5 c i arg1 harg1 arg2 harg2 arg3 harg3 arg4 harg4 arg5 harg5 arg6 harg6 arg9 harg9 arg10 harg10 arg11 harg11 arg12 harg12 hc0 hc1 x0 x1 x2 x3 x4 xs0 xs1 = dz x0 x2 x3 x4 := by
  unfold out0_C_5
  rw [View.read_writes_eq_canon _ _ _ (cover0_C_5 c i arg1 harg1 arg2 harg2 arg3 harg3 arg4 harg4 arg5 harg5 arg6 harg6 arg9 harg9 arg10 harg10 arg11 harg11 arg12 harg12 hc0 hc1 x0 x1 x2 x3 x4 xs0 xs1)]
  unfold kernelRun0_C
  dsimp only
  sl_unfold_words
  rw [View.canon_unit_zero hz]
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  rfl

theorem copied7 (hc0 : ¬cond0_0 i) (hc1 : cond0_1 i) (f : HbBuf0 (F := F) c hbM0_0) (g : Buf (Elt F) (arg11.view.loc (c : Thread nD τ))) (h : Buf (Elt F) (arg12.view.loc (c : Thread nD τ))) :
    hbM0_0.view.read (Elt F) ((Out.runLast c i arg1 harg1 arg2 harg2 arg3 harg3 arg4 harg4 arg5 harg5 arg6 harg6 arg9 harg9 arg10 harg10 arg11 harg11 arg12 harg12 hc0 hc1 x0 x1 x2 x3 x4 xs0 xs1).1 f g h) = out7 (upd9 x0 x1 x2 x4 xs0) := by
  unfold Out.runLast
  dsimp only
  sl_unfold_words
  refine (Planes.copy4 hbM0_0 _ _ _ _ (fun _ => rfl) (fun _ => rfl) (fun _ => rfl) (fun _ => rfl) squeezes_S1x1024x512_S1024x512 squeezes_S1x1024x512_S1024x512 squeezes_S1x1024x512_S1024x512 squeezes_S1x1024x512_S1024x512 _ _ _ _ _).trans ?_
  unfold out7
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  congr 1
  all_goals
    refine (Rows.read_full arg11.view _ _ _ _).trans ?_
    exact congrArg k0_pay4 (Planes.loadCov arg9.view _ _ (Planes.store4 _ _ _ _ _ _ _ _ _ _ _))

theorem copied8 (hc0 : ¬cond0_0 i) (hc1 : cond0_1 i) (f : HbBuf0 (F := F) c hbM0_1) (g : Buf (Elt F) (arg11.view.loc (c : Thread nD τ))) (h : Buf (Elt F) (arg12.view.loc (c : Thread nD τ))) :
    hbM0_1.view.read (Elt F) ((Out.runLast c i arg1 harg1 arg2 harg2 arg3 harg3 arg4 harg4 arg5 harg5 arg6 harg6 arg9 harg9 arg10 harg10 arg11 harg11 arg12 harg12 hc0 hc1 x0 x1 x2 x3 x4 xs0 xs1).2.1 f g h) = out8 (upd10 x0 x2 xs1) := by
  unfold Out.runLast
  dsimp only
  sl_unfold_words
  refine (Planes.copy4 hbM0_1 _ _ _ _ (fun _ => rfl) (fun _ => rfl) (fun _ => rfl) (fun _ => rfl) squeezes_S1x512x1024_S512x1024 squeezes_S1x512x1024_S512x1024 squeezes_S1x512x1024_S512x1024 squeezes_S1x512x1024_S512x1024 _ _ _ _ _).trans ?_
  unfold out8
  simp only [View.readAt_eq_ld, harg1.read_unread, harg2.read_unread, harg3.read_unread, harg4.read_unread, harg5.read_unread, harg9.read_unread, harg10.read_unread, View.ld_unit_zero (S := S512x1024) hz, View.ld_unit_zero (S := S512x2048) hz, View.ld_unit_zero (S := S2048x1024) hz]
  congr 1
  all_goals
    refine (Rows.read_full arg12.view _ _ _ _).trans ?_
    exact congrArg k0_pay5 (Planes.loadCov arg10.view _ _ (Planes.storeR4 _ _ 512 1024 1536 _ _ _ _ _ _ _ _ _ rfl rfl rfl rfl))

theorem same5 (hc0 : ¬cond0_0 i) (hc1 : cond0_1 i) : (Out.runLast c i arg1 harg1 arg2 harg2 arg3 harg3 arg4 harg4 arg5 harg5 arg6 harg6 arg9 harg9 arg10 harg10 arg11 harg11 arg12 harg12 hc0 hc1 x0 x1 x2 x3 x4 xs0 xs1).2.2.1 = (kernelRun0_C c i arg1 harg1 arg2 harg2 arg3 harg3 arg4 harg4 arg5 harg5 arg6 harg6 arg9 harg9 arg10 harg10 arg11 harg11 arg12 harg12 hc0 hc1 x0 x1 x2 x3 x4 xs0 xs1).1 := rfl

end Cert.MlpAIdeal.Body

end
-- ==== Proof.MlpAPay.lean ====
/- The printed payloads of the first MLP backward call at the ideal floats, read at an index, and what a point makes of
  its blocks. -/
module

public import proofs.«01_k».proof.Proof.MlpABody

@[expose] public section

set_option maxRecDepth 16384

noncomputable section

namespace Cert.MlpAIdeal.Pay

open Cert.MlpAIdeal Cert.MlpAIdeal.Gen Cert.MlpAIdeal.Body Idealize.ShloMosaic Idealize.ShloMosaic.TcCoe Idealize.SL.Sem

/-- The rectified activation. -/
def mx (u : EReal) : EReal := max u 0

/-- The cotangent of the activation's argument, from the cotangent of its square. -/
def du (g u : EReal) : EReal := g * (Ideal.ofBits .f32 0x40000000#32 * mx u)

theorem pay16 (v : Vec Ideal S512x512 .bf16) (j : S512x512.Idx) : k0_pay16 (F := Ideal) v j = mx (v j) := by
  idx_vars j
  unfold mx
  pointwise [k0_pay16]

theorem pay22 (v : Vec Ideal S512x512 .bf16) (j : S512x512.Idx) : k0_pay22 (F := Ideal) v j = mx (v j) := by
  idx_vars j
  unfold mx
  pointwise [k0_pay22]

theorem pay27 (v : Vec Ideal S512x512 .bf16) (j : S512x512.Idx) : k0_pay27 (F := Ideal) v j = mx (v j) := by
  idx_vars j
  unfold mx
  pointwise [k0_pay27]

theorem pay32 (v : Vec Ideal S512x512 .bf16) (j : S512x512.Idx) : k0_pay32 (F := Ideal) v j = mx (v j) := by
  idx_vars j
  unfold mx
  pointwise [k0_pay32]

theorem pay17 (x : Vec Ideal S512x1024 .f32) (v : Vec Ideal S512x512 .bf16) (w : Vec Ideal S512x1024 .bf16) (p q : Fin 512) :
    k0_pay17 (F := Ideal) x v w (ix2 p q) = du (∑ r : Fin 1024, x (ix2 p r) * w (ix2 q r)) (v (ix2 p q)) := by
  unfold du
  rw [← pay16]
  pointwise [k0_pay17, k0_pay13]

theorem pay18 (x : Vec Ideal S512x1024 .f32) (v : Vec Ideal S512x512 .bf16) (a : Vec Ideal S512x1024 .f32) (p : Fin 512) (r : Fin 1024) :
    k0_pay18 (F := Ideal) x v a (ix2 p r) = a (ix2 p r) + ∑ i : Fin 512, mx (v (ix2 i p)) * mx (v (ix2 i p)) * x (ix2 i r) := by
  simp only [← pay16]
  pointwise [k0_pay18, k0_pay13]

theorem pay20 (x : Vec Ideal S512x1024 .f32) (z : Vec Ideal S512x1024 .bf16) (v : Vec Ideal S512x512 .bf16) (w : Vec Ideal S512x1024 .bf16) (a : Vec Ideal S1x1024x512 .f32) (r : Fin 1024) (q : Fin 512) :
    k0_pay20 (F := Ideal) (k0_pay19 x z v w a) (ix3 0 r q) = a (ix3 0 r q) + ∑ i : Fin 512, z (ix2 i r) * du (∑ r : Fin 1024, x (ix2 i r) * w (ix2 q r)) (v (ix2 i q)) := by
  simp only [← pay17]
  pointwise [k0_pay20, k0_pay19, k0_pay14]

theorem pay21 (b : Vec Ideal S512x1024 .f32) (d : Vec Ideal S512x512 .bf16) (w : Vec Ideal S1x1024x512 .bf16) (p : Fin 512) (r : Fin 1024) :
    k0_pay21 (F := Ideal) b d w (ix2 p r) = b (ix2 p r) + ∑ q : Fin 512, d (ix2 p q) * w (ix3 0 r q) := by
  pointwise [k0_pay21]

theorem pay15 (p : Fin 512) (r : Fin 1024) : k0_pay15 (F := Ideal) (ix2 p r) = 0 := by
  pointwise [k0_pay15]

theorem pay23 (x : Vec Ideal S512x1024 .f32) (v : Vec Ideal S512x512 .bf16) (w : Vec Ideal S512x1024 .bf16) (p q : Fin 512) :
    k0_pay23 (F := Ideal) (k0_pay13 x) v w (ix2 p q) = du (∑ r : Fin 1024, x (ix2 p r) * w (ix2 q r)) (v (ix2 p q)) := by
  unfold du
  rw [← pay22]
  pointwise [k0_pay23, k0_pay13]

theorem pay24 (x : Vec Ideal S512x1024 .f32) (v : Vec Ideal S512x512 .bf16) (a : Vec Ideal S512x1024 .f32) (p : Fin 512) (r : Fin 1024) :
    k0_pay24 (F := Ideal) (k0_pay13 x) v a (ix2 p r) = a (ix2 p r) + ∑ i : Fin 512, mx (v (ix2 i p)) * mx (v (ix2 i p)) * x (ix2 i r) := by
  simp only [← pay22]
  pointwise [k0_pay24, k0_pay13]

theorem pay25 (x : Vec Ideal S512x1024 .f32) (z : Vec Ideal S512x1024 .bf16) (v : Vec Ideal S512x512 .bf16) (w : Vec Ideal S512x1024 .bf16) (a : Vec Ideal S1x1024x512 .f32) (r : Fin 1024) (q : Fin 512) :
    k0_pay25 (F := Ideal) (k0_pay13 x) (k0_pay14 z) v w a (ix3 0 r q) = a (ix3 0 r q) + ∑ i : Fin 512, z (ix2 i r) * du (∑ r : Fin 1024, x (ix2 i r) * w (ix2 q r)) (v (ix2 i q)) := by
  simp only [← pay23]
  pointwise [k0_pay25, k0_pay14]

theorem pay26 (b : Vec Ideal S512x1024 .f32) (d : Vec Ideal S512x512 .bf16) (w : Vec Ideal S1x1024x512 .bf16) (p : Fin 512) (r : Fin 1024) :
    k0_pay26 (F := Ideal) b d w (ix2 p r) = b (ix2 p r) + ∑ q : Fin 512, d (ix2 p q) * w (ix3 0 r q) := by
  pointwise [k0_pay26]

theorem pay28 (x : Vec Ideal S512x1024 .f32) (v : Vec Ideal S512x512 .bf16) (w : Vec Ideal S512x1024 .bf16) (p q : Fin 512) :
    k0_pay28 (F := Ideal) (k0_pay13 x) v w (ix2 p q) = du (∑ r : Fin 1024, x (ix2 p r) * w (ix2 q r)) (v (ix2 p q)) := by
  unfold du
  rw [← pay27]
  pointwise [k0_pay28, k0_pay13]

theorem pay29 (x : Vec Ideal S512x1024 .f32) (v : Vec Ideal S512x512 .bf16) (a : Vec Ideal S512x1024 .f32) (p : Fin 512) (r : Fin 1024) :
    k0_pay29 (F := Ideal) (k0_pay13 x) v a (ix2 p r) = a (ix2 p r) + ∑ i : Fin 512, mx (v (ix2 i p)) * mx (v (ix2 i p)) * x (ix2 i r) := by
  simp only [← pay27]
  pointwise [k0_pay29, k0_pay13]

theorem pay30 (x : Vec Ideal S512x1024 .f32) (z : Vec Ideal S512x1024 .bf16) (v : Vec Ideal S512x512 .bf16) (w : Vec Ideal S512x1024 .bf16) (a : Vec Ideal S1x1024x512 .f32) (r : Fin 1024) (q : Fin 512) :
    k0_pay30 (F := Ideal) (k0_pay13 x) (k0_pay14 z) v w a (ix3 0 r q) = a (ix3 0 r q) + ∑ i : Fin 512, z (ix2 i r) * du (∑ r : Fin 1024, x (ix2 i r) * w (ix2 q r)) (v (ix2 i q)) := by
  simp only [← pay28]
  pointwise [k0_pay30, k0_pay14]

theorem pay31 (b : Vec Ideal S512x1024 .f32) (d : Vec Ideal S512x512 .bf16) (w : Vec Ideal S1x1024x512 .bf16) (p : Fin 512) (r : Fin 1024) :
    k0_pay31 (F := Ideal) b d w (ix2 p r) = b (ix2 p r) + ∑ q : Fin 512, d (ix2 p q) * w (ix3 0 r q) := by
  pointwise [k0_pay31]

theorem pay33 (x : Vec Ideal S512x1024 .f32) (v : Vec Ideal S512x512 .bf16) (w : Vec Ideal S512x1024 .bf16) (p q : Fin 512) :
    k0_pay33 (F := Ideal) (k0_pay13 x) v w (ix2 p q) = du (∑ r : Fin 1024, x (ix2 p r) * w (ix2 q r)) (v (ix2 p q)) := by
  unfold du
  rw [← pay32]
  pointwise [k0_pay33, k0_pay13]

theorem pay34 (x : Vec Ideal S512x1024 .f32) (v : Vec Ideal S512x512 .bf16) (a : Vec Ideal S512x1024 .f32) (p : Fin 512) (r : Fin 1024) :
    k0_pay34 (F := Ideal) (k0_pay13 x) v a (ix2 p r) = a (ix2 p r) + ∑ i : Fin 512, mx (v (ix2 i p)) * mx (v (ix2 i p)) * x (ix2 i r) := by
  simp only [← pay32]
  pointwise [k0_pay34, k0_pay13]

theorem pay35 (x : Vec Ideal S512x1024 .f32) (z : Vec Ideal S512x1024 .bf16) (v : Vec Ideal S512x512 .bf16) (w : Vec Ideal S512x1024 .bf16) (a : Vec Ideal S1x1024x512 .f32) (r : Fin 1024) (q : Fin 512) :
    k0_pay35 (F := Ideal) (k0_pay13 x) (k0_pay14 z) v w a (ix3 0 r q) = a (ix3 0 r q) + ∑ i : Fin 512, z (ix2 i r) * du (∑ r : Fin 1024, x (ix2 i r) * w (ix2 q r)) (v (ix2 i q)) := by
  simp only [← pay33]
  pointwise [k0_pay35, k0_pay14]

theorem pay36 (x : Vec Ideal S512x1024 .f32) (v : Vec Ideal S512x512 .bf16) (w : Vec Ideal S512x1024 .bf16) (u : Vec Ideal S1x1024x512 .bf16) (p : Fin 512) (r : Fin 1024) :
    k0_pay36 (F := Ideal) (k0_pay13 x) v w u (ix2 p r) = ∑ q : Fin 512, du (∑ r : Fin 1024, x (ix2 p r) * w (ix2 q r)) (v (ix2 p q)) * u (ix3 0 r q) := by
  simp only [← pay33]
  pointwise [k0_pay36]

theorem pay1 (a b : Vec Ideal S512x1024 .f32) (j : S512x1024.Idx) : k0_pay1 (F := Ideal) a b j = a j + b j := rfl

theorem pay11 (j : S4x1024x512.Idx) : k0_pay11 (F := Ideal) j = 0 := by
  idx_vars j
  pointwise [k0_pay11]

theorem pay12 (j : S2048x1024.Idx) : k0_pay12 (F := Ideal) j = 0 := by
  idx_vars j
  pointwise [k0_pay12]

theorem pay4 (a : Vec Ideal S1x1024x512 .f32) (r : Fin 1024) (q : Fin 512) : k0_pay4 (F := Ideal) a (ix2 r q) = a (ix3 0 r q) := by
  pointwise [k0_pay4]

theorem pay5 (a : Vec Ideal S512x1024 .f32) (j : S512x1024.Idx) : k0_pay5 (F := Ideal) a j = a j := by
  idx_vars j
  pointwise [k0_pay5]

end Cert.MlpAIdeal.Pay

end
-- ==== Proof.PlanesAt.lean ====
/- What four planes, four runs of rows and four stacked pieces hold, read at an index. -/
module

public import proofs.«01_k».proof.Proof.Planes

@[expose] public section

noncomputable section

namespace Cert.Planes

open Idealize.ShloMosaic Idealize.ShloMosaic.TcCoe Idealize.SL.Sem

variable {Val : EltTy → Type} {e : EltTy} {k n m : Nat}

/-- Column `512 * K + q`, of those of block `K`. -/
def col (K : Fin 4) (q : Fin 512) : Fin 2048 := ⟨512 * K.val + q.val, by omega⟩

theorem planes4_at (w0 w1 w2 w3 : (⟨3, ![1, k, n]⟩ : Shape).Idx → Val e) (f : Fin 4 → Fin k → Fin n → Val e) (h0 : ∀ r q, w0 (ix3 0 r q) = f 0 r q) (h1 : ∀ r q, w1 (ix3 0 r q) = f 1 r q)
    (h2 : ∀ r q, w2 (ix3 0 r q) = f 2 r q) (h3 : ∀ r q, w3 (ix3 0 r q) = f 3 r q) (K : Fin 4) (r : Fin k) (q : Fin n) : planes4 w0 w1 w2 w3 (ix3 K r q) = f K r q := by
  match K with
  | ⟨0, _⟩ => exact h0 r q
  | ⟨1, _⟩ => exact h1 r q
  | ⟨2, _⟩ => exact h2 r q
  | ⟨3, _⟩ => exact h3 r q

theorem stack4_at (w0 w1 w2 w3 : (⟨2, ![k, n]⟩ : Shape).Idx → Val e) (f : Fin 4 → Fin k → Fin n → Val e) (h0 : ∀ r q, w0 (ix2 r q) = f 0 r q) (h1 : ∀ r q, w1 (ix2 r q) = f 1 r q)
    (h2 : ∀ r q, w2 (ix2 r q) = f 2 r q) (h3 : ∀ r q, w3 (ix2 r q) = f 3 r q) (K : Fin 4) (r : Fin k) (q : Fin n) : stack4 w0 w1 w2 w3 (ix3 K r q) = f K r q := by
  match K with
  | ⟨0, _⟩ => exact h0 r q
  | ⟨1, _⟩ => exact h1 r q
  | ⟨2, _⟩ => exact h2 r q
  | ⟨3, _⟩ => exact h3 r q

theorem rows4_at (w0 w1 w2 w3 : (⟨2, ![512, n]⟩ : Shape).Idx → Val e) (h : 2048 = 4 * 512) (f : Fin 2048 → Fin n → Val e) (h0 : ∀ p r, w0 (ix2 p r) = f (col 0 p) r) (h1 : ∀ p r, w1 (ix2 p r) = f (col 1 p) r)
    (h2 : ∀ p r, w2 (ix2 p r) = f (col 2 p) r) (h3 : ∀ p r, w3 (ix2 p r) = f (col 3 p) r) (J : Fin 2048) (r : Fin n) : rows4 (k := 512) w0 w1 w2 w3 h (ix2 J r) = f J r := by
  obtain ⟨J, hJ⟩ := J
  unfold rows4
  by_cases c3 : 3 * 512 ≤ J
  · refine (dif_pos (show 3 * 512 ≤ J from c3)).trans ((h3 _ _).trans (congrArg (f · r) (Fin.ext ?_)))
    show 512 * 3 + (J - 3 * 512) = J
    omega
  · refine (dif_neg (show ¬3 * 512 ≤ J from c3)).trans ?_
    by_cases c2 : 2 * 512 ≤ J
    · refine (dif_pos (show 2 * 512 ≤ J from c2)).trans ((h2 _ _).trans (congrArg (f · r) (Fin.ext ?_)))
      show 512 * 2 + (J - 2 * 512) = J
      omega
    · refine (dif_neg (show ¬2 * 512 ≤ J from c2)).trans ?_
      by_cases c1 : 512 ≤ J
      · refine (dif_pos (show 512 ≤ J from c1)).trans ((h1 _ _).trans (congrArg (f · r) (Fin.ext ?_)))
        show 512 * 1 + (J - 512) = J
        omega
      · refine (dif_neg (show ¬512 ≤ J from c1)).trans ((h0 _ _).trans (congrArg (f · r) (Fin.ext ?_)))
        show 512 * 0 + J = J
        omega

theorem ld_cols (x : (⟨2, ![m, 2048]⟩ : Shape).Idx → Val e) (K : Fin 4) (o : Nat) (ho : o = 512 * K.val) (inb) (i : Fin m) (q : Fin 512) :
    View.ld x (Rect.unit (s := ⟨2, ![m, 2048]⟩) ![0, o] ![m, 512] inb) (ix2 i q) = x (ix2 i (col K q)) := by
  subst ho
  refine congrArg x ((emb_rect 0 _ inb (by omega) (by omega) _).trans ?_)
  refine congrArg₂ (fun a b => (ix2 a b : (⟨2, ![m, 2048]⟩ : Shape).Idx)) (Fin.ext (Nat.zero_add _)) rfl

theorem ld_rows (x : (⟨2, ![2048, n]⟩ : Shape).Idx → Val e) (K : Fin 4) (o : Nat) (ho : o = 512 * K.val) (inb) (q : Fin 512) (r : Fin n) :
    View.ld x (Rect.unit (s := ⟨2, ![2048, n]⟩) ![o, 0] ![512, n] inb) (ix2 q r) = x (ix2 (col K q) r) := by
  subst ho
  refine congrArg x ((emb_rect _ 0 inb (by omega) (by omega) _).trans ?_)
  refine congrArg₂ (fun a b => (ix2 a b : (⟨2, ![2048, n]⟩ : Shape).Idx)) rfl (Fin.ext (Nat.zero_add _))

theorem ld_plane (x : (⟨3, ![4, k, n]⟩ : Shape).Idx → Val e) (K : Fin 4) (o : Nat) (ho : o = K.val) (inb) (r : Fin k) (q : Fin n) :
    View.ld x (Rect.unit (s := ⟨3, ![4, k, n]⟩) ![o, 0, 0] ![1, k, n] inb) (ix3 0 r q) = x (ix3 K r q) := by
  subst ho
  exact congrArg x (emb_plane _ inb (by omega) _)

/-- A sum over all columns, block by block. -/
theorem sum4 {α : Type} [AddCommMonoid α] (f : Fin 2048 → α) : ∑ J, f J = (∑ q, f (col 0 q)) + (∑ q, f (col 1 q)) + (∑ q, f (col 2 q)) + ∑ q, f (col 3 q) := by
  rw [Fin.sum_univ_tiles 4 512 rfl, Fin.sum_univ_four]
  have hc : ∀ (K : Fin 4) (q : Fin 512) (h : K.val * 512 + q.val < 2048), (⟨K.val * 512 + q.val, h⟩ : Fin 2048) = col K q := fun K q h => Fin.ext (congrArg (· + q.val) (Nat.mul_comm _ _))
  simp only [hc]

end Cert.Planes

end
-- ==== Proof.MlpASum.lean ====
/- What one point of the first MLP backward call makes of its blocks, index by index. -/
module

public import proofs.«01_k».proof.Proof.MlpAPay
public import proofs.«01_k».proof.Proof.PlanesAt

@[expose] public section

set_option maxRecDepth 16384

noncomputable section

namespace Cert.MlpAIdeal.Sum

open Cert.MlpAIdeal Cert.MlpAIdeal.Gen Cert.MlpAIdeal.Body Cert.MlpAIdeal.Pay Idealize.ShloMosaic Idealize.ShloMosaic.TcCoe Idealize.SL.Sem
open Cert.Planes (col ld_cols ld_rows ld_plane planes4_at rows4_at stack4_at)

variable (x0 : Vec Ideal S512x1024 .f32) (x1 : Vec Ideal S512x1024 .bf16) (x2 : Vec Ideal S512x2048 .bf16) (x3 : Vec Ideal S4x1024x512 .bf16) (x4 : Vec Ideal S2048x1024 .bf16)

/-- The cotangent of the up-projection at a row of the block and a column. -/
def gu (i : Fin 512) (J : Fin 2048) : EReal := du (∑ r : Fin 1024, x0 (ix2 i r) * x4 (ix2 J r)) (x2 (ix2 i J))

theorem upd9_at (acc : Vec Ideal S4x1024x512 .f32) (K : Fin 4) (r : Fin 1024) (q : Fin 512) :
    upd9 x0 x1 x2 x4 acc (ix3 K r q) = acc (ix3 K r q) + ∑ i : Fin 512, x1 (ix2 i r) * gu x0 x2 x4 i (col K q) := by
  unfold upd9 gu
  refine planes4_at (Val := Elt Ideal) (e := .f32) _ _ _ _ (fun K r q => acc (ix3 K r q) + ∑ i : Fin 512, x1 (ix2 i r) * du (∑ r : Fin 1024, x0 (ix2 i r) * x4 (ix2 (col K q) r)) (x2 (ix2 i (col K q)))) ?_ ?_ ?_ ?_ K r q
  · intro r q
    rw [pay20]
    refine congrArg₂ (· + ·) (ld_plane (Val := Elt Ideal) (e := .f32) acc 0 0 rfl _ r q) (Finset.sum_congr rfl fun i _ => congrArg _ (congrArg₂ du (Finset.sum_congr rfl fun r _ => congrArg _ ?_) ?_))
    · exact ld_rows (Val := Elt Ideal) (e := .bf16) x4 0 0 rfl _ q r
    · exact ld_cols (Val := Elt Ideal) (e := .bf16) x2 0 0 rfl _ i q
  · intro r q
    rw [pay25]
    refine congrArg₂ (· + ·) (ld_plane (Val := Elt Ideal) (e := .f32) acc 1 1 rfl _ r q) (Finset.sum_congr rfl fun i _ => congrArg _ (congrArg₂ du (Finset.sum_congr rfl fun r _ => congrArg _ ?_) ?_))
    · exact ld_rows (Val := Elt Ideal) (e := .bf16) x4 1 512 rfl _ q r
    · exact ld_cols (Val := Elt Ideal) (e := .bf16) x2 1 512 rfl _ i q
  · intro r q
    rw [pay30]
    refine congrArg₂ (· + ·) (ld_plane (Val := Elt Ideal) (e := .f32) acc 2 2 rfl _ r q) (Finset.sum_congr rfl fun i _ => congrArg _ (congrArg₂ du (Finset.sum_congr rfl fun r _ => congrArg _ ?_) ?_))
    · exact ld_rows (Val := Elt Ideal) (e := .bf16) x4 2 1024 rfl _ q r
    · exact ld_cols (Val := Elt Ideal) (e := .bf16) x2 2 1024 rfl _ i q
  · intro r q
    rw [pay35]
    refine congrArg₂ (· + ·) (ld_plane (Val := Elt Ideal) (e := .f32) acc 3 3 rfl _ r q) (Finset.sum_congr rfl fun i _ => congrArg _ (congrArg₂ du (Finset.sum_congr rfl fun r _ => congrArg _ ?_) ?_))
    · exact ld_rows (Val := Elt Ideal) (e := .bf16) x4 3 1536 rfl _ q r
    · exact ld_cols (Val := Elt Ideal) (e := .bf16) x2 3 1536 rfl _ i q

theorem upd10_at (acc : Vec Ideal S2048x1024 .f32) (J : Fin 2048) (r : Fin 1024) :
    upd10 x0 x2 acc (ix2 J r) = acc (ix2 J r) + ∑ i : Fin 512, mx (x2 (ix2 i J)) * mx (x2 (ix2 i J)) * x0 (ix2 i r) := by
  unfold upd10
  refine rows4_at (Val := Elt Ideal) (e := .f32) _ _ _ _ _ (fun J r => acc (ix2 J r) + ∑ i : Fin 512, mx (x2 (ix2 i J)) * mx (x2 (ix2 i J)) * x0 (ix2 i r)) ?_ ?_ ?_ ?_ J r
  · intro p r
    rw [pay18]
    refine congrArg₂ (· + ·) (ld_rows (Val := Elt Ideal) (e := .f32) acc 0 0 rfl _ p r) (Finset.sum_congr rfl fun i _ => ?_)
    exact congrArg (fun u => mx u * mx u * x0 (ix2 i r)) (ld_cols (Val := Elt Ideal) (e := .bf16) x2 0 0 rfl _ i p)
  · intro p r
    rw [pay24]
    refine congrArg₂ (· + ·) (ld_rows (Val := Elt Ideal) (e := .f32) acc 1 512 rfl _ p r) (Finset.sum_congr rfl fun i _ => ?_)
    exact congrArg (fun u => mx u * mx u * x0 (ix2 i r)) (ld_cols (Val := Elt Ideal) (e := .bf16) x2 1 512 rfl _ i p)
  · intro p r
    rw [pay29]
    refine congrArg₂ (· + ·) (ld_rows (Val := Elt Ideal) (e := .f32) acc 2 1024 rfl _ p r) (Finset.sum_congr rfl fun i _ => ?_)
    exact congrArg (fun u => mx u * mx u * x0 (ix2 i r)) (ld_cols (Val := Elt Ideal) (e := .bf16) x2 2 1024 rfl _ i p)
  · intro p r
    rw [pay34]
    refine congrArg₂ (· + ·) (ld_rows (Val := Elt Ideal) (e := .f32) acc 3 1536 rfl _ p r) (Finset.sum_congr rfl fun i _ => ?_)
    exact congrArg (fun u => mx u * mx u * x0 (ix2 i r)) (ld_cols (Val := Elt Ideal) (e := .bf16) x2 3 1536 rfl _ i p)

theorem dz_at (p : Fin 512) (r : Fin 1024) : dz x0 x2 x3 x4 (ix2 p r) =
    (∑ q : Fin 512, gu x0 x2 x4 p (col 0 q) * x3 (ix3 0 r q)) + (∑ q : Fin 512, gu x0 x2 x4 p (col 1 q) * x3 (ix3 1 r q)) + (∑ q : Fin 512, gu x0 x2 x4 p (col 2 q) * x3 (ix3 2 r q)) + ∑ q : Fin 512, gu x0 x2 x4 p (col 3 q) * x3 (ix3 3 r q) := by
  unfold dz gu
  rw [pay1, pay31, pay26, pay21, pay15, zero_add, pay36]
  refine congrArg₂ (· + ·) (congrArg₂ (· + ·) (congrArg₂ (· + ·) ?_ ?_) ?_) ?_
  · refine Finset.sum_congr rfl fun q _ => congrArg₂ (· * ·) ?_ (ld_plane (Val := Elt Ideal) (e := .bf16) x3 0 0 rfl _ r q)
    rw [pay17]
    refine congrArg₂ du (Finset.sum_congr rfl fun r _ => congrArg _ ?_) ?_
    · exact ld_rows (Val := Elt Ideal) (e := .bf16) x4 0 0 rfl _ q r
    · exact ld_cols (Val := Elt Ideal) (e := .bf16) x2 0 0 rfl _ p q
  · refine Finset.sum_congr rfl fun q _ => congrArg₂ (· * ·) ?_ (ld_plane (Val := Elt Ideal) (e := .bf16) x3 1 1 rfl _ r q)
    rw [pay23]
    refine congrArg₂ du (Finset.sum_congr rfl fun r _ => congrArg _ ?_) ?_
    · exact ld_rows (Val := Elt Ideal) (e := .bf16) x4 1 512 rfl _ q r
    · exact ld_cols (Val := Elt Ideal) (e := .bf16) x2 1 512 rfl _ p q
  · refine Finset.sum_congr rfl fun q _ => congrArg₂ (· * ·) ?_ (ld_plane (Val := Elt Ideal) (e := .bf16) x3 2 2 rfl _ r q)
    rw [pay28]
    refine congrArg₂ du (Finset.sum_congr rfl fun r _ => congrArg _ ?_) ?_
    · exact ld_rows (Val := Elt Ideal) (e := .bf16) x4 2 1024 rfl _ q r
    · exact ld_cols (Val := Elt Ideal) (e := .bf16) x2 2 1024 rfl _ p q
  · refine Finset.sum_congr rfl fun q _ => congrArg₂ (· * ·) ?_ (ld_plane (Val := Elt Ideal) (e := .bf16) x3 3 3 rfl _ r q)
    refine congrArg₂ du (Finset.sum_congr rfl fun r _ => congrArg _ ?_) ?_
    · exact ld_rows (Val := Elt Ideal) (e := .bf16) x4 3 1536 rfl _ q r
    · exact ld_cols (Val := Elt Ideal) (e := .bf16) x2 3 1536 rfl _ p q

theorem out7_at (acc : Vec Ideal S4x1024x512 .f32) (K : Fin 4) (r : Fin 1024) (q : Fin 512) : out7 acc (ix3 K r q) = acc (ix3 K r q) := by
  unfold out7
  refine stack4_at (Val := Elt Ideal) (e := .bf16) _ _ _ _ (fun K r q => acc (ix3 K r q)) ?_ ?_ ?_ ?_ K r q
  · exact fun r q => (pay4 _ r q).trans (ld_plane (Val := Elt Ideal) (e := .f32) acc 0 0 rfl _ r q)
  · exact fun r q => (pay4 _ r q).trans (ld_plane (Val := Elt Ideal) (e := .f32) acc 1 1 rfl _ r q)
  · exact fun r q => (pay4 _ r q).trans (ld_plane (Val := Elt Ideal) (e := .f32) acc 2 2 rfl _ r q)
  · exact fun r q => (pay4 _ r q).trans (ld_plane (Val := Elt Ideal) (e := .f32) acc 3 3 rfl _ r q)

theorem out8_at (acc : Vec Ideal S2048x1024 .f32) (K : Fin 4) (q : Fin 512) (r : Fin 1024) : out8 acc (ix3 K q r) = acc (ix2 (col K q) r) := by
  unfold out8
  refine stack4_at (Val := Elt Ideal) (e := .bf16) _ _ _ _ (fun K q r => acc (ix2 (col K q) r)) ?_ ?_ ?_ ?_ K q r
  · exact fun q r => (pay5 _ _).trans (ld_rows (Val := Elt Ideal) (e := .f32) acc 0 0 rfl _ q r)
  · exact fun q r => (pay5 _ _).trans (ld_rows (Val := Elt Ideal) (e := .f32) acc 1 512 rfl _ q r)
  · exact fun q r => (pay5 _ _).trans (ld_rows (Val := Elt Ideal) (e := .f32) acc 2 1024 rfl _ q r)
  · exact fun q r => (pay5 _ _).trans (ld_rows (Val := Elt Ideal) (e := .f32) acc 3 1536 rfl _ q r)

end Cert.MlpAIdeal.Sum

end
-- ==== Proof.MlpABlocks.lean ====
/- The blocks the points of the first MLP backward call read, from the arrays. -/
module

public import proofs.«01_k».proof.Proof.MlpABody
public import proofs.«01_k».proof.Proof.PlanesAt
public import Idealize.ShloMosaic.Lib.Pipeline.ValueKit.Point

@[expose] public section

set_option maxRecDepth 16384

noncomputable section

namespace Cert.MlpAIdeal.Blocks

open Cert.MlpAIdeal Cert.MlpAIdeal.Gen Idealize.ShloMosaic Idealize.ShloMosaic.TcCoe Idealize.SL.Sem

variable (m : (ℓ : Loc nD τ sig) → Buf (Elt Ideal) ℓ) (c : Dev nD) (t : Fin cfg0.N)

/-- Row `p` of block `t` among the 8192 rows. -/
def row (t : ℕ) (ht : t < 16) (p : Fin 512) : Fin 8192 := ⟨t * 512 + p.val, by omega⟩

/-- Column `J` of the first half of the columns. -/
def low (J : Fin 2048) : Fin 4096 := ⟨J.val, by omega⟩

/-- A row's mean of squares, with the small constant. -/
def msE (h : Vec Ideal S8192x1024 .f32) (i : Fin 8192) : EReal := Ideal.div (∑ x : Fin 1024, h (ix2 i x) * h (ix2 i x)) (Ideal.ofBits .f32 0x44800000#32) + Ideal.ofBits .f32 0x358637BD#32

/-- The normed rows. -/
def zE (h : Vec Ideal S8192x1024 .f32) (g : Vec Ideal S1x1024 .f32) (i : Fin 8192) (r : Fin 1024) : EReal := h (ix2 i r) * Ideal.rsqrt (msE h i) * g (ix2 0 r)

/-- The normed rows as the array the host makes. -/
def zH (h : FVec Ideal S8192x1024 .f32) (g : FVec Ideal S1x1024 .f32) : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast S1024 g shapeCasts_S1x1024_S1024)))

theorem zH_apply (h : FVec Ideal S8192x1024 .f32) (g : FVec Ideal S1x1024 .f32) (i : Fin 8192) (r : Fin 1024) : zH h g (ix2 i r) = zE h g i r := by
  unfold zE msE
  pointwise [zH]

/-- The rows up-projected, as the array the host makes. -/
def upH (h : FVec Ideal S8192x1024 .f32) (g : FVec Ideal S1x1024 .f32) (w : FVec Ideal S1x1024x4096 .f32) : FVec Ideal S8192x4096 .bf16 :=
  truncf .bf16 (Host.dotGeneral dot_S8192x1024_S1024x4096_S8192x4096_1_0_0_1_n_n none (zH h g) (shapeCast S1024x4096 w shapeCasts_S1x1024x4096_S1024x4096)) bitsLt_bf16_f32

theorem upH_apply (h : FVec Ideal S8192x1024 .f32) (g : FVec Ideal S1x1024 .f32) (w : FVec Ideal S1x1024x4096 .f32) (i : Fin 8192) (J : Fin 4096) :
    upH h g w (ix2 i J) = ∑ r : Fin 1024, zE h g i r * w (ix3 0 r J) := by
  simp only [← zH_apply]
  unfold upH
  generalize zH h g = z
  pointwise

theorem lt16 : t.val < 16 := N_0 ▸ t.isLt

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 := by decide +kernel

theorem blk0 (p : Fin 512) (q : Fin 1024) :
    (iblk m c 0 t : Vec Ideal S512x1024 .f32) (ix2 p q) = (m ((c : Thread nD τ).loc main_arg4) : Vec Ideal S8192x1024 .f32) (ix2 (row t.val (lt16 t) p) q) := by
  have h := idx0 t
  blk_ext [iblk, V, h.1, h.2, row]

theorem blk1 (p : Fin 512) (q : Fin 1024) :
    (iblk m c 1 t : Vec Ideal S512x1024 .bf16) (ix2 p q) = zE (m ((c : Thread nD τ).loc main_arg0)) (m ((c : Thread nD τ).loc main_arg1)) (row t.val (lt16 t) p) q := by
  have h := idx1 t
  rw [← zH_apply]
  unfold iblk
  rw [View.read_apply]
  show V m c main_v16 _ = _
  entry_read
  refine (congrArg _ (show _ = (ix2 (row t.val (lt16 t) p) q : S8192x1024.Idx) from by blk_ext [h.1, h.2, row])).trans ?_
  rfl

theorem blk2 (p : Fin 512) (J : Fin 2048) :
    (iblk m c 2 t : Vec Ideal S512x2048 .bf16) (ix2 p J) = ∑ r : Fin 1024, zE (m ((c : Thread nD τ).loc main_arg0)) (m ((c : Thread nD τ).loc main_arg1)) (row t.val (lt16 t) p) r * (m ((c : Thread nD τ).loc main_arg2) : Vec Ideal S1x1024x4096 .f32) (ix3 0 r (low J)) := by
  have h := idx2 t
  rw [← upH_apply]
  unfold iblk
  rw [View.read_apply]
  show V m c main_v17 _ = _
  entry_read
  refine (congrArg _ (show _ = (ix2 (row t.val (lt16 t) p) (low J) : S8192x4096.Idx) from by blk_ext [h.1, h.2, row, low])).trans ?_
  rfl

theorem blk3 (K : Fin 4) (r : Fin 1024) (q : Fin 512) :
    (iblk m c 3 t : Vec Ideal S4x1024x512 .bf16) (ix3 K r q) = (m ((c : Thread nD τ).loc main_arg2) : Vec Ideal S1x1024x4096 .f32) (ix3 0 r (low (Planes.col K q))) := by
  have h := idx3 t
  unfold iblk
  rw [View.read_apply]
  show V m c main_v21 _ = _
  entry_read
  refine (congrArg _ (show _ = (ix3 (⟨K.val, by omega⟩ : Fin 8) r q : S8x1024x512.Idx) from by blk_ext [h.1, h.2.1, h.2.2])).trans ?_
  pointwise [low, Planes.col]
  exact congrArg (m ((c : Thread nD τ).loc main_arg2)) (congrArg (ix3 0 r) (Fin.ext (congrArg (· + q.val) (Nat.mul_comm _ _))))

theorem blk4 (J : Fin 2048) (q : Fin 1024) :
    (iblk m c 4 t : Vec Ideal S2048x1024 .bf16) (ix2 J q) = (m ((c : Thread nD τ).loc main_arg3) : Vec Ideal S1x4096x1024 .f32) (ix3 0 (low J) q) := by
  have h := idx4 t
  unfold iblk
  rw [View.read_apply]
  show V m c main_v23 _ = _
  entry_read
  refine (congrArg _ (show _ = (ix2 (low J) q : S4096x1024.Idx) from by blk_ext [h.1, h.2, low])).trans ?_
  pointwise

end Cert.MlpAIdeal.Blocks

end
-- ==== Proof.MlpAPoints.lean ====
/- The generated contents of the first MLP backward call's buffers after a point, as the printed payloads. -/
module

public import proofs.«01_k».proof.Proof.MlpABody

@[expose] public section

set_option maxRecDepth 16384

noncomputable section

namespace Cert.MlpAIdeal.Points

open Cert.MlpAIdeal Cert.MlpAIdeal.Gen Cert.MlpAIdeal.Body Idealize.ShloMosaic Idealize.ShloMosaic.TcCoe Idealize.SL.Sem

variable {F : FTy → Type} [FloatOps F]
variable (m : (ℓ : Loc nD τ sig) → Buf (Elt F) ℓ) (c : Dev nD) (t : Fin cfg0.N)

/-- Each point's block of the cotangent of the normed rows. -/
theorem out_dz : (outsAt0 m c t.val t.isLt).1 = dz (iblk m c 0 t) (iblk m c 2 t) (iblk m c 3 t) (iblk m c 4 t) := by
  by_cases h0 : t.val % 16 = 0
  · have h1 : ¬t.val % 16 = 15 := by omega
    rw [outsAt0_A m c t h0 h1]
    dsimp only
    rw [dz_A]
  · by_cases h1 : t.val % 16 = 15
    · rw [outsAt0_C m c t h0 h1]
      dsimp only
      rw [dz_C]
    · rw [outsAt0_B m c t h0 h1]
      dsimp only
      rw [dz_B]

theorem up_first (h0 : t.val % 16 = 0) : (outsAt0 m c t.val t.isLt).2.1 = upd9 (iblk m c 0 t) (iblk m c 1 t) (iblk m c 2 t) (iblk m c 4 t) k0_pay11 := by
  rw [outsAt0_A m c t h0 (by omega)]
  dsimp only
  rw [acc9_A]

theorem up_next (h0 : ¬t.val % 16 = 0) (h1 : ¬t.val % 16 = 15) : (outsAt0 m c t.val t.isLt).2.1 =
    upd9 (iblk m c 0 t) (iblk m c 1 t) (iblk m c 2 t) (iblk m c 4 t) (outsAt0 m c (t.val - 1) (Nat.lt_of_le_of_lt (Nat.sub_le _ _) t.isLt)).2.1 := by
  rw [outsAt0_B m c t h0 h1]
  dsimp only
  rw [acc9_B]

theorem dn_first (h0 : t.val % 16 = 0) : (outsAt0 m c t.val t.isLt).2.2 = upd10 (iblk m c 0 t) (iblk m c 2 t) k0_pay12 := by
  rw [outsAt0_A m c t h0 (by omega)]
  dsimp only
  rw [acc10_A]

theorem dn_next (h0 : ¬t.val % 16 = 0) (h1 : ¬t.val % 16 = 15) : (outsAt0 m c t.val t.isLt).2.2 =
    upd10 (iblk m c 0 t) (iblk m c 2 t) (outsAt0 m c (t.val - 1) (Nat.lt_of_le_of_lt (Nat.sub_le _ _) t.isLt)).2.2 := by
  rw [outsAt0_B m c t h0 h1]
  dsimp only
  rw [acc10_B]

end Cert.MlpAIdeal.Points

end
-- ==== Proof.MlpAOut.lean ====
/- The run of the first MLP backward call with the two results it leaves in HBM named: the invariant after the last grid point holds
  them at the contents copied out of the accumulators. -/
module

public import proofs.«01_k».proof.Proof.MlpABody
public import Idealize.ShloMosaic.Lib.Pipeline.FrameValue

@[expose] public section

set_option maxRecDepth 16384

noncomputable section

namespace Cert.MlpAIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpAIdeal Cert.MlpAIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first result at point `t`'s end, were it the last. -/
def res0 (c : Dev nD) (t : Fin cfg0.N) : Vec F S4x1024x512 .bf16 := Body.out7 (Body.upd9 (iblk m c 0 t) (iblk m c 1 t) (iblk m c 2 t) (iblk m c 4 t) (outsAt0 m c (t.val - 1) (Nat.lt_of_le_of_lt (Nat.sub_le _ _) t.isLt)).2.1)

/-- The second result. -/
def res1 (c : Dev nD) (t : Fin cfg0.N) : Vec F S4x512x1024 .bf16 := Body.out8 (Body.upd10 (iblk m c 0 t) (iblk m c 2 t) (outsAt0 m c (t.val - 1) (Nat.lt_of_le_of_lt (Nat.sub_le _ _) t.isLt)).2.2)

/-- The last point. -/
def tl : Fin cfg0.N := ⟨15, by rw [show cfg0.N = 16 from N_0]; omega⟩

/-- What is held after the last point: the scratch at anything, the two results at their contents. -/
def PhiEnd (c : Dev nD) (t : Fin cfg0.N) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(emp)
    ∗ iprop(hbPt0 c hbM0_0 ((Memref.isWhole_whole main_v24_1).unread (res0 m c t)) ∗ hbPt0 c hbM0_1 ((Memref.isWhole_whole main_v24_2).unread (res1 m c t))))

/-- The invariant before position `n`: the carried one, and at the end the results named. -/
def PhiV (c : Dev nD) (n : ℕ) (h : n ≤ cfg0.N) : sProp 𝕄 := if n = 16 then PhiEnd m c tl else PhiS m c n h

theorem PhiV_ne (c : Dev nD) (n : ℕ) (h : n ≤ cfg0.N) (hn : n ≠ 16) : PhiV m c n h = PhiS m c n h := if_neg hn

theorem PhiV_end (c : Dev nD) (n : ℕ) (h : n ≤ cfg0.N) (hn : n = 16) : PhiV m c n h = PhiEnd m c tl := if_pos hn

/-- The proof data with that invariant. -/
def datsV (p : Fin 1) (c : Dev nD) : Dat τ (Elt F) Unit ℕ (Pipeline.UD sig nD τ) ℕ cfg0 c :=
  { dats m p c with Φ := fun t => PhiV m c t.val (Nat.le_of_lt_succ t.isLt) }

/-- What the body is called with at point `t`, -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d)))

/-- and what it returns. -/
def postV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t))

/-- What the last point returns. -/
def postL (c : Dev nD) (t : Fin cfg0.N) : sProp 𝕄 :=
  iprop(PhiEnd m c t ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The last point: the run's triple with the results it copies out named. -/
theorem sound_last (c : Dev nD) (t : Fin cfg0.N) (h0 : ¬t.val % 16 = 0) (h1 : t.val % 16 = 15) :
    bodyPre m c t ⊢ wp frame (wpE (defs₀ (F := F)) Variants.none c none) Set.univ (bodyAt0 t) (fun _ => postL m c t) := by
  unfold bodyPre postL bodyAt0 PhiEnd res0 res1
  simp only [before0_0, before0_1, before0_2, before0_3, before0_4]
  rw [after0_0, after0_1, after0_2, after0_3, after0_4, after0_5]
  unfold Dat.owesAt Pipeline.owesWithin
  rw [show (dats m 0 c).owed t.castSucc = 0 from rfl, show (dats m 0 c).owed t.succ = 0 from rfl]
  have hz : t.val ≠ 0 := by intro h; rw [h] at h1; exact absurd h1 (by decide)
  rw [PhiS_castSucc m c t, PhiS_pos m c _ _ hz]
  rw [outsAt0_C m c t h0 h1]
  dsimp only
  unfold out0_C_5; (try dsimp only)
  iintro ⟨⟨⟨HS0, HS1, HS2, HS3⟩, Hg, ⟨Hq0, Hq1, Hq2, Hq3, Hq4, Hq5, Hq6, Hq7⟩, -, ⟨Hh0, Hh1⟩⟩, ⟨%W, -, HW⟩, ⟨%d0, H0⟩, ⟨%d1, H1⟩, ⟨%d2, H2⟩, ⟨%d3, H3⟩, ⟨%d4, H4⟩, ⟨%d5, H5⟩⟩
  iapply ((runLast c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [HW]; · iexact HW
  iintro ⟨H0, H1, H2, H3, H4, ⟨%e5, H5⟩, ⟨%es0, HS0⟩, ⟨%es1, HS1⟩, HS2, HS3, Hq0, Hq1, Hq2, Hq3, Hq4, Hq5, Hq6, Hq7, ⟨%f0, %g0, %k0, Hh0⟩, ⟨%f1, %g1, %k1, Hh1⟩, ⟨%W', HW'⟩⟩
  isplitl [HS0 HS1 HS2 HS3 Hg Hq0 Hq1 Hq2 Hq3 Hq4 Hq5 Hq6 Hq7 Hh0 Hh1]
  · isplitl [HS0 HS1 HS2 HS3]
    · isplitl [HS0]
      · unfold owns; iexists _, _; isplitr
        swap; · iexact HS0
        ipureintro; rfl
      isplitl [HS1]
      · unfold owns; iexists _, _; isplitr
        swap; · iexact HS1
        ipureintro; rfl
      isplitl [HS2]; · iexact HS2
      iexact HS3
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr; · iempintro
    isplitl [Hh0]
    · rw [← (Memref.isWhole_whole main_v24_1).eq_unread (Body.copied7 c (grid0.coords t) _ _ _ _ _ _ _ _ _ _ _ _ _ _ _ _ _ _ _ _ (iblk m c 0 t) (iblk m c 1 t) (iblk m c 2 t) (iblk m c 3 t) (iblk m c 4 t) _ _ (fun h => h0 ((hcond0_0 t).mp h)) ((hcond0_1 t).mpr h1) f0 g0 k0)]; iexact Hh0
    · rw [← (Memref.isWhole_whole main_v24_2).eq_unread (Body.copied8 c (grid0.coords t) _ _ _ _ _ _ _ _ _ _ _ _ _ _ _ _ _ _ _ _ (iblk m c 0 t) (iblk m c 1 t) (iblk m c 2 t) (iblk m c 3 t) (iblk m c 4 t) _ _ (fun h => h0 ((hcond0_0 t).mp h)) ((hcond0_1 t).mpr h1) f1 g1 k1)]; iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; rw [Body.same5]; exact View.read_writes_of_cover _ _ _ _ _ (cover0_C_5 c _ _ _ _ _ _ _ _ _ _ _ _ _ _ _ _ _ _ _ _ _ _ _ _ _ _ _ _ _ _)

/-- Before any point the invariant is the carried one. -/
theorem PhiV_castSucc (c : Dev nD) (t : Fin cfg0.N) : (datsV m 0 c).Φ t.castSucc = (dats m 0 c).Φ t.castSucc := by
  have hN : t.val < 16 := lt_of_lt_of_eq t.isLt (show cfg0.N = 16 from N_0)
  exact if_neg (show ¬ t.val = 16 by omega)

theorem pre_eq (c : Dev nD) (t : Fin cfg0.N) : preV m c t = bodyPre m c t := by
  unfold preV bodyPre
  rw [PhiV_castSucc]
  rfl

/-- The body at any point. -/
theorem sound_V (c : Dev nD) (t : Fin cfg0.N) :
    preV m c t ⊢ wp frame (wpE (defs₀ (F := F)) Variants.none c none) Set.univ (bodyAt0 t) (fun _ => postV m c t) := by
  rw [pre_eq]
  have hN : t.val < 16 := lt_of_lt_of_eq t.isLt (show cfg0.N = 16 from N_0)
  by_cases h : t.val = 15
  · have e : postV m c t = postL m c t := by
      have et : t = tl := Fin.ext h
      unfold postV postL
      rw [show (datsV m 0 c).Φ t.succ = PhiEnd m c t from (if_pos (show t.val + 1 = 16 by omega)).trans (by rw [et])]
      rfl
    rw [e]
    exact sound_last m c t (by omega) (by omega)
  · have e : postV m c t = bodyPost m c t := by
      unfold postV bodyPost
      rw [show (datsV m 0 c).Φ t.succ = (dats m 0 c).Φ t.succ from if_neg (show ¬ t.val + 1 = 16 by omega)]
      rfl
    rw [e]
    exact sound_body m c t

theorem obligation (c : Dev nD) : BodyObligation (datsV (F := F) m 0 c) (defs₀ (F := F)) Variants.none () Set.univ := fun t => by
  rw [bigSep_W0, bigSep_W0, defs₀_row]
  exact triple_restated (sound_V m c t) rfl .rfl fun _ => .rfl

/-- The buffers at the end: the two results at their contents. -/
def G (c : Dev nD) : (b : Ref sig .tc) → Buf (Elt F) ((c.tc : Thread nD τ).loc b) :=
  Function.update (Function.update (V m c) main_v24_1 ((Memref.isWhole_whole main_v24_1).unread (res0 m c tl))) main_v24_2 ((Memref.isWhole_whole main_v24_2).unread (res1 m c tl))

theorem inV (c : Dev nD) : Pipeline.ΦDRG osem0 spec0 H0 R0 (V m) (V m) c ⊢ (datsV m 0 c).Φ 0 :=
  (Pipeline.ΦDRG_ΦDR osem0 spec0 H0 R0 (V m) (V m) c).trans (by
    rw [show (datsV m 0 c).Φ 0 = (dats m 0 c).Φ 0 from PhiV_ne m c 0 (Nat.zero_le _) (by decide)]
    exact hin m c)

theorem routed_list (c : Dev nD) : (Pipeline.routed R0 c (G m c) : sProp 𝕄)
    = iprop(hbPt0 c hbM0_0 ((Memref.isWhole_whole main_v24_1).unread (res0 m c tl)) ∗ hbPt0 c hbM0_1 ((Memref.isWhole_whole main_v24_2).unread (res1 m c tl))) := by
  unfold Pipeline.routed G
  rw [BI.bigSep_eq_bigSepL_of_eq [main_v24_1, main_v24_2] (by decide) (by decide)]
  simp only [BI.bigSepL_cons_cons, BI.bigSepL_singleton, Function.update_self, Function.update_of_ne (show main_v24_1 ≠ main_v24_2 by decide)]
  rfl

theorem outV (c : Dev nD) : (datsV m 0 c).Φ (Fin.last cfg0.N) ⊢ Pipeline.ΦDRG osem0 spec0 H0 R0 (V m) (G m) c := by
  rw [show (datsV m 0 c).Φ (Fin.last cfg0.N) = PhiEnd m c tl from PhiV_end m c cfg0.N le_rfl N_0]
  rw [Pipeline.ΦDRG_eq, scopedRest0_eq, ownSems00_eq, hbmPts0_eq, routed_list]
  unfold PhiEnd
  simp only [scM0_0, scM0_1, scM0_2, scM0_3, owns_whole]
  try exact Idealize.SL.BI.Entails.refl _

set_option backward.isDefEq.respectTransparency.types false in
/-- The run, with the two results left in HBM at their contents. -/
theorem run : θ_run defs (onTc (τ := τ) (main (F := F))) (s₀ m ρ) (Pipeline.FramePostRG cfgs (datsV m) 0 R0 (V m) (G m)) :=
  Pipeline.θ_run_frame_dmaRG (Q' := _) cfgs (datsV m) (0 : Fin 1) launch0 osem0 defs₀ Variants.none ownSemFacts0 H0 R0 H0_sub R0_sub m ρ main
    (hbody := fun c => (obligation m c).loose) (hshare := fun c => (datsV m 0 c).share_full fun _ => rfl)
    (howed := fun _ _ => rfl) (V := V m) (hmain := hmain m Variants.none) (hA := A_eq m) (G := G m)
    (hin := inV m) (hout := outV m)

/-- What the run leaves of the windows is what the carried invariant's run leaves of them. -/
theorem post_R {r : PUnit × MemSt nD τ sig (Elt F)} (h : Pipeline.FramePostRG cfgs (datsV m) 0 R0 (V m) (G m) r) : Pipeline.FramePostR cfgs (dats m) 0 R0 (V m) r := h.toR

/-- The first result left in HBM. -/
theorem post_0 {r : PUnit × MemSt nD τ sig (Elt F)} (h : Pipeline.FramePostRG cfgs (datsV m) 0 R0 (V m) (G m) r) (c : Dev nD) :
    r.2.mem ((c.tc : Thread nD τ).loc main_v24_1) = (Memref.isWhole_whole main_v24_1).unread (res0 m c tl) :=
  (h.written c (b := main_v24_1) (by decide)).trans (by
    unfold G; rw [Function.update_of_ne (show main_v24_1 ≠ main_v24_2 by decide), Function.update_self])

/-- The second. -/
theorem post_1 {r : PUnit × MemSt nD τ sig (Elt F)} (h : Pipeline.FramePostRG cfgs (datsV m) 0 R0 (V m) (G m) r) (c : Dev nD) :
    r.2.mem ((c.tc : Thread nD τ).loc main_v24_2) = (Memref.isWhole_whole main_v24_2).unread (res1 m c tl) :=
  (h.written c (b := main_v24_2) (by decide)).trans (by unfold G; rw [Function.update_self])

end Cert.MlpAIdeal.Out

end
-- ==== Proof.MlpAFold.lean ====
/- The accumulators of the first MLP backward call as sums over the blocks of rows, and its three results index by index. -/
module

public import proofs.«01_k».proof.Proof.MlpASum
public import proofs.«01_k».proof.Proof.MlpABlocks
public import proofs.«01_k».proof.Proof.MlpAPoints
public import proofs.«01_k».proof.Proof.MlpAOut

@[expose] public section

set_option maxRecDepth 16384

noncomputable section

namespace Cert.MlpAIdeal.Fold

open Cert.MlpAIdeal Cert.MlpAIdeal.Gen Cert.MlpAIdeal.Body Cert.MlpAIdeal.Pay Cert.MlpAIdeal.Sum Cert.MlpAIdeal.Blocks Idealize.ShloMosaic Idealize.ShloMosaic.TcCoe Idealize.SL.Sem
open Cert.Planes (col)

variable (m : (ℓ : Loc nD τ sig) → Buf (Elt Ideal) ℓ) (c : Dev nD)

/-- The arguments. -/
abbrev ah : Vec Ideal S8192x1024 .f32 := m ((c : Thread nD τ).loc main_arg0)
abbrev ag : Vec Ideal S1x1024 .f32 := m ((c : Thread nD τ).loc main_arg1)
abbrev au : Vec Ideal S1x1024x4096 .f32 := m ((c : Thread nD τ).loc main_arg2)
abbrev ad : Vec Ideal S1x4096x1024 .f32 := m ((c : Thread nD τ).loc main_arg3)
abbrev ay : Vec Ideal S8192x1024 .f32 := m ((c : Thread nD τ).loc main_arg4)

/-- The up-projection, an element. -/
def uE (i : Fin 8192) (J : Fin 2048) : EReal := ∑ r : Fin 1024, zE (ah m c) (ag m c) i r * au m c (ix3 0 r (low J))

/-- Its cotangent. -/
def gE (i : Fin 8192) (J : Fin 2048) : EReal := du (∑ r : Fin 1024, ay m c (ix2 i r) * ad m c (ix3 0 (low J) r)) (uE m c i J)

variable (t : Fin cfg0.N)

theorem blk_u (p : Fin 512) (J : Fin 2048) : (iblk m c 2 t : Vec Ideal S512x2048 .bf16) (ix2 p J) = uE m c (row t.val (lt16 t) p) J := blk2 m c t p J

theorem gu_blk (p : Fin 512) (J : Fin 2048) : gu (iblk m c 0 t) (iblk m c 2 t) (iblk m c 4 t) p J = gE m c (row t.val (lt16 t) p) J := by
  unfold gu gE
  exact congrArg₂ du (Finset.sum_congr rfl fun r _ => congrArg₂ _ (blk0 m c t p r) (blk4 m c t J r)) (blk_u m c t p J)

/-- What block `n` of the rows adds to the up-projection's gradient. -/
def upPart (n : ℕ) (r : Fin 1024) (J : Fin 2048) : EReal := if h : n < 16 then ∑ i : Fin 512, zE (ah m c) (ag m c) (row n h i) r * gE m c (row n h i) J else 0

/-- What it adds to the down-projection's. -/
def dnPart (n : ℕ) (J : Fin 2048) (r : Fin 1024) : EReal := if h : n < 16 then ∑ i : Fin 512, mx (uE m c (row n h i) J) * mx (uE m c (row n h i) J) * ay m c (ix2 (row n h i) r) else 0

theorem upd9_blk (acc : Vec Ideal S4x1024x512 .f32) (K : Fin 4) (r : Fin 1024) (q : Fin 512) :
    upd9 (iblk m c 0 t) (iblk m c 1 t) (iblk m c 2 t) (iblk m c 4 t) acc (ix3 K r q) = acc (ix3 K r q) + upPart m c t.val r (col K q) := by
  refine (upd9_at _ _ _ _ _ _ _ _).trans (congrArg (acc (ix3 K r q) + ·) ?_)
  unfold upPart
  rw [dif_pos (lt16 t)]
  exact Finset.sum_congr rfl fun i _ => congrArg₂ _ (blk1 m c t i r) (gu_blk m c t i (col K q))

theorem upd10_blk (acc : Vec Ideal S2048x1024 .f32) (J : Fin 2048) (r : Fin 1024) :
    upd10 (iblk m c 0 t) (iblk m c 2 t) acc (ix2 J r) = acc (ix2 J r) + dnPart m c t.val J r := by
  refine (upd10_at _ _ _ _ _).trans (congrArg (acc (ix2 J r) + ·) ?_)
  unfold dnPart
  rw [dif_pos (lt16 t)]
  exact Finset.sum_congr rfl fun i _ => congrArg₂ _ (congrArg (fun u => mx u * mx u) (blk_u m c t i J)) (blk0 m c t i r)

/-- The block of the cotangent of the normed rows. -/
theorem dz_blk (p : Fin 512) (r : Fin 1024) : dz (iblk m c 0 t) (iblk m c 2 t) (iblk m c 3 t) (iblk m c 4 t) (ix2 p r) = ∑ J : Fin 2048, gE m c (row t.val (lt16 t) p) J * au m c (ix3 0 r (low J)) := by
  have hk : ∀ K : Fin 4, (∑ q : Fin 512, gu (iblk m c 0 t) (iblk m c 2 t) (iblk m c 4 t) p (col K q) * (iblk m c 3 t : Vec Ideal S4x1024x512 .bf16) (ix3 K r q))
      = ∑ q : Fin 512, gE m c (row t.val (lt16 t) p) (col K q) * au m c (ix3 0 r (low (col K q))) := fun K =>
    Finset.sum_congr rfl fun q _ => congrArg₂ _ (gu_blk m c t p (col K q)) (blk3 m c t K r q)
  refine (dz_at _ _ _ _ p r).trans ?_
  rw [Planes.sum4]
  exact congrArg₂ (· + ·) (congrArg₂ (· + ·) (congrArg₂ (· + ·) (hk 0) (hk 1)) (hk 2)) (hk 3)

/-- The accumulators after point `n`. -/
def upAcc (n : ℕ) : Vec Ideal S4x1024x512 .f32 := fun j => ∑ s ∈ Finset.range (n + 1), upPart m c s (j 1) (col (j 0) (j 2))
def dnAcc (n : ℕ) : Vec Ideal S2048x1024 .f32 := fun j => ∑ s ∈ Finset.range (n + 1), dnPart m c s (j 0) (j 1)

theorem ix3_of (j : S4x1024x512.Idx) : ∃ (K : Fin 4) (r : Fin 1024) (q : Fin 512), j = ix3 K r q := ⟨j 0, j 1, j 2, by funext a; match a with | ⟨0, _⟩ => rfl | ⟨1, _⟩ => rfl | ⟨2, _⟩ => rfl⟩
theorem ix2_of (j : S2048x1024.Idx) : ∃ (J : Fin 2048) (r : Fin 1024), j = ix2 J r := ⟨j 0, j 1, by funext a; match a with | ⟨0, _⟩ => rfl | ⟨1, _⟩ => rfl⟩

theorem upd9_next (n : ℕ) (hn : n + 1 < cfg0.N) : upd9 (iblk m c 0 ⟨n + 1, hn⟩) (iblk m c 1 ⟨n + 1, hn⟩) (iblk m c 2 ⟨n + 1, hn⟩) (iblk m c 4 ⟨n + 1, hn⟩) (upAcc m c n) = upAcc m c (n + 1) := by
  funext j
  obtain ⟨K, r, q, rfl⟩ := ix3_of j
  exact (upd9_blk m c ⟨n + 1, hn⟩ _ K r q).trans (Finset.sum_range_succ (fun s => upPart m c s r (col K q)) (n + 1)).symm

theorem upd10_next (n : ℕ) (hn : n + 1 < cfg0.N) : upd10 (iblk m c 0 ⟨n + 1, hn⟩) (iblk m c 2 ⟨n + 1, hn⟩) (dnAcc m c n) = dnAcc m c (n + 1) := by
  funext j
  obtain ⟨J, r, rfl⟩ := ix2_of j
  exact (upd10_blk m c ⟨n + 1, hn⟩ _ J r).trans (Finset.sum_range_succ (fun s => dnPart m c s J r) (n + 1)).symm

theorem up_eq : ∀ (n : ℕ) (hn : n < cfg0.N), n < 15 → (outsAt0 m c n hn).2.1 = upAcc m c n
  | 0, hn, _ => by
    rw [Points.up_first m c ⟨0, hn⟩ rfl]
    funext j
    obtain ⟨K, r, q, rfl⟩ := ix3_of j
    rw [upd9_blk m c ⟨0, hn⟩, pay11, zero_add]
    exact (Finset.sum_range_one (fun s => upPart m c s r (col K q))).symm
  | n + 1, hn, h => by
    have h0 : ¬(⟨n + 1, hn⟩ : Fin cfg0.N).val % 16 = 0 := by dsimp only; omega
    have h1 : ¬(⟨n + 1, hn⟩ : Fin cfg0.N).val % 16 = 15 := by dsimp only; omega
    rw [Points.up_next m c ⟨n + 1, hn⟩ h0 h1, ← upd9_next m c n hn, ← up_eq n (by omega) (by omega)]
    rfl

theorem dn_eq : ∀ (n : ℕ) (hn : n < cfg0.N), n < 15 → (outsAt0 m c n hn).2.2 = dnAcc m c n
  | 0, hn, _ => by
    rw [Points.dn_first m c ⟨0, hn⟩ rfl]
    funext j
    obtain ⟨J, r, rfl⟩ := ix2_of j
    rw [upd10_blk m c ⟨0, hn⟩, pay12, zero_add]
    exact (Finset.sum_range_one (fun s => dnPart m c s J r)).symm
  | n + 1, hn, h => by
    have h0 : ¬(⟨n + 1, hn⟩ : Fin cfg0.N).val % 16 = 0 := by dsimp only; omega
    have h1 : ¬(⟨n + 1, hn⟩ : Fin cfg0.N).val % 16 = 15 := by dsimp only; omega
    rw [Points.dn_next m c ⟨n + 1, hn⟩ h0 h1, ← upd10_next m c n hn, ← dn_eq n (by omega) (by omega)]
    rfl

theorem res0_eq (n : ℕ) (hn : n + 1 < cfg0.N) (h : n < 15) : Out.res0 m c ⟨n + 1, hn⟩ = out7 (upAcc m c (n + 1)) := by
  rw [← upd9_next m c n hn, ← up_eq m c n (by omega) h]
  rfl

theorem res1_eq (n : ℕ) (hn : n + 1 < cfg0.N) (h : n < 15) : Out.res1 m c ⟨n + 1, hn⟩ = out8 (dnAcc m c (n + 1)) := by
  rw [← upd10_next m c n hn, ← dn_eq m c n (by omega) h]
  rfl

theorem last : ∃ h : 14 + 1 < cfg0.N, Out.tl = ⟨14 + 1, h⟩ := ⟨by rw [show cfg0.N = 16 from N_0]; decide, rfl⟩

/-- The first result left in HBM, an element. -/
theorem res0_at (K : Fin 4) (r : Fin 1024) (q : Fin 512) : Out.res0 m c Out.tl (ix3 K r q) = ∑ i : Fin 8192, zE (ah m c) (ag m c) i r * gE m c i (col K q) := by
  obtain ⟨h, e⟩ := last
  rw [e, res0_eq m c 14 h (by decide), out7_at, Fin.sum_univ_tiles 16 512 rfl]
  refine (Finset.sum_range (fun s => upPart m c s r (col K q))).trans (Finset.sum_congr rfl fun j _ => ?_)
  unfold upPart
  rw [dif_pos j.isLt]
  rfl

/-- The second. -/
theorem res1_at (K : Fin 4) (q : Fin 512) (r : Fin 1024) : Out.res1 m c Out.tl (ix3 K q r) = ∑ i : Fin 8192, mx (uE m c i (col K q)) * mx (uE m c i (col K q)) * ay m c (ix2 i r) := by
  obtain ⟨h, e⟩ := last
  rw [e, res1_eq m c 14 h (by decide), out8_at, Fin.sum_univ_tiles 16 512 rfl]
  refine (Finset.sum_range (fun s => dnPart m c s (col K q) r)).trans (Finset.sum_congr rfl fun j _ => ?_)
  unfold dnPart
  rw [dif_pos j.isLt]
  rfl

end Cert.MlpAIdeal.Fold

end
-- ==== Proof.MlpARead.lean ====
/- The reference of the first MLP backward call, its stages read at an index. -/
module

public import proofs.«01_k».proof.Proof.Gen.MlpARefIdeal.Run
public import Idealize.ShloMosaic.Lib.Pointwise
public import Idealize.ShloMosaic.Lib.Tactic

@[expose] public section

set_option maxRecDepth 16384

noncomputable section

namespace Cert.MlpARefIdeal.Read

open Cert.MlpARefIdeal Cert.MlpARefIdeal.Gen Idealize.ShloMosaic Idealize.ShloMosaic.TcCoe Idealize.SL.Sem

variable (h y : FVec Ideal S8192x1024 .f32) (g : FVec Ideal S1x1024 .f32) (w : FVec Ideal S1x1024x4096 .f32) (d : FVec Ideal S1x4096x1024 .f32)

/-- The normed rows. -/
def z : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast S1024 g shapeCasts_S1x1024_S1024)))

theorem z_apply (i : Fin 8192) (r : Fin 1024) : z h g (ix2 i r) = h (ix2 i r) * Ideal.rsqrt (Ideal.div (∑ x : Fin 1024, h (ix2 i x) * h (ix2 i x)) (Ideal.ofBits .f32 0x44800000#32) + Ideal.ofBits .f32 0x358637BD#32) * g (ix2 0 r) := by
  pointwise [z]

/-- The half of the up-projection's columns, and of the down-projection's rows. -/
def wu : FVec Ideal S1024x2048 .f32 := shapeCast _ (extractStridedSlice S1x1024x2048 ![0, 0, 0] w slices_S1x1024x4096_S1x1024x2048_0_0_0) shapeCasts_S1x1024x2048_S1024x2048
def wd : FVec Ideal S2048x1024 .f32 := shapeCast _ (extractStridedSlice S1x2048x1024 ![0, 0, 0] d slices_S1x4096x1024_S1x2048x1024_0_0_0) shapeCasts_S1x2048x1024_S2048x1024

theorem wu_apply (r : Fin 1024) (J : Fin 2048) : wu w (ix2 r J) = w (ix3 0 r (⟨J.val, by omega⟩ : Fin 4096)) := by
  pointwise [wu]

theorem wd_apply (J : Fin 2048) (r : Fin 1024) : wd d (ix2 J r) = d (ix3 0 (⟨J.val, by omega⟩ : Fin 4096) r) := by
  pointwise [wd]

/-- The up-projection. -/
def u : FVec Ideal S8192x2048 .f32 := Host.dotGeneral dot_S8192x1024_S1024x2048_S8192x2048_1_0_0_1_n_n none (z h g) (wu w)

theorem u_apply (i : Fin 8192) (J : Fin 2048) : u h g w (ix2 i J) = ∑ r : Fin 1024, z h g (ix2 i r) * wu w (ix2 r J) := by
  unfold u
  generalize z h g = a
  generalize wu w = b
  pointwise

/-- Its rectification. -/
def rl : FVec Ideal S8192x2048 .f32 := maximumf (u h g w) (broadcastInDim S8192x2048 ![] bcast_S_S8192x2048 (constant S_ .f32 0x00000000#32))

theorem rl_apply (i : Fin 8192) (J : Fin 2048) : rl h g w (ix2 i J) = max (u h g w (ix2 i J)) 0 := by
  unfold rl
  generalize u h g w = a
  pointwise

/-- The cotangent of the square. -/
def dy : FVec Ideal S8192x2048 .f32 := Host.dotGeneral dot_S8192x1024_S2048x1024_S8192x2048_1_1_0_0_n_n none y (wd d)

theorem dy_apply (i : Fin 8192) (J : Fin 2048) : dy y d (ix2 i J) = ∑ r : Fin 1024, y (ix2 i r) * wd d (ix2 J r) := by
  unfold dy
  generalize wd d = b
  pointwise

/-- The cotangent of the up-projection. -/
def gu : FVec Ideal S8192x2048 .f32 := select (cmpf .ogt (u h g w) (broadcastInDim S8192x2048 ![] bcast_S_S8192x2048 (constant S_ .f32 0x00000000#32))) (mulf (dy y d) (mulf (broadcastInDim S8192x2048 ![] bcast_S_S8192x2048 (constant S_ .f32 0x40000000#32)) (rl h g w))) (broadcastInDim S8192x2048 ![] bcast_S_S8192x2048 (constant S_ .f32 0x00000000#32))

theorem gu_apply (i : Fin 8192) (J : Fin 2048) : gu h y g w d (ix2 i J) = dy y d (ix2 i J) * (Ideal.ofBits .f32 0x40000000#32 * rl h g w (ix2 i J)) := by
  have hr := rl_apply h g w i J
  unfold gu
  generalize dy y d = a
  generalize rl h g w = b at hr ⊢
  generalize u h g w = v at hr ⊢
  pointwise
  by_cases hv : 0 < v (ix2 i J)
  · simp [hv]
  · rw [hr, max_eq_right (not_lt.mp hv)]
    simp

/-- The cotangent of the normed rows. -/
def dz : FVec Ideal S8192x1024 .f32 := Host.dotGeneral dot_S8192x2048_S1024x2048_S8192x1024_1_1_0_0_n_n none (gu h y g w d) (wu w)

theorem dz_apply (i : Fin 8192) (r : Fin 1024) : dz h y g w d (ix2 i r) = ∑ J : Fin 2048, gu h y g w d (ix2 i J) * wu w (ix2 r J) := by
  unfold dz
  generalize gu h y g w d = a
  generalize wu w = b
  pointwise

/-- The gradient of the up-projection, its columns in chunks. -/
def up : FVec Ideal S4x1024x512 .bf16 := truncf .bf16 (transpose S4x1024x512 [1, 0, 2] (shapeCast _ (transpose S1024x2048 [1, 0] (Host.dotGeneral dot_S8192x2048_S8192x1024_S2048x1024_0_0_1_1_n_n none (gu h y g w d) (z h g)) transposes_S2048x1024_S1024x2048_1_0) shapeCasts_S1024x2048_S1024x4x512) transposes_S1024x4x512_S4x1024x512_1_0_2) bitsLt_bf16_f32

theorem up_apply (K : Fin 4) (r : Fin 1024) (q : Fin 512) : up h y g w d (ix3 K r q) = ∑ i : Fin 8192, gu h y g w d (ix2 i (⟨K.val * 512 + q.val, by omega⟩ : Fin 2048)) * z h g (ix2 i r) := by
  unfold up
  generalize gu h y g w d = a
  generalize z h g = b
  pointwise

/-- The gradient of the down-projection, its rows in chunks. -/
def dn : FVec Ideal S4x512x1024 .bf16 := truncf .bf16 (shapeCast _ (transpose S2048x1024 [1, 0] (Host.dotGeneral dot_S8192x1024_S8192x2048_S1024x2048_0_0_1_1_n_n none y (mulf (rl h g w) (rl h g w))) transposes_S1024x2048_S2048x1024_1_0) shapeCasts_S2048x1024_S4x512x1024) bitsLt_bf16_f32

theorem dn_apply (K : Fin 4) (q : Fin 512) (r : Fin 1024) : dn h y g w (ix3 K q r) = ∑ i : Fin 8192, y (ix2 i r) * (rl h g w (ix2 i (⟨K.val * 512 + q.val, by omega⟩ : Fin 2048)) * rl h g w (ix2 i (⟨K.val * 512 + q.val, by omega⟩ : Fin 2048))) := by
  unfold dn
  generalize rl h g w = a
  pointwise

variable (m : (ℓ : Loc nD τ sig) → Buf (Elt Ideal) ℓ) (ρ : Dev nD → PrngReg)

/-- The reference's run with its results so named. -/
theorem run : θ_run defs (onTc (τ := τ) (main (F := Ideal))) ⟨m, fun _ => 0, ρ⟩ fun r => ∀ c : Dev nD,
      r.2.mem ((c.tc : Thread nD τ).loc main_v35) = dz (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg3))
      ∧ r.2.mem ((c.tc : Thread nD τ).loc main_v38) = up (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg3))
      ∧ r.2.mem ((c.tc : Thread nD τ).loc main_v40) = dn (m ((c.tc : Thread nD τ).loc main_arg0)) (m ((c.tc : Thread nD τ).loc main_arg4)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1, (h c).2.1, (h c).2.2.1, (h c).2.2.2⟩) (Value.run m ρ)

end Cert.MlpARefIdeal.Read

end
-- ==== Proof.MlpAClaim.lean ====
/- The claims of the first MLP backward call. -/
module

public import proofs.«01_k».proof.Proof.MlpAFold
public import proofs.«01_k».proof.Proof.MlpARead
public import proofs.«01_k».proof.Proof.Gen.MlpA.Frame
public import proofs.«01_k».proof.Proof.Gen.MlpAIdeal.Value
public import proofs.«01_k».proof.Defs

@[expose] public section

set_option maxRecDepth 16384

noncomputable section

namespace Cert.MlpAClaim

open Cert.MlpAIdeal Cert.MlpAIdeal.Gen Cert.MlpAIdeal.Fold Cert.MlpAIdeal.Blocks Idealize.ShloMosaic Idealize.ShloMosaic.TcCoe Idealize.SL.Sem
open Cert.Planes (col)

variable (m : (ℓ : Loc nD τ sig) → Buf (Elt Ideal) ℓ) (c : Dev nD)

theorem z_eq (i : Fin 8192) (r : Fin 1024) : Cert.MlpARefIdeal.Read.z (ah m c) (ag m c) (ix2 i r) = zE (ah m c) (ag m c) i r := by
  rw [Cert.MlpARefIdeal.Read.z_apply]
  rfl

theorem u_eq (i : Fin 8192) (J : Fin 2048) : Cert.MlpARefIdeal.Read.u (ah m c) (ag m c) (au m c) (ix2 i J) = uE m c i J := by
  rw [Cert.MlpARefIdeal.Read.u_apply]
  exact Finset.sum_congr rfl fun r _ => congrArg₂ _ (z_eq m c i r) (Cert.MlpARefIdeal.Read.wu_apply _ r J)

theorem rl_eq (i : Fin 8192) (J : Fin 2048) : Cert.MlpARefIdeal.Read.rl (ah m c) (ag m c) (au m c) (ix2 i J) = Pay.mx (uE m c i J) :=
  (Cert.MlpARefIdeal.Read.rl_apply _ _ _ i J).trans (congrArg (max · 0) (u_eq m c i J))

/-- The two cotangents of the up-projection are the same products. -/
theorem gu_eq (i : Fin 8192) (J : Fin 2048) : Cert.MlpARefIdeal.Read.gu (ah m c) (ay m c) (ag m c) (au m c) (ad m c) (ix2 i J) = gE m c i J := by
  rw [Cert.MlpARefIdeal.Read.gu_apply, rl_eq, Cert.MlpARefIdeal.Read.dy_apply]
  exact congrArg (· * _) (Finset.sum_congr rfl fun r _ => congrArg _ (Cert.MlpARefIdeal.Read.wd_apply _ J r))

theorem idx5 : ∀ t : Fin cfg0.N, win0_5.index t (0 : Fin 2) = t.val ∧ win0_5.index t (1 : Fin 2) = 0 := by decide +kernel
theorem flush5 : ∀ t : Fin cfg0.N, (cfg0.win 5).flush t = true := (by decide +kernel : ∀ t : Fin grid0.N, win0_5.flush t = true)

/-- The cotangent of the normed rows. -/
theorem dz_final : (dats m 0 c).arrAt 5 cfg0.N = Cert.MlpARefIdeal.Read.dz (ah m c) (ay m c) (ag m c) (au m c) (ad m c) := by
  refine (dats m 0 c).arrAt_eq_of_cover 5 _ (fun t _ => ?_) (fun i => ?_)
  · rw [Value.flushed5, Points.out_dz]
    funext y
    have hb0 : (((cfg0.win 5).blk t).view.emb y 0).val = win0_5.index t (0 : Fin 2) * 512 + 1 * (y 0).val := rfl
    have hb1 : (((cfg0.win 5).blk t).view.emb y 1).val = win0_5.index t (1 : Fin 2) * 1024 + 1 * (y 1).val := rfl
    have hy0 : (y 0).val < 512 := (y 0).isLt
    have hy1 : (y 1).val < 1024 := (y 1).isLt
    have he : ((cfg0.win 5).blk t).view.emb y = (ix2 (row t.val (lt16 t) ⟨(y 0).val, hy0⟩) (⟨(y 1).val, hy1⟩ : Fin 1024) : S8192x1024.Idx) := by
      funext a; apply Fin.ext
      match a with
      | ⟨0, _⟩ => show _ = t.val * 512 + (y 0).val; refine hb0.trans ?_; rw [(idx5 t).1]; omega
      | ⟨1, _⟩ => show _ = (y 1).val; refine hb1.trans ?_; rw [(idx5 t).2]; omega
    have hx : (cfg0.win 5).xinj (grid0.coords t) y = (ix2 (⟨(y 0).val, hy0⟩ : Fin 512) (⟨(y 1).val, hy1⟩ : Fin 1024) : S512x1024.Idx) := by
      funext a; apply Fin.ext
      match a with
      | ⟨0, _⟩ => rfl
      | ⟨1, _⟩ => rfl
    refine (congrArg (Body.dz (iblk m c 0 t) (iblk m c 2 t) (iblk m c 3 t) (iblk m c 4 t)) hx).trans ((dz_blk m c t _ _).trans ?_)
    refine Eq.trans ?_ (congrArg (Cert.MlpARefIdeal.Read.dz (ah m c) (ay m c) (ag m c) (au m c) (ad m c)) he).symm
    rw [Cert.MlpARefIdeal.Read.dz_apply]
    exact Finset.sum_congr rfl fun J _ => congrArg₂ _ (gu_eq m c _ J).symm (Cert.MlpARefIdeal.Read.wu_apply _ _ J).symm
  · have h0 : (i 0).val < 8192 := (i 0).isLt
    have h1 : (i 1).val < 1024 := (i 1).isLt
    have hN : (i 0).val / 512 < cfg0.N := by rw [show cfg0.N = 16 from N_0]; omega
    refine ⟨⟨(i 0).val / 512, hN⟩, flush5 _, ?_⟩
    show i ∈ ((View.whole main_v24_0).slice (win0_5.rect ⟨(i 0).val / 512, hN⟩)).set
    rw [View.set_slice_whole, Rect.mem_set_unit]
    have e := idx5 ⟨(i 0).val / 512, hN⟩
    intro a
    match a with
    | ⟨0, _⟩ => show win0_5.index ⟨(i 0).val / 512, hN⟩ (0 : Fin 2) * 512 ≤ (i 0).val ∧ (i 0).val < win0_5.index ⟨(i 0).val / 512, hN⟩ (0 : Fin 2) * 512 + 512; rw [e.1]; dsimp only; omega
    | ⟨1, _⟩ => show win0_5.index ⟨(i 0).val / 512, hN⟩ (1 : Fin 2) * 1024 ≤ (i 1).val ∧ (i 1).val < win0_5.index ⟨(i 0).val / 512, hN⟩ (1 : Fin 2) * 1024 + 1024; rw [e.2]; omega

theorem col_eq (K : Fin 4) (q : Fin 512) (h : K.val * 512 + q.val < 2048) : (⟨K.val * 512 + q.val, h⟩ : Fin 2048) = col K q := Fin.ext (congrArg (· + q.val) (Nat.mul_comm _ _))

/-- The gradient of the up-projection. -/
theorem up_final : Out.res0 m c Out.tl = Cert.MlpARefIdeal.Read.up (ah m c) (ay m c) (ag m c) (au m c) (ad m c) := by
  funext j
  obtain ⟨K, r, q, rfl⟩ := ix3_of j
  refine (res0_at m c K r q).trans (Eq.trans ?_ (Cert.MlpARefIdeal.Read.up_apply _ _ _ _ _ K r q).symm)
  refine Finset.sum_congr rfl fun i _ => ?_
  rw [col_eq, gu_eq, z_eq]
  exact mul_comm _ _

/-- The gradient of the down-projection. -/
theorem dn_final : Out.res1 m c Out.tl = Cert.MlpARefIdeal.Read.dn (ah m c) (ay m c) (ag m c) (au m c) := by
  funext j
  obtain ⟨K, q, r, rfl⟩ : ∃ (K : Fin 4) (q : Fin 512) (r : Fin 1024), j = ix3 K q r := ⟨j 0, j 1, j 2, by funext a; match a with | ⟨0, _⟩ => rfl | ⟨1, _⟩ => rfl | ⟨2, _⟩ => rfl⟩
  refine (res1_at m c K q r).trans (Eq.trans ?_ (Cert.MlpARefIdeal.Read.dn_apply _ _ _ _ K q r).symm)
  refine Finset.sum_congr rfl fun i _ => ?_
  rw [col_eq, rl_eq]
  exact mul_comm _ _

theorem frame_kernel : Cert.quiescent_MlpA := fun m ρ _ => Cert.MlpA.Gen.frame m ρ
theorem frame_ideal : Cert.quiescent_MlpAIdeal := fun m ρ _ => Cert.MlpAIdeal.Gen.frame m ρ
theorem frame_ref : Cert.quiescent_MlpARefIdeal := fun m ρ _ =>
  (θ_run Cert.MlpARefIdeal.defs _ _).mono (fun r h => ⟨fun c => (h c).2.2.2, sem_eq_zero_of_no_sems (by decide) r.2⟩) (Cert.MlpARefIdeal.Value.run (F := Ideal) m ρ)
theorem preserves : Cert.preserves_MlpA_MlpAIdeal := trivial

theorem unread_eq {b : Ref sig .tc} (v : b.ty.Contents (Elt Ideal)) : (Memref.isWhole_whole b).unread v = v := (Memref.IsWhole.eq_unread (Memref.isWhole_whole b) rfl).symm

theorem algebraic : Cert.algebraic_MlpAIdeal_MlpARefIdeal := by
  intro m ρ m' ρ' _ hagree
  refine ⟨fun c => Cert.MlpARefIdeal.Read.dz (ah m c) (ay m c) (ag m c) (au m c) (ad m c), fun c => Cert.MlpARefIdeal.Read.up (ah m c) (ay m c) (ag m c) (au m c) (ad m c), fun c => Cert.MlpARefIdeal.Read.dn (ah m c) (ay m c) (ag m c) (au m c), ?_, ?_⟩
  · refine (θ_run Cert.MlpAIdeal.defs _ _).mono (fun r h c => ?_) (Out.run m ρ)
    have hR := Out.post_R m h
    exact ⟨(Value.post5 m r hR c).trans (dz_final m c), (Out.post_0 m h c).trans ((unread_eq _).trans (up_final m c)), (Out.post_1 m h c).trans ((unread_eq _).trans (dn_final m c)),
      Value.kept_main_arg0 m r hR c, Value.kept_main_arg1 m r hR c, Value.kept_main_arg2 m r hR c, Value.kept_main_arg3 m r hR c, Value.kept_main_arg4 m r hR c⟩
  · refine (θ_run Cert.MlpARefIdeal.defs _ _).mono (fun r h c => ?_) (Cert.MlpARefIdeal.Read.run m' ρ')
    obtain ⟨e0, e1, e2, e3, e4⟩ := hagree c
    refine ⟨(h c).1.trans ?_, (h c).2.1.trans ?_, (h c).2.2.1.trans ?_, (h c).2.2.2⟩
    · rw [e0, e1, e2, e3, e4]
    · rw [e0, e1, e2, e3, e4]
    · rw [e0, e1, e2, e4]

end Cert.MlpAClaim

end
-- ==== Proof.MlpBRun.lean ====
/- The last grid point of the MLP backward call (second part), run with the two results it copies out named: each as a function of what the
  result and the two staging buffers held before. -/
module

public import proofs.«01_k».proof.Proof.Gen.MlpBIdeal.Value
public import proofs.«01_k».proof.Proof.Planes

@[expose] public section

set_option maxRecDepth 16384

noncomputable section

namespace Cert.MlpBIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpBIdeal Cert.MlpBIdeal.Gen

variable {F : FTy → Type} [FloatOps F]

local notation "𝕄" => MT nD τ sig Unit (Elt F) ℕ (Pipeline.UD sig nD τ) ℕ

set_option maxHeartbeats 1000000 in
/-- The pieces each buffer is left with at the last point and the contents of the two results copied out, with the run
    that finds them. -/
noncomputable def runLast (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S4x1024x512 .bf16) (harg4 : arg4.IsWhole) (arg5 : Memref sig .tc .vmem S2048x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg13 : Memref sig .tc .vmem S4x1024x512 .f32) (harg13 : arg13.IsWhole) (arg14 : Memref sig .tc .vmem S2048x1024 .f32) (harg14 : arg14.IsWhole) (arg15 : Memref sig .tc .vmem S1024x512 .bf16) (harg15 : arg15.IsWhole) (arg16 : Memref sig .tc .vmem S512x1024 .bf16) (harg16 : arg16.IsWhole) (hc0 : ¬cond0_0 i) (hc1 : cond0_1 i)
    (x0 : Vec F S512x1024 .f32) (x1 : Vec F S512x1024 .bf16) (x2 : Vec F S512x2048 .bf16) (x3 : Vec F S4x1024x512 .bf16) (x4 : Vec F S2048x1024 .bf16) (x5 : Vec F S512x1024 .f32) (x6 : Vec F S512x1024 .f32) (x7 : Vec F S1x1024 .f32) (xo9 : Vec F S8x1024 .f32) (xs0 : Vec F S4x1024x512 .f32) (xs1 : Vec F S2048x1024 .f32) :
    Σ' (B0 : HbBuf0 (F := F) c hbM0_0 → Buf (Elt F) (arg15.view.loc (c : Thread nD τ)) → Buf (Elt F) (arg16.view.loc (c : Thread nD τ)) → HbBuf0 (F := F) c hbM0_0), Σ' (B1 : HbBuf0 (F := F) c hbM0_1 → Buf (Elt F) (arg15.view.loc (c : Thread nD τ)) → Buf (Elt F) (arg16.view.loc (c : Thread nD τ)) → HbBuf0 (F := F) c hbM0_1), Σ' (L8 : List (View.Piece (Elt F) S512x1024 .f32)), Σ' (L9 : List (View.Piece (Elt F) S8x1024 .f32)), Σ' (LS0 : List (View.Piece (Elt F) S4x1024x512 .f32)), { LS1 : List (View.Piece (Elt F) S2048x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg13 fullShare xs0 ∗ owns (c : Thread nD τ) arg14 fullShare xs1 ∗ (∃ d, owns (c : Thread nD τ) arg15 fullShare d) ∗ (∃ d, owns (c : Thread nD τ) arg16 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ (∃ f, hbPt0 c hbM0_0 f) ∗ (∃ f, hbPt0 c hbM0_1 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread xo9) L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ (∃ d, owns (c : Thread nD τ) arg16 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ (∃ f g h, hbPt0 c hbM0_0 (B0 f g h)) ∗ (∃ f g h, hbPt0 c hbM0_1 (B1 f g h)) ∗ (∃ W', owes (c : Thread nD τ) 0 W')) -∗ K ⟨⟩))
          ⊢ wp frame (wpE (defs₀ (F := F)) Variants.none c none) Set.univ (cc0_mlp_bwd_1 i arg1 harg1 arg2 harg2 arg3 harg3 arg4 harg4 arg5 harg5 arg6 harg6 arg7 harg7 arg8 harg8 arg9 harg9 arg10 harg10 (Memref.whole main_v24_2) (Memref.isWhole_whole _) (Memref.whole main_v24_3) (Memref.isWhole_whole _) arg13 harg13 arg14 harg14 arg15 harg15 arg16 harg16 cc0_scoped0 cc0_scoped1 cc0_scoped2 cc0_scoped3 cc0_scoped4 cc0_scoped5 cc0_scoped6 cc0_scoped7) K } := by
  refine ⟨?_, ?_, ?_, ?_, ?_, ?_, fun W K => ?run⟩
  case run =>
    simp only [cc0_mlp_bwd_1_eq_skeleton]; unfold cc0_mlp_bwd_1_skel
    simp only [k0_part7_eq_skeleton, k0_part3_eq_skeleton, k0_part4_eq_skeleton, k0_part5_eq_skeleton, k0_part6_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, ⟨%ds2, %fs2, -, HS2⟩, ⟨%ds3, %fs3, -, HS3⟩, Hq0, Hq1, Hq2, Hq3, Hq4, Hq5, Hq6, Hq7, ⟨%fw0, Hh0⟩, ⟨%fw1, Hh1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg13.eq_unread hfs0; obtain rfl := harg14.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexact H9
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexists fw0, fs2, fs3; iexact Hh0
    isplitl [Hh1]; · iexists fw1, fs2, fs3; iexact Hh1
    iexists _; iexact HW

end Cert.MlpBIdeal.Out

end
-- ==== Proof.MlpBBody.lean ====
/- What one grid point of the second MLP backward call leaves in its buffers: the block of the input's gradient, the row of
  the scale's gradient, the two carried accumulators, and at the last point the two results copied out of them. -/
module

public import proofs.«01_k».proof.Proof.MlpBRun
public import proofs.«01_k».proof.Proof.RowZero
public import Idealize.ShloMosaic.Lib.Pointwise
public import Idealize.ShloMosaic.Lib.Tactic

@[expose] public section

set_option maxRecDepth 16384

noncomputable section

namespace Cert.MlpBIdeal.Body

open Cert.MlpBIdeal Cert.MlpBIdeal.Gen Idealize.ShloMosaic Idealize.ShloMosaic.TcCoe Idealize.SL.Sem
open Cert.Rows (hz)

variable {F : FTy → Type} [FloatOps F]

/-- The accumulator of the up-projection's gradient after a point. -/
def upd9 (x0 : Vec F S512x1024 .f32) (x1 : Vec F S512x1024 .bf16) (x2 : Vec F S512x2048 .bf16) (x4 : Vec F S2048x1024 .bf16) (acc : Vec F S4x1024x512 .f32) : Vec F S4x1024x512 .f32 :=
  Planes.planes4 (k0_pay19 (k0_pay18 x0 x1 (View.ld x2 (Rect.unit (s := S512x2048) ![0, 0] S512x512.size inb_S512x2048_S512x512_0_0)) (View.ld x4 (Rect.unit (s := S2048x1024) ![0, 0] S512x1024.size inb_S2048x1024_S512x1024_0_0)) (View.ld acc (Rect.unit (s := S4x1024x512) ![0, 0, 0] S1x1024x512.size inb_S4x1024x512_S1x1024x512_0_0_0))))
    (k0_pay25 (k0_pay24 (k0_pay13 x0) (k0_pay14 x1) (View.ld x2 (Rect.unit (s := S512x2048) ![0, 512] S512x512.size inb_S512x2048_S512x512_0_512)) (View.ld x4 (Rect.unit (s := S2048x1024) ![512, 0] S512x1024.size inb_S2048x1024_S512x1024_512_0)) (View.ld acc (Rect.unit (s := S4x1024x512) ![1, 0, 0] S1x1024x512.size inb_S4x1024x512_S1x1024x512_1_0_0))))
    (k0_pay30 (k0_pay13 x0) (k0_pay14 x1) (View.ld x2 (Rect.unit (s := S512x2048) ![0, 1024] S512x512.size inb_S512x2048_S512x512_0_1024)) (View.ld x4 (Rect.unit (s := S2048x1024) ![1024, 0] S512x1024.size inb_S2048x1024_S512x1024_1024_0)) (View.ld acc (Rect.unit (s := S4x1024x512) ![2, 0, 0] S1x1024x512.size inb_S4x1024x512_S1x1024x512_2_0_0)))
    (k0_pay35 (k0_pay13 x0) (k0_pay14 x1) (View.ld x2 (Rect.unit (s := S512x2048) ![0, 1536] S512x512.size inb_S512x2048_S512x512_0_1536)) (View.ld x4 (Rect.unit (s := S2048x1024) ![1536, 0] S512x1024.size inb_S2048x1024_S512x1024_1536_0)) (View.ld acc (Rect.unit (s := S4x1024x512) ![3, 0, 0] S1x1024x512.size inb_S4x1024x512_S1x1024x512_3_0_0)))

/-- The accumulator of the down-projection's gradient after a point. -/
def upd10 (x0 : Vec F S512x1024 .f32) (x2 : Vec F S512x2048 .bf16) (acc : Vec F S2048x1024 .f32) : Vec F S2048x1024 .f32 :=
  Planes.rows4 (k := 512) (k0_pay17 x0 (View.ld x2 (Rect.unit (s := S512x2048) ![0, 0] S512x512.size inb_S512x2048_S512x512_0_0)) (View.ld acc (Rect.unit (s := S2048x1024) ![0, 0] S512x1024.size inb_S2048x1024_S512x1024_0_0))) (k0_pay23 (k0_pay13 x0) (View.ld x2 (Rect.unit (s := S512x2048) ![0, 512] S512x512.size inb_S512x2048_S512x512_0_512)) (View.ld acc (Rect.unit (s := S2048x1024) ![512, 0] S512x1024.size inb_S2048x1024_S512x1024_512_0)))
    (k0_pay29 (k0_pay13 x0) (View.ld x2 (Rect.unit (s := S512x2048) ![0, 1024] S512x512.size inb_S512x2048_S512x512_0_1024)) (View.ld acc (Rect.unit (s := S2048x1024) ![1024, 0] S512x1024.size inb_S2048x1024_S512x1024_1024_0))) (k0_pay34 (k0_pay13 x0) (View.ld x2 (Rect.unit (s := S512x2048) ![0, 1536] S512x512.size inb_S512x2048_S512x512_0_1536)) (View.ld acc (Rect.unit (s := S2048x1024) ![1536, 0] S512x1024.size inb_S2048x1024_S512x1024_1536_0))) rfl

/-- The cotangent of the normed rows but for the last chunk. -/
def dz3 (x0 : Vec F S512x1024 .f32) (x2 : Vec F S512x2048 .bf16) (x3 : Vec F S4x1024x512 .bf16) (x4 : Vec F S2048x1024 .bf16) (x5 : Vec F S512x1024 .f32) : Vec F S512x1024 .f32 :=
  k0_pay31 (k0_pay26 (k0_pay20 x5 (k0_pay16 x0 (View.ld x2 (Rect.unit (s := S512x2048) ![0, 0] S512x512.size inb_S512x2048_S512x512_0_0)) (View.ld x4 (Rect.unit (s := S2048x1024) ![0, 0] S512x1024.size inb_S2048x1024_S512x1024_0_0))) (View.ld x3 (Rect.unit (s := S4x1024x512) ![0, 0, 0] S1x1024x512.size inb_S4x1024x512_S1x1024x512_0_0_0))) (k0_pay22 (k0_pay13 x0) (View.ld x2 (Rect.unit (s := S512x2048) ![0, 512] S512x512.size inb_S512x2048_S512x512_0_512)) (View.ld x4 (Rect.unit (s := S2048x1024) ![512, 0] S512x1024.size inb_S2048x1024_S512x1024_512_0))) (View.ld x3 (Rect.unit (s := S4x1024x512) ![1, 0, 0] S1x1024x512.size inb_S4x1024x512_S1x1024x512_1_0_0)))
    (k0_pay28 (k0_pay13 x0) (View.ld x2 (Rect.unit (s := S512x2048) ![0, 1024] S512x512.size inb_S512x2048_S512x512_0_1024)) (View.ld x4 (Rect.unit (s := S2048x1024) ![1024, 0] S512x1024.size inb_S2048x1024_S512x1024_1024_0))) (View.ld x3 (Rect.unit (s := S4x1024x512) ![2, 0, 0] S1x1024x512.size inb_S4x1024x512_S1x1024x512_2_0_0))

/-- The block of the input's gradient a point leaves. -/
def dh (x0 : Vec F S512x1024 .f32) (x2 : Vec F S512x2048 .bf16) (x3 : Vec F S4x1024x512 .bf16) (x4 : Vec F S2048x1024 .bf16) (x5 x6 : Vec F S512x1024 .f32) (x7 : Vec F S1x1024 .f32) : Vec F S512x1024 .f32 :=
  k0_pay40 x0 (dz3 x0 x2 x3 x4 x5) (k0_pay33 (k0_pay13 x0) (View.ld x2 (Rect.unit (s := S512x2048) ![0, 1536] S512x512.size inb_S512x2048_S512x512_0_1536)) (View.ld x4 (Rect.unit (s := S2048x1024) ![1536, 0] S512x1024.size inb_S2048x1024_S512x1024_1536_0))) (k0_pay36 (View.ld x3 (Rect.unit (s := S4x1024x512) ![3, 0, 0] S1x1024x512.size inb_S4x1024x512_S1x1024x512_3_0_0))) (constant S512x1024 .f32 0x00000000#32) x7 x6

/-- The vectors' buffer after a point. -/
def vec (x0 : Vec F S512x1024 .f32) (x2 : Vec F S512x2048 .bf16) (x3 : Vec F S4x1024x512 .bf16) (x4 : Vec F S2048x1024 .bf16) (x5 x6 : Vec F S512x1024 .f32) (old : Vec F S8x1024 .f32) : Vec F S8x1024 .f32 :=
  RowZero.upd 0 old (k0_pay41 (dz3 x0 x2 x3 x4 x5) (k0_pay33 (k0_pay13 x0) (View.ld x2 (Rect.unit (s := S512x2048) ![0, 1536] S512x512.size inb_S512x2048_S512x512_0_1536)) (View.ld x4 (Rect.unit (s := S2048x1024) ![1536, 0] S512x1024.size inb_S2048x1024_S512x1024_1536_0))) (k0_pay36 (View.ld x3 (Rect.unit (s := S4x1024x512) ![3, 0, 0] S1x1024x512.size inb_S4x1024x512_S1x1024x512_3_0_0))) (constant S512x1024 .f32 0x00000000#32) x6 (View.ld old (Rect.unit (s := S8x1024) ![0, 0] S1x1024.size inb_S8x1024_S1x1024_0_0)))

/-- The first result copied out of an accumulator, plane by plane. -/
def out7 (acc : Vec F S4x1024x512 .f32) : Vec F S4x1024x512 .bf16 :=
  Planes.stack4 (k0_pay3 (View.ld acc (Rect.unit (s := S4x1024x512) ![0, 0, 0] S1x1024x512.size inb_S4x1024x512_S1x1024x512_0_0_0))) (k0_pay3 (View.ld acc (Rect.unit (s := S4x1024x512) ![1, 0, 0] S1x1024x512.size inb_S4x1024x512_S1x1024x512_1_0_0))) (k0_pay3 (View.ld acc (Rect.unit (s := S4x1024x512) ![2, 0, 0] S1x1024x512.size inb_S4x1024x512_S1x1024x512_2_0_0))) (k0_pay3 (View.ld acc (Rect.unit (s := S4x1024x512) ![3, 0, 0] S1x1024x512.size inb_S4x1024x512_S1x1024x512_3_0_0)))

/-- The second result copied out of an accumulator, run of rows by run of rows. -/
def out8 (acc : Vec F S2048x1024 .f32) : Vec F S4x512x1024 .bf16 :=
  Planes.stack4 (k0_pay4 (View.ld acc (Rect.unit (s := S2048x1024) ![0, 0] S512x1024.size inb_S2048x1024_S512x1024_0_0))) (k0_pay4 (View.ld acc (Rect.unit (s := S2048x1024) ![512, 0] S512x1024.size inb_S2048x1024_S512x1024_512_0))) (k0_pay4 (View.ld acc (Rect.unit (s := S2048x1024) ![1024, 0] S512x1024.size inb_S2048x1024_S512x1024_1024_0))) (k0_pay4 (View.ld acc (Rect.unit (s := S2048x1024) ![1536, 0] S512x1024.size inb_S2048x1024_S512x1024_1536_0)))

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S4x1024x512 .bf16) (harg4 : arg4.IsWhole) (arg5 : Memref sig .tc .vmem S2048x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg13 : Memref sig .tc .vmem S4x1024x512 .f32) (harg13 : arg13.IsWhole) (arg14 : Memref sig .tc .vmem S2048x1024 .f32) (harg14 : arg14.IsWhole) (arg15 : Memref sig .tc .vmem S1024x512 .bf16) (harg15 : arg15.IsWhole) (arg16 : Memref sig .tc .vmem S512x1024 .bf16) (harg16 : arg16.IsWhole)
  (x0 : Vec F S512x1024 .f32) (x1 : Vec F S512x1024 .bf16) (x2 : Vec F S512x2048 .bf16) (x3 : Vec F S4x1024x512 .bf16) (x4 : Vec F S2048x1024 .bf16) (x5 : Vec F S512x1024 .f32) (x6 : Vec F S512x1024 .f32) (x7 : Vec F S1x1024 .f32) (xo9 : Vec F S8x1024 .f32) (xs0 : Vec F S4x1024x512 .f32) (xs1 : Vec F S2048x1024 .f32)

theorem dh_A (hc0 : cond0_0 i) (hc1 : ¬cond0_1 i) : out0_A_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 = dh x0 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  rfl

theorem vec_A (hc0 : cond0_0 i) (hc1 : ¬cond0_1 i) : out0_A_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 = vec x0 x2 x3 x4 x5 x6 (k0_pay12 (F := F)) := by
  unfold out0_A_9
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  refine (RowZero.store (Val := Elt F) (e := .f32) (k := 8) (n := 1024) VO0_9 _ 0 _ _ _ (k0_pay12 (F := F)) ?_).trans ?_
  · exact Rows.read_full _ _ _ _ _
  unfold vec
  refine congrArg (RowZero.upd 0 _) ?_
  exact congrArg (k0_pay41 _ _ _ _ _) (Planes.loadCov _ _ _ (Rows.read_full _ _ _ _ _))

theorem acc9_A (hc0 : cond0_0 i) (hc1 : ¬cond0_1 i) : sout0_A_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 = upd9 x0 x1 x2 x4 (k0_pay10 (F := F)) := by
  unfold sout0_A_0
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  refine (Planes.store4 _ _ _ _ _ _ _ _ _ _ _).trans ?_
  unfold upd9
  congr 1
  · exact congrArg (fun v => k0_pay19 (k0_pay18 _ _ _ _ v)) (Planes.cov_base3 _ _ _ _)
  · exact congrArg (fun v => k0_pay25 (k0_pay24 _ _ _ _ v)) (Planes.cov_miss3 _ 1 0 (by decide) _ _ _ _ (Planes.cov_base3 _ _ _ _))
  · exact congrArg (k0_pay30 _ _ _ _) (Planes.cov_miss3 _ 2 1 (by decide) _ _ _ _ (Planes.cov_miss3 _ 2 0 (by decide) _ _ _ _ (Planes.cov_base3 _ _ _ _)))
  · exact congrArg (k0_pay35 _ _ _ _) (Planes.cov_miss3 _ 3 2 (by decide) _ _ _ _ (Planes.cov_miss3 _ 3 1 (by decide) _ _ _ _ (Planes.cov_miss3 _ 3 0 (by decide) _ _ _ _ (Planes.cov_base3 _ _ _ _))))

theorem acc10_A (hc0 : cond0_0 i) (hc1 : ¬cond0_1 i) : sout0_A_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 = upd10 x0 x2 (k0_pay11 (F := F)) := by
  unfold sout0_A_1
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  refine (Planes.storeR4 _ _ 512 1024 1536 _ _ _ _ _ _ _ _ _ rfl rfl rfl rfl).trans ?_
  unfold upd10
  congr 1
  · exact congrArg (k0_pay17 _ _) (Planes.loadCov _ _ _ (Rows.read_full _ _ _ _ _))
  · exact congrArg (k0_pay23 _ _) (Planes.cov_miss2 _ 512 0 (by decide) _ _ _ _ (Planes.loadCov _ _ _ (Rows.read_full _ _ _ _ _)))
  · exact congrArg (k0_pay29 _ _) (Planes.cov_miss2 _ 1024 512 (by decide) _ _ _ _ (Planes.cov_miss2 _ 1024 0 (by decide) _ _ _ _ (Planes.loadCov _ _ _ (Rows.read_full _ _ _ _ _))))
  · exact congrArg (k0_pay34 _ _) (Planes.cov_miss2 _ 1536 1024 (by decide) _ _ _ _ (Planes.cov_miss2 _ 1536 512 (by decide) _ _ _ _ (Planes.cov_miss2 _ 1536 0 (by decide) _ _ _ _ (Planes.loadCov _ _ _ (Rows.read_full _ _ _ _ _)))))

theorem dh_B (hc0 : ¬cond0_0 i) (hc1 : ¬cond0_1 i) : out0_B_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = dh x0 x2 x3 x4 x5 x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  rfl

theorem vec_B (hc0 : ¬cond0_0 i) (hc1 : ¬cond0_1 i) : out0_B_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = vec x0 x2 x3 x4 x5 x6 xo9 := by
  unfold out0_B_9
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  exact RowZero.store (Val := Elt F) (e := .f32) (k := 8) (n := 1024) _ _ 0 _ _ [] xo9 (harg10.read_unread xo9)

theorem acc9_B (hc0 : ¬cond0_0 i) (hc1 : ¬cond0_1 i) : sout0_B_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = upd9 x0 x1 x2 x4 xs0 := by
  unfold sout0_B_0
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  exact Planes.store4 _ _ _ _ _ _ _ _ _ _ _

theorem acc10_B (hc0 : ¬cond0_0 i) (hc1 : ¬cond0_1 i) : sout0_B_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = upd10 x0 x2 xs1 := by
  unfold sout0_B_1
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  exact Planes.storeR4 _ _ 512 1024 1536 _ _ _ _ _ _ _ _ _ rfl rfl rfl rfl

theorem dh_C (hc0 : ¬cond0_0 i) (hc1 : cond0_1 i) : out0_C_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = dh x0 x2 x3 x4 x5 x6 x7 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  rfl

theorem vec_C (hc0 : ¬cond0_0 i) (hc1 : cond0_1 i) : out0_C_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = vec x0 x2 x3 x4 x5 x6 xo9 := by
  unfold out0_C_9
  unfold kernelRun0_C
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  exact RowZero.store (Val := Elt F) (e := .f32) (k := 8) (n := 1024) _ _ 0 _ _ [] xo9 (harg10.read_unread xo9)

theorem copied7 (hc0 : ¬cond0_0 i) (hc1 : cond0_1 i) (f : HbBuf0 (F := F) c hbM0_0) (g : Buf (Elt F) (arg15.view.loc (c : Thread nD τ))) (h : Buf (Elt F) (arg16.view.loc (c : Thread nD τ))) :
    hbM0_0.view.read (Elt F) ((Out.runLast c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).1 f g h) = out7 (upd9 x0 x1 x2 x4 xs0) := by
  unfold Out.runLast
  dsimp only
  sl_unfold_words
  refine (Planes.copy4 hbM0_0 _ _ _ _ (fun _ => rfl) (fun _ => rfl) (fun _ => rfl) (fun _ => rfl) squeezes_S1x1024x512_S1024x512 squeezes_S1x1024x512_S1024x512 squeezes_S1x1024x512_S1024x512 squeezes_S1x1024x512_S1024x512 _ _ _ _ _).trans ?_
  unfold out7
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  congr 1
  all_goals
    refine (Rows.read_full arg15.view _ _ _ _).trans ?_
    exact congrArg k0_pay3 (Planes.loadCov arg13.view _ _ (Planes.store4 _ _ _ _ _ _ _ _ _ _ _))

theorem copied8 (hc0 : ¬cond0_0 i) (hc1 : cond0_1 i) (f : HbBuf0 (F := F) c hbM0_1) (g : Buf (Elt F) (arg15.view.loc (c : Thread nD τ))) (h : Buf (Elt F) (arg16.view.loc (c : Thread nD τ))) :
    hbM0_1.view.read (Elt F) ((Out.runLast c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.1 f g h) = out8 (upd10 x0 x2 xs1) := by
  unfold Out.runLast
  dsimp only
  sl_unfold_words
  refine (Planes.copy4 hbM0_1 _ _ _ _ (fun _ => rfl) (fun _ => rfl) (fun _ => rfl) (fun _ => rfl) squeezes_S1x512x1024_S512x1024 squeezes_S1x512x1024_S512x1024 squeezes_S1x512x1024_S512x1024 squeezes_S1x512x1024_S512x1024 _ _ _ _ _).trans ?_
  unfold out8
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x2048) hz, View.ld_unit_zero (S := S2048x1024) hz, View.ld_unit_zero (S := S1x1024) hz]
  congr 1
  all_goals
    refine (Rows.read_full arg16.view _ _ _ _).trans ?_
    exact congrArg k0_pay4 (Planes.loadCov arg14.view _ _ (Planes.storeR4 _ _ 512 1024 1536 _ _ _ _ _ _ _ _ _ rfl rfl rfl rfl))

theorem same8 (hc0 : ¬cond0_0 i) (hc1 : cond0_1 i) : (Out.runLast c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.2.1 = (kernelRun0_C c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).1 := rfl

theorem same9 (hc0 : ¬cond0_0 i) (hc1 : cond0_1 i) : (Out.runLast c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.2.2.1 = (kernelRun0_C c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.1 := rfl

end Cert.MlpBIdeal.Body

end
-- ==== Proof.MlpBPay.lean ====
/- The printed payloads of the second MLP backward call at the ideal floats, read at an index. -/
module

public import proofs.«01_k».proof.Proof.MlpBBody
public import proofs.«01_k».proof.Proof.MlpAPay

@[expose] public section

set_option maxRecDepth 16384

noncomputable section

namespace Cert.MlpBIdeal.Pay

open Cert.MlpBIdeal Cert.MlpBIdeal.Gen Cert.MlpBIdeal.Body Idealize.ShloMosaic Idealize.ShloMosaic.TcCoe Idealize.SL.Sem
open Cert.MlpAIdeal.Pay (mx du)

theorem pay15 (v : Vec Ideal S512x512 .bf16) (j : S512x512.Idx) : k0_pay15 (F := Ideal) v j = mx (v j) := by
  idx_vars j
  unfold mx
  pointwise [k0_pay15]

theorem pay21 (v : Vec Ideal S512x512 .bf16) (j : S512x512.Idx) : k0_pay21 (F := Ideal) v j = mx (v j) := by
  idx_vars j
  unfold mx
  pointwise [k0_pay21]

theorem pay27 (v : Vec Ideal S512x512 .bf16) (j : S512x512.Idx) : k0_pay27 (F := Ideal) v j = mx (v j) := by
  idx_vars j
  unfold mx
  pointwise [k0_pay27]

theorem pay32 (v : Vec Ideal S512x512 .bf16) (j : S512x512.Idx) : k0_pay32 (F := Ideal) v j = mx (v j) := by
  idx_vars j
  unfold mx
  pointwise [k0_pay32]

theorem pay16 (x : Vec Ideal S512x1024 .f32) (v : Vec Ideal S512x512 .bf16) (w : Vec Ideal S512x1024 .bf16) (p q : Fin 512) :
    k0_pay16 (F := Ideal) x v w (ix2 p q) = du (∑ r : Fin 1024, x (ix2 p r) * w (ix2 q r)) (v (ix2 p q)) := by
  unfold du
  rw [← pay15]
  pointwise [k0_pay16, k0_pay13]

theorem pay17 (x : Vec Ideal S512x1024 .f32) (v : Vec Ideal S512x512 .bf16) (a : Vec Ideal S512x1024 .f32) (p : Fin 512) (r : Fin 1024) :
    k0_pay17 (F := Ideal) x v a (ix2 p r) = a (ix2 p r) + ∑ i : Fin 512, mx (v (ix2 i p)) * mx (v (ix2 i p)) * x (ix2 i r) := by
  simp only [← pay15]
  pointwise [k0_pay17, k0_pay13]

theorem pay19 (x : Vec Ideal S512x1024 .f32) (z : Vec Ideal S512x1024 .bf16) (v : Vec Ideal S512x512 .bf16) (w : Vec Ideal S512x1024 .bf16) (a : Vec Ideal S1x1024x512 .f32) (r : Fin 1024) (q : Fin 512) :
    k0_pay19 (F := Ideal) (k0_pay18 x z v w a) (ix3 0 r q) = a (ix3 0 r q) + ∑ i : Fin 512, z (ix2 i r) * du (∑ r : Fin 1024, x (ix2 i r) * w (ix2 q r)) (v (ix2 i q)) := by
  simp only [← pay16]
  pointwise [k0_pay19, k0_pay18, k0_pay14]

theorem pay20 (b : Vec Ideal S512x1024 .f32) (d : Vec Ideal S512x512 .bf16) (w : Vec Ideal S1x1024x512 .bf16) (p : Fin 512) (r : Fin 1024) :
    k0_pay20 (F := Ideal) b d w (ix2 p r) = b (ix2 p r) + ∑ q : Fin 512, d (ix2 p q) * w (ix3 0 r q) := by
  pointwise [k0_pay20]

theorem pay22 (x : Vec Ideal S512x1024 .f32) (v : Vec Ideal S512x512 .bf16) (w : Vec Ideal S512x1024 .bf16) (p q : Fin 512) :
    k0_pay22 (F := Ideal) (k0_pay13 x) v w (ix2 p q) = du (∑ r : Fin 1024, x (ix2 p r) * w (ix2 q r)) (v (ix2 p q)) := by
  unfold du
  rw [← pay21]
  pointwise [k0_pay22, k0_pay13]

theorem pay23 (x : Vec Ideal S512x1024 .f32) (v : Vec Ideal S512x512 .bf16) (a : Vec Ideal S512x1024 .f32) (p : Fin 512) (r : Fin 1024) :
    k0_pay23 (F := Ideal) (k0_pay13 x) v a (ix2 p r) = a (ix2 p r) + ∑ i : Fin 512, mx (v (ix2 i p)) * mx (v (ix2 i p)) * x (ix2 i r) := by
  simp only [← pay21]
  pointwise [k0_pay23, k0_pay13]

theorem pay25 (x : Vec Ideal S512x1024 .f32) (z : Vec Ideal S512x1024 .bf16) (v : Vec Ideal S512x512 .bf16) (w : Vec Ideal S512x1024 .bf16) (a : Vec Ideal S1x1024x512 .f32) (r : Fin 1024) (q : Fin 512) :
    k0_pay25 (F := Ideal) (k0_pay24 (k0_pay13 x) (k0_pay14 z) v w a) (ix3 0 r q) = a (ix3 0 r q) + ∑ i : Fin 512, z (ix2 i r) * du (∑ r : Fin 1024, x (ix2 i r) * w (ix2 q r)) (v (ix2 i q)) := by
  simp only [← pay22]
  pointwise [k0_pay25, k0_pay24, k0_pay14]

theorem pay26 (b : Vec Ideal S512x1024 .f32) (d : Vec Ideal S512x512 .bf16) (w : Vec Ideal S1x1024x512 .bf16) (p : Fin 512) (r : Fin 1024) :
    k0_pay26 (F := Ideal) b d w (ix2 p r) = b (ix2 p r) + ∑ q : Fin 512, d (ix2 p q) * w (ix3 0 r q) := by
  pointwise [k0_pay26]

theorem pay28 (x : Vec Ideal S512x1024 .f32) (v : Vec Ideal S512x512 .bf16) (w : Vec Ideal S512x1024 .bf16) (p q : Fin 512) :
    k0_pay28 (F := Ideal) (k0_pay13 x) v w (ix2 p q) = du (∑ r : Fin 1024, x (ix2 p r) * w (ix2 q r)) (v (ix2 p q)) := by
  unfold du
  rw [← pay27]
  pointwise [k0_pay28, k0_pay13]

theorem pay29 (x : Vec Ideal S512x1024 .f32) (v : Vec Ideal S512x512 .bf16) (a : Vec Ideal S512x1024 .f32) (p : Fin 512) (r : Fin 1024) :
    k0_pay29 (F := Ideal) (k0_pay13 x) v a (ix2 p r) = a (ix2 p r) + ∑ i : Fin 512, mx (v (ix2 i p)) * mx (v (ix2 i p)) * x (ix2 i r) := by
  simp only [← pay27]
  pointwise [k0_pay29, k0_pay13]

theorem pay30 (x : Vec Ideal S512x1024 .f32) (z : Vec Ideal S512x1024 .bf16) (v : Vec Ideal S512x512 .bf16) (w : Vec Ideal S512x1024 .bf16) (a : Vec Ideal S1x1024x512 .f32) (r : Fin 1024) (q : Fin 512) :
    k0_pay30 (F := Ideal) (k0_pay13 x) (k0_pay14 z) v w a (ix3 0 r q) = a (ix3 0 r q) + ∑ i : Fin 512, z (ix2 i r) * du (∑ r : Fin 1024, x (ix2 i r) * w (ix2 q r)) (v (ix2 i q)) := by
  simp only [← pay28]
  pointwise [k0_pay30, k0_pay14]

theorem pay31 (b : Vec Ideal S512x1024 .f32) (d : Vec Ideal S512x512 .bf16) (w : Vec Ideal S1x1024x512 .bf16) (p : Fin 512) (r : Fin 1024) :
    k0_pay31 (F := Ideal) b d w (ix2 p r) = b (ix2 p r) + ∑ q : Fin 512, d (ix2 p q) * w (ix3 0 r q) := by
  pointwise [k0_pay31]

theorem pay33 (x : Vec Ideal S512x1024 .f32) (v : Vec Ideal S512x512 .bf16) (w : Vec Ideal S512x1024 .bf16) (p q : Fin 512) :
    k0_pay33 (F := Ideal) (k0_pay13 x) v w (ix2 p q) = du (∑ r : Fin 1024, x (ix2 p r) * w (ix2 q r)) (v (ix2 p q)) := by
  unfold du
  rw [← pay32]
  pointwise [k0_pay33, k0_pay13]

theorem pay34 (x : Vec Ideal S512x1024 .f32) (v : Vec Ideal S512x512 .bf16) (a : Vec Ideal S512x1024 .f32) (p : Fin 512) (r : Fin 1024) :
    k0_pay34 (F := Ideal) (k0_pay13 x) v a (ix2 p r) = a (ix2 p r) + ∑ i : Fin 512, mx (v (ix2 i p)) * mx (v (ix2 i p)) * x (ix2 i r) := by
  simp only [← pay32]
  pointwise [k0_pay34, k0_pay13]

theorem pay35 (x : Vec Ideal S512x1024 .f32) (z : Vec Ideal S512x1024 .bf16) (v : Vec Ideal S512x512 .bf16) (w : Vec Ideal S512x1024 .bf16) (a : Vec Ideal S1x1024x512 .f32) (r : Fin 1024) (q : Fin 512) :
    k0_pay35 (F := Ideal) (k0_pay13 x) (k0_pay14 z) v w a (ix3 0 r q) = a (ix3 0 r q) + ∑ i : Fin 512, z (ix2 i r) * du (∑ r : Fin 1024, x (ix2 i r) * w (ix2 q r)) (v (ix2 i q)) := by
  simp only [← pay33]
  pointwise [k0_pay35, k0_pay14]

theorem pay37 (b : Vec Ideal S512x1024 .f32) (d : Vec Ideal S512x512 .bf16) (w : Vec Ideal S1x1024x512 .bf16) (p : Fin 512) (r : Fin 1024) :
    k0_pay37 (F := Ideal) b d (k0_pay36 w) (constant S512x1024 .f32 0x00000000#32) (ix2 p r) = b (ix2 p r) + ∑ q : Fin 512, d (ix2 p q) * w (ix3 0 r q) := by
  pointwise [k0_pay37, k0_pay36]

theorem pay38 (x : Vec Ideal S512x1024 .f32) (p : Fin 512) :
    k0_pay38 (F := Ideal) x (ix2 p 0) = Ideal.rsqrt (Ideal.div (∑ k : Fin 1024, x (ix2 p k) * x (ix2 p k)) (Ideal.ofBits .f32 0x44800000#32) + Ideal.ofBits .f32 0x358637BD#32) := by
  pointwise [k0_pay38]

theorem pay39 (x : Vec Ideal S512x1024 .f32) (p : Fin 512) (q : Fin 1024) : k0_pay39 (F := Ideal) x (ix2 p q) = x (ix2 p q) * k0_pay38 (F := Ideal) x (ix2 p 0) := by
  pointwise [k0_pay39]

theorem pay40 (y b : Vec Ideal S512x1024 .f32) (d : Vec Ideal S512x512 .bf16) (w : Vec Ideal S1024x512 .bf16) (k : Vec Ideal S512x1024 .f32) (g : Vec Ideal S1x1024 .f32) (x : Vec Ideal S512x1024 .f32) (p : Fin 512) (q : Fin 1024) :
    k0_pay40 (F := Ideal) y b d w k g x (ix2 p q) = y (ix2 p q) + k0_pay38 (F := Ideal) x (ix2 p 0) *
        (k0_pay37 (F := Ideal) b d w k (ix2 p q) * g (ix2 0 q) - x (ix2 p q) * k0_pay38 (F := Ideal) x (ix2 p 0) *
          Ideal.div (∑ r : Fin 1024, k0_pay37 (F := Ideal) b d w k (ix2 p r) * g (ix2 0 r) * (x (ix2 p r) * k0_pay38 (F := Ideal) x (ix2 p 0))) (Ideal.ofBits .f32 0x44800000#32)) := by
  pointwise [k0_pay40, k0_pay39]

theorem pay41 (b : Vec Ideal S512x1024 .f32) (d : Vec Ideal S512x512 .bf16) (w : Vec Ideal S1024x512 .bf16) (k x : Vec Ideal S512x1024 .f32) (o : Vec Ideal S1x1024 .f32) (q : Fin 1024) :
    k0_pay41 (F := Ideal) b d w k x o (ix2 0 q) = o (ix2 0 q) + ∑ i : Fin 512, k0_pay37 (F := Ideal) b d w k (ix2 i q) * (x (ix2 i q) * k0_pay38 (F := Ideal) x (ix2 i 0)) := by
  pointwise [k0_pay41, k0_pay39]

theorem pay10 (j : S4x1024x512.Idx) : k0_pay10 (F := Ideal) j = 0 := by
  idx_vars j
  pointwise [k0_pay10]

theorem pay11 (j : S2048x1024.Idx) : k0_pay11 (F := Ideal) j = 0 := by
  idx_vars j
  pointwise [k0_pay11]

theorem pay12 (j : S8x1024.Idx) : k0_pay12 (F := Ideal) j = 0 := by
  idx_vars j
  pointwise [k0_pay12]

theorem pay3 (a : Vec Ideal S1x1024x512 .f32) (r : Fin 1024) (q : Fin 512) : k0_pay3 (F := Ideal) a (ix2 r q) = a (ix3 0 r q) := by
  pointwise [k0_pay3]

theorem pay4 (a : Vec Ideal S512x1024 .f32) (j : S512x1024.Idx) : k0_pay4 (F := Ideal) a j = a j := by
  idx_vars j
  pointwise [k0_pay4]

end Cert.MlpBIdeal.Pay

end
-- ==== Proof.MlpBSum.lean ====
/- What one point of the second MLP backward call makes of its blocks, index by index. -/
module

public import proofs.«01_k».proof.Proof.MlpBPay
public import proofs.«01_k».proof.Proof.MlpASum

@[expose] public section

set_option maxRecDepth 16384

noncomputable section

namespace Cert.MlpBIdeal.Sum

open Cert.MlpBIdeal Cert.MlpBIdeal.Gen Cert.MlpBIdeal.Body Cert.MlpBIdeal.Pay Idealize.ShloMosaic Idealize.ShloMosaic.TcCoe Idealize.SL.Sem
open Cert.Planes (col ld_cols ld_rows ld_plane planes4_at rows4_at stack4_at)
open Cert.MlpAIdeal.Pay (mx du)
open Cert.MlpAIdeal.Sum (gu)

variable (x0 : Vec Ideal S512x1024 .f32) (x1 : Vec Ideal S512x1024 .bf16) (x2 : Vec Ideal S512x2048 .bf16) (x3 : Vec Ideal S4x1024x512 .bf16) (x4 : Vec Ideal S2048x1024 .bf16) (x5 x6 : Vec Ideal S512x1024 .f32) (x7 : Vec Ideal S1x1024 .f32)

theorem upd9_at (acc : Vec Ideal S4x1024x512 .f32) (K : Fin 4) (r : Fin 1024) (q : Fin 512) :
    upd9 x0 x1 x2 x4 acc (ix3 K r q) = acc (ix3 K r q) + ∑ i : Fin 512, x1 (ix2 i r) * gu x0 x2 x4 i (col K q) := by
  unfold upd9 gu
  refine planes4_at (Val := Elt Ideal) (e := .f32) _ _ _ _ (fun K r q => acc (ix3 K r q) + ∑ i : Fin 512, x1 (ix2 i r) * du (∑ r : Fin 1024, x0 (ix2 i r) * x4 (ix2 (col K q) r)) (x2 (ix2 i (col K q)))) ?_ ?_ ?_ ?_ K r q
  · intro r q
    rw [pay19]
    refine congrArg₂ (· + ·) (ld_plane (Val := Elt Ideal) (e := .f32) acc 0 0 rfl _ r q) (Finset.sum_congr rfl fun i _ => congrArg _ (congrArg₂ du (Finset.sum_congr rfl fun r _ => congrArg _ ?_) ?_))
    · exact ld_rows (Val := Elt Ideal) (e := .bf16) x4 0 0 rfl _ q r
    · exact ld_cols (Val := Elt Ideal) (e := .bf16) x2 0 0 rfl _ i q
  · intro r q
    rw [pay25]
    refine congrArg₂ (· + ·) (ld_plane (Val := Elt Ideal) (e := .f32) acc 1 1 rfl _ r q) (Finset.sum_congr rfl fun i _ => congrArg _ (congrArg₂ du (Finset.sum_congr rfl fun r _ => congrArg _ ?_) ?_))
    · exact ld_rows (Val := Elt Ideal) (e := .bf16) x4 1 512 rfl _ q r
    · exact ld_cols (Val := Elt Ideal) (e := .bf16) x2 1 512 rfl _ i q
  · intro r q
    rw [pay30]
    refine congrArg₂ (· + ·) (ld_plane (Val := Elt Ideal) (e := .f32) acc 2 2 rfl _ r q) (Finset.sum_congr rfl fun i _ => congrArg _ (congrArg₂ du (Finset.sum_congr rfl fun r _ => congrArg _ ?_) ?_))
    · exact ld_rows (Val := Elt Ideal) (e := .bf16) x4 2 1024 rfl _ q r
    · exact ld_cols (Val := Elt Ideal) (e := .bf16) x2 2 1024 rfl _ i q
  · intro r q
    rw [pay35]
    refine congrArg₂ (· + ·) (ld_plane (Val := Elt Ideal) (e := .f32) acc 3 3 rfl _ r q) (Finset.sum_congr rfl fun i _ => congrArg _ (congrArg₂ du (Finset.sum_congr rfl fun r _ => congrArg _ ?_) ?_))
    · exact ld_rows (Val := Elt Ideal) (e := .bf16) x4 3 1536 rfl _ q r
    · exact ld_cols (Val := Elt Ideal) (e := .bf16) x2 3 1536 rfl _ i q

theorem upd10_at (acc : Vec Ideal S2048x1024 .f32) (J : Fin 2048) (r : Fin 1024) :
    upd10 x0 x2 acc (ix2 J r) = acc (ix2 J r) + ∑ i : Fin 512, mx (x2 (ix2 i J)) * mx (x2 (ix2 i J)) * x0 (ix2 i r) := by
  unfold upd10
  refine rows4_at (Val := Elt Ideal) (e := .f32) _ _ _ _ _ (fun J r => acc (ix2 J r) + ∑ i : Fin 512, mx (x2 (ix2 i J)) * mx (x2 (ix2 i J)) * x0 (ix2 i r)) ?_ ?_ ?_ ?_ J r
  · intro p r
    rw [pay17]
    refine congrArg₂ (· + ·) (ld_rows (Val := Elt Ideal) (e := .f32) acc 0 0 rfl _ p r) (Finset.sum_congr rfl fun i _ => ?_)
    exact congrArg (fun u => mx u * mx u * x0 (ix2 i r)) (ld_cols (Val := Elt Ideal) (e := .bf16) x2 0 0 rfl _ i p)
  · intro p r
    rw [pay23]
    refine congrArg₂ (· + ·) (ld_rows (Val := Elt Ideal) (e := .f32) acc 1 512 rfl _ p r) (Finset.sum_congr rfl fun i _ => ?_)
    exact congrArg (fun u => mx u * mx u * x0 (ix2 i r)) (ld_cols (Val := Elt Ideal) (e := .bf16) x2 1 512 rfl _ i p)
  · intro p r
    rw [pay29]
    refine congrArg₂ (· + ·) (ld_rows (Val := Elt Ideal) (e := .f32) acc 2 1024 rfl _ p r) (Finset.sum_congr rfl fun i _ => ?_)
    exact congrArg (fun u => mx u * mx u * x0 (ix2 i r)) (ld_cols (Val := Elt Ideal) (e := .bf16) x2 2 1024 rfl _ i p)
  · intro p r
    rw [pay34]
    refine congrArg₂ (· + ·) (ld_rows (Val := Elt Ideal) (e := .f32) acc 3 1536 rfl _ p r) (Finset.sum_congr rfl fun i _ => ?_)
    exact congrArg (fun u => mx u * mx u * x0 (ix2 i r)) (ld_cols (Val := Elt Ideal) (e := .bf16) x2 3 1536 rfl _ i p)

/-- The cotangent of the normed rows, a block. -/
def dzB : Vec Ideal S512x1024 .f32 := k0_pay37 (dz3 x0 x2 x3 x4 x5) (k0_pay33 (k0_pay13 x0) (View.ld x2 (Rect.unit (s := S512x2048) ![0, 1536] S512x512.size inb_S512x2048_S512x512_0_1536)) (View.ld x4 (Rect.unit (s := S2048x1024) ![1536, 0] S512x1024.size inb_S2048x1024_S512x1024_1536_0))) (k0_pay36 (View.ld x3 (Rect.unit (s := S4x1024x512) ![3, 0, 0] S1x1024x512.size inb_S4x1024x512_S1x1024x512_3_0_0))) (constant S512x1024 .f32 0x00000000#32)

theorem dz_at (p : Fin 512) (r : Fin 1024) : dzB x0 x2 x3 x4 x5 (ix2 p r) = x5 (ix2 p r) +
    ((∑ q : Fin 512, gu x0 x2 x4 p (col 0 q) * x3 (ix3 0 r q)) + (∑ q : Fin 512, gu x0 x2 x4 p (col 1 q) * x3 (ix3 1 r q)) + (∑ q : Fin 512, gu x0 x2 x4 p (col 2 q) * x3 (ix3 2 r q)) + ∑ q : Fin 512, gu x0 x2 x4 p (col 3 q) * x3 (ix3 3 r q)) := by
  unfold dzB dz3 gu
  rw [pay37, pay31, pay26, pay20]
  simp only [← add_assoc]
  refine congrArg₂ (· + ·) (congrArg₂ (· + ·) (congrArg₂ (· + ·) (congrArg _ ?_) ?_) ?_) ?_
  · refine Finset.sum_congr rfl fun q _ => congrArg₂ (· * ·) ?_ (ld_plane (Val := Elt Ideal) (e := .bf16) x3 0 0 rfl _ r q)
    rw [pay16]
    refine congrArg₂ du (Finset.sum_congr rfl fun r _ => congrArg _ ?_) ?_
    · exact ld_rows (Val := Elt Ideal) (e := .bf16) x4 0 0 rfl _ q r
    · exact ld_cols (Val := Elt Ideal) (e := .bf16) x2 0 0 rfl _ p q
  · refine Finset.sum_congr rfl fun q _ => congrArg₂ (· * ·) ?_ (ld_plane (Val := Elt Ideal) (e := .bf16) x3 1 1 rfl _ r q)
    rw [pay22]
    refine congrArg₂ du (Finset.sum_congr rfl fun r _ => congrArg _ ?_) ?_
    · exact ld_rows (Val := Elt Ideal) (e := .bf16) x4 1 512 rfl _ q r
    · exact ld_cols (Val := Elt Ideal) (e := .bf16) x2 1 512 rfl _ p q
  · refine Finset.sum_congr rfl fun q _ => congrArg₂ (· * ·) ?_ (ld_plane (Val := Elt Ideal) (e := .bf16) x3 2 2 rfl _ r q)
    rw [pay28]
    refine congrArg₂ du (Finset.sum_congr rfl fun r _ => congrArg _ ?_) ?_
    · exact ld_rows (Val := Elt Ideal) (e := .bf16) x4 2 1024 rfl _ q r
    · exact ld_cols (Val := Elt Ideal) (e := .bf16) x2 2 1024 rfl _ p q
  · refine Finset.sum_congr rfl fun q _ => congrArg₂ (· * ·) ?_ (ld_plane (Val := Elt Ideal) (e := .bf16) x3 3 3 rfl _ r q)
    rw [pay33]
    refine congrArg₂ du (Finset.sum_congr rfl fun r _ => congrArg _ ?_) ?_
    · exact ld_rows (Val := Elt Ideal) (e := .bf16) x4 3 1536 rfl _ q r
    · exact ld_cols (Val := Elt Ideal) (e := .bf16) x2 3 1536 rfl _ p q

theorem dh_at (p : Fin 512) (q : Fin 1024) : dh x0 x2 x3 x4 x5 x6 x7 (ix2 p q) = x0 (ix2 p q) + k0_pay38 (F := Ideal) x6 (ix2 p 0) *
        (dzB x0 x2 x3 x4 x5 (ix2 p q) * x7 (ix2 0 q) - x6 (ix2 p q) * k0_pay38 (F := Ideal) x6 (ix2 p 0) *
          Ideal.div (∑ r : Fin 1024, dzB x0 x2 x3 x4 x5 (ix2 p r) * x7 (ix2 0 r) * (x6 (ix2 p r) * k0_pay38 (F := Ideal) x6 (ix2 p 0))) (Ideal.ofBits .f32 0x44800000#32)) :=
  pay40 _ _ _ _ _ _ _ p q

theorem vec_at (old : Vec Ideal S8x1024 .f32) (i : Fin 8) (q : Fin 1024) : vec x0 x2 x3 x4 x5 x6 old (ix2 i q) =
    if i.val = 0 then old (ix2 0 q) + ∑ p : Fin 512, dzB x0 x2 x3 x4 x5 (ix2 p q) * (x6 (ix2 p q) * k0_pay38 (F := Ideal) x6 (ix2 p 0)) else old (ix2 i q) := by
  unfold vec RowZero.upd
  refine if_congr Iff.rfl ?_ rfl
  exact (pay41 _ _ _ _ _ _ q).trans (congrArg (· + _) (RowZero.ld (Val := Elt Ideal) (e := .f32) old 0 (by decide) _ q))

theorem out7_at (acc : Vec Ideal S4x1024x512 .f32) (K : Fin 4) (r : Fin 1024) (q : Fin 512) : out7 acc (ix3 K r q) = acc (ix3 K r q) := by
  unfold out7
  refine stack4_at (Val := Elt Ideal) (e := .bf16) _ _ _ _ (fun K r q => acc (ix3 K r q)) ?_ ?_ ?_ ?_ K r q
  · exact fun r q => (pay3 _ r q).trans (ld_plane (Val := Elt Ideal) (e := .f32) acc 0 0 rfl _ r q)
  · exact fun r q => (pay3 _ r q).trans (ld_plane (Val := Elt Ideal) (e := .f32) acc 1 1 rfl _ r q)
  · exact fun r q => (pay3 _ r q).trans (ld_plane (Val := Elt Ideal) (e := .f32) acc 2 2 rfl _ r q)
  · exact fun r q => (pay3 _ r q).trans (ld_plane (Val := Elt Ideal) (e := .f32) acc 3 3 rfl _ r q)

theorem out8_at (acc : Vec Ideal S2048x1024 .f32) (K : Fin 4) (q : Fin 512) (r : Fin 1024) : out8 acc (ix3 K q r) = acc (ix2 (col K q) r) := by
  unfold out8
  refine stack4_at (Val := Elt Ideal) (e := .bf16) _ _ _ _ (fun K q r => acc (ix2 (col K q) r)) ?_ ?_ ?_ ?_ K q r
  · exact fun q r => (pay4 _ _).trans (ld_rows (Val := Elt Ideal) (e := .f32) acc 0 0 rfl _ q r)
  · exact fun q r => (pay4 _ _).trans (ld_rows (Val := Elt Ideal) (e := .f32) acc 1 512 rfl _ q r)
  · exact fun q r => (pay4 _ _).trans (ld_rows (Val := Elt Ideal) (e := .f32) acc 2 1024 rfl _ q r)
  · exact fun q r => (pay4 _ _).trans (ld_rows (Val := Elt Ideal) (e := .f32) acc 3 1536 rfl _ q r)

end Cert.MlpBIdeal.Sum

end
-- ==== Proof.MlpBBlocks.lean ====
/- The blocks the points of the second MLP backward call read, from the arrays. -/
module

public import proofs.«01_k».proof.Proof.MlpBBody
public import proofs.«01_k».proof.Proof.MlpABlocks
public import Idealize.ShloMosaic.Lib.Pipeline.ValueKit.Point

@[expose] public section

set_option maxRecDepth 16384

noncomputable section

namespace Cert.MlpBIdeal.Blocks

open Cert.MlpBIdeal Cert.MlpBIdeal.Gen Idealize.ShloMosaic Idealize.ShloMosaic.TcCoe Idealize.SL.Sem
open Cert.MlpAIdeal.Blocks (row zE zH zH_apply upH upH_apply msE)

variable (m : (ℓ : Loc nD τ sig) → Buf (Elt Ideal) ℓ) (c : Dev nD) (t : Fin cfg0.N)

/-- Column `J` of the second half of the columns. -/
def high (J : Fin 2048) : Fin 4096 := ⟨2048 + J.val, by omega⟩

theorem lt16 : t.val < 16 := N_0 ▸ t.isLt

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 1 := by decide +kernel
theorem idx4 : ∀ t : Fin cfg0.N, win0_4.index t 0 = 1 ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = 0 ∧ win0_7.index t 1 = 0 := by decide +kernel
theorem idx3 : ∀ t : Fin cfg0.N, win0_3.index t 0 = 1 ∧ win0_3.index t 1 = 0 ∧ win0_3.index t 2 = 0 := by decide +kernel

theorem blk0 (p : Fin 512) (q : Fin 1024) :
    (iblk m c 0 t : Vec Ideal S512x1024 .f32) (ix2 p q) = (m ((c : Thread nD τ).loc main_arg5) : Vec Ideal S8192x1024 .f32) (ix2 (row t.val (lt16 t) p) q) := by
  have h := idx0 t
  blk_ext [iblk, V, h.1, h.2, row]

theorem blk5 (p : Fin 512) (q : Fin 1024) :
    (iblk m c 5 t : Vec Ideal S512x1024 .f32) (ix2 p q) = (m ((c : Thread nD τ).loc main_arg4) : Vec Ideal S8192x1024 .f32) (ix2 (row t.val (lt16 t) p) q) := by
  have h := idx5 t
  blk_ext [iblk, V, h.1, h.2, row]

theorem blk6 (p : Fin 512) (q : Fin 1024) :
    (iblk m c 6 t : Vec Ideal S512x1024 .f32) (ix2 p q) = (m ((c : Thread nD τ).loc main_arg0) : Vec Ideal S8192x1024 .f32) (ix2 (row t.val (lt16 t) p) q) := by
  have h := idx6 t
  blk_ext [iblk, V, h.1, h.2, row]

theorem blk7 (q : Fin 1024) :
    (iblk m c 7 t : Vec Ideal S1x1024 .f32) (ix2 0 q) = (m ((c : Thread nD τ).loc main_arg1) : Vec Ideal S1x1024 .f32) (ix2 0 q) := by
  have h := idx7 t
  blk_ext [iblk, V, h.1, h.2]

theorem blk1 (p : Fin 512) (q : Fin 1024) :
    (iblk m c 1 t : Vec Ideal S512x1024 .bf16) (ix2 p q) = zE (m ((c : Thread nD τ).loc main_arg0)) (m ((c : Thread nD τ).loc main_arg1)) (row t.val (lt16 t) p) q := by
  have h := idx1 t
  rw [← zH_apply]
  unfold iblk
  rw [View.read_apply]
  show V m c main_v16 _ = _
  entry_read
  refine (congrArg _ (show _ = (ix2 (row t.val (lt16 t) p) q : S8192x1024.Idx) from by blk_ext [h.1, h.2, row])).trans ?_
  rfl

theorem blk2 (p : Fin 512) (J : Fin 2048) :
    (iblk m c 2 t : Vec Ideal S512x2048 .bf16) (ix2 p J) = ∑ r : Fin 1024, zE (m ((c : Thread nD τ).loc main_arg0)) (m ((c : Thread nD τ).loc main_arg1)) (row t.val (lt16 t) p) r * (m ((c : Thread nD τ).loc main_arg2) : Vec Ideal S1x1024x4096 .f32) (ix3 0 r (high J)) := by
  have h := idx2 t
  rw [← upH_apply]
  unfold iblk
  rw [View.read_apply]
  show V m c main_v17 _ = _
  entry_read
  refine (congrArg _ (show _ = (ix2 (row t.val (lt16 t) p) (high J) : S8192x4096.Idx) from by blk_ext [h.1, h.2, row, high])).trans ?_
  rfl

theorem blk3 (K : Fin 4) (r : Fin 1024) (q : Fin 512) :
    (iblk m c 3 t : Vec Ideal S4x1024x512 .bf16) (ix3 K r q) = (m ((c : Thread nD τ).loc main_arg2) : Vec Ideal S1x1024x4096 .f32) (ix3 0 r (high (Planes.col K q))) := by
  have h := idx3 t
  unfold iblk
  rw [View.read_apply]
  show V m c main_v21 _ = _
  entry_read
  refine (congrArg _ (show _ = (ix3 (⟨4 + K.val, by omega⟩ : Fin 8) r q : S8x1024x512.Idx) from by blk_ext [h.1, h.2.1, h.2.2])).trans ?_
  pointwise [high, Planes.col]
  refine congrArg (m ((c : Thread nD τ).loc main_arg2)) (congrArg (ix3 0 r) (Fin.ext ?_))
  show (4 + K.val) * 512 + q.val = 2048 + (512 * K.val + q.val)
  omega

theorem blk4 (J : Fin 2048) (q : Fin 1024) :
    (iblk m c 4 t : Vec Ideal S2048x1024 .bf16) (ix2 J q) = (m ((c : Thread nD τ).loc main_arg3) : Vec Ideal S1x4096x1024 .f32) (ix3 0 (high J) q) := by
  have h := idx4 t
  unfold iblk
  rw [View.read_apply]
  show V m c main_v23 _ = _
  entry_read
  refine (congrArg _ (show _ = (ix2 (high J) q : S4096x1024.Idx) from by blk_ext [h.1, h.2, high])).trans ?_
  pointwise

end Cert.MlpBIdeal.Blocks

end
-- ==== Proof.MlpBPoints.lean ====
/- What the points of the second MLP backward call leave, from the blocks and what the point before left. -/
module

public import proofs.«01_k».proof.Proof.MlpBBody

@[expose] public section

set_option maxRecDepth 16384

noncomputable section

namespace Cert.MlpBIdeal.Points

open Cert.MlpBIdeal Cert.MlpBIdeal.Gen Cert.MlpBIdeal.Body Idealize.ShloMosaic Idealize.ShloMosaic.TcCoe Idealize.SL.Sem

variable {F : FTy → Type} [FloatOps F]
variable (m : (ℓ : Loc nD τ sig) → Buf (Elt F) ℓ) (c : Dev nD) (t : Fin cfg0.N)

/-- Each point's block of the input's gradient. -/
theorem out_dh : (outsAt0 m c t.val t.isLt).1 = dh (iblk m c 0 t) (iblk m c 2 t) (iblk m c 3 t) (iblk m c 4 t) (iblk m c 5 t) (iblk m c 6 t) (iblk m c 7 t) := by
  by_cases h0 : t.val % 16 = 0
  · have h1 : ¬t.val % 16 = 15 := by omega
    rw [outsAt0_A m c t h0 h1]
    dsimp only
    rw [dh_A]
  · by_cases h1 : t.val % 16 = 15
    · rw [outsAt0_C m c t h0 h1]
      dsimp only
      rw [dh_C]
    · rw [outsAt0_B m c t h0 h1]
      dsimp only
      rw [dh_B]

theorem vec_first (h0 : t.val % 16 = 0) : (outsAt0 m c t.val t.isLt).2.1 = vec (iblk m c 0 t) (iblk m c 2 t) (iblk m c 3 t) (iblk m c 4 t) (iblk m c 5 t) (iblk m c 6 t) k0_pay12 := by
  rw [outsAt0_A m c t h0 (by omega)]
  dsimp only
  rw [vec_A]

theorem vec_next (h0 : ¬t.val % 16 = 0) : (outsAt0 m c t.val t.isLt).2.1 =
    vec (iblk m c 0 t) (iblk m c 2 t) (iblk m c 3 t) (iblk m c 4 t) (iblk m c 5 t) (iblk m c 6 t) (outsAt0 m c (t.val - 1) (Nat.lt_of_le_of_lt (Nat.sub_le _ _) t.isLt)).2.1 := by
  by_cases h1 : t.val % 16 = 15
  · rw [outsAt0_C m c t h0 h1]
    dsimp only
    rw [vec_C]
  · rw [outsAt0_B m c t h0 h1]
    dsimp only
    rw [vec_B]

theorem up_first (h0 : t.val % 16 = 0) : (outsAt0 m c t.val t.isLt).2.2.1 = upd9 (iblk m c 0 t) (iblk m c 1 t) (iblk m c 2 t) (iblk m c 4 t) k0_pay10 := by
  rw [outsAt0_A m c t h0 (by omega)]
  dsimp only
  rw [acc9_A]

theorem up_next (h0 : ¬t.val % 16 = 0) (h1 : ¬t.val % 16 = 15) : (outsAt0 m c t.val t.isLt).2.2.1 =
    upd9 (iblk m c 0 t) (iblk m c 1 t) (iblk m c 2 t) (iblk m c 4 t) (outsAt0 m c (t.val - 1) (Nat.lt_of_le_of_lt (Nat.sub_le _ _) t.isLt)).2.2.1 := by
  rw [outsAt0_B m c t h0 h1]
  dsimp only
  rw [acc9_B]

theorem dn_first (h0 : t.val % 16 = 0) : (outsAt0 m c t.val t.isLt).2.2.2 = upd10 (iblk m c 0 t) (iblk m c 2 t) k0_pay11 := by
  rw [outsAt0_A m c t h0 (by omega)]
  dsimp only
  rw [acc10_A]

theorem dn_next (h0 : ¬t.val % 16 = 0) (h1 : ¬t.val % 16 = 15) : (outsAt0 m c t.val t.isLt).2.2.2 =
    upd10 (iblk m c 0 t) (iblk m c 2 t) (outsAt0 m c (t.val - 1) (Nat.lt_of_le_of_lt (Nat.sub_le _ _) t.isLt)).2.2.2 := by
  rw [outsAt0_B m c t h0 h1]
  dsimp only
  rw [acc10_B]

end Cert.MlpBIdeal.Points

end
-- ==== Proof.MlpBOut.lean ====
/- The run of the second MLP backward call with the two results it leaves in HBM named: the invariant after the last grid point holds
  them at the contents copied out of the accumulators. -/
module

public import proofs.«01_k».proof.Proof.MlpBBody
public import Idealize.ShloMosaic.Lib.Pipeline.FrameValue

@[expose] public section

set_option maxRecDepth 16384

noncomputable section

namespace Cert.MlpBIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpBIdeal Cert.MlpBIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first result at point `t`'s end, were it the last. -/
def res0 (c : Dev nD) (t : Fin cfg0.N) : Vec F S4x1024x512 .bf16 := Body.out7 (Body.upd9 (iblk m c 0 t) (iblk m c 1 t) (iblk m c 2 t) (iblk m c 4 t) (outsAt0 m c (t.val - 1) (Nat.lt_of_le_of_lt (Nat.sub_le _ _) t.isLt)).2.2.1)

/-- The second result. -/
def res1 (c : Dev nD) (t : Fin cfg0.N) : Vec F S4x512x1024 .bf16 := Body.out8 (Body.upd10 (iblk m c 0 t) (iblk m c 2 t) (outsAt0 m c (t.val - 1) (Nat.lt_of_le_of_lt (Nat.sub_le _ _) t.isLt)).2.2.2)

/-- The last point. -/
def tl : Fin cfg0.N := ⟨15, by rw [show cfg0.N = 16 from N_0]; omega⟩

/-- What is held after the last point: the scratch at anything, the two results at their contents. -/
def PhiEnd (c : Dev nD) (t : Fin cfg0.N) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(emp)
    ∗ iprop(hbPt0 c hbM0_0 ((Memref.isWhole_whole main_v24_2).unread (res0 m c t)) ∗ hbPt0 c hbM0_1 ((Memref.isWhole_whole main_v24_3).unread (res1 m c t))))

/-- The invariant before position `n`: the carried one, and at the end the results named. -/
def PhiV (c : Dev nD) (n : ℕ) (h : n ≤ cfg0.N) : sProp 𝕄 := if n = 16 then PhiEnd m c tl else PhiS m c n h

theorem PhiV_ne (c : Dev nD) (n : ℕ) (h : n ≤ cfg0.N) (hn : n ≠ 16) : PhiV m c n h = PhiS m c n h := if_neg hn

theorem PhiV_end (c : Dev nD) (n : ℕ) (h : n ≤ cfg0.N) (hn : n = 16) : PhiV m c n h = PhiEnd m c tl := if_pos hn

/-- The proof data with that invariant. -/
def datsV (p : Fin 1) (c : Dev nD) : Dat τ (Elt F) Unit ℕ (Pipeline.UD sig nD τ) ℕ cfg0 c :=
  { dats m p c with Φ := fun t => PhiV m c t.val (Nat.le_of_lt_succ t.isLt) }

/-- What the body is called with at point `t`, -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d))
    ∗ (∃ d, owns (c : Thread nD τ) (ms0_8 t) fullShare ((datsV m 0 c).before 8 t d))
    ∗ (∃ d, owns (c : Thread nD τ) (ms0_9 t) fullShare ((datsV m 0 c).before 9 t d)))

/-- and what it returns. -/
def postV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t)
    ∗ owns (c : Thread nD τ) (ms0_6 t) fullShare ((datsV m 0 c).after 6 t)
    ∗ owns (c : Thread nD τ) (ms0_7 t) fullShare ((datsV m 0 c).after 7 t)
    ∗ owns (c : Thread nD τ) (ms0_8 t) fullShare ((datsV m 0 c).after 8 t)
    ∗ owns (c : Thread nD τ) (ms0_9 t) fullShare ((datsV m 0 c).after 9 t))

/-- What the last point returns. -/
def postL (c : Dev nD) (t : Fin cfg0.N) : sProp 𝕄 :=
  iprop(PhiEnd m c t ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The last point: the run's triple with the results it copies out named. -/
theorem sound_last (c : Dev nD) (t : Fin cfg0.N) (h0 : ¬t.val % 16 = 0) (h1 : t.val % 16 = 15) :
    bodyPre m c t ⊢ wp frame (wpE (defs₀ (F := F)) Variants.none c none) Set.univ (bodyAt0 t) (fun _ => postL m c t) := by
  unfold bodyPre postL bodyAt0 PhiEnd res0 res1
  simp only [before0_0, before0_1, before0_2, before0_3, before0_4, before0_5, before0_6, before0_7]
  rw [after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hz : t.val ≠ 0 := by intro h; rw [h] at h1; exact absurd h1 (by decide)
  rw [PhiS_castSucc m c t, PhiS_pos m c _ _ hz]
  simp only [before0_9_C m c t h0 h1]
  rw [outsAt0_C m c t h0 h1]
  dsimp only
  unfold out0_C_8 out0_C_9; (try dsimp only)
  iintro ⟨⟨⟨HS0, HS1, HS2, HS3⟩, Hg, ⟨Hq0, Hq1, Hq2, Hq3, Hq4, Hq5, Hq6, Hq7⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runLast c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _).2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [HW]; · iexact HW
  iintro ⟨H0, H1, H2, H3, H4, H5, H6, H7, ⟨%e8, H8⟩, H9, ⟨%es0, HS0⟩, ⟨%es1, HS1⟩, HS2, HS3, Hq0, Hq1, Hq2, Hq3, Hq4, Hq5, Hq6, Hq7, ⟨%f0, %g0, %k0, Hh0⟩, ⟨%f1, %g1, %k1, Hh1⟩, ⟨%W', HW'⟩⟩
  isplitl [HS0 HS1 HS2 HS3 Hg Hq0 Hq1 Hq2 Hq3 Hq4 Hq5 Hq6 Hq7 Hh0 Hh1]
  · isplitl [HS0 HS1 HS2 HS3]
    · isplitl [HS0]
      · unfold owns; iexists _, _; isplitr
        swap; · iexact HS0
        ipureintro; rfl
      isplitl [HS1]
      · unfold owns; iexists _, _; isplitr
        swap; · iexact HS1
        ipureintro; rfl
      isplitl [HS2]; · iexact HS2
      iexact HS3
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr; · iempintro
    isplitl [Hh0]
    · rw [← (Memref.isWhole_whole main_v24_2).eq_unread (Body.copied7 c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ (fun h => h0 ((hcond0_0 t).mp h)) ((hcond0_1 t).mpr h1) f0 g0 k0)]; iexact Hh0
    · rw [← (Memref.isWhole_whole main_v24_3).eq_unread (Body.copied8 c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ (fun h => h0 ((hcond0_0 t).mp h)) ((hcond0_1 t).mpr h1) f1 g1 k1)]; iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [Body.same8]; exact View.read_writes_of_cover _ _ _ _ _ (cover0_C_8 c _ _ _ _ _ _ _ _ _ _ _ _ _ _ _ _ _ _ _ _ _ _ _ _ _ _ _ _ _ _ _ _ _ _ _ _ _ _ _ _ _ _)
  unfold owns; iexists _; isplitr
  swap; · iexact H9
  ipureintro; rw [Body.same9]

/-- Before any point the invariant is the carried one. -/
theorem PhiV_castSucc (c : Dev nD) (t : Fin cfg0.N) : (datsV m 0 c).Φ t.castSucc = (dats m 0 c).Φ t.castSucc := by
  have hN : t.val < 16 := lt_of_lt_of_eq t.isLt (show cfg0.N = 16 from N_0)
  exact if_neg (show ¬ t.val = 16 by omega)

theorem beforeV (c : Dev nD) (w : Fin 10) (t : Fin cfg0.N) (d) : (datsV m 0 c).before w t d = (dats m 0 c).before w t d := rfl

theorem pre_eq (c : Dev nD) (t : Fin cfg0.N) : preV m c t = bodyPre m c t := by
  unfold preV bodyPre
  rw [PhiV_castSucc]
  simp only [beforeV]
  rfl

/-- The body at any point. -/
theorem sound_V (c : Dev nD) (t : Fin cfg0.N) :
    preV m c t ⊢ wp frame (wpE (defs₀ (F := F)) Variants.none c none) Set.univ (bodyAt0 t) (fun _ => postV m c t) := by
  rw [pre_eq]
  have hN : t.val < 16 := lt_of_lt_of_eq t.isLt (show cfg0.N = 16 from N_0)
  by_cases h : t.val = 15
  · have e : postV m c t = postL m c t := by
      have et : t = tl := Fin.ext h
      unfold postV postL
      rw [show (datsV m 0 c).Φ t.succ = PhiEnd m c t from (if_pos (show t.val + 1 = 16 by omega)).trans (by rw [et])]
      rfl
    rw [e]
    exact sound_last m c t (by omega) (by omega)
  · have e : postV m c t = bodyPost m c t := by
      unfold postV bodyPost
      rw [show (datsV m 0 c).Φ t.succ = (dats m 0 c).Φ t.succ from if_neg (show ¬ t.val + 1 = 16 by omega)]
      rfl
    rw [e]
    exact sound_body m c t

theorem obligation (c : Dev nD) : BodyObligation (datsV (F := F) m 0 c) (defs₀ (F := F)) Variants.none () Set.univ := fun t => by
  rw [bigSep_W0, bigSep_W0, defs₀_row]
  exact triple_restated (sound_V m c t) rfl .rfl fun _ => .rfl

/-- The buffers at the end: the two results at their contents. -/
def G (c : Dev nD) : (b : Ref sig .tc) → Buf (Elt F) ((c.tc : Thread nD τ).loc b) :=
  Function.update (Function.update (V m c) main_v24_2 ((Memref.isWhole_whole main_v24_2).unread (res0 m c tl))) main_v24_3 ((Memref.isWhole_whole main_v24_3).unread (res1 m c tl))

theorem inV (c : Dev nD) : Pipeline.ΦDRG osem0 spec0 H0 R0 (V m) (V m) c ⊢ (datsV m 0 c).Φ 0 :=
  (Pipeline.ΦDRG_ΦDR osem0 spec0 H0 R0 (V m) (V m) c).trans (by
    rw [show (datsV m 0 c).Φ 0 = (dats m 0 c).Φ 0 from PhiV_ne m c 0 (Nat.zero_le _) (by decide)]
    exact hin m c)

theorem routed_list (c : Dev nD) : (Pipeline.routed R0 c (G m c) : sProp 𝕄)
    = iprop(hbPt0 c hbM0_0 ((Memref.isWhole_whole main_v24_2).unread (res0 m c tl)) ∗ hbPt0 c hbM0_1 ((Memref.isWhole_whole main_v24_3).unread (res1 m c tl))) := by
  unfold Pipeline.routed G
  rw [BI.bigSep_eq_bigSepL_of_eq [main_v24_2, main_v24_3] (by decide) (by decide)]
  simp only [BI.bigSepL_cons_cons, BI.bigSepL_singleton, Function.update_self, Function.update_of_ne (show main_v24_2 ≠ main_v24_3 by decide)]
  rfl

theorem outV (c : Dev nD) : (datsV m 0 c).Φ (Fin.last cfg0.N) ⊢ Pipeline.ΦDRG osem0 spec0 H0 R0 (V m) (G m) c := by
  rw [show (datsV m 0 c).Φ (Fin.last cfg0.N) = PhiEnd m c tl from PhiV_end m c cfg0.N le_rfl N_0]
  rw [Pipeline.ΦDRG_eq, scopedRest0_eq, ownSems00_eq, hbmPts0_eq, routed_list]
  unfold PhiEnd
  simp only [scM0_0, scM0_1, scM0_2, scM0_3, owns_whole]
  try exact Idealize.SL.BI.Entails.refl _

set_option backward.isDefEq.respectTransparency.types false in
/-- The run, with the two results left in HBM at their contents. -/
theorem run : θ_run defs (onTc (τ := τ) (main (F := F))) (s₀ m ρ) (Pipeline.FramePostRG cfgs (datsV m) 0 R0 (V m) (G m)) :=
  Pipeline.θ_run_frame_dmaRG (Q' := _) cfgs (datsV m) (0 : Fin 1) launch0 osem0 defs₀ Variants.none ownSemFacts0 H0 R0 H0_sub R0_sub m ρ main
    (hbody := fun c => (obligation m c).loose) (hshare := fun c => (datsV m 0 c).share_full fun _ => rfl)
    (howed := fun _ _ => rfl) (V := V m) (hmain := hmain m Variants.none) (hA := A_eq m) (G := G m)
    (hin := inV m) (hout := outV m)

/-- What the run leaves of the windows is what the carried invariant's run leaves of them. -/
theorem post_R {r : PUnit × MemSt nD τ sig (Elt F)} (h : Pipeline.FramePostRG cfgs (datsV m) 0 R0 (V m) (G m) r) : Pipeline.FramePostR cfgs (dats m) 0 R0 (V m) r := h.toR

/-- The first result left in HBM. -/
theorem post_0 {r : PUnit × MemSt nD τ sig (Elt F)} (h : Pipeline.FramePostRG cfgs (datsV m) 0 R0 (V m) (G m) r) (c : Dev nD) :
    r.2.mem ((c.tc : Thread nD τ).loc main_v24_2) = (Memref.isWhole_whole main_v24_2).unread (res0 m c tl) :=
  (h.written c (b := main_v24_2) (by decide)).trans (by
    unfold G; rw [Function.update_of_ne (show main_v24_2 ≠ main_v24_3 by decide), Function.update_self])

/-- The second. -/
theorem post_1 {r : PUnit × MemSt nD τ sig (Elt F)} (h : Pipeline.FramePostRG cfgs (datsV m) 0 R0 (V m) (G m) r) (c : Dev nD) :
    r.2.mem ((c.tc : Thread nD τ).loc main_v24_3) = (Memref.isWhole_whole main_v24_3).unread (res1 m c tl) :=
  (h.written c (b := main_v24_3) (by decide)).trans (by unfold G; rw [Function.update_self])

end Cert.MlpBIdeal.Out

end
-- ==== Proof.RmsGrad.lean ====
/-
  The gradient of the root-mean-square norm over one row of finite numbers: the form a kernel writes by hand,
  `r · (d − x̂ · mean (d · x̂))`, against the form automatic differentiation gives, where the row statistic's
  cotangent `Σ (−1/2) · (r / s) · (Σ x · d) / n` is added once for each of the two factors of `x · x`.
-/
module

public import Idealize.ShloMosaic.PureOps.Ideal
public import Idealize.ShloMosaic.Lib.IdealHost

@[expose] public section

noncomputable section

namespace Cert.RmsGrad

open Idealize.ShloMosaic

/-- The sum of finite numbers is the finite number that is their sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem bits_1024 : Ideal.ofBits .f32 0x44800000#32 = ((1024 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

/-- The printed epsilon is a positive real. -/
theorem bits_eps : ∃ e : ℝ, 0 < e ∧ Ideal.ofBits .f32 0x358637BD#32 = (e : EReal) := by
  refine ⟨_, ?_, by simp [Ideal.ofBits, Ideal.ieee, -EReal.coe_mul]; rfl⟩
  norm_num

/-- Root of a positive real, reciprocal. -/
theorem rsqrt_pos {s : ℝ} (h : 0 < s) : Ideal.rsqrt (s : EReal) = (((Real.sqrt s)⁻¹ : ℝ) : EReal) := by
  rw [Ideal.rsqrt_coe, if_neg (not_lt.mpr h.le), if_neg h.ne']

section
variable {n : ℕ} (N E : ℝ) (X D : Fin n → ℝ)

/-- The row statistic: the mean square and the epsilon. -/
def stat : ℝ := (∑ k, X k * X k) * (1 / N) + E

theorem stat_pos (hN : 0 < N) (hE : 0 < E) : 0 < stat N E X := by
  unfold stat
  have h : 0 ≤ ∑ k, X k * X k := Finset.sum_nonneg fun k _ => mul_self_nonneg _
  have := mul_nonneg h (by positivity : (0 : ℝ) ≤ 1 / N)
  linarith

theorem coe_stat (hN : 0 < N) : Ideal.div (∑ k, ((X k : ℝ) : EReal) * ((X k : ℝ) : EReal)) (N : EReal) + (E : EReal) = ((stat N E X : ℝ) : EReal) := by
  simp only [← EReal.coe_mul, coe_sum, Ideal.div_coe hN.ne', ← EReal.coe_add]
  rfl

/-- The reciprocal root of the row statistic. -/
def inv : ℝ := (Real.sqrt (stat N E X))⁻¹

theorem coe_inv (hN : 0 < N) (hE : 0 < E) : Ideal.rsqrt (Ideal.div (∑ k, ((X k : ℝ) : EReal) * ((X k : ℝ) : EReal)) (N : EReal) + (E : EReal)) = ((inv N E X : ℝ) : EReal) := by
  rw [coe_stat N E X hN, rsqrt_pos (stat_pos N E X hN hE)]
  rfl

theorem inv_sq (hN : 0 < N) (hE : 0 < E) : 1 / stat N E X = inv N E X * inv N E X := by
  unfold inv
  rw [← mul_inv, Real.mul_self_sqrt (stat_pos N E X hN hE).le, one_div]

/-- The two forms agree on the reals. -/
theorem real_eq (hN : 0 < N) (hE : 0 < E) (j : Fin n) :
    inv N E X * (D j - X j * inv N E X * ((∑ k, D k * (X k * inv N E X)) * (1 / N)))
      = D j * inv N E X + X j * ((∑ k, X k * D k) * (-(1 / 2) * (inv N E X * (1 / stat N E X))) * (1 / N))
        + (∑ k, X k * D k) * (-(1 / 2) * (inv N E X * (1 / stat N E X))) * (1 / N) * X j := by
  rw [inv_sq N E X hN hE]
  have h : ∑ k, D k * (X k * inv N E X) = inv N E X * ∑ k, X k * D k := by
    rw [Finset.mul_sum]; exact Finset.sum_congr rfl fun k _ => by ring
  rw [h]
  ring

/-- The two forms agree on the extended reals where the row and its cotangent are finite; what is added to them, `dh`,
    may be anything. -/
theorem ereal_eq (hN : 0 < N) (hE : 0 < E) (j : Fin n) (dh S R T : EReal)
    (hS : S = Ideal.div (∑ k, ((X k : ℝ) : EReal) * ((X k : ℝ) : EReal)) (N : EReal) + (E : EReal)) (hR : R = Ideal.rsqrt S)
    (hT : T = Ideal.div ((∑ k, ((X k : ℝ) : EReal) * ((D k : ℝ) : EReal)) * (((-(1 / 2) : ℝ) : EReal) * Ideal.div R S)) (N : EReal)) :
    dh + R * (((D j : ℝ) : EReal) - ((X j : ℝ) : EReal) * R * Ideal.div (∑ k, ((D k : ℝ) : EReal) * (((X k : ℝ) : EReal) * R)) (N : EReal))
      = dh + ((D j : ℝ) : EReal) * R + ((X j : ℝ) : EReal) * T + T * ((X j : ℝ) : EReal) := by
  have hS' := hS.trans (coe_stat N E X hN)
  have hR' : R = ((inv N E X : ℝ) : EReal) := by rw [hR, hS]; exact coe_inv N E X hN hE
  rw [hT, hR', hS', Ideal.div_coe (stat_pos N E X hN hE).ne']
  simp only [← EReal.coe_mul, coe_sum, Ideal.div_coe hN.ne', ← EReal.coe_sub]
  rw [real_eq N E X D hN hE j, EReal.coe_add, EReal.coe_add, ← add_assoc, ← add_assoc]

end

end Cert.RmsGrad

end
-- ==== Proof.NormGrad.lean ====
/- The gradient of the row norm as a reference states it, from the cotangent of the normed rows, and its equality with the
  form the kernels compute. -/
module

public import proofs.«01_k».proof.Proof.MlpARead
public import proofs.«01_k».proof.Proof.RmsGrad
public import proofs.«01_k».proof.Proof.Gen.MlpBRefIdeal.Run

@[expose] public section

set_option maxRecDepth 16384

noncomputable section

namespace Cert.NormGrad

open Cert.MlpBRefIdeal Cert.MlpBRefIdeal.Gen Idealize.ShloMosaic Idealize.ShloMosaic.TcCoe Idealize.SL.Sem

variable (x h d : FVec Ideal S8192x1024 .f32) (g : FVec Ideal S1x1024 .f32)

/-- The row statistic, mean square and epsilon. -/
def ms : FVec Ideal S8192x1 .f32 := addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem ms_apply (p : Fin 8192) : ms x (ix2 p 0) = Ideal.div (∑ k : Fin 1024, x (ix2 p k) * x (ix2 p k)) (Ideal.ofBits .f32 0x44800000#32) + Ideal.ofBits .f32 0x358637BD#32 := by
  pointwise [ms]

/-- Its reciprocal root. -/
def rs : FVec Ideal S8192x1 .f32 := Host.rsqrt (ms x)

theorem rs_apply (p : Fin 8192) : rs x (ix2 p 0) = Ideal.rsqrt (ms x (ix2 p 0)) := rfl

/-- The cotangent of the normed row before the scale. -/
def dg : FVec Ideal S8192x1024 .f32 := mulf d (broadcastInDim S8192x1024 ![0, 1] bcast_S1x1024_S8192x1024_0_1 (broadcastInDim S1x1024 ![1] bcast_S1024_S1x1024_1 (shapeCast S1024 g shapeCasts_S1x1024_S1024)))

theorem dg_apply (p : Fin 8192) (q : Fin 1024) : dg d g (ix2 p q) = d (ix2 p q) * g (ix2 0 q) := by
  pointwise [dg]

/-- What the row statistic's cotangent adds to each factor of `x * x`. -/
def tt : FVec Ideal S8192x1024 .f32 := broadcastInDim S8192x1024 ![0] bcast_S8192_S8192x1024_0 (Host.reduceAdd (Host.divf (mulf (shapeCast S8192x1 (Host.reduceAdd (mulf x (dg d g)) (constant S_ .f32 0x00000000#32) reducesTo_S8192x1024_S8192_d1 h_S_) shapeCasts_S8192_S8192x1) (mulf (broadcastInDim S8192x1 ![] bcast_S_S8192x1 (constant S_ .f32 0xBF000000#32)) (Host.divf (rs x) (ms x)))) (broadcastInDim S8192x1 ![] bcast_S_S8192x1 (constant S_ .f32 0x44800000#32))) (constant S_ .f32 0x00000000#32) reducesTo_S8192x1_S8192_d1 h_S_)

theorem tt_apply (p : Fin 8192) (q : Fin 1024) : tt x d g (ix2 p q) =
    Ideal.div ((∑ k : Fin 1024, x (ix2 p k) * dg d g (ix2 p k)) * (Ideal.ofBits .f32 0xBF000000#32 * Ideal.div (rs x (ix2 p 0)) (ms x (ix2 p 0)))) (Ideal.ofBits .f32 0x44800000#32) := by
  pointwise [tt]
  exact Fin.sum_univ_one _

/-- The gradient of the input. -/
def dx : FVec Ideal S8192x1024 .f32 := addf (addf (addf h (mulf (dg d g) (broadcastInDim S8192x1024 ![0, 1] bcast_S8192x1_S8192x1024_0_1 (rs x)))) (mulf x (tt x d g))) (mulf (tt x d g) x)

theorem dx_apply (p : Fin 8192) (q : Fin 1024) : dx x h d g (ix2 p q) =
    h (ix2 p q) + dg d g (ix2 p q) * rs x (ix2 p 0) + x (ix2 p q) * tt x d g (ix2 p q) + tt x d g (ix2 p q) * x (ix2 p q) := by
  pointwise [dx]

/-- The gradient of the norm's scale, above seven rows of zeros. -/
def vec : FVec Ideal S8x1024 .f32 := concatenate S8x1024 0 [⟨S1x1024, (broadcastInDim S1x1024 ![1] bcast_S1024_S1x1024_1 (Host.reduceAdd (shapeCast S1x1024 (Host.reduceAdd (mulf (mulf x (broadcastInDim S8192x1024 ![0, 1] bcast_S8192x1_S8192x1024_0_1 (rs x))) d) (constant S_ .f32 0x00000000#32) reducesTo_S8192x1024_S1024_d0 h_S_) shapeCasts_S1024_S1x1024) (constant S_ .f32 0x00000000#32) reducesTo_S1x1024_S1024_d0 h_S_))⟩, ⟨S7x1024, (broadcastInDim S7x1024 ![] bcast_S_S7x1024 (constant S_ .f32 0x00000000#32))⟩] concatenates_S1x1024_S7x1024_S8x1024_d0

theorem vec_apply (p : Fin 8) (q : Fin 1024) : vec x d (ix2 p q) =
    if p.val = 0 then ∑ k : Fin 8192, x (ix2 k q) * rs x (ix2 k 0) * d (ix2 k q) else 0 := by
  pointwise [vec]
  simp only [Fin.sum_univ_one, Nat.lt_one_iff, dite_eq_ite]

/-- The gradient of the input as the kernels compute it, an element. -/
def gx (p : Fin 8192) (q : Fin 1024) : EReal :=
  h (ix2 p q) + Ideal.rsqrt (ms x (ix2 p 0)) * (d (ix2 p q) * g (ix2 0 q) - x (ix2 p q) * Ideal.rsqrt (ms x (ix2 p 0)) *
    Ideal.div (∑ k : Fin 1024, d (ix2 p k) * g (ix2 0 k) * (x (ix2 p k) * Ideal.rsqrt (ms x (ix2 p 0)))) (Ideal.ofBits .f32 0x44800000#32))

/-- The two forms agree on finite rows. -/
theorem agree (p : Fin 8192) (q : Fin 1024) (X D : Fin 1024 → ℝ) (hX : ∀ k, x (ix2 p k) = ((X k : ℝ) : EReal)) (hD : ∀ k, d (ix2 p k) * g (ix2 0 k) = ((D k : ℝ) : EReal)) :
    gx x h d g p q = dx x h d g (ix2 p q) := by
  obtain ⟨e, he, hE⟩ := RmsGrad.bits_eps
  have hS : ms x (ix2 p 0) = Ideal.div (∑ k : Fin 1024, ((X k : ℝ) : EReal) * ((X k : ℝ) : EReal)) ((1024 : ℝ) : EReal) + (e : EReal) := by
    rw [ms_apply, RmsGrad.bits_1024, hE]
    simp only [hX]
  have hdg : ∀ k : Fin 1024, dg d g (ix2 p k) = ((D k : ℝ) : EReal) := fun k => (dg_apply _ _ p k).trans (hD k)
  have hT : tt x d g (ix2 p q) = Ideal.div ((∑ k : Fin 1024, ((X k : ℝ) : EReal) * ((D k : ℝ) : EReal)) * (((-(1 / 2) : ℝ) : EReal) * Ideal.div (Ideal.rsqrt (ms x (ix2 p 0))) (ms x (ix2 p 0)))) ((1024 : ℝ) : EReal) := by
    rw [tt_apply, RmsGrad.bits_1024, RmsGrad.bits_neg_half, rs_apply]
    simp only [hX, hdg]
  have key := RmsGrad.ereal_eq 1024 e X D (by norm_num) he q (h (ix2 p q)) _ _ _ hS rfl hT
  refine Eq.trans ?_ (key.trans ?_)
  · unfold gx
    simp only [hD, hX, RmsGrad.bits_1024]
  · rw [dx_apply, hdg, hX, rs_apply]

end Cert.NormGrad

end
-- ==== Proof.MlpBFold.lean ====
/- The accumulators of the second MLP backward call as sums over the blocks of rows, and its four results index by index. -/
module

public import proofs.«01_k».proof.Proof.MlpBSum
public import proofs.«01_k».proof.Proof.MlpBBlocks
public import proofs.«01_k».proof.Proof.MlpBPoints
public import proofs.«01_k».proof.Proof.MlpBOut
public import proofs.«01_k».proof.Proof.MlpAFold
public import proofs.«01_k».proof.Proof.NormGrad

@[expose] public section

set_option maxRecDepth 16384

noncomputable section

namespace Cert.MlpBIdeal.Fold

open Cert.MlpBIdeal Cert.MlpBIdeal.Gen Cert.MlpBIdeal.Body Cert.MlpBIdeal.Pay Cert.MlpBIdeal.Sum Cert.MlpBIdeal.Blocks Idealize.ShloMosaic Idealize.ShloMosaic.TcCoe Idealize.SL.Sem
open Cert.Planes (col)
open Cert.MlpAIdeal.Pay (mx du)
open Cert.MlpAIdeal.Sum (gu)
open Cert.MlpAIdeal.Blocks (row zE)
open Cert.MlpAIdeal.Fold (ix3_of ix2_of)

variable (m : (ℓ : Loc nD τ sig) → Buf (Elt Ideal) ℓ) (c : Dev nD)

/-- The arguments. -/
abbrev ah : Vec Ideal S8192x1024 .f32 := m ((c : Thread nD τ).loc main_arg0)
abbrev ag : Vec Ideal S1x1024 .f32 := m ((c : Thread nD τ).loc main_arg1)
abbrev au : Vec Ideal S1x1024x4096 .f32 := m ((c : Thread nD τ).loc main_arg2)
abbrev ad : Vec Ideal S1x4096x1024 .f32 := m ((c : Thread nD τ).loc main_arg3)
abbrev az : Vec Ideal S8192x1024 .f32 := m ((c : Thread nD τ).loc main_arg4)
abbrev ay : Vec Ideal S8192x1024 .f32 := m ((c : Thread nD τ).loc main_arg5)

/-- The up-projection, an element. -/
def uE (i : Fin 8192) (J : Fin 2048) : EReal := ∑ r : Fin 1024, zE (ah m c) (ag m c) i r * au m c (ix3 0 r (high J))

/-- Its cotangent. -/
def gE (i : Fin 8192) (J : Fin 2048) : EReal := du (∑ r : Fin 1024, ay m c (ix2 i r) * ad m c (ix3 0 (high J) r)) (uE m c i J)

variable (t : Fin cfg0.N)

theorem blk_u (p : Fin 512) (J : Fin 2048) : (iblk m c 2 t : Vec Ideal S512x2048 .bf16) (ix2 p J) = uE m c (row t.val (lt16 t) p) J := blk2 m c t p J

theorem gu_blk (p : Fin 512) (J : Fin 2048) : gu (iblk m c 0 t) (iblk m c 2 t) (iblk m c 4 t) p J = gE m c (row t.val (lt16 t) p) J := by
  unfold gu gE
  exact congrArg₂ du (Finset.sum_congr rfl fun r _ => congrArg₂ _ (blk0 m c t p r) (blk4 m c t J r)) (blk_u m c t p J)

/-- What block `n` of the rows adds to the up-projection's gradient. -/
def upPart (n : ℕ) (r : Fin 1024) (J : Fin 2048) : EReal := if h : n < 16 then ∑ i : Fin 512, zE (ah m c) (ag m c) (row n h i) r * gE m c (row n h i) J else 0

/-- What it adds to the down-projection's. -/
def dnPart (n : ℕ) (J : Fin 2048) (r : Fin 1024) : EReal := if h : n < 16 then ∑ i : Fin 512, mx (uE m c (row n h i) J) * mx (uE m c (row n h i) J) * ay m c (ix2 (row n h i) r) else 0

theorem upd9_blk (acc : Vec Ideal S4x1024x512 .f32) (K : Fin 4) (r : Fin 1024) (q : Fin 512) :
    upd9 (iblk m c 0 t) (iblk m c 1 t) (iblk m c 2 t) (iblk m c 4 t) acc (ix3 K r q) = acc (ix3 K r q) + upPart m c t.val r (col K q) := by
  refine (upd9_at _ _ _ _ _ _ _ _).trans (congrArg (acc (ix3 K r q) + ·) ?_)
  unfold upPart
  rw [dif_pos (lt16 t)]
  exact Finset.sum_congr rfl fun i _ => congrArg₂ _ (blk1 m c t i r) (gu_blk m c t i (col K q))

theorem upd10_blk (acc : Vec Ideal S2048x1024 .f32) (J : Fin 2048) (r : Fin 1024) :
    upd10 (iblk m c 0 t) (iblk m c 2 t) acc (ix2 J r) = acc (ix2 J r) + dnPart m c t.val J r := by
  refine (upd10_at _ _ _ _ _).trans (congrArg (acc (ix2 J r) + ·) ?_)
  unfold dnPart
  rw [dif_pos (lt16 t)]
  exact Finset.sum_congr rfl fun i _ => congrArg₂ _ (congrArg (fun u => mx u * mx u) (blk_u m c t i J)) (blk0 m c t i r)

/-- The cotangent of the normed rows. -/
def dzE : Vec Ideal S8192x1024 .f32 := fun i => az m c i + ∑ J : Fin 2048, gE m c (i 0) J * au m c (ix3 0 (i 1) (high J))

theorem dz_blk (p : Fin 512) (r : Fin 1024) : dzB (iblk m c 0 t) (iblk m c 2 t) (iblk m c 3 t) (iblk m c 4 t) (iblk m c 5 t) (ix2 p r) = dzE m c (ix2 (row t.val (lt16 t) p) r) := by
  have hk : ∀ K : Fin 4, (∑ q : Fin 512, gu (iblk m c 0 t) (iblk m c 2 t) (iblk m c 4 t) p (col K q) * (iblk m c 3 t : Vec Ideal S4x1024x512 .bf16) (ix3 K r q))
      = ∑ q : Fin 512, gE m c (row t.val (lt16 t) p) (col K q) * au m c (ix3 0 r (high (col K q))) := fun K =>
    Finset.sum_congr rfl fun q _ => congrArg₂ _ (gu_blk m c t p (col K q)) (blk3 m c t K r q)
  refine (dz_at _ _ _ _ _ p r).trans ?_
  unfold dzE
  rw [Planes.sum4]
  exact congrArg₂ (· + ·) (blk5 m c t p r) (congrArg₂ (· + ·) (congrArg₂ (· + ·) (congrArg₂ (· + ·) (hk 0) (hk 1)) (hk 2)) (hk 3))

/-- The reciprocal root of a row's statistic. -/
def rs (i : Fin 8192) : EReal := Ideal.rsqrt (NormGrad.ms (ah m c) (ix2 i 0))

theorem rs_blk (p : Fin 512) : k0_pay38 (F := Ideal) (iblk m c 6 t) (ix2 p 0) = rs m c (row t.val (lt16 t) p) := by
  rw [pay38]
  unfold rs
  rw [NormGrad.ms_apply]
  exact congrArg (fun s => Ideal.rsqrt (Ideal.div s _ + _)) (Finset.sum_congr rfl fun k _ => congrArg₂ _ (blk6 m c t p k) (blk6 m c t p k))

/-- The block of the input's gradient. -/
theorem dh_blk (p : Fin 512) (q : Fin 1024) : dh (iblk m c 0 t) (iblk m c 2 t) (iblk m c 3 t) (iblk m c 4 t) (iblk m c 5 t) (iblk m c 6 t) (iblk m c 7 t) (ix2 p q) =
    NormGrad.gx (ah m c) (ay m c) (dzE m c) (ag m c) (row t.val (lt16 t) p) q := by
  refine (dh_at _ _ _ _ _ _ _ p q).trans ?_
  have e7 : ∀ k : Fin 1024, (iblk m c 7 t : Vec Ideal S1x1024 .f32) (ix2 0 k) = ag m c (ix2 0 k) := blk7 m c t
  have e6 : ∀ k : Fin 1024, (iblk m c 6 t : Vec Ideal S512x1024 .f32) (ix2 p k) = ah m c (ix2 (row t.val (lt16 t) p) k) := blk6 m c t p
  have e0 : (iblk m c 0 t : Vec Ideal S512x1024 .f32) (ix2 p q) = ay m c (ix2 (row t.val (lt16 t) p) q) := blk0 m c t p q
  have er : k0_pay38 (F := Ideal) (iblk m c 6 t) (ix2 p 0) = Ideal.rsqrt (NormGrad.ms (ah m c) (ix2 (row t.val (lt16 t) p) 0)) := rs_blk m c t p
  have ed : ∀ k : Fin 1024, dzB (iblk m c 0 t) (iblk m c 2 t) (iblk m c 3 t) (iblk m c 4 t) (iblk m c 5 t) (ix2 p k) = dzE m c (ix2 (row t.val (lt16 t) p) k) := dz_blk m c t p
  unfold NormGrad.gx
  generalize k0_pay38 (F := Ideal) (iblk m c 6 t) (ix2 p 0) = r at er ⊢
  generalize dzB (iblk m c 0 t) (iblk m c 2 t) (iblk m c 3 t) (iblk m c 4 t) (iblk m c 5 t) = d at ed ⊢
  generalize (iblk m c 7 t : Vec Ideal S1x1024 .f32) = g at e7 ⊢
  generalize (iblk m c 6 t : Vec Ideal S512x1024 .f32) = x at e6 ⊢
  generalize (iblk m c 0 t : Vec Ideal S512x1024 .f32) = y at e0 ⊢
  rw [e0, e7, e6, ed, er]
  simp only [e7, e6, ed]

/-- What block `n` of the rows adds to the scale's gradient. -/
def vecPart (n : ℕ) (q : Fin 1024) : EReal := if h : n < 16 then ∑ k : Fin 512, dzE m c (ix2 (row n h k) q) * (ah m c (ix2 (row n h k) q) * rs m c (row n h k)) else 0

/-- The vectors' buffer after point `n`: row 0 the sum over the blocks so far, the other rows zero. -/
def vecAcc (n : ℕ) : Vec Ideal S8x1024 .f32 := fun j => if (j 0).val = 0 then ∑ s ∈ Finset.range (n + 1), vecPart m c s (j 1) else 0

theorem ix2_of8 (j : S8x1024.Idx) : ∃ (i : Fin 8) (q : Fin 1024), j = ix2 i q := ⟨j 0, j 1, by funext a; match a with | ⟨0, _⟩ => rfl | ⟨1, _⟩ => rfl⟩

theorem vec_blk (old : Vec Ideal S8x1024 .f32) (i : Fin 8) (q : Fin 1024) :
    vec (iblk m c 0 t) (iblk m c 2 t) (iblk m c 3 t) (iblk m c 4 t) (iblk m c 5 t) (iblk m c 6 t) old (ix2 i q) = if i.val = 0 then old (ix2 0 q) + vecPart m c t.val q else old (ix2 i q) := by
  refine (vec_at _ _ _ _ _ _ old i q).trans (if_congr Iff.rfl (congrArg (old (ix2 0 q) + ·) ?_) rfl)
  unfold vecPart
  rw [dif_pos (lt16 t)]
  exact Finset.sum_congr rfl fun k _ => congrArg₂ _ (dz_blk m c t k q) (congrArg₂ _ (blk6 m c t k q) (rs_blk m c t k))

theorem vec_eq : ∀ (n : ℕ) (hn : n < cfg0.N), (outsAt0 m c n hn).2.1 = vecAcc m c n
  | 0, hn => by
    rw [Points.vec_first m c ⟨0, hn⟩ rfl]
    funext j
    obtain ⟨i, q, rfl⟩ := ix2_of8 j
    rw [vec_blk m c ⟨0, hn⟩, pay12, pay12, zero_add]
    exact if_congr Iff.rfl (Finset.sum_range_one (fun s => vecPart m c s q)).symm rfl
  | n + 1, hn => by
    have hN : n + 1 < 16 := lt_of_lt_of_eq hn N_0
    have h0 : ¬(⟨n + 1, hn⟩ : Fin cfg0.N).val % 16 = 0 := by dsimp only; omega
    refine (Points.vec_next m c ⟨n + 1, hn⟩ h0).trans ?_
    rw [show (outsAt0 m c ((⟨n + 1, hn⟩ : Fin cfg0.N).val - 1) (Nat.lt_of_le_of_lt (Nat.sub_le _ _) hn)).2.1 = vecAcc m c n from vec_eq n (by omega)]
    funext j
    obtain ⟨i, q, rfl⟩ := ix2_of8 j
    refine (vec_blk m c ⟨n + 1, hn⟩ (vecAcc m c n) i q).trans ?_
    by_cases hi : i.val = 0
    · rw [if_pos hi]
      refine (Finset.sum_range_succ (fun s => vecPart m c s q) (n + 1)).symm.trans ?_
      exact (if_pos (show ((ix2 i q : S8x1024.Idx) 0).val = 0 from hi)).symm
    · rw [if_neg hi]
      exact (if_neg (show ¬((ix2 i q : S8x1024.Idx) 0).val = 0 from hi)).trans (if_neg (show ¬((ix2 i q : S8x1024.Idx) 0).val = 0 from hi)).symm

/-- The accumulators after point `n`. -/
def upAcc (n : ℕ) : Vec Ideal S4x1024x512 .f32 := fun j => ∑ s ∈ Finset.range (n + 1), upPart m c s (j 1) (col (j 0) (j 2))
def dnAcc (n : ℕ) : Vec Ideal S2048x1024 .f32 := fun j => ∑ s ∈ Finset.range (n + 1), dnPart m c s (j 0) (j 1)

theorem upd9_next (n : ℕ) (hn : n + 1 < cfg0.N) : upd9 (iblk m c 0 ⟨n + 1, hn⟩) (iblk m c 1 ⟨n + 1, hn⟩) (iblk m c 2 ⟨n + 1, hn⟩) (iblk m c 4 ⟨n + 1, hn⟩) (upAcc m c n) = upAcc m c (n + 1) := by
  funext j
  obtain ⟨K, r, q, rfl⟩ := ix3_of j
  exact (upd9_blk m c ⟨n + 1, hn⟩ _ K r q).trans (Finset.sum_range_succ (fun s => upPart m c s r (col K q)) (n + 1)).symm

theorem upd10_next (n : ℕ) (hn : n + 1 < cfg0.N) : upd10 (iblk m c 0 ⟨n + 1, hn⟩) (iblk m c 2 ⟨n + 1, hn⟩) (dnAcc m c n) = dnAcc m c (n + 1) := by
  funext j
  obtain ⟨J, r, rfl⟩ := ix2_of j
  exact (upd10_blk m c ⟨n + 1, hn⟩ _ J r).trans (Finset.sum_range_succ (fun s => dnPart m c s J r) (n + 1)).symm

theorem up_eq : ∀ (n : ℕ) (hn : n < cfg0.N), n < 15 → (outsAt0 m c n hn).2.2.1 = upAcc m c n
  | 0, hn, _ => by
    rw [Points.up_first m c ⟨0, hn⟩ rfl]
    funext j
    obtain ⟨K, r, q, rfl⟩ := ix3_of j
    rw [upd9_blk m c ⟨0, hn⟩, pay10, zero_add]
    exact (Finset.sum_range_one (fun s => upPart m c s r (col K q))).symm
  | n + 1, hn, h => by
    have h0 : ¬(⟨n + 1, hn⟩ : Fin cfg0.N).val % 16 = 0 := by dsimp only; omega
    have h1 : ¬(⟨n + 1, hn⟩ : Fin cfg0.N).val % 16 = 15 := by dsimp only; omega
    rw [Points.up_next m c ⟨n + 1, hn⟩ h0 h1, ← upd9_next m c n hn, ← up_eq n (by omega) (by omega)]
    rfl

theorem dn_eq : ∀ (n : ℕ) (hn : n < cfg0.N), n < 15 → (outsAt0 m c n hn).2.2.2 = dnAcc m c n
  | 0, hn, _ => by
    rw [Points.dn_first m c ⟨0, hn⟩ rfl]
    funext j
    obtain ⟨J, r, rfl⟩ := ix2_of j
    rw [upd10_blk m c ⟨0, hn⟩, pay11, zero_add]
    exact (Finset.sum_range_one (fun s => dnPart m c s J r)).symm
  | n + 1, hn, h => by
    have h0 : ¬(⟨n + 1, hn⟩ : Fin cfg0.N).val % 16 = 0 := by dsimp only; omega
    have h1 : ¬(⟨n + 1, hn⟩ : Fin cfg0.N).val % 16 = 15 := by dsimp only; omega
    rw [Points.dn_next m c ⟨n + 1, hn⟩ h0 h1, ← upd10_next m c n hn, ← dn_eq n (by omega) (by omega)]
    rfl

theorem res0_eq (n : ℕ) (hn : n + 1 < cfg0.N) (h : n < 15) : Out.res0 m c ⟨n + 1, hn⟩ = out7 (upAcc m c (n + 1)) := by
  rw [← upd9_next m c n hn, ← up_eq m c n (by omega) h]
  rfl

theorem res1_eq (n : ℕ) (hn : n + 1 < cfg0.N) (h : n < 15) : Out.res1 m c ⟨n + 1, hn⟩ = out8 (dnAcc m c (n + 1)) := by
  rw [← upd10_next m c n hn, ← dn_eq m c n (by omega) h]
  rfl

theorem last : ∃ h : 14 + 1 < cfg0.N, Out.tl = ⟨14 + 1, h⟩ := ⟨by rw [show cfg0.N = 16 from N_0]; decide, rfl⟩

/-- The first result left in HBM, an element. -/
theorem res0_at (K : Fin 4) (r : Fin 1024) (q : Fin 512) : Out.res0 m c Out.tl (ix3 K r q) = ∑ i : Fin 8192, zE (ah m c) (ag m c) i r * gE m c i (col K q) := by
  obtain ⟨h, e⟩ := last
  rw [e, res0_eq m c 14 h (by decide), out7_at, Fin.sum_univ_tiles 16 512 rfl]
  refine (Finset.sum_range (fun s => upPart m c s r (col K q))).trans (Finset.sum_congr rfl fun j _ => ?_)
  unfold upPart
  rw [dif_pos j.isLt]
  rfl

/-- The second. -/
theorem res1_at (K : Fin 4) (q : Fin 512) (r : Fin 1024) : Out.res1 m c Out.tl (ix3 K q r) = ∑ i : Fin 8192, mx (uE m c i (col K q)) * mx (uE m c i (col K q)) * ay m c (ix2 i r) := by
  obtain ⟨h, e⟩ := last
  rw [e, res1_eq m c 14 h (by decide), out8_at, Fin.sum_univ_tiles 16 512 rfl]
  refine (Finset.sum_range (fun s => dnPart m c s (col K q) r)).trans (Finset.sum_congr rfl fun j _ => ?_)
  unfold dnPart
  rw [dif_pos j.isLt]
  rfl

end Cert.MlpBIdeal.Fold

end
-- ==== Proof.MlpBRead.lean ====
/- The reference of the second MLP backward call, its stages read at an index. -/
module

public import proofs.«01_k».proof.Proof.Gen.MlpBRefIdeal.Run
public import proofs.«01_k».proof.Proof.NormGrad
public import Idealize.ShloMosaic.Lib.Pointwise
public import Idealize.ShloMosaic.Lib.Tactic

@[expose] public section

set_option maxRecDepth 16384

noncomputable section

namespace Cert.MlpBRefIdeal.Read

open Cert.MlpBRefIdeal Cert.MlpBRefIdeal.Gen Idealize.ShloMosaic Idealize.ShloMosaic.TcCoe Idealize.SL.Sem
open Cert.MlpARefIdeal.Read (z z_apply)

variable (h y z0 : FVec Ideal S8192x1024 .f32) (g : FVec Ideal S1x1024 .f32) (w : FVec Ideal S1x1024x4096 .f32) (d : FVec Ideal S1x4096x1024 .f32)

/-- The half of the up-projection's columns, and of the down-projection's rows. -/
def wu : FVec Ideal S1024x2048 .f32 := shapeCast _ (extractStridedSlice S1x1024x2048 ![0, 0, 2048] w slices_S1x1024x4096_S1x1024x2048_0_0_2048) shapeCasts_S1x1024x2048_S1024x2048
def wd : FVec Ideal S2048x1024 .f32 := shapeCast _ (extractStridedSlice S1x2048x1024 ![0, 2048, 0] d slices_S1x4096x1024_S1x2048x1024_0_2048_0) shapeCasts_S1x2048x1024_S2048x1024

theorem wu_apply (r : Fin 1024) (J : Fin 2048) : wu w (ix2 r J) = w (ix3 0 r (⟨2048 + J.val, by omega⟩ : Fin 4096)) := by
  pointwise [wu]

theorem wd_apply (J : Fin 2048) (r : Fin 1024) : wd d (ix2 J r) = d (ix3 0 (⟨2048 + J.val, by omega⟩ : Fin 4096) r) := by
  pointwise [wd]

/-- The up-projection. -/
def u : FVec Ideal S8192x2048 .f32 := Host.dotGeneral dot_S8192x1024_S1024x2048_S8192x2048_1_0_0_1_n_n none (z h g) (wu w)

theorem u_apply (i : Fin 8192) (J : Fin 2048) : u h g w (ix2 i J) = ∑ r : Fin 1024, z h g (ix2 i r) * wu w (ix2 r J) := by
  unfold u
  generalize z h g = a
  generalize wu w = b
  pointwise

/-- Its rectification. -/
def rl : FVec Ideal S8192x2048 .f32 := maximumf (u h g w) (broadcastInDim S8192x2048 ![] bcast_S_S8192x2048 (constant S_ .f32 0x00000000#32))

theorem rl_apply (i : Fin 8192) (J : Fin 2048) : rl h g w (ix2 i J) = max (u h g w (ix2 i J)) 0 := by
  unfold rl
  generalize u h g w = a
  pointwise

/-- The cotangent of the square. -/
def dy : FVec Ideal S8192x2048 .f32 := Host.dotGeneral dot_S8192x1024_S2048x1024_S8192x2048_1_1_0_0_n_n none (shapeCast _ y shapeCasts_S8192x1024_S8192x1024) (wd d)

theorem dy_apply (i : Fin 8192) (J : Fin 2048) : dy y d (ix2 i J) = ∑ r : Fin 1024, y (ix2 i r) * wd d (ix2 J r) := by
  unfold dy
  generalize wd d = b
  pointwise

/-- The cotangent of the up-projection. -/
def gu : FVec Ideal S8192x2048 .f32 := select (cmpf .ogt (u h g w) (broadcastInDim S8192x2048 ![] bcast_S_S8192x2048 (constant S_ .f32 0x00000000#32))) (mulf (dy y d) (mulf (broadcastInDim S8192x2048 ![] bcast_S_S8192x2048 (constant S_ .f32 0x40000000#32)) (rl h g w))) (broadcastInDim S8192x2048 ![] bcast_S_S8192x2048 (constant S_ .f32 0x00000000#32))

theorem gu_apply (i : Fin 8192) (J : Fin 2048) : gu h y g w d (ix2 i J) = dy y d (ix2 i J) * (Ideal.ofBits .f32 0x40000000#32 * rl h g w (ix2 i J)) := by
  have hr := rl_apply h g w i J
  unfold gu
  generalize dy y d = a
  generalize rl h g w = b at hr ⊢
  generalize u h g w = v at hr ⊢
  pointwise
  by_cases hv : 0 < v (ix2 i J)
  · simp [hv]
  · rw [hr, max_eq_right (not_lt.mp hv)]
    simp

/-- The cotangent of the normed rows. -/
def dz : FVec Ideal S8192x1024 .f32 := addf z0 (Host.dotGeneral dot_S8192x2048_S1024x2048_S8192x1024_1_1_0_0_n_n none (gu h y g w d) (wu w))

theorem dz_apply (i : Fin 8192) (r : Fin 1024) : dz h y z0 g w d (ix2 i r) = z0 (ix2 i r) + ∑ J : Fin 2048, gu h y g w d (ix2 i J) * wu w (ix2 r J) := by
  unfold dz
  generalize gu h y g w d = a
  generalize wu w = b
  pointwise

/-- The gradient of the up-projection, its columns in chunks. -/
def up : FVec Ideal S4x1024x512 .bf16 := truncf .bf16 (transpose S4x1024x512 [1, 0, 2] (shapeCast _ (transpose S1024x2048 [1, 0] (Host.dotGeneral dot_S8192x2048_S8192x1024_S2048x1024_0_0_1_1_n_n none (gu h y g w d) (z h g)) transposes_S2048x1024_S1024x2048_1_0) shapeCasts_S1024x2048_S1024x4x512) transposes_S1024x4x512_S4x1024x512_1_0_2) bitsLt_bf16_f32

theorem up_apply (K : Fin 4) (r : Fin 1024) (q : Fin 512) : up h y g w d (ix3 K r q) = ∑ i : Fin 8192, gu h y g w d (ix2 i (⟨K.val * 512 + q.val, by omega⟩ : Fin 2048)) * z h g (ix2 i r) := by
  unfold up
  generalize gu h y g w d = a
  generalize z h g = b
  pointwise

/-- The gradient of the down-projection, its rows in chunks. -/
def dn : FVec Ideal S4x512x1024 .bf16 := truncf .bf16 (shapeCast _ (transpose S2048x1024 [1, 0] (Host.dotGeneral dot_S8192x1024_S8192x2048_S1024x2048_0_0_1_1_n_n none (shapeCast _ y shapeCasts_S8192x1024_S8192x1024) (mulf (rl h g w) (rl h g w))) transposes_S1024x2048_S2048x1024_1_0) shapeCasts_S2048x1024_S4x512x1024) bitsLt_bf16_f32

theorem dn_apply (K : Fin 4) (q : Fin 512) (r : Fin 1024) : dn h y g w (ix3 K q r) = ∑ i : Fin 8192, y (ix2 i r) * (rl h g w (ix2 i (⟨K.val * 512 + q.val, by omega⟩ : Fin 2048)) * rl h g w (ix2 i (⟨K.val * 512 + q.val, by omega⟩ : Fin 2048))) := by
  unfold dn
  generalize rl h g w = a
  pointwise

variable (m : (ℓ : Loc nD τ sig) → Buf (Elt Ideal) ℓ) (ρ : Dev nD → PrngReg)

/-- The reference's run with its results so named. -/
theorem run : θ_run defs (onTc (τ := τ) (main (F := Ideal))) ⟨m, fun _ => 0, ρ⟩ fun r => ∀ c : Dev nD,
      r.2.mem ((c.tc : Thread nD τ).loc main_v62) = NormGrad.dx (m ((c.tc : Thread nD τ).loc main_arg0)) (m ((c.tc : Thread nD τ).loc main_arg5)) (dz (m ((c.tc : Thread nD τ).loc main_arg0)) (m ((c.tc : Thread nD τ).loc main_arg5)) (m ((c.tc : Thread nD τ).loc main_arg4)) (m ((c.tc : Thread nD τ).loc main_arg1)) (m ((c.tc : Thread nD τ).loc main_arg2)) (m ((c.tc : Thread nD τ).loc main_arg3))) (m ((c.tc : Thread nD τ).loc main_arg1))
      ∧ r.2.mem ((c.tc : Thread nD τ).loc main_v65) = NormGrad.vec (m ((c.tc : Thread nD τ).loc main_arg0)) (dz (m ((c.tc : Thread nD τ).loc main_arg0)) (m ((c.tc : Thread nD τ).loc main_arg5)) (m ((c.tc : Thread nD τ).loc main_arg4)) (m ((c.tc : Thread nD τ).loc main_arg1)) (m ((c.tc : Thread nD τ).loc main_arg2)) (m ((c.tc : Thread nD τ).loc main_arg3)))
      ∧ r.2.mem ((c.tc : Thread nD τ).loc main_v68) = up (m ((c.tc : Thread nD τ).loc main_arg0)) (m ((c.tc : Thread nD τ).loc main_arg5)) (m ((c.tc : Thread nD τ).loc main_arg1)) (m ((c.tc : Thread nD τ).loc main_arg2)) (m ((c.tc : Thread nD τ).loc main_arg3))
      ∧ r.2.mem ((c.tc : Thread nD τ).loc main_v70) = dn (m ((c.tc : Thread nD τ).loc main_arg0)) (m ((c.tc : Thread nD τ).loc main_arg5)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1, (h c).2.1, (h c).2.2.1, (h c).2.2.2.1, (h c).2.2.2.2⟩) (Value.run m ρ)

end Cert.MlpBRefIdeal.Read

end
-- ==== Proof.Reals.lean ====
/- Extended reals that are finite, and the operations that keep them so. -/
module

public import proofs.«01_k».proof.Proof.RmsGrad

@[expose] public section

set_option maxRecDepth 16384

noncomputable section

namespace Cert.Reals

open Idealize.ShloMosaic

/-- The value is a real number. -/
def IsReal (a : EReal) : Prop := ∃ r : ℝ, a = (r : EReal)

variable {a b : EReal}

theorem coe (r : ℝ) : IsReal (r : EReal) := ⟨r, rfl⟩
theorem zero : IsReal 0 := ⟨0, rfl⟩
theorem add (ha : IsReal a) (hb : IsReal b) : IsReal (a + b) := by
  obtain ⟨x, rfl⟩ := ha; obtain ⟨y, rfl⟩ := hb; exact ⟨x + y, rfl⟩
theorem mul (ha : IsReal a) (hb : IsReal b) : IsReal (a * b) := by
  obtain ⟨x, rfl⟩ := ha; obtain ⟨y, rfl⟩ := hb; exact ⟨x * y, (EReal.coe_mul x y).symm⟩
theorem sub (ha : IsReal a) (hb : IsReal b) : IsReal (a - b) := by
  obtain ⟨x, rfl⟩ := ha; obtain ⟨y, rfl⟩ := hb; exact ⟨x - y, rfl⟩
theorem neg (ha : IsReal a) : IsReal (-a) := by
  obtain ⟨x, rfl⟩ := ha; exact ⟨-x, rfl⟩
theorem max' (ha : IsReal a) (hb : IsReal b) : IsReal (max a b) := by
  rcases max_choice a b with h | h <;> rw [h] <;> assumption
theorem sum {ι : Type*} (s : Finset ι) (f : ι → EReal) (h : ∀ k, IsReal (f k)) : IsReal (∑ k ∈ s, f k) := by
  choose F hF using h
  simp only [hF, RmsGrad.coe_sum]
  exact ⟨_, rfl⟩
theorem two : IsReal (Ideal.ofBits .f32 0x40000000#32) := ⟨2, by simp [Ideal.ofBits, Ideal.ieee, -EReal.coe_mul]; norm_num⟩

/-- The reciprocal root of a finite row's statistic. -/
theorem rsqrt_stat {n : ℕ} (x : Fin n → EReal) (h : ∀ k, IsReal (x k)) : IsReal (Ideal.rsqrt (Ideal.div (∑ k, x k * x k) (Ideal.ofBits .f32 0x44800000#32) + Ideal.ofBits .f32 0x358637BD#32)) := by
  choose X hX using h
  obtain ⟨e, he, hE⟩ := RmsGrad.bits_eps
  simp only [hX, RmsGrad.bits_1024, hE]
  rw [RmsGrad.coe_stat 1024 e X (by norm_num), RmsGrad.rsqrt_pos (RmsGrad.stat_pos 1024 e X (by norm_num) he)]
  exact ⟨_, rfl⟩

end Cert.Reals

end
-- ==== Proof.Finite.lean ====
/-
  What `jnp.all(jnp.abs(a) < jnp.inf)` says at the ideal floats: every element of `a` is a real number.
-/
module

public import Idealize.ShloMosaic.Lib.ReduceAll
public import Idealize.ShloMosaic.Lib.StableHlo
public import Idealize.ShloMosaic.PureOps
public import Idealize.ShloMosaic.PureOps.Ideal

@[expose] public section

noncomputable section

namespace Cert.Finite

open Idealize.ShloMosaic

instance : Subsingleton (⟨0, ![]⟩ : Shape).Idx := ⟨fun a b => funext fun i => i.elim0⟩

/-- An extended real below the top, and its negation too, is a real number. -/
theorem real_of_abs_lt {x : EReal} (h : max x (-x) < ⊤) : ∃ r : ℝ, x = (r : EReal) := by
  induction x with
  | bot => simp at h
  | top => simp at h
  | coe r => exact ⟨r, rfl⟩

variable {s : Shape} {φ : FTy} {axes : List (Fin s.rank)}

/-- An array whose printed test of finiteness holds has a real number at every index. -/
theorem real_of_all (a b : FVec Ideal s φ) (hb : ∀ i, b i = (⊤ : EReal)) (init : (⟨0, ![]⟩ : Shape).Idx → BitVec 1) (h : s.ReducesTo axes ⟨0, ![]⟩)
    (hu : 0 < (⟨0, ![]⟩ : Shape).numel) (j : (⟨0, ![]⟩ : Shape).Idx)
    (e : Host.reduce IntOp.andi (cmpf .olt (Host.absf a) b) init h hu j = 1#1) : ∃ r : s.Idx → ℝ, a = fun i => ((r i : ℝ) : EReal) := by
  have key : ∀ i, ∃ r : ℝ, a i = (r : EReal) := fun i => by
    have h1 : Ideal.cmp .olt (max (a i : EReal) (-(a i : EReal))) (b i) = 1#1 := Host.reduce_andi_all _ _ h hu j e i
    rw [hb i] at h1
    refine real_of_abs_lt ?_
    by_contra hc
    simp [Ideal.cmp, hc] at h1
  choose r hr using key
  exact ⟨r, funext hr⟩

theorem bits_inf_f32 : Ideal.ofBits .f32 0x7F800000#32 = ⊤ := by simp [Ideal.ofBits, Ideal.ieee]

theorem bits_inf_bf16 : Ideal.ofBits .bf16 0x7F80#16 = ⊤ := by simp [Ideal.ofBits, Ideal.ieee]

/-- A one-bit conjunction that is 1 has both its parts 1. -/
theorem and_left {a b : IVec (⟨0, ![]⟩ : Shape) 1} {j} (h : andi a b j = 1#1) : a j = 1#1 ∧ b j = 1#1 := by
  have h' : a j &&& b j = 1#1 := h
  revert h'
  generalize a j = p
  generalize b j = q
  revert p q
  decide

end Cert.Finite

end
-- ==== Proof.MlpBClaim.lean ====
/- The claims of the second MLP backward call. -/
module

public import proofs.«01_k».proof.Proof.MlpBFold
public import proofs.«01_k».proof.Proof.MlpBRead
public import proofs.«01_k».proof.Proof.MlpAClaim
public import proofs.«01_k».proof.Proof.Reals
public import proofs.«01_k».proof.Proof.Finite
public import proofs.«01_k».proof.Proof.Gen.Pre_mlp1_finite
public import proofs.«01_k».proof.Proof.Gen.MlpB.Frame
public import proofs.«01_k».proof.Proof.Gen.MlpBIdeal.Value
public import proofs.«01_k».proof.Defs

@[expose] public section

set_option maxRecDepth 16384

noncomputable section

namespace Cert.MlpBClaim

open Cert.MlpBIdeal Cert.MlpBIdeal.Gen Cert.MlpBIdeal.Fold Cert.MlpBIdeal.Blocks Idealize.ShloMosaic Idealize.ShloMosaic.TcCoe Idealize.SL.Sem
open Cert.Planes (col)
open Cert.MlpAIdeal.Pay (mx du)
open Cert.MlpAIdeal.Fold (ix3_of)
open Cert.MlpAIdeal.Blocks (row zE msE)
open Cert.MlpAClaim (col_eq)
open Cert.Reals (IsReal)

variable (m : (ℓ : Loc nD τ sig) → Buf (Elt Ideal) ℓ) (c : Dev nD)

theorem z_eq (i : Fin 8192) (r : Fin 1024) : Cert.MlpARefIdeal.Read.z (ah m c) (ag m c) (ix2 i r) = zE (ah m c) (ag m c) i r := by
  rw [Cert.MlpARefIdeal.Read.z_apply]
  rfl

theorem u_eq (i : Fin 8192) (J : Fin 2048) : Cert.MlpBRefIdeal.Read.u (ah m c) (ag m c) (au m c) (ix2 i J) = uE m c i J := by
  rw [Cert.MlpBRefIdeal.Read.u_apply]
  exact Finset.sum_congr rfl fun r _ => congrArg₂ _ (z_eq m c i r) (Cert.MlpBRefIdeal.Read.wu_apply _ r J)

theorem rl_eq (i : Fin 8192) (J : Fin 2048) : Cert.MlpBRefIdeal.Read.rl (ah m c) (ag m c) (au m c) (ix2 i J) = mx (uE m c i J) :=
  (Cert.MlpBRefIdeal.Read.rl_apply _ _ _ i J).trans (congrArg (max · 0) (u_eq m c i J))

/-- The two cotangents of the up-projection are the same products. -/
theorem gu_eq (i : Fin 8192) (J : Fin 2048) : Cert.MlpBRefIdeal.Read.gu (ah m c) (ay m c) (ag m c) (au m c) (ad m c) (ix2 i J) = gE m c i J := by
  rw [Cert.MlpBRefIdeal.Read.gu_apply, rl_eq, Cert.MlpBRefIdeal.Read.dy_apply]
  exact congrArg (· * _) (Finset.sum_congr rfl fun r _ => congrArg _ (Cert.MlpBRefIdeal.Read.wd_apply _ J r))

/-- The two cotangents of the normed rows are the same. -/
theorem dz_eq : Cert.MlpBRefIdeal.Read.dz (ah m c) (ay m c) (az m c) (ag m c) (au m c) (ad m c) = dzE m c := by
  funext j
  obtain ⟨i, r, rfl⟩ : ∃ (i : Fin 8192) (r : Fin 1024), j = ix2 i r := ⟨j 0, j 1, by funext a; match a with | ⟨0, _⟩ => rfl | ⟨1, _⟩ => rfl⟩
  refine (Cert.MlpBRefIdeal.Read.dz_apply _ _ _ _ _ _ i r).trans (congrArg (az m c (ix2 i r) + ·) ?_)
  exact Finset.sum_congr rfl fun J _ => congrArg₂ _ (gu_eq m c _ J) (Cert.MlpBRefIdeal.Read.wu_apply _ _ J)

/-- The scale's gradient: both sides sum the same products. -/
theorem vec_agree : vecAcc m c 15 = NormGrad.vec (ah m c) (dzE m c) := by
  funext j
  obtain ⟨p, q, rfl⟩ := ix2_of8 j
  refine Eq.trans ?_ (NormGrad.vec_apply _ _ p q).symm
  unfold vecAcc
  refine if_congr Iff.rfl ?_ rfl
  rw [Fin.sum_univ_tiles 16 512 rfl]
  refine (Finset.sum_range (fun s => vecPart m c s q)).trans (Finset.sum_congr rfl fun j _ => ?_)
  unfold vecPart
  rw [dif_pos j.isLt]
  exact Finset.sum_congr rfl fun k _ => mul_comm _ _

theorem idx8 : ∀ t : Fin cfg0.N, win0_8.index t (0 : Fin 2) = t.val ∧ win0_8.index t (1 : Fin 2) = 0 := by decide +kernel
theorem flush8 : ∀ t : Fin cfg0.N, (cfg0.win 8).flush t = true := (by decide +kernel : ∀ t : Fin grid0.N, win0_8.flush t = true)
theorem idx9 : ∀ t : Fin cfg0.N, win0_9.index t (0 : Fin 2) = 0 ∧ win0_9.index t (1 : Fin 2) = 0 := by decide +kernel
theorem flush9 : ∀ t : Fin cfg0.N, (cfg0.win 9).flush t = true → t.val = 15 := (by decide +kernel : ∀ t : Fin grid0.N, win0_9.flush t = true → t.val = 15)
theorem flush9_last : ∃ h : 15 < cfg0.N, (cfg0.win 9).flush ⟨15, h⟩ = true := ⟨by rw [show cfg0.N = 16 from N_0]; decide, (by decide +kernel : win0_9.flush (⟨15, by decide +kernel⟩ : Fin grid0.N) = true)⟩

/-- The input's gradient, as the kernel's result array. -/
def kdx : Vec Ideal S8192x1024 .f32 := fun i => NormGrad.gx (ah m c) (ay m c) (dzE m c) (ag m c) (i 0) (i 1)

theorem dh_final : (dats m 0 c).arrAt 8 cfg0.N = kdx m c := by
  refine (dats m 0 c).arrAt_eq_of_cover 8 _ (fun t _ => ?_) (fun i => ?_)
  · rw [Value.flushed8, Points.out_dh]
    funext y
    have hb0 : (((cfg0.win 8).blk t).view.emb y 0).val = win0_8.index t (0 : Fin 2) * 512 + 1 * (y 0).val := rfl
    have hb1 : (((cfg0.win 8).blk t).view.emb y 1).val = win0_8.index t (1 : Fin 2) * 1024 + 1 * (y 1).val := rfl
    have hy0 : (y 0).val < 512 := (y 0).isLt
    have hy1 : (y 1).val < 1024 := (y 1).isLt
    have he : ((cfg0.win 8).blk t).view.emb y = (ix2 (row t.val (lt16 t) ⟨(y 0).val, hy0⟩) (⟨(y 1).val, hy1⟩ : Fin 1024) : S8192x1024.Idx) := by
      funext a; apply Fin.ext
      match a with
      | ⟨0, _⟩ => show _ = t.val * 512 + (y 0).val; refine hb0.trans ?_; rw [(idx8 t).1]; omega
      | ⟨1, _⟩ => show _ = (y 1).val; refine hb1.trans ?_; rw [(idx8 t).2]; omega
    have hx : (cfg0.win 8).xinj (grid0.coords t) y = (ix2 (⟨(y 0).val, hy0⟩ : Fin 512) (⟨(y 1).val, hy1⟩ : Fin 1024) : S512x1024.Idx) := by
      funext a; apply Fin.ext
      match a with
      | ⟨0, _⟩ => rfl
      | ⟨1, _⟩ => rfl
    refine (congrArg (Body.dh (iblk m c 0 t) (iblk m c 2 t) (iblk m c 3 t) (iblk m c 4 t) (iblk m c 5 t) (iblk m c 6 t) (iblk m c 7 t)) hx).trans ((dh_blk m c t _ _).trans ?_)
    exact (congrArg (kdx m c) he).symm
  · have h0 : (i 0).val < 8192 := (i 0).isLt
    have h1 : (i 1).val < 1024 := (i 1).isLt
    have hN : (i 0).val / 512 < cfg0.N := by rw [show cfg0.N = 16 from N_0]; omega
    refine ⟨⟨(i 0).val / 512, hN⟩, flush8 _, ?_⟩
    show i ∈ ((View.whole main_v24_0).slice (win0_8.rect ⟨(i 0).val / 512, hN⟩)).set
    rw [View.set_slice_whole, Rect.mem_set_unit]
    have e := idx8 ⟨(i 0).val / 512, hN⟩
    intro a
    match a with
    | ⟨0, _⟩ => show win0_8.index ⟨(i 0).val / 512, hN⟩ (0 : Fin 2) * 512 ≤ (i 0).val ∧ (i 0).val < win0_8.index ⟨(i 0).val / 512, hN⟩ (0 : Fin 2) * 512 + 512; rw [e.1]; dsimp only; omega
    | ⟨1, _⟩ => show win0_8.index ⟨(i 0).val / 512, hN⟩ (1 : Fin 2) * 1024 ≤ (i 1).val ∧ (i 1).val < win0_8.index ⟨(i 0).val / 512, hN⟩ (1 : Fin 2) * 1024 + 1024; rw [e.2]; omega

theorem vec_final : (dats m 0 c).arrAt 9 cfg0.N = vecAcc m c 15 := by
  refine (dats m 0 c).arrAt_eq_of_cover 9 _ (fun t hf => ?_) (fun i => ?_)
  · rw [Value.flushed9, vec_eq, flush9 t hf]
    funext y
    have hb0 : (((cfg0.win 9).blk t).view.emb y 0).val = win0_9.index t (0 : Fin 2) * 8 + 1 * (y 0).val := rfl
    have hb1 : (((cfg0.win 9).blk t).view.emb y 1).val = win0_9.index t (1 : Fin 2) * 1024 + 1 * (y 1).val := rfl
    refine congrArg (vecAcc m c 15) ?_
    funext a; apply Fin.ext
    match a with
    | ⟨0, _⟩ => refine Eq.trans ?_ hb0.symm; rw [(idx9 t).1, Nat.zero_mul, Nat.zero_add, Nat.one_mul]; rfl
    | ⟨1, _⟩ => refine Eq.trans ?_ hb1.symm; rw [(idx9 t).2, Nat.zero_mul, Nat.zero_add, Nat.one_mul]; rfl
  · obtain ⟨hN, hf⟩ := flush9_last
    refine ⟨⟨15, hN⟩, hf, ?_⟩
    have h0 : (i 0).val < 8 := (i 0).isLt
    have h1 : (i 1).val < 1024 := (i 1).isLt
    show i ∈ ((View.whole main_v24_1).slice (win0_9.rect ⟨15, hN⟩)).set
    rw [View.set_slice_whole, Rect.mem_set_unit]
    have e := idx9 ⟨15, hN⟩
    intro a
    match a with
    | ⟨0, _⟩ => show win0_9.index ⟨15, hN⟩ (0 : Fin 2) * 8 ≤ (i 0).val ∧ (i 0).val < win0_9.index ⟨15, hN⟩ (0 : Fin 2) * 8 + 8; rw [e.1]; omega
    | ⟨1, _⟩ => show win0_9.index ⟨15, hN⟩ (1 : Fin 2) * 1024 ≤ (i 1).val ∧ (i 1).val < win0_9.index ⟨15, hN⟩ (1 : Fin 2) * 1024 + 1024; rw [e.2]; omega

/-- The gradient of the up-projection. -/
theorem up_final : Out.res0 m c Out.tl = Cert.MlpBRefIdeal.Read.up (ah m c) (ay m c) (ag m c) (au m c) (ad m c) := by
  funext j
  obtain ⟨K, r, q, rfl⟩ := ix3_of j
  refine (res0_at m c K r q).trans (Eq.trans ?_ (Cert.MlpBRefIdeal.Read.up_apply _ _ _ _ _ K r q).symm)
  refine Finset.sum_congr rfl fun i _ => ?_
  rw [col_eq, gu_eq, z_eq]
  exact mul_comm _ _

/-- The gradient of the down-projection. -/
theorem dn_final : Out.res1 m c Out.tl = Cert.MlpBRefIdeal.Read.dn (ah m c) (ay m c) (ag m c) (au m c) := by
  funext j
  obtain ⟨K, q, r, rfl⟩ : ∃ (K : Fin 4) (q : Fin 512) (r : Fin 1024), j = ix3 K q r := ⟨j 0, j 1, j 2, by funext a; match a with | ⟨0, _⟩ => rfl | ⟨1, _⟩ => rfl | ⟨2, _⟩ => rfl⟩
  refine (res1_at m c K q r).trans (Eq.trans ?_ (Cert.MlpBRefIdeal.Read.dn_apply _ _ _ _ K q r).symm)
  refine Finset.sum_congr rfl fun i _ => ?_
  rw [col_eq, rl_eq]
  exact mul_comm _ _

/-- The input's gradient: the two forms of the norm's gradient agree on finite arguments. -/
theorem dx_agree (h : Cert.Pre_mlp1_finite.fn (F := Ideal) (ah m c) (ag m c) (au m c) (ad m c) (az m c) (ay m c) = fun _ => 1#1) :
    kdx m c = NormGrad.dx (ah m c) (ay m c) (dzE m c) (ag m c) := by
  have h0 := congrFun h ix0
  obtain ⟨h1, hy⟩ := Finite.and_left h0
  obtain ⟨h2, hz⟩ := Finite.and_left h1
  obtain ⟨h3, hd⟩ := Finite.and_left h2
  obtain ⟨h4, hu⟩ := Finite.and_left h3
  obtain ⟨hh, hg⟩ := Finite.and_left h4
  obtain ⟨X, hX⟩ := Finite.real_of_all _ _ (fun _ => Finite.bits_inf_f32) _ _ _ _ hh
  obtain ⟨G, hG⟩ := Finite.real_of_all _ _ (fun _ => Finite.bits_inf_f32) _ _ _ _ hg
  obtain ⟨U, hU⟩ := Finite.real_of_all _ _ (fun _ => Finite.bits_inf_f32) _ _ _ _ hu
  obtain ⟨W, hW⟩ := Finite.real_of_all _ _ (fun _ => Finite.bits_inf_f32) _ _ _ _ hd
  obtain ⟨Z, hZ⟩ := Finite.real_of_all _ _ (fun _ => Finite.bits_inf_f32) _ _ _ _ hz
  obtain ⟨Y, hY⟩ := Finite.real_of_all _ _ (fun _ => Finite.bits_inf_f32) _ _ _ _ hy
  have rX : ∀ j, IsReal (ah m c j) := fun j => ⟨X j, congrFun hX j⟩
  have rG : ∀ j, IsReal (ag m c j) := fun j => ⟨G j, congrFun hG j⟩
  have rU : ∀ j, IsReal (au m c j) := fun j => ⟨U j, congrFun hU j⟩
  have rW : ∀ j, IsReal (ad m c j) := fun j => ⟨W j, congrFun hW j⟩
  have rZ : ∀ j, IsReal (az m c j) := fun j => ⟨Z j, congrFun hZ j⟩
  have rY : ∀ j, IsReal (ay m c j) := fun j => ⟨Y j, congrFun hY j⟩
  have rz : ∀ i r, IsReal (zE (ah m c) (ag m c) i r) := fun i r => by
    unfold zE msE
    exact Reals.mul (Reals.mul (rX _) (Reals.rsqrt_stat (fun k => ah m c (ix2 i k)) fun k => rX _)) (rG _)
  have ru : ∀ i J, IsReal (uE m c i J) := fun i J => by
    unfold uE
    exact Reals.sum _ _ fun r => Reals.mul (rz i r) (rU _)
  have rg : ∀ i J, IsReal (gE m c i J) := fun i J => by
    unfold gE du mx
    exact Reals.mul (Reals.sum _ _ fun r => Reals.mul (rY _) (rW _)) (Reals.mul Reals.two (Reals.max' (ru i J) Reals.zero))
  have rd : ∀ i r, IsReal (dzE m c (ix2 i r)) := fun i r => by
    unfold dzE
    exact Reals.add (rZ _) (Reals.sum _ _ fun J => Reals.mul (rg _ J) (rU _))
  funext i
  obtain ⟨p, q, rfl⟩ : ∃ (p : Fin 8192) (q : Fin 1024), i = ix2 p q := ⟨i 0, i 1, by funext a; match a with | ⟨0, _⟩ => rfl | ⟨1, _⟩ => rfl⟩
  have rD : ∀ k : Fin 1024, IsReal (dzE m c (ix2 p k) * ag m c (ix2 0 k)) := fun k => Reals.mul (rd p k) (rG _)
  choose D hD using rD
  exact NormGrad.agree _ _ _ _ p q (fun k => X (ix2 p k)) D (fun k => congrFun hX _) hD

theorem frame_kernel : Cert.quiescent_MlpB := fun m ρ _ => Cert.MlpB.Gen.frame m ρ
theorem frame_ideal : Cert.quiescent_MlpBIdeal := fun m ρ _ => Cert.MlpBIdeal.Gen.frame m ρ
theorem frame_ideal_pre : Cert.quiescent_MlpBIdeal_pre_mlp1_finite := fun m ρ _ => Cert.MlpBIdeal.Gen.frame m ρ
theorem frame_ref : Cert.quiescent_MlpBRefIdeal := fun m ρ _ =>
  (θ_run Cert.MlpBRefIdeal.defs _ _).mono (fun r h => ⟨fun c => (h c).2.2.2.2, sem_eq_zero_of_no_sems (by decide) r.2⟩) (Cert.MlpBRefIdeal.Value.run (F := Ideal) m ρ)
theorem frame_ref_pre : Cert.quiescent_MlpBRefIdeal_pre_mlp1_finite := fun m ρ _ => frame_ref m ρ trivial
theorem preserves : Cert.preserves_MlpB_MlpBIdeal := trivial

theorem unread_eq {b : Ref sig .tc} (v : b.ty.Contents (Elt Ideal)) : (Memref.isWhole_whole b).unread v = v := (Memref.IsWhole.eq_unread (Memref.isWhole_whole b) rfl).symm

theorem algebraic : Cert.algebraic_MlpBIdeal_MlpBRefIdeal_pre_mlp1_finite := by
  intro m ρ m' ρ' hpre hagree
  refine ⟨fun c => kdx m c, fun c => vecAcc m c 15, fun c => Cert.MlpBRefIdeal.Read.up (ah m c) (ay m c) (ag m c) (au m c) (ad m c), fun c => Cert.MlpBRefIdeal.Read.dn (ah m c) (ay m c) (ag m c) (au m c), ?_, ?_⟩
  · refine (θ_run Cert.MlpBIdeal.defs _ _).mono (fun r h c => ?_) (Out.run m ρ)
    have hR := Out.post_R m h
    exact ⟨(Value.post8 m r hR c).trans (dh_final m c), (Value.post9 m r hR c).trans (vec_final m c), (Out.post_0 m h c).trans ((unread_eq _).trans (up_final m c)), (Out.post_1 m h c).trans ((unread_eq _).trans (dn_final m c)),
      Value.kept_main_arg0 m r hR c, Value.kept_main_arg1 m r hR c, Value.kept_main_arg2 m r hR c, Value.kept_main_arg3 m r hR c, Value.kept_main_arg4 m r hR c, Value.kept_main_arg5 m r hR c⟩
  · refine (θ_run Cert.MlpBRefIdeal.defs _ _).mono (fun r h c => ?_) (Cert.MlpBRefIdeal.Read.run m' ρ')
    obtain ⟨e0, e1, e2, e3, e4, e5⟩ := hagree c
    refine ⟨(h c).1.trans ?_, (h c).2.1.trans ?_, (h c).2.2.1.trans ?_, (h c).2.2.2.1.trans ?_, (h c).2.2.2.2⟩
    · rw [e0, e1, e2, e3, e4, e5]; exact (congrArg (fun d => NormGrad.dx (ah m c) (ay m c) d (ag m c)) (dz_eq m c)).trans (dx_agree m c (hpre c)).symm
    · rw [e0, e1, e2, e3, e4, e5]; exact (congrArg (NormGrad.vec (ah m c)) (dz_eq m c)).trans (vec_agree m c).symm
    · rw [e0, e1, e2, e3, e5]
    · rw [e0, e1, e2, e5]

end Cert.MlpBClaim

end
-- ==== Proof.PleRun.lean ====
/- The last grid point of the per-layer-embedding call, run with the two results it copies out named: each as a function of what the
  result and the two staging buffers held before. -/
module

public import proofs.«01_k».proof.Proof.Gen.PleIdeal.Value
public import proofs.«01_k».proof.Proof.Planes

@[expose] public section

set_option maxRecDepth 16384

noncomputable section

namespace Cert.PleIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PleIdeal Cert.PleIdeal.Gen

variable {F : FTy → Type} [FloatOps F]

local notation "𝕄" => MT nD τ sig Unit (Elt F) ℕ (Pipeline.UD sig nD τ) ℕ

set_option maxHeartbeats 1000000 in
/-- The pieces each buffer is left with at the last point and the contents of the two results copied out, with the run
    that finds them. -/
noncomputable def runLast (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg13 : Memref sig .tc .vmem S1024x1024 .f32) (harg13 : arg13.IsWhole) (arg14 : Memref sig .tc .vmem S256x1024 .f32) (harg14 : arg14.IsWhole) (arg15 : Memref sig .tc .vmem S1024x1024 .bf16) (harg15 : arg15.IsWhole) (arg16 : Memref sig .tc .vmem S256x1024 .bf16) (harg16 : arg16.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) (xo9 : Vec F S8x1024 .f32) (xs0 : Vec F S1024x1024 .f32) (xs1 : Vec F S256x1024 .f32) :
    Σ' (B0 : HbBuf0 (F := F) c hbM0_0 → Buf (Elt F) (arg15.view.loc (c : Thread nD τ)) → Buf (Elt F) (arg16.view.loc (c : Thread nD τ)) → HbBuf0 (F := F) c hbM0_0), Σ' (B1 : HbBuf0 (F := F) c hbM0_1 → Buf (Elt F) (arg15.view.loc (c : Thread nD τ)) → Buf (Elt F) (arg16.view.loc (c : Thread nD τ)) → HbBuf0 (F := F) c hbM0_1), Σ' (L8 : List (View.Piece (Elt F) S512x1024 .f32)), Σ' (L9 : List (View.Piece (Elt F) S8x1024 .f32)), Σ' (LS0 : List (View.Piece (Elt F) S1024x1024 .f32)), { LS1 : List (View.Piece (Elt F) S256x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg13 fullShare xs0 ∗ owns (c : Thread nD τ) arg14 fullShare xs1 ∗ (∃ d, owns (c : Thread nD τ) arg15 fullShare d) ∗ (∃ d, owns (c : Thread nD τ) arg16 fullShare d) ∗ semVal ((c : Thread nD τ), SemLoc.dma 14) 0 ∗ semVal ((c : Thread nD τ), SemLoc.dma 15) 0 ∗ (∃ f, hbPt0 c hbM0_0 f) ∗ (∃ f, hbPt0 c hbM0_1 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread xo9) L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ (∃ d, owns (c : Thread nD τ) arg16 fullShare d) ∗ semVal ((c : Thread nD τ), SemLoc.dma 14) 0 ∗ semVal ((c : Thread nD τ), SemLoc.dma 15) 0 ∗ (∃ f g h, hbPt0 c hbM0_0 (B0 f g h)) ∗ (∃ f g h, hbPt0 c hbM0_1 (B1 f g h)) ∗ (∃ W', owes (c : Thread nD τ) 0 W')) -∗ K ⟨⟩))
          ⊢ wp frame (wpE (defs₀ (F := F)) Variants.none c none) Set.univ (cc0_ple_fwd_bwd i arg1 harg1 arg2 harg2 arg3 harg3 arg4 harg4 arg5 harg5 arg6 harg6 arg7 harg7 arg8 harg8 arg9 harg9 arg10 harg10 (Memref.whole main_v7_2) (Memref.isWhole_whole _) (Memref.whole main_v7_3) (Memref.isWhole_whole _) arg13 harg13 arg14 harg14 arg15 harg15 arg16 harg16 cc0_scoped0 cc0_scoped1) K } := by
  refine ⟨?_, ?_, ?_, ?_, ?_, ?_, fun W K => ?run⟩
  case run =>
    simp only [cc0_ple_fwd_bwd_eq_skeleton]; unfold cc0_ple_fwd_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, ⟨%ds2, %fs2, -, HS2⟩, ⟨%ds3, %fs3, -, HS3⟩, Hq0, Hq1, ⟨%fw0, Hh0⟩, ⟨%fw1, Hh1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg13.eq_unread hfs0; obtain rfl := harg14.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexact H9
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexists fw0, fs2, fs3; iexact Hh0
    isplitl [Hh1]; · iexists fw1, fs2, fs3; iexact Hh1
    iexists _; iexact HW

end Cert.PleIdeal.Out

end
-- ==== Proof.PleBody.lean ====
/- What one grid point of the gated embedding's call leaves in its buffers: the block of the input's gradient, four rows of
  sums, the two carried accumulators, and at the last point the two results copied out of them. -/
module

public import proofs.«01_k».proof.Proof.PleRun
public import proofs.«01_k».proof.Proof.RowZero
public import Idealize.ShloMosaic.Lib.Pointwise
public import Idealize.ShloMosaic.Lib.Tactic

@[expose] public section

set_option maxRecDepth 16384

noncomputable section

namespace Cert.PleIdeal.Body

open Cert.PleIdeal Cert.PleIdeal.Gen Idealize.ShloMosaic Idealize.ShloMosaic.TcCoe Idealize.SL.Sem
open Cert.Rows (hz)

variable {F : FTy → Type} [FloatOps F]

/-- The gradient of the embedded rows, a block. -/
def dh3 (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) : Vec F S512x1024 .f32 := k0_pay23 x0 (k0_pay12 x0 x3 x4 x5) (k0_pay13 x1) (k0_pay14 x6) (constant S512x1024 .f32 0x00000000#32) x7 x2

/-- The gradient of the gate before its logistic, a block. -/
def dgl (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) : Vec F S512x1024 .f32 := k0_pay24 x0 (k0_pay12 x0 x3 x4 x5) (k0_pay13 x1) (k0_pay14 x6) (constant S512x1024 .f32 0x00000000#32) x7 x2

/-- The block of the input's gradient a point leaves. -/
def dh (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) : Vec F S512x1024 .f32 :=
  k0_pay30 x3 (k0_pay9 x0) (k0_pay10 x0) (dh3 x0 x1 x2 x3 x4 x5 x6 x7) (k0_pay26 x0 (k0_pay12 x0 x3 x4 x5) (k0_pay13 x1) (k0_pay14 x6) (constant S512x1024 .f32 0x00000000#32) x7 x2) x4

/-- The accumulator of the gate's weights after a point. -/
def dwg (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) (acc : Vec F S1024x1024 .f32) : Vec F S1024x1024 .f32 :=
  k0_pay27 (k0_pay11 x0 x3) (k0_pay26 x0 (k0_pay12 x0 x3 x4 x5) (k0_pay13 x1) (k0_pay14 x6) (constant S512x1024 .f32 0x00000000#32) x7 x2) acc

/-- The accumulator of the projection's weights after a point. -/
def dwp (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) (acc : Vec F S256x1024 .f32) : Vec F S256x1024 .f32 :=
  k0_pay28 (k0_pay13 x1) (k0_pay25 x0 (k0_pay12 x0 x3 x4 x5) (k0_pay13 x1) (k0_pay14 x6) (constant S512x1024 .f32 0x00000000#32) x7 x2) acc

/-- The vectors' buffer after a point: four rows, each with its sum added. -/
def vec (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) (old : Vec F S8x1024 .f32) : Vec F S8x1024 .f32 :=
  RowZero.upd 3 (RowZero.upd 2 (RowZero.upd 1 (RowZero.upd 0 old (k0_pay31 (dgl x0 x1 x2 x3 x4 x5 x6 x7) (View.ld old (Rect.unit (s := S8x1024) ![0, 0] S1x1024.size inb_S8x1024_S1x1024_0_0))))
    (k0_pay1 (k0_pay10 x0) (k0_pay29 (k0_pay26 x0 (k0_pay12 x0 x3 x4 x5) (k0_pay13 x1) (k0_pay14 x6) (constant S512x1024 .f32 0x00000000#32) x7 x2) x4) (View.ld old (Rect.unit (s := S8x1024) ![1, 0] S1x1024.size inb_S8x1024_S1x1024_1_0))))
    (k0_pay2 (k0_pay19 x0 (k0_pay12 x0 x3 x4 x5) (k0_pay13 x1) (k0_pay14 x6) (constant S512x1024 .f32 0x00000000#32)) (k0_pay22 x0 (k0_pay12 x0 x3 x4 x5) (k0_pay13 x1) (k0_pay14 x6) (constant S512x1024 .f32 0x00000000#32) x7 x2) (View.ld old (Rect.unit (s := S8x1024) ![2, 0] S1x1024.size inb_S8x1024_S1x1024_2_0)))) (k0_pay3 (k0_pay21 x0 (k0_pay12 x0 x3 x4 x5) (k0_pay13 x1) (k0_pay14 x6) (constant S512x1024 .f32 0x00000000#32) x7 x2) (View.ld old (Rect.unit (s := S8x1024) ![3, 0] S1x1024.size inb_S8x1024_S1x1024_3_0)))

variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg13 : Memref sig .tc .vmem S1024x1024 .f32) (harg13 : arg13.IsWhole) (arg14 : Memref sig .tc .vmem S256x1024 .f32) (harg14 : arg14.IsWhole) (arg15 : Memref sig .tc .vmem S1024x1024 .bf16) (harg15 : arg15.IsWhole) (arg16 : Memref sig .tc .vmem S256x1024 .bf16) (harg16 : arg16.IsWhole)
  (x0 : Vec F S512x1024 .f32) (x1 : Vec F S512x256 .f32) (x2 : Vec F S512x1024 .f32) (x3 : Vec F S1x1024 .f32) (x4 : Vec F S1024x1024 .bf16) (x5 : Vec F S1x1024 .f32) (x6 : Vec F S256x1024 .bf16) (x7 : Vec F S1x1024 .f32) (xo9 : Vec F S8x1024 .f32) (xs0 : Vec F S1024x1024 .f32) (xs1 : Vec F S256x1024 .f32)

theorem dh_A (hc0 : cond0_0 i) (hc1 : ¬cond0_1 i) : out0_A_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 = dh x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  rfl

theorem vec_A (hc0 : cond0_0 i) (hc1 : ¬cond0_1 i) : out0_A_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 = vec x0 x1 x2 x3 x4 x5 x6 x7 (k0_pay6 (F := F)) := by
  unfold out0_A_9
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  refine (RowZero.store (Val := Elt F) (e := .f32) (k := 8) (n := 1024) VO0_9 _ 3 _ _ _ _ (RowZero.store (Val := Elt F) (e := .f32) (k := 8) (n := 1024) VO0_9 _ 2 _ _ _ _ (RowZero.store (Val := Elt F) (e := .f32) (k := 8) (n := 1024) VO0_9 _ 1 _ _ _ _ (RowZero.store (Val := Elt F) (e := .f32) (k := 8) (n := 1024) VO0_9 _ 0 _ _ _ (k0_pay6 (F := F)) ?_)))).trans ?_
  · exact Rows.read_full _ _ _ _ _
  unfold vec
  refine congrArg₂ (RowZero.upd 3) (congrArg₂ (RowZero.upd 2) (congrArg₂ (RowZero.upd 1) (congrArg (RowZero.upd 0 _) ?_) ?_) ?_) ?_
  · exact congrArg (k0_pay31 _) (Planes.loadCov _ _ _ (Rows.read_full _ _ _ _ _))
  · exact congrArg (k0_pay1 _ _) (Planes.cov_miss2 _ 1 0 (by decide) _ _ _ _ (Planes.loadCov _ _ _ (Rows.read_full _ _ _ _ _)))
  · exact congrArg (k0_pay2 _ _) (Planes.cov_miss2 _ 2 1 (by decide) _ _ _ _ (Planes.cov_miss2 _ 2 0 (by decide) _ _ _ _ (Planes.loadCov _ _ _ (Rows.read_full _ _ _ _ _))))
  · exact congrArg (k0_pay3 _) (Planes.cov_miss2 _ 3 2 (by decide) _ _ _ _ (Planes.cov_miss2 _ 3 1 (by decide) _ _ _ _ (Planes.cov_miss2 _ 3 0 (by decide) _ _ _ _ (Planes.loadCov _ _ _ (Rows.read_full _ _ _ _ _)))))

theorem dwg_A (hc0 : cond0_0 i) (hc1 : ¬cond0_1 i) : sout0_A_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 = dwg x0 x1 x2 x3 x4 x5 x6 x7 (k0_pay7 (F := F)) := by
  unfold sout0_A_0
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  refine (Rows.read_full _ _ _ _ _).trans ?_
  unfold dwg
  refine congrArg (k0_pay27 _ _) ((Planes.loadCov _ _ _ (Rows.read_full _ _ _ _ _)).trans ?_)
  exact View.ld_unit_zero (S := S1024x1024) hz _ _

theorem dwp_A (hc0 : cond0_0 i) (hc1 : ¬cond0_1 i) : sout0_A_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 = dwp x0 x1 x2 x3 x4 x5 x6 x7 (k0_pay8 (F := F)) := by
  unfold sout0_A_1
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  refine (Rows.read_full _ _ _ _ _).trans ?_
  unfold dwp
  refine congrArg (k0_pay28 _ _) ((Planes.loadCov _ _ _ (Rows.read_full _ _ _ _ _)).trans ?_)
  exact View.ld_unit_zero (S := S256x1024) hz _ _

theorem dh_B (hc0 : ¬cond0_0 i) (hc1 : ¬cond0_1 i) : out0_B_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = dh x0 x1 x2 x3 x4 x5 x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  rfl

theorem vec_B (hc0 : ¬cond0_0 i) (hc1 : ¬cond0_1 i) : out0_B_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = vec x0 x1 x2 x3 x4 x5 x6 x7 xo9 := by
  unfold out0_B_9
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  exact RowZero.store (Val := Elt F) (e := .f32) (k := 8) (n := 1024) _ _ 3 _ _ _ _ (RowZero.store (Val := Elt F) (e := .f32) (k := 8) (n := 1024) _ _ 2 _ _ _ _ (RowZero.store (Val := Elt F) (e := .f32) (k := 8) (n := 1024) _ _ 1 _ _ _ _ (RowZero.store (Val := Elt F) (e := .f32) (k := 8) (n := 1024) _ _ 0 _ _ [] xo9 (harg10.read_unread xo9))))

theorem dwg_B (hc0 : ¬cond0_0 i) (hc1 : ¬cond0_1 i) : sout0_B_0 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = dwg x0 x1 x2 x3 x4 x5 x6 x7 xs0 := by
  unfold sout0_B_0
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  exact Rows.read_full _ _ _ _ _

theorem dwp_B (hc0 : ¬cond0_0 i) (hc1 : ¬cond0_1 i) : sout0_B_1 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = dwp x0 x1 x2 x3 x4 x5 x6 x7 xs1 := by
  unfold sout0_B_1
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  exact Rows.read_full _ _ _ _ _

theorem dh_C (hc0 : ¬cond0_0 i) (hc1 : cond0_1 i) : out0_C_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = dh x0 x1 x2 x3 x4 x5 x6 x7 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  rfl

theorem vec_C (hc0 : ¬cond0_0 i) (hc1 : cond0_1 i) : out0_C_9 c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1 = vec x0 x1 x2 x3 x4 x5 x6 x7 xo9 := by
  unfold out0_C_9
  unfold kernelRun0_C
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  exact RowZero.store (Val := Elt F) (e := .f32) (k := 8) (n := 1024) _ _ 3 _ _ _ _ (RowZero.store (Val := Elt F) (e := .f32) (k := 8) (n := 1024) _ _ 2 _ _ _ _ (RowZero.store (Val := Elt F) (e := .f32) (k := 8) (n := 1024) _ _ 1 _ _ _ _ (RowZero.store (Val := Elt F) (e := .f32) (k := 8) (n := 1024) _ _ 0 _ _ [] xo9 (harg10.read_unread xo9))))

theorem copied7 (hc0 : ¬cond0_0 i) (hc1 : cond0_1 i) (f : HbBuf0 (F := F) c hbM0_0) (g : Buf (Elt F) (arg15.view.loc (c : Thread nD τ))) (h : Buf (Elt F) (arg16.view.loc (c : Thread nD τ))) :
    hbM0_0.view.read (Elt F) ((Out.runLast c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).1 f g h) = k0_pay4 (dwg x0 x1 x2 x3 x4 x5 x6 x7 xs0) := by
  unfold Out.runLast
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  refine (View.read_write_univ _ _).trans ?_
  refine (Rows.read_full arg15.view _ _ _ _).trans ?_
  exact congrArg k0_pay4 ((Planes.loadCov arg13.view _ _ (Rows.read_full _ _ _ _ _)).trans (View.ld_unit_zero (S := S1024x1024) hz _ _))

theorem copied8 (hc0 : ¬cond0_0 i) (hc1 : cond0_1 i) (f : HbBuf0 (F := F) c hbM0_1) (g : Buf (Elt F) (arg15.view.loc (c : Thread nD τ))) (h : Buf (Elt F) (arg16.view.loc (c : Thread nD τ))) :
    hbM0_1.view.read (Elt F) ((Out.runLast c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.1 f g h) = k0_pay5 (dwp x0 x1 x2 x3 x4 x5 x6 x7 xs1) := by
  unfold Out.runLast
  dsimp only
  sl_unfold_words
  simp only [View.readAt_eq_ld, harg1.read_unread, harg2.read_unread, harg3.read_unread, harg4.read_unread, harg5.read_unread, harg6.read_unread, harg7.read_unread, harg8.read_unread, harg10.read_unread, harg13.read_unread, harg14.read_unread, View.ld_unit_zero (S := S512x1024) hz, View.ld_unit_zero (S := S512x256) hz, View.ld_unit_zero (S := S1x1024) hz, View.ld_unit_zero (S := S1024x1024) hz, View.ld_unit_zero (S := S256x1024) hz]
  refine (View.read_write_univ _ _).trans ?_
  refine (Rows.read_full arg16.view _ _ _ _).trans ?_
  exact congrArg k0_pay5 ((Planes.loadCov arg14.view _ _ (Rows.read_full _ _ _ _ _)).trans (View.ld_unit_zero (S := S256x1024) hz _ _))

theorem same8 (hc0 : ¬cond0_0 i) (hc1 : cond0_1 i) : (Out.runLast c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.2.1 = (kernelRun0_C c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).1 := rfl

theorem same9 (hc0 : ¬cond0_0 i) (hc1 : cond0_1 i) : (Out.runLast c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.2.2.1 = (kernelRun0_C c i arg1 harg1 arg2 harg2 arg3 harg3 arg4 harg4 arg5 harg5 arg6 harg6 arg7 harg7 arg8 harg8 arg9 harg9 arg10 harg10 arg13 harg13 arg14 harg14 arg15 harg15 arg16 harg16 hc0 hc1 x0 x1 x2 x3 x4 x5 x6 x7 xo9 xs0 xs1).2.1 := rfl

end Cert.PleIdeal.Body

end
-- ==== Proof.PlePay.lean ====
/- The printed payloads of the gated layer and loss backward call at the ideal floats, read at an index. -/
module

public import proofs.«01_k».proof.Proof.PleBody

@[expose] public section

set_option maxRecDepth 16384

noncomputable section

namespace Cert.PleIdeal.Pay

open Cert.PleIdeal Cert.PleIdeal.Gen Idealize.ShloMosaic Idealize.ShloMosaic.TcCoe Idealize.SL.Sem Cert.PleIdeal.Body

theorem pay9 (x : Vec Ideal S512x1024 .f32) (p : Fin 512) :
    k0_pay9 (F := Ideal) x (ix2 p 0) = Ideal.rsqrt (Ideal.div (∑ k : Fin 1024, x (ix2 p k) * x (ix2 p k)) (Ideal.ofBits .f32 0x44800000#32) + Ideal.ofBits .f32 0x358637BD#32) := by
  pointwise [k0_pay9]

theorem pay10 (x : Vec Ideal S512x1024 .f32) (p : Fin 512) (q : Fin 1024) :
    k0_pay10 (F := Ideal) x (ix2 p q) = x (ix2 p q) * k0_pay9 (F := Ideal) x (ix2 p 0) := by
  pointwise [k0_pay10]

theorem pay11 (x : Vec Ideal S512x1024 .f32) (g : Vec Ideal S1x1024 .f32) (p : Fin 512) (q : Fin 1024) :
    k0_pay11 (F := Ideal) x g (ix2 p q) = x (ix2 p q) * k0_pay9 (F := Ideal) x (ix2 p 0) * g (ix2 0 q) := by
  pointwise [k0_pay11, k0_pay10]

theorem pay12 (x : Vec Ideal S512x1024 .f32) (g : Vec Ideal S1x1024 .f32) (w : Vec Ideal S1024x1024 .bf16) (b : Vec Ideal S1x1024 .f32) (p : Fin 512) (q : Fin 1024) :
    k0_pay12 (F := Ideal) x g w b (ix2 p q) = Ideal.ofBits .f32 0x3F000000#32 * Ideal.tanh (Ideal.ofBits .f32 0x3F000000#32 * (∑ r : Fin 1024, k0_pay11 (F := Ideal) x g (ix2 p r) * w (ix2 r q) + b (ix2 0 q))) + Ideal.ofBits .f32 0x3F000000#32 := by
  pointwise [k0_pay12]

theorem pay15 (x : Vec Ideal S512x256 .f32) (v : Vec Ideal S256x1024 .bf16) (p : Fin 512) (q : Fin 1024) :
    k0_pay15 (F := Ideal) (k0_pay13 x) (k0_pay14 v) (constant S512x1024 .f32 0x00000000#32) (ix2 p q) = ∑ k : Fin 256, x (ix2 p k) * v (ix2 k q) := by
  pointwise [k0_pay15, k0_pay13, k0_pay14]

theorem pay16 (x G : Vec Ideal S512x1024 .f32) (a : Vec Ideal S512x256 .bf16) (b : Vec Ideal S256x1024 .bf16) (C : Vec Ideal S512x1024 .f32) (p : Fin 512) (q : Fin 1024) :
    k0_pay16 (F := Ideal) x G a b C (ix2 p q) = x (ix2 p q) + G (ix2 p q) * k0_pay15 (F := Ideal) a b C (ix2 p q) := by
  pointwise [k0_pay16]

theorem pay18 (x G : Vec Ideal S512x1024 .f32) (a : Vec Ideal S512x256 .bf16) (b : Vec Ideal S256x1024 .bf16) (C : Vec Ideal S512x1024 .f32) (p : Fin 512) :
    k0_pay18 (F := Ideal) x G a b C (ix2 p 0) = Ideal.rsqrt (Ideal.div (∑ k : Fin 1024, k0_pay16 (F := Ideal) x G a b C (ix2 p k) * k0_pay16 (F := Ideal) x G a b C (ix2 p k)) (Ideal.ofBits .f32 0x44800000#32) + Ideal.ofBits .f32 0x358637BD#32) := by
  pointwise [k0_pay18]

theorem pay19 (x G : Vec Ideal S512x1024 .f32) (a : Vec Ideal S512x256 .bf16) (b : Vec Ideal S256x1024 .bf16) (C : Vec Ideal S512x1024 .f32) (p : Fin 512) (q : Fin 1024) :
    k0_pay19 (F := Ideal) x G a b C (ix2 p q) = k0_pay16 (F := Ideal) x G a b C (ix2 p q) * k0_pay18 (F := Ideal) x G a b C (ix2 p 0) := by
  pointwise [k0_pay19]

theorem pay20 (x G : Vec Ideal S512x1024 .f32) (a : Vec Ideal S512x256 .bf16) (b : Vec Ideal S256x1024 .bf16) (C : Vec Ideal S512x1024 .f32) (f : Vec Ideal S1x1024 .f32) (t : Vec Ideal S512x1024 .f32) (p : Fin 512) (q : Fin 1024) :
    k0_pay20 (F := Ideal) x G a b C f t (ix2 p q) = k0_pay19 (F := Ideal) x G a b C (ix2 p q) * f (ix2 0 q) - t (ix2 p q) := by
  pointwise [k0_pay20, k0_pay17]

theorem pay21 (x G : Vec Ideal S512x1024 .f32) (a : Vec Ideal S512x256 .bf16) (b : Vec Ideal S256x1024 .bf16) (C : Vec Ideal S512x1024 .f32) (f : Vec Ideal S1x1024 .f32) (t : Vec Ideal S512x1024 .f32) (p : Fin 512) :
    k0_pay21 (F := Ideal) x G a b C f t (ix2 p 0) = Ideal.div (∑ k : Fin 1024, k0_pay20 (F := Ideal) x G a b C f t (ix2 p k) * k0_pay20 (F := Ideal) x G a b C f t (ix2 p k)) (Ideal.ofBits .f32 0x44800000#32) := by
  pointwise [k0_pay21]

theorem pay22 (x G : Vec Ideal S512x1024 .f32) (a : Vec Ideal S512x256 .bf16) (b : Vec Ideal S256x1024 .bf16) (C : Vec Ideal S512x1024 .f32) (f : Vec Ideal S1x1024 .f32) (t : Vec Ideal S512x1024 .f32) (p : Fin 512) (q : Fin 1024) :
    k0_pay22 (F := Ideal) x G a b C f t (ix2 p q) = k0_pay20 (F := Ideal) x G a b C f t (ix2 p q) * Ideal.ofBits .f32 0x3A800000#32 := by
  pointwise [k0_pay22]

theorem pay23 (x G : Vec Ideal S512x1024 .f32) (a : Vec Ideal S512x256 .bf16) (b : Vec Ideal S256x1024 .bf16) (C : Vec Ideal S512x1024 .f32) (f : Vec Ideal S1x1024 .f32) (t : Vec Ideal S512x1024 .f32) (p : Fin 512) (q : Fin 1024) :
    k0_pay23 (F := Ideal) x G a b C f t (ix2 p q) = k0_pay18 (F := Ideal) x G a b C (ix2 p 0) * (k0_pay22 (F := Ideal) x G a b C f t (ix2 p q) * f (ix2 0 q) - k0_pay19 (F := Ideal) x G a b C (ix2 p q) * Ideal.div (∑ k : Fin 1024, k0_pay22 (F := Ideal) x G a b C f t (ix2 p k) * f (ix2 0 k) * k0_pay19 (F := Ideal) x G a b C (ix2 p k)) (Ideal.ofBits .f32 0x44800000#32)) := by
  pointwise [k0_pay23, k0_pay17]

theorem pay24 (x G : Vec Ideal S512x1024 .f32) (a : Vec Ideal S512x256 .bf16) (b : Vec Ideal S256x1024 .bf16) (C : Vec Ideal S512x1024 .f32) (f : Vec Ideal S1x1024 .f32) (t : Vec Ideal S512x1024 .f32) (p : Fin 512) (q : Fin 1024) :
    k0_pay24 (F := Ideal) x G a b C f t (ix2 p q) = k0_pay23 (F := Ideal) x G a b C f t (ix2 p q) * k0_pay15 (F := Ideal) a b C (ix2 p q) * (G (ix2 p q) * (Ideal.ofBits .f32 0x3F800000#32 - G (ix2 p q))) := by
  pointwise [k0_pay24]

theorem pay25 (x G : Vec Ideal S512x1024 .f32) (a : Vec Ideal S512x256 .bf16) (b : Vec Ideal S256x1024 .bf16) (C : Vec Ideal S512x1024 .f32) (f : Vec Ideal S1x1024 .f32) (t : Vec Ideal S512x1024 .f32) (p : Fin 512) (q : Fin 1024) :
    k0_pay25 (F := Ideal) x G a b C f t (ix2 p q) = k0_pay23 (F := Ideal) x G a b C f t (ix2 p q) * G (ix2 p q) := by
  pointwise [k0_pay25]

theorem pay26 (x G : Vec Ideal S512x1024 .f32) (a : Vec Ideal S512x256 .bf16) (b : Vec Ideal S256x1024 .bf16) (C : Vec Ideal S512x1024 .f32) (f : Vec Ideal S1x1024 .f32) (t : Vec Ideal S512x1024 .f32) (p : Fin 512) (q : Fin 1024) :
    k0_pay26 (F := Ideal) x G a b C f t (ix2 p q) = k0_pay24 (F := Ideal) x G a b C f t (ix2 p q) := by
  pointwise [k0_pay26]

theorem pay27 (z l : Vec Ideal S512x1024 .bf16) (acc : Vec Ideal S1024x1024 .f32) (r q : Fin 1024) :
    k0_pay27 (F := Ideal) z l acc (ix2 r q) = acc (ix2 r q) + ∑ i : Fin 512, z (ix2 i r) * l (ix2 i q) := by
  pointwise [k0_pay27]

theorem pay28 (x : Vec Ideal S512x256 .f32) (l : Vec Ideal S512x1024 .f32) (acc : Vec Ideal S256x1024 .f32) (r : Fin 256) (q : Fin 1024) :
    k0_pay28 (F := Ideal) (k0_pay13 x) l acc (ix2 r q) = acc (ix2 r q) + ∑ i : Fin 512, x (ix2 i r) * l (ix2 i q) := by
  pointwise [k0_pay28, k0_pay13]

theorem pay29 (l : Vec Ideal S512x1024 .bf16) (w : Vec Ideal S1024x1024 .bf16) (p : Fin 512) (r : Fin 1024) :
    k0_pay29 (F := Ideal) l w (ix2 p r) = ∑ q : Fin 1024, l (ix2 p q) * w (ix2 r q) := by
  pointwise [k0_pay29]

theorem pay30 (g : Vec Ideal S1x1024 .f32) (r : Vec Ideal S512x1 .f32) (y d : Vec Ideal S512x1024 .f32) (l : Vec Ideal S512x1024 .bf16) (w : Vec Ideal S1024x1024 .bf16) (p : Fin 512) (q : Fin 1024) :
    k0_pay30 (F := Ideal) g r y d l w (ix2 p q) = d (ix2 p q) + r (ix2 p 0) * (k0_pay29 (F := Ideal) l w (ix2 p q) * g (ix2 0 q) - y (ix2 p q) * Ideal.div (∑ k : Fin 1024, k0_pay29 (F := Ideal) l w (ix2 p k) * g (ix2 0 k) * y (ix2 p k)) (Ideal.ofBits .f32 0x44800000#32)) := by
  pointwise [k0_pay30]

theorem pay31 (l : Vec Ideal S512x1024 .f32) (o : Vec Ideal S1x1024 .f32) (q : Fin 1024) :
    k0_pay31 (F := Ideal) l o (ix2 0 q) = o (ix2 0 q) + ∑ i : Fin 512, l (ix2 i q) := by
  pointwise [k0_pay31]

theorem pay1 (y l : Vec Ideal S512x1024 .f32) (o : Vec Ideal S1x1024 .f32) (q : Fin 1024) :
    k0_pay1 (F := Ideal) y l o (ix2 0 q) = o (ix2 0 q) + ∑ i : Fin 512, l (ix2 i q) * y (ix2 i q) := by
  pointwise [k0_pay1]

theorem pay2 (y l : Vec Ideal S512x1024 .f32) (o : Vec Ideal S1x1024 .f32) (q : Fin 1024) :
    k0_pay2 (F := Ideal) y l o (ix2 0 q) = o (ix2 0 q) + ∑ i : Fin 512, l (ix2 i q) * y (ix2 i q) := by
  pointwise [k0_pay2]

theorem pay3 (u : Vec Ideal S512x1 .f32) (o : Vec Ideal S1x1024 .f32) (q : Fin 1024) :
    k0_pay3 (F := Ideal) u o (ix2 0 q) = o (ix2 0 q) + Ideal.ofBits .f32 0x3F000000#32 * ∑ i : Fin 512, u (ix2 i 0) := by
  pointwise [k0_pay3]
  simp only [Fin.sum_univ_one]

theorem pay4 (a : Vec Ideal S1024x1024 .f32) (j : S1024x1024.Idx) :
    k0_pay4 (F := Ideal) a j = a j := by
  idx_vars j
  pointwise [k0_pay4]

theorem pay5 (a : Vec Ideal S256x1024 .f32) (j : S256x1024.Idx) :
    k0_pay5 (F := Ideal) a j = a j := by
  idx_vars j
  pointwise [k0_pay5]

theorem pay6 (j : S8x1024.Idx) :
    k0_pay6 (F := Ideal) j = 0 := by
  idx_vars j
  pointwise [k0_pay6]

theorem pay7 (j : S1024x1024.Idx) :
    k0_pay7 (F := Ideal) j = 0 := by
  idx_vars j
  pointwise [k0_pay7]

theorem pay8 (j : S256x1024.Idx) :
    k0_pay8 (F := Ideal) j = 0 := by
  idx_vars j
  pointwise [k0_pay8]

end Cert.PleIdeal.Pay

end
-- ==== Proof.PleMath.lean ====
/- The gated layer and the loss, forward and backward, over the whole arrays, index by index. -/
module

public import proofs.«01_k».proof.Proof.NormGrad

@[expose] public section

set_option maxRecDepth 16384

noncomputable section

namespace Cert.PleMath

open Idealize.ShloMosaic Idealize.ShloMosaic.TcCoe Idealize.SL.Sem
open Cert.MlpBRefIdeal (S8192x1024 S1x1024)

/-- The arrays the call takes: the rows, the auxiliary rows, the target, the first norm's scale, the gate's
    weights and bias, the projection and the last norm's scale. -/
structure Args where
  h : FVec Ideal S8192x1024 .f32
  p : FVec Ideal ⟨4, ![1, 1, 8192, 256]⟩ .f32
  t : FVec Ideal ⟨3, ![1, 8192, 1024]⟩ .f32
  g : FVec Ideal S1x1024 .f32
  w : FVec Ideal ⟨3, ![1, 1024, 1024]⟩ .f32
  b : FVec Ideal S1x1024 .f32
  v : FVec Ideal ⟨3, ![1, 256, 1024]⟩ .f32
  f : FVec Ideal ⟨1, ![1024]⟩ .f32

/-- One half, and one, as the programs print them. -/
abbrev half : EReal := Ideal.ofBits .f32 0x3F000000#32
abbrev one : EReal := Ideal.ofBits .f32 0x3F800000#32
abbrev size : EReal := Ideal.ofBits .f32 0x44800000#32

/-- The reciprocal root of a row's statistic. -/
def rt (x : FVec Ideal S8192x1024 .f32) (i : Fin 8192) : EReal := Ideal.rsqrt (NormGrad.ms x (ix2 i 0))

variable (A : Args) (i : Fin 8192) (q : Fin 1024)

/-- The normed and scaled row. -/
def z : EReal := A.h (ix2 i q) * rt A.h i * A.g (ix2 0 q)
/-- The gate before its sigmoid. -/
def lg : EReal := ∑ r : Fin 1024, z A i r * A.w (ix3 0 r q) + A.b (ix2 0 q)
/-- The gate. -/
def ga : EReal := half * Ideal.tanh (half * lg A i q) + half
/-- The projected auxiliary row. -/
def pe : EReal := ∑ k : Fin 256, A.p (ix4 0 0 i k) * A.v (ix3 0 k q)
/-- The layer's result. -/
def h3 : FVec Ideal S8192x1024 .f32 := fun j => A.h j + ga A (j 0) (j 1) * pe A (j 0) (j 1)
/-- Its distance to the target, after the last norm. -/
def er : EReal := h3 A (ix2 i q) * rt (h3 A) i * A.f (ix1 q) - A.t (ix3 0 i q)
/-- The loss of a row, doubled. -/
def ls : EReal := Ideal.div (∑ k : Fin 1024, er A i k * er A i k) size
/-- The cotangent of the last norm's result. -/
def y : FVec Ideal S8192x1024 .f32 := fun j => er A (j 0) (j 1) * Ideal.ofBits .f32 0x3A800000#32
/-- The last norm's scale as a row. -/
def fr : FVec Ideal S1x1024 .f32 := fun j => A.f (ix1 (j 1))
/-- The cotangent of the layer's result. -/
def d3 : FVec Ideal S8192x1024 .f32 := fun j => rt (h3 A) (j 0) * (y A j * A.f (ix1 (j 1)) - h3 A j * rt (h3 A) (j 0) *
  Ideal.div (∑ k : Fin 1024, y A (ix2 (j 0) k) * A.f (ix1 k) * (h3 A (ix2 (j 0) k) * rt (h3 A) (j 0))) size)
/-- The cotangent of the gate before its sigmoid. -/
def dl : EReal := d3 A (ix2 i q) * pe A i q * (ga A i q * (one - ga A i q))
/-- The cotangent of the normed row. -/
def dz : FVec Ideal S8192x1024 .f32 := fun j => ∑ q : Fin 1024, dl A (j 0) q * A.w (ix3 0 (j 1) q)
/-- The gradient of the rows. -/
def dh : EReal := NormGrad.gx A.h (d3 A) (dz A) A.g i q

end Cert.PleMath

end
-- ==== Proof.PleSum.lean ====
/- What one point of the gated layer and loss backward call makes of blocks that are rows of the arrays. -/
module

public import proofs.«01_k».proof.Proof.PlePay
public import proofs.«01_k».proof.Proof.PleMath

@[expose] public section

set_option maxRecDepth 16384

noncomputable section

namespace Cert.PleIdeal.Sum

open Cert.PleIdeal Cert.PleIdeal.Gen Idealize.ShloMosaic Idealize.ShloMosaic.TcCoe Idealize.SL.Sem Cert.PleIdeal.Body Cert.PleIdeal.Pay
open Cert.PleMath (Args half one size rt)

variable (A : Args) (R : Fin 512 → Fin 8192)
variable {x0 : Vec Ideal S512x1024 .f32} {x1 : Vec Ideal S512x256 .f32} {x2 : Vec Ideal S512x1024 .f32} {x3 : Vec Ideal S1x1024 .f32} {x4 : Vec Ideal S1024x1024 .bf16} {x5 : Vec Ideal S1x1024 .f32} {x6 : Vec Ideal S256x1024 .bf16} {x7 : Vec Ideal S1x1024 .f32}

/-- The blocks are the rows `R` of the arrays, and the whole small arrays. -/
structure Rows (x0 : Vec Ideal S512x1024 .f32) (x1 : Vec Ideal S512x256 .f32) (x2 : Vec Ideal S512x1024 .f32) (x3 : Vec Ideal S1x1024 .f32) (x4 : Vec Ideal S1024x1024 .bf16) (x5 : Vec Ideal S1x1024 .f32) (x6 : Vec Ideal S256x1024 .bf16) (x7 : Vec Ideal S1x1024 .f32) : Prop where
  e0 : ∀ p q, x0 (ix2 p q) = A.h (ix2 (R p) q)
  e1 : ∀ p k, x1 (ix2 p k) = A.p (ix4 0 0 (R p) k)
  e2 : ∀ p q, x2 (ix2 p q) = A.t (ix3 0 (R p) q)
  e3 : ∀ q, x3 (ix2 0 q) = A.g (ix2 0 q)
  e4 : ∀ r q, x4 (ix2 r q) = A.w (ix3 0 r q)
  e5 : ∀ q, x5 (ix2 0 q) = A.b (ix2 0 q)
  e6 : ∀ k q, x6 (ix2 k q) = A.v (ix3 0 k q)
  e7 : ∀ q, x7 (ix2 0 q) = A.f (ix1 q)

variable {A R} (e : Rows A R x0 x1 x2 x3 x4 x5 x6 x7)
include e

theorem rt_blk (p : Fin 512) : k0_pay9 (F := Ideal) x0 (ix2 p 0) = rt A.h (R p) := by
  rw [pay9]
  unfold rt
  rw [NormGrad.ms_apply]
  simp only [e.e0]

theorem z_blk (p : Fin 512) (q : Fin 1024) : k0_pay11 (F := Ideal) x0 x3 (ix2 p q) = PleMath.z A (R p) q := by
  rw [pay11, rt_blk e, e.e0, e.e3]
  rfl

theorem ga_blk (p : Fin 512) (q : Fin 1024) : k0_pay12 (F := Ideal) x0 x3 x4 x5 (ix2 p q) = PleMath.ga A (R p) q := by
  rw [pay12]
  simp only [z_blk e, e.e4, e.e5]
  rfl

theorem pe_blk (p : Fin 512) (q : Fin 1024) : k0_pay15 (F := Ideal) (k0_pay13 x1) (k0_pay14 x6) (constant S512x1024 .f32 0x00000000#32) (ix2 p q) = PleMath.pe A (R p) q := by
  rw [pay15]
  simp only [e.e1, e.e6]
  rfl

theorem h3_blk (p : Fin 512) (q : Fin 1024) : k0_pay16 (F := Ideal) x0 (k0_pay12 x0 x3 x4 x5) (k0_pay13 x1) (k0_pay14 x6) (constant S512x1024 .f32 0x00000000#32) (ix2 p q) = PleMath.h3 A (ix2 (R p) q) := by
  rw [pay16, ga_blk e, pe_blk e, e.e0]
  rfl

theorem rt3_blk (p : Fin 512) : k0_pay18 (F := Ideal) x0 (k0_pay12 x0 x3 x4 x5) (k0_pay13 x1) (k0_pay14 x6) (constant S512x1024 .f32 0x00000000#32) (ix2 p 0) = rt (PleMath.h3 A) (R p) := by
  rw [pay18]
  unfold rt
  rw [NormGrad.ms_apply]
  simp only [h3_blk e]

theorem n3_blk (p : Fin 512) (q : Fin 1024) : k0_pay19 (F := Ideal) x0 (k0_pay12 x0 x3 x4 x5) (k0_pay13 x1) (k0_pay14 x6) (constant S512x1024 .f32 0x00000000#32) (ix2 p q) = PleMath.h3 A (ix2 (R p) q) * rt (PleMath.h3 A) (R p) := by
  rw [pay19, h3_blk e, rt3_blk e]

theorem er_blk (p : Fin 512) (q : Fin 1024) : k0_pay20 (F := Ideal) x0 (k0_pay12 x0 x3 x4 x5) (k0_pay13 x1) (k0_pay14 x6) (constant S512x1024 .f32 0x00000000#32) x7 x2 (ix2 p q) = PleMath.er A (R p) q := by
  rw [pay20, n3_blk e, e.e7, e.e2]
  rfl

theorem ls_blk (p : Fin 512) : k0_pay21 (F := Ideal) x0 (k0_pay12 x0 x3 x4 x5) (k0_pay13 x1) (k0_pay14 x6) (constant S512x1024 .f32 0x00000000#32) x7 x2 (ix2 p 0) = PleMath.ls A (R p) := by
  rw [pay21]
  simp only [er_blk e]
  rfl

theorem y_blk (p : Fin 512) (q : Fin 1024) : k0_pay22 (F := Ideal) x0 (k0_pay12 x0 x3 x4 x5) (k0_pay13 x1) (k0_pay14 x6) (constant S512x1024 .f32 0x00000000#32) x7 x2 (ix2 p q) = PleMath.y A (ix2 (R p) q) := by
  rw [pay22, er_blk e]
  rfl

theorem d3_blk (p : Fin 512) (q : Fin 1024) : k0_pay23 (F := Ideal) x0 (k0_pay12 x0 x3 x4 x5) (k0_pay13 x1) (k0_pay14 x6) (constant S512x1024 .f32 0x00000000#32) x7 x2 (ix2 p q) = PleMath.d3 A (ix2 (R p) q) := by
  rw [pay23, rt3_blk e]
  simp only [y_blk e, n3_blk e, e.e7]
  rfl

theorem dl_blk (p : Fin 512) (q : Fin 1024) : k0_pay24 (F := Ideal) x0 (k0_pay12 x0 x3 x4 x5) (k0_pay13 x1) (k0_pay14 x6) (constant S512x1024 .f32 0x00000000#32) x7 x2 (ix2 p q) = PleMath.dl A (R p) q := by
  rw [pay24, d3_blk e, pe_blk e, ga_blk e]
  rfl

theorem dq_blk (p : Fin 512) (q : Fin 1024) : k0_pay25 (F := Ideal) x0 (k0_pay12 x0 x3 x4 x5) (k0_pay13 x1) (k0_pay14 x6) (constant S512x1024 .f32 0x00000000#32) x7 x2 (ix2 p q) = PleMath.d3 A (ix2 (R p) q) * PleMath.ga A (R p) q := by
  rw [pay25, d3_blk e, ga_blk e]

theorem dz_blk (p : Fin 512) (r : Fin 1024) : k0_pay29 (F := Ideal) (k0_pay26 x0 (k0_pay12 x0 x3 x4 x5) (k0_pay13 x1) (k0_pay14 x6) (constant S512x1024 .f32 0x00000000#32) x7 x2) x4 (ix2 p r) = PleMath.dz A (ix2 (R p) r) := by
  rw [pay29]
  simp only [pay26, dl_blk e, e.e4]
  rfl

/-- The block of the rows' gradient. -/
theorem dh_at (p : Fin 512) (q : Fin 1024) : dh x0 x1 x2 x3 x4 x5 x6 x7 (ix2 p q) = PleMath.dh A (R p) q := by
  unfold dh dh3
  rw [pay30, d3_blk e, rt_blk e]
  simp only [dz_blk e, pay10, rt_blk e, e.e0, e.e3]
  rfl

theorem dwg_at (acc : Vec Ideal S1024x1024 .f32) (r q : Fin 1024) : dwg x0 x1 x2 x3 x4 x5 x6 x7 acc (ix2 r q) = acc (ix2 r q) + ∑ i : Fin 512, PleMath.z A (R i) r * PleMath.dl A (R i) q := by
  unfold dwg
  rw [pay27]
  simp only [pay26, dl_blk e, z_blk e]

theorem dwp_at (acc : Vec Ideal S256x1024 .f32) (k : Fin 256) (q : Fin 1024) : dwp x0 x1 x2 x3 x4 x5 x6 x7 acc (ix2 k q) = acc (ix2 k q) + ∑ i : Fin 512, A.p (ix4 0 0 (R i) k) * (PleMath.d3 A (ix2 (R i) q) * PleMath.ga A (R i) q) := by
  unfold dwp
  rw [pay28]
  simp only [dq_blk e, e.e1]

omit e in
/-- What one row of the arrays adds to row `k` of the vectors' buffer. -/
def term (A : Args) (k : Nat) (i : Fin 8192) (q : Fin 1024) : EReal :=
  if k = 0 then PleMath.dl A i q else if k = 1 then PleMath.dz A (ix2 i q) * (A.h (ix2 i q) * rt A.h i) else
  if k = 2 then PleMath.y A (ix2 i q) * (PleMath.h3 A (ix2 i q) * rt (PleMath.h3 A) i) else PleMath.ls A i

omit e in
/-- What 512 rows add to it: row 3 is halved after the sum. -/
def part (A : Args) (R : Fin 512 → Fin 8192) (k : Nat) (q : Fin 1024) : EReal :=
  if k = 3 then half * ∑ i : Fin 512, term A 3 (R i) q else ∑ i : Fin 512, term A k (R i) q

theorem vec_at (old : Vec Ideal S8x1024 .f32) (k : Fin 8) (q : Fin 1024) : vec x0 x1 x2 x3 x4 x5 x6 x7 old (ix2 k q) =
    if k.val < 4 then old (ix2 k q) + part A R k.val q else old (ix2 k q) := by
  have h0 := (pay31 (dgl x0 x1 x2 x3 x4 x5 x6 x7) (View.ld old (Rect.unit (s := S8x1024) ![0, 0] S1x1024.size inb_S8x1024_S1x1024_0_0)) q).trans (congrArg₂ _ (RowZero.ld (Val := Elt Ideal) (e := .f32) old 0 (by decide) _ q) (Finset.sum_congr rfl fun i _ => dl_blk e i q))
  have h1 := (pay1 (k0_pay10 x0) (k0_pay29 (k0_pay26 x0 (k0_pay12 x0 x3 x4 x5) (k0_pay13 x1) (k0_pay14 x6) (constant S512x1024 .f32 0x00000000#32) x7 x2) x4) (View.ld old (Rect.unit (s := S8x1024) ![1, 0] S1x1024.size inb_S8x1024_S1x1024_1_0)) q).trans (congrArg₂ _ (RowZero.ld (Val := Elt Ideal) (e := .f32) old 1 (by decide) _ q) (Finset.sum_congr rfl fun i _ => congrArg₂ _ (dz_blk e i q) ((pay10 x0 i q).trans (congrArg₂ _ (e.e0 i q) (rt_blk e i)))))
  have h2 := (pay2 (k0_pay19 x0 (k0_pay12 x0 x3 x4 x5) (k0_pay13 x1) (k0_pay14 x6) (constant S512x1024 .f32 0x00000000#32)) (k0_pay22 x0 (k0_pay12 x0 x3 x4 x5) (k0_pay13 x1) (k0_pay14 x6) (constant S512x1024 .f32 0x00000000#32) x7 x2) (View.ld old (Rect.unit (s := S8x1024) ![2, 0] S1x1024.size inb_S8x1024_S1x1024_2_0)) q).trans (congrArg₂ _ (RowZero.ld (Val := Elt Ideal) (e := .f32) old 2 (by decide) _ q) (Finset.sum_congr rfl fun i _ => congrArg₂ _ (y_blk e i q) (n3_blk e i q)))
  have h3 := (pay3 (k0_pay21 x0 (k0_pay12 x0 x3 x4 x5) (k0_pay13 x1) (k0_pay14 x6) (constant S512x1024 .f32 0x00000000#32) x7 x2) (View.ld old (Rect.unit (s := S8x1024) ![3, 0] S1x1024.size inb_S8x1024_S1x1024_3_0)) q).trans (congrArg₂ _ (RowZero.ld (Val := Elt Ideal) (e := .f32) old 3 (by decide) _ q) (congrArg (half * ·) (Finset.sum_congr rfl fun i _ => ls_blk e i)))
  unfold vec RowZero.upd part
  match k with
  | ⟨0, _⟩ => exact h0
  | ⟨1, _⟩ => exact h1
  | ⟨2, _⟩ => exact h2
  | ⟨3, _⟩ => exact h3
  | ⟨4, _⟩ => rfl
  | ⟨5, _⟩ => rfl
  | ⟨6, _⟩ => rfl
  | ⟨7, _⟩ => rfl

end Cert.PleIdeal.Sum

end
-- ==== Proof.PleBlocks.lean ====
/- The blocks the points of the gated layer and loss backward call read, from the arrays. -/
module

public import proofs.«01_k».proof.Proof.PleSum
public import Idealize.ShloMosaic.Lib.Pipeline.ValueKit.Point

@[expose] public section

set_option maxRecDepth 16384

noncomputable section

namespace Cert.PleIdeal.Blocks

open Cert.PleIdeal Cert.PleIdeal.Gen Idealize.ShloMosaic Idealize.ShloMosaic.TcCoe Idealize.SL.Sem
open Cert.PleMath (Args)

variable (m : (ℓ : Loc nD τ sig) → Buf (Elt Ideal) ℓ) (c : Dev nD) (t : Fin cfg0.N)

/-- The arguments. -/
def args : Args where
  h := m ((c : Thread nD τ).loc main_arg0)
  p := m ((c : Thread nD τ).loc main_arg1)
  t := m ((c : Thread nD τ).loc main_arg2)
  g := m ((c : Thread nD τ).loc main_arg3)
  w := m ((c : Thread nD τ).loc main_arg4)
  b := m ((c : Thread nD τ).loc main_arg5)
  v := m ((c : Thread nD τ).loc main_arg6)
  f := m ((c : Thread nD τ).loc main_arg7)

theorem lt16 : t.val < 16 := N_0 ▸ t.isLt

/-- Row `k` of block `n` of the rows. -/
def row (n : ℕ) (h : n < 16) (k : Fin 512) : Fin 8192 := ⟨n * 512 + k.val, by omega⟩

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel

theorem blk0 (p : Fin 512) (q : Fin 1024) : (iblk m c 0 t : Vec Ideal S512x1024 .f32) (ix2 p q) = (args m c).h (ix2 (row t.val (lt16 t) p) q) := by
  have h := idx0 t
  blk_ext [iblk, V, h.1, h.2, row, args]

theorem blk1 (p : Fin 512) (k : Fin 256) : (iblk m c 1 t : Vec Ideal S512x256 .f32) (ix2 p k) = (args m c).p (ix4 0 0 (row t.val (lt16 t) p) k) := by
  have h := idx1 t
  unfold iblk
  rw [View.read_apply]
  show V m c main_v0 _ = _
  entry_read
  refine (congrArg _ (show _ = (ix2 (row t.val (lt16 t) p) k : S8192x256.Idx) from by blk_ext [h.1, h.2, row])).trans ?_
  pointwise [args]

theorem blk2 (p : Fin 512) (q : Fin 1024) : (iblk m c 2 t : Vec Ideal S512x1024 .f32) (ix2 p q) = (args m c).t (ix3 0 (row t.val (lt16 t) p) q) := by
  have h := idx2 t
  unfold iblk
  rw [View.read_apply]
  show V m c main_v1 _ = _
  entry_read
  refine (congrArg _ (show _ = (ix2 (row t.val (lt16 t) p) q : S8192x1024.Idx) from by blk_ext [h.1, h.2, row])).trans ?_
  pointwise [args]

theorem blk3 (q : Fin 1024) : (iblk m c 3 t : Vec Ideal S1x1024 .f32) (ix2 0 q) = (args m c).g (ix2 0 q) := by
  have h := idx3 t
  blk_ext [iblk, V, h.1, h.2, row, args]

theorem blk4 (r q : Fin 1024) : (iblk m c 4 t : Vec Ideal S1024x1024 .bf16) (ix2 r q) = (args m c).w (ix3 0 r q) := by
  have h := idx4 t
  unfold iblk
  rw [View.read_apply]
  show V m c main_v3 _ = _
  entry_read
  refine (congrArg _ (show _ = (ix2 r q : S1024x1024.Idx) from by blk_ext [h.1, h.2, row])).trans ?_
  pointwise [args]

theorem blk5 (q : Fin 1024) : (iblk m c 5 t : Vec Ideal S1x1024 .f32) (ix2 0 q) = (args m c).b (ix2 0 q) := by
  have h := idx5 t
  blk_ext [iblk, V, h.1, h.2, row, args]

theorem blk6 (k : Fin 256) (q : Fin 1024) : (iblk m c 6 t : Vec Ideal S256x1024 .bf16) (ix2 k q) = (args m c).v (ix3 0 k q) := by
  have h := idx6 t
  unfold iblk
  rw [View.read_apply]
  show V m c main_v5 _ = _
  entry_read
  refine (congrArg _ (show _ = (ix2 k q : S256x1024.Idx) from by blk_ext [h.1, h.2, row])).trans ?_
  pointwise [args]

theorem blk7 (q : Fin 1024) : (iblk m c 7 t : Vec Ideal S1x1024 .f32) (ix2 0 q) = (args m c).f (ix1 q) := by
  have h := idx7 t
  unfold iblk
  rw [View.read_apply]
  show V m c main_v6 _ = _
  entry_read
  refine (congrArg _ (show _ = (ix2 0 q : S1x1024.Idx) from by blk_ext [h.1, h.2, row])).trans ?_
  pointwise [args]

/-- The blocks of a point are the rows of the arrays. -/
theorem rows : Sum.Rows (args m c) (row t.val (lt16 t)) (iblk m c 0 t) (iblk m c 1 t) (iblk m c 2 t) (iblk m c 3 t) (iblk m c 4 t) (iblk m c 5 t) (iblk m c 6 t) (iblk m c 7 t) :=
  ⟨blk0 m c t, blk1 m c t, blk2 m c t, blk3 m c t, blk4 m c t, blk5 m c t, blk6 m c t, blk7 m c t⟩

end Cert.PleIdeal.Blocks

end
-- ==== Proof.PlePoints.lean ====
/- What the points of the gated layer and loss backward call leave, from the blocks and what the point before left. -/
module

public import proofs.«01_k».proof.Proof.PleBody

@[expose] public section

set_option maxRecDepth 16384

noncomputable section

namespace Cert.PleIdeal.Points

open Cert.PleIdeal Cert.PleIdeal.Gen Idealize.ShloMosaic Idealize.ShloMosaic.TcCoe Idealize.SL.Sem Cert.PleIdeal.Body

variable {F : FTy → Type} [FloatOps F]
variable (m : (ℓ : Loc nD τ sig) → Buf (Elt F) ℓ) (c : Dev nD) (t : Fin cfg0.N)

/-- Each point's block of the input's gradient. -/
theorem out_dh : (outsAt0 m c t.val t.isLt).1 = dh (iblk m c 0 t) (iblk m c 1 t) (iblk m c 2 t) (iblk m c 3 t) (iblk m c 4 t) (iblk m c 5 t) (iblk m c 6 t) (iblk m c 7 t) := by
  by_cases h0 : t.val % 16 = 0
  · have h1 : ¬t.val % 16 = 15 := by omega
    rw [outsAt0_A m c t h0 h1]
    dsimp only
    rw [dh_A]
  · by_cases h1 : t.val % 16 = 15
    · rw [outsAt0_C m c t h0 h1]
      dsimp only
      rw [dh_C]
    · rw [outsAt0_B m c t h0 h1]
      dsimp only
      rw [dh_B]

theorem vec_first (h0 : t.val % 16 = 0) : (outsAt0 m c t.val t.isLt).2.1 = vec (iblk m c 0 t) (iblk m c 1 t) (iblk m c 2 t) (iblk m c 3 t) (iblk m c 4 t) (iblk m c 5 t) (iblk m c 6 t) (iblk m c 7 t) k0_pay6 := by
  rw [outsAt0_A m c t h0 (by omega)]
  dsimp only
  rw [vec_A]

theorem vec_next (h0 : ¬t.val % 16 = 0) : (outsAt0 m c t.val t.isLt).2.1 =
    vec (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 := by
  by_cases h1 : t.val % 16 = 15
  · rw [outsAt0_C m c t h0 h1]
    dsimp only
    rw [vec_C]
  · rw [outsAt0_B m c t h0 h1]
    dsimp only
    rw [vec_B]

theorem dwg_first (h0 : t.val % 16 = 0) : (outsAt0 m c t.val t.isLt).2.2.1 = dwg (iblk m c 0 t) (iblk m c 1 t) (iblk m c 2 t) (iblk m c 3 t) (iblk m c 4 t) (iblk m c 5 t) (iblk m c 6 t) (iblk m c 7 t) k0_pay7 := by
  rw [outsAt0_A m c t h0 (by omega)]
  dsimp only
  rw [dwg_A]

theorem dwg_next (h0 : ¬t.val % 16 = 0) (h1 : ¬t.val % 16 = 15) : (outsAt0 m c t.val t.isLt).2.2.1 =
    dwg (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 := by
  rw [outsAt0_B m c t h0 h1]
  dsimp only
  rw [dwg_B]

theorem dwp_first (h0 : t.val % 16 = 0) : (outsAt0 m c t.val t.isLt).2.2.2 = dwp (iblk m c 0 t) (iblk m c 1 t) (iblk m c 2 t) (iblk m c 3 t) (iblk m c 4 t) (iblk m c 5 t) (iblk m c 6 t) (iblk m c 7 t) k0_pay8 := by
  rw [outsAt0_A m c t h0 (by omega)]
  dsimp only
  rw [dwp_A]

theorem dwp_next (h0 : ¬t.val % 16 = 0) (h1 : ¬t.val % 16 = 15) : (outsAt0 m c t.val t.isLt).2.2.2 =
    dwp (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 := by
  rw [outsAt0_B m c t h0 h1]
  dsimp only
  rw [dwp_B]

end Cert.PleIdeal.Points

end
-- ==== Proof.PleOut.lean ====
/- The run of the gated embedding call with the two results it leaves in HBM named: the invariant after the last grid point holds
  them at the contents copied out of the accumulators. -/
module

public import proofs.«01_k».proof.Proof.PleBody
public import Idealize.ShloMosaic.Lib.Pipeline.FrameValue

@[expose] public section

set_option maxRecDepth 16384

noncomputable section

namespace Cert.PleIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PleIdeal Cert.PleIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first result at point `t`'s end, were it the last. -/
def res0 (c : Dev nD) (t : Fin cfg0.N) : Vec F S1024x1024 .bf16 := k0_pay4 (Body.dwg (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1)

/-- The second result. -/
def res1 (c : Dev nD) (t : Fin cfg0.N) : Vec F S256x1024 .bf16 := k0_pay5 (Body.dwp (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2)

/-- The last point. -/
def tl : Fin cfg0.N := ⟨15, by rw [show cfg0.N = 16 from N_0]; omega⟩

/-- What is held after the last point: the scratch at anything, the two results at their contents. -/
def PhiEnd (c : Dev nD) (t : Fin cfg0.N) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 14) 0 ∗ semVal ((c : Thread nD τ), SemLoc.dma 15) 0) ∗ iprop(emp)
    ∗ iprop(hbPt0 c hbM0_0 ((Memref.isWhole_whole main_v7_2).unread (res0 m c t)) ∗ hbPt0 c hbM0_1 ((Memref.isWhole_whole main_v7_3).unread (res1 m c t))))

/-- The invariant before position `n`: the carried one, and at the end the results named. -/
def PhiV (c : Dev nD) (n : ℕ) (h : n ≤ cfg0.N) : sProp 𝕄 := if n = 16 then PhiEnd m c tl else PhiS m c n h

theorem PhiV_ne (c : Dev nD) (n : ℕ) (h : n ≤ cfg0.N) (hn : n ≠ 16) : PhiV m c n h = PhiS m c n h := if_neg hn

theorem PhiV_end (c : Dev nD) (n : ℕ) (h : n ≤ cfg0.N) (hn : n = 16) : PhiV m c n h = PhiEnd m c tl := if_pos hn

/-- The proof data with that invariant. -/
def datsV (p : Fin 1) (c : Dev nD) : Dat τ (Elt F) Unit ℕ (Pipeline.UD sig nD τ) ℕ cfg0 c :=
  { dats m p c with Φ := fun t => PhiV m c t.val (Nat.le_of_lt_succ t.isLt) }

/-- What the body is called with at point `t`, -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d))
    ∗ (∃ d, owns (c : Thread nD τ) (ms0_8 t) fullShare ((datsV m 0 c).before 8 t d))
    ∗ (∃ d, owns (c : Thread nD τ) (ms0_9 t) fullShare ((datsV m 0 c).before 9 t d)))

/-- and what it returns. -/
def postV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t)
    ∗ owns (c : Thread nD τ) (ms0_6 t) fullShare ((datsV m 0 c).after 6 t)
    ∗ owns (c : Thread nD τ) (ms0_7 t) fullShare ((datsV m 0 c).after 7 t)
    ∗ owns (c : Thread nD τ) (ms0_8 t) fullShare ((datsV m 0 c).after 8 t)
    ∗ owns (c : Thread nD τ) (ms0_9 t) fullShare ((datsV m 0 c).after 9 t))

/-- What the last point returns. -/
def postL (c : Dev nD) (t : Fin cfg0.N) : sProp 𝕄 :=
  iprop(PhiEnd m c t ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The last point: the run's triple with the results it copies out named. -/
theorem sound_last (c : Dev nD) (t : Fin cfg0.N) (h0 : ¬t.val % 16 = 0) (h1 : t.val % 16 = 15) :
    bodyPre m c t ⊢ wp frame (wpE (defs₀ (F := F)) Variants.none c none) Set.univ (bodyAt0 t) (fun _ => postL m c t) := by
  unfold bodyPre postL bodyAt0 PhiEnd res0 res1
  simp only [before0_0, before0_1, before0_2, before0_3, before0_4, before0_5, before0_6, before0_7]
  rw [after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hz : t.val ≠ 0 := by intro h; rw [h] at h1; exact absurd h1 (by decide)
  rw [PhiS_castSucc m c t, PhiS_pos m c _ _ hz]
  simp only [before0_9_C m c t h0 h1]
  rw [outsAt0_C m c t h0 h1]
  dsimp only
  unfold out0_C_8 out0_C_9; (try dsimp only)
  iintro ⟨⟨⟨HS0, HS1, HS2, HS3⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runLast c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _).2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, ⟨%e8, H8⟩, H9, ⟨%es0, HS0⟩, ⟨%es1, HS1⟩, HS2, HS3, Hq0, Hq1, ⟨%f0, %g0, %k0, Hh0⟩, ⟨%f1, %g1, %k1, Hh1⟩, ⟨%W', HW'⟩⟩
  isplitl [HS0 HS1 HS2 HS3 Hg Hq0 Hq1 Hh0 Hh1]
  · isplitl [HS0 HS1 HS2 HS3]
    · isplitl [HS0]
      · unfold owns; iexists _, _; isplitr
        swap; · iexact HS0
        ipureintro; rfl
      isplitl [HS1]
      · unfold owns; iexists _, _; isplitr
        swap; · iexact HS1
        ipureintro; rfl
      isplitl [HS2]; · iexact HS2
      iexact HS3
    isplitl [Hg]; · iexact Hg
    isplitl [Hq0 Hq1]
    · isplitl [Hq0]; · iexact Hq0
      iexact Hq1
    isplitr; · iempintro
    isplitl [Hh0]
    · rw [← (Memref.isWhole_whole main_v7_2).eq_unread (Body.copied7 c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ (fun h => h0 ((hcond0_0 t).mp h)) ((hcond0_1 t).mpr h1) f0 g0 k0)]; iexact Hh0
    · rw [← (Memref.isWhole_whole main_v7_3).eq_unread (Body.copied8 c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ (fun h => h0 ((hcond0_0 t).mp h)) ((hcond0_1 t).mpr h1) f1 g1 k1)]; iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [Body.same8]; exact View.read_writes_of_cover _ _ _ _ _ (cover0_C_8 c _ _ _ _ _ _ _ _ _ _ _ _ _ _ _ _ _ _ _ _ _ _ _ _ _ _ _ _ _ _ _ _ _ _ _ _ _ _ _ _ _ _)
  unfold owns; iexists _; isplitr
  swap; · iexact H9
  ipureintro; rw [Body.same9]

/-- Before any point the invariant is the carried one. -/
theorem PhiV_castSucc (c : Dev nD) (t : Fin cfg0.N) : (datsV m 0 c).Φ t.castSucc = (dats m 0 c).Φ t.castSucc := by
  have hN : t.val < 16 := lt_of_lt_of_eq t.isLt (show cfg0.N = 16 from N_0)
  exact if_neg (show ¬ t.val = 16 by omega)

theorem beforeV (c : Dev nD) (w : Fin 10) (t : Fin cfg0.N) (d) : (datsV m 0 c).before w t d = (dats m 0 c).before w t d := rfl

theorem pre_eq (c : Dev nD) (t : Fin cfg0.N) : preV m c t = bodyPre m c t := by
  unfold preV bodyPre
  rw [PhiV_castSucc]
  simp only [beforeV]
  rfl

/-- The body at any point. -/
theorem sound_V (c : Dev nD) (t : Fin cfg0.N) :
    preV m c t ⊢ wp frame (wpE (defs₀ (F := F)) Variants.none c none) Set.univ (bodyAt0 t) (fun _ => postV m c t) := by
  rw [pre_eq]
  have hN : t.val < 16 := lt_of_lt_of_eq t.isLt (show cfg0.N = 16 from N_0)
  by_cases h : t.val = 15
  · have e : postV m c t = postL m c t := by
      have et : t = tl := Fin.ext h
      unfold postV postL
      rw [show (datsV m 0 c).Φ t.succ = PhiEnd m c t from (if_pos (show t.val + 1 = 16 by omega)).trans (by rw [et])]
      rfl
    rw [e]
    exact sound_last m c t (by omega) (by omega)
  · have e : postV m c t = bodyPost m c t := by
      unfold postV bodyPost
      rw [show (datsV m 0 c).Φ t.succ = (dats m 0 c).Φ t.succ from if_neg (show ¬ t.val + 1 = 16 by omega)]
      rfl
    rw [e]
    exact sound_body m c t

theorem obligation (c : Dev nD) : BodyObligation (datsV (F := F) m 0 c) (defs₀ (F := F)) Variants.none () Set.univ := fun t => by
  rw [bigSep_W0, bigSep_W0, defs₀_row]
  exact triple_restated (sound_V m c t) rfl .rfl fun _ => .rfl

/-- The buffers at the end: the two results at their contents. -/
def G (c : Dev nD) : (b : Ref sig .tc) → Buf (Elt F) ((c.tc : Thread nD τ).loc b) :=
  Function.update (Function.update (V m c) main_v7_2 ((Memref.isWhole_whole main_v7_2).unread (res0 m c tl))) main_v7_3 ((Memref.isWhole_whole main_v7_3).unread (res1 m c tl))

theorem inV (c : Dev nD) : Pipeline.ΦDRG osem0 spec0 H0 R0 (V m) (V m) c ⊢ (datsV m 0 c).Φ 0 :=
  (Pipeline.ΦDRG_ΦDR osem0 spec0 H0 R0 (V m) (V m) c).trans (by
    rw [show (datsV m 0 c).Φ 0 = (dats m 0 c).Φ 0 from PhiV_ne m c 0 (Nat.zero_le _) (by decide)]
    exact hin m c)

theorem routed_list (c : Dev nD) : (Pipeline.routed R0 c (G m c) : sProp 𝕄)
    = iprop(hbPt0 c hbM0_0 ((Memref.isWhole_whole main_v7_2).unread (res0 m c tl)) ∗ hbPt0 c hbM0_1 ((Memref.isWhole_whole main_v7_3).unread (res1 m c tl))) := by
  unfold Pipeline.routed G
  rw [BI.bigSep_eq_bigSepL_of_eq [main_v7_2, main_v7_3] (by decide) (by decide)]
  simp only [BI.bigSepL_cons_cons, BI.bigSepL_singleton, Function.update_self, Function.update_of_ne (show main_v7_2 ≠ main_v7_3 by decide)]
  rfl

theorem outV (c : Dev nD) : (datsV m 0 c).Φ (Fin.last cfg0.N) ⊢ Pipeline.ΦDRG osem0 spec0 H0 R0 (V m) (G m) c := by
  rw [show (datsV m 0 c).Φ (Fin.last cfg0.N) = PhiEnd m c tl from PhiV_end m c cfg0.N le_rfl N_0]
  rw [Pipeline.ΦDRG_eq, scopedRest0_eq, ownSems00_eq, hbmPts0_eq, routed_list]
  unfold PhiEnd
  simp only [scM0_0, scM0_1, scM0_2, scM0_3, owns_whole]
  try exact Idealize.SL.BI.Entails.refl _

set_option backward.isDefEq.respectTransparency.types false in
/-- The run, with the two results left in HBM at their contents. -/
theorem run : θ_run defs (onTc (τ := τ) (main (F := F))) (s₀ m ρ) (Pipeline.FramePostRG cfgs (datsV m) 0 R0 (V m) (G m)) :=
  Pipeline.θ_run_frame_dmaRG (Q' := _) cfgs (datsV m) (0 : Fin 1) launch0 osem0 defs₀ Variants.none ownSemFacts0 H0 R0 H0_sub R0_sub m ρ main
    (hbody := fun c => (obligation m c).loose) (hshare := fun c => (datsV m 0 c).share_full fun _ => rfl)
    (howed := fun _ _ => rfl) (V := V m) (hmain := hmain m Variants.none) (hA := A_eq m) (G := G m)
    (hin := inV m) (hout := outV m)

/-- What the run leaves of the windows is what the carried invariant's run leaves of them. -/
theorem post_R {r : PUnit × MemSt nD τ sig (Elt F)} (h : Pipeline.FramePostRG cfgs (datsV m) 0 R0 (V m) (G m) r) : Pipeline.FramePostR cfgs (dats m) 0 R0 (V m) r := h.toR

/-- The first result left in HBM. -/
theorem post_0 {r : PUnit × MemSt nD τ sig (Elt F)} (h : Pipeline.FramePostRG cfgs (datsV m) 0 R0 (V m) (G m) r) (c : Dev nD) :
    r.2.mem ((c.tc : Thread nD τ).loc main_v7_2) = (Memref.isWhole_whole main_v7_2).unread (res0 m c tl) :=
  (h.written c (b := main_v7_2) (by decide)).trans (by
    unfold G; rw [Function.update_of_ne (show main_v7_2 ≠ main_v7_3 by decide), Function.update_self])

/-- The second. -/
theorem post_1 {r : PUnit × MemSt nD τ sig (Elt F)} (h : Pipeline.FramePostRG cfgs (datsV m) 0 R0 (V m) (G m) r) (c : Dev nD) :
    r.2.mem ((c.tc : Thread nD τ).loc main_v7_3) = (Memref.isWhole_whole main_v7_3).unread (res1 m c tl) :=
  (h.written c (b := main_v7_3) (by decide)).trans (by unfold G; rw [Function.update_self])

end Cert.PleIdeal.Out

end
-- ==== Proof.PleFold.lean ====
/- The accumulators of the gated layer and loss backward call as sums over the blocks of rows, and its results index by index. -/
module

public import proofs.«01_k».proof.Proof.PleBlocks
public import proofs.«01_k».proof.Proof.PlePoints
public import proofs.«01_k».proof.Proof.PleOut

@[expose] public section

set_option maxRecDepth 16384

noncomputable section

namespace Cert.PleIdeal.Fold

open Cert.PleIdeal Cert.PleIdeal.Gen Cert.PleIdeal.Body Cert.PleIdeal.Pay Cert.PleIdeal.Sum Cert.PleIdeal.Blocks Idealize.ShloMosaic Idealize.ShloMosaic.TcCoe Idealize.SL.Sem

variable (m : (ℓ : Loc nD τ sig) → Buf (Elt Ideal) ℓ) (c : Dev nD)

theorem ix2_of {a b : ℕ} (j : (⟨2, ![a, b]⟩ : Shape).Idx) : ∃ (i : Fin a) (q : Fin b), j = ix2 i q := ⟨j 0, j 1, by funext a; match a with | ⟨0, _⟩ => rfl | ⟨1, _⟩ => rfl⟩

/-- What block `n` of the rows adds to the gate's weights' gradient. -/
def gPart (n : ℕ) (r q : Fin 1024) : EReal := if h : n < 16 then ∑ k : Fin 512, PleMath.z (args m c) (row n h k) r * PleMath.dl (args m c) (row n h k) q else 0

/-- What it adds to the projection's. -/
def pPart (n : ℕ) (r : Fin 256) (q : Fin 1024) : EReal := if h : n < 16 then ∑ k : Fin 512, (args m c).p (ix4 0 0 (row n h k) r) * (PleMath.d3 (args m c) (ix2 (row n h k) q) * PleMath.ga (args m c) (row n h k) q) else 0

/-- And to row `k` of the vectors' buffer. -/
def vPart (n : ℕ) (k : ℕ) (q : Fin 1024) : EReal := if h : n < 16 then part (args m c) (row n h) k q else 0

/-- The accumulators after point `n`. -/
def gAcc (n : ℕ) : Vec Ideal S1024x1024 .f32 := fun j => ∑ s ∈ Finset.range (n + 1), gPart m c s (j 0) (j 1)
def pAcc (n : ℕ) : Vec Ideal S256x1024 .f32 := fun j => ∑ s ∈ Finset.range (n + 1), pPart m c s (j 0) (j 1)
def vAcc (n : ℕ) : Vec Ideal S8x1024 .f32 := fun j => if (j 0).val < 4 then ∑ s ∈ Finset.range (n + 1), vPart m c s (j 0).val (j 1) else 0

variable (t : Fin cfg0.N)

theorem dh_blk (p : Fin 512) (q : Fin 1024) : dh (iblk m c 0 t) (iblk m c 1 t) (iblk m c 2 t) (iblk m c 3 t) (iblk m c 4 t) (iblk m c 5 t) (iblk m c 6 t) (iblk m c 7 t) (ix2 p q) = PleMath.dh (args m c) (row t.val (lt16 t) p) q := dh_at (rows m c t) p q

theorem g_blk (acc : Vec Ideal S1024x1024 .f32) (r q : Fin 1024) : dwg (iblk m c 0 t) (iblk m c 1 t) (iblk m c 2 t) (iblk m c 3 t) (iblk m c 4 t) (iblk m c 5 t) (iblk m c 6 t) (iblk m c 7 t) acc (ix2 r q) = acc (ix2 r q) + gPart m c t.val r q := by
  refine (dwg_at (rows m c t) acc r q).trans (congrArg _ ?_)
  unfold gPart
  rw [dif_pos (lt16 t)]

theorem p_blk (acc : Vec Ideal S256x1024 .f32) (r : Fin 256) (q : Fin 1024) : dwp (iblk m c 0 t) (iblk m c 1 t) (iblk m c 2 t) (iblk m c 3 t) (iblk m c 4 t) (iblk m c 5 t) (iblk m c 6 t) (iblk m c 7 t) acc (ix2 r q) = acc (ix2 r q) + pPart m c t.val r q := by
  refine (dwp_at (rows m c t) acc r q).trans (congrArg _ ?_)
  unfold pPart
  rw [dif_pos (lt16 t)]

theorem v_blk (old : Vec Ideal S8x1024 .f32) (k : Fin 8) (q : Fin 1024) : vec (iblk m c 0 t) (iblk m c 1 t) (iblk m c 2 t) (iblk m c 3 t) (iblk m c 4 t) (iblk m c 5 t) (iblk m c 6 t) (iblk m c 7 t) old (ix2 k q) = if k.val < 4 then old (ix2 k q) + vPart m c t.val k.val q else old (ix2 k q) := by
  refine (vec_at (rows m c t) old k q).trans (if_congr Iff.rfl (congrArg _ ?_) rfl)
  unfold vPart
  rw [dif_pos (lt16 t)]

theorem vec_eq : ∀ (n : ℕ) (hn : n < cfg0.N), (outsAt0 m c n hn).2.1 = vAcc m c n
  | 0, hn => by
    rw [Points.vec_first m c ⟨0, hn⟩ rfl]
    funext j
    obtain ⟨i, q, rfl⟩ := ix2_of j
    rw [v_blk m c ⟨0, hn⟩, pay6, zero_add]
    exact if_congr Iff.rfl (Finset.sum_range_one (fun s => vPart m c s i.val q)).symm rfl
  | n + 1, hn => by
    have hN : n + 1 < 16 := lt_of_lt_of_eq hn N_0
    have h0 : ¬(⟨n + 1, hn⟩ : Fin cfg0.N).val % 16 = 0 := by dsimp only; omega
    refine (Points.vec_next m c ⟨n + 1, hn⟩ h0).trans ?_
    rw [show (outsAt0 m c ((⟨n + 1, hn⟩ : Fin cfg0.N).val - 1) (Nat.lt_of_le_of_lt (Nat.sub_le _ _) hn)).2.1 = vAcc m c n from vec_eq n (by omega)]
    funext j
    obtain ⟨i, q, rfl⟩ := ix2_of j
    refine (v_blk m c ⟨n + 1, hn⟩ (vAcc m c n) i q).trans ?_
    by_cases hi : i.val < 4
    · rw [if_pos hi]
      refine (congrArg (· + _) (if_pos hi)).trans ?_
      refine (Finset.sum_range_succ (fun s => vPart m c s i.val q) (n + 1)).symm.trans ?_
      exact (if_pos (show ((ix2 i q : S8x1024.Idx) 0).val < 4 from hi)).symm
    · rw [if_neg hi]
      exact (if_neg (show ¬((ix2 i q : S8x1024.Idx) 0).val < 4 from hi)).trans (if_neg (show ¬((ix2 i q : S8x1024.Idx) 0).val < 4 from hi)).symm

theorem dwg_step (n : ℕ) (hn : n + 1 < cfg0.N) : dwg (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (gAcc m c n) = gAcc m c (n + 1) := by
  funext j
  obtain ⟨r, q, rfl⟩ := ix2_of j
  exact (g_blk m c ⟨n + 1, hn⟩ _ r q).trans (Finset.sum_range_succ (fun s => gPart m c s r q) (n + 1)).symm

theorem dwg_eq : ∀ (n : ℕ) (hn : n < cfg0.N), n < 15 → (outsAt0 m c n hn).2.2.1 = gAcc m c n
  | 0, hn, _ => by
    rw [Points.dwg_first m c ⟨0, hn⟩ rfl]
    funext j
    obtain ⟨r, q, rfl⟩ := ix2_of j
    rw [g_blk m c ⟨0, hn⟩, pay7, zero_add]
    exact (Finset.sum_range_one (fun s => gPart m c s r q)).symm
  | n + 1, hn, h => by
    have h0 : ¬(⟨n + 1, hn⟩ : Fin cfg0.N).val % 16 = 0 := by dsimp only; omega
    have h1 : ¬(⟨n + 1, hn⟩ : Fin cfg0.N).val % 16 = 15 := by dsimp only; omega
    rw [Points.dwg_next m c ⟨n + 1, hn⟩ h0 h1, ← dwg_step m c n hn, ← dwg_eq n (by omega) (by omega)]
    rfl

theorem res0_eq (n : ℕ) (hn : n + 1 < cfg0.N) (h : n < 15) : Out.res0 m c ⟨n + 1, hn⟩ = k0_pay4 (gAcc m c (n + 1)) := by
  rw [← dwg_step m c n hn, ← dwg_eq m c n (by omega) h]
  rfl

theorem last : ∃ h : 14 + 1 < cfg0.N, Out.tl = ⟨14 + 1, h⟩ := ⟨by rw [show cfg0.N = 16 from N_0]; decide, rfl⟩

/-- The result left in HBM, an element. -/
theorem res0_at (r : Fin 1024) (q : Fin 1024) : Out.res0 m c Out.tl (ix2 r q) = ∑ i : Fin 8192, PleMath.z (args m c) i r * PleMath.dl (args m c) i q := by
  obtain ⟨h, e⟩ := last
  rw [e, res0_eq m c 14 h (by decide), pay4, Fin.sum_univ_tiles 16 512 rfl]
  refine (Finset.sum_range (fun s => gPart m c s r q)).trans (Finset.sum_congr rfl fun j _ => ?_)
  unfold gPart
  rw [dif_pos j.isLt]
  rfl

theorem dwp_step (n : ℕ) (hn : n + 1 < cfg0.N) : dwp (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (pAcc m c n) = pAcc m c (n + 1) := by
  funext j
  obtain ⟨r, q, rfl⟩ := ix2_of j
  exact (p_blk m c ⟨n + 1, hn⟩ _ r q).trans (Finset.sum_range_succ (fun s => pPart m c s r q) (n + 1)).symm

theorem dwp_eq : ∀ (n : ℕ) (hn : n < cfg0.N), n < 15 → (outsAt0 m c n hn).2.2.2 = pAcc m c n
  | 0, hn, _ => by
    rw [Points.dwp_first m c ⟨0, hn⟩ rfl]
    funext j
    obtain ⟨r, q, rfl⟩ := ix2_of j
    rw [p_blk m c ⟨0, hn⟩, pay8, zero_add]
    exact (Finset.sum_range_one (fun s => pPart m c s r q)).symm
  | n + 1, hn, h => by
    have h0 : ¬(⟨n + 1, hn⟩ : Fin cfg0.N).val % 16 = 0 := by dsimp only; omega
    have h1 : ¬(⟨n + 1, hn⟩ : Fin cfg0.N).val % 16 = 15 := by dsimp only; omega
    rw [Points.dwp_next m c ⟨n + 1, hn⟩ h0 h1, ← dwp_step m c n hn, ← dwp_eq n (by omega) (by omega)]
    rfl

theorem res1_eq (n : ℕ) (hn : n + 1 < cfg0.N) (h : n < 15) : Out.res1 m c ⟨n + 1, hn⟩ = k0_pay5 (pAcc m c (n + 1)) := by
  rw [← dwp_step m c n hn, ← dwp_eq m c n (by omega) h]
  rfl

/-- The result left in HBM, an element. -/
theorem res1_at (r : Fin 256) (q : Fin 1024) : Out.res1 m c Out.tl (ix2 r q) = ∑ i : Fin 8192, (args m c).p (ix4 0 0 i r) * (PleMath.d3 (args m c) (ix2 i q) * PleMath.ga (args m c) i q) := by
  obtain ⟨h, e⟩ := last
  rw [e, res1_eq m c 14 h (by decide), pay5, Fin.sum_univ_tiles 16 512 rfl]
  refine (Finset.sum_range (fun s => pPart m c s r q)).trans (Finset.sum_congr rfl fun j _ => ?_)
  unfold pPart
  rw [dif_pos j.isLt]
  rfl

end Cert.PleIdeal.Fold

end
-- ==== Proof.PleReal.lean ====
/- The gate by the hyperbolic tangent and by the exponential, and the constants of the loss. -/
module

public import proofs.«01_k».proof.Proof.PleMath
public import proofs.«01_k».proof.Proof.Reals

@[expose] public section

set_option maxRecDepth 16384

noncomputable section

namespace Cert.PleMath

open Idealize.ShloMosaic Idealize.ShloMosaic.TcCoe
open Cert.Reals (IsReal)

theorem half_eq : half = ((1 / 2 : ℝ) : EReal) := by
  simp [half, Ideal.ofBits, Ideal.ieee, -EReal.coe_mul]; norm_num

theorem one_eq : one = ((1 : ℝ) : EReal) := by
  simp [one, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem inv_size_eq : Ideal.ofBits .f32 0x3A800000#32 = ((1 / 1024 : ℝ) : EReal) := by
  simp [Ideal.ofBits, Ideal.ieee, -EReal.coe_mul]; norm_num

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem div_real {a : EReal} (h : IsReal a) : IsReal (Ideal.div a size) := by
  obtain ⟨x, rfl⟩ := h
  rw [show size = ((1024 : ℝ) : EReal) from RmsGrad.bits_1024, div_coe _ _ (by norm_num)]
  exact ⟨_, rfl⟩

theorem half_real : IsReal half := ⟨_, half_eq⟩
theorem one_real : IsReal one := ⟨_, one_eq⟩

theorem tanh_real {a : EReal} (h : IsReal a) : IsReal (Ideal.tanh a) := by
  obtain ⟨x, rfl⟩ := h
  exact ⟨_, rfl⟩

theorem tanh_half (u : ℝ) : 1 / 2 * Real.tanh (1 / 2 * u) + 1 / 2 = 1 / (1 + Real.exp (-u)) := by
  have hp := Real.exp_pos (1 / 2 * u)
  have hn := Real.exp_pos (-(1 / 2 * u))
  have hu : Real.exp (-u) = Real.exp (-(1 / 2 * u)) * Real.exp (-(1 / 2 * u)) := by
    rw [← Real.exp_add]
    congr 1
    ring
  have h1 : Real.exp (1 / 2 * u) * Real.exp (-(1 / 2 * u)) = 1 := by
    rw [← Real.exp_add, add_neg_cancel, Real.exp_zero]
  rw [Real.tanh_eq_sinh_div_cosh, Real.sinh_eq, Real.cosh_eq, hu]
  generalize Real.exp (1 / 2 * u) = x at *
  generalize Real.exp (-(1 / 2 * u)) = y at *
  have hs : x + y ≠ 0 := by positivity
  have ht : 1 + y * y ≠ 0 := by positivity
  field_simp
  linear_combination (2 * y) * h1

/-- The two forms of the gate agree on finite arguments. -/
theorem gate_eq {a : EReal} (h : IsReal a) : half * Ideal.tanh (half * a) + half = Ideal.div one (one + Ideal.exp (-a)) := by
  obtain ⟨u, rfl⟩ := h
  have e1 : Ideal.tanh (((1 / 2 * u : ℝ)) : EReal) = ((Real.tanh (1 / 2 * u) : ℝ) : EReal) := rfl
  have e2 : Ideal.exp (((-u : ℝ)) : EReal) = ((Real.exp (-u) : ℝ) : EReal) := rfl
  rw [half_eq, one_eq, ← EReal.coe_neg, ← EReal.coe_mul, e1, e2, ← EReal.coe_mul, ← EReal.coe_add, ← EReal.coe_add, div_coe _ _ (by have := Real.exp_pos (-u); positivity), tanh_half]

/-- The derivative of the halved mean square, in its two forms. -/
theorem cot_eq {a : EReal} (h : IsReal a) : Ideal.div (half * one) size * (Ideal.ofBits .f32 0x40000000#32 * a) = a * Ideal.ofBits .f32 0x3A800000#32 := by
  obtain ⟨u, rfl⟩ := h
  rw [half_eq, one_eq, two_eq, inv_size_eq, show size = ((1024 : ℝ) : EReal) from RmsGrad.bits_1024, ← EReal.coe_mul, div_coe _ _ (by norm_num), ← EReal.coe_mul, ← EReal.coe_mul, ← EReal.coe_mul]
  congr 1
  ring

/-- Halving the sum of finite terms block by block. -/
theorem half_sum {ι : Type*} [Fintype ι] (f : ι → EReal) (h : ∀ k, IsReal (f k)) : ∑ k, half * f k = half * ∑ k, f k := by
  choose L hL using h
  simp only [hL, half_eq, RmsGrad.coe_sum, ← EReal.coe_mul, Finset.mul_sum]

/-- Every element of the arrays is a real number. -/
structure Fin' (A : Args) : Prop where
  h : ∀ j, IsReal (A.h j)
  p : ∀ j, IsReal (A.p j)
  t : ∀ j, IsReal (A.t j)
  g : ∀ j, IsReal (A.g j)
  w : ∀ j, IsReal (A.w j)
  b : ∀ j, IsReal (A.b j)
  v : ∀ j, IsReal (A.v j)
  f : ∀ j, IsReal (A.f j)

theorem rt_real (x : FVec Ideal Cert.MlpBRefIdeal.S8192x1024 .f32) (h : ∀ j, IsReal (x j)) (i : Fin 8192) : IsReal (rt x i) := by
  unfold rt
  rw [NormGrad.ms_apply]
  exact Reals.rsqrt_stat (fun k => x (ix2 i k)) fun k => h _

variable {A : Args} (e : Fin' A) (i : Fin 8192) (q : Fin 1024)
include e

theorem z_real : IsReal (z A i q) := Reals.mul (Reals.mul (e.h _) (rt_real _ e.h i)) (e.g _)
theorem lg_real : IsReal (lg A i q) := Reals.add (Reals.sum _ _ fun r => Reals.mul (z_real e i r) (e.w _)) (e.b _)
theorem ga_real : IsReal (ga A i q) := Reals.add (Reals.mul half_real (tanh_real (Reals.mul half_real (lg_real e i q)))) half_real
theorem pe_real : IsReal (pe A i q) := Reals.sum _ _ fun r => Reals.mul (e.p _) (e.v _)
theorem h3_real (j) : IsReal (h3 A j) := Reals.add (e.h j) (Reals.mul (ga_real e _ _) (pe_real e _ _))
theorem er_real : IsReal (er A i q) := Reals.sub (Reals.mul (Reals.mul (h3_real e _) (rt_real _ (h3_real e) i)) (e.f _)) (e.t _)
theorem ls_real : IsReal (ls A i) := div_real (Reals.sum _ _ fun k => Reals.mul (er_real e i k) (er_real e i k))
theorem y_real (j) : IsReal (y A j) := Reals.mul (er_real e _ _) ⟨_, inv_size_eq⟩
theorem d3_real (j) : IsReal (d3 A j) := Reals.mul (rt_real _ (h3_real e) _) (Reals.sub (Reals.mul (y_real e _) (e.f _)) (Reals.mul (Reals.mul (h3_real e _) (rt_real _ (h3_real e) _))
  (div_real (Reals.sum _ _ fun k => Reals.mul (Reals.mul (y_real e _) (e.f _)) (Reals.mul (h3_real e _) (rt_real _ (h3_real e) _))))))
theorem dl_real : IsReal (dl A i q) := Reals.mul (Reals.mul (d3_real e _) (pe_real e i q)) (Reals.mul (ga_real e i q) (Reals.sub one_real (ga_real e i q)))
theorem dz_real (j) : IsReal (dz A j) := Reals.sum _ _ fun r => Reals.mul (dl_real e _ r) (e.w _)

end Cert.PleMath

end
-- ==== Proof.PleRead.lean ====
/- The reference of the gated layer and loss backward call, its stages read at an index. -/
module

public import proofs.«01_k».proof.Proof.Gen.PleRefIdeal.Run
public import proofs.«01_k».proof.Proof.PleMath
public import Idealize.ShloMosaic.Lib.Pointwise
public import Idealize.ShloMosaic.Lib.Tactic

@[expose] public section

set_option maxRecDepth 16384

noncomputable section

namespace Cert.PleRefIdeal.Read

open Cert.PleRefIdeal Cert.PleRefIdeal.Gen Idealize.ShloMosaic Idealize.ShloMosaic.TcCoe Idealize.SL.Sem
open Cert.PleMath (Args half one size)

variable (A : Args)

/-- The normed row, and scaled. -/
def n1 (x : FVec Ideal S8192x1024 .f32) : FVec Ideal S8192x1024 .f32 := mulf x (broadcastInDim S8192x1024 ![0, 1] bcast_S8192x1_S8192x1024_0_1 (NormGrad.rs x))
def z : FVec Ideal S8192x1024 .f32 := mulf (n1 A.h) (broadcastInDim S8192x1024 ![0, 1] bcast_S1x1024_S8192x1024_0_1 (broadcastInDim S1x1024 ![1] bcast_S1024_S1x1024_1 (shapeCast S1024 A.g shapeCasts_S1x1024_S1024)))
def w : FVec Ideal S1024x1024 .f32 := shapeCast S1024x1024 A.w shapeCasts_S1x1024x1024_S1024x1024
/-- The gate before its sigmoid, and the gate. -/
def lg : FVec Ideal S8192x1024 .f32 := addf (Host.dotGeneral dot_S8192x1024_S1024x1024_S8192x1024_1_0_0_1_n_n none (z A) (w A)) (broadcastInDim S8192x1024 ![0, 1] bcast_S1x1024_S8192x1024_0_1 (broadcastInDim S1x1024 ![1] bcast_S1024_S1x1024_1 (shapeCast S1024 A.b shapeCasts_S1x1024_S1024)))
def sg (u : FVec Ideal S8192x1024 .f32) : FVec Ideal S8192x1024 .f32 := Host.divf (broadcastInDim S8192x1024 ![] bcast_S_S8192x1024 (constant S_ .f32 0x3F800000#32)) (addf (broadcastInDim S8192x1024 ![] bcast_S_S8192x1024 (constant S_ .f32 0x3F800000#32)) (Host.exp (Host.negf u)))
def ga : FVec Ideal S8192x1024 .f32 := sg (lg A)
def p : FVec Ideal S8192x256 .f32 := shapeCast S8192x256 A.p shapeCasts_S1x1x8192x256_S8192x256
def pe : FVec Ideal S8192x1024 .f32 := Host.dotGeneral dot_S8192x256_S256x1024_S8192x1024_1_0_0_1_n_n none (p A) (shapeCast S256x1024 A.v shapeCasts_S1x256x1024_S256x1024)
def h3 : FVec Ideal S8192x1024 .f32 := addf A.h (mulf (ga A) (pe A))
/-- The distance to the target of a layer's result. -/
def er (x : FVec Ideal S8192x1024 .f32) : FVec Ideal S8192x1024 .f32 := subf (mulf (n1 x) (broadcastInDim S8192x1024 ![0, 1] bcast_S1x1024_S8192x1024_0_1 (broadcastInDim S1x1024 ![1] bcast_S1024_S1x1024_1 A.f))) (shapeCast S8192x1024 A.t shapeCasts_S1x8192x1024_S8192x1024)
/-- The cotangent of the last norm's result. -/
def y (d : FVec Ideal S8192x1024 .f32) : FVec Ideal S8192x1024 .f32 := mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) d)
def yf (u : FVec Ideal S8192x1024 .f32) : FVec Ideal S8192x1024 .f32 := mulf u (broadcastInDim S8192x1024 ![0, 1] bcast_S1x1024_S8192x1024_0_1 (broadcastInDim S1x1024 ![1] bcast_S1024_S1x1024_1 A.f))
/-- What a row statistic's cotangent adds to each factor, from the cotangent of the normed row. -/
def tt (x d : FVec Ideal S8192x1024 .f32) : FVec Ideal S8192x1024 .f32 := broadcastInDim S8192x1024 ![0] bcast_S8192_S8192x1024_0 (Host.reduceAdd (Host.divf (mulf (shapeCast S8192x1 (Host.reduceAdd (mulf x d) (constant S_ .f32 0x00000000#32) reducesTo_S8192x1024_S8192_d1 h_S_) shapeCasts_S8192_S8192x1) (mulf (broadcastInDim S8192x1 ![] bcast_S_S8192x1 (constant S_ .f32 0xBF000000#32)) (Host.divf (NormGrad.rs x) (NormGrad.ms x)))) (broadcastInDim S8192x1 ![] bcast_S_S8192x1 (constant S_ .f32 0x44800000#32))) (constant S_ .f32 0x00000000#32) reducesTo_S8192x1_S8192_d1 h_S_)
/-- The cotangent of a norm's argument, from that of the normed row. -/
def gx (x d : FVec Ideal S8192x1024 .f32) : FVec Ideal S8192x1024 .f32 := addf (addf (mulf d (broadcastInDim S8192x1024 ![0, 1] bcast_S8192x1_S8192x1024_0_1 (NormGrad.rs x))) (mulf x (tt x d))) (mulf (tt x d) x)
/-- The cotangent of the gate before its sigmoid. -/
def dl (d g e : FVec Ideal S8192x1024 .f32) : FVec Ideal S8192x1024 .f32 := mulf (mulf d e) (mulf g (subf (broadcastInDim S8192x1024 ![] bcast_S_S8192x1024 (constant S_ .f32 0x3F800000#32)) g))
def dz (l : FVec Ideal S8192x1024 .f32) : FVec Ideal S8192x1024 .f32 := Host.dotGeneral dot_S8192x1024_S1024x1024_S8192x1024_1_1_0_0_n_n none l (w A)
/-- The gradients of the gate's weights and of the projection. -/
def dw (l u : FVec Ideal S8192x1024 .f32) : FVec Ideal S1024x1024 .bf16 := truncf .bf16 (shapeCast S1024x1024 (broadcastInDim S1x1024x1024 ![1, 2] bcast_S1024x1024_S1x1024x1024_1_2 (transpose S1024x1024 [1, 0] (Host.dotGeneral dot_S8192x1024_S8192x1024_S1024x1024_0_0_1_1_n_n none l u) transposes_S1024x1024_S1024x1024_1_0)) shapeCasts_S1x1024x1024_S1024x1024) bitsLt_bf16_f32
def dv (g d : FVec Ideal S8192x1024 .f32) : FVec Ideal S256x1024 .bf16 := truncf .bf16 (shapeCast S256x1024 (broadcastInDim S1x256x1024 ![1, 2] bcast_S256x1024_S1x256x1024_1_2 (transpose S256x1024 [1, 0] (Host.dotGeneral dot_S8192x1024_S8192x256_S1024x256_0_0_1_1_n_n none (mulf g d) (p A)) transposes_S1024x256_S256x1024_1_0)) shapeCasts_S1x256x1024_S256x1024) bitsLt_bf16_f32
/-- The sum of the rows. -/
def rowSum (a : FVec Ideal S8192x1024 .f32) : FVec Ideal S1x1024 .f32 := broadcastInDim S1x1024 ![1] bcast_S1024_S1x1024_1 (Host.reduceAdd (shapeCast S1x1024 (Host.reduceAdd a (constant S_ .f32 0x00000000#32) reducesTo_S8192x1024_S1024_d0 h_S_) shapeCasts_S1024_S1x1024) (constant S_ .f32 0x00000000#32) reducesTo_S1x1024_S1024_d0 h_S_)
/-- The loss, along a row. -/
def loss (e : FVec Ideal S8192x1024 .f32) : FVec Ideal S1x1024 .f32 := broadcastInDim S1x1024 ![] bcast_S_S1x1024 (mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))
/-- Four rows above four of zeros. -/
def rows (a b c d : FVec Ideal S1x1024 .f32) : FVec Ideal S8x1024 .f32 := concatenate S8x1024 0 [⟨S1x1024, a⟩, ⟨S1x1024, b⟩, ⟨S1x1024, c⟩, ⟨S1x1024, d⟩, ⟨S4x1024, broadcastInDim S4x1024 ![] bcast_S_S4x1024 (constant S_ .f32 0x00000000#32)⟩] concatenates_S1x1024_S1x1024_S1x1024_S1x1024_S4x1024_S8x1024_d0

def er3 : FVec Ideal S8192x1024 .f32 := er A (h3 A)
def y3 : FVec Ideal S8192x1024 .f32 := y (er3 A)
def d3 : FVec Ideal S8192x1024 .f32 := gx (h3 A) (yf A (y3 A))
def dl3 : FVec Ideal S8192x1024 .f32 := dl (d3 A) (ga A) (pe A)
def dz3 : FVec Ideal S8192x1024 .f32 := dz A (dl3 A)

theorem n1_apply (x : FVec Ideal S8192x1024 .f32) (i : Fin 8192) (q : Fin 1024) : n1 x (ix2 i q) = x (ix2 i q) * NormGrad.rs x (ix2 i 0) := by
  pointwise [n1]

theorem z_apply (i : Fin 8192) (q : Fin 1024) : z A (ix2 i q) = n1 A.h (ix2 i q) * A.g (ix2 0 q) := by
  pointwise [z]

theorem w_apply (r q : Fin 1024) : w A (ix2 r q) = A.w (ix3 0 r q) := by
  pointwise [w]

theorem lg_apply (i : Fin 8192) (q : Fin 1024) : lg A (ix2 i q) = ∑ r : Fin 1024, z A (ix2 i r) * w A (ix2 r q) + A.b (ix2 0 q) := by
  unfold lg
  generalize z A = a
  generalize w A = b
  pointwise

theorem sg_apply (u : FVec Ideal S8192x1024 .f32) (i : Fin 8192) (q : Fin 1024) : sg u (ix2 i q) = Ideal.div one (one + Ideal.exp (-(u (ix2 i q)))) := by
  pointwise [sg]

theorem p_apply (i : Fin 8192) (k : Fin 256) : p A (ix2 i k) = A.p (ix4 0 0 i k) := by
  pointwise [p]

theorem pe_apply (i : Fin 8192) (q : Fin 1024) : pe A (ix2 i q) = PleMath.pe A i q := by
  unfold pe PleMath.pe
  simp only [← p_apply]
  generalize p A = a
  pointwise

theorem er_apply (x : FVec Ideal S8192x1024 .f32) (i : Fin 8192) (q : Fin 1024) : er A x (ix2 i q) = n1 x (ix2 i q) * A.f (ix1 q) - A.t (ix3 0 i q) := by
  pointwise [er]

theorem y_apply (d : FVec Ideal S8192x1024 .f32) (i : Fin 8192) (q : Fin 1024) : y d (ix2 i q) = Ideal.div (half * one) size * (Ideal.ofBits .f32 0x40000000#32 * d (ix2 i q)) := by
  pointwise [y]

theorem yf_apply (u : FVec Ideal S8192x1024 .f32) (i : Fin 8192) (q : Fin 1024) : yf A u (ix2 i q) = u (ix2 i q) * A.f (ix1 q) := by
  pointwise [yf]

theorem gx_apply (x d : FVec Ideal S8192x1024 .f32) (i : Fin 8192) (q : Fin 1024) : gx x d (ix2 i q) = d (ix2 i q) * NormGrad.rs x (ix2 i 0) + x (ix2 i q) * tt x d (ix2 i q) + tt x d (ix2 i q) * x (ix2 i q) := by
  pointwise [gx]

theorem dl_apply (d g e : FVec Ideal S8192x1024 .f32) (i : Fin 8192) (q : Fin 1024) : dl d g e (ix2 i q) = d (ix2 i q) * e (ix2 i q) * (g (ix2 i q) * (one - g (ix2 i q))) := by
  pointwise [dl]

theorem dz_apply (l : FVec Ideal S8192x1024 .f32) (i : Fin 8192) (r : Fin 1024) : dz A l (ix2 i r) = ∑ q : Fin 1024, l (ix2 i q) * w A (ix2 r q) := by
  unfold dz
  generalize w A = b
  pointwise

theorem dw_apply (l u : FVec Ideal S8192x1024 .f32) (r q : Fin 1024) : dw l u (ix2 r q) = ∑ i : Fin 8192, l (ix2 i q) * u (ix2 i r) := by
  pointwise [dw]

theorem dv_apply (g d : FVec Ideal S8192x1024 .f32) (r : Fin 256) (q : Fin 1024) : dv A g d (ix2 r q) = ∑ i : Fin 8192, g (ix2 i q) * d (ix2 i q) * p A (ix2 i r) := by
  unfold dv
  generalize p A = b
  pointwise

theorem rowSum_apply (a : FVec Ideal S8192x1024 .f32) (q : Fin 1024) : rowSum a (ix2 0 q) = ∑ i : Fin 8192, a (ix2 i q) := by
  pointwise [rowSum]
  exact Fin.sum_univ_one _

theorem loss_apply (e : FVec Ideal S8192x1024 .f32) (q : Fin 1024) : loss e (ix2 0 q) = half * ∑ i : Fin 8192, Ideal.div (∑ k : Fin 1024, e (ix2 i k) * e (ix2 i k)) size := by
  pointwise [loss]

theorem rows_apply (a b c d : FVec Ideal S1x1024 .f32) (k : Fin 8) (q : Fin 1024) : rows a b c d (ix2 k q) =
    if k.val = 0 then a (ix2 0 q) else if k.val = 1 then b (ix2 0 q) else if k.val = 2 then c (ix2 0 q) else if k.val = 3 then d (ix2 0 q) else 0 := by
  match k with
  | ⟨0, _⟩ => pointwise [rows]
  | ⟨1, _⟩ => pointwise [rows]
  | ⟨2, _⟩ => pointwise [rows]
  | ⟨3, _⟩ => pointwise [rows]
  | ⟨4, _⟩ => pointwise [rows]
  | ⟨5, _⟩ => pointwise [rows]
  | ⟨6, _⟩ => pointwise [rows]
  | ⟨7, _⟩ => pointwise [rows]

variable (m : (ℓ : Loc nD τ sig) → Buf (Elt Ideal) ℓ) (ρ : Dev nD → PrngReg)

/-- The arguments. -/
def args (c : Dev nD) : Args where
  h := m ((c.tc : Thread nD τ).loc main_arg0)
  p := m ((c.tc : Thread nD τ).loc main_arg1)
  t := m ((c.tc : Thread nD τ).loc main_arg2)
  g := m ((c.tc : Thread nD τ).loc main_arg3)
  w := m ((c.tc : Thread nD τ).loc main_arg4)
  b := m ((c.tc : Thread nD τ).loc main_arg5)
  v := m ((c.tc : Thread nD τ).loc main_arg6)
  f := m ((c.tc : Thread nD τ).loc main_arg7)

/-- The reference's run with its results so named. -/
theorem run : θ_run defs (onTc (τ := τ) (main (F := Ideal))) ⟨m, fun _ => 0, ρ⟩ fun r => ∀ c : Dev nD,
      r.2.mem ((c.tc : Thread nD τ).loc main_v123) = NormGrad.dx (args m c).h (d3 (args m c)) (dz3 (args m c)) (args m c).g
      ∧ r.2.mem ((c.tc : Thread nD τ).loc main_v128) = rows (rowSum (dl3 (args m c))) (rowSum (mulf (n1 (args m c).h) (dz3 (args m c)))) (rowSum (mulf (n1 (h3 (args m c))) (y3 (args m c)))) (loss (er3 (args m c)))
      ∧ r.2.mem ((c.tc : Thread nD τ).loc main_v130) = dw (dl3 (args m c)) (z (args m c))
      ∧ r.2.mem ((c.tc : Thread nD τ).loc main_v132) = dv (args m c) (ga (args m c)) (d3 (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1, (h c).2.1, (h c).2.2.1, (h c).2.2.2.1, (h c).2.2.2.2⟩) (Value.run m ρ)

end Cert.PleRefIdeal.Read

end
-- ==== Proof.PleAgree.lean ====
/- The stages of the reference of the gated layer and loss backward call are those of the plain formulas, on finite arguments. -/
module

public import proofs.«01_k».proof.Proof.PleReal
public import proofs.«01_k».proof.Proof.PleRead

@[expose] public section

set_option maxRecDepth 16384

noncomputable section

namespace Cert.PleAgree

open Idealize.ShloMosaic Idealize.ShloMosaic.TcCoe
open Cert.PleMath (Args half one size)
open Cert.Reals (IsReal)
open Cert.PleRefIdeal

theorem ix2_of {a b : ℕ} (j : (⟨2, ![a, b]⟩ : Shape).Idx) : ∃ (i : Fin a) (q : Fin b), j = ix2 i q := ⟨j 0, j 1, by funext a; match a with | ⟨0, _⟩ => rfl | ⟨1, _⟩ => rfl⟩

variable {A : Args}

theorem n1_eq (x : FVec Ideal S8192x1024 .f32) (i : Fin 8192) (q : Fin 1024) : Read.n1 x (ix2 i q) = x (ix2 i q) * PleMath.rt x i := by
  rw [Read.n1_apply, NormGrad.rs_apply]
  rfl

theorem z_eq (i : Fin 8192) (q : Fin 1024) : Read.z A (ix2 i q) = PleMath.z A i q := by
  rw [Read.z_apply, n1_eq]
  rfl

theorem lg_eq (i : Fin 8192) (q : Fin 1024) : Read.lg A (ix2 i q) = PleMath.lg A i q := by
  rw [Read.lg_apply]
  simp only [z_eq, Read.w_apply]
  rfl

variable (e : PleMath.Fin' A)
include e

theorem ga_eq (i : Fin 8192) (q : Fin 1024) : Read.ga A (ix2 i q) = PleMath.ga A i q := by
  unfold Read.ga PleMath.ga
  rw [Read.sg_apply, lg_eq]
  exact (PleMath.gate_eq (PleMath.lg_real e i q)).symm

theorem h3_eq : Read.h3 A = PleMath.h3 A := by
  funext j
  obtain ⟨i, q, rfl⟩ := ix2_of j
  exact congrArg (A.h (ix2 i q) + ·) (congrArg₂ _ (ga_eq e i q) (Read.pe_apply A i q))

theorem er_eq (i : Fin 8192) (q : Fin 1024) : Read.er3 A (ix2 i q) = PleMath.er A i q := by
  unfold Read.er3
  rw [h3_eq e, Read.er_apply, n1_eq]
  rfl

theorem y_eq : Read.y3 A = PleMath.y A := by
  funext j
  obtain ⟨i, q, rfl⟩ := ix2_of j
  unfold Read.y3
  rw [Read.y_apply, er_eq e]
  exact PleMath.cot_eq (PleMath.er_real e i q)

theorem yf_eq : Read.yf A (PleMath.y A) = NormGrad.dg (PleMath.y A) (PleMath.fr A) := by
  funext j
  obtain ⟨i, q, rfl⟩ := ix2_of j
  rw [Read.yf_apply]
  exact (NormGrad.dg_apply (PleMath.y A) (PleMath.fr A) i q).symm

theorem d3_eq : Read.d3 A = PleMath.d3 A := by
  funext j
  obtain ⟨i, q, rfl⟩ := ix2_of j
  unfold Read.d3
  rw [h3_eq e, y_eq e, yf_eq e, Read.gx_apply]
  have rX : ∀ k : Fin 1024, IsReal (PleMath.h3 A (ix2 i k)) := fun k => PleMath.h3_real e _
  have rD : ∀ k : Fin 1024, IsReal (PleMath.y A (ix2 i k) * PleMath.fr A (ix2 0 k)) := fun k => Reals.mul (PleMath.y_real e _) (e.f _)
  choose X hX using rX
  choose D hD using rD
  have key := NormGrad.agree (PleMath.h3 A) (fun _ => (0 : EReal)) (PleMath.y A) (PleMath.fr A) i q X D hX hD
  rw [NormGrad.dx_apply, zero_add] at key
  unfold NormGrad.gx at key
  rw [zero_add] at key
  exact key.symm

theorem dl_eq (i : Fin 8192) (q : Fin 1024) : Read.dl3 A (ix2 i q) = PleMath.dl A i q := by
  unfold Read.dl3
  rw [Read.dl_apply, d3_eq e, ga_eq e, Read.pe_apply]
  rfl

theorem dz_eq : Read.dz3 A = PleMath.dz A := by
  funext j
  obtain ⟨i, r, rfl⟩ := ix2_of j
  unfold Read.dz3
  rw [Read.dz_apply]
  simp only [dl_eq e, Read.w_apply]
  rfl

/-- The gradient of the rows: the two forms of the first norm's gradient. -/
theorem dx_eq (i : Fin 8192) (q : Fin 1024) : PleMath.dh A i q = NormGrad.dx A.h (Read.d3 A) (Read.dz3 A) A.g (ix2 i q) := by
  rw [d3_eq e, dz_eq e]
  have rX : ∀ k : Fin 1024, IsReal (A.h (ix2 i k)) := fun k => e.h _
  have rD : ∀ k : Fin 1024, IsReal (PleMath.dz A (ix2 i k) * A.g (ix2 0 k)) := fun k => Reals.mul (PleMath.dz_real e _) (e.g _)
  choose X hX using rX
  choose D hD using rD
  exact NormGrad.agree A.h (PleMath.d3 A) (PleMath.dz A) A.g i q X D hX hD

theorem dw_eq (r q : Fin 1024) : Read.dw (Read.dl3 A) (Read.z A) (ix2 r q) = ∑ i : Fin 8192, PleMath.z A i r * PleMath.dl A i q := by
  rw [Read.dw_apply]
  refine Finset.sum_congr rfl fun i _ => ?_
  rw [dl_eq e, z_eq, mul_comm]

theorem dv_eq (r : Fin 256) (q : Fin 1024) : Read.dv A (Read.ga A) (Read.d3 A) (ix2 r q) = ∑ i : Fin 8192, A.p (ix4 0 0 i r) * (PleMath.d3 A (ix2 i q) * PleMath.ga A i q) := by
  rw [Read.dv_apply]
  refine Finset.sum_congr rfl fun i _ => ?_
  rw [d3_eq e, ga_eq e, Read.p_apply, mul_comm, mul_comm (PleMath.ga A i q)]

/-- The reference's vectors, an element. -/
theorem rows_eq (k : Fin 8) (q : Fin 1024) : Read.rows (Read.rowSum (Read.dl3 A)) (Read.rowSum (mulf (Read.n1 A.h) (Read.dz3 A))) (Read.rowSum (mulf (Read.n1 (Read.h3 A)) (Read.y3 A))) (Read.loss (Read.er3 A)) (ix2 k q) =
    if k.val = 0 then ∑ i : Fin 8192, PleMath.dl A i q else if k.val = 1 then ∑ i : Fin 8192, PleMath.dz A (ix2 i q) * (A.h (ix2 i q) * PleMath.rt A.h i) else
    if k.val = 2 then ∑ i : Fin 8192, PleMath.y A (ix2 i q) * (PleMath.h3 A (ix2 i q) * PleMath.rt (PleMath.h3 A) i) else
    if k.val = 3 then half * ∑ i : Fin 8192, PleMath.ls A i else 0 := by
  rw [Read.rows_apply, Read.rowSum_apply, Read.rowSum_apply, Read.rowSum_apply, Read.loss_apply]
  refine if_congr Iff.rfl (Finset.sum_congr rfl fun i _ => dl_eq e i q) (if_congr Iff.rfl (Finset.sum_congr rfl fun i _ => ?_) (if_congr Iff.rfl (Finset.sum_congr rfl fun i _ => ?_) (if_congr Iff.rfl ?_ rfl)))
  · refine (congrArg₂ (· * ·) (n1_eq A.h i q) (congrFun (dz_eq e) (ix2 i q))).trans (mul_comm _ _)
  · refine (congrArg₂ (· * ·) ((congrArg (fun x => Read.n1 x (ix2 i q)) (h3_eq e)).trans (n1_eq _ i q)) (congrFun (y_eq e) (ix2 i q))).trans (mul_comm _ _)
  · simp only [er_eq e]
    rfl

end Cert.PleAgree

end
-- ==== Proof.PleClaim.lean ====
/- The claims of the call of the gated embedding, the final norm and the loss. -/
module

public import proofs.«01_k».proof.Proof.PleFold
public import proofs.«01_k».proof.Proof.PleAgree
public import proofs.«01_k».proof.Proof.Finite
public import proofs.«01_k».proof.Proof.Gen.Pre_ple_finite
public import proofs.«01_k».proof.Proof.Gen.Ple.Frame
public import proofs.«01_k».proof.Proof.Gen.PleIdeal.Frame
public import proofs.«01_k».proof.Proof.Gen.PleIdeal.Value
public import proofs.«01_k».proof.Defs

@[expose] public section

set_option maxRecDepth 16384

noncomputable section

namespace Cert.PleClaim

open Cert.PleIdeal Cert.PleIdeal.Gen Cert.PleIdeal.Fold Cert.PleIdeal.Blocks Cert.PleIdeal.Sum Idealize.ShloMosaic Idealize.ShloMosaic.TcCoe Idealize.SL.Sem
open Cert.Reals (IsReal)

variable (m : (ℓ : Loc nD τ sig) → Buf (Elt Ideal) ℓ) (c : Dev nD)

/-- The precondition makes every element of the arguments a real number. -/
theorem finite (h : Cert.Pre_ple_finite.fn (F := Ideal) (args m c).h (args m c).p (args m c).t (args m c).g (args m c).w (args m c).b (args m c).v (args m c).f = fun _ => 1#1) : PleMath.Fin' (args m c) := by
  have h0 := congrFun h ix0
  obtain ⟨h1, hf⟩ := Finite.and_left h0
  obtain ⟨h2, hv⟩ := Finite.and_left h1
  obtain ⟨h3, hb⟩ := Finite.and_left h2
  obtain ⟨h4, hw⟩ := Finite.and_left h3
  obtain ⟨h5, hg⟩ := Finite.and_left h4
  obtain ⟨h6, ht⟩ := Finite.and_left h5
  obtain ⟨hh, hp⟩ := Finite.and_left h6
  obtain ⟨Xh, eh⟩ := Finite.real_of_all _ _ (fun _ => Finite.bits_inf_f32) _ _ _ _ hh
  obtain ⟨Xp, ep⟩ := Finite.real_of_all _ _ (fun _ => Finite.bits_inf_f32) _ _ _ _ hp
  obtain ⟨Xt, et⟩ := Finite.real_of_all _ _ (fun _ => Finite.bits_inf_f32) _ _ _ _ ht
  obtain ⟨Xg, eg⟩ := Finite.real_of_all _ _ (fun _ => Finite.bits_inf_f32) _ _ _ _ hg
  obtain ⟨Xw, ew⟩ := Finite.real_of_all _ _ (fun _ => Finite.bits_inf_f32) _ _ _ _ hw
  obtain ⟨Xb, eb⟩ := Finite.real_of_all _ _ (fun _ => Finite.bits_inf_f32) _ _ _ _ hb
  obtain ⟨Xv, ev⟩ := Finite.real_of_all _ _ (fun _ => Finite.bits_inf_f32) _ _ _ _ hv
  obtain ⟨Xf, ef⟩ := Finite.real_of_all _ _ (fun _ => Finite.bits_inf_f32) _ _ _ _ hf
  exact ⟨fun j => ⟨Xh j, congrFun eh j⟩, fun j => ⟨Xp j, congrFun ep j⟩, fun j => ⟨Xt j, congrFun et j⟩, fun j => ⟨Xg j, congrFun eg j⟩, fun j => ⟨Xw j, congrFun ew j⟩, fun j => ⟨Xb j, congrFun eb j⟩, fun j => ⟨Xv j, congrFun ev j⟩, fun j => ⟨Xf j, congrFun ef j⟩⟩

/-- The vectors' buffer after the last point is the reference's. -/
theorem vec_agree (e : PleMath.Fin' (args m c)) (k : Fin 8) (q : Fin 1024) : vAcc m c 15 (ix2 k q) =
    if k.val = 0 then ∑ i : Fin 8192, PleMath.dl (args m c) i q else if k.val = 1 then ∑ i : Fin 8192, PleMath.dz (args m c) (ix2 i q) * ((args m c).h (ix2 i q) * PleMath.rt (args m c).h i) else
    if k.val = 2 then ∑ i : Fin 8192, PleMath.y (args m c) (ix2 i q) * (PleMath.h3 (args m c) (ix2 i q) * PleMath.rt (PleMath.h3 (args m c)) i) else
    if k.val = 3 then PleMath.half * ∑ i : Fin 8192, PleMath.ls (args m c) i else 0 := by
  have hs : ∀ n : ℕ, ∑ s ∈ Finset.range 16, vPart m c s n q = ∑ j : Fin 16, part (args m c) (row j.val j.isLt) n q := fun n =>
    (Finset.sum_range (fun s => vPart m c s n q)).trans (Finset.sum_congr rfl fun j _ => dif_pos j.isLt)
  have hk : ∀ n : ℕ, n ≠ 3 → ∑ s ∈ Finset.range 16, vPart m c s n q = ∑ i : Fin 8192, term (args m c) n i q := fun n hn => by
    rw [hs, Fin.sum_univ_tiles 16 512 rfl]
    exact Finset.sum_congr rfl fun j _ => if_neg hn
  have h3 : ∑ s ∈ Finset.range 16, vPart m c s 3 q = PleMath.half * ∑ i : Fin 8192, term (args m c) 3 i q := by
    rw [hs, Fin.sum_univ_tiles 16 512 rfl]
    refine Eq.trans ?_ (PleMath.half_sum (fun j : Fin 16 => ∑ k : Fin 512, PleMath.ls (args m c) (row j.val j.isLt k)) fun j => Reals.sum _ _ fun k => PleMath.ls_real e _)
    exact Finset.sum_congr rfl fun j _ => if_pos rfl
  match k with
  | ⟨0, _⟩ => exact hk 0 (by decide)
  | ⟨1, _⟩ => exact hk 1 (by decide)
  | ⟨2, _⟩ => exact hk 2 (by decide)
  | ⟨3, _⟩ => exact h3
  | ⟨4, _⟩ => rfl
  | ⟨5, _⟩ => rfl
  | ⟨6, _⟩ => rfl
  | ⟨7, _⟩ => rfl

theorem idx8 : ∀ t : Fin cfg0.N, win0_8.index t (0 : Fin 2) = t.val ∧ win0_8.index t (1 : Fin 2) = 0 := by decide +kernel
theorem flush8 : ∀ t : Fin cfg0.N, (cfg0.win 8).flush t = true := (by decide +kernel : ∀ t : Fin grid0.N, win0_8.flush t = true)
theorem idx9 : ∀ t : Fin cfg0.N, win0_9.index t (0 : Fin 2) = 0 ∧ win0_9.index t (1 : Fin 2) = 0 := by decide +kernel
theorem flush9 : ∀ t : Fin cfg0.N, (cfg0.win 9).flush t = true → t.val = 15 := (by decide +kernel : ∀ t : Fin grid0.N, win0_9.flush t = true → t.val = 15)
theorem flush9_last : ∃ h : 15 < cfg0.N, (cfg0.win 9).flush ⟨15, h⟩ = true := ⟨by rw [show cfg0.N = 16 from N_0]; decide, (by decide +kernel : win0_9.flush (⟨15, by decide +kernel⟩ : Fin grid0.N) = true)⟩

/-- The input's gradient, as the kernel's result array. -/
def kdx : Vec Ideal S8192x1024 .f32 := fun i => PleMath.dh (args m c) (i 0) (i 1)

theorem dh_final : (dats m 0 c).arrAt 8 cfg0.N = kdx m c := by
  refine (dats m 0 c).arrAt_eq_of_cover 8 _ (fun t _ => ?_) (fun i => ?_)
  · rw [Value.flushed8, Points.out_dh]
    funext y
    have hb0 : (((cfg0.win 8).blk t).view.emb y 0).val = win0_8.index t (0 : Fin 2) * 512 + 1 * (y 0).val := rfl
    have hb1 : (((cfg0.win 8).blk t).view.emb y 1).val = win0_8.index t (1 : Fin 2) * 1024 + 1 * (y 1).val := rfl
    have hy0 : (y 0).val < 512 := (y 0).isLt
    have hy1 : (y 1).val < 1024 := (y 1).isLt
    have he : ((cfg0.win 8).blk t).view.emb y = (ix2 (row t.val (lt16 t) ⟨(y 0).val, hy0⟩) (⟨(y 1).val, hy1⟩ : Fin 1024) : S8192x1024.Idx) := by
      funext a; apply Fin.ext
      match a with
      | ⟨0, _⟩ => show _ = t.val * 512 + (y 0).val; refine hb0.trans ?_; rw [(idx8 t).1]; omega
      | ⟨1, _⟩ => show _ = (y 1).val; refine hb1.trans ?_; rw [(idx8 t).2]; omega
    have hx : (cfg0.win 8).xinj (grid0.coords t) y = (ix2 (⟨(y 0).val, hy0⟩ : Fin 512) (⟨(y 1).val, hy1⟩ : Fin 1024) : S512x1024.Idx) := by
      funext a; apply Fin.ext
      match a with
      | ⟨0, _⟩ => rfl
      | ⟨1, _⟩ => rfl
    refine (congrArg (Body.dh (iblk m c 0 t) (iblk m c 1 t) (iblk m c 2 t) (iblk m c 3 t) (iblk m c 4 t) (iblk m c 5 t) (iblk m c 6 t) (iblk m c 7 t)) hx).trans ((dh_blk m c t _ _).trans ?_)
    exact (congrArg (kdx m c) he).symm
  · have h0 : (i 0).val < 8192 := (i 0).isLt
    have h1 : (i 1).val < 1024 := (i 1).isLt
    have hN : (i 0).val / 512 < cfg0.N := by rw [show cfg0.N = 16 from N_0]; omega
    refine ⟨⟨(i 0).val / 512, hN⟩, flush8 _, ?_⟩
    show i ∈ ((View.whole main_v7_0).slice (win0_8.rect ⟨(i 0).val / 512, hN⟩)).set
    rw [View.set_slice_whole, Rect.mem_set_unit]
    have e := idx8 ⟨(i 0).val / 512, hN⟩
    intro a
    match a with
    | ⟨0, _⟩ => show win0_8.index ⟨(i 0).val / 512, hN⟩ (0 : Fin 2) * 512 ≤ (i 0).val ∧ (i 0).val < win0_8.index ⟨(i 0).val / 512, hN⟩ (0 : Fin 2) * 512 + 512; rw [e.1]; dsimp only; omega
    | ⟨1, _⟩ => show win0_8.index ⟨(i 0).val / 512, hN⟩ (1 : Fin 2) * 1024 ≤ (i 1).val ∧ (i 1).val < win0_8.index ⟨(i 0).val / 512, hN⟩ (1 : Fin 2) * 1024 + 1024; rw [e.2]; omega

theorem vec_final : (dats m 0 c).arrAt 9 cfg0.N = vAcc m c 15 := by
  refine (dats m 0 c).arrAt_eq_of_cover 9 _ (fun t hf => ?_) (fun i => ?_)
  · rw [Value.flushed9, vec_eq, flush9 t hf]
    funext y
    have hb0 : (((cfg0.win 9).blk t).view.emb y 0).val = win0_9.index t (0 : Fin 2) * 8 + 1 * (y 0).val := rfl
    have hb1 : (((cfg0.win 9).blk t).view.emb y 1).val = win0_9.index t (1 : Fin 2) * 1024 + 1 * (y 1).val := rfl
    refine congrArg (vAcc m c 15) ?_
    funext a; apply Fin.ext
    match a with
    | ⟨0, _⟩ => refine Eq.trans ?_ hb0.symm; rw [(idx9 t).1, Nat.zero_mul, Nat.zero_add, Nat.one_mul]; rfl
    | ⟨1, _⟩ => refine Eq.trans ?_ hb1.symm; rw [(idx9 t).2, Nat.zero_mul, Nat.zero_add, Nat.one_mul]; rfl
  · obtain ⟨hN, hf⟩ := flush9_last
    refine ⟨⟨15, hN⟩, hf, ?_⟩
    have h0 : (i 0).val < 8 := (i 0).isLt
    have h1 : (i 1).val < 1024 := (i 1).isLt
    show i ∈ ((View.whole main_v7_1).slice (win0_9.rect ⟨15, hN⟩)).set
    rw [View.set_slice_whole, Rect.mem_set_unit]
    have e := idx9 ⟨15, hN⟩
    intro a
    match a with
    | ⟨0, _⟩ => show win0_9.index ⟨15, hN⟩ (0 : Fin 2) * 8 ≤ (i 0).val ∧ (i 0).val < win0_9.index ⟨15, hN⟩ (0 : Fin 2) * 8 + 8; rw [e.1]; omega
    | ⟨1, _⟩ => show win0_9.index ⟨15, hN⟩ (1 : Fin 2) * 1024 ≤ (i 1).val ∧ (i 1).val < win0_9.index ⟨15, hN⟩ (1 : Fin 2) * 1024 + 1024; rw [e.2]; omega

/-- The four results of the reference. -/
def rdx (A : PleMath.Args) : Vec Ideal S8192x1024 .f32 := NormGrad.dx A.h (Cert.PleRefIdeal.Read.d3 A) (Cert.PleRefIdeal.Read.dz3 A) A.g
def rvec (A : PleMath.Args) : Vec Ideal S8x1024 .f32 := Cert.PleRefIdeal.Read.rows (Cert.PleRefIdeal.Read.rowSum (Cert.PleRefIdeal.Read.dl3 A)) (Cert.PleRefIdeal.Read.rowSum (mulf (Cert.PleRefIdeal.Read.n1 A.h) (Cert.PleRefIdeal.Read.dz3 A))) (Cert.PleRefIdeal.Read.rowSum (mulf (Cert.PleRefIdeal.Read.n1 (Cert.PleRefIdeal.Read.h3 A)) (Cert.PleRefIdeal.Read.y3 A))) (Cert.PleRefIdeal.Read.loss (Cert.PleRefIdeal.Read.er3 A))
def rdw (A : PleMath.Args) : Vec Ideal S1024x1024 .bf16 := Cert.PleRefIdeal.Read.dw (Cert.PleRefIdeal.Read.dl3 A) (Cert.PleRefIdeal.Read.z A)
def rdv (A : PleMath.Args) : Vec Ideal S256x1024 .bf16 := Cert.PleRefIdeal.Read.dv A (Cert.PleRefIdeal.Read.ga A) (Cert.PleRefIdeal.Read.d3 A)

variable (e : PleMath.Fin' (args m c))
include e

theorem dx_same : kdx m c = rdx (args m c) := by
  funext j
  obtain ⟨i, q, rfl⟩ := ix2_of j
  exact PleAgree.dx_eq e i q

theorem vec_same : vAcc m c 15 = rvec (args m c) := by
  funext j
  obtain ⟨k, q, rfl⟩ := ix2_of j
  exact (vec_agree m c e k q).trans (PleAgree.rows_eq e k q).symm

theorem dw_same : Out.res0 m c Out.tl = rdw (args m c) := by
  funext j
  obtain ⟨r, q, rfl⟩ := ix2_of j
  exact (res0_at m c r q).trans (PleAgree.dw_eq e r q).symm

theorem dv_same : Out.res1 m c Out.tl = rdv (args m c) := by
  funext j
  obtain ⟨r, q, rfl⟩ := ix2_of j
  exact (res1_at m c r q).trans (PleAgree.dv_eq e r q).symm

omit e
theorem frame_kernel : Cert.quiescent_Ple := fun m ρ _ => Cert.Ple.Gen.frame m ρ
theorem frame_ideal : Cert.quiescent_PleIdeal := fun m ρ _ => Cert.PleIdeal.Gen.frame m ρ
theorem frame_ideal_pre : Cert.quiescent_PleIdeal_pre_ple_finite := fun m ρ _ => Cert.PleIdeal.Gen.frame m ρ
theorem frame_ref : Cert.quiescent_PleRefIdeal := fun m ρ _ =>
  (θ_run Cert.PleRefIdeal.defs _ _).mono (fun r h => ⟨fun c => (h c).2.2.2.2, sem_eq_zero_of_no_sems (by decide) r.2⟩) (Cert.PleRefIdeal.Value.run (F := Ideal) m ρ)
theorem frame_ref_pre : Cert.quiescent_PleRefIdeal_pre_ple_finite := fun m ρ _ => frame_ref m ρ trivial
theorem preserves : Cert.preserves_Ple_PleIdeal := trivial

theorem unread_eq {b : Ref sig .tc} (v : b.ty.Contents (Elt Ideal)) : (Memref.isWhole_whole b).unread v = v := (Memref.IsWhole.eq_unread (Memref.isWhole_whole b) rfl).symm

/-- Two programs' equal arguments, as one record. -/
theorem args_eq (m' : (ℓ : Loc Cert.PleRefIdeal.nD Cert.PleRefIdeal.τ Cert.PleRefIdeal.sig) → Buf (Elt Ideal) ℓ) (A : PleMath.Args) (c : Dev Cert.PleRefIdeal.nD)
    (e0 : m' ((c.tc : Thread Cert.PleRefIdeal.nD Cert.PleRefIdeal.τ).loc Cert.PleRefIdeal.main_arg0) = A.h)
    (e1 : m' ((c.tc : Thread Cert.PleRefIdeal.nD Cert.PleRefIdeal.τ).loc Cert.PleRefIdeal.main_arg1) = A.p)
    (e2 : m' ((c.tc : Thread Cert.PleRefIdeal.nD Cert.PleRefIdeal.τ).loc Cert.PleRefIdeal.main_arg2) = A.t)
    (e3 : m' ((c.tc : Thread Cert.PleRefIdeal.nD Cert.PleRefIdeal.τ).loc Cert.PleRefIdeal.main_arg3) = A.g)
    (e4 : m' ((c.tc : Thread Cert.PleRefIdeal.nD Cert.PleRefIdeal.τ).loc Cert.PleRefIdeal.main_arg4) = A.w)
    (e5 : m' ((c.tc : Thread Cert.PleRefIdeal.nD Cert.PleRefIdeal.τ).loc Cert.PleRefIdeal.main_arg5) = A.b)
    (e6 : m' ((c.tc : Thread Cert.PleRefIdeal.nD Cert.PleRefIdeal.τ).loc Cert.PleRefIdeal.main_arg6) = A.v)
    (e7 : m' ((c.tc : Thread Cert.PleRefIdeal.nD Cert.PleRefIdeal.τ).loc Cert.PleRefIdeal.main_arg7) = A.f) : Cert.PleRefIdeal.Read.args m' c = A := by
  unfold Cert.PleRefIdeal.Read.args
  rw [e0, e1, e2, e3, e4, e5, e6, e7]

theorem algebraic : Cert.algebraic_PleIdeal_PleRefIdeal_pre_ple_finite := by
  intro m ρ m' ρ' hpre hagree
  have fin := fun c => finite m c (hpre c)
  refine ⟨fun c => rdx (args m c), fun c => rvec (args m c), fun c => rdw (args m c), fun c => rdv (args m c), ?_, ?_⟩
  · refine (θ_run Cert.PleIdeal.defs _ _).mono (fun r h c => ?_) (Out.run m ρ)
    have hR := Out.post_R m h
    exact ⟨(Value.post8 m r hR c).trans ((dh_final m c).trans (dx_same m c (fin c))), (Value.post9 m r hR c).trans ((vec_final m c).trans (vec_same m c (fin c))), (Out.post_0 m h c).trans ((unread_eq _).trans (dw_same m c (fin c))), (Out.post_1 m h c).trans ((unread_eq _).trans (dv_same m c (fin c))),
      Value.kept_main_arg0 m r hR c, Value.kept_main_arg1 m r hR c, Value.kept_main_arg2 m r hR c, Value.kept_main_arg3 m r hR c, Value.kept_main_arg4 m r hR c, Value.kept_main_arg5 m r hR c, Value.kept_main_arg6 m r hR c, Value.kept_main_arg7 m r hR c⟩
  · refine (θ_run Cert.PleRefIdeal.defs _ _).mono (fun r h c => ?_) (Cert.PleRefIdeal.Read.run m' ρ')
    obtain ⟨e0, e1, e2, e3, e4, e5, e6, e7⟩ := hagree c
    have ea := args_eq m' (args m c) c e0 e1 e2 e3 e4 e5 e6 e7
    exact ⟨(h c).1.trans (congrArg rdx ea), (h c).2.1.trans (congrArg rvec ea), (h c).2.2.1.trans (congrArg rdw ea), (h c).2.2.2.1.trans (congrArg rdv ea), (h c).2.2.2.2⟩

end Cert.PleClaim

end
-- ==== Proof.MlpFPay.lean ====
/- The printed payloads of the MLP forward call at the ideal floats, read at an index, and what a point writes. -/
module

public import proofs.«01_k».proof.Proof.Gen.MlpFIdeal.Value
public import proofs.«01_k».proof.Proof.PlanesAt
public import Idealize.ShloMosaic.Lib.Pointwise
public import Idealize.ShloMosaic.Lib.Tactic

@[expose] public section

set_option maxRecDepth 16384

noncomputable section

namespace Cert.MlpFIdeal.Pay

open Cert.MlpFIdeal Cert.MlpFIdeal.Gen Idealize.ShloMosaic Idealize.ShloMosaic.TcCoe Idealize.SL.Sem
open Cert.Rows (hz)
open Cert.Planes (emb_plane emb_rect)

/-- The squared rectification. -/
def act (u : EReal) : EReal := max u 0 * max u 0

/-- Column `512 * K + q`, of those of block `K`. -/
def col (K : Fin 8) (q : Fin 512) : Fin 4096 := ⟨K.val * 512 + q.val, by omega⟩

/-- The normed rows of a block. -/
def zb (h : Vec Ideal S512x1024 .f32) (g : Vec Ideal S1x1024 .f32) (p : Fin 512) (r : Fin 1024) : EReal :=
  h (ix2 p r) * Ideal.rsqrt (Ideal.div (∑ x : Fin 1024, h (ix2 p x) * h (ix2 p x)) (Ideal.ofBits .f32 0x44800000#32) + Ideal.ofBits .f32 0x358637BD#32) * g (ix2 0 r)

/-- A block's rows up-projected by the planes of the weight. -/
def ub (h : Vec Ideal S512x1024 .f32) (g : Vec Ideal S1x1024 .f32) (w : Vec Ideal S8x1024x512 .bf16) (p : Fin 512) (K : Fin 8) (q : Fin 512) : EReal :=
  ∑ r : Fin 1024, zb h g p r * w (ix3 K r q)

theorem pay4 (h : Vec Ideal S512x1024 .f32) (g : Vec Ideal S1x1024 .f32) (p : Fin 512) (r : Fin 1024) : k0_pay4 (F := Ideal) h g (ix2 p r) = zb h g p r := by
  unfold zb
  pointwise [k0_pay4]

theorem pay1 (z : Vec Ideal S512x1024 .bf16) (w : Vec Ideal S1x1024x512 .bf16) (p q : Fin 512) :
    k0_pay1 (F := Ideal) z w (ix2 p q) = ∑ r : Fin 1024, z (ix2 p r) * w (ix3 0 r q) := by
  pointwise [k0_pay1]

/-- Two blocks of columns, put through the down-projection and added. -/
theorem pay3 (z : Vec Ideal S512x1024 .bf16) (a : Vec Ideal S512x1024 .f32) (u : Vec Ideal S512x512 .f32) (d : Vec Ideal S512x1024 .bf16) (w : Vec Ideal S1x1024x512 .bf16) (d' : Vec Ideal S512x1024 .bf16) (p : Fin 512) (r : Fin 1024) :
    k0_pay3 (F := Ideal) z a u d w d' (ix2 p r)
      = a (ix2 p r) + (∑ q : Fin 512, act (u (ix2 p q)) * d (ix2 q r)) + ∑ q : Fin 512, act (k0_pay1 (F := Ideal) z w (ix2 p q)) * d' (ix2 q r) := by
  unfold act k0_pay3
  generalize k0_pay1 (F := Ideal) z w = u'
  pointwise

theorem pay7 (h : Vec Ideal S512x1024 .f32) (g : Vec Ideal S1x1024 .f32) (w : Vec Ideal S1x1024x512 .bf16) (d : Vec Ideal S512x1024 .bf16) (p : Fin 512) (r : Fin 1024) :
    k0_pay7 (F := Ideal) h g w d (ix2 p r) = h (ix2 p r) + ∑ q : Fin 512, act (k0_pay5 (F := Ideal) h g w (ix2 p q)) * d (ix2 q r) := by
  unfold act k0_pay7
  generalize k0_pay5 (F := Ideal) h g w = u
  pointwise

theorem pay15 (z : Vec Ideal S512x1024 .bf16) (w : Vec Ideal S1x1024x512 .bf16) (p q : Fin 512) :
    k0_pay15 (F := Ideal) z w (ix2 p q) = act (k0_pay13 (F := Ideal) z w (ix2 p q)) := by
  unfold act k0_pay15
  generalize k0_pay13 (F := Ideal) z w = u
  pointwise

theorem pay21 (z : Vec Ideal S512x1024 .bf16) (a : Vec Ideal S512x1024 .f32) (s : Vec Ideal S512x512 .bf16) (d : Vec Ideal S512x1024 .bf16) (w : Vec Ideal S1x1024x512 .bf16) (d' : Vec Ideal S512x1024 .bf16) (w' : Vec Ideal S1x1024x512 .bf16) (d'' : Vec Ideal S512x1024 .bf16) (p : Fin 512) (r : Fin 1024) :
    k0_pay21 (F := Ideal) z a s d w d' w' d'' (ix2 p r)
      = a (ix2 p r) + (∑ q : Fin 512, s (ix2 p q) * d (ix2 q r)) + (∑ q : Fin 512, act (k0_pay17 (F := Ideal) z w (ix2 p q)) * d' (ix2 q r)) + ∑ q : Fin 512, act (k0_pay19 (F := Ideal) z w' (ix2 p q)) * d'' (ix2 q r) := by
  unfold act k0_pay21
  generalize k0_pay17 (F := Ideal) z w = u
  generalize k0_pay19 (F := Ideal) z w' = u'
  pointwise

theorem pay16 (d : Vec Ideal S512x1024 .bf16) : k0_pay16 (F := Ideal) d = d := by
  funext j
  idx_vars j
  pointwise [k0_pay16]

variable (h : Vec Ideal S512x1024 .f32) (g : Vec Ideal S1x1024 .f32) (w : Vec Ideal S8x1024x512 .bf16) (d : Vec Ideal S4096x1024 .bf16)

/-- The products with plane `K` of the weight. -/
theorem up_plane (K : Fin 8) (o : Nat) (ho : o = K.val) (inb) (p q : Fin 512) :
    k0_pay1 (F := Ideal) (k0_pay4 h g) (View.ld w (Rect.unit (s := S8x1024x512) ![o, 0, 0] ![1, 1024, 512] inb)) (ix2 p q) = ub h g w p K q := by
  subst ho
  rw [pay1]
  exact Finset.sum_congr rfl fun r _ => congrArg₂ _ (pay4 h g p r) (congrArg w (emb_plane _ inb (by omega) _))

/-- The rows of block `K` of the down-projection. -/
theorem ld_rows (K : Fin 8) (o : Nat) (ho : o = K.val * 512) (inb) (q : Fin 512) (r : Fin 1024) :
    View.ld d (Rect.unit (s := S4096x1024) ![o, 0] ![512, 1024] inb) (ix2 q r) = d (ix2 (col K q) r) := by
  subst ho
  refine congrArg d ((emb_rect _ 0 inb (by omega) (by omega) _).trans ?_)
  exact congrArg₂ (fun a b => (ix2 a b : S4096x1024.Idx)) rfl (Fin.ext (Nat.zero_add _))

/-- One block of columns put through the down-projection. -/
theorem term (K : Fin 8) (o o' : Nat) (ho : o = K.val) (ho' : o' = K.val * 512) (inb) (inb') (p : Fin 512) (r : Fin 1024) :
    (∑ q : Fin 512, act (k0_pay1 (F := Ideal) (k0_pay4 h g) (View.ld w (Rect.unit (s := S8x1024x512) ![o, 0, 0] ![1, 1024, 512] inb)) (ix2 p q))
        * View.ld d (Rect.unit (s := S4096x1024) ![o', 0] ![512, 1024] inb') (ix2 q r))
      = ∑ q : Fin 512, act (ub h g w p K q) * d (ix2 (col K q) r) :=
  Finset.sum_congr rfl fun q _ => congrArg₂ _ (congrArg act (up_plane h g w K o ho inb p q)) (ld_rows d K o' ho' inb' q r)

theorem eq5 (v : Vec Ideal S1x1024x512 .bf16) : k0_pay5 (F := Ideal) h g v = k0_pay1 (k0_pay4 h g) v := rfl
theorem eq8 (v : Vec Ideal S1x1024x512 .bf16) : k0_pay8 (F := Ideal) h g v = k0_pay1 (k0_pay4 h g) v := rfl
theorem eq13 (z : Vec Ideal S512x1024 .bf16) (v : Vec Ideal S1x1024x512 .bf16) : k0_pay13 (F := Ideal) z v = k0_pay1 z v := rfl
theorem eq17 (z : Vec Ideal S512x1024 .bf16) (v : Vec Ideal S1x1024x512 .bf16) : k0_pay17 (F := Ideal) z v = k0_pay1 z v := rfl
theorem eq19 (z : Vec Ideal S512x1024 .bf16) (v : Vec Ideal S1x1024x512 .bf16) : k0_pay19 (F := Ideal) z v = k0_pay1 z v := rfl
theorem eq22 (z : Vec Ideal S512x1024 .bf16) (v : Vec Ideal S1x1024x512 .bf16) : k0_pay22 (F := Ideal) z v = k0_pay1 z v := rfl
theorem eq12 (z : Vec Ideal S512x1024 .bf16) (a : Vec Ideal S512x1024 .f32) (u : Vec Ideal S512x512 .f32) (e : Vec Ideal S512x1024 .bf16) (v : Vec Ideal S1x1024x512 .bf16) (e' : Vec Ideal S512x1024 .bf16) :
    k0_pay12 (F := Ideal) z a u e v e' = k0_pay3 z a u e v e' := rfl

theorem p24 : k0_pay24 (F := Ideal) h g w d = k0_pay4 h g := by
  unfold k0_pay24
  rw [View.ld_unit_zero (S := S512x1024) hz, View.ld_unit_zero (S := S1x1024) hz]

/-- A sum over all columns, block by block. -/
theorem sum8 (f : Fin 4096 → EReal) : ∑ J, f J = ∑ K : Fin 8, ∑ q : Fin 512, f (col K q) :=
  Fin.sum_univ_tiles 8 512 rfl f

/-- The rows with the MLP added. -/
theorem out4 (p : Fin 512) (r : Fin 1024) :
    out0_4 (F := Ideal) h g w d (ix2 p r) = h (ix2 p r) + ∑ K : Fin 8, ∑ q : Fin 512, act (ub h g w p K q) * d (ix2 (col K q) r) := by
  unfold out0_4
  rw [View.canon_unit_zero hz]
  simp only [p24, View.ld_unit_zero (S := S512x1024) hz, View.ld_unit_zero (S := S1x1024) hz]
  rw [pay3, pay21, eq12, pay3, pay7, Fin.sum_univ_eight]
  simp only [pay15, pay16, eq5, eq8, eq13, eq17, eq19, eq22]
  simp only [← add_assoc]
  exact congrArg₂ _ (congrArg₂ _ (congrArg₂ _ (congrArg₂ _ (congrArg₂ _ (congrArg₂ _ (congrArg₂ _ (congrArg _ (term h g w d 0 _ _ rfl rfl _ _ p r))
    (term h g w d 1 _ _ rfl rfl _ _ p r)) (term h g w d 2 _ _ rfl rfl _ _ p r)) (term h g w d 3 _ _ rfl rfl _ _ p r)) (term h g w d 4 _ _ rfl rfl _ _ p r))
    (term h g w d 5 _ _ rfl rfl _ _ p r)) (term h g w d 6 _ _ rfl rfl _ _ p r)) (term h g w d 7 _ _ rfl rfl _ _ p r)

/-- The normed rows. -/
theorem out5 : out0_5 (F := Ideal) h g w d = k0_pay4 h g := by
  unfold out0_5
  rw [View.canon_unit_zero hz, View.ld_unit_zero (S := S512x1024) hz, View.ld_unit_zero (S := S1x1024) hz]

/-- The up-projected rows, at any column. -/
def upb (j : S512x4096.Idx) : EReal := ub h g w (j 0) ⟨(j 1).val / 512, by have : (j 1).val < 4096 := (j 1).isLt; omega⟩ ⟨(j 1).val % 512, by omega⟩

theorem upb_col (p : Fin 512) (K : Fin 8) (q : Fin 512) : upb h g w (ix2 p (col K q)) = ub h g w p K q := by
  have e0 : (K.val * 512 + q.val) / 512 = K.val := by omega
  have e1 : (K.val * 512 + q.val) % 512 = q.val := by omega
  exact congrArg₂ (ub h g w p) (Fin.ext e0) (Fin.ext e1)

/-- The columns block `K` writes. -/
theorem piece (K : Fin 8) (o o' : Nat) (ho : o = K.val) (ho' : o' = K.val * 512) (inb) (inb') (x : S512x512.Idx) :
    k0_pay2 (F := Ideal) (k0_pay4 h g) (View.ld w (Rect.unit (s := S8x1024x512) ![o, 0, 0] ![1, 1024, 512] inb)) x
      = upb h g w ((Rect.unit (s := S512x4096) ![0, o'] ![512, 512] inb').emb x) := by
  obtain ⟨p, q, rfl⟩ : ∃ (p q : Fin 512), x = ix2 p q := ⟨x 0, x 1, by funext a; match a with | ⟨0, _⟩ => rfl | ⟨1, _⟩ => rfl⟩
  subst ho'
  refine (up_plane h g w K o ho inb p q).trans ((upb_col h g w p K q).symm.trans (congrArg (upb h g w) ?_))
  refine Eq.trans ?_ (emb_rect 0 _ inb' (by omega) (by omega) _).symm
  exact congrArg₂ (fun a b => (ix2 a b : S512x4096.Idx)) (Fin.ext (Nat.zero_add _).symm) rfl

/-- The up-projected rows. -/
theorem out6 (p : Fin 512) (K : Fin 8) (q : Fin 512) : out0_6 (F := Ideal) h g w d (ix2 p (col K q)) = ub h g w p K q := by
  refine Eq.trans ?_ (upb_col h g w p K q)
  unfold out0_6
  simp only [p24, View.ld_unit_zero (S := S512x1024) hz, View.ld_unit_zero (S := S1x1024) hz]
  refine View.canon_apply_of_pieces (Val := Elt Ideal) (e := .bf16) (upb h g w) _ (fun pc hpc => ?_) _ (cover0_6 _ _ _ _ _ _ _ _ _)
  rcases List.mem_cons.mp hpc with rfl | hpc
  · exact fun x => piece h g w 7 7 3584 rfl rfl (inb_S8x1024x512_S1x1024x512_7_0_0) (inb_S512x4096_S512x512_0_3584) x
  rcases List.mem_cons.mp hpc with rfl | hpc
  · exact fun x => piece h g w 6 6 3072 rfl rfl (inb_S8x1024x512_S1x1024x512_6_0_0) (inb_S512x4096_S512x512_0_3072) x
  rcases List.mem_cons.mp hpc with rfl | hpc
  · exact fun x => piece h g w 5 5 2560 rfl rfl (inb_S8x1024x512_S1x1024x512_5_0_0) (inb_S512x4096_S512x512_0_2560) x
  rcases List.mem_cons.mp hpc with rfl | hpc
  · exact fun x => piece h g w 4 4 2048 rfl rfl (inb_S8x1024x512_S1x1024x512_4_0_0) (inb_S512x4096_S512x512_0_2048) x
  rcases List.mem_cons.mp hpc with rfl | hpc
  · exact fun x => piece h g w 3 3 1536 rfl rfl (inb_S8x1024x512_S1x1024x512_3_0_0) (inb_S512x4096_S512x512_0_1536) x
  rcases List.mem_cons.mp hpc with rfl | hpc
  · exact fun x => piece h g w 2 2 1024 rfl rfl (inb_S8x1024x512_S1x1024x512_2_0_0) (inb_S512x4096_S512x512_0_1024) x
  rcases List.mem_cons.mp hpc with rfl | hpc
  · exact fun x => piece h g w 1 1 512 rfl rfl (inb_S8x1024x512_S1x1024x512_1_0_0) (inb_S512x4096_S512x512_0_512) x
  rcases List.mem_cons.mp hpc with rfl | hpc
  · exact fun x => piece h g w 0 0 0 rfl rfl (inb_S8x1024x512_S1x1024x512_0_0_0) (inb_S512x4096_S512x512_0_0) x
  nomatch hpc

end Cert.MlpFIdeal.Pay

end
-- ==== Proof.MlpFRead.lean ====
/- The reference of the MLP forward call, its stages read at an index. -/
module

public import proofs.«01_k».proof.Proof.Gen.MlpFRefIdeal.Run
public import Idealize.ShloMosaic.Lib.Pointwise
public import Idealize.ShloMosaic.Lib.Tactic

@[expose] public section

set_option maxRecDepth 16384

noncomputable section

namespace Cert.MlpFRefIdeal.Read

open Cert.MlpFRefIdeal Cert.MlpFRefIdeal.Gen Idealize.ShloMosaic Idealize.ShloMosaic.TcCoe Idealize.SL.Sem

variable (h : FVec Ideal S8192x1024 .f32) (g : FVec Ideal S1x1024 .f32) (w : FVec Ideal S1x1024x4096 .f32) (d : FVec Ideal S1x4096x1024 .f32)

/-- The normed rows. -/
def z : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast S1024 g shapeCasts_S1x1024_S1024)))

/-- The same at an index. -/
def zE (i : Fin 8192) (r : Fin 1024) : EReal :=
  h (ix2 i r) * Ideal.rsqrt (Ideal.div (∑ x : Fin 1024, h (ix2 i x) * h (ix2 i x)) (Ideal.ofBits .f32 0x44800000#32) + Ideal.ofBits .f32 0x358637BD#32) * g (ix2 0 r)

theorem z_apply (i : Fin 8192) (r : Fin 1024) : z h g (ix2 i r) = zE h g i r := by
  unfold zE
  pointwise [z]

/-- The normed rows, rounded. -/
def z2 : FVec Ideal S8192x1024 .bf16 := truncf .bf16 (z h g) bitsLt_bf16_f32

theorem z2_apply (i : Fin 8192) (r : Fin 1024) : z2 h g (ix2 i r) = zE h g i r := by
  rw [← z_apply]
  unfold z2
  generalize z h g = a
  pointwise

/-- The up-projection. -/
def u : FVec Ideal S8192x4096 .f32 := Host.dotGeneral dot_S8192x1024_S1024x4096_S8192x4096_1_0_0_1_n_n none (z h g) (shapeCast S1024x4096 w shapeCasts_S1x1024x4096_S1024x4096)

/-- The same at an index. -/
def uE (i : Fin 8192) (J : Fin 4096) : EReal := ∑ r : Fin 1024, zE h g i r * w (ix3 0 r J)

theorem u_apply (i : Fin 8192) (J : Fin 4096) : u h g w (ix2 i J) = uE h g w i J := by
  unfold uE
  simp only [← z_apply]
  unfold u
  generalize z h g = a
  pointwise

/-- The up-projection, rounded. -/
def up : FVec Ideal S8192x4096 .bf16 := truncf .bf16 (u h g w) bitsLt_bf16_f32

theorem up_apply (i : Fin 8192) (J : Fin 4096) : up h g w (ix2 i J) = uE h g w i J := by
  rw [← u_apply]
  unfold up
  generalize u h g w = a
  pointwise

/-- Its rectification. -/
def rl : FVec Ideal S8192x4096 .f32 := maximumf (u h g w) (broadcastInDim S8192x4096 ![] bcast_S_S8192x4096 (constant S_ .f32 0x00000000#32))

theorem rl_apply (i : Fin 8192) (J : Fin 4096) : rl h g w (ix2 i J) = max (uE h g w i J) 0 := by
  rw [← u_apply]
  unfold rl
  generalize u h g w = a
  pointwise

/-- The rows with the MLP added. -/
def h2 : FVec Ideal S8192x1024 .f32 := addf h (Host.dotGeneral dot_S8192x4096_S4096x1024_S8192x1024_1_0_0_1_n_n none (mulf (rl h g w) (rl h g w)) (shapeCast S4096x1024 d shapeCasts_S1x4096x1024_S4096x1024))

theorem h2_apply (i : Fin 8192) (r : Fin 1024) :
    h2 h g w d (ix2 i r) = h (ix2 i r) + ∑ J : Fin 4096, max (uE h g w i J) 0 * max (uE h g w i J) 0 * d (ix3 0 J r) := by
  simp only [← rl_apply]
  unfold h2
  generalize rl h g w = a
  pointwise

variable (m : (ℓ : Loc nD τ sig) → Buf (Elt Ideal) ℓ) (ρ : Dev nD → PrngReg)

/-- The reference's run with its results so named. -/
theorem run : θ_run defs (onTc (τ := τ) (main (F := Ideal))) ⟨m, fun _ => 0, ρ⟩ fun r => ∀ c : Dev nD,
      r.2.mem ((c.tc : Thread nD τ).loc main_v20) = h2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v21) = z2 (m ((c.tc : Thread nD τ).loc main_arg0)) (m ((c.tc : Thread nD τ).loc main_arg1))
      ∧ r.2.mem ((c.tc : Thread nD τ).loc main_v24) = up (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1, (h c).2.1, (h c).2.2.1, (h c).2.2.2⟩) (Value.run m ρ)

end Cert.MlpFRefIdeal.Read

end
-- ==== Proof.MlpFClaim.lean ====
/- The claims of the MLP forward call. -/
module

public import proofs.«01_k».proof.Proof.MlpFPay
public import proofs.«01_k».proof.Proof.MlpFRead
public import proofs.«01_k».proof.Proof.Gen.MlpF.Frame
public import Idealize.ShloMosaic.Lib.Pipeline.ValueKit.Point
public import proofs.«01_k».proof.Defs

@[expose] public section

set_option maxRecDepth 16384

noncomputable section

namespace Cert.MlpFClaim

open Cert.MlpFIdeal Cert.MlpFIdeal.Gen Cert.MlpFIdeal.Pay Idealize.ShloMosaic Idealize.ShloMosaic.TcCoe Idealize.SL.Sem
open Cert.MlpFRefIdeal.Read (zE uE z2 up h2 z2_apply up_apply h2_apply)

variable (m : (ℓ : Loc nD τ sig) → Buf (Elt Ideal) ℓ) (c : Dev nD) (t : Fin cfg0.N)

/-- The argument arrays. -/
def ah : Vec Ideal S8192x1024 .f32 := m ((c : Thread nD τ).loc main_arg0)
def ag : Vec Ideal S1x1024 .f32 := m ((c : Thread nD τ).loc main_arg1)
def au : Vec Ideal S1x1024x4096 .f32 := m ((c : Thread nD τ).loc main_arg2)
def ad : Vec Ideal S1x4096x1024 .f32 := m ((c : Thread nD τ).loc main_arg3)

/-- Row `p` of block `t` among the 8192 rows. -/
def row (t : ℕ) (ht : t < 16) (p : Fin 512) : Fin 8192 := ⟨t * 512 + p.val, by omega⟩

theorem lt16 : t.val < 16 := N_0 ▸ t.isLt

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = 0 ∧ win0_3.index t 1 = 0 := by decide +kernel
theorem idx4 : ∀ t : Fin cfg0.N, win0_4.index t (0 : Fin 2) = t.val ∧ win0_4.index t (1 : Fin 2) = 0 := by decide +kernel
theorem idx5 : ∀ t : Fin cfg0.N, win0_5.index t (0 : Fin 2) = t.val ∧ win0_5.index t (1 : Fin 2) = 0 := by decide +kernel
theorem idx6 : ∀ t : Fin cfg0.N, win0_6.index t (0 : Fin 2) = t.val ∧ win0_6.index t (1 : Fin 2) = 0 := by decide +kernel
theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

theorem blk0 (p : Fin 512) (q : Fin 1024) : (iblk m c 0 t : Vec Ideal S512x1024 .f32) (ix2 p q) = ah m c (ix2 (row t.val (lt16 t) p) q) := by
  have h := idx0 t
  unfold ah
  blk_ext [iblk, V, h.1, h.2, row]

theorem blk1 (q : Fin 1024) : (iblk m c 1 t : Vec Ideal S1x1024 .f32) (ix2 0 q) = ag m c (ix2 0 q) := by
  have h := idx1 t
  unfold ag
  blk_ext [iblk, V, h.1, h.2]

theorem blk2 (K : Fin 8) (r : Fin 1024) (q : Fin 512) : (iblk m c 2 t : Vec Ideal S8x1024x512 .bf16) (ix3 K r q) = au m c (ix3 0 r (col K q)) := by
  have h := idx2 t
  unfold iblk
  rw [View.read_apply]
  show V m c main_v3 _ = _
  entry_read
  refine (congrArg _ (show _ = (ix3 K r q : S8x1024x512.Idx) from by blk_ext [h.1, h.2.1, h.2.2])).trans ?_
  pointwise [col, au]

theorem blk3 (J : Fin 4096) (q : Fin 1024) : (iblk m c 3 t : Vec Ideal S4096x1024 .bf16) (ix2 J q) = ad m c (ix3 0 J q) := by
  have h := idx3 t
  unfold iblk
  rw [View.read_apply]
  show V m c main_v5 _ = _
  entry_read
  refine (congrArg _ (show _ = (ix2 J q : S4096x1024.Idx) from by blk_ext [h.1, h.2])).trans ?_
  pointwise [ad]

/-- A block's normed rows are those of the array. -/
theorem zb_eq (p : Fin 512) (r : Fin 1024) : zb (iblk m c 0 t) (iblk m c 1 t) p r = zE (ah m c) (ag m c) (row t.val (lt16 t) p) r := by
  unfold zb zE
  simp only [blk0, blk1]

theorem ub_eq (p : Fin 512) (K : Fin 8) (q : Fin 512) :
    ub (iblk m c 0 t) (iblk m c 1 t) (iblk m c 2 t) p K q = uE (ah m c) (ag m c) (au m c) (row t.val (lt16 t) p) (col K q) :=
  Finset.sum_congr rfl fun r _ => congrArg₂ _ (zb_eq m c t p r) (blk2 m c t K r q)

theorem h2_blk (p : Fin 512) (r : Fin 1024) :
    out0_4 (F := Ideal) (iblk m c 0 t) (iblk m c 1 t) (iblk m c 2 t) (iblk m c 3 t) (ix2 p r) = h2 (ah m c) (ag m c) (au m c) (ad m c) (ix2 (row t.val (lt16 t) p) r) := by
  rw [h2_apply, out4, blk0, sum8]
  exact congrArg _ (Finset.sum_congr rfl fun K _ => Finset.sum_congr rfl fun q _ => congrArg₂ _ (congrArg act (ub_eq m c t p K q)) (blk3 m c t (col K q) r))

theorem z2_blk (p : Fin 512) (r : Fin 1024) :
    out0_5 (F := Ideal) (iblk m c 0 t) (iblk m c 1 t) (iblk m c 2 t) (iblk m c 3 t) (ix2 p r) = z2 (ah m c) (ag m c) (ix2 (row t.val (lt16 t) p) r) := by
  rw [z2_apply, out5, pay4, zb_eq]

theorem up_blk (p : Fin 512) (J : Fin 4096) :
    out0_6 (F := Ideal) (iblk m c 0 t) (iblk m c 1 t) (iblk m c 2 t) (iblk m c 3 t) (ix2 p J) = up (ah m c) (ag m c) (au m c) (ix2 (row t.val (lt16 t) p) J) := by
  obtain ⟨K, q, rfl⟩ : ∃ (K : Fin 8) (q : Fin 512), J = col K q :=
    ⟨⟨J.val / 512, by omega⟩, ⟨J.val % 512, by omega⟩, Fin.ext (show J.val = J.val / 512 * 512 + J.val % 512 by omega)⟩
  rw [up_apply, out6, ub_eq]

/-- Where a block of whole rows puts an index, and which blocks cover the rows. -/
theorem emb_rows {n : Nat} (v : (⟨2, ![8192, n]⟩ : Shape).Idx) (p : Fin 512) (q : Fin n) (w : Fin 2 → Nat) (hw : w 0 = t.val ∧ w 1 = 0)
    (h0 : (v 0).val = w 0 * 512 + 1 * p.val) (h1 : (v 1).val = w 1 * n + 1 * q.val) : v = ix2 (row t.val (lt16 t) p) q := by
  funext a; apply Fin.ext
  match a with
  | ⟨0, _⟩ => show (v 0).val = t.val * 512 + p.val; rw [h0, hw.1]; omega
  | ⟨1, _⟩ => show (v 1).val = q.val; rw [h1, hw.2]; omega

theorem two {k n : Nat} (y : (⟨2, ![k, n]⟩ : Shape).Idx) : ∃ (p : Fin k) (q : Fin n), y = ix2 p q :=
  ⟨y 0, y 1, by funext a; match a with | ⟨0, _⟩ => rfl | ⟨1, _⟩ => rfl⟩

/-- The rows with the MLP added. -/
theorem h2_final : (dats m 0 c).arrAt 4 cfg0.N = h2 (ah m c) (ag m c) (au m c) (ad m c) := by
  refine (dats m 0 c).arrAt_eq_of_cover 4 _ (fun t _ => ?_) (fun i => ?_)
  · rw [Value.flushed4]
    funext y
    obtain ⟨p, q, rfl⟩ := two (k := 512) (n := 1024) y
    have hx : (cfg0.win 4).xinj (grid0.coords t) (ix2 p q) = (ix2 p q : S512x1024.Idx) := by
      funext a; apply Fin.ext
      match a with
      | ⟨0, _⟩ => rfl
      | ⟨1, _⟩ => rfl
    have he : ((cfg0.win 4).blk t).view.emb (ix2 p q) = (ix2 (row t.val (lt16 t) p) q : S8192x1024.Idx) := emb_rows t _ p q (win0_4.index t) (idx4 t) rfl rfl
    refine (congrArg (out0_4 (iblk m c 0 t) (iblk m c 1 t) (iblk m c 2 t) (iblk m c 3 t)) hx).trans (((h2_blk m c t p q)).trans ?_)
    exact (congrArg (h2 (ah m c) (ag m c) (au m c) (ad m c)) he).symm
  · have h0 : (i 0).val < 8192 := (i 0).isLt
    have h1 : (i 1).val < 1024 := (i 1).isLt
    have hN : (i 0).val / 512 < cfg0.N := by rw [show cfg0.N = 16 from N_0]; omega
    refine ⟨⟨(i 0).val / 512, hN⟩, flush4 _, ?_⟩
    show i ∈ ((View.whole main_v6_0).slice (win0_4.rect ⟨(i 0).val / 512, hN⟩)).set
    rw [View.set_slice_whole, Rect.mem_set_unit]
    have e := idx4 ⟨(i 0).val / 512, hN⟩
    intro a
    match a with
    | ⟨0, _⟩ => show win0_4.index ⟨(i 0).val / 512, hN⟩ (0 : Fin 2) * 512 ≤ (i 0).val ∧ (i 0).val < win0_4.index ⟨(i 0).val / 512, hN⟩ (0 : Fin 2) * 512 + 512; rw [e.1]; dsimp only; omega
    | ⟨1, _⟩ => show win0_4.index ⟨(i 0).val / 512, hN⟩ (1 : Fin 2) * 1024 ≤ (i 1).val ∧ (i 1).val < win0_4.index ⟨(i 0).val / 512, hN⟩ (1 : Fin 2) * 1024 + 1024; rw [e.2]; omega

/-- The normed rows. -/
theorem z2_final : (dats m 0 c).arrAt 5 cfg0.N = z2 (ah m c) (ag m c) := by
  refine (dats m 0 c).arrAt_eq_of_cover 5 _ (fun t _ => ?_) (fun i => ?_)
  · rw [Value.flushed5]
    funext y
    obtain ⟨p, q, rfl⟩ := two (k := 512) (n := 1024) y
    have hx : (cfg0.win 5).xinj (grid0.coords t) (ix2 p q) = (ix2 p q : S512x1024.Idx) := by
      funext a; apply Fin.ext
      match a with
      | ⟨0, _⟩ => rfl
      | ⟨1, _⟩ => rfl
    have he : ((cfg0.win 5).blk t).view.emb (ix2 p q) = (ix2 (row t.val (lt16 t) p) q : S8192x1024.Idx) := emb_rows t _ p q (win0_5.index t) (idx5 t) rfl rfl
    refine (congrArg (out0_5 (iblk m c 0 t) (iblk m c 1 t) (iblk m c 2 t) (iblk m c 3 t)) hx).trans (((z2_blk m c t p q)).trans ?_)
    exact (congrArg (z2 (ah m c) (ag m c)) he).symm
  · have h0 : (i 0).val < 8192 := (i 0).isLt
    have h1 : (i 1).val < 1024 := (i 1).isLt
    have hN : (i 0).val / 512 < cfg0.N := by rw [show cfg0.N = 16 from N_0]; omega
    refine ⟨⟨(i 0).val / 512, hN⟩, flush5 _, ?_⟩
    show i ∈ ((View.whole main_v6_1).slice (win0_5.rect ⟨(i 0).val / 512, hN⟩)).set
    rw [View.set_slice_whole, Rect.mem_set_unit]
    have e := idx5 ⟨(i 0).val / 512, hN⟩
    intro a
    match a with
    | ⟨0, _⟩ => show win0_5.index ⟨(i 0).val / 512, hN⟩ (0 : Fin 2) * 512 ≤ (i 0).val ∧ (i 0).val < win0_5.index ⟨(i 0).val / 512, hN⟩ (0 : Fin 2) * 512 + 512; rw [e.1]; dsimp only; omega
    | ⟨1, _⟩ => show win0_5.index ⟨(i 0).val / 512, hN⟩ (1 : Fin 2) * 1024 ≤ (i 1).val ∧ (i 1).val < win0_5.index ⟨(i 0).val / 512, hN⟩ (1 : Fin 2) * 1024 + 1024; rw [e.2]; omega

/-- The up-projected rows. -/
theorem up_final : (dats m 0 c).arrAt 6 cfg0.N = up (ah m c) (ag m c) (au m c) := by
  refine (dats m 0 c).arrAt_eq_of_cover 6 _ (fun t _ => ?_) (fun i => ?_)
  · rw [Value.flushed6]
    funext y
    obtain ⟨p, q, rfl⟩ := two (k := 512) (n := 4096) y
    have hx : (cfg0.win 6).xinj (grid0.coords t) (ix2 p q) = (ix2 p q : S512x4096.Idx) := by
      funext a; apply Fin.ext
      match a with
      | ⟨0, _⟩ => rfl
      | ⟨1, _⟩ => rfl
    have he : ((cfg0.win 6).blk t).view.emb (ix2 p q) = (ix2 (row t.val (lt16 t) p) q : S8192x4096.Idx) := emb_rows t _ p q (win0_6.index t) (idx6 t) rfl rfl
    refine (congrArg (out0_6 (iblk m c 0 t) (iblk m c 1 t) (iblk m c 2 t) (iblk m c 3 t)) hx).trans (((up_blk m c t p q)).trans ?_)
    exact (congrArg (up (ah m c) (ag m c) (au m c)) he).symm
  · have h0 : (i 0).val < 8192 := (i 0).isLt
    have h1 : (i 1).val < 4096 := (i 1).isLt
    have hN : (i 0).val / 512 < cfg0.N := by rw [show cfg0.N = 16 from N_0]; omega
    refine ⟨⟨(i 0).val / 512, hN⟩, flush6 _, ?_⟩
    show i ∈ ((View.whole main_v6_2).slice (win0_6.rect ⟨(i 0).val / 512, hN⟩)).set
    rw [View.set_slice_whole, Rect.mem_set_unit]
    have e := idx6 ⟨(i 0).val / 512, hN⟩
    intro a
    match a with
    | ⟨0, _⟩ => show win0_6.index ⟨(i 0).val / 512, hN⟩ (0 : Fin 2) * 512 ≤ (i 0).val ∧ (i 0).val < win0_6.index ⟨(i 0).val / 512, hN⟩ (0 : Fin 2) * 512 + 512; rw [e.1]; dsimp only; omega
    | ⟨1, _⟩ => show win0_6.index ⟨(i 0).val / 512, hN⟩ (1 : Fin 2) * 4096 ≤ (i 1).val ∧ (i 1).val < win0_6.index ⟨(i 0).val / 512, hN⟩ (1 : Fin 2) * 4096 + 4096; rw [e.2]; omega

theorem frame_kernel : Cert.quiescent_MlpF := fun m ρ _ => Cert.MlpF.Gen.frame m ρ
theorem frame_ideal : Cert.quiescent_MlpFIdeal := fun m ρ _ => Cert.MlpFIdeal.Gen.frame m ρ
theorem frame_ref : Cert.quiescent_MlpFRefIdeal := fun m ρ _ =>
  (θ_run Cert.MlpFRefIdeal.defs _ _).mono (fun r h => ⟨fun c => (h c).2.2.2, sem_eq_zero_of_no_sems (by decide) r.2⟩) (Cert.MlpFRefIdeal.Value.run (F := Ideal) m ρ)
theorem preserves : Cert.preserves_MlpF_MlpFIdeal := trivial

theorem algebraic : Cert.algebraic_MlpFIdeal_MlpFRefIdeal := by
  intro m ρ m' ρ' _ hagree
  refine ⟨fun c => h2 (ah m c) (ag m c) (au m c) (ad m c), fun c => z2 (ah m c) (ag m c), fun c => up (ah m c) (ag m c) (au m c), ?_, ?_⟩
  · refine (θ_run Cert.MlpFIdeal.defs _ _).mono (fun r h c => ?_) (Value.run_blocks m ρ)
    exact ⟨(h c).1.trans (h2_final m c), (h c).2.1.trans (z2_final m c), (h c).2.2.1.trans (up_final m c), (h c).2.2.2⟩
  · refine (θ_run Cert.MlpFRefIdeal.defs _ _).mono (fun r h c => ?_) (Cert.MlpFRefIdeal.Read.run m' ρ')
    obtain ⟨e0, e1, e2, e3⟩ := hagree c
    refine ⟨(h c).1.trans ?_, (h c).2.1.trans ?_, (h c).2.2.1.trans ?_, (h c).2.2.2⟩
    · rw [e0, e1, e2, e3]; rfl
    · rw [e0, e1]; rfl
    · rw [e0, e1, e2]; rfl

end Cert.MlpFClaim

end
-- ==== Proof.InBody.lean ====
/-
  What one grid point of the input-projection backward call leaves in its buffers: the block of `dx` is the printed
  payload of the point's input blocks, row 0 of the accumulator grows by the point's column sum, its other rows stay,
  and the last point copies the accumulator out.
-/
module

public import proofs.«01_k».proof.Proof.Gen.InBwdIdeal.Value
public import proofs.«01_k».proof.Proof.Rows
public import Idealize.ShloMosaic.Lib.Pointwise
public import Idealize.ShloMosaic.Lib.Tactic

@[expose] public section

set_option maxRecDepth 16384

noncomputable section

namespace Cert.InBwdIdeal.Body

open Cert.InBwdIdeal Cert.InBwdIdeal.Gen Idealize.ShloMosaic Idealize.ShloMosaic.TcCoe Idealize.SL.Sem

variable {F : FTy → Type} [FloatOps F]

open Cert.Rows (hz)

/-- The accumulator after a point: row 0 takes `row` (the payload of the old row 0), the other rows keep `acc`. -/
def upd (acc : Vec F S8x1024 .f32) (row : Vec F S1x1024 .f32) : Vec F S8x1024 .f32 :=
  fun j => if (j 0).val = 0 then row (ix2 0 (j 1)) else acc j

/-- Row 0 of an accumulator. -/
def row0 (acc : Vec F S8x1024 .f32) : Vec F S1x1024 .f32 := fun j => acc (ix2 0 (j 1))

/-- The accumulator after the point's store into row 0, over contents `L` that read as `acc`. -/
theorem written (c : Dev nD) (a1 : Memref sig .tc .vmem S512x1536 .bf16) (h1 : a1.IsWhole) (a2 : Memref sig .tc .vmem S512x1024 .f32) (h2 : a2.IsWhole) (a5 : Memref sig .tc .vmem S1536x1024 .bf16) (h5 : a5.IsWhole)
    (a8 : Memref sig .tc .vmem S8x1024 .f32) (x0 : Vec F S512x1536 .bf16) (x1 : Vec F S512x1024 .f32) (x4 : Vec F S1536x1024 .bf16) (acc : Vec F S8x1024 .f32)
    (L : List (View.Piece (Elt F) S8x1024 .f32)) (f : a8.view.ty.Contents (Elt F)) (hL : a8.view.read (Elt F) (a8.view.writes (Elt F) f L) = acc) :
    a8.view.read (Elt F) (a8.view.writes (Elt F) f
        ((⟨Rect.unit ![0, 0] ![1, 1024] inb_S8x1024_S1x1024_0_0, k0_pay1 (k0_pay3 (a1.view.readAt (Elt F) (Rect.unit ![0, 0] S512x1536.size inb_S512x1536_S512x1536_0_0).toLoadRect (h1.unread x0))
              (a5.view.readAt (Elt F) (Rect.unit ![0, 0] S1536x1024.size inb_S1536x1024_S1536x1024_0_0).toLoadRect (h5.unread x4)))
            (k0_pay5 (a2.view.readAt (Elt F) (Rect.unit ![0, 0] S512x1024.size inb_S512x1024_S512x1024_0_0).toLoadRect (h2.unread x1)))
            (a8.view.readAt (Elt F) (Rect.unit (s := S8x1024) ![0, 0] S1x1024.size inb_S8x1024_S1x1024_0_0).toLoadRect (a8.view.writes (Elt F) f L))⟩ : View.Piece (Elt F) S8x1024 .f32) :: L))
      = upd acc (k0_pay1 (k0_pay3 x0 x4) (k0_pay5 x1) (row0 acc)) := by
  have e : a8.view.readAt (Elt F) (Rect.unit (s := S8x1024) ![0, 0] S1x1024.size inb_S8x1024_S1x1024_0_0).toLoadRect (a8.view.writes (Elt F) f L) = row0 acc := by
    funext j
    refine (Rows.load a8.view (a8.view.writes (Elt F) f L) 0 inb_S8x1024_S1x1024_0_0 (by omega) j).trans ?_
    rw [hL]
    unfold row0
    congr 2
    apply Fin.ext
    have : (j 0).val < 1 := (j 0).isLt
    show 0 + (j 0).val = 0
    omega
  rw [e]
  simp only [View.readAt_eq_ld, h1.read_unread, h2.read_unread, h5.read_unread, View.ld_unit_zero (S := S512x1024) hz, View.ld_unit_zero (S := S512x1536) hz, View.ld_unit_zero (S := S1536x1024) hz]
  funext j
  unfold upd
  split
  · next h => exact Rows.read_hit a8.view f 0 inb_S8x1024_S1x1024_0_0 _ L j 0 (by rw [h]; rfl)
  · next h => rw [← hL]; exact Rows.read_miss a8.view f 0 inb_S8x1024_S1x1024_0_0 _ L j (by omega)

variable (c : Dev nD) (i : grid0.Coords) (a1 : Memref sig .tc .vmem S512x1536 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S1536x1024 .bf16) (h5 : a5.IsWhole) (a6 : Memref sig .tc .vmem S512x1024 .f32) (h6 : a6.IsWhole) (a7 : Memref sig .tc .vmem S8x1024 .f32) (h7 : a7.IsWhole) (a8 : Memref sig .tc .vmem S8x1024 .f32) (h8 : a8.IsWhole)
  (x0 : Vec F S512x1536 .bf16) (x1 : Vec F S512x1024 .f32) (x2 : Vec F S512x1024 .f32) (x3 : Vec F S1x1024 .f32) (x4 : Vec F S1536x1024 .bf16) (xs : Vec F S8x1024 .f32)

theorem dx_A (hc0 : cond0_0 i) (hc1 : ¬cond0_1 i) :
    out0_A_5 c i a1 h1 a2 h2 a3 h3 a4 h4 a5 h5 a6 h6 a7 h7 a8 h8 hc0 hc1 x0 x1 x2 x3 x4 = k0_pay6 x0 x4 x3 x1 x2 := by
  unfold out0_A_5
  rw [View.read_writes_eq_canon _ _ _ (cover0_A_5 c i a1 h1 a2 h2 a3 h3 a4 h4 a5 h5 a6 h6 a7 h7 a8 h8 hc0 hc1 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x1536) hz, View.ld_unit_zero (S := S1x1024) hz, View.ld_unit_zero (S := S1536x1024) hz]

theorem dx_B (hc0 : ¬cond0_0 i) (hc1 : ¬cond0_1 i) :
    out0_B_5 c i a1 h1 a2 h2 a3 h3 a4 h4 a5 h5 a6 h6 a7 h7 a8 h8 hc0 hc1 x0 x1 x2 x3 x4 xs = k0_pay6 x0 x4 x3 x1 x2 := by
  unfold out0_B_5
  rw [View.read_writes_eq_canon _ _ _ (cover0_B_5 c i a1 h1 a2 h2 a3 h3 a4 h4 a5 h5 a6 h6 a7 h7 a8 h8 hc0 hc1 x0 x1 x2 x3 x4 xs)]
  unfold kernelRun0_B
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x1536) hz, View.ld_unit_zero (S := S1x1024) hz, View.ld_unit_zero (S := S1536x1024) hz]

theorem dx_C (hc0 : ¬cond0_0 i) (hc1 : cond0_1 i) :
    out0_C_5 c i a1 h1 a2 h2 a3 h3 a4 h4 a5 h5 a6 h6 a7 h7 a8 h8 hc0 hc1 x0 x1 x2 x3 x4 xs = k0_pay6 x0 x4 x3 x1 x2 := by
  unfold out0_C_5
  rw [View.read_writes_eq_canon _ _ _ (cover0_C_5 c i a1 h1 a2 h2 a3 h3 a4 h4 a5 h5 a6 h6 a7 h7 a8 h8 hc0 hc1 x0 x1 x2 x3 x4 xs)]
  unfold kernelRun0_C
  dsimp only
  sl_unfold_words
  rw [View.canon_unit_zero hz]
  simp only [View.readAt_eq_ld, h1.read_unread, h2.read_unread, h3.read_unread, h4.read_unread, h5.read_unread, View.ld_unit_zero (S := S512x1024) hz, View.ld_unit_zero (S := S512x1536) hz, View.ld_unit_zero (S := S1x1024) hz, View.ld_unit_zero (S := S1536x1024) hz]

theorem acc_B (hc0 : ¬cond0_0 i) (hc1 : ¬cond0_1 i) :
    sout0_B_0 c i a1 h1 a2 h2 a3 h3 a4 h4 a5 h5 a6 h6 a7 h7 a8 h8 hc0 hc1 x0 x1 x2 x3 x4 xs = upd xs (k0_pay1 (k0_pay3 x0 x4) (k0_pay5 x1) (row0 xs)) := by
  unfold sout0_B_0
  unfold kernelRun0_B
  dsimp only
  sl_unfold_words
  exact written c a1 h1 a2 h2 a5 h5 a8 x0 x1 x4 xs [] _ (h8.read_unread xs)

theorem acc_A (hc0 : cond0_0 i) (hc1 : ¬cond0_1 i) :
    sout0_A_0 c i a1 h1 a2 h2 a3 h3 a4 h4 a5 h5 a6 h6 a7 h7 a8 h8 hc0 hc1 x0 x1 x2 x3 x4 = upd k0_pay2 (k0_pay1 (k0_pay3 x0 x4) (k0_pay5 x1) (row0 k0_pay2)) := by
  unfold sout0_A_0
  rw [View.read_writes_eq_canon _ _ _ (scover0_A_0 c i a1 h1 a2 h2 a3 h3 a4 h4 a5 h5 a6 h6 a7 h7 a8 h8 hc0 hc1 x0 x1 x2 x3 x4), ← View.read_writes_eq_canon a8.view a8.view.junk _ (scover0_A_0 c i a1 h1 a2 h2 a3 h3 a4 h4 a5 h5 a6 h6 a7 h7 a8 h8 hc0 hc1 x0 x1 x2 x3 x4)]
  unfold kernelRun0_A
  dsimp only
  sl_unfold_words
  exact written c a1 h1 a2 h2 a5 h5 a8 x0 x1 x4 k0_pay2 [_] _ (Rows.read_full a8.view _ _ _ _)

theorem vec_C (hc0 : ¬cond0_0 i) (hc1 : cond0_1 i) :
    out0_C_6 c i a1 h1 a2 h2 a3 h3 a4 h4 a5 h5 a6 h6 a7 h7 a8 h8 hc0 hc1 x0 x1 x2 x3 x4 xs = upd xs (k0_pay1 (k0_pay3 x0 x4) (k0_pay5 x1) (row0 xs)) := by
  unfold out0_C_6
  rw [View.read_writes_eq_canon _ _ _ (cover0_C_6 c i a1 h1 a2 h2 a3 h3 a4 h4 a5 h5 a6 h6 a7 h7 a8 h8 hc0 hc1 x0 x1 x2 x3 x4 xs)]
  unfold kernelRun0_C
  dsimp only
  sl_unfold_words
  rw [View.canon_unit_zero hz, View.readAt_eq_ld]
  refine (View.ld_unit_zero (S := S8x1024) hz _ _).trans ?_
  exact written c a1 h1 a2 h2 a5 h5 a8 x0 x1 x4 xs [] _ (h8.read_unread xs)

end Cert.InBwdIdeal.Body

end
-- ==== Proof.InPay.lean ====
/-
  The printed payloads of the input-projection backward call at the ideal floats, read at an index.
-/
module

public import proofs.«01_k».proof.Proof.InBody
public import Idealize.ShloMosaic.Lib.Pointwise

@[expose] public section

set_option maxRecDepth 16384

noncomputable section

namespace Cert.InBwdIdeal.Pay

open Cert.InBwdIdeal Cert.InBwdIdeal.Gen Idealize.ShloMosaic Idealize.ShloMosaic.TcCoe Idealize.SL.Sem

theorem pay3 (v3 : Vec Ideal S512x1536 .bf16) (v4 : Vec Ideal S1536x1024 .bf16) (j : S512x1024.Idx) :
    k0_pay3 (F := Ideal) v3 v4 j = ∑ k : Fin 1536, v3 (ix2 (j 0) k) * v4 (ix2 k (j 1)) := by
  idx_vars j
  pointwise [k0_pay3]

theorem pay4 (v8 : Vec Ideal S512x1024 .f32) (j : S512x1.Idx) :
    k0_pay4 (F := Ideal) v8 j = Ideal.rsqrt (Ideal.div (∑ k : Fin 1024, v8 (ix2 (j 0) k) * v8 (ix2 (j 0) k)) (Ideal.ofBits .f32 0x44800000#32) + Ideal.ofBits .f32 0x358637BD#32) := by
  idx_vars j
  pointwise [k0_pay4]

theorem pay5 (v8 : Vec Ideal S512x1024 .f32) (j : S512x1024.Idx) :
    k0_pay5 (F := Ideal) v8 j = v8 j * k0_pay4 (F := Ideal) v8 (ix2 (j 0) 0) := by
  idx_vars j
  pointwise [k0_pay5]

theorem pay6 (v3 : Vec Ideal S512x1536 .bf16) (v4 : Vec Ideal S1536x1024 .bf16) (v7 : Vec Ideal S1x1024 .f32) (v8 v19 : Vec Ideal S512x1024 .f32) (p : Fin 512) (q : Fin 1024) :
    k0_pay6 (F := Ideal) v3 v4 v7 v8 v19 (ix2 p q) = v19 (ix2 p q) + k0_pay4 (F := Ideal) v8 (ix2 p 0) *
        (k0_pay3 (F := Ideal) v3 v4 (ix2 p q) * v7 (ix2 0 q) - v8 (ix2 p q) * k0_pay4 (F := Ideal) v8 (ix2 p 0) *
          Ideal.div (∑ k : Fin 1024, k0_pay3 (F := Ideal) v3 v4 (ix2 p k) * v7 (ix2 0 k) * (v8 (ix2 p k) * k0_pay4 (F := Ideal) v8 (ix2 p 0))) (Ideal.ofBits .f32 0x44800000#32)) := by
  pointwise [k0_pay6, k0_pay5]

theorem pay1 (v6 v18 : Vec Ideal S512x1024 .f32) (v34 : Vec Ideal S1x1024 .f32) (j : S1x1024.Idx) :
    k0_pay1 (F := Ideal) v6 v18 v34 j = v34 j + ∑ k : Fin 512, v6 (ix2 k (j 1)) * v18 (ix2 k (j 1)) := by
  idx_vars j
  pointwise [k0_pay1]

theorem pay2 (j : S8x1024.Idx) : k0_pay2 (F := Ideal) j = 0 := by
  idx_vars j
  pointwise [k0_pay2]

end Cert.InBwdIdeal.Pay

end
-- ==== Proof.InPoints.lean ====
/-
  The generated contents of the input-projection backward call's buffers after a point, as the printed payloads.
-/
module

public import proofs.«01_k».proof.Proof.InBody

@[expose] public section

set_option maxRecDepth 16384

noncomputable section

namespace Cert.InBwdIdeal.Points

open Cert.InBwdIdeal Cert.InBwdIdeal.Gen Cert.InBwdIdeal.Body Idealize.ShloMosaic Idealize.ShloMosaic.TcCoe Idealize.SL.Sem

variable {F : FTy → Type} [FloatOps F]
variable (m : (ℓ : Loc nD τ sig) → Buf (Elt F) ℓ) (c : Dev nD) (t : Fin cfg0.N)

/-- Each point's block of `dx`. -/
theorem out_dx : (outsAt0 m c t.val t.isLt).1 = k0_pay6 (iblk m c 0 t) (iblk m c 4 t) (iblk m c 3 t) (iblk m c 1 t) (iblk m c 2 t) := by
  by_cases h0 : t.val % 16 = 0
  · have h1 : ¬t.val % 16 = 15 := by omega
    rw [outsAt0_A m c t h0 h1]
    dsimp only
    rw [dx_A]
  · by_cases h1 : t.val % 16 = 15
    · rw [outsAt0_C m c t h0 h1]
      dsimp only
      rw [dx_C]
    · rw [outsAt0_B m c t h0 h1]
      dsimp only
      rw [dx_B]

/-- The accumulator after the first point. -/
theorem acc_first (h0 : t.val % 16 = 0) : (outsAt0 m c t.val t.isLt).2.2 = upd k0_pay2 (k0_pay1 (k0_pay3 (iblk m c 0 t) (iblk m c 4 t)) (k0_pay5 (iblk m c 1 t)) (row0 k0_pay2)) := by
  rw [outsAt0_A m c t h0 (by omega)]
  dsimp only
  rw [acc_A]

/-- The accumulator after a point that is neither the first nor the last. -/
theorem acc_next (h0 : ¬t.val % 16 = 0) (h1 : ¬t.val % 16 = 15) : (outsAt0 m c t.val t.isLt).2.2 =
    upd (outsAt0 m c (t.val - 1) (Nat.lt_of_le_of_lt (Nat.sub_le _ _) t.isLt)).2.2 (k0_pay1 (k0_pay3 (iblk m c 0 t) (iblk m c 4 t)) (k0_pay5 (iblk m c 1 t)) (row0 (outsAt0 m c (t.val - 1) (Nat.lt_of_le_of_lt (Nat.sub_le _ _) t.isLt)).2.2)) := by
  rw [outsAt0_B m c t h0 h1]
  dsimp only
  rw [acc_B]

/-- The block of the vectors the last point writes. -/
theorem vec_last (h1 : t.val % 16 = 15) : (outsAt0 m c t.val t.isLt).2.1 =
    upd (outsAt0 m c (t.val - 1) (Nat.lt_of_le_of_lt (Nat.sub_le _ _) t.isLt)).2.2 (k0_pay1 (k0_pay3 (iblk m c 0 t) (iblk m c 4 t)) (k0_pay5 (iblk m c 1 t)) (row0 (outsAt0 m c (t.val - 1) (Nat.lt_of_le_of_lt (Nat.sub_le _ _) t.isLt)).2.2)) := by
  rw [outsAt0_C m c t (by omega) h1]
  dsimp only
  rw [vec_C]

end Cert.InBwdIdeal.Points

end
-- ==== Proof.InBlocks.lean ====
/-
  The blocks the input-projection backward call reads at a grid point, as elements of the arguments.
-/
module

public import proofs.«01_k».proof.Proof.Gen.InBwdIdeal.Value
public import Idealize.ShloMosaic.Lib.Pointwise
public import Idealize.ShloMosaic.Lib.Claim
public import Idealize.ShloMosaic.Lib.Pipeline.ValueKit.Point

@[expose] public section

set_option maxRecDepth 16384

noncomputable section

namespace Cert.InBwdIdeal.Blocks

open Cert.InBwdIdeal Cert.InBwdIdeal.Gen Idealize.ShloMosaic Idealize.ShloMosaic.TcCoe Idealize.SL.Sem

variable (m : (ℓ : Loc nD τ sig) → Buf (Elt Ideal) ℓ) (c : Dev nD) (t : Fin cfg0.N)

/-- Row `p` of block `t` among the 8192 rows. -/
def row (t : ℕ) (ht : t < 16) (p : Fin 512) : Fin 8192 := ⟨t * 512 + p.val, by omega⟩

theorem lt16 : t.val < 16 := N_0 ▸ t.isLt

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel

theorem blk0 (p : Fin 512) (q : Fin 1536) :
    (iblk m c 0 t : Vec Ideal S512x1536 .bf16) (ix2 p q) = (m ((c : Thread nD τ).loc main_arg4) : Vec Ideal S8192x1536 .bf16) (ix2 (row t.val (lt16 t) p) q) := by
  have h := idx0 t
  blk_ext [iblk, V, h.1, h.2, row]

theorem blk1 (p : Fin 512) (q : Fin 1024) :
    (iblk m c 1 t : Vec Ideal S512x1024 .f32) (ix2 p q) = (m ((c : Thread nD τ).loc main_arg0) : Vec Ideal S8192x1024 .f32) (ix2 (row t.val (lt16 t) p) q) := by
  have h := idx1 t
  blk_ext [iblk, V, h.1, h.2, row]

theorem blk2 (p : Fin 512) (q : Fin 1024) :
    (iblk m c 2 t : Vec Ideal S512x1024 .f32) (ix2 p q) = (m ((c : Thread nD τ).loc main_arg3) : Vec Ideal S8192x1024 .f32) (ix2 (row t.val (lt16 t) p) q) := by
  have h := idx2 t
  blk_ext [iblk, V, h.1, h.2, row]

theorem blk3 (q : Fin 1024) :
    (iblk m c 3 t : Vec Ideal S1x1024 .f32) (ix2 0 q) = (m ((c : Thread nD τ).loc main_arg1) : Vec Ideal S1x1024 .f32) (ix2 0 q) := by
  have h := idx3 t
  blk_ext [iblk, V, h.1, h.2]

theorem blk4 (p : Fin 1536) (q : Fin 1024) :
    (iblk m c 4 t : Vec Ideal S1536x1024 .bf16) (ix2 p q) = (m ((c : Thread nD τ).loc main_arg2) : Vec Ideal S1x1024x1536 .f32) (ix3 0 q p) := by
  have h := idx4 t
  unfold iblk
  rw [View.read_apply]
  show V m c main_v2 _ = _
  entry_read
  refine (congrArg _ (show _ = (ix2 p q : S1536x1024.Idx) from by blk_ext [h.1, h.2])).trans ?_
  pointwise

end Cert.InBwdIdeal.Blocks

end
-- ==== Proof.InFold.lean ====
/-
  The input-projection backward call over its whole grid: the block of `dx` each point writes, and the accumulator of
  the scale's gradient after every point, both in terms of the call's arguments.
-/
module

public import proofs.«01_k».proof.Proof.InPay
public import proofs.«01_k».proof.Proof.InPoints
public import proofs.«01_k».proof.Proof.InBlocks
public import Idealize.ShloMosaic.Lib.Pointwise

@[expose] public section

set_option maxRecDepth 16384

noncomputable section

namespace Cert.InBwdIdeal.Fold

open Cert.InBwdIdeal Cert.InBwdIdeal.Gen Cert.InBwdIdeal.Body Cert.InBwdIdeal.Pay Cert.InBwdIdeal.Blocks Idealize.ShloMosaic Idealize.ShloMosaic.TcCoe Idealize.SL.Sem

variable (m : (ℓ : Loc nD τ sig) → Buf (Elt Ideal) ℓ) (c : Dev nD)

/-- The arguments. -/
abbrev ax : Vec Ideal S8192x1024 .f32 := m ((c : Thread nD τ).loc main_arg0)
abbrev ag : Vec Ideal S1x1024 .f32 := m ((c : Thread nD τ).loc main_arg1)
abbrev aw : Vec Ideal S1x1024x1536 .f32 := m ((c : Thread nD τ).loc main_arg2)
abbrev ah : Vec Ideal S8192x1024 .f32 := m ((c : Thread nD τ).loc main_arg3)
abbrev ap : Vec Ideal S8192x1536 .bf16 := m ((c : Thread nD τ).loc main_arg4)

/-- The cotangent of the norm's result, an element. -/
def dz (p : Fin 8192) (q : Fin 1024) : EReal := ∑ k : Fin 1536, ap m c (ix2 p k) * aw m c (ix3 0 q k)

/-- The reciprocal root of a row's statistic. -/
def rs (p : Fin 8192) : EReal :=
  Ideal.rsqrt (Ideal.div (∑ k : Fin 1024, ax m c (ix2 p k) * ax m c (ix2 p k)) (Ideal.ofBits .f32 0x44800000#32) + Ideal.ofBits .f32 0x358637BD#32)

variable (t : Fin cfg0.N)

theorem pay3_blk (p : Fin 512) (q : Fin 1024) : k0_pay3 (F := Ideal) (iblk m c 0 t) (iblk m c 4 t) (ix2 p q) = dz m c (row t.val (lt16 t) p) q := by
  rw [pay3]
  exact Finset.sum_congr rfl fun k _ => congrArg₂ _ (blk0 m c t p k) (blk4 m c t k q)

theorem pay4_blk (p : Fin 512) : k0_pay4 (F := Ideal) (iblk m c 1 t) (ix2 p 0) = rs m c (row t.val (lt16 t) p) := by
  rw [pay4]
  unfold rs
  congr 3
  exact Finset.sum_congr rfl fun k _ => congrArg₂ _ (blk1 m c t p k) (blk1 m c t p k)

theorem pay5_blk (p : Fin 512) (q : Fin 1024) : k0_pay5 (F := Ideal) (iblk m c 1 t) (ix2 p q) = ax m c (ix2 (row t.val (lt16 t) p) q) * rs m c (row t.val (lt16 t) p) := by
  rw [pay5]
  exact congrArg₂ _ (blk1 m c t p q) (pay4_blk m c t p)

/-- The gradient of the input as the kernel computes it, an element. -/
def gx (p : Fin 8192) (q : Fin 1024) : EReal :=
  ah m c (ix2 p q) + rs m c p * (dz m c p q * ag m c (ix2 0 q) - ax m c (ix2 p q) * rs m c p *
    Ideal.div (∑ k : Fin 1024, dz m c p k * ag m c (ix2 0 k) * (ax m c (ix2 p k) * rs m c p)) (Ideal.ofBits .f32 0x44800000#32))

theorem pay6_blk (p : Fin 512) (q : Fin 1024) :
    k0_pay6 (F := Ideal) (iblk m c 0 t) (iblk m c 4 t) (iblk m c 3 t) (iblk m c 1 t) (iblk m c 2 t) (ix2 p q) = gx m c (row t.val (lt16 t) p) q := by
  rw [pay6, pay4_blk, pay3_blk]
  simp only [pay3_blk]
  unfold gx
  have e3 : ∀ k : Fin 1024, (iblk m c 3 t : Vec Ideal S1x1024 .f32) (ix2 0 k) = ag m c (ix2 0 k) := blk3 m c t
  have e1 : ∀ k : Fin 1024, (iblk m c 1 t : Vec Ideal S512x1024 .f32) (ix2 p k) = ax m c (ix2 (row t.val (lt16 t) p) k) := blk1 m c t p
  have e2 : (iblk m c 2 t : Vec Ideal S512x1024 .f32) (ix2 p q) = ah m c (ix2 (row t.val (lt16 t) p) q) := blk2 m c t p q
  rw [e2, e3, e1]
  congr 5
  exact Finset.sum_congr rfl fun k _ => by rw [e3, e1]

/-- What block `t` of the rows adds to the scale's gradient. -/
def part (n : ℕ) (q : Fin 1024) : EReal :=
  if h : n < 16 then ∑ k : Fin 512, dz m c (row n h k) q * (ax m c (ix2 (row n h k) q) * rs m c (row n h k)) else 0

theorem pay1_blk (r : Vec Ideal S1x1024 .f32) (q : Fin 1024) :
    k0_pay1 (F := Ideal) (k0_pay3 (iblk m c 0 t) (iblk m c 4 t)) (k0_pay5 (iblk m c 1 t)) r (ix2 0 q) = r (ix2 0 q) + part m c t.val q := by
  rw [pay1]
  unfold part
  rw [dif_pos (lt16 t)]
  congr 1
  exact Finset.sum_congr rfl fun k _ => congrArg₂ _ (pay3_blk m c t k q) (pay5_blk m c t k q)

/-- The accumulator after point `n`: row 0 the sum over the blocks so far, the other rows zero. -/
def accOf (n : ℕ) : Vec Ideal S8x1024 .f32 := fun j => if (j 0).val = 0 then ∑ s ∈ Finset.range (n + 1), part m c s (j 1) else 0

theorem upd_accOf (n : ℕ) (hn : n + 1 < cfg0.N) :
    upd (accOf m c n) (k0_pay1 (F := Ideal) (k0_pay3 (iblk m c 0 ⟨n + 1, hn⟩) (iblk m c 4 ⟨n + 1, hn⟩)) (k0_pay5 (iblk m c 1 ⟨n + 1, hn⟩)) (row0 (accOf m c n))) = accOf m c (n + 1) := by
  funext j
  unfold upd
  rw [pay1_blk m c ⟨n + 1, hn⟩ _ (j 1)]
  unfold accOf row0
  split
  · exact (Finset.sum_range_succ (fun s => part m c s (j 1)) (n + 1)).symm
  · rfl

theorem acc_eq : ∀ (n : ℕ) (hn : n < cfg0.N), n < 15 → (outsAt0 m c n hn).2.2 = accOf m c n
  | 0, hn, _ => by
    rw [Points.acc_first m c ⟨0, hn⟩ rfl]
    funext j
    unfold upd accOf
    rw [pay1_blk m c ⟨0, hn⟩ _ (j 1)]
    split
    · rw [Finset.sum_range_one]
      exact (congrArg (· + part m c 0 (j 1)) (pay2 _)).trans (zero_add _)
    · exact pay2 _
  | n + 1, hn, h => by
    have h0 : ¬(⟨n + 1, hn⟩ : Fin cfg0.N).val % 16 = 0 := by dsimp only; omega
    have h1 : ¬(⟨n + 1, hn⟩ : Fin cfg0.N).val % 16 = 15 := by dsimp only; omega
    rw [Points.acc_next m c ⟨n + 1, hn⟩ h0 h1, ← upd_accOf m c n hn, ← acc_eq n (by omega) (by omega)]
    rfl

theorem vec_eq (hn : 15 < cfg0.N) : (outsAt0 m c 15 hn).2.1 = accOf m c 15 := by
  rw [Points.vec_last m c ⟨15, hn⟩ rfl, ← upd_accOf m c 14 hn, ← acc_eq m c 14 (by omega) (by omega)]
  rfl

end Cert.InBwdIdeal.Fold

end
-- ==== Proof.InRead.lean ====
/-
  What the reference of the input-projection backward call returns at the ideal floats, read at an index.
-/
module

public import proofs.«01_k».proof.Proof.Gen.InRefIdeal.Run
public import Idealize.ShloMosaic.Lib.Pointwise

@[expose] public section

set_option maxRecDepth 16384

noncomputable section

namespace Cert.InRefIdeal.Read

open Cert.InRefIdeal Cert.InRefIdeal.Gen Idealize.ShloMosaic Idealize.ShloMosaic.TcCoe Idealize.SL.Sem

variable (x dh1 : FVec Ideal S8192x1024 .f32) (g : FVec Ideal S1x1024 .f32) (w : FVec Ideal S1x1024x1536 .f32) (dp : FVec Ideal S8192x1536 .bf16)

/-- The row statistic, mean square and epsilon. -/
def ms : FVec Ideal S8192x1 .f32 := addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem ms_apply (p : Fin 8192) : ms x (ix2 p 0) = Ideal.div (∑ k : Fin 1024, x (ix2 p k) * x (ix2 p k)) (Ideal.ofBits .f32 0x44800000#32) + Ideal.ofBits .f32 0x358637BD#32 := by
  pointwise [ms]

/-- Its reciprocal root. -/
def rs : FVec Ideal S8192x1 .f32 := Host.rsqrt (ms x)

theorem rs_apply (p : Fin 8192) : rs x (ix2 p 0) = Ideal.rsqrt (ms x (ix2 p 0)) := rfl

/-- The cotangent of the norm's result. -/
def dz : FVec Ideal S8192x1024 .f32 := Host.dotGeneral dot_S8192x1536_S1024x1536_S8192x1024_1_1_0_0_n_n none (extf .f32 dp bitsLt_bf16_f32) (shapeCast S1024x1536 w shapeCasts_S1x1024x1536_S1024x1536)

theorem dz_apply (p : Fin 8192) (q : Fin 1024) : dz w dp (ix2 p q) = ∑ k : Fin 1536, dp (ix2 p k) * w (ix3 0 q k) := by
  pointwise [dz]

/-- The cotangent of the normed row before the scale. -/
def dg : FVec Ideal S8192x1024 .f32 := mulf (dz w dp) (broadcastInDim S8192x1024 ![0, 1] bcast_S1x1024_S8192x1024_0_1 (broadcastInDim S1x1024 ![1] bcast_S1024_S1x1024_1 (shapeCast S1024 g shapeCasts_S1x1024_S1024)))

theorem dg_apply (p : Fin 8192) (q : Fin 1024) : dg g w dp (ix2 p q) = dz w dp (ix2 p q) * g (ix2 0 q) := by
  pointwise [dg]

/-- What the row statistic's cotangent adds to each factor of `x * x`. -/
def tt : FVec Ideal S8192x1024 .f32 := broadcastInDim S8192x1024 ![0] bcast_S8192_S8192x1024_0 (Host.reduceAdd (Host.divf (mulf (shapeCast S8192x1 (Host.reduceAdd (mulf x (dg g w dp)) (constant S_ .f32 0x00000000#32) reducesTo_S8192x1024_S8192_d1 h_S_) shapeCasts_S8192_S8192x1) (mulf (broadcastInDim S8192x1 ![] bcast_S_S8192x1 (constant S_ .f32 0xBF000000#32)) (Host.divf (rs x) (ms x)))) (broadcastInDim S8192x1 ![] bcast_S_S8192x1 (constant S_ .f32 0x44800000#32))) (constant S_ .f32 0x00000000#32) reducesTo_S8192x1_S8192_d1 h_S_)

theorem tt_apply (p : Fin 8192) (q : Fin 1024) : tt x g w dp (ix2 p q) =
    Ideal.div ((∑ k : Fin 1024, x (ix2 p k) * dg g w dp (ix2 p k)) * (Ideal.ofBits .f32 0xBF000000#32 * Ideal.div (rs x (ix2 p 0)) (ms x (ix2 p 0)))) (Ideal.ofBits .f32 0x44800000#32) := by
  pointwise [tt]
  exact Fin.sum_univ_one _

/-- The gradient of the input. -/
def dx : FVec Ideal S8192x1024 .f32 := addf (addf (addf dh1 (mulf (dg g w dp) (broadcastInDim S8192x1024 ![0, 1] bcast_S8192x1_S8192x1024_0_1 (rs x)))) (mulf x (tt x g w dp))) (mulf (tt x g w dp) x)

theorem dx_apply (p : Fin 8192) (q : Fin 1024) : dx x dh1 g w dp (ix2 p q) =
    dh1 (ix2 p q) + dg g w dp (ix2 p q) * rs x (ix2 p 0) + x (ix2 p q) * tt x g w dp (ix2 p q) + tt x g w dp (ix2 p q) * x (ix2 p q) := by
  pointwise [dx]

/-- The gradient of the norm's scale, above seven rows of zeros. -/
def vec : FVec Ideal S8x1024 .f32 := concatenate S8x1024 0 [⟨S1x1024, (broadcastInDim S1x1024 ![1] bcast_S1024_S1x1024_1 (Host.reduceAdd (shapeCast S1x1024 (Host.reduceAdd (mulf (mulf x (broadcastInDim S8192x1024 ![0, 1] bcast_S8192x1_S8192x1024_0_1 (rs x))) (dz w dp)) (constant S_ .f32 0x00000000#32) reducesTo_S8192x1024_S1024_d0 h_S_) shapeCasts_S1024_S1x1024) (constant S_ .f32 0x00000000#32) reducesTo_S1x1024_S1024_d0 h_S_))⟩, ⟨S7x1024, (broadcastInDim S7x1024 ![] bcast_S_S7x1024 (constant S_ .f32 0x00000000#32))⟩] concatenates_S1x1024_S7x1024_S8x1024_d0

theorem vec_apply (p : Fin 8) (q : Fin 1024) : vec x w dp (ix2 p q) =
    if p.val = 0 then ∑ k : Fin 8192, x (ix2 k q) * rs x (ix2 k 0) * dz w dp (ix2 k q) else 0 := by
  pointwise [vec]
  simp only [Fin.sum_univ_one, Nat.lt_one_iff, dite_eq_ite]

variable (m : (ℓ : Loc nD τ sig) → Buf (Elt Ideal) ℓ) (ρ : Dev nD → PrngReg)

/-- The reference's run with its results so named. -/
theorem run : θ_run defs (onTc (τ := τ) (main (F := Ideal))) ⟨m, fun _ => 0, ρ⟩ fun r => ∀ c : Dev nD,
      r.2.mem ((c.tc : Thread nD τ).loc main_v41) = dx (m ((c.tc : Thread nD τ).loc main_arg0)) (m ((c.tc : Thread nD τ).loc main_arg3)) (m ((c.tc : Thread nD τ).loc main_arg1)) (m ((c.tc : Thread nD τ).loc main_arg2)) (m ((c.tc : Thread nD τ).loc main_arg4))
      ∧ r.2.mem ((c.tc : Thread nD τ).loc main_v44) = vec (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1, (h c).2.1, (h c).2.2⟩) (Value.run m ρ)

end Cert.InRefIdeal.Read

end
-- ==== Proof.InClaim.lean ====
/-
  The input-projection backward call and its reference end with equal results wherever the residual stream, the scale,
  the weights and the incoming gradient of the projection are finite.
-/
module

public import proofs.«01_k».proof.Defs
public import proofs.«01_k».proof.Proof.InFold
public import proofs.«01_k».proof.Proof.InRead
public import proofs.«01_k».proof.Proof.RmsGrad
public import proofs.«01_k».proof.Proof.Finite
public import proofs.«01_k».proof.Proof.Gen.Pre_in_finite
public import proofs.«01_k».proof.Proof.Gen.InBwd.Frame
public import Idealize.ShloMosaic.Lib.Quiescent

@[expose] public section

set_option maxRecDepth 16384

noncomputable section

namespace Cert.InClaim

open Cert.InBwdIdeal Cert.InBwdIdeal.Gen Cert.InBwdIdeal.Fold Cert.InBwdIdeal.Blocks Idealize.ShloMosaic Idealize.ShloMosaic.TcCoe Idealize.SL.Sem

variable (m : (ℓ : Loc nD τ sig) → Buf (Elt Ideal) ℓ) (c : Dev nD)

/-- The input's gradient, as the kernel's result array. -/
def kdx : Vec Ideal S8192x1024 .f32 := fun i => gx m c (i 0) (i 1)

theorem final_dx : (dats m 0 c).arrAt 5 cfg0.N = kdx m c := by
  rw [Value.final5]
  funext i
  have hi0 : (i 0).val < 8192 := (i 0).isLt
  have hi1 : (i 1).val < 1024 := (i 1).isLt
  have hp : Value.pt5Of i = (i 0).val / 512 := by
    show 1 * ((i 0).val / 512 - 0) + 1 * ((i 1).val / 1024 - 0) = _
    omega
  have hlt : Value.pt5Of i < cfg0.N := by rw [hp, show cfg0.N = 16 from N_0]; omega
  unfold Value.G5
  rw [dif_pos hlt, ← Value.outsAt0_sweep m c _ hlt]
  rw [Points.out_dx m c ⟨Value.pt5Of i, hlt⟩]
  have hl : Value.loc5Of i = ix2 (⟨(i 0).val % 512, Nat.mod_lt _ (by decide)⟩ : Fin 512) (⟨(i 1).val, hi1⟩ : Fin 1024) := by
    funext a; apply Fin.ext
    match a with
    | ⟨0, _⟩ => rfl
    | ⟨1, _⟩ => show (i 1).val % 1024 = (i 1).val; omega
  rw [hl]
  refine (pay6_blk m c _ _ _).trans (congrArg₂ (gx m c) (Fin.ext ?_) rfl)
  show Value.pt5Of i * 512 + (i 0).val % 512 = (i 0).val
  rw [hp]
  omega

theorem final_vec : (dats m 0 c).arrAt 6 cfg0.N = accOf m c 15 := by
  rw [Value.final6, Value.G6_last, ← Value.outsAt0_sweep m c 15 (lt_of_lt_of_eq (by decide) N_0.symm)]
  exact vec_eq m c _

/-- The sixteen blocks' parts of the scale's gradient are the sum over all rows. -/
theorem parts (q : Fin 1024) : ∑ s ∈ Finset.range 16, part m c s q = ∑ k : Fin 8192, ax m c (ix2 k q) * rs m c k * dz m c k q := by
  rw [Fin.sum_univ_tiles 16 512 rfl, Finset.sum_range]
  refine Finset.sum_congr rfl fun j _ => ?_
  unfold part
  rw [dif_pos j.isLt]
  exact Finset.sum_congr rfl fun k _ => mul_comm _ _

section
variable (m' : (ℓ : Loc Cert.InRefIdeal.nD Cert.InRefIdeal.τ Cert.InRefIdeal.sig) → Buf (Elt Ideal) ℓ)

/-- The scale's gradient: both sides sum the same products. -/
theorem vec_agree : accOf m c 15 = Cert.InRefIdeal.Read.vec (ax m c) (aw m c) (ap m c) := by
  funext i
  obtain ⟨p, q, rfl⟩ : ∃ (p : Fin 8) (q : Fin 1024), i = ix2 p q := ⟨i 0, i 1, by funext a; match a with | ⟨0, _⟩ => rfl | ⟨1, _⟩ => rfl⟩
  refine Eq.trans ?_ (Cert.InRefIdeal.Read.vec_apply _ _ _ p q).symm
  unfold accOf
  show (if p.val = 0 then ∑ s ∈ Finset.range 16, part m c s q else 0) = _
  rw [parts]
  congr 1
  exact Finset.sum_congr rfl fun k _ => by rw [Cert.InRefIdeal.Read.rs_apply, Cert.InRefIdeal.Read.ms_apply, Cert.InRefIdeal.Read.dz_apply]; rfl

/-- The input's gradient: the two forms of the norm's gradient agree on finite rows. -/
theorem dx_agree (h : Cert.Pre_in_finite.fn (F := Ideal) (ax m c) (ag m c) (aw m c) (ah m c) (ap m c) = fun _ => 1#1) :
    kdx m c = Cert.InRefIdeal.Read.dx (ax m c) (ah m c) (ag m c) (aw m c) (ap m c) := by
  have h0 := congrFun h ix0
  obtain ⟨h1, hp⟩ := Finite.and_left h0
  obtain ⟨h2, hw⟩ := Finite.and_left h1
  obtain ⟨hx, hg⟩ := Finite.and_left h2
  obtain ⟨X, hX⟩ := Finite.real_of_all _ _ (fun _ => Finite.bits_inf_f32) _ _ _ _ hx
  obtain ⟨G, hG⟩ := Finite.real_of_all _ _ (fun _ => Finite.bits_inf_f32) _ _ _ _ hg
  obtain ⟨W, hW⟩ := Finite.real_of_all _ _ (fun _ => Finite.bits_inf_f32) _ _ _ _ hw
  obtain ⟨P, hP⟩ := Finite.real_of_all _ _ (fun _ => Finite.bits_inf_bf16) _ _ _ _ hp
  obtain ⟨e, he, hE⟩ := RmsGrad.bits_eps
  funext i
  obtain ⟨p, q, rfl⟩ : ∃ (p : Fin 8192) (q : Fin 1024), i = ix2 p q := ⟨i 0, i 1, by funext a; match a with | ⟨0, _⟩ => rfl | ⟨1, _⟩ => rfl⟩
  have hD : ∀ k : Fin 1024, dz m c p k * ag m c (ix2 0 k) = (((∑ l : Fin 1536, P (ix2 p l) * W (ix3 0 k l)) * G (ix2 0 k) : ℝ) : EReal) := fun k => by
    unfold dz
    rw [show ap m c = _ from hP, show aw m c = _ from hW, show ag m c = _ from hG]
    simp only [← EReal.coe_mul, RmsGrad.coe_sum]
  have hx' : ∀ k : Fin 1024, ax m c (ix2 p k) = ((X (ix2 p k) : ℝ) : EReal) := fun k => congrFun hX _
  have hS : Cert.InRefIdeal.Read.ms (ax m c) (ix2 p 0) = Ideal.div (∑ k : Fin 1024, ((X (ix2 p k) : ℝ) : EReal) * ((X (ix2 p k) : ℝ) : EReal)) ((1024 : ℝ) : EReal) + (e : EReal) := by
    rw [Cert.InRefIdeal.Read.ms_apply, RmsGrad.bits_1024, hE]
    simp only [hx']
  have hR : rs m c p = Ideal.rsqrt (Cert.InRefIdeal.Read.ms (ax m c) (ix2 p 0)) := by
    rw [Cert.InRefIdeal.Read.ms_apply]; rfl
  have hdg : ∀ k : Fin 1024, Cert.InRefIdeal.Read.dg (ag m c) (aw m c) (ap m c) (ix2 p k) = (((∑ l : Fin 1536, P (ix2 p l) * W (ix3 0 k l)) * G (ix2 0 k) : ℝ) : EReal) := fun k => by
    rw [Cert.InRefIdeal.Read.dg_apply, Cert.InRefIdeal.Read.dz_apply]
    exact hD k
  have hT : Cert.InRefIdeal.Read.tt (ax m c) (ag m c) (aw m c) (ap m c) (ix2 p q) =
      Ideal.div ((∑ k : Fin 1024, ((X (ix2 p k) : ℝ) : EReal) * (((∑ l : Fin 1536, P (ix2 p l) * W (ix3 0 k l)) * G (ix2 0 k) : ℝ) : EReal)) * (((-(1 / 2) : ℝ) : EReal) * Ideal.div (rs m c p) (Cert.InRefIdeal.Read.ms (ax m c) (ix2 p 0)))) ((1024 : ℝ) : EReal) := by
    rw [Cert.InRefIdeal.Read.tt_apply, RmsGrad.bits_1024, RmsGrad.bits_neg_half, Cert.InRefIdeal.Read.rs_apply, ← hR]
    simp only [hx', hdg]
  have key := RmsGrad.ereal_eq 1024 e (fun k => X (ix2 p k)) (fun k => (∑ l : Fin 1536, P (ix2 p l) * W (ix3 0 k l)) * G (ix2 0 k)) (by norm_num) he q (ah m c (ix2 p q)) _ _ _ hS hR hT
  refine Eq.trans ?_ (key.trans ?_)
  · show gx m c p q = _
    unfold gx
    simp only [hD, hx', RmsGrad.bits_1024]
  · rw [Cert.InRefIdeal.Read.dx_apply, hdg, hx', Cert.InRefIdeal.Read.rs_apply, ← hR]

end

theorem frame_kernel : Cert.quiescent_InBwd := fun m ρ _ => Cert.InBwd.Gen.frame m ρ
theorem frame_ideal : Cert.quiescent_InBwdIdeal := fun m ρ _ => Cert.InBwdIdeal.Gen.frame m ρ
theorem frame_ideal_pre : Cert.quiescent_InBwdIdeal_pre_in_finite := fun m ρ _ => Cert.InBwdIdeal.Gen.frame m ρ
theorem frame_ref : Cert.quiescent_InRefIdeal := fun m ρ _ =>
  (θ_run Cert.InRefIdeal.defs _ _).mono (fun r h => ⟨fun c => (h c).2.2, sem_eq_zero_of_no_sems (by decide) r.2⟩) (Cert.InRefIdeal.Value.run (F := Ideal) m ρ)
theorem frame_ref_pre : Cert.quiescent_InRefIdeal_pre_in_finite := fun m ρ _ => frame_ref m ρ trivial
theorem preserves : Cert.preserves_InBwd_InBwdIdeal := trivial

theorem algebraic : Cert.algebraic_InBwdIdeal_InRefIdeal_pre_in_finite := by
  intro m ρ m' ρ' hpre hagree
  refine ⟨fun c => kdx m c, fun c => accOf m c 15, ?_, ?_⟩
  · exact (θ_run Cert.InBwdIdeal.defs _ _).mono
      (fun r h c => ⟨(h c).1.trans (final_dx m c), (h c).2.1.trans (final_vec m c), (h c).2.2⟩) (Cert.InBwdIdeal.Value.run_blocks m ρ)
  · refine (θ_run Cert.InRefIdeal.defs _ _).mono (fun r h c => ?_) (Cert.InRefIdeal.Read.run m' ρ')
    obtain ⟨e0, e1, e2, e3, e4⟩ := hagree c
    refine ⟨(h c).1.trans ?_, (h c).2.1.trans ?_, (h c).2.2⟩
    · rw [e0, e1, e2, e3, e4]; exact (dx_agree m c (hpre c)).symm
    · rw [e0, e2, e4]; exact (vec_agree m c).symm

end Cert.InClaim

end
-- ==== Proof.lean ====
module

public import proofs.«01_k».proof.Proof.Gen.MlpAIdeal.Value
public import proofs.«01_k».proof.Proof.Gen.MlpF.Frame
public import proofs.«01_k».proof.Proof.Gen.MlpFIdeal.Value
public import proofs.«01_k».proof.Proof.Gen.MlpFRefIdeal.Run
public import proofs.«01_k».proof.Proof.Gen.MlpBIdeal.Value
public import proofs.«01_k».proof.Proof.Gen.PleIdeal.Value
public import proofs.«01_k».proof.Proof.Gen.MlpA.Frame
public import proofs.«01_k».proof.Proof.Gen.MlpB.Frame
public import proofs.«01_k».proof.Proof.Gen.Ple.Frame
public import proofs.«01_k».proof.Proof.Gen.MlpARefIdeal.Run
public import proofs.«01_k».proof.Proof.Gen.MlpBRefIdeal.Run
public import proofs.«01_k».proof.Proof.Gen.PleRefIdeal.Run
public import proofs.«01_k».proof.Proof.Gen.Pre_mlp1_finite
public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InRefIdeal
public import proofs.«01_k».proof.Proof.Gen.InRefIdeal.Run
public import proofs.«01_k».proof.Proof.Gen.InBwdIdeal.Value
public import proofs.«01_k».proof.Proof.Gen.Pre_in_finite
public import proofs.«01_k».proof.Proof.MixClaim
public import proofs.«01_k».proof.Proof.MlpAClaim
public import proofs.«01_k».proof.Proof.MlpBClaim
public import proofs.«01_k».proof.Proof.PleClaim
public import proofs.«01_k».proof.Proof.MlpFClaim
public import proofs.«01_k».proof.Proof.InClaim
public import Idealize.ShloMosaic.Adequacy
public import Idealize.ShloMosaic.Init

@[expose] public section

noncomputable section

-- The claims also say that every semaphore counter ends at zero; the frames show that too.

namespace Cert.Proof

open Idealize.ShloMosaic Idealize.SL.Sem Cert.InBwd

theorem claim : Cert.Claim := ⟨Cert.InBwd.Gen.facts, Cert.InBwdIdeal.Gen.facts, Cert.InRefIdeal.Gen.facts, Cert.MixBwd.Gen.facts, Cert.MixBwdIdeal.Gen.facts, Cert.MixRefIdeal.Gen.facts, Cert.MlpA.Gen.facts, Cert.MlpAIdeal.Gen.facts, Cert.MlpARefIdeal.Gen.facts, Cert.MlpB.Gen.facts, Cert.MlpBIdeal.Gen.facts, Cert.MlpBRefIdeal.Gen.facts, Cert.Ple.Gen.facts, Cert.PleIdeal.Gen.facts, Cert.PleRefIdeal.Gen.facts, Cert.MlpF.Gen.facts, Cert.MlpFIdeal.Gen.facts, Cert.MlpFRefIdeal.Gen.facts, Cert.Pre_in_finite.Gen.facts, Cert.Pre_mlp1_finite.Gen.facts, Cert.Pre_ple_finite.Gen.facts,
  InClaim.frame_kernel,
  InClaim.frame_ideal,
  InClaim.frame_ideal_pre,
  InClaim.frame_ref,
  InClaim.frame_ref_pre,
  MixClaim.frame_kernel,
  MixClaim.frame_ideal,
  MixClaim.frame_ref,
  MlpAClaim.frame_kernel,
  MlpAClaim.frame_ideal,
  MlpAClaim.frame_ref,
  MlpBClaim.frame_kernel,
  MlpBClaim.frame_ideal,
  MlpBClaim.frame_ideal_pre,
  MlpBClaim.frame_ref,
  MlpBClaim.frame_ref_pre,
  PleClaim.frame_kernel,
  PleClaim.frame_ideal,
  PleClaim.frame_ideal_pre,
  PleClaim.frame_ref,
  PleClaim.frame_ref_pre,
  MlpFClaim.frame_kernel,
  MlpFClaim.frame_ideal,
  MlpFClaim.frame_ref,
  InClaim.preserves,
  InClaim.algebraic,
  MixClaim.preserves,
  MixClaim.algebraic,
  MlpAClaim.preserves,
  MlpAClaim.algebraic,
  MlpBClaim.preserves,
  MlpBClaim.algebraic,
  PleClaim.preserves,
  PleClaim.algebraic,
  MlpFClaim.preserves,
  MlpFClaim.algebraic⟩

end Cert.Proof

end
